-- ==== Defs.lean ====
def Pre_Words (m : (ℓ : Loc Cert.Words.nD Cert.Words.τ Cert.Words.sig) → Buf (Elt Bits) ℓ) : Prop :=
  True

def Pre_WordsIdeal (m : (ℓ : Loc Cert.WordsIdeal.nD Cert.WordsIdeal.τ Cert.WordsIdeal.sig) → Buf (Elt Ideal) ℓ) : Prop :=
  True

def Pre_WordsReferenceIdeal (m : (ℓ : Loc Cert.WordsReferenceIdeal.nD Cert.WordsReferenceIdeal.τ Cert.WordsReferenceIdeal.sig) → Buf (Elt Ideal) ℓ) : Prop :=
  True

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeIdeal_small [hPre_small : Cert.Pre_small.Facts] (m : (ℓ : Loc Cert.DecodeIdeal.nD Cert.DecodeIdeal.τ Cert.DecodeIdeal.sig) → Buf (Elt Ideal) ℓ) : Prop :=
  ∀ c : Dev Cert.DecodeIdeal.nD,
    (Cert.Pre_small.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1)) (m ((c.tc : Thread Cert.DecodeIdeal.nD Cert.DecodeIdeal.τ).loc Cert.DecodeIdeal.main_arg2)) (m ((c.tc : Thread Cert.DecodeIdeal.nD Cert.DecodeIdeal.τ).loc Cert.DecodeIdeal.main_arg3))) = (fun _ => 1#1)

def Pre_DecodeReferenceIdeal (m : (ℓ : Loc Cert.DecodeReferenceIdeal.nD Cert.DecodeReferenceIdeal.τ Cert.DecodeReferenceIdeal.sig) → Buf (Elt Ideal) ℓ) : Prop :=
  True

def Pre_DecodeReferenceIdeal_small [hPre_small : Cert.Pre_small.Facts] (m : (ℓ : Loc Cert.DecodeReferenceIdeal.nD Cert.DecodeReferenceIdeal.τ Cert.DecodeReferenceIdeal.sig) → Buf (Elt Ideal) ℓ) : Prop :=
  ∀ c : Dev Cert.DecodeReferenceIdeal.nD,
    (Cert.Pre_small.fn (F := Ideal) (m ((c.tc : Thread Cert.DecodeReferenceIdeal.nD Cert.DecodeReferenceIdeal.τ).loc Cert.DecodeReferenceIdeal.main_arg0)) (m ((c.tc : Thread Cert.DecodeReferenceIdeal.nD Cert.DecodeReferenceIdeal.τ).loc Cert.DecodeReferenceIdeal.main_arg1)) (m ((c.tc : Thread Cert.DecodeReferenceIdeal.nD Cert.DecodeReferenceIdeal.τ).loc Cert.DecodeReferenceIdeal.main_arg2)) (m ((c.tc : Thread Cert.DecodeReferenceIdeal.nD Cert.DecodeReferenceIdeal.τ).loc Cert.DecodeReferenceIdeal.main_arg3))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Words [hWords : Cert.Words.Facts] : Prop :=
  ∀ (m : (ℓ : Loc Cert.Words.nD Cert.Words.τ Cert.Words.sig) → Buf (Elt Bits) ℓ) (g : Dev Cert.Words.nD → PrngReg), Pre_Words m →
    θ_run (Cert.Words.defs (F := Bits)) (onTc (τ := Cert.Words.τ) (Cert.Words.main (F := Bits))) ⟨m, fun _ => 0, g⟩ (fun r => (∀ c : Dev Cert.Words.nD,
      r.2.mem ((c.tc : Thread Cert.Words.nD Cert.Words.τ).loc Cert.Words.main_arg0) = m ((c.tc : Thread Cert.Words.nD Cert.Words.τ).loc Cert.Words.main_arg0))
      ∧ r.2.sem = fun _ => 0)

def quiescent_WordsIdeal [hWordsIdeal : Cert.WordsIdeal.Facts] : Prop :=
  ∀ (m : (ℓ : Loc Cert.WordsIdeal.nD Cert.WordsIdeal.τ Cert.WordsIdeal.sig) → Buf (Elt Ideal) ℓ) (g : Dev Cert.WordsIdeal.nD → PrngReg), Pre_WordsIdeal m →
    θ_run (Cert.WordsIdeal.defs (F := Ideal)) (onTc (τ := Cert.WordsIdeal.τ) (Cert.WordsIdeal.main (F := Ideal))) ⟨m, fun _ => 0, g⟩ (fun r => (∀ c : Dev Cert.WordsIdeal.nD,
      r.2.mem ((c.tc : Thread Cert.WordsIdeal.nD Cert.WordsIdeal.τ).loc Cert.WordsIdeal.main_arg0) = m ((c.tc : Thread Cert.WordsIdeal.nD Cert.WordsIdeal.τ).loc Cert.WordsIdeal.main_arg0))
      ∧ r.2.sem = fun _ => 0)

def quiescent_WordsReferenceIdeal [hWordsReferenceIdeal : Cert.WordsReferenceIdeal.Facts] : Prop :=
  ∀ (m : (ℓ : Loc Cert.WordsReferenceIdeal.nD Cert.WordsReferenceIdeal.τ Cert.WordsReferenceIdeal.sig) → Buf (Elt Ideal) ℓ) (g : Dev Cert.WordsReferenceIdeal.nD → PrngReg), Pre_WordsReferenceIdeal m →
    θ_run (Cert.WordsReferenceIdeal.defs (F := Ideal)) (onTc (τ := Cert.WordsReferenceIdeal.τ) (Cert.WordsReferenceIdeal.main (F := Ideal))) ⟨m, fun _ => 0, g⟩ (fun r => (∀ c : Dev Cert.WordsReferenceIdeal.nD,
      r.2.mem ((c.tc : Thread Cert.WordsReferenceIdeal.nD Cert.WordsReferenceIdeal.τ).loc Cert.WordsReferenceIdeal.main_arg0) = m ((c.tc : Thread Cert.WordsReferenceIdeal.nD Cert.WordsReferenceIdeal.τ).loc Cert.WordsReferenceIdeal.main_arg0))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ r.2.sem = fun _ => 0)

def quiescent_DecodeIdeal_pre_small [hDecodeIdeal : Cert.DecodeIdeal.Facts] [hPre_small : Cert.Pre_small.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal_small m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ r.2.sem = fun _ => 0)

def quiescent_DecodeReferenceIdeal [hDecodeReferenceIdeal : Cert.DecodeReferenceIdeal.Facts] : Prop :=
  ∀ (m : (ℓ : Loc Cert.DecodeReferenceIdeal.nD Cert.DecodeReferenceIdeal.τ Cert.DecodeReferenceIdeal.sig) → Buf (Elt Ideal) ℓ) (g : Dev Cert.DecodeReferenceIdeal.nD → PrngReg), Pre_DecodeReferenceIdeal m →
    θ_run (Cert.DecodeReferenceIdeal.defs (F := Ideal)) (onTc (τ := Cert.DecodeReferenceIdeal.τ) (Cert.DecodeReferenceIdeal.main (F := Ideal))) ⟨m, fun _ => 0, g⟩ (fun r => (∀ c : Dev Cert.DecodeReferenceIdeal.nD,
      r.2.mem ((c.tc : Thread Cert.DecodeReferenceIdeal.nD Cert.DecodeReferenceIdeal.τ).loc Cert.DecodeReferenceIdeal.main_arg0) = m ((c.tc : Thread Cert.DecodeReferenceIdeal.nD Cert.DecodeReferenceIdeal.τ).loc Cert.DecodeReferenceIdeal.main_arg0)
      ∧ r.2.mem ((c.tc : Thread Cert.DecodeReferenceIdeal.nD Cert.DecodeReferenceIdeal.τ).loc Cert.DecodeReferenceIdeal.main_arg1) = m ((c.tc : Thread Cert.DecodeReferenceIdeal.nD Cert.DecodeReferenceIdeal.τ).loc Cert.DecodeReferenceIdeal.main_arg1)
      ∧ r.2.mem ((c.tc : Thread Cert.DecodeReferenceIdeal.nD Cert.DecodeReferenceIdeal.τ).loc Cert.DecodeReferenceIdeal.main_arg2) = m ((c.tc : Thread Cert.DecodeReferenceIdeal.nD Cert.DecodeReferenceIdeal.τ).loc Cert.DecodeReferenceIdeal.main_arg2)
      ∧ r.2.mem ((c.tc : Thread Cert.DecodeReferenceIdeal.nD Cert.DecodeReferenceIdeal.τ).loc Cert.DecodeReferenceIdeal.main_arg3) = m ((c.tc : Thread Cert.DecodeReferenceIdeal.nD Cert.DecodeReferenceIdeal.τ).loc Cert.DecodeReferenceIdeal.main_arg3))
      ∧ r.2.sem = fun _ => 0)

def quiescent_DecodeReferenceIdeal_pre_small [hDecodeReferenceIdeal : Cert.DecodeReferenceIdeal.Facts] [hPre_small : Cert.Pre_small.Facts] : Prop :=
  ∀ (m : (ℓ : Loc Cert.DecodeReferenceIdeal.nD Cert.DecodeReferenceIdeal.τ Cert.DecodeReferenceIdeal.sig) → Buf (Elt Ideal) ℓ) (g : Dev Cert.DecodeReferenceIdeal.nD → PrngReg), Pre_DecodeReferenceIdeal_small m →
    θ_run (Cert.DecodeReferenceIdeal.defs (F := Ideal)) (onTc (τ := Cert.DecodeReferenceIdeal.τ) (Cert.DecodeReferenceIdeal.main (F := Ideal))) ⟨m, fun _ => 0, g⟩ (fun r => (∀ c : Dev Cert.DecodeReferenceIdeal.nD,
      r.2.mem ((c.tc : Thread Cert.DecodeReferenceIdeal.nD Cert.DecodeReferenceIdeal.τ).loc Cert.DecodeReferenceIdeal.main_arg0) = m ((c.tc : Thread Cert.DecodeReferenceIdeal.nD Cert.DecodeReferenceIdeal.τ).loc Cert.DecodeReferenceIdeal.main_arg0)
      ∧ r.2.mem ((c.tc : Thread Cert.DecodeReferenceIdeal.nD Cert.DecodeReferenceIdeal.τ).loc Cert.DecodeReferenceIdeal.main_arg1) = m ((c.tc : Thread Cert.DecodeReferenceIdeal.nD Cert.DecodeReferenceIdeal.τ).loc Cert.DecodeReferenceIdeal.main_arg1)
      ∧ r.2.mem ((c.tc : Thread Cert.DecodeReferenceIdeal.nD Cert.DecodeReferenceIdeal.τ).loc Cert.DecodeReferenceIdeal.main_arg2) = m ((c.tc : Thread Cert.DecodeReferenceIdeal.nD Cert.DecodeReferenceIdeal.τ).loc Cert.DecodeReferenceIdeal.main_arg2)
      ∧ r.2.mem ((c.tc : Thread Cert.DecodeReferenceIdeal.nD Cert.DecodeReferenceIdeal.τ).loc Cert.DecodeReferenceIdeal.main_arg3) = m ((c.tc : Thread Cert.DecodeReferenceIdeal.nD Cert.DecodeReferenceIdeal.τ).loc Cert.DecodeReferenceIdeal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Words_WordsIdeal : Prop :=
  True

def algebraic_WordsIdeal_WordsReferenceIdeal [hWordsIdeal : Cert.WordsIdeal.Facts] [hWordsReferenceIdeal : Cert.WordsReferenceIdeal.Facts] : Prop :=
  ∀ (m : (ℓ : Loc Cert.WordsIdeal.nD Cert.WordsIdeal.τ Cert.WordsIdeal.sig) → Buf (Elt Ideal) ℓ) (g : Dev Cert.WordsIdeal.nD → PrngReg)
    (m' : (ℓ : Loc Cert.WordsReferenceIdeal.nD Cert.WordsReferenceIdeal.τ Cert.WordsReferenceIdeal.sig) → Buf (Elt Ideal) ℓ) (g' : Dev Cert.WordsReferenceIdeal.nD → PrngReg), Pre_WordsIdeal m →
    (∀ c : Dev Cert.WordsIdeal.nD,
      m' ((c.tc : Thread Cert.WordsReferenceIdeal.nD Cert.WordsReferenceIdeal.τ).loc Cert.WordsReferenceIdeal.main_arg0) = m ((c.tc : Thread Cert.WordsIdeal.nD Cert.WordsIdeal.τ).loc Cert.WordsIdeal.main_arg0)) →
    ∃ (v0 : (c : Dev Cert.WordsIdeal.nD) → Buf (Elt Ideal) ((c.tc : Thread Cert.WordsIdeal.nD Cert.WordsIdeal.τ).loc Cert.WordsIdeal.main_v1)),
      θ_run (Cert.WordsIdeal.defs (F := Ideal)) (onTc (τ := Cert.WordsIdeal.τ) (Cert.WordsIdeal.main (F := Ideal))) ⟨m, fun _ => 0, g⟩ (fun r => ∀ c : Dev Cert.WordsIdeal.nD,
          r.2.mem ((c.tc : Thread Cert.WordsIdeal.nD Cert.WordsIdeal.τ).loc Cert.WordsIdeal.main_v1) = v0 c
          ∧ r.2.mem ((c.tc : Thread Cert.WordsIdeal.nD Cert.WordsIdeal.τ).loc Cert.WordsIdeal.main_arg0) = m ((c.tc : Thread Cert.WordsIdeal.nD Cert.WordsIdeal.τ).loc Cert.WordsIdeal.main_arg0))
      ∧ θ_run (Cert.WordsReferenceIdeal.defs (F := Ideal)) (onTc (τ := Cert.WordsReferenceIdeal.τ) (Cert.WordsReferenceIdeal.main (F := Ideal))) ⟨m', fun _ => 0, g'⟩ (fun r => ∀ c : Dev Cert.WordsReferenceIdeal.nD,
          r.2.mem ((c.tc : Thread Cert.WordsReferenceIdeal.nD Cert.WordsReferenceIdeal.τ).loc Cert.WordsReferenceIdeal.main_v16) = v0 c
          ∧ r.2.mem ((c.tc : Thread Cert.WordsReferenceIdeal.nD Cert.WordsReferenceIdeal.τ).loc Cert.WordsReferenceIdeal.main_arg0) = m' ((c.tc : Thread Cert.WordsReferenceIdeal.nD Cert.WordsReferenceIdeal.τ).loc Cert.WordsReferenceIdeal.main_arg0))

def preserves_Decode_DecodeIdeal : Prop :=
  IdealRules.bf16_pack.Statement Cert.DecodeIdeal.S256x256

def algebraic_DecodeIdeal_DecodeReferenceIdeal_pre_small [hDecodeIdeal : Cert.DecodeIdeal.Facts] [hDecodeReferenceIdeal : Cert.DecodeReferenceIdeal.Facts] [hPre_small : Cert.Pre_small.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeReferenceIdeal.nD Cert.DecodeReferenceIdeal.τ Cert.DecodeReferenceIdeal.sig) → Buf (Elt Ideal) ℓ) (g' : Dev Cert.DecodeReferenceIdeal.nD → PrngReg), Pre_DecodeIdeal_small m →
    (∀ c : Dev Cert.DecodeIdeal.nD,
      m' ((c.tc : Thread Cert.DecodeReferenceIdeal.nD Cert.DecodeReferenceIdeal.τ).loc Cert.DecodeReferenceIdeal.main_arg0) = m ((c.tc : Thread Cert.DecodeIdeal.nD Cert.DecodeIdeal.τ).loc Cert.DecodeIdeal.main_arg0)
      ∧ m' ((c.tc : Thread Cert.DecodeReferenceIdeal.nD Cert.DecodeReferenceIdeal.τ).loc Cert.DecodeReferenceIdeal.main_arg1) = m ((c.tc : Thread Cert.DecodeIdeal.nD Cert.DecodeIdeal.τ).loc Cert.DecodeIdeal.main_arg1)
      ∧ m' ((c.tc : Thread Cert.DecodeReferenceIdeal.nD Cert.DecodeReferenceIdeal.τ).loc Cert.DecodeReferenceIdeal.main_arg2) = m ((c.tc : Thread Cert.DecodeIdeal.nD Cert.DecodeIdeal.τ).loc Cert.DecodeIdeal.main_arg2)
      ∧ m' ((c.tc : Thread Cert.DecodeReferenceIdeal.nD Cert.DecodeReferenceIdeal.τ).loc Cert.DecodeReferenceIdeal.main_arg3) = m ((c.tc : Thread Cert.DecodeIdeal.nD Cert.DecodeIdeal.τ).loc Cert.DecodeIdeal.main_arg3)) →
    ∃ (v0 : (c : Dev Cert.DecodeIdeal.nD) → Buf (Elt Ideal) ((c.tc : Thread Cert.DecodeIdeal.nD Cert.DecodeIdeal.τ).loc Cert.DecodeIdeal.main_v15_0)) (v1 : (c : Dev Cert.DecodeIdeal.nD) → Buf (Elt Ideal) ((c.tc : Thread Cert.DecodeIdeal.nD Cert.DecodeIdeal.τ).loc Cert.DecodeIdeal.main_v15_1)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v15_0) = v0 c
          ∧ r.2.mem ((c.tc : Thread Cert.DecodeIdeal.nD Cert.DecodeIdeal.τ).loc Cert.DecodeIdeal.main_v15_1) = v1 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ θ_run (Cert.DecodeReferenceIdeal.defs (F := Ideal)) (onTc (τ := Cert.DecodeReferenceIdeal.τ) (Cert.DecodeReferenceIdeal.main (F := Ideal))) ⟨m', fun _ => 0, g'⟩ (fun r => ∀ c : Dev Cert.DecodeReferenceIdeal.nD,
          r.2.mem ((c.tc : Thread Cert.DecodeReferenceIdeal.nD Cert.DecodeReferenceIdeal.τ).loc Cert.DecodeReferenceIdeal.main_v253) = v0 c
          ∧ r.2.mem ((c.tc : Thread Cert.DecodeReferenceIdeal.nD Cert.DecodeReferenceIdeal.τ).loc Cert.DecodeReferenceIdeal.main_v255) = v1 c
          ∧ r.2.mem ((c.tc : Thread Cert.DecodeReferenceIdeal.nD Cert.DecodeReferenceIdeal.τ).loc Cert.DecodeReferenceIdeal.main_arg0) = m' ((c.tc : Thread Cert.DecodeReferenceIdeal.nD Cert.DecodeReferenceIdeal.τ).loc Cert.DecodeReferenceIdeal.main_arg0)
          ∧ r.2.mem ((c.tc : Thread Cert.DecodeReferenceIdeal.nD Cert.DecodeReferenceIdeal.τ).loc Cert.DecodeReferenceIdeal.main_arg1) = m' ((c.tc : Thread Cert.DecodeReferenceIdeal.nD Cert.DecodeReferenceIdeal.τ).loc Cert.DecodeReferenceIdeal.main_arg1)
          ∧ r.2.mem ((c.tc : Thread Cert.DecodeReferenceIdeal.nD Cert.DecodeReferenceIdeal.τ).loc Cert.DecodeReferenceIdeal.main_arg2) = m' ((c.tc : Thread Cert.DecodeReferenceIdeal.nD Cert.DecodeReferenceIdeal.τ).loc Cert.DecodeReferenceIdeal.main_arg2)
          ∧ r.2.mem ((c.tc : Thread Cert.DecodeReferenceIdeal.nD Cert.DecodeReferenceIdeal.τ).loc Cert.DecodeReferenceIdeal.main_arg3) = m' ((c.tc : Thread Cert.DecodeReferenceIdeal.nD Cert.DecodeReferenceIdeal.τ).loc Cert.DecodeReferenceIdeal.main_arg3))

def preserves_Kernel_KernelIdeal : Prop :=
  IdealRules.bf16_pack.Statement Cert.KernelIdeal.S256x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_v250) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hWords : Cert.Words.Facts) (hWordsIdeal : Cert.WordsIdeal.Facts) (hWordsReferenceIdeal : Cert.WordsReferenceIdeal.Facts) (hDecode : Cert.Decode.Facts) (hDecodeIdeal : Cert.DecodeIdeal.Facts) (hDecodeReferenceIdeal : Cert.DecodeReferenceIdeal.Facts) (hKernel : Cert.Kernel.Facts) (hKernelIdeal : Cert.KernelIdeal.Facts) (hReferenceIdeal : Cert.ReferenceIdeal.Facts) (hPre_small : Cert.Pre_small.Facts) (hPre_finite : Cert.Pre_finite.Facts),
    quiescent_Words (hWords := hWords)
    ∧ quiescent_WordsIdeal (hWordsIdeal := hWordsIdeal)
    ∧ quiescent_WordsReferenceIdeal (hWordsReferenceIdeal := hWordsReferenceIdeal)
    ∧ quiescent_Decode (hDecode := hDecode)
    ∧ quiescent_DecodeIdeal (hDecodeIdeal := hDecodeIdeal)
    ∧ quiescent_DecodeIdeal_pre_small (hDecodeIdeal := hDecodeIdeal) (hPre_small := hPre_small)
    ∧ quiescent_DecodeReferenceIdeal (hDecodeReferenceIdeal := hDecodeReferenceIdeal)
    ∧ quiescent_DecodeReferenceIdeal_pre_small (hDecodeReferenceIdeal := hDecodeReferenceIdeal) (hPre_small := hPre_small)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Words_WordsIdeal
    ∧ algebraic_WordsIdeal_WordsReferenceIdeal (hWordsIdeal := hWordsIdeal) (hWordsReferenceIdeal := hWordsReferenceIdeal)
    ∧ preserves_Decode_DecodeIdeal
    ∧ algebraic_DecodeIdeal_DecodeReferenceIdeal_pre_small (hDecodeIdeal := hDecodeIdeal) (hDecodeReferenceIdeal := hDecodeReferenceIdeal) (hPre_small := hPre_small)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x262144 : Shape := ⟨3, ![2, 128, 262144]⟩
abbrev S2x16x64x8x128 : Shape := ⟨5, ![2, 16, 64, 8, 128]⟩
abbrev S_ : Shape := ⟨0, ![]⟩

class Facts : Prop where
  bcast_S_S2x128x262144 : S_.BroadcastsInDim S2x128x262144 (![] : Fin 0 → Fin S2x128x262144.rank)

variable [Facts]

def fn {F : FTy → Type} [FloatOps F] (main_arg0 : FVec F S2x128x262144 .f32) (main_arg1 : IVec S2x16x64x8x128 32) : IVec S2x128x262144 1 :=
  let main_v0 : FVec F S2x128x262144 .f32 := Host.absf main_arg0
  let main_cst : FVec F S_ .f32 := constant S_ .f32 0x7F800000#32
  let main_v1 : FVec F S2x128x262144 .f32 := broadcastInDim S2x128x262144 ![] bcast_S_S2x128x262144 main_cst
  let main_v2 : IVec S2x128x262144 1 := cmpf .olt main_v0 main_v1
  main_v2
-- ==== Pre_small.lean ====
abbrev S2x64x16x8x8x128 : Shape := ⟨6, ![2, 64, 16, 8, 8, 128]⟩
abbrev S2x16x64x8x128 : Shape := ⟨5, ![2, 16, 64, 8, 128]⟩
abbrev S2x8x128 : Shape := ⟨3, ![2, 8, 128]⟩
abbrev S_ : Shape := ⟨0, ![]⟩

class Facts : Prop where
  bcast_S_S2x64x16x8x8x128 : S_.BroadcastsInDim S2x64x16x8x8x128 (![] : Fin 0 → Fin S2x64x16x8x8x128.rank)

variable [Facts]

def fn_part1 {F : FTy → Type} [FloatOps F] (main_arg0 : IVec S2x64x16x8x8x128 32) (main_v10 : IVec S2x64x16x8x8x128 1) (main_v14 : IVec S2x64x16x8x8x128 32) (main_v15 : IVec S2x64x16x8x8x128 32) : IVec S2x64x16x8x8x128 1 :=
  let main_v16 : IVec S2x64x16x8x8x128 1 := cmpi .sle main_v14 main_v15
  let main_v17 : IVec S2x64x16x8x8x128 1 := andi main_v10 main_v16
  let main_c_7 : IVec S_ 32 := constantI S_ 32 24#32
  let main_v18 : IVec S2x64x16x8x8x128 32 := broadcastInDim S2x64x16x8x8x128 ![] bcast_S_S2x64x16x8x8x128 main_c_7
  let main_v19 : IVec S2x64x16x8x8x128 32 := Host.shrui main_arg0 main_v18
  let main_c_8 : IVec S_ 32 := constantI S_ 32 128#32
  let main_v20 : IVec S2x64x16x8x8x128 32 := broadcastInDim S2x64x16x8x8x128 ![] bcast_S_S2x64x16x8x8x128 main_c_8
  let main_v21 : IVec S2x64x16x8x8x128 1 := cmpi .sle main_v19 main_v20
  let main_v22 : IVec S2x64x16x8x8x128 1 := andi main_v17 main_v21
  main_v22

def fn {F : FTy → Type} [FloatOps F] (main_arg0 : IVec S2x64x16x8x8x128 32) (main_arg1 : IVec S2x16x64x8x128 32) (main_arg2 : FVec F S2x8x128 .f32) (main_arg3 : FVec F S2x8x128 .f32) : IVec S2x64x16x8x8x128 1 :=
  let main_c : IVec S_ 32 := constantI S_ 32 255#32
  let main_v0 : IVec S2x64x16x8x8x128 32 := broadcastInDim S2x64x16x8x8x128 ![] bcast_S_S2x64x16x8x8x128 main_c
  let main_v1 : IVec S2x64x16x8x8x128 32 := andi main_arg0 main_v0
  let main_c_0 : IVec S_ 32 := constantI S_ 32 128#32
  let main_v2 : IVec S2x64x16x8x8x128 32 := broadcastInDim S2x64x16x8x8x128 ![] bcast_S_S2x64x16x8x8x128 main_c_0
  let main_v3 : IVec S2x64x16x8x8x128 1 := cmpi .sle main_v1 main_v2
  let main_c_1 : IVec S_ 32 := constantI S_ 32 8#32
  let main_v4 : IVec S2x64x16x8x8x128 32 := broadcastInDim S2x64x16x8x8x128 ![] bcast_S_S2x64x16x8x8x128 main_c_1
  let main_v5 : IVec S2x64x16x8x8x128 32 := Host.shrui main_arg0 main_v4
  let main_c_2 : IVec S_ 32 := constantI S_ 32 255#32
  let main_v6 : IVec S2x64x16x8x8x128 32 := broadcastInDim S2x64x16x8x8x128 ![] bcast_S_S2x64x16x8x8x128 main_c_2
  let main_v7 : IVec S2x64x16x8x8x128 32 := andi main_v5 main_v6
  let main_c_3 : IVec S_ 32 := constantI S_ 32 128#32
  let main_v8 : IVec S2x64x16x8x8x128 32 := broadcastInDim S2x64x16x8x8x128 ![] bcast_S_S2x64x16x8x8x128 main_c_3
  let main_v9 : IVec S2x64x16x8x8x128 1 := cmpi .sle main_v7 main_v8
  let main_v10 : IVec S2x64x16x8x8x128 1 := andi main_v3 main_v9
  let main_c_4 : IVec S_ 32 := constantI S_ 32 16#32
  let main_v11 : IVec S2x64x16x8x8x128 32 := broadcastInDim S2x64x16x8x8x128 ![] bcast_S_S2x64x16x8x8x128 main_c_4
  let main_v12 : IVec S2x64x16x8x8x128 32 := Host.shrui main_arg0 main_v11
  let main_c_5 : IVec S_ 32 := constantI S_ 32 255#32
  let main_v13 : IVec S2x64x16x8x8x128 32 := broadcastInDim S2x64x16x8x8x128 ![] bcast_S_S2x64x16x8x8x128 main_c_5
  let main_v14 : IVec S2x64x16x8x8x128 32 := andi main_v12 main_v13
  let main_c_6 : IVec S_ 32 := constantI S_ 32 128#32
  let main_v15 : IVec S2x64x16x8x8x128 32 := broadcastInDim S2x64x16x8x8x128 ![] bcast_S_S2x64x16x8x8x128 main_c_6
  fn_part1 (F := F) main_arg0 main_v10 main_v14 main_v15
-- ==== Words.lean ====
abbrev S2x128x32768 : Shape := ⟨3, ![2, 128, 32768]⟩
abbrev S2x16x64x8x128 : Shape := ⟨5, ![2, 16, 64, 8, 128]⟩
abbrev S1x32x4096 : Shape := ⟨3, ![1, 32, 4096]⟩
abbrev S1x4x8x8x128 : Shape := ⟨5, ![1, 4, 8, 8, 128]⟩
abbrev S8x128 : Shape := ⟨2, ![8, 128]⟩
abbrev S1x32x128 : Shape := ⟨3, ![1, 32, 128]⟩
abbrev S32x128 : Shape := ⟨2, ![32, 128]⟩
abbrev S8x128x1 : Shape := ⟨3, ![8, 128, 1]⟩
abbrev S1x1x1x8x128 : Shape := ⟨5, ![1, 1, 1, 8, 128]⟩

abbrev nBuf : Space → Nat
  | .hbm => 3
  | .vmem => 4
  | .smem => 0
  | _ => 0

abbrev bufTy : (tb : Table) → Fin (tcTables nBuf tb) → BufTy
  | .hbm, ⟨0, _⟩ => ⟨S2x128x32768, .i8⟩
  | .hbm, ⟨1, _⟩ => ⟨S2x128x32768, .i8⟩
  | .hbm, ⟨2, _⟩ => ⟨S2x16x64x8x128, .i32⟩
  | .local _ .vmem, ⟨0, _⟩ => ⟨S1x32x4096, .i8⟩
  | .local _ .vmem, ⟨1, _⟩ => ⟨S1x32x4096, .i8⟩
  | .local _ .vmem, ⟨2, _⟩ => ⟨S1x4x8x8x128, .i32⟩
  | .local _ .vmem, ⟨3, _⟩ => ⟨S1x4x8x8x128, .i32⟩
  | _, _ => ⟨S2x128x32768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x32x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x8x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== WordsReferenceIdeal.lean ====
abbrev S2x128x32768 : Shape := ⟨3, ![2, 128, 32768]⟩
abbrev S8 : Shape := ⟨1, ![8]⟩
abbrev S1x1x1x8 : Shape := ⟨4, ![1, 1, 1, 8]⟩
abbrev S2x128x32768x1 : Shape := ⟨4, ![2, 128, 32768, 1]⟩
abbrev S2x128x32768x8 : Shape := ⟨4, ![2, 128, 32768, 8]⟩
abbrev S_ : Shape := ⟨0, ![]⟩
abbrev S2x16x8x64x32x128 : Shape := ⟨6, ![2, 16, 8, 64, 32, 128]⟩
abbrev S32 : Shape := ⟨1, ![32]⟩
abbrev S1x1x1x1x32x1 : Shape := ⟨6, ![1, 1, 1, 1, 32, 1]⟩
abbrev S2x16x8x64x128 : Shape := ⟨5, ![2, 16, 8, 64, 128]⟩
abbrev S2x16x64x8x128 : Shape := ⟨5, ![2, 16, 64, 8, 128]⟩

abbrev nBuf : Space → Nat
  | .hbm => 20
  | .vmem => 0
  | .smem => 0
  | _ => 0

abbrev bufTy : (tb : Table) → Fin (tcTables nBuf tb) → BufTy
  | .hbm, ⟨0, _⟩ => ⟨S2x128x32768, .i8⟩
  | .hbm, ⟨1, _⟩ => ⟨S8, .i32⟩
  | .hbm, ⟨2, _⟩ => ⟨S1x1x1x8, .i32⟩
  | .hbm, ⟨3, _⟩ => ⟨S2x128x32768, .i8⟩
  | .hbm, ⟨4, _⟩ => ⟨S2x128x32768, .i32⟩
  | .hbm, ⟨5, _⟩ => ⟨S2x128x32768x1, .i32⟩
  | .hbm, ⟨6, _⟩ => ⟨S2x128x32768x8, .i32⟩
  | .hbm, ⟨7, _⟩ => ⟨S2x128x32768x8, .i32⟩
  | .hbm, ⟨8, _⟩ => ⟨S2x128x32768x8, .i32⟩
  | .hbm, ⟨9, _⟩ => ⟨S_, .i32⟩
  | .hbm, ⟨10, _⟩ => ⟨S2x128x32768x8, .i32⟩
  | .hbm, ⟨11, _⟩ => ⟨S2x128x32768x8, .i32⟩
  | .hbm, ⟨12, _⟩ => ⟨S2x16x8x64x32x128, .i32⟩
  | .hbm, ⟨13, _⟩ => ⟨S32, .i32⟩
  | .hbm, ⟨14, _⟩ => ⟨S1x1x1x1x32x1, .i32⟩
  | .hbm, ⟨15, _⟩ => ⟨S2x16x8x64x32x128, .i32⟩
  | .hbm, ⟨16, _⟩ => ⟨S2x16x8x64x32x128, .i32⟩
  | .hbm, ⟨17, _⟩ => ⟨S_, .i32⟩
  | .hbm, ⟨18, _⟩ => ⟨S2x16x8x64x128, .i32⟩
  | .hbm, ⟨19, _⟩ => ⟨S2x16x64x8x128, .i32⟩
  | _, _ => ⟨S2x128x32768, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c_0 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Decode.lean ====
abbrev S2x64x16x8x8x128 : Shape := ⟨6, ![2, 64, 16, 8, 8, 128]⟩
abbrev S2x16x64x8x128 : Shape := ⟨5, ![2, 16, 64, 8, 128]⟩
abbrev S2x8x128 : Shape := ⟨3, ![2, 8, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x128x262144 : Shape := ⟨3, ![2, 128, 262144]⟩
abbrev S1x64x1x8x8x128 : Shape := ⟨6, ![1, 64, 1, 8, 8, 128]⟩
abbrev S1x1x64x8x128 : Shape := ⟨5, ![1, 1, 64, 8, 128]⟩
abbrev S1x8x128 : Shape := ⟨3, ![1, 8, 128]⟩
abbrev S1x8x262144 : Shape := ⟨3, ![1, 8, 262144]⟩
abbrev S8x128 : Shape := ⟨2, ![8, 128]⟩
abbrev S1 : Shape := ⟨1, ![1]⟩
abbrev S1x1x1 : Shape := ⟨3, ![1, 1, 1]⟩
abbrev S1x1x1x1x8x128 : Shape := ⟨6, ![1, 1, 1, 1, 8, 128]⟩
abbrev S16x128 : Shape := ⟨2, ![16, 128]⟩
abbrev S256x128 : Shape := ⟨2, ![256, 128]⟩
abbrev S1x1x1x8x128 : Shape := ⟨5, ![1, 1, 1, 8, 128]⟩

abbrev nBuf : Space → Nat
  | .hbm => 24
  | .vmem => 13
  | .smem => 0
  | _ => 0

abbrev bufTy : (tb : Table) → Fin (tcTables nBuf tb) → BufTy
  | .hbm, ⟨0, _⟩ => ⟨S2x64x16x8x8x128, .i32⟩
  | .hbm, ⟨1, _⟩ => ⟨S2x16x64x8x128, .i32⟩
  | .hbm, ⟨2, _⟩ => ⟨S2x8x128, .f32⟩
  | .hbm, ⟨3, _⟩ => ⟨S2x8x128, .f32⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S256x256, .f32⟩
  | .hbm, ⟨21, _⟩ => ⟨S256x256, .bf16⟩
  | .hbm, ⟨22, _⟩ => ⟨S2x128x262144, .f32⟩
  | .hbm, ⟨23, _⟩ => ⟨S2x8x128, .f32⟩
  | .local _ .vmem, ⟨0, _⟩ => ⟨S1x64x1x8x8x128, .i32⟩
  | .local _ .vmem, ⟨1, _⟩ => ⟨S1x64x1x8x8x128, .i32⟩
  | .local _ .vmem, ⟨2, _⟩ => ⟨S1x1x64x8x128, .i32⟩
  | .local _ .vmem, ⟨3, _⟩ => ⟨S1x1x64x8x128, .i32⟩
  | .local _ .vmem, ⟨4, _⟩ => ⟨S256x256, .bf16⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x262144, .f32⟩
  | .local _ .vmem, ⟨10, _⟩ => ⟨S1x8x262144, .f32⟩
  | .local _ .vmem, ⟨11, _⟩ => ⟨S1x8x128, .f32⟩
  | .local _ .vmem, ⟨12, _⟩ => ⟨S1x8x128, .f32⟩
  | _, _ => ⟨S2x64x16x8x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨2, ![2, 16], ![false, false]⟩

@[reducible] def k0_t1_loop : Scf.Loop 32 :=
  let c0_i32 : BitVec 32 := 0#32
  let c8_i32 : BitVec 32 := 8#32
  let v20 : BitVec 32 := Scalar.addi c0_i32 c8_i32
  let c1_i32 : BitVec 32 := 1#32
  ⟨c0_i32, v20, c1_i32⟩
def k0_off1 (k0_t1 : Fin k0_t1_loop.trips) : Fin 6 → Nat :=
  let c0_14 : Index := 0#32
  let c0_15 : Index := 0#32
  let c0_16 : Index := 0#32
  let c0_i32 : BitVec 32 := 0#32
  let c1_i32 : BitVec 32 := 1#32
  let arg9 : BitVec 32 := Scf.iv c0_i32 c1_i32 k0_t1
  let v21 : Index := Scalar.indexCast arg9
  let c0_17 : Index := 0#32
  let c0_18 : Index := 0#32
  ![0, 0, 0, v21.toNat, 0, 0]
def k0_off2 (k0_t1 : Fin k0_t1_loop.trips) : Fin 6 → Nat :=
  let c0_20 : Index := 0#32
  let c16 : Index := 16#32
  let c0_21 : Index := 0#32
  let c0_i32 : BitVec 32 := 0#32
  let c1_i32 : BitVec 32 := 1#32
  let arg9 : BitVec 32 := Scf.iv c0_i32 c1_i32 k0_t1
  let v31 : Index := Scalar.indexCast arg9
  let c0_22 : Index := 0#32
  let c0_23 : Index := 0#32
  ![0, 16, 0, v31.toNat, 0, 0]
def k0_off3 (k0_t1 : Fin k0_t1_loop.trips) : Fin 6 → Nat :=
  let c0_27 : Index := 0#32
  let c32 : Index := 32#32
  let c0_28 : Index := 0#32
  let c0_i32 : BitVec 32 := 0#32
  let c1_i32 : BitVec 32 := 1#32
  let arg9 : BitVec 32 := Scf.iv c0_i32 c1_i32 k0_t1
  let v41 : Index := Scalar.indexCast arg9
  let c0_29 : Index := 0#32
  let c0_30 : Index := 0#32
  ![0, 32, 0, v41.toNat, 0, 0]
def k0_off4 (k0_t1 : Fin k0_t1_loop.trips) : Fin 6 → Nat :=
  let c0_34 : Index := 0#32
  let c48 : Index := 48#32
  let c0_35 : Index := 0#32
  let c0_i32 : BitVec 32 := 0#32
  let c1_i32 : BitVec 32 := 1#32
  let arg9 : BitVec 32 := Scf.iv c0_i32 c1_i32 k0_t1
  let v51 : Index := Scalar.indexCast arg9
  let c0_36 : Index := 0#32
  let c0_37 : Index := 0#32
  ![0, 48, 0, v51.toNat, 0, 0]
def k0_off5 (k0_t1 : Fin k0_t1_loop.trips) : Fin 6 → Nat :=
  let c0_77 : Index := 0#32
  let c1 : Index := 1#32
  let c0_78 : Index := 0#32
  let c0_i32 : BitVec 32 := 0#32
  let c1_i32 : BitVec 32 := 1#32
  let arg9 : BitVec 32 := Scf.iv c0_i32 c1_i32 k0_t1
  let v125 : Index := Scalar.indexCast arg9
  let c0_79 : Index := 0#32
  let c0_80 : Index := 0#32
  ![0, 1, 0, v125.toNat, 0, 0]
def k0_off6 (k0_t1 : Fin k0_t1_loop.trips) : Fin 6 → Nat :=
  let c0_84 : Index := 0#32
  let c17 : Index := 17#32
  let c0_85 : Index := 0#32
  let c0_i32 : BitVec 32 := 0#32
  let c1_i32 : BitVec 32 := 1#32
  let arg9 : BitVec 32 := Scf.iv c0_i32 c1_i32 k0_t1
  let v135 : Index := Scalar.indexCast arg9
  let c0_86 : Index := 0#32
  let c0_87 : Index := 0#32
  ![0, 17, 0, v135.toNat, 0, 0]
def k0_off7 (k0_t1 : Fin k0_t1_loop.trips) : Fin 6 → Nat :=
  let c0_91 : Index := 0#32
  let c33 : Index := 33#32
  let c0_92 : Index := 0#32
  let c0_i32 : BitVec 32 := 0#32
  let c1_i32 : BitVec 32 := 1#32
  let arg9 : BitVec 32 := Scf.iv c0_i32 c1_i32 k0_t1
  let v145 : Index := Scalar.indexCast arg9
  let c0_93 : Index := 0#32
  let c0_94 : Index := 0#32
  ![0, 33, 0, v145.toNat, 0, 0]
def k0_off8 (k0_t1 : Fin k0_t1_loop.trips) : Fin 6 → Nat :=
  let c0_98 : Index := 0#32
  let c49 : Index := 49#32
  let c0_99 : Index := 0#32
  let c0_i32 : BitVec 32 := 0#32
  let c1_i32 : BitVec 32 := 1#32
  let arg9 : BitVec 32 := Scf.iv c0_i32 c1_i32 k0_t1
  let v155 : Index := Scalar.indexCast arg9
  let c0_100 : Index := 0#32
  let c0_101 : Index := 0#32
  ![0, 49, 0, v155.toNat, 0, 0]
def k0_off9 (k0_t1 : Fin k0_t1_loop.trips) : Fin 6 → Nat :=
  let c0_141 : Index := 0#32
  let c2 : Index := 2#32
  let c0_142 : Index := 0#32
  let c0_i32 : BitVec 32 := 0#32
  let c1_i32 : BitVec 32 := 1#32
  let arg9 : BitVec 32 := Scf.iv c0_i32 c1_i32 k0_t1
  let v229 : Index := Scalar.indexCast arg9
  let c0_143 : Index := 0#32
  let c0_144 : Index := 0#32
  ![0, 2, 0, v229.toNat, 0, 0]
def k0_off10 (k0_t1 : Fin k0_t1_loop.trips) : Fin 6 → Nat :=
  let c0_148 : Index := 0#32
  let c18 : Index := 18#32
  let c0_149 : Index := 0#32
  let c0_i32 : BitVec 32 := 0#32
  let c1_i32 : BitVec 32 := 1#32
  let arg9 : BitVec 32 := Scf.iv c0_i32 c1_i32 k0_t1
  let v239 : Index := Scalar.indexCast arg9
  let c0_150 : Index := 0#32
  let c0_151 : Index := 0#32
  ![0, 18, 0, v239.toNat, 0, 0]
def k0_off11 (k0_t1 : Fin k0_t1_loop.trips) : Fin 6 → Nat :=
  let c0_155 : Index := 0#32
  let c34 : Index := 34#32
  let c0_156 : Index := 0#32
  let c0_i32 : BitVec 32 := 0#32
  let c1_i32 : BitVec 32 := 1#32
  let arg9 : BitVec 32 := Scf.iv c0_i32 c1_i32 k0_t1
  let v249 : Index := Scalar.indexCast arg9
  let c0_157 : Index := 0#32
  let c0_158 : Index := 0#32
  ![0, 34, 0, v249.toNat, 0, 0]
def k0_off12 (k0_t1 : Fin k0_t1_loop.trips) : Fin 6 → Nat :=
  let c0_162 : Index := 0#32
  let c50 : Index := 50#32
  let c0_163 : Index := 0#32
  let c0_i32 : BitVec 32 := 0#32
  let c1_i32 : BitVec 32 := 1#32
  let arg9 : BitVec 32 := Scf.iv c0_i32 c1_i32 k0_t1
  let v259 : Index := Scalar.indexCast arg9
  let c0_164 : Index := 0#32
  let c0_165 : Index := 0#32
  ![0, 50, 0, v259.toNat, 0, 0]
def k0_off13 (k0_t1 : Fin k0_t1_loop.trips) : Fin 6 → Nat :=
  let c0_205 : Index := 0#32
  let c3 : Index := 3#32
  let c0_206 : Index := 0#32
  let c0_i32 : BitVec 32 := 0#32
  let c1_i32 : BitVec 32 := 1#32
  let arg9 : BitVec 32 := Scf.iv c0_i32 c1_i32 k0_t1
  let v333 : Index := Scalar.indexCast arg9
  let c0_207 : Index := 0#32
  let c0_208 : Index := 0#32
  ![0, 3, 0, v333.toNat, 0, 0]
def k0_off14 (k0_t1 : Fin k0_t1_loop.trips) : Fin 6 → Nat :=
  let c0_212 : Index := 0#32
  let c19 : Index := 19#32
  let c0_213 : Index := 0#32
  let c0_i32 : BitVec 32 := 0#32
  let c1_i32 : BitVec 32 := 1#32
  let arg9 : BitVec 32 := Scf.iv c0_i32 c1_i32 k0_t1
  let v343 : Index := Scalar.indexCast arg9
  let c0_214 : Index := 0#32
  let c0_215 : Index := 0#32
  ![0, 19, 0, v343.toNat, 0, 0]
def k0_off15 (k0_t1 : Fin k0_t1_loop.trips) : Fin 6 → Nat :=
  let c0_219 : Index := 0#32
  let c35 : Index := 35#32
  let c0_220 : Index := 0#32
  let c0_i32 : BitVec 32 := 0#32
  let c1_i32 : BitVec 32 := 1#32
  let arg9 : BitVec 32 := Scf.iv c0_i32 c1_i32 k0_t1
  let v353 : Index := Scalar.indexCast arg9
  let c0_221 : Index := 0#32
  let c0_222 : Index := 0#32
  ![0, 35, 0, v353.toNat, 0, 0]
def k0_off16 (k0_t1 : Fin k0_t1_loop.trips) : Fin 6 → Nat :=
  let c0_226 : Index := 0#32
  let c51 : Index := 51#32
  let c0_227 : Index := 0#32
  let c0_i32 : BitVec 32 := 0#32
  let c1_i32 : BitVec 32 := 1#32
  let arg9 : BitVec 32 := Scf.iv c0_i32 c1_i32 k0_t1
  let v363 : Index := Scalar.indexCast arg9
  let c0_228 : Index := 0#32
  let c0_229 : Index := 0#32
  ![0, 51, 0, v363.toNat, 0, 0]
def k0_off17 (k0_t1 : Fin k0_t1_loop.trips) : Fin 6 → Nat :=
  let c0_269 : Index := 0#32
  let c4 : Index := 4#32
  let c0_270 : Index := 0#32
  let c0_i32 : BitVec 32 := 0#32
  let c1_i32 : BitVec 32 := 1#32
  let arg9 : BitVec 32 := Scf.iv c0_i32 c1_i32 k0_t1
  let v437 : Index := Scalar.indexCast arg9
  let c0_271 : Index := 0#32
  let c0_272 : Index := 0#32
  ![0, 4, 0, v437.toNat, 0, 0]
def k0_off18 (k0_t1 : Fin k0_t1_loop.trips) : Fin 6 → Nat :=
  let c0_276 : Index := 0#32
  let c20 : Index := 20#32
  let c0_277 : Index := 0#32
  let c0_i32 : BitVec 32 := 0#32
  let c1_i32 : BitVec 32 := 1#32
  let arg9 : BitVec 32 := Scf.iv c0_i32 c1_i32 k0_t1
  let v447 : Index := Scalar.indexCast arg9
  let c0_278 : Index := 0#32
  let c0_279 : Index := 0#32
  ![0, 20, 0, v447.toNat, 0, 0]
def k0_off19 (k0_t1 : Fin k0_t1_loop.trips) : Fin 6 → Nat :=
  let c0_283 : Index := 0#32
  let c36 : Index := 36#32
  let c0_284 : Index := 0#32
  let c0_i32 : BitVec 32 := 0#32
  let c1_i32 : BitVec 32 := 1#32
  let arg9 : BitVec 32 := Scf.iv c0_i32 c1_i32 k0_t1
  let v457 : Index := Scalar.indexCast arg9
  let c0_285 : Index := 0#32
  let c0_286 : Index := 0#32
  ![0, 36, 0, v457.toNat, 0, 0]
def k0_off20 (k0_t1 : Fin k0_t1_loop.trips) : Fin 6 → Nat :=
  let c0_290 : Index := 0#32
  let c52 : Index := 52#32
  let c0_291 : Index := 0#32
  let c0_i32 : BitVec 32 := 0#32
  let c1_i32 : BitVec 32 := 1#32
  let arg9 : BitVec 32 := Scf.iv c0_i32 c1_i32 k0_t1
  let v467 : Index := Scalar.indexCast arg9
  let c0_292 : Index := 0#32
  let c0_293 : Index := 0#32
  ![0, 52, 0, v467.toNat, 0, 0]
def k0_off21 (k0_t1 : Fin k0_t1_loop.trips) : Fin 6 → Nat :=
  let c0_333 : Index := 0#32
  let c5 : Index := 5#32
  let c0_334 : Index := 0#32
  let c0_i32 : BitVec 32 := 0#32
  let c1_i32 : BitVec 32 := 1#32
  let arg9 : BitVec 32 := Scf.iv c0_i32 c1_i32 k0_t1
  let v541 : Index := Scalar.indexCast arg9
  let c0_335 : Index := 0#32
  let c0_336 : Index := 0#32
  ![0, 5, 0, v541.toNat, 0, 0]
def k0_off22 (k0_t1 : Fin k0_t1_loop.trips) : Fin 6 → Nat :=
  let c0_340 : Index := 0#32
  let c21 : Index := 21#32
  let c0_341 : Index := 0#32
  let c0_i32 : BitVec 32 := 0#32
  let c1_i32 : BitVec 32 := 1#32
  let arg9 : BitVec 32 := Scf.iv c0_i32 c1_i32 k0_t1
  let v551 : Index := Scalar.indexCast arg9
  let c0_342 : Index := 0#32
  let c0_343 : Index := 0#32
  ![0, 21, 0, v551.toNat, 0, 0]
def k0_off23 (k0_t1 : Fin k0_t1_loop.trips) : Fin 6 → Nat :=
  let c0_347 : Index := 0#32
  let c37 : Index := 37#32
  let c0_348 : Index := 0#32
  let c0_i32 : BitVec 32 := 0#32
  let c1_i32 : BitVec 32 := 1#32
  let arg9 : BitVec 32 := Scf.iv c0_i32 c1_i32 k0_t1
  let v561 : Index := Scalar.indexCast arg9
  let c0_349 : Index := 0#32
  let c0_350 : Index := 0#32
  ![0, 37, 0, v561.toNat, 0, 0]
def k0_off24 (k0_t1 : Fin k0_t1_loop.trips) : Fin 6 → Nat :=
  let c0_354 : Index := 0#32
  let c53 : Index := 53#32
  let c0_355 : Index := 0#32
  let c0_i32 : BitVec 32 := 0#32
  let c1_i32 : BitVec 32 := 1#32
  let arg9 : BitVec 32 := Scf.iv c0_i32 c1_i32 k0_t1
  let v571 : Index := Scalar.indexCast arg9
  let c0_356 : Index := 0#32
  let c0_357 : Index := 0#32
  ![0, 53, 0, v571.toNat, 0, 0]
def k0_off25 (k0_t1 : Fin k0_t1_loop.trips) : Fin 6 → Nat :=
  let c0_397 : Index := 0#32
  let c6 : Index := 6#32
  let c0_398 : Index := 0#32
  let c0_i32 : BitVec 32 := 0#32
  let c1_i32 : BitVec 32 := 1#32
  let arg9 : BitVec 32 := Scf.iv c0_i32 c1_i32 k0_t1
  let v645 : Index := Scalar.indexCast arg9
  let c0_399 : Index := 0#32
  let c0_400 : Index := 0#32
  ![0, 6, 0, v645.toNat, 0, 0]
def k0_off26 (k0_t1 : Fin k0_t1_loop.trips) : Fin 6 → Nat :=
  let c0_404 : Index := 0#32
  let c22 : Index := 22#32
  let c0_405 : Index := 0#32
  let c0_i32 : BitVec 32 := 0#32
  let c1_i32 : BitVec 32 := 1#32
  let arg9 : BitVec 32 := Scf.iv c0_i32 c1_i32 k0_t1
  let v655 : Index := Scalar.indexCast arg9
  let c0_406 : Index := 0#32
  let c0_407 : Index := 0#32
  ![0, 22, 0, v655.toNat, 0, 0]
def k0_off27 (k0_t1 : Fin k0_t1_loop.trips) : Fin 6 → Nat :=
  let c0_411 : Index := 0#32
  let c38 : Index := 38#32
  let c0_412 : Index := 0#32
  let c0_i32 : BitVec 32 := 0#32
  let c1_i32 : BitVec 32 := 1#32
  let arg9 : BitVec 32 := Scf.iv c0_i32 c1_i32 k0_t1
  let v665 : Index := Scalar.indexCast arg9
  let c0_413 : Index := 0#32
  let c0_414 : Index := 0#32
  ![0, 38, 0, v665.toNat, 0, 0]
def k0_off28 (k0_t1 : Fin k0_t1_loop.trips) : Fin 6 → Nat :=
  let c0_418 : Index := 0#32
  let c54 : Index := 54#32
  let c0_419 : Index := 0#32
  let c0_i32 : BitVec 32 := 0#32
  let c1_i32 : BitVec 32 := 1#32
  let arg9 : BitVec 32 := Scf.iv c0_i32 c1_i32 k0_t1
  let v675 : Index := Scalar.indexCast arg9
  let c0_420 : Index := 0#32
  let c0_421 : Index := 0#32
  ![0, 54, 0, v675.toNat, 0, 0]
def k0_off29 (k0_t1 : Fin k0_t1_loop.trips) : Fin 6 → Nat :=
  let c0_461 : Index := 0#32
  let c7 : Index := 7#32
  let c0_462 : Index := 0#32
  let c0_i32 : BitVec 32 := 0#32
  let c1_i32 : BitVec 32 := 1#32
  let arg9 : BitVec 32 := Scf.iv c0_i32 c1_i32 k0_t1
  let v749 : Index := Scalar.indexCast arg9
  let c0_463 : Index := 0#32
  let c0_464 : Index := 0#32
  ![0, 7, 0, v749.toNat, 0, 0]
def k0_off30 (k0_t1 : Fin k0_t1_loop.trips) : Fin 6 → Nat :=
  let c0_468 : Index := 0#32
  let c23 : Index := 23#32
  let c0_469 : Index := 0#32
  let c0_i32 : BitVec 32 := 0#32
  let c1_i32 : BitVec 32 := 1#32
  let arg9 : BitVec 32 := Scf.iv c0_i32 c1_i32 k0_t1
  let v759 : Index := Scalar.indexCast arg9
  let c0_470 : Index := 0#32
  let c0_471 : Index := 0#32
  ![0, 23, 0, v759.toNat, 0, 0]
def k0_off31 (k0_t1 : Fin k0_t1_loop.trips) : Fin 6 → Nat :=
  let c0_475 : Index := 0#32
  let c39 : Index := 39#32
  let c0_476 : Index := 0#32
  let c0_i32 : BitVec 32 := 0#32
  let c1_i32 : BitVec 32 := 1#32
  let arg9 : BitVec 32 := Scf.iv c0_i32 c1_i32 k0_t1
  let v769 : Index := Scalar.indexCast arg9
  let c0_477 : Index := 0#32
  let c0_478 : Index := 0#32
  ![0, 39, 0, v769.toNat, 0, 0]
def k0_off32 (k0_t1 : Fin k0_t1_loop.trips) : Fin 6 → Nat :=
  let c0_482 : Index := 0#32
  let c55 : Index := 55#32
  let c0_483 : Index := 0#32
  let c0_i32 : BitVec 32 := 0#32
  let c1_i32 : BitVec 32 := 1#32
  let arg9 : BitVec 32 := Scf.iv c0_i32 c1_i32 k0_t1
  let v779 : Index := Scalar.indexCast arg9
  let c0_484 : Index := 0#32
  let c0_485 : Index := 0#32
  ![0, 55, 0, v779.toNat, 0, 0]
def k0_off33 (k0_t1 : Fin k0_t1_loop.trips) : Fin 6 → Nat :=
  let c0_525 : Index := 0#32
  let c8 : Index := 8#32
  let c0_526 : Index := 0#32
  let c0_i32 : BitVec 32 := 0#32
  let c1_i32 : BitVec 32 := 1#32
  let arg9 : BitVec 32 := Scf.iv c0_i32 c1_i32 k0_t1
  let v853 : Index := Scalar.indexCast arg9
  let c0_527 : Index := 0#32
  let c0_528 : Index := 0#32
  ![0, 8, 0, v853.toNat, 0, 0]
def k0_off34 (k0_t1 : Fin k0_t1_loop.trips) : Fin 6 → Nat :=
  let c0_532 : Index := 0#32
  let c24 : Index := 24#32
  let c0_533 : Index := 0#32
  let c0_i32 : BitVec 32 := 0#32
  let c1_i32 : BitVec 32 := 1#32
  let arg9 : BitVec 32 := Scf.iv c0_i32 c1_i32 k0_t1
  let v863 : Index := Scalar.indexCast arg9
  let c0_534 : Index := 0#32
  let c0_535 : Index := 0#32
  ![0, 24, 0, v863.toNat, 0, 0]
def k0_off35 (k0_t1 : Fin k0_t1_loop.trips) : Fin 6 → Nat :=
  let c0_539 : Index := 0#32
  let c40 : Index := 40#32
  let c0_540 : Index := 0#32
  let c0_i32 : BitVec 32 := 0#32
  let c1_i32 : BitVec 32 := 1#32
  let arg9 : BitVec 32 := Scf.iv c0_i32 c1_i32 k0_t1
  let v873 : Index := Scalar.indexCast arg9
  let c0_541 : Index := 0#32
  let c0_542 : Index := 0#32
  ![0, 40, 0, v873.toNat, 0, 0]
def k0_off36 (k0_t1 : Fin k0_t1_loop.trips) : Fin 6 → Nat :=
  let c0_546 : Index := 0#32
  let c56 : Index := 56#32
  let c0_547 : Index := 0#32
  let c0_i32 : BitVec 32 := 0#32
  let c1_i32 : BitVec 32 := 1#32
  let arg9 : BitVec 32 := Scf.iv c0_i32 c1_i32 k0_t1
  let v883 : Index := Scalar.indexCast arg9
  let c0_548 : Index := 0#32
  let c0_549 : Index := 0#32
  ![0, 56, 0, v883.toNat, 0, 0]
def k0_off37 (k0_t1 : Fin k0_t1_loop.trips) : Fin 6 → Nat :=
  let c0_589 : Index := 0#32
  let c9 : Index := 9#32
  let c0_590 : Index := 0#32
  let c0_i32 : BitVec 32 := 0#32
  let c1_i32 : BitVec 32 := 1#32
  let arg9 : BitVec 32 := Scf.iv c0_i32 c1_i32 k0_t1
  let v957 : Index := Scalar.indexCast arg9
  let c0_591 : Index := 0#32
  let c0_592 : Index := 0#32
  ![0, 9, 0, v957.toNat, 0, 0]
def k0_off38 (k0_t1 : Fin k0_t1_loop.trips) : Fin 6 → Nat :=
  let c0_596 : Index := 0#32
  let c25 : Index := 25#32
  let c0_597 : Index := 0#32
  let c0_i32 : BitVec 32 := 0#32
  let c1_i32 : BitVec 32 := 1#32
  let arg9 : BitVec 32 := Scf.iv c0_i32 c1_i32 k0_t1
  let v967 : Index := Scalar.indexCast arg9
  let c0_598 : Index := 0#32
  let c0_599 : Index := 0#32
  ![0, 25, 0, v967.toNat, 0, 0]
def k0_off39 (k0_t1 : Fin k0_t1_loop.trips) : Fin 6 → Nat :=
  let c0_603 : Index := 0#32
  let c41 : Index := 41#32
  let c0_604 : Index := 0#32
  let c0_i32 : BitVec 32 := 0#32
  let c1_i32 : BitVec 32 := 1#32
  let arg9 : BitVec 32 := Scf.iv c0_i32 c1_i32 k0_t1
  let v977 : Index := Scalar.indexCast arg9
  let c0_605 : Index := 0#32
  let c0_606 : Index := 0#32
  ![0, 41, 0, v977.toNat, 0, 0]
def k0_off40 (k0_t1 : Fin k0_t1_loop.trips) : Fin 6 → Nat :=
  let c0_610 : Index := 0#32
  let c57 : Index := 57#32
  let c0_611 : Index := 0#32
  let c0_i32 : BitVec 32 := 0#32
  let c1_i32 : BitVec 32 := 1#32
  let arg9 : BitVec 32 := Scf.iv c0_i32 c1_i32 k0_t1
  let v987 : Index := Scalar.indexCast arg9
  let c0_612 : Index := 0#32
  let c0_613 : Index := 0#32
  ![0, 57, 0, v987.toNat, 0, 0]
def k0_off41 (k0_t1 : Fin k0_t1_loop.trips) : Fin 6 → Nat :=
  let c0_653 : Index := 0#32
  let c10 : Index := 10#32
  let c0_654 : Index := 0#32
  let c0_i32 : BitVec 32 := 0#32
  let c1_i32 : BitVec 32 := 1#32
  let arg9 : BitVec 32 := Scf.iv c0_i32 c1_i32 k0_t1
  let v1061 : Index := Scalar.indexCast arg9
  let c0_655 : Index := 0#32
  let c0_656 : Index := 0#32
  ![0, 10, 0, v1061.toNat, 0, 0]
def k0_off42 (k0_t1 : Fin k0_t1_loop.trips) : Fin 6 → Nat :=
  let c0_660 : Index := 0#32
  let c26 : Index := 26#32
  let c0_661 : Index := 0#32
  let c0_i32 : BitVec 32 := 0#32
  let c1_i32 : BitVec 32 := 1#32
  let arg9 : BitVec 32 := Scf.iv c0_i32 c1_i32 k0_t1
  let v1071 : Index := Scalar.indexCast arg9
  let c0_662 : Index := 0#32
  let c0_663 : Index := 0#32
  ![0, 26, 0, v1071.toNat, 0, 0]
def k0_off43 (k0_t1 : Fin k0_t1_loop.trips) : Fin 6 → Nat :=
  let c0_667 : Index := 0#32
  let c42 : Index := 42#32
  let c0_668 : Index := 0#32
  let c0_i32 : BitVec 32 := 0#32
  let c1_i32 : BitVec 32 := 1#32
  let arg9 : BitVec 32 := Scf.iv c0_i32 c1_i32 k0_t1
  let v1081 : Index := Scalar.indexCast arg9
  let c0_669 : Index := 0#32
  let c0_670 : Index := 0#32
  ![0, 42, 0, v1081.toNat, 0, 0]
def k0_off44 (k0_t1 : Fin k0_t1_loop.trips) : Fin 6 → Nat :=
  let c0_674 : Index := 0#32
  let c58 : Index := 58#32
  let c0_675 : Index := 0#32
  let c0_i32 : BitVec 32 := 0#32
  let c1_i32 : BitVec 32 := 1#32
  let arg9 : BitVec 32 := Scf.iv c0_i32 c1_i32 k0_t1
  let v1091 : Index := Scalar.indexCast arg9
  let c0_676 : Index := 0#32
  let c0_677 : Index := 0#32
  ![0, 58, 0, v1091.toNat, 0, 0]
def k0_off45 (k0_t1 : Fin k0_t1_loop.trips) : Fin 6 → Nat :=
  let c0_717 : Index := 0#32
  let c11 : Index := 11#32
  let c0_718 : Index := 0#32
  let c0_i32 : BitVec 32 := 0#32
  let c1_i32 : BitVec 32 := 1#32
  let arg9 : BitVec 32 := Scf.iv c0_i32 c1_i32 k0_t1
  let v1165 : Index := Scalar.indexCast arg9
  let c0_719 : Index := 0#32
  let c0_720 : Index := 0#32
  ![0, 11, 0, v1165.toNat, 0, 0]
def k0_off46 (k0_t1 : Fin k0_t1_loop.trips) : Fin 6 → Nat :=
  let c0_724 : Index := 0#32
  let c27 : Index := 27#32
  let c0_725 : Index := 0#32
  let c0_i32 : BitVec 32 := 0#32
  let c1_i32 : BitVec 32 := 1#32
  let arg9 : BitVec 32 := Scf.iv c0_i32 c1_i32 k0_t1
  let v1175 : Index := Scalar.indexCast arg9
  let c0_726 : Index := 0#32
  let c0_727 : Index := 0#32
  ![0, 27, 0, v1175.toNat, 0, 0]
def k0_off47 (k0_t1 : Fin k0_t1_loop.trips) : Fin 6 → Nat :=
  let c0_731 : Index := 0#32
  let c43 : Index := 43#32
  let c0_732 : Index := 0#32
  let c0_i32 : BitVec 32 := 0#32
  let c1_i32 : BitVec 32 := 1#32
  let arg9 : BitVec 32 := Scf.iv c0_i32 c1_i32 k0_t1
  let v1185 : Index := Scalar.indexCast arg9
  let c0_733 : Index := 0#32
  let c0_734 : Index := 0#32
  ![0, 43, 0, v1185.toNat, 0, 0]
def k0_off48 (k0_t1 : Fin k0_t1_loop.trips) : Fin 6 → Nat :=
  let c0_738 : Index := 0#32
  let c59 : Index := 59#32
  let c0_739 : Index := 0#32
  let c0_i32 : BitVec 32 := 0#32
  let c1_i32 : BitVec 32 := 1#32
  let arg9 : BitVec 32 := Scf.iv c0_i32 c1_i32 k0_t1
  let v1195 : Index := Scalar.indexCast arg9
  let c0_740 : Index := 0#32
  let c0_741 : Index := 0#32
  ![0, 59, 0, v1195.toNat, 0, 0]
def k0_off49 (k0_t1 : Fin k0_t1_loop.trips) : Fin 6 → Nat :=
  let c0_781 : Index := 0#32
  let c12 : Index := 12#32
  let c0_782 : Index := 0#32
  let c0_i32 : BitVec 32 := 0#32
  let c1_i32 : BitVec 32 := 1#32
  let arg9 : BitVec 32 := Scf.iv c0_i32 c1_i32 k0_t1
  let v1269 : Index := Scalar.indexCast arg9
  let c0_783 : Index := 0#32
  let c0_784 : Index := 0#32
  ![0, 12, 0, v1269.toNat, 0, 0]
def k0_off50 (k0_t1 : Fin k0_t1_loop.trips) : Fin 6 → Nat :=
  let c0_788 : Index := 0#32
  let c28 : Index := 28#32
  let c0_789 : Index := 0#32
  let c0_i32 : BitVec 32 := 0#32
  let c1_i32 : BitVec 32 := 1#32
  let arg9 : BitVec 32 := Scf.iv c0_i32 c1_i32 k0_t1
  let v1279 : Index := Scalar.indexCast arg9
  let c0_790 : Index := 0#32
  let c0_791 : Index := 0#32
  ![0, 28, 0, v1279.toNat, 0, 0]
def k0_off51 (k0_t1 : Fin k0_t1_loop.trips) : Fin 6 → Nat :=
  let c0_795 : Index := 0#32
  let c44 : Index := 44#32
  let c0_796 : Index := 0#32
  let c0_i32 : BitVec 32 := 0#32
  let c1_i32 : BitVec 32 := 1#32
  let arg9 : BitVec 32 := Scf.iv c0_i32 c1_i32 k0_t1
  let v1289 : Index := Scalar.indexCast arg9
  let c0_797 : Index := 0#32
  let c0_798 : Index := 0#32
  ![0, 44, 0, v1289.toNat, 0, 0]
def k0_off52 (k0_t1 : Fin k0_t1_loop.trips) : Fin 6 → Nat :=
  let c0_802 : Index := 0#32
  let c60 : Index := 60#32
  let c0_803 : Index := 0#32
  let c0_i32 : BitVec 32 := 0#32
  let c1_i32 : BitVec 32 := 1#32
  let arg9 : BitVec 32 := Scf.iv c0_i32 c1_i32 k0_t1
  let v1299 : Index := Scalar.indexCast arg9
  let c0_804 : Index := 0#32
  let c0_805 : Index := 0#32
  ![0, 60, 0, v1299.toNat, 0, 0]
def k0_off53 (k0_t1 : Fin k0_t1_loop.trips) : Fin 6 → Nat :=
  let c0_845 : Index := 0#32
  let c13 : Index := 13#32
  let c0_846 : Index := 0#32
  let c0_i32 : BitVec 32 := 0#32
  let c1_i32 : BitVec 32 := 1#32
  let arg9 : BitVec 32 := Scf.iv c0_i32 c1_i32 k0_t1
  let v1373 : Index := Scalar.indexCast arg9
  let c0_847 : Index := 0#32
  let c0_848 : Index := 0#32
  ![0, 13, 0, v1373.toNat, 0, 0]
def k0_off54 (k0_t1 : Fin k0_t1_loop.trips) : Fin 6 → Nat :=
  let c0_852 : Index := 0#32
  let c29 : Index := 29#32
  let c0_853 : Index := 0#32
  let c0_i32 : BitVec 32 := 0#32
  let c1_i32 : BitVec 32 := 1#32
  let arg9 : BitVec 32 := Scf.iv c0_i32 c1_i32 k0_t1
  let v1383 : Index := Scalar.indexCast arg9
  let c0_854 : Index := 0#32
  let c0_855 : Index := 0#32
  ![0, 29, 0, v1383.toNat, 0, 0]
def k0_off55 (k0_t1 : Fin k0_t1_loop.trips) : Fin 6 → Nat :=
  let c0_859 : Index := 0#32
  let c45 : Index := 45#32
  let c0_860 : Index := 0#32
  let c0_i32 : BitVec 32 := 0#32
  let c1_i32 : BitVec 32 := 1#32
  let arg9 : BitVec 32 := Scf.iv c0_i32 c1_i32 k0_t1
  let v1393 : Index := Scalar.indexCast arg9
  let c0_861 : Index := 0#32
  let c0_862 : Index := 0#32
  ![0, 45, 0, v1393.toNat, 0, 0]
def k0_off56 (k0_t1 : Fin k0_t1_loop.trips) : Fin 6 → Nat :=
  let c0_866 : Index := 0#32
  let c61 : Index := 61#32
  let c0_867 : Index := 0#32
  let c0_i32 : BitVec 32 := 0#32
  let c1_i32 : BitVec 32 := 1#32
  let arg9 : BitVec 32 := Scf.iv c0_i32 c1_i32 k0_t1
  let v1403 : Index := Scalar.indexCast arg9
  let c0_868 : Index := 0#32
  let c0_869 : Index := 0#32
  ![0, 61, 0, v1403.toNat, 0, 0]
def k0_off57 (k0_t1 : Fin k0_t1_loop.trips) : Fin 6 → Nat :=
  let c0_909 : Index := 0#32
  let c14 : Index := 14#32
  let c0_910 : Index := 0#32
  let c0_i32 : BitVec 32 := 0#32
  let c1_i32 : BitVec 32 := 1#32
  let arg9 : BitVec 32 := Scf.iv c0_i32 c1_i32 k0_t1
  let v1477 : Index := Scalar.indexCast arg9
  let c0_911 : Index := 0#32
  let c0_912 : Index := 0#32
  ![0, 14, 0, v1477.toNat, 0, 0]
def k0_off58 (k0_t1 : Fin k0_t1_loop.trips) : Fin 6 → Nat :=
  let c0_916 : Index := 0#32
  let c30 : Index := 30#32
  let c0_917 : Index := 0#32
  let c0_i32 : BitVec 32 := 0#32
  let c1_i32 : BitVec 32 := 1#32
  let arg9 : BitVec 32 := Scf.iv c0_i32 c1_i32 k0_t1
  let v1487 : Index := Scalar.indexCast arg9
  let c0_918 : Index := 0#32
  let c0_919 : Index := 0#32
  ![0, 30, 0, v1487.toNat, 0, 0]
def k0_off59 (k0_t1 : Fin k0_t1_loop.trips) : Fin 6 → Nat :=
  let c0_923 : Index := 0#32
  let c46 : Index := 46#32
  let c0_924 : Index := 0#32
  let c0_i32 : BitVec 32 := 0#32
  let c1_i32 : BitVec 32 := 1#32
  let arg9 : BitVec 32 := Scf.iv c0_i32 c1_i32 k0_t1
  let v1497 : Index := Scalar.indexCast arg9
  let c0_925 : Index := 0#32
  let c0_926 : Index := 0#32
  ![0, 46, 0, v1497.toNat, 0, 0]
def k0_off60 (k0_t1 : Fin k0_t1_loop.trips) : Fin 6 → Nat :=
  let c0_930 : Index := 0#32
  let c62 : Index := 62#32
  let c0_931 : Index := 0#32
  let c0_i32 : BitVec 32 := 0#32
  let c1_i32 : BitVec 32 := 1#32
  let arg9 : BitVec 32 := Scf.iv c0_i32 c1_i32 k0_t1
  let v1507 : Index := Scalar.indexCast arg9
  let c0_932 : Index := 0#32
  let c0_933 : Index := 0#32
  ![0, 62, 0, v1507.toNat, 0, 0]
def k0_off61 (k0_t1 : Fin k0_t1_loop.trips) : Fin 6 → Nat :=
  let c0_973 : Index := 0#32
  let c15 : Index := 15#32
  let c0_974 : Index := 0#32
  let c0_i32 : BitVec 32 := 0#32
  let c1_i32 : BitVec 32 := 1#32
  let arg9 : BitVec 32 := Scf.iv c0_i32 c1_i32 k0_t1
  let v1581 : Index := Scalar.indexCast arg9
  let c0_975 : Index := 0#32
  let c0_976 : Index := 0#32
  ![0, 15, 0, v1581.toNat, 0, 0]
def k0_off62 (k0_t1 : Fin k0_t1_loop.trips) : Fin 6 → Nat :=
  let c0_980 : Index := 0#32
  let c31 : Index := 31#32
  let c0_981 : Index := 0#32
  let c0_i32 : BitVec 32 := 0#32
  let c1_i32 : BitVec 32 := 1#32
  let arg9 : BitVec 32 := Scf.iv c0_i32 c1_i32 k0_t1
  let v1591 : Index := Scalar.indexCast arg9
  let c0_982 : Index := 0#32
  let c0_983 : Index := 0#32
  ![0, 31, 0, v1591.toNat, 0, 0]
def k0_off63 (k0_t1 : Fin k0_t1_loop.trips) : Fin 6 → Nat :=
  let c0_987 : Index := 0#32
  let c47 : Index := 47#32
  let c0_988 : Index := 0#32
  let c0_i32 : BitVec 32 := 0#32
  let c1_i32 : BitVec 32 := 1#32
  let arg9 : BitVec 32 := Scf.iv c0_i32 c1_i32 k0_t1
  let v1601 : Index := Scalar.indexCast arg9
  let c0_989 : Index := 0#32
  let c0_990 : Index := 0#32
  ![0, 47, 0, v1601.toNat, 0, 0]
def k0_off64 (k0_t1 : Fin k0_t1_loop.trips) : Fin 6 → Nat :=
  let c0_994 : Index := 0#32
  let c63 : Index := 63#32
  let c0_995 : Index := 0#32
  let c0_i32 : BitVec 32 := 0#32
  let c1_i32 : BitVec 32 := 1#32
  let arg9 : BitVec 32 := Scf.iv c0_i32 c1_i32 k0_t1
  let v1611 : Index := Scalar.indexCast arg9
  let c0_996 : Index := 0#32
  let c0_997 : Index := 0#32
  ![0, 63, 0, v1611.toNat, 0, 0]
def k0_off65 (k0_t1 : Fin k0_t1_loop.trips) (c0_i32_1050 : BitVec 32) (c0_i32_1051 : BitVec 32) : Fin 3 → Nat :=
  let c0_1052 : Index := 0#32
  let c0_1053 : Index := 0#32
  let c0_i32 : BitVec 32 := 0#32
  let c1_i32 : BitVec 32 := 1#32
  let arg9 : BitVec 32 := Scf.iv c0_i32 c1_i32 k0_t1
  let c256_i32 : BitVec 32 := 256#32
  let v1717 : BitVec 32 := Scalar.muli arg9 c256_i32
  let v1718 : BitVec 32 := Scalar.addi c0_i32_1050 v1717
  let v1719 : BitVec 32 := Scalar.addi v1718 c0_i32_1051
  let v1720 : Index := Scalar.indexCast v1719
  ![0, 0, v1720.toNat]
def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1x8x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x262144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DecodeIdeal.lean ====
variable {F : FTy → Type} [FloatOps F]
-- ==== DecodeReferenceIdeal.lean ====
abbrev S2x64x16x8x8x128 : Shape := ⟨6, ![2, 64, 16, 8, 8, 128]⟩
abbrev S2x16x64x8x128 : Shape := ⟨5, ![2, 16, 64, 8, 128]⟩
abbrev S2x8x128 : Shape := ⟨3, ![2, 8, 128]⟩
abbrev S2 : Shape := ⟨1, ![2]⟩
abbrev S1x1x1x1x2x1 : Shape := ⟨6, ![1, 1, 1, 1, 2, 1]⟩
abbrev S1x1x2x1 : Shape := ⟨4, ![1, 1, 2, 1]⟩
abbrev S2x16x8x64x8x128 : Shape := ⟨6, ![2, 16, 8, 64, 8, 128]⟩
abbrev S32x8x64x8x128 : Shape := ⟨5, ![32, 8, 64, 8, 128]⟩
abbrev S32x8x64x8x1x128 : Shape := ⟨6, ![32, 8, 64, 8, 1, 128]⟩
abbrev S_ : Shape := ⟨0, ![]⟩
abbrev S32x8x64x8x2x128 : Shape := ⟨6, ![32, 8, 64, 8, 2, 128]⟩
abbrev S32x2x4x64x2048 : Shape := ⟨5, ![32, 2, 4, 64, 2048]⟩
abbrev S32x4x64x2x2048 : Shape := ⟨5, ![32, 4, 64, 2, 2048]⟩
abbrev S32x4x262144 : Shape := ⟨3, ![32, 4, 262144]⟩
abbrev S32x4x1x262144 : Shape := ⟨4, ![32, 4, 1, 262144]⟩
abbrev S32x4x2x262144 : Shape := ⟨4, ![32, 4, 2, 262144]⟩
abbrev S2x16x8x262144 : Shape := ⟨4, ![2, 16, 8, 262144]⟩
abbrev S2x16x8x131072x2x1 : Shape := ⟨6, ![2, 16, 8, 131072, 2, 1]⟩
abbrev S2x16x8x131072x1x1 : Shape := ⟨6, ![2, 16, 8, 131072, 1, 1]⟩
abbrev S2x16x8x131072x1 : Shape := ⟨5, ![2, 16, 8, 131072, 1]⟩
abbrev S2x16x8x65536x2x2 : Shape := ⟨6, ![2, 16, 8, 65536, 2, 2]⟩
abbrev S2x16x8x65536x1x2 : Shape := ⟨6, ![2, 16, 8, 65536, 1, 2]⟩
abbrev S2x16x8x65536x2 : Shape := ⟨5, ![2, 16, 8, 65536, 2]⟩
abbrev S2x16x8x32768x2x4 : Shape := ⟨6, ![2, 16, 8, 32768, 2, 4]⟩
abbrev S2x16x8x32768x1x4 : Shape := ⟨6, ![2, 16, 8, 32768, 1, 4]⟩
abbrev S2x16x8x32768x4 : Shape := ⟨5, ![2, 16, 8, 32768, 4]⟩
abbrev S2x16x8x16384x2x8 : Shape := ⟨6, ![2, 16, 8, 16384, 2, 8]⟩
abbrev S2x16x8x16384x1x8 : Shape := ⟨6, ![2, 16, 8, 16384, 1, 8]⟩
abbrev S2x16x8x16384x8 : Shape := ⟨5, ![2, 16, 8, 16384, 8]⟩
abbrev S2x16x8x8192x2x16 : Shape := ⟨6, ![2, 16, 8, 8192, 2, 16]⟩
abbrev S2x16x8x8192x1x16 : Shape := ⟨6, ![2, 16, 8, 8192, 1, 16]⟩
abbrev S2x16x8x8192x16 : Shape := ⟨5, ![2, 16, 8, 8192, 16]⟩
abbrev S2x16x8x4096x2x32 : Shape := ⟨6, ![2, 16, 8, 4096, 2, 32]⟩
abbrev S2x16x8x4096x1x32 : Shape := ⟨6, ![2, 16, 8, 4096, 1, 32]⟩
abbrev S2x16x8x4096x32 : Shape := ⟨5, ![2, 16, 8, 4096, 32]⟩
abbrev S2x16x8x2048x2x64 : Shape := ⟨6, ![2, 16, 8, 2048, 2, 64]⟩
abbrev S2x16x8x2048x1x64 : Shape := ⟨6, ![2, 16, 8, 2048, 1, 64]⟩
abbrev S2x16x8x2048x64 : Shape := ⟨5, ![2, 16, 8, 2048, 64]⟩
abbrev S2x16x8x1024x2x128 : Shape := ⟨6, ![2, 16, 8, 1024, 2, 128]⟩
abbrev S2x16x8x1024x1x128 : Shape := ⟨6, ![2, 16, 8, 1024, 1, 128]⟩
abbrev S2x16x8x1024x128 : Shape := ⟨5, ![2, 16, 8, 1024, 128]⟩
abbrev S2x16x8x64x2x2048 : Shape := ⟨6, ![2, 16, 8, 64, 2, 2048]⟩
abbrev S2x16x8x64x1x2048 : Shape := ⟨6, ![2, 16, 8, 64, 1, 2048]⟩
abbrev S2x16x8x64x2048 : Shape := ⟨5, ![2, 16, 8, 64, 2048]⟩
abbrev S2x16x8x32x2x4096 : Shape := ⟨6, ![2, 16, 8, 32, 2, 4096]⟩
abbrev S2x16x8x32x1x4096 : Shape := ⟨6, ![2, 16, 8, 32, 1, 4096]⟩
abbrev S2x16x8x32x4096 : Shape := ⟨5, ![2, 16, 8, 32, 4096]⟩
abbrev S2x16x8x16x2x8192 : Shape := ⟨6, ![2, 16, 8, 16, 2, 8192]⟩
abbrev S2x16x8x16x1x8192 : Shape := ⟨6, ![2, 16, 8, 16, 1, 8192]⟩
abbrev S2x16x8x16x8192 : Shape := ⟨5, ![2, 16, 8, 16, 8192]⟩
abbrev S2x16x8x8x2x16384 : Shape := ⟨6, ![2, 16, 8, 8, 2, 16384]⟩
abbrev S2x16x8x8x1x16384 : Shape := ⟨6, ![2, 16, 8, 8, 1, 16384]⟩
abbrev S2x16x8x8x16384 : Shape := ⟨5, ![2, 16, 8, 8, 16384]⟩
abbrev S2x16x8x4x2x32768 : Shape := ⟨6, ![2, 16, 8, 4, 2, 32768]⟩
abbrev S2x16x8x4x1x32768 : Shape := ⟨6, ![2, 16, 8, 4, 1, 32768]⟩
abbrev S2x16x8x4x32768 : Shape := ⟨5, ![2, 16, 8, 4, 32768]⟩
abbrev S2x16x8x2x2x65536 : Shape := ⟨6, ![2, 16, 8, 2, 2, 65536]⟩
abbrev S2x16x8x2x1x65536 : Shape := ⟨6, ![2, 16, 8, 2, 1, 65536]⟩
abbrev S2x16x8x2x65536 : Shape := ⟨5, ![2, 16, 8, 2, 65536]⟩
abbrev S2x16x8x1x2x131072 : Shape := ⟨6, ![2, 16, 8, 1, 2, 131072]⟩
abbrev S2x16x8x1x1x131072 : Shape := ⟨6, ![2, 16, 8, 1, 1, 131072]⟩
abbrev S2x16x8x1x131072 : Shape := ⟨5, ![2, 16, 8, 1, 131072]⟩
abbrev S2x16x4x2x1x262144 : Shape := ⟨6, ![2, 16, 4, 2, 1, 262144]⟩
abbrev S2x16x4x1x1x262144 : Shape := ⟨6, ![2, 16, 4, 1, 1, 262144]⟩
abbrev S2x16x4x1x262144 : Shape := ⟨5, ![2, 16, 4, 1, 262144]⟩
abbrev S2x16x2x2x2x262144 : Shape := ⟨6, ![2, 16, 2, 2, 2, 262144]⟩
abbrev S2x16x2x1x2x262144 : Shape := ⟨6, ![2, 16, 2, 1, 2, 262144]⟩
abbrev S2x16x2x2x262144 : Shape := ⟨5, ![2, 16, 2, 2, 262144]⟩
abbrev S2x16x1x2x4x262144 : Shape := ⟨6, ![2, 16, 1, 2, 4, 262144]⟩
abbrev S2x16x1x1x4x262144 : Shape := ⟨6, ![2, 16, 1, 1, 4, 262144]⟩
abbrev S2x16x1x4x262144 : Shape := ⟨5, ![2, 16, 1, 4, 262144]⟩
abbrev S32 : Shape := ⟨1, ![32]⟩
abbrev S1x1x1x1x32x1 : Shape := ⟨6, ![1, 1, 1, 1, 32, 1]⟩
abbrev S2x16x8x64x128 : Shape := ⟨5, ![2, 16, 8, 64, 128]⟩
abbrev S2x16x8x64x1x128 : Shape := ⟨6, ![2, 16, 8, 64, 1, 128]⟩
abbrev S2x16x8x64x32x128 : Shape := ⟨6, ![2, 16, 8, 64, 32, 128]⟩
abbrev S2x128x262144 : Shape := ⟨3, ![2, 128, 262144]⟩
abbrev S2x1x1 : Shape := ⟨3, ![2, 1, 1]⟩

abbrev nBuf : Space → Nat
  | .hbm => 272
  | .vmem => 0
  | .smem => 0
  | _ => 0

abbrev hbmTy0_0 (i : Nat) : BufTy := match i % 128 with
  | 0 => ⟨S2x64x16x8x8x128, .i32⟩
  | 1 => ⟨S2x16x64x8x128, .i32⟩
  | 2 => ⟨S2x8x128, .f32⟩
  | 3 => ⟨S2x8x128, .f32⟩
  | 4 => ⟨S2, .i32⟩
  | 5 => ⟨S1x1x1x1x2x1, .i32⟩
  | 6 => ⟨S2, .i32⟩
  | 7 => ⟨S1x1x2x1, .i32⟩
  | 8 => ⟨S2x16x8x64x8x128, .i32⟩
  | 9 => ⟨S32x8x64x8x128, .i32⟩
  | 10 => ⟨S32x8x64x8x1x128, .i32⟩
  | 11 => ⟨S_, .i32⟩
  | 12 => ⟨S1x1x1x1x2x1, .i32⟩
  | 13 => ⟨S1x1x1x1x2x1, .i32⟩
  | 14 => ⟨S32x8x64x8x2x128, .i32⟩
  | 15 => ⟨S32x8x64x8x2x128, .i32⟩
  | 16 => ⟨S32x8x64x8x2x128, .i32⟩
  | 17 => ⟨S32x2x4x64x2048, .i32⟩
  | 18 => ⟨S32x4x64x2x2048, .i32⟩
  | 19 => ⟨S32x4x262144, .i32⟩
  | 20 => ⟨S32x4x1x262144, .i32⟩
  | 21 => ⟨S_, .i32⟩
  | 22 => ⟨S1x1x2x1, .i32⟩
  | 23 => ⟨S1x1x2x1, .i32⟩
  | 24 => ⟨S32x4x2x262144, .i32⟩
  | 25 => ⟨S32x4x2x262144, .i32⟩
  | 26 => ⟨S32x4x2x262144, .i32⟩
  | 27 => ⟨S_, .i32⟩
  | 28 => ⟨S32x4x2x262144, .i32⟩
  | 29 => ⟨S32x4x2x262144, .i32⟩
  | 30 => ⟨S32x4x2x262144, .f32⟩
  | 31 => ⟨S_, .f32⟩
  | 32 => ⟨S32x4x2x262144, .f32⟩
  | 33 => ⟨S32x4x2x262144, .f32⟩
  | 34 => ⟨S_, .f32⟩
  | 35 => ⟨S32x4x2x262144, .f32⟩
  | 36 => ⟨S32x4x2x262144, .f32⟩
  | 37 => ⟨S2x16x8x262144, .f32⟩
  | 38 => ⟨S2x16x8x131072x2x1, .f32⟩
  | 39 => ⟨S2x16x8x131072x1x1, .f32⟩
  | 40 => ⟨S2x16x8x131072x1, .f32⟩
  | 41 => ⟨S2x16x8x131072x1x1, .f32⟩
  | 42 => ⟨S2x16x8x131072x1, .f32⟩
  | 43 => ⟨S2x16x8x131072x1, .f32⟩
  | 44 => ⟨S2x16x8x131072x1, .f32⟩
  | 45 => ⟨S2x16x8x131072x1x1, .f32⟩
  | 46 => ⟨S2x16x8x131072x1x1, .f32⟩
  | 47 => ⟨S2x16x8x131072x2x1, .f32⟩
  | 48 => ⟨S2x16x8x262144, .f32⟩
  | 49 => ⟨S2x16x8x65536x2x2, .f32⟩
  | 50 => ⟨S2x16x8x65536x1x2, .f32⟩
  | 51 => ⟨S2x16x8x65536x2, .f32⟩
  | 52 => ⟨S2x16x8x65536x1x2, .f32⟩
  | 53 => ⟨S2x16x8x65536x2, .f32⟩
  | 54 => ⟨S2x16x8x65536x2, .f32⟩
  | 55 => ⟨S2x16x8x65536x2, .f32⟩
  | 56 => ⟨S2x16x8x65536x1x2, .f32⟩
  | 57 => ⟨S2x16x8x65536x1x2, .f32⟩
  | 58 => ⟨S2x16x8x65536x2x2, .f32⟩
  | 59 => ⟨S2x16x8x262144, .f32⟩
  | 60 => ⟨S2x16x8x32768x2x4, .f32⟩
  | 61 => ⟨S2x16x8x32768x1x4, .f32⟩
  | 62 => ⟨S2x16x8x32768x4, .f32⟩
  | 63 => ⟨S2x16x8x32768x1x4, .f32⟩
  | 64 => ⟨S2x16x8x32768x4, .f32⟩
  | 65 => ⟨S2x16x8x32768x4, .f32⟩
  | 66 => ⟨S2x16x8x32768x4, .f32⟩
  | 67 => ⟨S2x16x8x32768x1x4, .f32⟩
  | 68 => ⟨S2x16x8x32768x1x4, .f32⟩
  | 69 => ⟨S2x16x8x32768x2x4, .f32⟩
  | 70 => ⟨S2x16x8x262144, .f32⟩
  | 71 => ⟨S2x16x8x16384x2x8, .f32⟩
  | 72 => ⟨S2x16x8x16384x1x8, .f32⟩
  | 73 => ⟨S2x16x8x16384x8, .f32⟩
  | 74 => ⟨S2x16x8x16384x1x8, .f32⟩
  | 75 => ⟨S2x16x8x16384x8, .f32⟩
  | 76 => ⟨S2x16x8x16384x8, .f32⟩
  | 77 => ⟨S2x16x8x16384x8, .f32⟩
  | 78 => ⟨S2x16x8x16384x1x8, .f32⟩
  | 79 => ⟨S2x16x8x16384x1x8, .f32⟩
  | 80 => ⟨S2x16x8x16384x2x8, .f32⟩
  | 81 => ⟨S2x16x8x262144, .f32⟩
  | 82 => ⟨S2x16x8x8192x2x16, .f32⟩
  | 83 => ⟨S2x16x8x8192x1x16, .f32⟩
  | 84 => ⟨S2x16x8x8192x16, .f32⟩
  | 85 => ⟨S2x16x8x8192x1x16, .f32⟩
  | 86 => ⟨S2x16x8x8192x16, .f32⟩
  | 87 => ⟨S2x16x8x8192x16, .f32⟩
  | 88 => ⟨S2x16x8x8192x16, .f32⟩
  | 89 => ⟨S2x16x8x8192x1x16, .f32⟩
  | 90 => ⟨S2x16x8x8192x1x16, .f32⟩
  | 91 => ⟨S2x16x8x8192x2x16, .f32⟩
  | 92 => ⟨S2x16x8x262144, .f32⟩
  | 93 => ⟨S2x16x8x4096x2x32, .f32⟩
  | 94 => ⟨S2x16x8x4096x1x32, .f32⟩
  | 95 => ⟨S2x16x8x4096x32, .f32⟩
  | 96 => ⟨S2x16x8x4096x1x32, .f32⟩
  | 97 => ⟨S2x16x8x4096x32, .f32⟩
  | 98 => ⟨S2x16x8x4096x32, .f32⟩
  | 99 => ⟨S2x16x8x4096x32, .f32⟩
  | 100 => ⟨S2x16x8x4096x1x32, .f32⟩
  | 101 => ⟨S2x16x8x4096x1x32, .f32⟩
  | 102 => ⟨S2x16x8x4096x2x32, .f32⟩
  | 103 => ⟨S2x16x8x262144, .f32⟩
  | 104 => ⟨S2x16x8x2048x2x64, .f32⟩
  | 105 => ⟨S2x16x8x2048x1x64, .f32⟩
  | 106 => ⟨S2x16x8x2048x64, .f32⟩
  | 107 => ⟨S2x16x8x2048x1x64, .f32⟩
  | 108 => ⟨S2x16x8x2048x64, .f32⟩
  | 109 => ⟨S2x16x8x2048x64, .f32⟩
  | 110 => ⟨S2x16x8x2048x64, .f32⟩
  | 111 => ⟨S2x16x8x2048x1x64, .f32⟩
  | 112 => ⟨S2x16x8x2048x1x64, .f32⟩
  | 113 => ⟨S2x16x8x2048x2x64, .f32⟩
  | 114 => ⟨S2x16x8x262144, .f32⟩
  | 115 => ⟨S2x16x8x1024x2x128, .f32⟩
  | 116 => ⟨S2x16x8x1024x1x128, .f32⟩
  | 117 => ⟨S2x16x8x1024x128, .f32⟩
  | 118 => ⟨S2x16x8x1024x1x128, .f32⟩
  | 119 => ⟨S2x16x8x1024x128, .f32⟩
  | 120 => ⟨S2x16x8x1024x128, .f32⟩
  | 121 => ⟨S2x16x8x1024x128, .f32⟩
  | 122 => ⟨S2x16x8x1024x1x128, .f32⟩
  | 123 => ⟨S2x16x8x1024x1x128, .f32⟩
  | 124 => ⟨S2x16x8x1024x2x128, .f32⟩
  | 125 => ⟨S2x16x8x262144, .f32⟩
  | 126 => ⟨S2x16x8x64x2x2048, .f32⟩
  | 127 => ⟨S2x16x8x64x1x2048, .f32⟩
  | _ => ⟨S2x64x16x8x8x128, .i32⟩

abbrev hbmTy0_1 (i : Nat) : BufTy := match i % 128 with
  | 0 => ⟨S2x16x8x64x2048, .f32⟩
  | 1 => ⟨S2x16x8x64x1x2048, .f32⟩
  | 2 => ⟨S2x16x8x64x2048, .f32⟩
  | 3 => ⟨S2x16x8x64x2048, .f32⟩
  | 4 => ⟨S2x16x8x64x2048, .f32⟩
  | 5 => ⟨S2x16x8x64x1x2048, .f32⟩
  | 6 => ⟨S2x16x8x64x1x2048, .f32⟩
  | 7 => ⟨S2x16x8x64x2x2048, .f32⟩
  | 8 => ⟨S2x16x8x262144, .f32⟩
  | 9 => ⟨S2x16x8x32x2x4096, .f32⟩
  | 10 => ⟨S2x16x8x32x1x4096, .f32⟩
  | 11 => ⟨S2x16x8x32x4096, .f32⟩
  | 12 => ⟨S2x16x8x32x1x4096, .f32⟩
  | 13 => ⟨S2x16x8x32x4096, .f32⟩
  | 14 => ⟨S2x16x8x32x4096, .f32⟩
  | 15 => ⟨S2x16x8x32x4096, .f32⟩
  | 16 => ⟨S2x16x8x32x1x4096, .f32⟩
  | 17 => ⟨S2x16x8x32x1x4096, .f32⟩
  | 18 => ⟨S2x16x8x32x2x4096, .f32⟩
  | 19 => ⟨S2x16x8x262144, .f32⟩
  | 20 => ⟨S2x16x8x16x2x8192, .f32⟩
  | 21 => ⟨S2x16x8x16x1x8192, .f32⟩
  | 22 => ⟨S2x16x8x16x8192, .f32⟩
  | 23 => ⟨S2x16x8x16x1x8192, .f32⟩
  | 24 => ⟨S2x16x8x16x8192, .f32⟩
  | 25 => ⟨S2x16x8x16x8192, .f32⟩
  | 26 => ⟨S2x16x8x16x8192, .f32⟩
  | 27 => ⟨S2x16x8x16x1x8192, .f32⟩
  | 28 => ⟨S2x16x8x16x1x8192, .f32⟩
  | 29 => ⟨S2x16x8x16x2x8192, .f32⟩
  | 30 => ⟨S2x16x8x262144, .f32⟩
  | 31 => ⟨S2x16x8x8x2x16384, .f32⟩
  | 32 => ⟨S2x16x8x8x1x16384, .f32⟩
  | 33 => ⟨S2x16x8x8x16384, .f32⟩
  | 34 => ⟨S2x16x8x8x1x16384, .f32⟩
  | 35 => ⟨S2x16x8x8x16384, .f32⟩
  | 36 => ⟨S2x16x8x8x16384, .f32⟩
  | 37 => ⟨S2x16x8x8x16384, .f32⟩
  | 38 => ⟨S2x16x8x8x1x16384, .f32⟩
  | 39 => ⟨S2x16x8x8x1x16384, .f32⟩
  | 40 => ⟨S2x16x8x8x2x16384, .f32⟩
  | 41 => ⟨S2x16x8x262144, .f32⟩
  | 42 => ⟨S2x16x8x4x2x32768, .f32⟩
  | 43 => ⟨S2x16x8x4x1x32768, .f32⟩
  | 44 => ⟨S2x16x8x4x32768, .f32⟩
  | 45 => ⟨S2x16x8x4x1x32768, .f32⟩
  | 46 => ⟨S2x16x8x4x32768, .f32⟩
  | 47 => ⟨S2x16x8x4x32768, .f32⟩
  | 48 => ⟨S2x16x8x4x32768, .f32⟩
  | 49 => ⟨S2x16x8x4x1x32768, .f32⟩
  | 50 => ⟨S2x16x8x4x1x32768, .f32⟩
  | 51 => ⟨S2x16x8x4x2x32768, .f32⟩
  | 52 => ⟨S2x16x8x262144, .f32⟩
  | 53 => ⟨S2x16x8x2x2x65536, .f32⟩
  | 54 => ⟨S2x16x8x2x1x65536, .f32⟩
  | 55 => ⟨S2x16x8x2x65536, .f32⟩
  | 56 => ⟨S2x16x8x2x1x65536, .f32⟩
  | 57 => ⟨S2x16x8x2x65536, .f32⟩
  | 58 => ⟨S2x16x8x2x65536, .f32⟩
  | 59 => ⟨S2x16x8x2x65536, .f32⟩
  | 60 => ⟨S2x16x8x2x1x65536, .f32⟩
  | 61 => ⟨S2x16x8x2x1x65536, .f32⟩
  | 62 => ⟨S2x16x8x2x2x65536, .f32⟩
  | 63 => ⟨S2x16x8x262144, .f32⟩
  | 64 => ⟨S2x16x8x1x2x131072, .f32⟩
  | 65 => ⟨S2x16x8x1x1x131072, .f32⟩
  | 66 => ⟨S2x16x8x1x131072, .f32⟩
  | 67 => ⟨S2x16x8x1x1x131072, .f32⟩
  | 68 => ⟨S2x16x8x1x131072, .f32⟩
  | 69 => ⟨S2x16x8x1x131072, .f32⟩
  | 70 => ⟨S2x16x8x1x131072, .f32⟩
  | 71 => ⟨S2x16x8x1x1x131072, .f32⟩
  | 72 => ⟨S2x16x8x1x1x131072, .f32⟩
  | 73 => ⟨S2x16x8x1x2x131072, .f32⟩
  | 74 => ⟨S2x16x8x262144, .f32⟩
  | 75 => ⟨S2x16x4x2x1x262144, .f32⟩
  | 76 => ⟨S2x16x4x1x1x262144, .f32⟩
  | 77 => ⟨S2x16x4x1x262144, .f32⟩
  | 78 => ⟨S2x16x4x1x1x262144, .f32⟩
  | 79 => ⟨S2x16x4x1x262144, .f32⟩
  | 80 => ⟨S2x16x4x1x262144, .f32⟩
  | 81 => ⟨S2x16x4x1x262144, .f32⟩
  | 82 => ⟨S2x16x4x1x1x262144, .f32⟩
  | 83 => ⟨S2x16x4x1x1x262144, .f32⟩
  | 84 => ⟨S2x16x4x2x1x262144, .f32⟩
  | 85 => ⟨S2x16x8x262144, .f32⟩
  | 86 => ⟨S2x16x2x2x2x262144, .f32⟩
  | 87 => ⟨S2x16x2x1x2x262144, .f32⟩
  | 88 => ⟨S2x16x2x2x262144, .f32⟩
  | 89 => ⟨S2x16x2x1x2x262144, .f32⟩
  | 90 => ⟨S2x16x2x2x262144, .f32⟩
  | 91 => ⟨S2x16x2x2x262144, .f32⟩
  | 92 => ⟨S2x16x2x2x262144, .f32⟩
  | 93 => ⟨S2x16x2x1x2x262144, .f32⟩
  | 94 => ⟨S2x16x2x1x2x262144, .f32⟩
  | 95 => ⟨S2x16x2x2x2x262144, .f32⟩
  | 96 => ⟨S2x16x8x262144, .f32⟩
  | 97 => ⟨S2x16x1x2x4x262144, .f32⟩
  | 98 => ⟨S2x16x1x1x4x262144, .f32⟩
  | 99 => ⟨S2x16x1x4x262144, .f32⟩
  | 100 => ⟨S2x16x1x1x4x262144, .f32⟩
  | 101 => ⟨S2x16x1x4x262144, .f32⟩
  | 102 => ⟨S2x16x1x4x262144, .f32⟩
  | 103 => ⟨S2x16x1x4x262144, .f32⟩
  | 104 => ⟨S2x16x1x1x4x262144, .f32⟩
  | 105 => ⟨S2x16x1x1x4x262144, .f32⟩
  | 106 => ⟨S2x16x1x2x4x262144, .f32⟩
  | 107 => ⟨S2x16x8x262144, .f32⟩
  | 108 => ⟨S_, .f32⟩
  | 109 => ⟨S2, .f32⟩
  | 110 => ⟨S_, .f32⟩
  | 111 => ⟨S2, .f32⟩
  | 112 => ⟨S_, .f32⟩
  | 113 => ⟨S2, .f32⟩
  | 114 => ⟨S2, .f32⟩
  | 115 => ⟨S2, .f32⟩
  | 116 => ⟨S32, .i32⟩
  | 117 => ⟨S1x1x1x1x32x1, .i32⟩
  | 118 => ⟨S2x16x8x64x128, .i32⟩
  | 119 => ⟨S2x16x8x64x1x128, .i32⟩
  | 120 => ⟨S2x16x8x64x32x128, .i32⟩
  | 121 => ⟨S2x16x8x64x32x128, .i32⟩
  | 122 => ⟨S2x16x8x64x32x128, .i32⟩
  | 123 => ⟨S_, .i32⟩
  | 124 => ⟨S2x16x8x64x32x128, .i32⟩
  | 125 => ⟨S2x16x8x64x32x128, .i32⟩
  | 126 => ⟨S2x16x8x64x32x128, .f32⟩
  | 127 => ⟨S_, .f32⟩
  | _ => ⟨S2x64x16x8x8x128, .i32⟩

abbrev hbmTy0_2 (i : Nat) : BufTy := match i % 128 with
  | 0 => ⟨S2x16x8x64x32x128, .f32⟩
  | 1 => ⟨S2x16x8x64x32x128, .f32⟩
  | 2 => ⟨S_, .f32⟩
  | 3 => ⟨S2x16x8x64x32x128, .f32⟩
  | 4 => ⟨S2x16x8x64x32x128, .f32⟩
  | 5 => ⟨S2x128x262144, .f32⟩
  | 6 => ⟨S2x1x1, .f32⟩
  | 7 => ⟨S2x128x262144, .f32⟩
  | 8 => ⟨S_, .f32⟩
  | 9 => ⟨S2x128x262144, .f32⟩
  | 10 => ⟨S2x128x262144, .f32⟩
  | 11 => ⟨S2x128x262144, .f32⟩
  | 12 => ⟨S2x128x262144, .f32⟩
  | 13 => ⟨S2x128x262144, .f32⟩
  | 14 => ⟨S2x1x1, .f32⟩
  | 15 => ⟨S2x8x128, .f32⟩
  | _ => ⟨S2x64x16x8x8x128, .i32⟩

abbrev hbmTy (i : Nat) : BufTy := match i / 128 with
  | 0 => hbmTy0_0 i
  | 1 => hbmTy0_1 i
  | 2 => hbmTy0_2 i
  | _ => ⟨S2x64x16x8x8x128, .i32⟩

abbrev bufTy : (tb : Table) → Fin (tcTables nBuf tb) → BufTy
  | .hbm, ⟨i, _⟩ => hbmTy i
  | _, _ => ⟨S2x64x16x8x8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_cst_3 : Ref sig .tc := ⟨.hbm, 236, rfl⟩
abbrev main_v227 : Ref sig .tc := ⟨.hbm, 237, rfl⟩
abbrev main_cst_4 : Ref sig .tc := ⟨.hbm, 238, rfl⟩
abbrev main_v228 : Ref sig .tc := ⟨.hbm, 239, rfl⟩
abbrev main_cst_5 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_c_6 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_cst_7 : Ref sig .tc := ⟨.hbm, 255, rfl⟩
abbrev main_v242 : Ref sig .tc := ⟨.hbm, 256, rfl⟩
abbrev main_v243 : Ref sig .tc := ⟨.hbm, 257, rfl⟩
abbrev main_cst_8 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_cst_9 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩

abbrev nD : Nat := 1
abbrev τ : Topo := Topo.v7x

variable {F : FTy → Type} [FloatOps F]
-- ==== Kernel.lean ====
abbrev S2x128x262144 : Shape := ⟨3, ![2, 128, 262144]⟩
abbrev S2x16x64x8x128 : Shape := ⟨5, ![2, 16, 64, 8, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x8x128 : Shape := ⟨3, ![2, 8, 128]⟩
abbrev S1x8x262144 : Shape := ⟨3, ![1, 8, 262144]⟩
abbrev S1x1x64x8x128 : Shape := ⟨5, ![1, 1, 64, 8, 128]⟩
abbrev S1x8x128 : Shape := ⟨3, ![1, 8, 128]⟩
abbrev S8x128 : Shape := ⟨2, ![8, 128]⟩
abbrev S1x1x1x8x128 : Shape := ⟨5, ![1, 1, 1, 8, 128]⟩
abbrev S8x256 : Shape := ⟨2, ![8, 256]⟩
abbrev S1x8x256 : Shape := ⟨3, ![1, 8, 256]⟩

abbrev nBuf : Space → Nat
  | .hbm => 22
  | .vmem => 9
  | .smem => 0
  | _ => 0

abbrev bufTy : (tb : Table) → Fin (tcTables nBuf tb) → BufTy
  | .hbm, ⟨0, _⟩ => ⟨S2x128x262144, .f32⟩
  | .hbm, ⟨1, _⟩ => ⟨S2x16x64x8x128, .i32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .f32⟩
  | .hbm, ⟨19, _⟩ => ⟨S256x256, .bf16⟩
  | .hbm, ⟨20, _⟩ => ⟨S2x128x262144, .f32⟩
  | .hbm, ⟨21, _⟩ => ⟨S2x8x128, .f32⟩
  | .local _ .vmem, ⟨0, _⟩ => ⟨S1x8x262144, .f32⟩
  | .local _ .vmem, ⟨1, _⟩ => ⟨S1x8x262144, .f32⟩
  | .local _ .vmem, ⟨2, _⟩ => ⟨S1x1x64x8x128, .i32⟩
  | .local _ .vmem, ⟨3, _⟩ => ⟨S1x1x64x8x128, .i32⟩
  | .local _ .vmem, ⟨4, _⟩ => ⟨S256x256, .bf16⟩
  | .local _ .vmem, ⟨5, _⟩ => ⟨S1x8x262144, .f32⟩
  | .local _ .vmem, ⟨6, _⟩ => ⟨S1x8x262144, .f32⟩
  | .local _ .vmem, ⟨7, _⟩ => ⟨S1x8x128, .f32⟩
  | .local _ .vmem, ⟨8, _⟩ => ⟨S1x8x128, .f32⟩
  | _, _ => ⟨S2x128x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨2, ![2, 16], ![false, false]⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off1 (k0_t1 : Fin k0_t1_loop.trips) (c0_i32_9 : BitVec 32) : Fin 5 → Nat :=
  let c0_10 : Index := 0#32
  let c0_11 : Index := 0#32
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let v13 : BitVec 32 := Scalar.addi v12 c0_i32_9
  let v14 : Index := Scalar.indexCast v13
  let c0_12 : Index := 0#32
  let c0_13 : Index := 0#32
  ![0, 0, v14.toNat, 0, 0]
def k0_off2 (k0_t1 : Fin k0_t1_loop.trips) (c0_i32_14 : BitVec 32) (c0_i32_15 : BitVec 32) : Fin 3 → Nat :=
  let c0_16 : Index := 0#32
  let c0_17 : Index := 0#32
  let c0_i32 : BitVec 32 := 0#32
  let c1_i32 : BitVec 32 := 1#32
  let arg7 : BitVec 32 := Scf.iv c0_i32 c1_i32 k0_t1
  let c8192_i32 : BitVec 32 := 8192#32
  let v17 : BitVec 32 := Scalar.muli arg7 c8192_i32
  let v18 : BitVec 32 := Scalar.addi v17 c0_i32_14
  let v19 : BitVec 32 := Scalar.addi v18 c0_i32_15
  let v20 : Index := Scalar.indexCast v19
  ![0, 0, v20.toNat]
def k0_off3 (k0_t1 : Fin k0_t1_loop.trips) (c0_i32_787 : BitVec 32) : Fin 3 → Nat :=
  let c0_788 : Index := 0#32
  let c0_789 : Index := 0#32
  let c0_i32 : BitVec 32 := 0#32
  let c1_i32 : BitVec 32 := 1#32
  let arg7 : BitVec 32 := Scf.iv c0_i32 c1_i32 k0_t1
  let c8192_i32_786 : BitVec 32 := 8192#32
  let v1394 : BitVec 32 := Scalar.muli arg7 c8192_i32_786
  let v1395 : BitVec 32 := Scalar.addi v1394 c0_i32_787
  let v1396 : Index := Scalar.indexCast v1395
  ![0, 0, v1396.toNat]
@[reducible] def k0_t2_loop : Scf.Loop 32 :=
  let c0_i32_6 : BitVec 32 := 0#32
  let c64_i32 : BitVec 32 := 64#32
  let v11 : BitVec 32 := Scalar.addi c0_i32_6 c64_i32
  let c1_i32_7 : BitVec 32 := 1#32
  ⟨c0_i32_6, v11, c1_i32_7⟩
def k0_off4 (k0_t2 : Fin k0_t2_loop.trips) (c0_i32_9 : BitVec 32) : Fin 3 → Nat :=
  let c0_10 : Index := 0#32
  let c0_11 : Index := 0#32
  let c0_i32_6 : BitVec 32 := 0#32
  let c1_i32_7 : BitVec 32 := 1#32
  let arg7 : BitVec 32 := Scf.iv c0_i32_6 c1_i32_7 k0_t2
  let c128_i32 : BitVec 32 := 128#32
  let v12 : BitVec 32 := Scalar.muli arg7 c128_i32
  let v13 : BitVec 32 := Scalar.addi c0_i32_9 v12
  let v14 : Index := Scalar.indexCast v13
  ![0, 0, v14.toNat]
def k0_cond1 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .ne arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x262144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F]
-- ==== ReferenceIdeal.lean ====
abbrev S2x128x262144 : Shape := ⟨3, ![2, 128, 262144]⟩
abbrev S2x16x64x8x128 : Shape := ⟨5, ![2, 16, 64, 8, 128]⟩
abbrev S32 : Shape := ⟨1, ![32]⟩
abbrev S1x1x1x1x32x1 : Shape := ⟨6, ![1, 1, 1, 1, 32, 1]⟩
abbrev S2x16x8x64x128 : Shape := ⟨5, ![2, 16, 8, 64, 128]⟩
abbrev S2x16x8x64x1x128 : Shape := ⟨6, ![2, 16, 8, 64, 1, 128]⟩
abbrev S2x16x8x64x32x128 : Shape := ⟨6, ![2, 16, 8, 64, 32, 128]⟩
abbrev S_ : Shape := ⟨0, ![]⟩
abbrev S2x16x8x262144 : Shape := ⟨4, ![2, 16, 8, 262144]⟩
abbrev S2x16x8x131072x2x1 : Shape := ⟨6, ![2, 16, 8, 131072, 2, 1]⟩
abbrev S2x16x8x131072x1x1 : Shape := ⟨6, ![2, 16, 8, 131072, 1, 1]⟩
abbrev S2x16x8x131072x1 : Shape := ⟨5, ![2, 16, 8, 131072, 1]⟩
abbrev S2x16x8x65536x2x2 : Shape := ⟨6, ![2, 16, 8, 65536, 2, 2]⟩
abbrev S2x16x8x65536x1x2 : Shape := ⟨6, ![2, 16, 8, 65536, 1, 2]⟩
abbrev S2x16x8x65536x2 : Shape := ⟨5, ![2, 16, 8, 65536, 2]⟩
abbrev S2x16x8x32768x2x4 : Shape := ⟨6, ![2, 16, 8, 32768, 2, 4]⟩
abbrev S2x16x8x32768x1x4 : Shape := ⟨6, ![2, 16, 8, 32768, 1, 4]⟩
abbrev S2x16x8x32768x4 : Shape := ⟨5, ![2, 16, 8, 32768, 4]⟩
abbrev S2x16x8x16384x2x8 : Shape := ⟨6, ![2, 16, 8, 16384, 2, 8]⟩
abbrev S2x16x8x16384x1x8 : Shape := ⟨6, ![2, 16, 8, 16384, 1, 8]⟩
abbrev S2x16x8x16384x8 : Shape := ⟨5, ![2, 16, 8, 16384, 8]⟩
abbrev S2x16x8x8192x2x16 : Shape := ⟨6, ![2, 16, 8, 8192, 2, 16]⟩
abbrev S2x16x8x8192x1x16 : Shape := ⟨6, ![2, 16, 8, 8192, 1, 16]⟩
abbrev S2x16x8x8192x16 : Shape := ⟨5, ![2, 16, 8, 8192, 16]⟩
abbrev S2x16x8x4096x2x32 : Shape := ⟨6, ![2, 16, 8, 4096, 2, 32]⟩
abbrev S2x16x8x4096x1x32 : Shape := ⟨6, ![2, 16, 8, 4096, 1, 32]⟩
abbrev S2x16x8x4096x32 : Shape := ⟨5, ![2, 16, 8, 4096, 32]⟩
abbrev S2x16x8x2048x2x64 : Shape := ⟨6, ![2, 16, 8, 2048, 2, 64]⟩
abbrev S2x16x8x2048x1x64 : Shape := ⟨6, ![2, 16, 8, 2048, 1, 64]⟩
abbrev S2x16x8x2048x64 : Shape := ⟨5, ![2, 16, 8, 2048, 64]⟩
abbrev S2x16x8x1024x2x128 : Shape := ⟨6, ![2, 16, 8, 1024, 2, 128]⟩
abbrev S2x16x8x1024x1x128 : Shape := ⟨6, ![2, 16, 8, 1024, 1, 128]⟩
abbrev S2x16x8x1024x128 : Shape := ⟨5, ![2, 16, 8, 1024, 128]⟩
abbrev S2x16x8x512x2x256 : Shape := ⟨6, ![2, 16, 8, 512, 2, 256]⟩
abbrev S2x16x8x512x1x256 : Shape := ⟨6, ![2, 16, 8, 512, 1, 256]⟩
abbrev S2x16x8x512x256 : Shape := ⟨5, ![2, 16, 8, 512, 256]⟩
abbrev S2x16x8x256x2x512 : Shape := ⟨6, ![2, 16, 8, 256, 2, 512]⟩
abbrev S2x16x8x256x1x512 : Shape := ⟨6, ![2, 16, 8, 256, 1, 512]⟩
abbrev S2x16x8x256x512 : Shape := ⟨5, ![2, 16, 8, 256, 512]⟩
abbrev S2x16x8x128x2x1024 : Shape := ⟨6, ![2, 16, 8, 128, 2, 1024]⟩
abbrev S2x16x8x128x1x1024 : Shape := ⟨6, ![2, 16, 8, 128, 1, 1024]⟩
abbrev S2x16x8x128x1024 : Shape := ⟨5, ![2, 16, 8, 128, 1024]⟩
abbrev S2x16x8x64x2x2048 : Shape := ⟨6, ![2, 16, 8, 64, 2, 2048]⟩
abbrev S2x16x8x64x1x2048 : Shape := ⟨6, ![2, 16, 8, 64, 1, 2048]⟩
abbrev S2x16x8x64x2048 : Shape := ⟨5, ![2, 16, 8, 64, 2048]⟩
abbrev S2x16x8x32x2x4096 : Shape := ⟨6, ![2, 16, 8, 32, 2, 4096]⟩
abbrev S2x16x8x32x1x4096 : Shape := ⟨6, ![2, 16, 8, 32, 1, 4096]⟩
abbrev S2x16x8x32x4096 : Shape := ⟨5, ![2, 16, 8, 32, 4096]⟩
abbrev S2x16x8x16x2x8192 : Shape := ⟨6, ![2, 16, 8, 16, 2, 8192]⟩
abbrev S2x16x8x16x1x8192 : Shape := ⟨6, ![2, 16, 8, 16, 1, 8192]⟩
abbrev S2x16x8x16x8192 : Shape := ⟨5, ![2, 16, 8, 16, 8192]⟩
abbrev S2x16x8x8x2x16384 : Shape := ⟨6, ![2, 16, 8, 8, 2, 16384]⟩
abbrev S2x16x8x8x1x16384 : Shape := ⟨6, ![2, 16, 8, 8, 1, 16384]⟩
abbrev S2x16x8x8x16384 : Shape := ⟨5, ![2, 16, 8, 8, 16384]⟩
abbrev S2x16x8x4x2x32768 : Shape := ⟨6, ![2, 16, 8, 4, 2, 32768]⟩
abbrev S2x16x8x4x1x32768 : Shape := ⟨6, ![2, 16, 8, 4, 1, 32768]⟩
abbrev S2x16x8x4x32768 : Shape := ⟨5, ![2, 16, 8, 4, 32768]⟩
abbrev S2x16x8x2x2x65536 : Shape := ⟨6, ![2, 16, 8, 2, 2, 65536]⟩
abbrev S2x16x8x2x1x65536 : Shape := ⟨6, ![2, 16, 8, 2, 1, 65536]⟩
abbrev S2x16x8x2x65536 : Shape := ⟨5, ![2, 16, 8, 2, 65536]⟩
abbrev S2x16x8x1x2x131072 : Shape := ⟨6, ![2, 16, 8, 1, 2, 131072]⟩
abbrev S2x16x8x1x1x131072 : Shape := ⟨6, ![2, 16, 8, 1, 1, 131072]⟩
abbrev S2x16x8x1x131072 : Shape := ⟨5, ![2, 16, 8, 1, 131072]⟩
abbrev S2x16x4x2x1x262144 : Shape := ⟨6, ![2, 16, 4, 2, 1, 262144]⟩
abbrev S2x16x4x1x1x262144 : Shape := ⟨6, ![2, 16, 4, 1, 1, 262144]⟩
abbrev S2x16x4x1x262144 : Shape := ⟨5, ![2, 16, 4, 1, 262144]⟩
abbrev S2x16x2x2x2x262144 : Shape := ⟨6, ![2, 16, 2, 2, 2, 262144]⟩
abbrev S2x16x2x1x2x262144 : Shape := ⟨6, ![2, 16, 2, 1, 2, 262144]⟩
abbrev S2x16x2x2x262144 : Shape := ⟨5, ![2, 16, 2, 2, 262144]⟩
abbrev S2x16x1x2x4x262144 : Shape := ⟨6, ![2, 16, 1, 2, 4, 262144]⟩
abbrev S2x16x1x1x4x262144 : Shape := ⟨6, ![2, 16, 1, 1, 4, 262144]⟩
abbrev S2x16x1x4x262144 : Shape := ⟨5, ![2, 16, 1, 4, 262144]⟩
abbrev S2x16x8x2048x128 : Shape := ⟨5, ![2, 16, 8, 2048, 128]⟩
abbrev S2x8x128 : Shape := ⟨3, ![2, 8, 128]⟩

abbrev nBuf : Space → Nat
  | .hbm => 258
  | .vmem => 0
  | .smem => 0
  | _ => 0

abbrev hbmTy0_0 (i : Nat) : BufTy := match i % 128 with
  | 0 => ⟨S2x128x262144, .f32⟩
  | 1 => ⟨S2x16x64x8x128, .i32⟩
  | 2 => ⟨S32, .i32⟩
  | 3 => ⟨S1x1x1x1x32x1, .i32⟩
  | 4 => ⟨S2x16x8x64x128, .i32⟩
  | 5 => ⟨S2x16x8x64x1x128, .i32⟩
  | 6 => ⟨S2x16x8x64x32x128, .i32⟩
  | 7 => ⟨S2x16x8x64x32x128, .i32⟩
  | 8 => ⟨S2x16x8x64x32x128, .i32⟩
  | 9 => ⟨S_, .i32⟩
  | 10 => ⟨S2x16x8x64x32x128, .i32⟩
  | 11 => ⟨S2x16x8x64x32x128, .i32⟩
  | 12 => ⟨S2x16x8x64x32x128, .f32⟩
  | 13 => ⟨S_, .f32⟩
  | 14 => ⟨S2x16x8x64x32x128, .f32⟩
  | 15 => ⟨S2x16x8x64x32x128, .f32⟩
  | 16 => ⟨S_, .f32⟩
  | 17 => ⟨S2x16x8x64x32x128, .f32⟩
  | 18 => ⟨S2x16x8x64x32x128, .f32⟩
  | 19 => ⟨S2x128x262144, .f32⟩
  | 20 => ⟨S2x128x262144, .f32⟩
  | 21 => ⟨S2x16x8x262144, .f32⟩
  | 22 => ⟨S2x16x8x131072x2x1, .f32⟩
  | 23 => ⟨S2x16x8x131072x1x1, .f32⟩
  | 24 => ⟨S2x16x8x131072x1, .f32⟩
  | 25 => ⟨S2x16x8x131072x1x1, .f32⟩
  | 26 => ⟨S2x16x8x131072x1, .f32⟩
  | 27 => ⟨S2x16x8x131072x1, .f32⟩
  | 28 => ⟨S2x16x8x131072x1, .f32⟩
  | 29 => ⟨S2x16x8x131072x1x1, .f32⟩
  | 30 => ⟨S2x16x8x131072x1x1, .f32⟩
  | 31 => ⟨S2x16x8x131072x2x1, .f32⟩
  | 32 => ⟨S2x16x8x262144, .f32⟩
  | 33 => ⟨S2x16x8x65536x2x2, .f32⟩
  | 34 => ⟨S2x16x8x65536x1x2, .f32⟩
  | 35 => ⟨S2x16x8x65536x2, .f32⟩
  | 36 => ⟨S2x16x8x65536x1x2, .f32⟩
  | 37 => ⟨S2x16x8x65536x2, .f32⟩
  | 38 => ⟨S2x16x8x65536x2, .f32⟩
  | 39 => ⟨S2x16x8x65536x2, .f32⟩
  | 40 => ⟨S2x16x8x65536x1x2, .f32⟩
  | 41 => ⟨S2x16x8x65536x1x2, .f32⟩
  | 42 => ⟨S2x16x8x65536x2x2, .f32⟩
  | 43 => ⟨S2x16x8x262144, .f32⟩
  | 44 => ⟨S2x16x8x32768x2x4, .f32⟩
  | 45 => ⟨S2x16x8x32768x1x4, .f32⟩
  | 46 => ⟨S2x16x8x32768x4, .f32⟩
  | 47 => ⟨S2x16x8x32768x1x4, .f32⟩
  | 48 => ⟨S2x16x8x32768x4, .f32⟩
  | 49 => ⟨S2x16x8x32768x4, .f32⟩
  | 50 => ⟨S2x16x8x32768x4, .f32⟩
  | 51 => ⟨S2x16x8x32768x1x4, .f32⟩
  | 52 => ⟨S2x16x8x32768x1x4, .f32⟩
  | 53 => ⟨S2x16x8x32768x2x4, .f32⟩
  | 54 => ⟨S2x16x8x262144, .f32⟩
  | 55 => ⟨S2x16x8x16384x2x8, .f32⟩
  | 56 => ⟨S2x16x8x16384x1x8, .f32⟩
  | 57 => ⟨S2x16x8x16384x8, .f32⟩
  | 58 => ⟨S2x16x8x16384x1x8, .f32⟩
  | 59 => ⟨S2x16x8x16384x8, .f32⟩
  | 60 => ⟨S2x16x8x16384x8, .f32⟩
  | 61 => ⟨S2x16x8x16384x8, .f32⟩
  | 62 => ⟨S2x16x8x16384x1x8, .f32⟩
  | 63 => ⟨S2x16x8x16384x1x8, .f32⟩
  | 64 => ⟨S2x16x8x16384x2x8, .f32⟩
  | 65 => ⟨S2x16x8x262144, .f32⟩
  | 66 => ⟨S2x16x8x8192x2x16, .f32⟩
  | 67 => ⟨S2x16x8x8192x1x16, .f32⟩
  | 68 => ⟨S2x16x8x8192x16, .f32⟩
  | 69 => ⟨S2x16x8x8192x1x16, .f32⟩
  | 70 => ⟨S2x16x8x8192x16, .f32⟩
  | 71 => ⟨S2x16x8x8192x16, .f32⟩
  | 72 => ⟨S2x16x8x8192x16, .f32⟩
  | 73 => ⟨S2x16x8x8192x1x16, .f32⟩
  | 74 => ⟨S2x16x8x8192x1x16, .f32⟩
  | 75 => ⟨S2x16x8x8192x2x16, .f32⟩
  | 76 => ⟨S2x16x8x262144, .f32⟩
  | 77 => ⟨S2x16x8x4096x2x32, .f32⟩
  | 78 => ⟨S2x16x8x4096x1x32, .f32⟩
  | 79 => ⟨S2x16x8x4096x32, .f32⟩
  | 80 => ⟨S2x16x8x4096x1x32, .f32⟩
  | 81 => ⟨S2x16x8x4096x32, .f32⟩
  | 82 => ⟨S2x16x8x4096x32, .f32⟩
  | 83 => ⟨S2x16x8x4096x32, .f32⟩
  | 84 => ⟨S2x16x8x4096x1x32, .f32⟩
  | 85 => ⟨S2x16x8x4096x1x32, .f32⟩
  | 86 => ⟨S2x16x8x4096x2x32, .f32⟩
  | 87 => ⟨S2x16x8x262144, .f32⟩
  | 88 => ⟨S2x16x8x2048x2x64, .f32⟩
  | 89 => ⟨S2x16x8x2048x1x64, .f32⟩
  | 90 => ⟨S2x16x8x2048x64, .f32⟩
  | 91 => ⟨S2x16x8x2048x1x64, .f32⟩
  | 92 => ⟨S2x16x8x2048x64, .f32⟩
  | 93 => ⟨S2x16x8x2048x64, .f32⟩
  | 94 => ⟨S2x16x8x2048x64, .f32⟩
  | 95 => ⟨S2x16x8x2048x1x64, .f32⟩
  | 96 => ⟨S2x16x8x2048x1x64, .f32⟩
  | 97 => ⟨S2x16x8x2048x2x64, .f32⟩
  | 98 => ⟨S2x16x8x262144, .f32⟩
  | 99 => ⟨S2x16x8x1024x2x128, .f32⟩
  | 100 => ⟨S2x16x8x1024x1x128, .f32⟩
  | 101 => ⟨S2x16x8x1024x128, .f32⟩
  | 102 => ⟨S2x16x8x1024x1x128, .f32⟩
  | 103 => ⟨S2x16x8x1024x128, .f32⟩
  | 104 => ⟨S2x16x8x1024x128, .f32⟩
  | 105 => ⟨S2x16x8x1024x128, .f32⟩
  | 106 => ⟨S2x16x8x1024x1x128, .f32⟩
  | 107 => ⟨S2x16x8x1024x1x128, .f32⟩
  | 108 => ⟨S2x16x8x1024x2x128, .f32⟩
  | 109 => ⟨S2x16x8x262144, .f32⟩
  | 110 => ⟨S2x16x8x512x2x256, .f32⟩
  | 111 => ⟨S2x16x8x512x1x256, .f32⟩
  | 112 => ⟨S2x16x8x512x256, .f32⟩
  | 113 => ⟨S2x16x8x512x1x256, .f32⟩
  | 114 => ⟨S2x16x8x512x256, .f32⟩
  | 115 => ⟨S2x16x8x512x256, .f32⟩
  | 116 => ⟨S2x16x8x512x256, .f32⟩
  | 117 => ⟨S2x16x8x512x1x256, .f32⟩
  | 118 => ⟨S2x16x8x512x1x256, .f32⟩
  | 119 => ⟨S2x16x8x512x2x256, .f32⟩
  | 120 => ⟨S2x16x8x262144, .f32⟩
  | 121 => ⟨S2x16x8x256x2x512, .f32⟩
  | 122 => ⟨S2x16x8x256x1x512, .f32⟩
  | 123 => ⟨S2x16x8x256x512, .f32⟩
  | 124 => ⟨S2x16x8x256x1x512, .f32⟩
  | 125 => ⟨S2x16x8x256x512, .f32⟩
  | 126 => ⟨S2x16x8x256x512, .f32⟩
  | 127 => ⟨S2x16x8x256x512, .f32⟩
  | _ => ⟨S2x128x262144, .f32⟩

abbrev hbmTy0_1 (i : Nat) : BufTy := match i % 128 with
  | 0 => ⟨S2x16x8x256x1x512, .f32⟩
  | 1 => ⟨S2x16x8x256x1x512, .f32⟩
  | 2 => ⟨S2x16x8x256x2x512, .f32⟩
  | 3 => ⟨S2x16x8x262144, .f32⟩
  | 4 => ⟨S2x16x8x128x2x1024, .f32⟩
  | 5 => ⟨S2x16x8x128x1x1024, .f32⟩
  | 6 => ⟨S2x16x8x128x1024, .f32⟩
  | 7 => ⟨S2x16x8x128x1x1024, .f32⟩
  | 8 => ⟨S2x16x8x128x1024, .f32⟩
  | 9 => ⟨S2x16x8x128x1024, .f32⟩
  | 10 => ⟨S2x16x8x128x1024, .f32⟩
  | 11 => ⟨S2x16x8x128x1x1024, .f32⟩
  | 12 => ⟨S2x16x8x128x1x1024, .f32⟩
  | 13 => ⟨S2x16x8x128x2x1024, .f32⟩
  | 14 => ⟨S2x16x8x262144, .f32⟩
  | 15 => ⟨S2x16x8x64x2x2048, .f32⟩
  | 16 => ⟨S2x16x8x64x1x2048, .f32⟩
  | 17 => ⟨S2x16x8x64x2048, .f32⟩
  | 18 => ⟨S2x16x8x64x1x2048, .f32⟩
  | 19 => ⟨S2x16x8x64x2048, .f32⟩
  | 20 => ⟨S2x16x8x64x2048, .f32⟩
  | 21 => ⟨S2x16x8x64x2048, .f32⟩
  | 22 => ⟨S2x16x8x64x1x2048, .f32⟩
  | 23 => ⟨S2x16x8x64x1x2048, .f32⟩
  | 24 => ⟨S2x16x8x64x2x2048, .f32⟩
  | 25 => ⟨S2x16x8x262144, .f32⟩
  | 26 => ⟨S2x16x8x32x2x4096, .f32⟩
  | 27 => ⟨S2x16x8x32x1x4096, .f32⟩
  | 28 => ⟨S2x16x8x32x4096, .f32⟩
  | 29 => ⟨S2x16x8x32x1x4096, .f32⟩
  | 30 => ⟨S2x16x8x32x4096, .f32⟩
  | 31 => ⟨S2x16x8x32x4096, .f32⟩
  | 32 => ⟨S2x16x8x32x4096, .f32⟩
  | 33 => ⟨S2x16x8x32x1x4096, .f32⟩
  | 34 => ⟨S2x16x8x32x1x4096, .f32⟩
  | 35 => ⟨S2x16x8x32x2x4096, .f32⟩
  | 36 => ⟨S2x16x8x262144, .f32⟩
  | 37 => ⟨S2x16x8x16x2x8192, .f32⟩
  | 38 => ⟨S2x16x8x16x1x8192, .f32⟩
  | 39 => ⟨S2x16x8x16x8192, .f32⟩
  | 40 => ⟨S2x16x8x16x1x8192, .f32⟩
  | 41 => ⟨S2x16x8x16x8192, .f32⟩
  | 42 => ⟨S2x16x8x16x8192, .f32⟩
  | 43 => ⟨S2x16x8x16x8192, .f32⟩
  | 44 => ⟨S2x16x8x16x1x8192, .f32⟩
  | 45 => ⟨S2x16x8x16x1x8192, .f32⟩
  | 46 => ⟨S2x16x8x16x2x8192, .f32⟩
  | 47 => ⟨S2x16x8x262144, .f32⟩
  | 48 => ⟨S2x16x8x8x2x16384, .f32⟩
  | 49 => ⟨S2x16x8x8x1x16384, .f32⟩
  | 50 => ⟨S2x16x8x8x16384, .f32⟩
  | 51 => ⟨S2x16x8x8x1x16384, .f32⟩
  | 52 => ⟨S2x16x8x8x16384, .f32⟩
  | 53 => ⟨S2x16x8x8x16384, .f32⟩
  | 54 => ⟨S2x16x8x8x16384, .f32⟩
  | 55 => ⟨S2x16x8x8x1x16384, .f32⟩
  | 56 => ⟨S2x16x8x8x1x16384, .f32⟩
  | 57 => ⟨S2x16x8x8x2x16384, .f32⟩
  | 58 => ⟨S2x16x8x262144, .f32⟩
  | 59 => ⟨S2x16x8x4x2x32768, .f32⟩
  | 60 => ⟨S2x16x8x4x1x32768, .f32⟩
  | 61 => ⟨S2x16x8x4x32768, .f32⟩
  | 62 => ⟨S2x16x8x4x1x32768, .f32⟩
  | 63 => ⟨S2x16x8x4x32768, .f32⟩
  | 64 => ⟨S2x16x8x4x32768, .f32⟩
  | 65 => ⟨S2x16x8x4x32768, .f32⟩
  | 66 => ⟨S2x16x8x4x1x32768, .f32⟩
  | 67 => ⟨S2x16x8x4x1x32768, .f32⟩
  | 68 => ⟨S2x16x8x4x2x32768, .f32⟩
  | 69 => ⟨S2x16x8x262144, .f32⟩
  | 70 => ⟨S2x16x8x2x2x65536, .f32⟩
  | 71 => ⟨S2x16x8x2x1x65536, .f32⟩
  | 72 => ⟨S2x16x8x2x65536, .f32⟩
  | 73 => ⟨S2x16x8x2x1x65536, .f32⟩
  | 74 => ⟨S2x16x8x2x65536, .f32⟩
  | 75 => ⟨S2x16x8x2x65536, .f32⟩
  | 76 => ⟨S2x16x8x2x65536, .f32⟩
  | 77 => ⟨S2x16x8x2x1x65536, .f32⟩
  | 78 => ⟨S2x16x8x2x1x65536, .f32⟩
  | 79 => ⟨S2x16x8x2x2x65536, .f32⟩
  | 80 => ⟨S2x16x8x262144, .f32⟩
  | 81 => ⟨S2x16x8x1x2x131072, .f32⟩
  | 82 => ⟨S2x16x8x1x1x131072, .f32⟩
  | 83 => ⟨S2x16x8x1x131072, .f32⟩
  | 84 => ⟨S2x16x8x1x1x131072, .f32⟩
  | 85 => ⟨S2x16x8x1x131072, .f32⟩
  | 86 => ⟨S2x16x8x1x131072, .f32⟩
  | 87 => ⟨S2x16x8x1x131072, .f32⟩
  | 88 => ⟨S2x16x8x1x1x131072, .f32⟩
  | 89 => ⟨S2x16x8x1x1x131072, .f32⟩
  | 90 => ⟨S2x16x8x1x2x131072, .f32⟩
  | 91 => ⟨S2x16x8x262144, .f32⟩
  | 92 => ⟨S2x16x4x2x1x262144, .f32⟩
  | 93 => ⟨S2x16x4x1x1x262144, .f32⟩
  | 94 => ⟨S2x16x4x1x262144, .f32⟩
  | 95 => ⟨S2x16x4x1x1x262144, .f32⟩
  | 96 => ⟨S2x16x4x1x262144, .f32⟩
  | 97 => ⟨S2x16x4x1x262144, .f32⟩
  | 98 => ⟨S2x16x4x1x262144, .f32⟩
  | 99 => ⟨S2x16x4x1x1x262144, .f32⟩
  | 100 => ⟨S2x16x4x1x1x262144, .f32⟩
  | 101 => ⟨S2x16x4x2x1x262144, .f32⟩
  | 102 => ⟨S2x16x8x262144, .f32⟩
  | 103 => ⟨S2x16x2x2x2x262144, .f32⟩
  | 104 => ⟨S2x16x2x1x2x262144, .f32⟩
  | 105 => ⟨S2x16x2x2x262144, .f32⟩
  | 106 => ⟨S2x16x2x1x2x262144, .f32⟩
  | 107 => ⟨S2x16x2x2x262144, .f32⟩
  | 108 => ⟨S2x16x2x2x262144, .f32⟩
  | 109 => ⟨S2x16x2x2x262144, .f32⟩
  | 110 => ⟨S2x16x2x1x2x262144, .f32⟩
  | 111 => ⟨S2x16x2x1x2x262144, .f32⟩
  | 112 => ⟨S2x16x2x2x2x262144, .f32⟩
  | 113 => ⟨S2x16x8x262144, .f32⟩
  | 114 => ⟨S2x16x1x2x4x262144, .f32⟩
  | 115 => ⟨S2x16x1x1x4x262144, .f32⟩
  | 116 => ⟨S2x16x1x4x262144, .f32⟩
  | 117 => ⟨S2x16x1x1x4x262144, .f32⟩
  | 118 => ⟨S2x16x1x4x262144, .f32⟩
  | 119 => ⟨S2x16x1x4x262144, .f32⟩
  | 120 => ⟨S2x16x1x4x262144, .f32⟩
  | 121 => ⟨S2x16x1x1x4x262144, .f32⟩
  | 122 => ⟨S2x16x1x1x4x262144, .f32⟩
  | 123 => ⟨S2x16x1x2x4x262144, .f32⟩
  | 124 => ⟨S2x16x8x262144, .f32⟩
  | 125 => ⟨S2x128x262144, .f32⟩
  | 126 => ⟨S2x16x8x2048x128, .f32⟩
  | 127 => ⟨S_, .f32⟩
  | _ => ⟨S2x128x262144, .f32⟩

abbrev hbmTy0_2 (i : Nat) : BufTy := match i % 128 with
  | 0 => ⟨S2x8x128, .f32⟩
  | 1 => ⟨S2x128x262144, .f32⟩
  | _ => ⟨S2x128x262144, .f32⟩

abbrev hbmTy (i : Nat) : BufTy := match i / 128 with
  | 0 => hbmTy0_0 i
  | 1 => hbmTy0_1 i
  | 2 => hbmTy0_2 i
  | _ => ⟨S2x128x262144, .f32⟩

abbrev bufTy : (tb : Table) → Fin (tcTables nBuf tb) → BufTy
  | .hbm, ⟨i, _⟩ => hbmTy i
  | _, _ => ⟨S2x128x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_v224 : Ref sig .tc := ⟨.hbm, 229, rfl⟩
abbrev main_v225 : Ref sig .tc := ⟨.hbm, 230, rfl⟩
abbrev main_v226 : Ref sig .tc := ⟨.hbm, 231, rfl⟩
abbrev main_v227 : Ref sig .tc := ⟨.hbm, 232, rfl⟩
abbrev main_v228 : Ref sig .tc := ⟨.hbm, 233, rfl⟩
abbrev main_v229 : Ref sig .tc := ⟨.hbm, 234, rfl⟩
abbrev main_v230 : Ref sig .tc := ⟨.hbm, 235, rfl⟩
abbrev main_v231 : Ref sig .tc := ⟨.hbm, 236, rfl⟩
abbrev main_v232 : Ref sig .tc := ⟨.hbm, 237, rfl⟩
abbrev main_v233 : Ref sig .tc := ⟨.hbm, 238, rfl⟩
abbrev main_v234 : Ref sig .tc := ⟨.hbm, 239, rfl⟩
abbrev main_v235 : Ref sig .tc := ⟨.hbm, 240, rfl⟩
abbrev main_v236 : Ref sig .tc := ⟨.hbm, 241, rfl⟩
abbrev main_v237 : Ref sig .tc := ⟨.hbm, 242, rfl⟩
abbrev main_v238 : Ref sig .tc := ⟨.hbm, 243, rfl⟩
abbrev main_v239 : Ref sig .tc := ⟨.hbm, 244, rfl⟩
abbrev main_v240 : Ref sig .tc := ⟨.hbm, 245, rfl⟩
abbrev main_v241 : Ref sig .tc := ⟨.hbm, 246, rfl⟩
abbrev main_v242 : Ref sig .tc := ⟨.hbm, 247, rfl⟩
abbrev main_v243 : Ref sig .tc := ⟨.hbm, 248, rfl⟩
abbrev main_v244 : Ref sig .tc := ⟨.hbm, 249, rfl⟩
abbrev main_v245 : Ref sig .tc := ⟨.hbm, 250, rfl⟩
abbrev main_v246 : Ref sig .tc := ⟨.hbm, 251, rfl⟩
abbrev main_v247 : Ref sig .tc := ⟨.hbm, 252, rfl⟩
abbrev main_v248 : Ref sig .tc := ⟨.hbm, 253, rfl⟩
abbrev main_v249 : Ref sig .tc := ⟨.hbm, 254, rfl⟩
abbrev main_cst_1 : Ref sig .tc := ⟨.hbm, 255, rfl⟩
abbrev main_v250 : Ref sig .tc := ⟨.hbm, 256, rfl⟩
abbrev main_v251 : Ref sig .tc := ⟨.hbm, 257, rfl⟩

abbrev nD : Nat := 1
abbrev τ : Topo := Topo.v7x

variable {F : FTy → Type} [FloatOps F]
-- ==== Proof.KFrame.lean ====
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! # The kernel's frame: its outputs are handed back at contents nothing names -/

/-- A run of the pipeline that names the input arrays alone leaves the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 16 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ 1 ≤ t.val % 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Each window's current staging memref at point `t`, spelled as the pipeline passes it (`bodyAt0`), and its wholeness. -/
abbrev ms0_0 (t : Fin cfg0.N) : Memref sig .tc .vmem S1x8x262144 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64x8x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x262144 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

set_option maxHeartbeats 1000000 in
/-- One run of the body, the outputs' contents before and after unnamed: the inputs' blocks end as they were. The
    two conditionals are taken or not by the point's place in its batch, never both and never neither. -/
theorem kernelRun0 (c : Dev nD) (i : grid0.Coords) (arg2 : Memref sig .tc .vmem S1x8x262144 .f32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x262144 .f32) (harg5 : arg5.IsWhole) (arg6 : Memref sig .tc .vmem S1x8x128 .f32) (harg6 : arg6.IsWhole) (hc : cond0_0 i ↔ ¬cond0_1 i)
    (x0 : Vec F S1x8x262144 .f32) (x1 : Vec F S1x1x64x8x128 .i32) (x2 : Vec F S256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)) -∗ K ⟨⟩))
          ⊢ wp frame (wpE (defs₀ (F := F)) Variants.none c none) E (cc0__rot1_kernel i arg2 harg2 arg3 harg3 arg4 harg4 arg5 harg5 arg6 harg6) K := by
    intro E K
    simp only [cc0__rot1_kernel_eq_skeleton]; unfold cc0__rot1_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    by_cases hc1 : cond0_1 i
    · have hc0 : ¬cond0_0 i := fun h => hc.mp h hc1
      sl_exec (disch := first | sl_exact hc0 | sl_exact hc1)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _, _; isplitr; swap; · iexact H3
        ipureintro; rfl
      iexists _, _; isplitr; swap; · iexact H4
      ipureintro; rfl
    · have hc0 : cond0_0 i := hc.mpr hc1
      sl_exec (disch := first | sl_exact hc0 | sl_exact hc1)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _, _; isplitr; swap; · iexact H3
        ipureintro; rfl
      iexists _, _; isplitr; swap; · iexact H4
      ipureintro; rfl

/-! ## The pipeline's proof data -/

/-- The output windows this certificate FORGETS (3, 4): nothing reads what the kernel leaves in them, so nothing
    of it is named (Lib/Pipeline/Dat.lean `Dat.toRForget`). -/
def forgets0 : Fin 5 → Bool := fun w => w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  rw [show (dats m 0 c).leavesExact 0 t = owns (c : Thread nD τ) (ms0_0 t) fullShare ((dats m 0 c).after 0 t) from by
  unfold Dat.leavesExact; rw [liveAt0_0 t], after0_0]
  rw [show (dats m 0 c).leavesExact 1 t = owns (c : Thread nD τ) (ms0_1 t) fullShare ((dats m 0 c).after 1 t) from by
  unfold Dat.leavesExact; rw [liveAt0_1 t], after0_1]
  rw [show (dats m 0 c).leavesExact 2 t = owns (c : Thread nD τ) (ms0_2 t) fullShare ((dats m 0 c).after 2 t) from by
  unfold Dat.leavesExact; rw [liveAt0_2 t], after0_2]
  iintro ⟨HΦ, Ho, ⟨%d0, H0⟩, ⟨%d1, H1⟩, ⟨%d2, H2⟩, ⟨%d3, H3⟩, ⟨%d4, H4⟩⟩
  iapply ((kernelRun0 c (grid0.coords t) _ _ _ _ _ _ _ _ _ _ (by rw [hcond0_0 t, hcond0_1 t]; omega) (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Frame

end
-- ==== Proof.RefOps.lean ====
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

/-- The arrays of shape `s`. -/
abbrev C (F : FTy → Type) (s : Shape) : Type := (⟨s, .f32⟩ : BufTy).Contents (Elt F)

/-- The arrays of shape `s`. -/
abbrev CI (F : FTy → Type) (s : Shape) : Type := (⟨s, .i32⟩ : BufTy).Contents (Elt F)

variable {F : FTy → Type} [FloatOps F]

/-! # The reference's host operations, listed stage by stage -/

def fn_main_v26 : C F S2x16x8x131072x1x1 → C F S2x16x8x131072x1x1 → C F S2x16x8x131072x2x1 :=
  (fun a b => concatenate S2x16x8x131072x2x1 4 [⟨S2x16x8x131072x1x1, a⟩, ⟨S2x16x8x131072x1x1, b⟩] concatenates_S2x16x8x131072x1x1_S2x16x8x131072x1x1_S2x16x8x131072x2x1_d4)
def fn_main_v37 : C F S2x16x8x65536x1x2 → C F S2x16x8x65536x1x2 → C F S2x16x8x65536x2x2 :=
  (fun a b => concatenate S2x16x8x65536x2x2 4 [⟨S2x16x8x65536x1x2, a⟩, ⟨S2x16x8x65536x1x2, b⟩] concatenates_S2x16x8x65536x1x2_S2x16x8x65536x1x2_S2x16x8x65536x2x2_d4)
def fn_main_v48 : C F S2x16x8x32768x1x4 → C F S2x16x8x32768x1x4 → C F S2x16x8x32768x2x4 :=
  (fun a b => concatenate S2x16x8x32768x2x4 4 [⟨S2x16x8x32768x1x4, a⟩, ⟨S2x16x8x32768x1x4, b⟩] concatenates_S2x16x8x32768x1x4_S2x16x8x32768x1x4_S2x16x8x32768x2x4_d4)
def fn_main_v59 : C F S2x16x8x16384x1x8 → C F S2x16x8x16384x1x8 → C F S2x16x8x16384x2x8 :=
  (fun a b => concatenate S2x16x8x16384x2x8 4 [⟨S2x16x8x16384x1x8, a⟩, ⟨S2x16x8x16384x1x8, b⟩] concatenates_S2x16x8x16384x1x8_S2x16x8x16384x1x8_S2x16x8x16384x2x8_d4)
def fn_main_v70 : C F S2x16x8x8192x1x16 → C F S2x16x8x8192x1x16 → C F S2x16x8x8192x2x16 :=
  (fun a b => concatenate S2x16x8x8192x2x16 4 [⟨S2x16x8x8192x1x16, a⟩, ⟨S2x16x8x8192x1x16, b⟩] concatenates_S2x16x8x8192x1x16_S2x16x8x8192x1x16_S2x16x8x8192x2x16_d4)
def fn_main_v81 : C F S2x16x8x4096x1x32 → C F S2x16x8x4096x1x32 → C F S2x16x8x4096x2x32 :=
  (fun a b => concatenate S2x16x8x4096x2x32 4 [⟨S2x16x8x4096x1x32, a⟩, ⟨S2x16x8x4096x1x32, b⟩] concatenates_S2x16x8x4096x1x32_S2x16x8x4096x1x32_S2x16x8x4096x2x32_d4)
def fn_main_v92 : C F S2x16x8x2048x1x64 → C F S2x16x8x2048x1x64 → C F S2x16x8x2048x2x64 :=
  (fun a b => concatenate S2x16x8x2048x2x64 4 [⟨S2x16x8x2048x1x64, a⟩, ⟨S2x16x8x2048x1x64, b⟩] concatenates_S2x16x8x2048x1x64_S2x16x8x2048x1x64_S2x16x8x2048x2x64_d4)
def fn_main_v103 : C F S2x16x8x1024x1x128 → C F S2x16x8x1024x1x128 → C F S2x16x8x1024x2x128 :=
  (fun a b => concatenate S2x16x8x1024x2x128 4 [⟨S2x16x8x1024x1x128, a⟩, ⟨S2x16x8x1024x1x128, b⟩] concatenates_S2x16x8x1024x1x128_S2x16x8x1024x1x128_S2x16x8x1024x2x128_d4)
def fn_main_v114 : C F S2x16x8x512x1x256 → C F S2x16x8x512x1x256 → C F S2x16x8x512x2x256 :=
  (fun a b => concatenate S2x16x8x512x2x256 4 [⟨S2x16x8x512x1x256, a⟩, ⟨S2x16x8x512x1x256, b⟩] concatenates_S2x16x8x512x1x256_S2x16x8x512x1x256_S2x16x8x512x2x256_d4)
def fn_main_v125 : C F S2x16x8x256x1x512 → C F S2x16x8x256x1x512 → C F S2x16x8x256x2x512 :=
  (fun a b => concatenate S2x16x8x256x2x512 4 [⟨S2x16x8x256x1x512, a⟩, ⟨S2x16x8x256x1x512, b⟩] concatenates_S2x16x8x256x1x512_S2x16x8x256x1x512_S2x16x8x256x2x512_d4)
def fn_main_v136 : C F S2x16x8x128x1x1024 → C F S2x16x8x128x1x1024 → C F S2x16x8x128x2x1024 :=
  (fun a b => concatenate S2x16x8x128x2x1024 4 [⟨S2x16x8x128x1x1024, a⟩, ⟨S2x16x8x128x1x1024, b⟩] concatenates_S2x16x8x128x1x1024_S2x16x8x128x1x1024_S2x16x8x128x2x1024_d4)
def fn_main_v147 : C F S2x16x8x64x1x2048 → C F S2x16x8x64x1x2048 → C F S2x16x8x64x2x2048 :=
  (fun a b => concatenate S2x16x8x64x2x2048 4 [⟨S2x16x8x64x1x2048, a⟩, ⟨S2x16x8x64x1x2048, b⟩] concatenates_S2x16x8x64x1x2048_S2x16x8x64x1x2048_S2x16x8x64x2x2048_d4)
def fn_main_v158 : C F S2x16x8x32x1x4096 → C F S2x16x8x32x1x4096 → C F S2x16x8x32x2x4096 :=
  (fun a b => concatenate S2x16x8x32x2x4096 4 [⟨S2x16x8x32x1x4096, a⟩, ⟨S2x16x8x32x1x4096, b⟩] concatenates_S2x16x8x32x1x4096_S2x16x8x32x1x4096_S2x16x8x32x2x4096_d4)
def fn_main_v169 : C F S2x16x8x16x1x8192 → C F S2x16x8x16x1x8192 → C F S2x16x8x16x2x8192 :=
  (fun a b => concatenate S2x16x8x16x2x8192 4 [⟨S2x16x8x16x1x8192, a⟩, ⟨S2x16x8x16x1x8192, b⟩] concatenates_S2x16x8x16x1x8192_S2x16x8x16x1x8192_S2x16x8x16x2x8192_d4)
def fn_main_v180 : C F S2x16x8x8x1x16384 → C F S2x16x8x8x1x16384 → C F S2x16x8x8x2x16384 :=
  (fun a b => concatenate S2x16x8x8x2x16384 4 [⟨S2x16x8x8x1x16384, a⟩, ⟨S2x16x8x8x1x16384, b⟩] concatenates_S2x16x8x8x1x16384_S2x16x8x8x1x16384_S2x16x8x8x2x16384_d4)
def fn_main_v191 : C F S2x16x8x4x1x32768 → C F S2x16x8x4x1x32768 → C F S2x16x8x4x2x32768 :=
  (fun a b => concatenate S2x16x8x4x2x32768 4 [⟨S2x16x8x4x1x32768, a⟩, ⟨S2x16x8x4x1x32768, b⟩] concatenates_S2x16x8x4x1x32768_S2x16x8x4x1x32768_S2x16x8x4x2x32768_d4)
def fn_main_v202 : C F S2x16x8x2x1x65536 → C F S2x16x8x2x1x65536 → C F S2x16x8x2x2x65536 :=
  (fun a b => concatenate S2x16x8x2x2x65536 4 [⟨S2x16x8x2x1x65536, a⟩, ⟨S2x16x8x2x1x65536, b⟩] concatenates_S2x16x8x2x1x65536_S2x16x8x2x1x65536_S2x16x8x2x2x65536_d4)
def fn_main_v213 : C F S2x16x8x1x1x131072 → C F S2x16x8x1x1x131072 → C F S2x16x8x1x2x131072 :=
  (fun a b => concatenate S2x16x8x1x2x131072 4 [⟨S2x16x8x1x1x131072, a⟩, ⟨S2x16x8x1x1x131072, b⟩] concatenates_S2x16x8x1x1x131072_S2x16x8x1x1x131072_S2x16x8x1x2x131072_d4)
def fn_main_v224 : C F S2x16x4x1x1x262144 → C F S2x16x4x1x1x262144 → C F S2x16x4x2x1x262144 :=
  (fun a b => concatenate S2x16x4x2x1x262144 3 [⟨S2x16x4x1x1x262144, a⟩, ⟨S2x16x4x1x1x262144, b⟩] concatenates_S2x16x4x1x1x262144_S2x16x4x1x1x262144_S2x16x4x2x1x262144_d3)
def fn_main_v235 : C F S2x16x2x1x2x262144 → C F S2x16x2x1x2x262144 → C F S2x16x2x2x2x262144 :=
  (fun a b => concatenate S2x16x2x2x2x262144 3 [⟨S2x16x2x1x2x262144, a⟩, ⟨S2x16x2x1x2x262144, b⟩] concatenates_S2x16x2x1x2x262144_S2x16x2x1x2x262144_S2x16x2x2x2x262144_d3)
def fn_main_v246 : C F S2x16x1x1x4x262144 → C F S2x16x1x1x4x262144 → C F S2x16x1x2x4x262144 :=
  (fun a b => concatenate S2x16x1x2x4x262144 3 [⟨S2x16x1x1x4x262144, a⟩, ⟨S2x16x1x1x4x262144, b⟩] concatenates_S2x16x1x1x4x262144_S2x16x1x1x4x262144_S2x16x1x2x4x262144_d3)

/-- The operations that unpack the signs and apply them. -/
abbrev st0 : List (HloOp τ sig (Elt F)) :=
  [ nullary main_v0 (iotaInDim S32 32 0),
    unary main_v0 main_v1 (broadcastInDim S1x1x1x1x32x1 ![4] bcast_S32_S1x1x1x1x32x1_4 : CI F S32 → CI F S1x1x1x1x32x1),
    unary main_arg1 main_v2 ((transpose S2x16x8x64x128 [0, 1, 3, 2, 4] · transposes_S2x16x64x8x128_S2x16x8x64x128_0_1_3_2_4) : CI F S2x16x64x8x128 → CI F S2x16x8x64x128),
    unary main_v2 main_v3 (broadcastInDim S2x16x8x64x1x128 ![0, 1, 2, 3, 5] bcast_S2x16x8x64x128_S2x16x8x64x1x128_0_1_2_3_5 : CI F S2x16x8x64x128 → CI F S2x16x8x64x1x128),
    unary main_v3 main_v4 (broadcastInDim S2x16x8x64x32x128 ![0, 1, 2, 3, 4, 5] bcast_S2x16x8x64x1x128_S2x16x8x64x32x128_0_1_2_3_4_5 : CI F S2x16x8x64x1x128 → CI F S2x16x8x64x32x128),
    unary main_v1 main_v5 (broadcastInDim S2x16x8x64x32x128 ![0, 1, 2, 3, 4, 5] bcast_S1x1x1x1x32x1_S2x16x8x64x32x128_0_1_2_3_4_5 : CI F S1x1x1x1x32x1 → CI F S2x16x8x64x32x128),
    binary main_v4 main_v5 main_v6 (Host.shrui : CI F S2x16x8x64x32x128 → CI F S2x16x8x64x32x128 → CI F S2x16x8x64x32x128),
    nullary main_c (constantI S_ 32 1#32),
    unary main_c main_v7 (broadcastInDim S2x16x8x64x32x128 ![] bcast_S_S2x16x8x64x32x128 : CI F S_ → CI F S2x16x8x64x32x128),
    binary main_v6 main_v7 main_v8 (andi : CI F S2x16x8x64x32x128 → CI F S2x16x8x64x32x128 → CI F S2x16x8x64x32x128),
    unary main_v8 main_v9 (sitofp .f32 : CI F S2x16x8x64x32x128 → C F S2x16x8x64x32x128),
    nullary main_cst (constant S_ .f32 0x40000000#32),
    unary main_cst main_v10 (broadcastInDim S2x16x8x64x32x128 ![] bcast_S_S2x16x8x64x32x128 : C F S_ → C F S2x16x8x64x32x128),
    binary main_v10 main_v9 main_v11 (mulf : C F S2x16x8x64x32x128 → C F S2x16x8x64x32x128 → C F S2x16x8x64x32x128),
    nullary main_cst_0 (constant S_ .f32 0x3F800000#32),
    unary main_cst_0 main_v12 (broadcastInDim S2x16x8x64x32x128 ![] bcast_S_S2x16x8x64x32x128 : C F S_ → C F S2x16x8x64x32x128),
    binary main_v12 main_v11 main_v13 (subf : C F S2x16x8x64x32x128 → C F S2x16x8x64x32x128 → C F S2x16x8x64x32x128),
    reshape main_v13 main_v14 (rfl : (.f32 : EltTy) = .f32) shapeCasts_S2x16x8x64x32x128_S2x128x262144,
    binary main_v14 main_arg0 main_v15 (mulf : C F S2x128x262144 → C F S2x128x262144 → C F S2x128x262144),
    reshape main_v15 main_v16 (rfl : (.f32 : EltTy) = .f32) shapeCasts_S2x128x262144_S2x16x8x262144 ]
/-- Operations of butterfly stage 1. -/
abbrev st1 : List (HloOp τ sig (Elt F)) :=
  [ reshape main_v16 main_v17 (rfl : (.f32 : EltTy) = .f32) shapeCasts_S2x16x8x262144_S2x16x8x131072x2x1,
    unary main_v17 main_v18 ((extractStridedSlice S2x16x8x131072x1x1 ![0, 0, 0, 0, 0, 0] · slices_S2x16x8x131072x2x1_S2x16x8x131072x1x1_0_0_0_0_0_0) : C F S2x16x8x131072x2x1 → C F S2x16x8x131072x1x1),
    reshape main_v18 main_v19 (rfl : (.f32 : EltTy) = .f32) shapeCasts_S2x16x8x131072x1x1_S2x16x8x131072x1,
    unary main_v17 main_v20 ((extractStridedSlice S2x16x8x131072x1x1 ![0, 0, 0, 0, 1, 0] · slices_S2x16x8x131072x2x1_S2x16x8x131072x1x1_0_0_0_0_1_0) : C F S2x16x8x131072x2x1 → C F S2x16x8x131072x1x1),
    reshape main_v20 main_v21 (rfl : (.f32 : EltTy) = .f32) shapeCasts_S2x16x8x131072x1x1_S2x16x8x131072x1,
    binary main_v19 main_v21 main_v22 (addf : C F S2x16x8x131072x1 → C F S2x16x8x131072x1 → C F S2x16x8x131072x1),
    binary main_v19 main_v21 main_v23 (subf : C F S2x16x8x131072x1 → C F S2x16x8x131072x1 → C F S2x16x8x131072x1),
    unary main_v22 main_v24 (broadcastInDim S2x16x8x131072x1x1 ![0, 1, 2, 3, 5] bcast_S2x16x8x131072x1_S2x16x8x131072x1x1_0_1_2_3_5 : C F S2x16x8x131072x1 → C F S2x16x8x131072x1x1),
    unary main_v23 main_v25 (broadcastInDim S2x16x8x131072x1x1 ![0, 1, 2, 3, 5] bcast_S2x16x8x131072x1_S2x16x8x131072x1x1_0_1_2_3_5 : C F S2x16x8x131072x1 → C F S2x16x8x131072x1x1),
    binary main_v24 main_v25 main_v26 (fn_main_v26 (F := F)),
    reshape main_v26 main_v27 (rfl : (.f32 : EltTy) = .f32) shapeCasts_S2x16x8x131072x2x1_S2x16x8x262144 ]
/-- Operations of butterfly stage 2. -/
abbrev st2 : List (HloOp τ sig (Elt F)) :=
  [ reshape main_v27 main_v28 (rfl : (.f32 : EltTy) = .f32) shapeCasts_S2x16x8x262144_S2x16x8x65536x2x2,
    unary main_v28 main_v29 ((extractStridedSlice S2x16x8x65536x1x2 ![0, 0, 0, 0, 0, 0] · slices_S2x16x8x65536x2x2_S2x16x8x65536x1x2_0_0_0_0_0_0) : C F S2x16x8x65536x2x2 → C F S2x16x8x65536x1x2),
    reshape main_v29 main_v30 (rfl : (.f32 : EltTy) = .f32) shapeCasts_S2x16x8x65536x1x2_S2x16x8x65536x2,
    unary main_v28 main_v31 ((extractStridedSlice S2x16x8x65536x1x2 ![0, 0, 0, 0, 1, 0] · slices_S2x16x8x65536x2x2_S2x16x8x65536x1x2_0_0_0_0_1_0) : C F S2x16x8x65536x2x2 → C F S2x16x8x65536x1x2),
    reshape main_v31 main_v32 (rfl : (.f32 : EltTy) = .f32) shapeCasts_S2x16x8x65536x1x2_S2x16x8x65536x2,
    binary main_v30 main_v32 main_v33 (addf : C F S2x16x8x65536x2 → C F S2x16x8x65536x2 → C F S2x16x8x65536x2),
    binary main_v30 main_v32 main_v34 (subf : C F S2x16x8x65536x2 → C F S2x16x8x65536x2 → C F S2x16x8x65536x2),
    unary main_v33 main_v35 (broadcastInDim S2x16x8x65536x1x2 ![0, 1, 2, 3, 5] bcast_S2x16x8x65536x2_S2x16x8x65536x1x2_0_1_2_3_5 : C F S2x16x8x65536x2 → C F S2x16x8x65536x1x2),
    unary main_v34 main_v36 (broadcastInDim S2x16x8x65536x1x2 ![0, 1, 2, 3, 5] bcast_S2x16x8x65536x2_S2x16x8x65536x1x2_0_1_2_3_5 : C F S2x16x8x65536x2 → C F S2x16x8x65536x1x2),
    binary main_v35 main_v36 main_v37 (fn_main_v37 (F := F)),
    reshape main_v37 main_v38 (rfl : (.f32 : EltTy) = .f32) shapeCasts_S2x16x8x65536x2x2_S2x16x8x262144 ]
/-- Operations of butterfly stage 3. -/
abbrev st3 : List (HloOp τ sig (Elt F)) :=
  [ reshape main_v38 main_v39 (rfl : (.f32 : EltTy) = .f32) shapeCasts_S2x16x8x262144_S2x16x8x32768x2x4,
    unary main_v39 main_v40 ((extractStridedSlice S2x16x8x32768x1x4 ![0, 0, 0, 0, 0, 0] · slices_S2x16x8x32768x2x4_S2x16x8x32768x1x4_0_0_0_0_0_0) : C F S2x16x8x32768x2x4 → C F S2x16x8x32768x1x4),
    reshape main_v40 main_v41 (rfl : (.f32 : EltTy) = .f32) shapeCasts_S2x16x8x32768x1x4_S2x16x8x32768x4,
    unary main_v39 main_v42 ((extractStridedSlice S2x16x8x32768x1x4 ![0, 0, 0, 0, 1, 0] · slices_S2x16x8x32768x2x4_S2x16x8x32768x1x4_0_0_0_0_1_0) : C F S2x16x8x32768x2x4 → C F S2x16x8x32768x1x4),
    reshape main_v42 main_v43 (rfl : (.f32 : EltTy) = .f32) shapeCasts_S2x16x8x32768x1x4_S2x16x8x32768x4,
    binary main_v41 main_v43 main_v44 (addf : C F S2x16x8x32768x4 → C F S2x16x8x32768x4 → C F S2x16x8x32768x4),
    binary main_v41 main_v43 main_v45 (subf : C F S2x16x8x32768x4 → C F S2x16x8x32768x4 → C F S2x16x8x32768x4),
    unary main_v44 main_v46 (broadcastInDim S2x16x8x32768x1x4 ![0, 1, 2, 3, 5] bcast_S2x16x8x32768x4_S2x16x8x32768x1x4_0_1_2_3_5 : C F S2x16x8x32768x4 → C F S2x16x8x32768x1x4),
    unary main_v45 main_v47 (broadcastInDim S2x16x8x32768x1x4 ![0, 1, 2, 3, 5] bcast_S2x16x8x32768x4_S2x16x8x32768x1x4_0_1_2_3_5 : C F S2x16x8x32768x4 → C F S2x16x8x32768x1x4),
    binary main_v46 main_v47 main_v48 (fn_main_v48 (F := F)),
    reshape main_v48 main_v49 (rfl : (.f32 : EltTy) = .f32) shapeCasts_S2x16x8x32768x2x4_S2x16x8x262144 ]
/-- Operations of butterfly stage 4. -/
abbrev st4a : List (HloOp τ sig (Elt F)) :=
  [ reshape main_v49 main_v50 (rfl : (.f32 : EltTy) = .f32) shapeCasts_S2x16x8x262144_S2x16x8x16384x2x8,
    unary main_v50 main_v51 ((extractStridedSlice S2x16x8x16384x1x8 ![0, 0, 0, 0, 0, 0] · slices_S2x16x8x16384x2x8_S2x16x8x16384x1x8_0_0_0_0_0_0) : C F S2x16x8x16384x2x8 → C F S2x16x8x16384x1x8),
    reshape main_v51 main_v52 (rfl : (.f32 : EltTy) = .f32) shapeCasts_S2x16x8x16384x1x8_S2x16x8x16384x8,
    unary main_v50 main_v53 ((extractStridedSlice S2x16x8x16384x1x8 ![0, 0, 0, 0, 1, 0] · slices_S2x16x8x16384x2x8_S2x16x8x16384x1x8_0_0_0_0_1_0) : C F S2x16x8x16384x2x8 → C F S2x16x8x16384x1x8),
    reshape main_v53 main_v54 (rfl : (.f32 : EltTy) = .f32) shapeCasts_S2x16x8x16384x1x8_S2x16x8x16384x8,
    binary main_v52 main_v54 main_v55 (addf : C F S2x16x8x16384x8 → C F S2x16x8x16384x8 → C F S2x16x8x16384x8),
    binary main_v52 main_v54 main_v56 (subf : C F S2x16x8x16384x8 → C F S2x16x8x16384x8 → C F S2x16x8x16384x8) ]
/-- Operations of butterfly stage 4. -/
abbrev st4b : List (HloOp τ sig (Elt F)) :=
  [ unary main_v55 main_v57 (broadcastInDim S2x16x8x16384x1x8 ![0, 1, 2, 3, 5] bcast_S2x16x8x16384x8_S2x16x8x16384x1x8_0_1_2_3_5 : C F S2x16x8x16384x8 → C F S2x16x8x16384x1x8),
    unary main_v56 main_v58 (broadcastInDim S2x16x8x16384x1x8 ![0, 1, 2, 3, 5] bcast_S2x16x8x16384x8_S2x16x8x16384x1x8_0_1_2_3_5 : C F S2x16x8x16384x8 → C F S2x16x8x16384x1x8),
    binary main_v57 main_v58 main_v59 (fn_main_v59 (F := F)),
    reshape main_v59 main_v60 (rfl : (.f32 : EltTy) = .f32) shapeCasts_S2x16x8x16384x2x8_S2x16x8x262144 ]
/-- Operations of butterfly stage 5. -/
abbrev st5 : List (HloOp τ sig (Elt F)) :=
  [ reshape main_v60 main_v61 (rfl : (.f32 : EltTy) = .f32) shapeCasts_S2x16x8x262144_S2x16x8x8192x2x16,
    unary main_v61 main_v62 ((extractStridedSlice S2x16x8x8192x1x16 ![0, 0, 0, 0, 0, 0] · slices_S2x16x8x8192x2x16_S2x16x8x8192x1x16_0_0_0_0_0_0) : C F S2x16x8x8192x2x16 → C F S2x16x8x8192x1x16),
    reshape main_v62 main_v63 (rfl : (.f32 : EltTy) = .f32) shapeCasts_S2x16x8x8192x1x16_S2x16x8x8192x16,
    unary main_v61 main_v64 ((extractStridedSlice S2x16x8x8192x1x16 ![0, 0, 0, 0, 1, 0] · slices_S2x16x8x8192x2x16_S2x16x8x8192x1x16_0_0_0_0_1_0) : C F S2x16x8x8192x2x16 → C F S2x16x8x8192x1x16),
    reshape main_v64 main_v65 (rfl : (.f32 : EltTy) = .f32) shapeCasts_S2x16x8x8192x1x16_S2x16x8x8192x16,
    binary main_v63 main_v65 main_v66 (addf : C F S2x16x8x8192x16 → C F S2x16x8x8192x16 → C F S2x16x8x8192x16),
    binary main_v63 main_v65 main_v67 (subf : C F S2x16x8x8192x16 → C F S2x16x8x8192x16 → C F S2x16x8x8192x16),
    unary main_v66 main_v68 (broadcastInDim S2x16x8x8192x1x16 ![0, 1, 2, 3, 5] bcast_S2x16x8x8192x16_S2x16x8x8192x1x16_0_1_2_3_5 : C F S2x16x8x8192x16 → C F S2x16x8x8192x1x16),
    unary main_v67 main_v69 (broadcastInDim S2x16x8x8192x1x16 ![0, 1, 2, 3, 5] bcast_S2x16x8x8192x16_S2x16x8x8192x1x16_0_1_2_3_5 : C F S2x16x8x8192x16 → C F S2x16x8x8192x1x16),
    binary main_v68 main_v69 main_v70 (fn_main_v70 (F := F)),
    reshape main_v70 main_v71 (rfl : (.f32 : EltTy) = .f32) shapeCasts_S2x16x8x8192x2x16_S2x16x8x262144 ]
/-- Operations of butterfly stage 6. -/
abbrev st6 : List (HloOp τ sig (Elt F)) :=
  [ reshape main_v71 main_v72 (rfl : (.f32 : EltTy) = .f32) shapeCasts_S2x16x8x262144_S2x16x8x4096x2x32,
    unary main_v72 main_v73 ((extractStridedSlice S2x16x8x4096x1x32 ![0, 0, 0, 0, 0, 0] · slices_S2x16x8x4096x2x32_S2x16x8x4096x1x32_0_0_0_0_0_0) : C F S2x16x8x4096x2x32 → C F S2x16x8x4096x1x32),
    reshape main_v73 main_v74 (rfl : (.f32 : EltTy) = .f32) shapeCasts_S2x16x8x4096x1x32_S2x16x8x4096x32,
    unary main_v72 main_v75 ((extractStridedSlice S2x16x8x4096x1x32 ![0, 0, 0, 0, 1, 0] · slices_S2x16x8x4096x2x32_S2x16x8x4096x1x32_0_0_0_0_1_0) : C F S2x16x8x4096x2x32 → C F S2x16x8x4096x1x32),
    reshape main_v75 main_v76 (rfl : (.f32 : EltTy) = .f32) shapeCasts_S2x16x8x4096x1x32_S2x16x8x4096x32,
    binary main_v74 main_v76 main_v77 (addf : C F S2x16x8x4096x32 → C F S2x16x8x4096x32 → C F S2x16x8x4096x32),
    binary main_v74 main_v76 main_v78 (subf : C F S2x16x8x4096x32 → C F S2x16x8x4096x32 → C F S2x16x8x4096x32),
    unary main_v77 main_v79 (broadcastInDim S2x16x8x4096x1x32 ![0, 1, 2, 3, 5] bcast_S2x16x8x4096x32_S2x16x8x4096x1x32_0_1_2_3_5 : C F S2x16x8x4096x32 → C F S2x16x8x4096x1x32),
    unary main_v78 main_v80 (broadcastInDim S2x16x8x4096x1x32 ![0, 1, 2, 3, 5] bcast_S2x16x8x4096x32_S2x16x8x4096x1x32_0_1_2_3_5 : C F S2x16x8x4096x32 → C F S2x16x8x4096x1x32),
    binary main_v79 main_v80 main_v81 (fn_main_v81 (F := F)),
    reshape main_v81 main_v82 (rfl : (.f32 : EltTy) = .f32) shapeCasts_S2x16x8x4096x2x32_S2x16x8x262144 ]
/-- Operations of butterfly stage 7. -/
abbrev st7 : List (HloOp τ sig (Elt F)) :=
  [ reshape main_v82 main_v83 (rfl : (.f32 : EltTy) = .f32) shapeCasts_S2x16x8x262144_S2x16x8x2048x2x64,
    unary main_v83 main_v84 ((extractStridedSlice S2x16x8x2048x1x64 ![0, 0, 0, 0, 0, 0] · slices_S2x16x8x2048x2x64_S2x16x8x2048x1x64_0_0_0_0_0_0) : C F S2x16x8x2048x2x64 → C F S2x16x8x2048x1x64),
    reshape main_v84 main_v85 (rfl : (.f32 : EltTy) = .f32) shapeCasts_S2x16x8x2048x1x64_S2x16x8x2048x64,
    unary main_v83 main_v86 ((extractStridedSlice S2x16x8x2048x1x64 ![0, 0, 0, 0, 1, 0] · slices_S2x16x8x2048x2x64_S2x16x8x2048x1x64_0_0_0_0_1_0) : C F S2x16x8x2048x2x64 → C F S2x16x8x2048x1x64),
    reshape main_v86 main_v87 (rfl : (.f32 : EltTy) = .f32) shapeCasts_S2x16x8x2048x1x64_S2x16x8x2048x64,
    binary main_v85 main_v87 main_v88 (addf : C F S2x16x8x2048x64 → C F S2x16x8x2048x64 → C F S2x16x8x2048x64),
    binary main_v85 main_v87 main_v89 (subf : C F S2x16x8x2048x64 → C F S2x16x8x2048x64 → C F S2x16x8x2048x64),
    unary main_v88 main_v90 (broadcastInDim S2x16x8x2048x1x64 ![0, 1, 2, 3, 5] bcast_S2x16x8x2048x64_S2x16x8x2048x1x64_0_1_2_3_5 : C F S2x16x8x2048x64 → C F S2x16x8x2048x1x64),
    unary main_v89 main_v91 (broadcastInDim S2x16x8x2048x1x64 ![0, 1, 2, 3, 5] bcast_S2x16x8x2048x64_S2x16x8x2048x1x64_0_1_2_3_5 : C F S2x16x8x2048x64 → C F S2x16x8x2048x1x64),
    binary main_v90 main_v91 main_v92 (fn_main_v92 (F := F)),
    reshape main_v92 main_v93 (rfl : (.f32 : EltTy) = .f32) shapeCasts_S2x16x8x2048x2x64_S2x16x8x262144 ]
/-- Operations of butterfly stage 8. -/
abbrev st8 : List (HloOp τ sig (Elt F)) :=
  [ reshape main_v93 main_v94 (rfl : (.f32 : EltTy) = .f32) shapeCasts_S2x16x8x262144_S2x16x8x1024x2x128,
    unary main_v94 main_v95 ((extractStridedSlice S2x16x8x1024x1x128 ![0, 0, 0, 0, 0, 0] · slices_S2x16x8x1024x2x128_S2x16x8x1024x1x128_0_0_0_0_0_0) : C F S2x16x8x1024x2x128 → C F S2x16x8x1024x1x128),
    reshape main_v95 main_v96 (rfl : (.f32 : EltTy) = .f32) shapeCasts_S2x16x8x1024x1x128_S2x16x8x1024x128,
    unary main_v94 main_v97 ((extractStridedSlice S2x16x8x1024x1x128 ![0, 0, 0, 0, 1, 0] · slices_S2x16x8x1024x2x128_S2x16x8x1024x1x128_0_0_0_0_1_0) : C F S2x16x8x1024x2x128 → C F S2x16x8x1024x1x128),
    reshape main_v97 main_v98 (rfl : (.f32 : EltTy) = .f32) shapeCasts_S2x16x8x1024x1x128_S2x16x8x1024x128,
    binary main_v96 main_v98 main_v99 (addf : C F S2x16x8x1024x128 → C F S2x16x8x1024x128 → C F S2x16x8x1024x128),
    binary main_v96 main_v98 main_v100 (subf : C F S2x16x8x1024x128 → C F S2x16x8x1024x128 → C F S2x16x8x1024x128),
    unary main_v99 main_v101 (broadcastInDim S2x16x8x1024x1x128 ![0, 1, 2, 3, 5] bcast_S2x16x8x1024x128_S2x16x8x1024x1x128_0_1_2_3_5 : C F S2x16x8x1024x128 → C F S2x16x8x1024x1x128),
    unary main_v100 main_v102 (broadcastInDim S2x16x8x1024x1x128 ![0, 1, 2, 3, 5] bcast_S2x16x8x1024x128_S2x16x8x1024x1x128_0_1_2_3_5 : C F S2x16x8x1024x128 → C F S2x16x8x1024x1x128),
    binary main_v101 main_v102 main_v103 (fn_main_v103 (F := F)),
    reshape main_v103 main_v104 (rfl : (.f32 : EltTy) = .f32) shapeCasts_S2x16x8x1024x2x128_S2x16x8x262144 ]
/-- Operations of butterfly stage 9. -/
abbrev st9 : List (HloOp τ sig (Elt F)) :=
  [ reshape main_v104 main_v105 (rfl : (.f32 : EltTy) = .f32) shapeCasts_S2x16x8x262144_S2x16x8x512x2x256,
    unary main_v105 main_v106 ((extractStridedSlice S2x16x8x512x1x256 ![0, 0, 0, 0, 0, 0] · slices_S2x16x8x512x2x256_S2x16x8x512x1x256_0_0_0_0_0_0) : C F S2x16x8x512x2x256 → C F S2x16x8x512x1x256),
    reshape main_v106 main_v107 (rfl : (.f32 : EltTy) = .f32) shapeCasts_S2x16x8x512x1x256_S2x16x8x512x256,
    unary main_v105 main_v108 ((extractStridedSlice S2x16x8x512x1x256 ![0, 0, 0, 0, 1, 0] · slices_S2x16x8x512x2x256_S2x16x8x512x1x256_0_0_0_0_1_0) : C F S2x16x8x512x2x256 → C F S2x16x8x512x1x256),
    reshape main_v108 main_v109 (rfl : (.f32 : EltTy) = .f32) shapeCasts_S2x16x8x512x1x256_S2x16x8x512x256,
    binary main_v107 main_v109 main_v110 (addf : C F S2x16x8x512x256 → C F S2x16x8x512x256 → C F S2x16x8x512x256),
    binary main_v107 main_v109 main_v111 (subf : C F S2x16x8x512x256 → C F S2x16x8x512x256 → C F S2x16x8x512x256),
    unary main_v110 main_v112 (broadcastInDim S2x16x8x512x1x256 ![0, 1, 2, 3, 5] bcast_S2x16x8x512x256_S2x16x8x512x1x256_0_1_2_3_5 : C F S2x16x8x512x256 → C F S2x16x8x512x1x256),
    unary main_v111 main_v113 (broadcastInDim S2x16x8x512x1x256 ![0, 1, 2, 3, 5] bcast_S2x16x8x512x256_S2x16x8x512x1x256_0_1_2_3_5 : C F S2x16x8x512x256 → C F S2x16x8x512x1x256),
    binary main_v112 main_v113 main_v114 (fn_main_v114 (F := F)),
    reshape main_v114 main_v115 (rfl : (.f32 : EltTy) = .f32) shapeCasts_S2x16x8x512x2x256_S2x16x8x262144 ]
/-- Operations of butterfly stage 10. -/
abbrev st10a : List (HloOp τ sig (Elt F)) :=
  [ reshape main_v115 main_v116 (rfl : (.f32 : EltTy) = .f32) shapeCasts_S2x16x8x262144_S2x16x8x256x2x512 ]
/-- Operations of butterfly stage 10. -/
abbrev st10b : List (HloOp τ sig (Elt F)) :=
  [ unary main_v116 main_v117 ((extractStridedSlice S2x16x8x256x1x512 ![0, 0, 0, 0, 0, 0] · slices_S2x16x8x256x2x512_S2x16x8x256x1x512_0_0_0_0_0_0) : C F S2x16x8x256x2x512 → C F S2x16x8x256x1x512),
    reshape main_v117 main_v118 (rfl : (.f32 : EltTy) = .f32) shapeCasts_S2x16x8x256x1x512_S2x16x8x256x512,
    unary main_v116 main_v119 ((extractStridedSlice S2x16x8x256x1x512 ![0, 0, 0, 0, 1, 0] · slices_S2x16x8x256x2x512_S2x16x8x256x1x512_0_0_0_0_1_0) : C F S2x16x8x256x2x512 → C F S2x16x8x256x1x512),
    reshape main_v119 main_v120 (rfl : (.f32 : EltTy) = .f32) shapeCasts_S2x16x8x256x1x512_S2x16x8x256x512,
    binary main_v118 main_v120 main_v121 (addf : C F S2x16x8x256x512 → C F S2x16x8x256x512 → C F S2x16x8x256x512),
    binary main_v118 main_v120 main_v122 (subf : C F S2x16x8x256x512 → C F S2x16x8x256x512 → C F S2x16x8x256x512),
    unary main_v121 main_v123 (broadcastInDim S2x16x8x256x1x512 ![0, 1, 2, 3, 5] bcast_S2x16x8x256x512_S2x16x8x256x1x512_0_1_2_3_5 : C F S2x16x8x256x512 → C F S2x16x8x256x1x512),
    unary main_v122 main_v124 (broadcastInDim S2x16x8x256x1x512 ![0, 1, 2, 3, 5] bcast_S2x16x8x256x512_S2x16x8x256x1x512_0_1_2_3_5 : C F S2x16x8x256x512 → C F S2x16x8x256x1x512),
    binary main_v123 main_v124 main_v125 (fn_main_v125 (F := F)),
    reshape main_v125 main_v126 (rfl : (.f32 : EltTy) = .f32) shapeCasts_S2x16x8x256x2x512_S2x16x8x262144 ]
/-- Operations of butterfly stage 11. -/
abbrev st11 : List (HloOp τ sig (Elt F)) :=
  [ reshape main_v126 main_v127 (rfl : (.f32 : EltTy) = .f32) shapeCasts_S2x16x8x262144_S2x16x8x128x2x1024,
    unary main_v127 main_v128 ((extractStridedSlice S2x16x8x128x1x1024 ![0, 0, 0, 0, 0, 0] · slices_S2x16x8x128x2x1024_S2x16x8x128x1x1024_0_0_0_0_0_0) : C F S2x16x8x128x2x1024 → C F S2x16x8x128x1x1024),
    reshape main_v128 main_v129 (rfl : (.f32 : EltTy) = .f32) shapeCasts_S2x16x8x128x1x1024_S2x16x8x128x1024,
    unary main_v127 main_v130 ((extractStridedSlice S2x16x8x128x1x1024 ![0, 0, 0, 0, 1, 0] · slices_S2x16x8x128x2x1024_S2x16x8x128x1x1024_0_0_0_0_1_0) : C F S2x16x8x128x2x1024 → C F S2x16x8x128x1x1024),
    reshape main_v130 main_v131 (rfl : (.f32 : EltTy) = .f32) shapeCasts_S2x16x8x128x1x1024_S2x16x8x128x1024,
    binary main_v129 main_v131 main_v132 (addf : C F S2x16x8x128x1024 → C F S2x16x8x128x1024 → C F S2x16x8x128x1024),
    binary main_v129 main_v131 main_v133 (subf : C F S2x16x8x128x1024 → C F S2x16x8x128x1024 → C F S2x16x8x128x1024),
    unary main_v132 main_v134 (broadcastInDim S2x16x8x128x1x1024 ![0, 1, 2, 3, 5] bcast_S2x16x8x128x1024_S2x16x8x128x1x1024_0_1_2_3_5 : C F S2x16x8x128x1024 → C F S2x16x8x128x1x1024),
    unary main_v133 main_v135 (broadcastInDim S2x16x8x128x1x1024 ![0, 1, 2, 3, 5] bcast_S2x16x8x128x1024_S2x16x8x128x1x1024_0_1_2_3_5 : C F S2x16x8x128x1024 → C F S2x16x8x128x1x1024),
    binary main_v134 main_v135 main_v136 (fn_main_v136 (F := F)),
    reshape main_v136 main_v137 (rfl : (.f32 : EltTy) = .f32) shapeCasts_S2x16x8x128x2x1024_S2x16x8x262144 ]
/-- Operations of butterfly stage 12. -/
abbrev st12 : List (HloOp τ sig (Elt F)) :=
  [ reshape main_v137 main_v138 (rfl : (.f32 : EltTy) = .f32) shapeCasts_S2x16x8x262144_S2x16x8x64x2x2048,
    unary main_v138 main_v139 ((extractStridedSlice S2x16x8x64x1x2048 ![0, 0, 0, 0, 0, 0] · slices_S2x16x8x64x2x2048_S2x16x8x64x1x2048_0_0_0_0_0_0) : C F S2x16x8x64x2x2048 → C F S2x16x8x64x1x2048),
    reshape main_v139 main_v140 (rfl : (.f32 : EltTy) = .f32) shapeCasts_S2x16x8x64x1x2048_S2x16x8x64x2048,
    unary main_v138 main_v141 ((extractStridedSlice S2x16x8x64x1x2048 ![0, 0, 0, 0, 1, 0] · slices_S2x16x8x64x2x2048_S2x16x8x64x1x2048_0_0_0_0_1_0) : C F S2x16x8x64x2x2048 → C F S2x16x8x64x1x2048),
    reshape main_v141 main_v142 (rfl : (.f32 : EltTy) = .f32) shapeCasts_S2x16x8x64x1x2048_S2x16x8x64x2048,
    binary main_v140 main_v142 main_v143 (addf : C F S2x16x8x64x2048 → C F S2x16x8x64x2048 → C F S2x16x8x64x2048),
    binary main_v140 main_v142 main_v144 (subf : C F S2x16x8x64x2048 → C F S2x16x8x64x2048 → C F S2x16x8x64x2048),
    unary main_v143 main_v145 (broadcastInDim S2x16x8x64x1x2048 ![0, 1, 2, 3, 5] bcast_S2x16x8x64x2048_S2x16x8x64x1x2048_0_1_2_3_5 : C F S2x16x8x64x2048 → C F S2x16x8x64x1x2048),
    unary main_v144 main_v146 (broadcastInDim S2x16x8x64x1x2048 ![0, 1, 2, 3, 5] bcast_S2x16x8x64x2048_S2x16x8x64x1x2048_0_1_2_3_5 : C F S2x16x8x64x2048 → C F S2x16x8x64x1x2048),
    binary main_v145 main_v146 main_v147 (fn_main_v147 (F := F)),
    reshape main_v147 main_v148 (rfl : (.f32 : EltTy) = .f32) shapeCasts_S2x16x8x64x2x2048_S2x16x8x262144 ]
/-- Operations of butterfly stage 13. -/
abbrev st13 : List (HloOp τ sig (Elt F)) :=
  [ reshape main_v148 main_v149 (rfl : (.f32 : EltTy) = .f32) shapeCasts_S2x16x8x262144_S2x16x8x32x2x4096,
    unary main_v149 main_v150 ((extractStridedSlice S2x16x8x32x1x4096 ![0, 0, 0, 0, 0, 0] · slices_S2x16x8x32x2x4096_S2x16x8x32x1x4096_0_0_0_0_0_0) : C F S2x16x8x32x2x4096 → C F S2x16x8x32x1x4096),
    reshape main_v150 main_v151 (rfl : (.f32 : EltTy) = .f32) shapeCasts_S2x16x8x32x1x4096_S2x16x8x32x4096,
    unary main_v149 main_v152 ((extractStridedSlice S2x16x8x32x1x4096 ![0, 0, 0, 0, 1, 0] · slices_S2x16x8x32x2x4096_S2x16x8x32x1x4096_0_0_0_0_1_0) : C F S2x16x8x32x2x4096 → C F S2x16x8x32x1x4096),
    reshape main_v152 main_v153 (rfl : (.f32 : EltTy) = .f32) shapeCasts_S2x16x8x32x1x4096_S2x16x8x32x4096,
    binary main_v151 main_v153 main_v154 (addf : C F S2x16x8x32x4096 → C F S2x16x8x32x4096 → C F S2x16x8x32x4096),
    binary main_v151 main_v153 main_v155 (subf : C F S2x16x8x32x4096 → C F S2x16x8x32x4096 → C F S2x16x8x32x4096),
    unary main_v154 main_v156 (broadcastInDim S2x16x8x32x1x4096 ![0, 1, 2, 3, 5] bcast_S2x16x8x32x4096_S2x16x8x32x1x4096_0_1_2_3_5 : C F S2x16x8x32x4096 → C F S2x16x8x32x1x4096),
    unary main_v155 main_v157 (broadcastInDim S2x16x8x32x1x4096 ![0, 1, 2, 3, 5] bcast_S2x16x8x32x4096_S2x16x8x32x1x4096_0_1_2_3_5 : C F S2x16x8x32x4096 → C F S2x16x8x32x1x4096),
    binary main_v156 main_v157 main_v158 (fn_main_v158 (F := F)),
    reshape main_v158 main_v159 (rfl : (.f32 : EltTy) = .f32) shapeCasts_S2x16x8x32x2x4096_S2x16x8x262144 ]
/-- Operations of butterfly stage 14. -/
abbrev st14 : List (HloOp τ sig (Elt F)) :=
  [ reshape main_v159 main_v160 (rfl : (.f32 : EltTy) = .f32) shapeCasts_S2x16x8x262144_S2x16x8x16x2x8192,
    unary main_v160 main_v161 ((extractStridedSlice S2x16x8x16x1x8192 ![0, 0, 0, 0, 0, 0] · slices_S2x16x8x16x2x8192_S2x16x8x16x1x8192_0_0_0_0_0_0) : C F S2x16x8x16x2x8192 → C F S2x16x8x16x1x8192),
    reshape main_v161 main_v162 (rfl : (.f32 : EltTy) = .f32) shapeCasts_S2x16x8x16x1x8192_S2x16x8x16x8192,
    unary main_v160 main_v163 ((extractStridedSlice S2x16x8x16x1x8192 ![0, 0, 0, 0, 1, 0] · slices_S2x16x8x16x2x8192_S2x16x8x16x1x8192_0_0_0_0_1_0) : C F S2x16x8x16x2x8192 → C F S2x16x8x16x1x8192),
    reshape main_v163 main_v164 (rfl : (.f32 : EltTy) = .f32) shapeCasts_S2x16x8x16x1x8192_S2x16x8x16x8192,
    binary main_v162 main_v164 main_v165 (addf : C F S2x16x8x16x8192 → C F S2x16x8x16x8192 → C F S2x16x8x16x8192),
    binary main_v162 main_v164 main_v166 (subf : C F S2x16x8x16x8192 → C F S2x16x8x16x8192 → C F S2x16x8x16x8192),
    unary main_v165 main_v167 (broadcastInDim S2x16x8x16x1x8192 ![0, 1, 2, 3, 5] bcast_S2x16x8x16x8192_S2x16x8x16x1x8192_0_1_2_3_5 : C F S2x16x8x16x8192 → C F S2x16x8x16x1x8192),
    unary main_v166 main_v168 (broadcastInDim S2x16x8x16x1x8192 ![0, 1, 2, 3, 5] bcast_S2x16x8x16x8192_S2x16x8x16x1x8192_0_1_2_3_5 : C F S2x16x8x16x8192 → C F S2x16x8x16x1x8192),
    binary main_v167 main_v168 main_v169 (fn_main_v169 (F := F)),
    reshape main_v169 main_v170 (rfl : (.f32 : EltTy) = .f32) shapeCasts_S2x16x8x16x2x8192_S2x16x8x262144 ]
/-- Operations of butterfly stage 15. -/
abbrev st15a : List (HloOp τ sig (Elt F)) :=
  [ reshape main_v170 main_v171 (rfl : (.f32 : EltTy) = .f32) shapeCasts_S2x16x8x262144_S2x16x8x8x2x16384,
    unary main_v171 main_v172 ((extractStridedSlice S2x16x8x8x1x16384 ![0, 0, 0, 0, 0, 0] · slices_S2x16x8x8x2x16384_S2x16x8x8x1x16384_0_0_0_0_0_0) : C F S2x16x8x8x2x16384 → C F S2x16x8x8x1x16384),
    reshape main_v172 main_v173 (rfl : (.f32 : EltTy) = .f32) shapeCasts_S2x16x8x8x1x16384_S2x16x8x8x16384,
    unary main_v171 main_v174 ((extractStridedSlice S2x16x8x8x1x16384 ![0, 0, 0, 0, 1, 0] · slices_S2x16x8x8x2x16384_S2x16x8x8x1x16384_0_0_0_0_1_0) : C F S2x16x8x8x2x16384 → C F S2x16x8x8x1x16384),
    reshape main_v174 main_v175 (rfl : (.f32 : EltTy) = .f32) shapeCasts_S2x16x8x8x1x16384_S2x16x8x8x16384,
    binary main_v173 main_v175 main_v176 (addf : C F S2x16x8x8x16384 → C F S2x16x8x8x16384 → C F S2x16x8x8x16384) ]
/-- Operations of butterfly stage 15. -/
abbrev st15b : List (HloOp τ sig (Elt F)) :=
  [ binary main_v173 main_v175 main_v177 (subf : C F S2x16x8x8x16384 → C F S2x16x8x8x16384 → C F S2x16x8x8x16384),
    unary main_v176 main_v178 (broadcastInDim S2x16x8x8x1x16384 ![0, 1, 2, 3, 5] bcast_S2x16x8x8x16384_S2x16x8x8x1x16384_0_1_2_3_5 : C F S2x16x8x8x16384 → C F S2x16x8x8x1x16384),
    unary main_v177 main_v179 (broadcastInDim S2x16x8x8x1x16384 ![0, 1, 2, 3, 5] bcast_S2x16x8x8x16384_S2x16x8x8x1x16384_0_1_2_3_5 : C F S2x16x8x8x16384 → C F S2x16x8x8x1x16384),
    binary main_v178 main_v179 main_v180 (fn_main_v180 (F := F)),
    reshape main_v180 main_v181 (rfl : (.f32 : EltTy) = .f32) shapeCasts_S2x16x8x8x2x16384_S2x16x8x262144 ]
/-- Operations of butterfly stage 16. -/
abbrev st16 : List (HloOp τ sig (Elt F)) :=
  [ reshape main_v181 main_v182 (rfl : (.f32 : EltTy) = .f32) shapeCasts_S2x16x8x262144_S2x16x8x4x2x32768,
    unary main_v182 main_v183 ((extractStridedSlice S2x16x8x4x1x32768 ![0, 0, 0, 0, 0, 0] · slices_S2x16x8x4x2x32768_S2x16x8x4x1x32768_0_0_0_0_0_0) : C F S2x16x8x4x2x32768 → C F S2x16x8x4x1x32768),
    reshape main_v183 main_v184 (rfl : (.f32 : EltTy) = .f32) shapeCasts_S2x16x8x4x1x32768_S2x16x8x4x32768,
    unary main_v182 main_v185 ((extractStridedSlice S2x16x8x4x1x32768 ![0, 0, 0, 0, 1, 0] · slices_S2x16x8x4x2x32768_S2x16x8x4x1x32768_0_0_0_0_1_0) : C F S2x16x8x4x2x32768 → C F S2x16x8x4x1x32768),
    reshape main_v185 main_v186 (rfl : (.f32 : EltTy) = .f32) shapeCasts_S2x16x8x4x1x32768_S2x16x8x4x32768,
    binary main_v184 main_v186 main_v187 (addf : C F S2x16x8x4x32768 → C F S2x16x8x4x32768 → C F S2x16x8x4x32768),
    binary main_v184 main_v186 main_v188 (subf : C F S2x16x8x4x32768 → C F S2x16x8x4x32768 → C F S2x16x8x4x32768),
    unary main_v187 main_v189 (broadcastInDim S2x16x8x4x1x32768 ![0, 1, 2, 3, 5] bcast_S2x16x8x4x32768_S2x16x8x4x1x32768_0_1_2_3_5 : C F S2x16x8x4x32768 → C F S2x16x8x4x1x32768),
    unary main_v188 main_v190 (broadcastInDim S2x16x8x4x1x32768 ![0, 1, 2, 3, 5] bcast_S2x16x8x4x32768_S2x16x8x4x1x32768_0_1_2_3_5 : C F S2x16x8x4x32768 → C F S2x16x8x4x1x32768),
    binary main_v189 main_v190 main_v191 (fn_main_v191 (F := F)),
    reshape main_v191 main_v192 (rfl : (.f32 : EltTy) = .f32) shapeCasts_S2x16x8x4x2x32768_S2x16x8x262144 ]
/-- Operations of butterfly stage 17. -/
abbrev st17 : List (HloOp τ sig (Elt F)) :=
  [ reshape main_v192 main_v193 (rfl : (.f32 : EltTy) = .f32) shapeCasts_S2x16x8x262144_S2x16x8x2x2x65536,
    unary main_v193 main_v194 ((extractStridedSlice S2x16x8x2x1x65536 ![0, 0, 0, 0, 0, 0] · slices_S2x16x8x2x2x65536_S2x16x8x2x1x65536_0_0_0_0_0_0) : C F S2x16x8x2x2x65536 → C F S2x16x8x2x1x65536),
    reshape main_v194 main_v195 (rfl : (.f32 : EltTy) = .f32) shapeCasts_S2x16x8x2x1x65536_S2x16x8x2x65536,
    unary main_v193 main_v196 ((extractStridedSlice S2x16x8x2x1x65536 ![0, 0, 0, 0, 1, 0] · slices_S2x16x8x2x2x65536_S2x16x8x2x1x65536_0_0_0_0_1_0) : C F S2x16x8x2x2x65536 → C F S2x16x8x2x1x65536),
    reshape main_v196 main_v197 (rfl : (.f32 : EltTy) = .f32) shapeCasts_S2x16x8x2x1x65536_S2x16x8x2x65536,
    binary main_v195 main_v197 main_v198 (addf : C F S2x16x8x2x65536 → C F S2x16x8x2x65536 → C F S2x16x8x2x65536),
    binary main_v195 main_v197 main_v199 (subf : C F S2x16x8x2x65536 → C F S2x16x8x2x65536 → C F S2x16x8x2x65536),
    unary main_v198 main_v200 (broadcastInDim S2x16x8x2x1x65536 ![0, 1, 2, 3, 5] bcast_S2x16x8x2x65536_S2x16x8x2x1x65536_0_1_2_3_5 : C F S2x16x8x2x65536 → C F S2x16x8x2x1x65536),
    unary main_v199 main_v201 (broadcastInDim S2x16x8x2x1x65536 ![0, 1, 2, 3, 5] bcast_S2x16x8x2x65536_S2x16x8x2x1x65536_0_1_2_3_5 : C F S2x16x8x2x65536 → C F S2x16x8x2x1x65536),
    binary main_v200 main_v201 main_v202 (fn_main_v202 (F := F)),
    reshape main_v202 main_v203 (rfl : (.f32 : EltTy) = .f32) shapeCasts_S2x16x8x2x2x65536_S2x16x8x262144 ]
/-- Operations of butterfly stage 18. -/
abbrev st18 : List (HloOp τ sig (Elt F)) :=
  [ reshape main_v203 main_v204 (rfl : (.f32 : EltTy) = .f32) shapeCasts_S2x16x8x262144_S2x16x8x1x2x131072,
    unary main_v204 main_v205 ((extractStridedSlice S2x16x8x1x1x131072 ![0, 0, 0, 0, 0, 0] · slices_S2x16x8x1x2x131072_S2x16x8x1x1x131072_0_0_0_0_0_0) : C F S2x16x8x1x2x131072 → C F S2x16x8x1x1x131072),
    reshape main_v205 main_v206 (rfl : (.f32 : EltTy) = .f32) shapeCasts_S2x16x8x1x1x131072_S2x16x8x1x131072,
    unary main_v204 main_v207 ((extractStridedSlice S2x16x8x1x1x131072 ![0, 0, 0, 0, 1, 0] · slices_S2x16x8x1x2x131072_S2x16x8x1x1x131072_0_0_0_0_1_0) : C F S2x16x8x1x2x131072 → C F S2x16x8x1x1x131072),
    reshape main_v207 main_v208 (rfl : (.f32 : EltTy) = .f32) shapeCasts_S2x16x8x1x1x131072_S2x16x8x1x131072,
    binary main_v206 main_v208 main_v209 (addf : C F S2x16x8x1x131072 → C F S2x16x8x1x131072 → C F S2x16x8x1x131072),
    binary main_v206 main_v208 main_v210 (subf : C F S2x16x8x1x131072 → C F S2x16x8x1x131072 → C F S2x16x8x1x131072),
    unary main_v209 main_v211 (broadcastInDim S2x16x8x1x1x131072 ![0, 1, 2, 3, 5] bcast_S2x16x8x1x131072_S2x16x8x1x1x131072_0_1_2_3_5 : C F S2x16x8x1x131072 → C F S2x16x8x1x1x131072),
    unary main_v210 main_v212 (broadcastInDim S2x16x8x1x1x131072 ![0, 1, 2, 3, 5] bcast_S2x16x8x1x131072_S2x16x8x1x1x131072_0_1_2_3_5 : C F S2x16x8x1x131072 → C F S2x16x8x1x1x131072),
    binary main_v211 main_v212 main_v213 (fn_main_v213 (F := F)),
    reshape main_v213 main_v214 (rfl : (.f32 : EltTy) = .f32) shapeCasts_S2x16x8x1x2x131072_S2x16x8x262144 ]
/-- Operations of butterfly stage 19. -/
abbrev st19 : List (HloOp τ sig (Elt F)) :=
  [ reshape main_v214 main_v215 (rfl : (.f32 : EltTy) = .f32) shapeCasts_S2x16x8x262144_S2x16x4x2x1x262144,
    unary main_v215 main_v216 ((extractStridedSlice S2x16x4x1x1x262144 ![0, 0, 0, 0, 0, 0] · slices_S2x16x4x2x1x262144_S2x16x4x1x1x262144_0_0_0_0_0_0) : C F S2x16x4x2x1x262144 → C F S2x16x4x1x1x262144),
    reshape main_v216 main_v217 (rfl : (.f32 : EltTy) = .f32) shapeCasts_S2x16x4x1x1x262144_S2x16x4x1x262144,
    unary main_v215 main_v218 ((extractStridedSlice S2x16x4x1x1x262144 ![0, 0, 0, 1, 0, 0] · slices_S2x16x4x2x1x262144_S2x16x4x1x1x262144_0_0_0_1_0_0) : C F S2x16x4x2x1x262144 → C F S2x16x4x1x1x262144),
    reshape main_v218 main_v219 (rfl : (.f32 : EltTy) = .f32) shapeCasts_S2x16x4x1x1x262144_S2x16x4x1x262144,
    binary main_v217 main_v219 main_v220 (addf : C F S2x16x4x1x262144 → C F S2x16x4x1x262144 → C F S2x16x4x1x262144),
    binary main_v217 main_v219 main_v221 (subf : C F S2x16x4x1x262144 → C F S2x16x4x1x262144 → C F S2x16x4x1x262144),
    unary main_v220 main_v222 (broadcastInDim S2x16x4x1x1x262144 ![0, 1, 2, 4, 5] bcast_S2x16x4x1x262144_S2x16x4x1x1x262144_0_1_2_4_5 : C F S2x16x4x1x262144 → C F S2x16x4x1x1x262144),
    unary main_v221 main_v223 (broadcastInDim S2x16x4x1x1x262144 ![0, 1, 2, 4, 5] bcast_S2x16x4x1x262144_S2x16x4x1x1x262144_0_1_2_4_5 : C F S2x16x4x1x262144 → C F S2x16x4x1x1x262144),
    binary main_v222 main_v223 main_v224 (fn_main_v224 (F := F)),
    reshape main_v224 main_v225 (rfl : (.f32 : EltTy) = .f32) shapeCasts_S2x16x4x2x1x262144_S2x16x8x262144 ]
/-- Operations of butterfly stage 20. -/
abbrev st20 : List (HloOp τ sig (Elt F)) :=
  [ reshape main_v225 main_v226 (rfl : (.f32 : EltTy) = .f32) shapeCasts_S2x16x8x262144_S2x16x2x2x2x262144,
    unary main_v226 main_v227 ((extractStridedSlice S2x16x2x1x2x262144 ![0, 0, 0, 0, 0, 0] · slices_S2x16x2x2x2x262144_S2x16x2x1x2x262144_0_0_0_0_0_0) : C F S2x16x2x2x2x262144 → C F S2x16x2x1x2x262144),
    reshape main_v227 main_v228 (rfl : (.f32 : EltTy) = .f32) shapeCasts_S2x16x2x1x2x262144_S2x16x2x2x262144,
    unary main_v226 main_v229 ((extractStridedSlice S2x16x2x1x2x262144 ![0, 0, 0, 1, 0, 0] · slices_S2x16x2x2x2x262144_S2x16x2x1x2x262144_0_0_0_1_0_0) : C F S2x16x2x2x2x262144 → C F S2x16x2x1x2x262144),
    reshape main_v229 main_v230 (rfl : (.f32 : EltTy) = .f32) shapeCasts_S2x16x2x1x2x262144_S2x16x2x2x262144,
    binary main_v228 main_v230 main_v231 (addf : C F S2x16x2x2x262144 → C F S2x16x2x2x262144 → C F S2x16x2x2x262144),
    binary main_v228 main_v230 main_v232 (subf : C F S2x16x2x2x262144 → C F S2x16x2x2x262144 → C F S2x16x2x2x262144),
    unary main_v231 main_v233 (broadcastInDim S2x16x2x1x2x262144 ![0, 1, 2, 4, 5] bcast_S2x16x2x2x262144_S2x16x2x1x2x262144_0_1_2_4_5 : C F S2x16x2x2x262144 → C F S2x16x2x1x2x262144),
    unary main_v232 main_v234 (broadcastInDim S2x16x2x1x2x262144 ![0, 1, 2, 4, 5] bcast_S2x16x2x2x262144_S2x16x2x1x2x262144_0_1_2_4_5 : C F S2x16x2x2x262144 → C F S2x16x2x1x2x262144),
    binary main_v233 main_v234 main_v235 (fn_main_v235 (F := F)),
    reshape main_v235 main_v236 (rfl : (.f32 : EltTy) = .f32) shapeCasts_S2x16x2x2x2x262144_S2x16x8x262144 ]
/-- Operations of butterfly stage 21. -/
abbrev st21 : List (HloOp τ sig (Elt F)) :=
  [ reshape main_v236 main_v237 (rfl : (.f32 : EltTy) = .f32) shapeCasts_S2x16x8x262144_S2x16x1x2x4x262144,
    unary main_v237 main_v238 ((extractStridedSlice S2x16x1x1x4x262144 ![0, 0, 0, 0, 0, 0] · slices_S2x16x1x2x4x262144_S2x16x1x1x4x262144_0_0_0_0_0_0) : C F S2x16x1x2x4x262144 → C F S2x16x1x1x4x262144),
    reshape main_v238 main_v239 (rfl : (.f32 : EltTy) = .f32) shapeCasts_S2x16x1x1x4x262144_S2x16x1x4x262144,
    unary main_v237 main_v240 ((extractStridedSlice S2x16x1x1x4x262144 ![0, 0, 0, 1, 0, 0] · slices_S2x16x1x2x4x262144_S2x16x1x1x4x262144_0_0_0_1_0_0) : C F S2x16x1x2x4x262144 → C F S2x16x1x1x4x262144),
    reshape main_v240 main_v241 (rfl : (.f32 : EltTy) = .f32) shapeCasts_S2x16x1x1x4x262144_S2x16x1x4x262144,
    binary main_v239 main_v241 main_v242 (addf : C F S2x16x1x4x262144 → C F S2x16x1x4x262144 → C F S2x16x1x4x262144),
    binary main_v239 main_v241 main_v243 (subf : C F S2x16x1x4x262144 → C F S2x16x1x4x262144 → C F S2x16x1x4x262144),
    unary main_v242 main_v244 (broadcastInDim S2x16x1x1x4x262144 ![0, 1, 2, 4, 5] bcast_S2x16x1x4x262144_S2x16x1x1x4x262144_0_1_2_4_5 : C F S2x16x1x4x262144 → C F S2x16x1x1x4x262144),
    unary main_v243 main_v245 (broadcastInDim S2x16x1x1x4x262144 ![0, 1, 2, 4, 5] bcast_S2x16x1x4x262144_S2x16x1x1x4x262144_0_1_2_4_5 : C F S2x16x1x4x262144 → C F S2x16x1x1x4x262144),
    binary main_v244 main_v245 main_v246 (fn_main_v246 (F := F)),
    reshape main_v246 main_v247 (rfl : (.f32 : EltTy) = .f32) shapeCasts_S2x16x1x2x4x262144_S2x16x8x262144 ]
/-- The operations of the sums of squares, and the last reshape. -/
abbrev st22 : List (HloOp τ sig (Elt F)) :=
  [ binary main_arg0 main_arg0 main_v248 (mulf : C F S2x128x262144 → C F S2x128x262144 → C F S2x128x262144),
    reshape main_v248 main_v249 (rfl : (.f32 : EltTy) = .f32) shapeCasts_S2x128x262144_S2x16x8x2048x128,
    nullary main_cst_1 (constant S_ .f32 0x00000000#32),
    binary main_v249 main_cst_1 main_v250 ((fun x v => Host.reduceAdd x v reducesTo_S2x16x8x2048x128_S2x8x128_d1_3 h_S_) : C F S2x16x8x2048x128 → C F S_ → C F S2x8x128),
    reshape main_v247 main_v251 (rfl : (.f32 : EltTy) = .f32) shapeCasts_S2x16x8x262144_S2x128x262144 ]
/-- The operations of window `main_part0`. -/
abbrev ops_part0 : List (HloOp τ sig (Elt F)) :=
  st0 ++ (st1 ++ (st2 ++ (st3 ++ (st4a))))
/-- The operations of window `main_part1`. -/
abbrev ops_part1 : List (HloOp τ sig (Elt F)) :=
  st4b ++ (st5 ++ (st6 ++ (st7 ++ (st8 ++ (st9 ++ (st10a))))))
/-- The operations of window `main_part2`. -/
abbrev ops_part2 : List (HloOp τ sig (Elt F)) :=
  st10b ++ (st11 ++ (st12 ++ (st13 ++ (st14 ++ (st15a)))))
/-- The operations of window `main_part3`. -/
abbrev ops_part3 : List (HloOp τ sig (Elt F)) :=
  st15b ++ (st16 ++ (st17 ++ (st18 ++ (st19 ++ (st20)))))
/-- The operations of window `main_part4`. -/
abbrev ops_part4 : List (HloOp τ sig (Elt F)) :=
  st21 ++ (st22)
/-- All the operations, in order. -/
abbrev ops : List (HloOp τ sig (Elt F)) :=
  ops_part0 ++ (ops_part1 ++ (ops_part2 ++ (ops_part3 ++ (ops_part4))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
theorem st0_sub : (st0 : List (HloOp τ sig (Elt F))).Forall fun op => op.bufs ⊆ tcRefs τ sig :=
  ⟨nullary_bufs_sub .., unary_bufs_sub .., unary_bufs_sub .., unary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., reshape_bufs_sub .., binary_bufs_sub .., reshape_bufs_sub ..⟩
theorem st0_fresh : (st0 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem st1_sub : (st1 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st1_fresh : (st1 : List (HloOp τ sig (Elt F))).Forall fun op => op.fresh = ∅ :=
  ⟨rfl, rfl, rfl, rfl, rfl, rfl, rfl, rfl, rfl, rfl, rfl⟩
theorem st2_sub : (st2 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st2_fresh : (st2 : List (HloOp τ sig (Elt F))).Forall fun op => op.fresh = ∅ :=
  ⟨rfl, rfl, rfl, rfl, rfl, rfl, rfl, rfl, rfl, rfl, rfl⟩
theorem st3_sub : (st3 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st3_fresh : (st3 : List (HloOp τ sig (Elt F))).Forall fun op => op.fresh = ∅ :=
  ⟨rfl, rfl, rfl, rfl, rfl, rfl, rfl, rfl, rfl, rfl, rfl⟩
theorem st4a_sub : (st4a : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub ..⟩
theorem st4a_fresh : (st4a : List (HloOp τ sig (Elt F))).Forall fun op => op.fresh = ∅ :=
  ⟨rfl, rfl, rfl, rfl, rfl, rfl, rfl⟩
theorem st4b_sub : (st4b : List (HloOp τ sig (Elt F))).Forall fun op => op.bufs ⊆ tcRefs τ sig :=
  ⟨unary_bufs_sub .., unary_bufs_sub .., binary_bufs_sub .., reshape_bufs_sub ..⟩
theorem st4b_fresh : (st4b : List (HloOp τ sig (Elt F))).Forall fun op => op.fresh = ∅ :=
  ⟨rfl, rfl, rfl, rfl⟩
theorem st5_sub : (st5 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st5_fresh : (st5 : List (HloOp τ sig (Elt F))).Forall fun op => op.fresh = ∅ :=
  ⟨rfl, rfl, rfl, rfl, rfl, rfl, rfl, rfl, rfl, rfl, rfl⟩
theorem st6_sub : (st6 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st6_fresh : (st6 : List (HloOp τ sig (Elt F))).Forall fun op => op.fresh = ∅ :=
  ⟨rfl, rfl, rfl, rfl, rfl, rfl, rfl, rfl, rfl, rfl, rfl⟩
theorem st7_sub : (st7 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st7_fresh : (st7 : List (HloOp τ sig (Elt F))).Forall fun op => op.fresh = ∅ :=
  ⟨rfl, rfl, rfl, rfl, rfl, rfl, rfl, rfl, rfl, rfl, rfl⟩
theorem st8_sub : (st8 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st8_fresh : (st8 : List (HloOp τ sig (Elt F))).Forall fun op => op.fresh = ∅ :=
  ⟨rfl, rfl, rfl, rfl, rfl, rfl, rfl, rfl, rfl, rfl, rfl⟩
theorem st9_sub : (st9 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st9_fresh : (st9 : List (HloOp τ sig (Elt F))).Forall fun op => op.fresh = ∅ :=
  ⟨rfl, rfl, rfl, rfl, rfl, rfl, rfl, rfl, rfl, rfl, rfl⟩
theorem st10a_sub : (st10a : List (HloOp τ sig (Elt F))).Forall fun op => op.bufs ⊆ tcRefs τ sig :=
  reshape_bufs_sub ..
theorem st10a_fresh : (st10a : List (HloOp τ sig (Elt F))).Forall fun op => op.fresh = ∅ :=
  rfl
theorem st10b_sub : (st10b : List (HloOp τ sig (Elt F))).Forall fun op => op.bufs ⊆ tcRefs τ sig :=
  ⟨unary_bufs_sub .., reshape_bufs_sub .., unary_bufs_sub .., reshape_bufs_sub .., binary_bufs_sub .., binary_bufs_sub .., unary_bufs_sub .., unary_bufs_sub .., binary_bufs_sub .., reshape_bufs_sub ..⟩
theorem st10b_fresh : (st10b : List (HloOp τ sig (Elt F))).Forall fun op => op.fresh = ∅ :=
  ⟨rfl, rfl, rfl, rfl, rfl, rfl, rfl, rfl, rfl, rfl⟩
theorem st11_sub : (st11 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st11_fresh : (st11 : List (HloOp τ sig (Elt F))).Forall fun op => op.fresh = ∅ :=
  ⟨rfl, rfl, rfl, rfl, rfl, rfl, rfl, rfl, rfl, rfl, rfl⟩
theorem st12_sub : (st12 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st12_fresh : (st12 : List (HloOp τ sig (Elt F))).Forall fun op => op.fresh = ∅ :=
  ⟨rfl, rfl, rfl, rfl, rfl, rfl, rfl, rfl, rfl, rfl, rfl⟩
theorem st13_sub : (st13 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st13_fresh : (st13 : List (HloOp τ sig (Elt F))).Forall fun op => op.fresh = ∅ :=
  ⟨rfl, rfl, rfl, rfl, rfl, rfl, rfl, rfl, rfl, rfl, rfl⟩
theorem st14_sub : (st14 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st14_fresh : (st14 : List (HloOp τ sig (Elt F))).Forall fun op => op.fresh = ∅ :=
  ⟨rfl, rfl, rfl, rfl, rfl, rfl, rfl, rfl, rfl, rfl, rfl⟩
theorem st15a_sub : (st15a : List (HloOp τ sig (Elt F))).Forall fun op => op.bufs ⊆ tcRefs τ sig :=
  ⟨reshape_bufs_sub .., unary_bufs_sub .., reshape_bufs_sub .., unary_bufs_sub .., reshape_bufs_sub .., binary_bufs_sub ..⟩
theorem st15a_fresh : (st15a : List (HloOp τ sig (Elt F))).Forall fun op => op.fresh = ∅ :=
  ⟨rfl, rfl, rfl, rfl, rfl, rfl⟩
theorem st15b_sub : (st15b : List (HloOp τ sig (Elt F))).Forall fun op => op.bufs ⊆ tcRefs τ sig :=
  ⟨binary_bufs_sub .., unary_bufs_sub .., unary_bufs_sub .., binary_bufs_sub .., reshape_bufs_sub ..⟩
theorem st15b_fresh : (st15b : List (HloOp τ sig (Elt F))).Forall fun op => op.fresh = ∅ :=
  ⟨rfl, rfl, rfl, rfl, rfl⟩
theorem st16_sub : (st16 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st16_fresh : (st16 : List (HloOp τ sig (Elt F))).Forall fun op => op.fresh = ∅ :=
  ⟨rfl, rfl, rfl, rfl, rfl, rfl, rfl, rfl, rfl, rfl, rfl⟩
theorem st17_sub : (st17 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st17_fresh : (st17 : List (HloOp τ sig (Elt F))).Forall fun op => op.fresh = ∅ :=
  ⟨rfl, rfl, rfl, rfl, rfl, rfl, rfl, rfl, rfl, rfl, rfl⟩
theorem st18_sub : (st18 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st18_fresh : (st18 : List (HloOp τ sig (Elt F))).Forall fun op => op.fresh = ∅ :=
  ⟨rfl, rfl, rfl, rfl, rfl, rfl, rfl, rfl, rfl, rfl, rfl⟩
theorem st19_sub : (st19 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st19_fresh : (st19 : List (HloOp τ sig (Elt F))).Forall fun op => op.fresh = ∅ :=
  ⟨rfl, rfl, rfl, rfl, rfl, rfl, rfl, rfl, rfl, rfl, rfl⟩
theorem st20_sub : (st20 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st20_fresh : (st20 : List (HloOp τ sig (Elt F))).Forall fun op => op.fresh = ∅ :=
  ⟨rfl, rfl, rfl, rfl, rfl, rfl, rfl, rfl, rfl, rfl, rfl⟩
theorem st21_sub : (st21 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st21_fresh : (st21 : List (HloOp τ sig (Elt F))).Forall fun op => op.fresh = ∅ :=
  ⟨rfl, rfl, rfl, rfl, rfl, rfl, rfl, rfl, rfl, rfl, rfl⟩
theorem st22_sub : (st22 : List (HloOp τ sig (Elt F))).Forall fun op => op.bufs ⊆ tcRefs τ sig :=
  ⟨binary_bufs_sub .., reshape_bufs_sub .., nullary_bufs_sub .., binary_bufs_sub .., reshape_bufs_sub ..⟩
theorem st22_fresh : (st22 : List (HloOp τ sig (Elt F))).Forall fun op => op.fresh = ∅ :=
  ⟨rfl, rfl, rfl, rfl, rfl⟩
theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · exact List.forall_iff_forall_mem.mp st0_sub op h
      rcases List.mem_append.mp h with h | h
      · exact List.forall_iff_forall_mem.mp st1_sub op h
      rcases List.mem_append.mp h with h | h
      · exact List.forall_iff_forall_mem.mp st2_sub op h
      rcases List.mem_append.mp h with h | h
      · exact List.forall_iff_forall_mem.mp st3_sub op h
      · exact List.forall_iff_forall_mem.mp st4a_sub op h
    rcases List.mem_append.mp h with h | h
    · rcases List.mem_append.mp h with h | h
      · exact List.forall_iff_forall_mem.mp st4b_sub op h
      rcases List.mem_append.mp h with h | h
      · exact List.forall_iff_forall_mem.mp st5_sub op h
      rcases List.mem_append.mp h with h | h
      · exact List.forall_iff_forall_mem.mp st6_sub op h
      rcases List.mem_append.mp h with h | h
      · exact List.forall_iff_forall_mem.mp st7_sub op h
      rcases List.mem_append.mp h with h | h
      · exact List.forall_iff_forall_mem.mp st8_sub op h
      rcases List.mem_append.mp h with h | h
      · exact List.forall_iff_forall_mem.mp st9_sub op h
      · exact List.forall_iff_forall_mem.mp st10a_sub op h
    rcases List.mem_append.mp h with h | h
    · rcases List.mem_append.mp h with h | h
      · exact List.forall_iff_forall_mem.mp st10b_sub op h
      rcases List.mem_append.mp h with h | h
      · exact List.forall_iff_forall_mem.mp st11_sub op h
      rcases List.mem_append.mp h with h | h
      · exact List.forall_iff_forall_mem.mp st12_sub op h
      rcases List.mem_append.mp h with h | h
      · exact List.forall_iff_forall_mem.mp st13_sub op h
      rcases List.mem_append.mp h with h | h
      · exact List.forall_iff_forall_mem.mp st14_sub op h
      · exact List.forall_iff_forall_mem.mp st15a_sub op h
    rcases List.mem_append.mp h with h | h
    · rcases List.mem_append.mp h with h | h
      · exact List.forall_iff_forall_mem.mp st15b_sub op h
      rcases List.mem_append.mp h with h | h
      · exact List.forall_iff_forall_mem.mp st16_sub op h
      rcases List.mem_append.mp h with h | h
      · exact List.forall_iff_forall_mem.mp st17_sub op h
      rcases List.mem_append.mp h with h | h
      · exact List.forall_iff_forall_mem.mp st18_sub op h
      rcases List.mem_append.mp h with h | h
      · exact List.forall_iff_forall_mem.mp st19_sub op h
      · exact List.forall_iff_forall_mem.mp st20_sub op h
    · rcases List.mem_append.mp h with h | h
      · exact List.forall_iff_forall_mem.mp st21_sub op h
      · exact List.forall_iff_forall_mem.mp st22_sub op h
theorem ops_fresh : ∀ op ∈ (ops : List (HloOp τ sig (Elt F))), op.fresh = ∅ := fun op h => by
    rcases List.mem_append.mp h with h | h
    · rcases List.mem_append.mp h with h | h
      · exact List.forall_iff_forall_mem.mp st0_fresh op h
      rcases List.mem_append.mp h with h | h
      · exact List.forall_iff_forall_mem.mp st1_fresh op h
      rcases List.mem_append.mp h with h | h
      · exact List.forall_iff_forall_mem.mp st2_fresh op h
      rcases List.mem_append.mp h with h | h
      · exact List.forall_iff_forall_mem.mp st3_fresh op h
      · exact List.forall_iff_forall_mem.mp st4a_fresh op h
    rcases List.mem_append.mp h with h | h
    · rcases List.mem_append.mp h with h | h
      · exact List.forall_iff_forall_mem.mp st4b_fresh op h
      rcases List.mem_append.mp h with h | h
      · exact List.forall_iff_forall_mem.mp st5_fresh op h
      rcases List.mem_append.mp h with h | h
      · exact List.forall_iff_forall_mem.mp st6_fresh op h
      rcases List.mem_append.mp h with h | h
      · exact List.forall_iff_forall_mem.mp st7_fresh op h
      rcases List.mem_append.mp h with h | h
      · exact List.forall_iff_forall_mem.mp st8_fresh op h
      rcases List.mem_append.mp h with h | h
      · exact List.forall_iff_forall_mem.mp st9_fresh op h
      · exact List.forall_iff_forall_mem.mp st10a_fresh op h
    rcases List.mem_append.mp h with h | h
    · rcases List.mem_append.mp h with h | h
      · exact List.forall_iff_forall_mem.mp st10b_fresh op h
      rcases List.mem_append.mp h with h | h
      · exact List.forall_iff_forall_mem.mp st11_fresh op h
      rcases List.mem_append.mp h with h | h
      · exact List.forall_iff_forall_mem.mp st12_fresh op h
      rcases List.mem_append.mp h with h | h
      · exact List.forall_iff_forall_mem.mp st13_fresh op h
      rcases List.mem_append.mp h with h | h
      · exact List.forall_iff_forall_mem.mp st14_fresh op h
      · exact List.forall_iff_forall_mem.mp st15a_fresh op h
    rcases List.mem_append.mp h with h | h
    · rcases List.mem_append.mp h with h | h
      · exact List.forall_iff_forall_mem.mp st15b_fresh op h
      rcases List.mem_append.mp h with h | h
      · exact List.forall_iff_forall_mem.mp st16_fresh op h
      rcases List.mem_append.mp h with h | h
      · exact List.forall_iff_forall_mem.mp st17_fresh op h
      rcases List.mem_append.mp h with h | h
      · exact List.forall_iff_forall_mem.mp st18_fresh op h
      rcases List.mem_append.mp h with h | h
      · exact List.forall_iff_forall_mem.mp st19_fresh op h
      · exact List.forall_iff_forall_mem.mp st20_fresh op h
    · rcases List.mem_append.mp h with h | h
      · exact List.forall_iff_forall_mem.mp st21_fresh op h
      · exact List.forall_iff_forall_mem.mp st22_fresh op h

end Cert.ReferenceIdeal.Value

end
-- ==== Proof.Math.lean ====
module

public import Mathlib.Algebra.BigOperators.Intervals
public import Mathlib.Algebra.BigOperators.Ring.Finset
public import Mathlib.Data.Real.Basic
public import Mathlib.Tactic.Ring

@[expose] public section

noncomputable section

namespace Cert.Rot

open scoped BigOperators

/-! # Butterfly stages over the reals, and the sums of signed terms they compute -/

/-- The sign bit `n` of a word names. -/
def sgnR (w : BitVec 32) (n : ℕ) : ℝ := if w.getLsbD n then -1 else 1

/-- One butterfly stage of stride `h`: the sum at the lower place of a pair, the difference at the upper. -/
def sstR (h : ℕ) (v : ℕ → ℝ) (t : ℕ) : ℝ := if t / h % 2 = 0 then v t + v (t + h) else v (t - h) - v t

/-- The first `k` butterfly stages, of strides `1`, `2`, `4`, …. -/
def stagesR : ℕ → (ℕ → ℝ) → ℕ → ℝ
  | 0, v => v
  | k + 1, v => sstR (2 ^ k) (stagesR k v)

/-- The product of the signs of the first `k` bits of `n`. -/
def wsI : ℕ → ℕ → ℤ
  | 0, _ => 1
  | k + 1, n => wsI k n * (if n.testBit k then -1 else 1)

/-- The sign between places `a` and `b` of a block of `2 ^ k`. -/
def wR (k a b : ℕ) : ℝ := (wsI k (a &&& b) : ℝ)

theorem wsI_congr {k n n' : ℕ} (h : ∀ i < k, n.testBit i = n'.testBit i) : wsI k n = wsI k n' := by
  induction k with
  | zero => rfl
  | succ k ih =>
    unfold wsI
    rw [ih (fun i hi => h i (by omega)), h k (by omega)]

theorem wsI_add (a b n : ℕ) : wsI (a + b) n = wsI a n * wsI b (n / 2 ^ a) := by
  induction b with
  | zero => simp [wsI]
  | succ b ih =>
    show wsI (a + b) n * (if n.testBit (a + b) then -1 else 1) = wsI a n * (wsI b (n / 2 ^ a) * (if (n / 2 ^ a).testBit b then -1 else 1))
    rw [ih, ← Nat.shiftRight_eq_div_pow, Nat.testBit_shiftRight, mul_assoc]

theorem wR_congr {k a b a' b' : ℕ} (ha : a % 2 ^ k = a' % 2 ^ k) (hb : b % 2 ^ k = b' % 2 ^ k) : wR k a b = wR k a' b' := by
  unfold wR
  rw [wsI_congr (n' := a' &&& b')]
  intro i hi
  have e (x : ℕ) : x.testBit i = (x % 2 ^ k).testBit i := by rw [Nat.testBit_mod_two_pow]; simp [hi]
  rw [Nat.testBit_and, Nat.testBit_and, e a, e b, ha, hb, ← e, ← e]

theorem wR_add (k l a b : ℕ) : wR (k + l) a b = wR k a b * wR l (a / 2 ^ k) (b / 2 ^ k) := by
  unfold wR
  rw [wsI_add, Int.cast_mul, ← Nat.shiftRight_eq_div_pow, Nat.shiftRight_and_distrib, Nat.shiftRight_eq_div_pow, Nat.shiftRight_eq_div_pow]

theorem wR_succ (k a b : ℕ) : wR (k + 1) a b = wR k a b * (if a / 2 ^ k % 2 = 1 ∧ b / 2 ^ k % 2 = 1 then -1 else 1) := by
  unfold wR
  show ((wsI k (a &&& b) * (if (a &&& b).testBit k then -1 else 1) : ℤ) : ℝ) = _
  rw [Int.cast_mul, Nat.testBit_and, Nat.testBit_eq_decide_div_mod_eq, Nat.testBit_eq_decide_div_mod_eq]
  by_cases h1 : a / 2 ^ k % 2 = 1 <;> by_cases h2 : b / 2 ^ k % 2 = 1 <;> simp [h1, h2]

/-- `k` stages at place `d` form the signed sum over the block of `2 ^ k` places that holds `d`. -/
theorem stagesR_eq (k : ℕ) (v : ℕ → ℝ) (d : ℕ) :
    stagesR k v d = ∑ e ∈ Finset.range (2 ^ k), wR k d e * v (d / 2 ^ k * 2 ^ k + e) := by
  induction k generalizing d with
  | zero => simp [stagesR, wR, wsI]
  | succ k ih =>
    have hp : 0 < 2 ^ k := Nat.two_pow_pos k
    rw [show 2 ^ (k + 1) = 2 ^ k + 2 ^ k by rw [pow_succ]; omega, Finset.sum_range_add]
    have hdd : d / (2 ^ k + 2 ^ k) = d / 2 ^ k / 2 := by rw [Nat.div_div_eq_div_mul]; congr 1; omega
    have hw (e : ℕ) (he : e < 2 ^ k) : wR (k + 1) d e = wR k d e := by
      rw [wR_succ, Nat.div_eq_of_lt he]; simp
    have hw' (e : ℕ) (he : e < 2 ^ k) : wR (k + 1) d (2 ^ k + e) = wR k d e * (if d / 2 ^ k % 2 = 1 then -1 else 1) := by
      rw [wR_succ, Nat.add_div_left _ hp, Nat.div_eq_of_lt he, wR_congr (a' := d) (b' := e) rfl (Nat.add_mod_left _ _)]; simp
    show (if d / 2 ^ k % 2 = 0 then stagesR k v d + stagesR k v (d + 2 ^ k) else stagesR k v (d - 2 ^ k) - stagesR k v d) = _
    rcases Nat.mod_two_eq_zero_or_one (d / 2 ^ k) with h | h
    · rw [if_pos h, ih, ih]
      have hb : d / (2 ^ k + 2 ^ k) * (2 ^ k + 2 ^ k) = d / 2 ^ k * 2 ^ k := by
        rw [hdd, ← two_mul]
        have : d / 2 ^ k = 2 * (d / 2 ^ k / 2) := by omega
        calc d / 2 ^ k / 2 * (2 * 2 ^ k) = 2 * (d / 2 ^ k / 2) * 2 ^ k := by ring
          _ = _ := by rw [← this]
      have hd : (d + 2 ^ k) / 2 ^ k = d / 2 ^ k + 1 := Nat.add_div_right _ hp
      congr 1
      · refine Finset.sum_congr rfl fun e he => ?_
        rw [hw e (Finset.mem_range.mp he), hb]
      · refine Finset.sum_congr rfl fun e he => ?_
        rw [hw' e (Finset.mem_range.mp he), hb, hd, h, wR_congr (a' := d) (b' := e) (Nat.add_mod_right _ _) rfl, Nat.add_mul, Nat.one_mul, Nat.add_assoc]
        simp
    · have hk : 2 ^ k ≤ d := by
        by_contra hc
        rw [Nat.div_eq_of_lt (by omega)] at h
        omega
      obtain ⟨d', rfl⟩ : ∃ d', d = d' + 2 ^ k := ⟨d - 2 ^ k, by omega⟩
      have hd : (d' + 2 ^ k) / 2 ^ k = d' / 2 ^ k + 1 := Nat.add_div_right _ hp
      have h' : d' / 2 ^ k % 2 = 0 := by omega
      have hb : (d' + 2 ^ k) / (2 ^ k + 2 ^ k) * (2 ^ k + 2 ^ k) = d' / 2 ^ k * 2 ^ k := by
        rw [hdd, hd, ← two_mul]
        have : d' / 2 ^ k = 2 * ((d' / 2 ^ k + 1) / 2) := by omega
        calc (d' / 2 ^ k + 1) / 2 * (2 * 2 ^ k) = 2 * ((d' / 2 ^ k + 1) / 2) * 2 ^ k := by ring
          _ = _ := by rw [← this]
      rw [if_neg (by omega), Nat.add_sub_cancel, ih, ih, sub_eq_add_neg, ← Finset.sum_neg_distrib]
      congr 1
      · refine Finset.sum_congr rfl fun e he => ?_
        rw [hw e (Finset.mem_range.mp he), hb, wR_congr (a' := d' + 2 ^ k) (b' := e) (Nat.add_mod_right _ _).symm rfl]
      · refine Finset.sum_congr rfl fun e he => ?_
        rw [hw' e (Finset.mem_range.mp he), hb, hd, if_pos (by omega), Nat.add_mul, Nat.one_mul, Nat.add_assoc]
        ring

theorem sum_split (m n : ℕ) (f : ℕ → ℝ) : ∑ e ∈ Finset.range (m * n), f e = ∑ j ∈ Finset.range n, ∑ i ∈ Finset.range m, f (i + m * j) := by
  induction n with
  | zero => simp
  | succ n ih =>
    rw [Nat.mul_succ, Finset.sum_range_add, ih, Finset.sum_range_succ]
    congr 1
    exact Finset.sum_congr rfl fun i _ => by rw [Nat.add_comm]

/-- The rotation of a block of eight rows: eighteen stages along each row, then three across the rows. -/
def rotR (v : ℕ → ℕ → ℝ) (r d : ℕ) : ℝ := stagesR 3 (fun r' => stagesR 18 (v r') d) r

/-- The rotation done tile by tile: within a tile of 256 rows and 256 columns by a product with the sign
matrix on each side, and across the 32 tiles by five stages. -/
theorem tiles_eq_rotR (v : ℕ → ℕ → ℝ) (r d : ℕ) (hr : r < 8) (hd : d < 262144) :
    stagesR 5 (fun t => ∑ j ∈ Finset.range 256, wR 8 (8 * (d % 8192 / 256) + r) j *
      ∑ i ∈ Finset.range 256, v (j % 8) (8192 * t + 256 * (j / 8) + i) * wR 8 i (d % 256)) (d / 8192) = rotR v r d := by
  have hsymm (i a : ℕ) : wR 8 i a = wR 8 a i := by unfold wR; rw [Nat.and_comm]
  unfold rotR
  rw [stagesR_eq, stagesR_eq]
  have hR : ∀ e < 8, wR 3 r e * stagesR 18 (v (r / 2 ^ 3 * 2 ^ 3 + e)) d = ∑ t ∈ Finset.range 32, ∑ p ∈ Finset.range 32, ∑ i ∈ Finset.range 256,
      wR 3 r e * (wR 8 (d % 256) i * (wR 5 (d % 8192 / 256) p * wR 5 (d / 8192) t) * v e (8192 * t + 256 * p + i)) := by
    intro e he
    rw [stagesR_eq, show 2 ^ 18 = 256 * (32 * 32) from rfl, sum_split, sum_split, Finset.mul_sum]
    refine Finset.sum_congr rfl fun t ht => ?_
    rw [Finset.mul_sum]
    refine Finset.sum_congr rfl fun p hp => ?_
    rw [Finset.mul_sum]
    refine Finset.sum_congr rfl fun i hi => ?_
    have ht := Finset.mem_range.mp ht
    have hp := Finset.mem_range.mp hp
    have hi := Finset.mem_range.mp hi
    rw [wR_add 8 10, wR_add 5 5, show (i + 256 * (p + 32 * t)) / 2 ^ 8 = p + 32 * t by omega, show (p + 32 * t) / 2 ^ 5 = t by omega,
      show d / 2 ^ 8 / 2 ^ 5 = d / 8192 by omega, wR_congr (k := 8) (a := d) (a' := d % 256) (b' := i) (by omega) (by omega),
      wR_congr (k := 5) (a := d / 2 ^ 8) (a' := d % 8192 / 256) (b' := p) (by omega) (by omega),
      show r / 2 ^ 3 * 2 ^ 3 + e = e by omega, show d / (256 * (32 * 32)) * (256 * (32 * 32)) + (i + 256 * (p + 32 * t)) = 8192 * t + 256 * p + i by omega]
  rw [show ∑ e ∈ Finset.range (2 ^ 3), wR 3 r e * stagesR 18 (v (r / 2 ^ 3 * 2 ^ 3 + e)) d = _ from
    Finset.sum_congr rfl fun e he => hR e (Finset.mem_range.mp he), Finset.sum_comm]
  refine Finset.sum_congr rfl fun t ht => ?_
  have ht := Finset.mem_range.mp ht
  rw [show (256 : ℕ) = 8 * 32 from rfl, sum_split, Finset.mul_sum, Finset.sum_comm]
  refine Finset.sum_congr rfl fun p hp => ?_
  have hp := Finset.mem_range.mp hp
  rw [Finset.mul_sum]
  refine Finset.sum_congr rfl fun e he => ?_
  have he := Finset.mem_range.mp he
  have he : e < 8 := he
  rw [Finset.mul_sum, Finset.mul_sum]
  refine Finset.sum_congr rfl fun i hi => ?_
  rw [show (e + 8 * p) % 8 = e by omega, show (e + 8 * p) / 8 = p by omega, show d / 8192 / 2 ^ 5 * 2 ^ 5 + t = t by omega, hsymm i,
    show wR 8 (8 * (d % 8192 / (8 * 32)) + r) (e + 8 * p) = wR 3 r e * wR 5 (d % 8192 / 256) p from by
      rw [wR_add 3 5, wR_congr (k := 3) (a' := r) (b' := e) (by omega) (by omega), show (8 * (d % 8192 / (8 * 32)) + r) / 2 ^ 3 = d % 8192 / 256 by omega,
        show (e + 8 * p) / 2 ^ 3 = p by omega]]
  ring

end Cert.Rot

end
-- ==== Proof.RStage.lean ====
module

public import Idealize.ShloMosaic.PureOps.Ideal.Laws
public import Idealize.ShloMosaic.Lib.Pipeline.Value
public import Idealize.ShloMosaic.Lib.ValueIdxRank6
public import Idealize.ShloMosaic.Lib.IdealHost
public import proofs.«01_k».proof.Proof.Math

@[expose] public section

noncomputable section

namespace Cert.Rot

open Idealize.ShloMosaic Idealize.ShloMosaic.ValueIdx

/-! # One butterfly stage of the reference, element by element -/

/-- The array of rows: batch, row group, row, column. -/
abbrev S4 : Shape := ⟨4, ![2, 16, 8, 262144]⟩

/-- The array of rows at batch `b`, group `g`, row `r`, column `d`. -/
def rdR {α : Type} (x : S4.Idx → α) (b g r d : ℕ) : α := x (ix4 (Fin.ofNat 2 b) (Fin.ofNat 16 g) (Fin.ofNat 8 r) (Fin.ofNat 262144 d))

theorem eq_rdR {α : Type} (x : S4.Idx → α) (i : S4.Idx) (b g r d : ℕ) (hb : (i 0).val = b) (hg : (i 1).val = g) (hr : (i 2).val = r) (hd : (i 3).val = d) :
    x i = rdR x b g r d := by
  subst hb hg hr hd
  unfold rdR
  congr 1; funext a
  match a with
  | ⟨0, _⟩ => exact Fin.ext (Nat.mod_eq_of_lt (i 0).isLt).symm
  | ⟨1, _⟩ => exact Fin.ext (Nat.mod_eq_of_lt (i 1).isLt).symm
  | ⟨2, _⟩ => exact Fin.ext (Nat.mod_eq_of_lt (i 2).isLt).symm
  | ⟨3, _⟩ => exact Fin.ext (Nat.mod_eq_of_lt (i 3).isLt).symm

/-- The array of columns: batch, row, column. -/
abbrev A3 : Shape := ⟨3, ![2, 128, 262144]⟩
/-- The array of sign words: batch, row group, word block, row, lane. -/
abbrev A5 : Shape := ⟨5, ![2, 16, 64, 8, 128]⟩

/-- The first argument at batch `b`, row `r`, column `d`. -/
def rdX {α : Type} (x : A3.Idx → α) (b r d : ℕ) : α := x (fun a => match a with
  | ⟨0, _⟩ => Fin.ofNat 2 b | ⟨1, _⟩ => Fin.ofNat 128 r | ⟨2, _⟩ => Fin.ofNat 262144 d)
/-- The second argument at batch `b`, row group `g`, word block `n`, row `r`, lane `l`. -/
def rdS {α : Type} (x : A5.Idx → α) (b g n r l : ℕ) : α := x (fun a => match a with
  | ⟨0, _⟩ => Fin.ofNat 2 b | ⟨1, _⟩ => Fin.ofNat 16 g | ⟨2, _⟩ => Fin.ofNat 64 n | ⟨3, _⟩ => Fin.ofNat 8 r | ⟨4, _⟩ => Fin.ofNat 128 l)

theorem eq_rdX {α : Type} (x : A3.Idx → α) (i : A3.Idx) (b r d : ℕ) (hb : (i 0).val = b) (hr : (i 1).val = r) (hd : (i 2).val = d) : x i = rdX x b r d := by
  subst hb hr hd
  unfold rdX
  congr 1; funext a
  match a with
  | ⟨0, _⟩ => exact Fin.ext (Nat.mod_eq_of_lt (i 0).isLt).symm
  | ⟨1, _⟩ => exact Fin.ext (Nat.mod_eq_of_lt (i 1).isLt).symm
  | ⟨2, _⟩ => exact Fin.ext (Nat.mod_eq_of_lt (i 2).isLt).symm
theorem eq_rdS {α : Type} (x : A5.Idx → α) (i : A5.Idx) (b g n r l : ℕ) (hb : (i 0).val = b) (hg : (i 1).val = g) (hn : (i 2).val = n) (hr : (i 3).val = r) (hl : (i 4).val = l) : x i = rdS x b g n r l := by
  subst hb hg hn hr hl
  unfold rdS
  congr 1; funext a
  match a with
  | ⟨0, _⟩ => exact Fin.ext (Nat.mod_eq_of_lt (i 0).isLt).symm
  | ⟨1, _⟩ => exact Fin.ext (Nat.mod_eq_of_lt (i 1).isLt).symm
  | ⟨2, _⟩ => exact Fin.ext (Nat.mod_eq_of_lt (i 2).isLt).symm
  | ⟨3, _⟩ => exact Fin.ext (Nat.mod_eq_of_lt (i 3).isLt).symm
  | ⟨4, _⟩ => exact Fin.ext (Nat.mod_eq_of_lt (i 4).isLt).symm

/-- One butterfly stage of stride `h`: the sum at the lower place of a pair, the difference at the upper. -/
def sstE (h : ℕ) (v : ℕ → EReal) (t : ℕ) : EReal := if t / h % 2 = 0 then v t + v (t + h) else v (t - h) - v t

theorem sstE_coe (h : ℕ) (v : ℕ → ℝ) (t : ℕ) : sstE h (fun t => (v t : EReal)) t = ((sstR h v t : ℝ) : EReal) := by
  unfold sstE sstR
  split <;> simp

theorem fin_ite {n x : ℕ} (hx : x < n) : x = if n = 1 then 0 else x := by
  split
  · omega
  · rfl

section stageD
variable (m h : ℕ)

/-- One stage along the columns, as the reference spells it: pairs `h` apart, `m` runs of `2 h` columns. -/
def stageD (X : FVec Ideal S4 .f32) (hc : S4.ShapeCasts ⟨6, ![2, 16, 8, m, 2, h]⟩) (hs0 : (⟨6, ![2, 16, 8, m, 2, h]⟩ : Shape).Slices ![0, 0, 0, 0, 0, 0] ⟨6, ![2, 16, 8, m, 1, h]⟩) (hs1 : (⟨6, ![2, 16, 8, m, 2, h]⟩ : Shape).Slices ![0, 0, 0, 0, 1, 0] ⟨6, ![2, 16, 8, m, 1, h]⟩)
    (hr : (⟨6, ![2, 16, 8, m, 1, h]⟩ : Shape).ShapeCasts ⟨5, ![2, 16, 8, m, h]⟩) (hb : (⟨5, ![2, 16, 8, m, h]⟩ : Shape).BroadcastsInDim ⟨6, ![2, 16, 8, m, 1, h]⟩ (![0, 1, 2, 3, 5] : Fin 5 → Fin 6))
    (hcat : Shape.Concatenates [(⟨6, ![2, 16, 8, m, 1, h]⟩ : Shape), ⟨6, ![2, 16, 8, m, 1, h]⟩] ⟨6, ![2, 16, 8, m, 2, h]⟩ 4) (hr2 : (⟨6, ![2, 16, 8, m, 2, h]⟩ : Shape).ShapeCasts S4) : FVec Ideal S4 .f32 :=
  shapeCast S4 (concatenate ⟨6, ![2, 16, 8, m, 2, h]⟩ 4
    [⟨⟨6, ![2, 16, 8, m, 1, h]⟩, broadcastInDim ⟨6, ![2, 16, 8, m, 1, h]⟩ ![0, 1, 2, 3, 5] hb (addf (shapeCast ⟨5, ![2, 16, 8, m, h]⟩ (extractStridedSlice ⟨6, ![2, 16, 8, m, 1, h]⟩ ![0, 0, 0, 0, 0, 0] (shapeCast ⟨6, ![2, 16, 8, m, 2, h]⟩ X hc) hs0) hr) (shapeCast ⟨5, ![2, 16, 8, m, h]⟩ (extractStridedSlice ⟨6, ![2, 16, 8, m, 1, h]⟩ ![0, 0, 0, 0, 1, 0] (shapeCast ⟨6, ![2, 16, 8, m, 2, h]⟩ X hc) hs1) hr) : FVec Ideal ⟨5, ![2, 16, 8, m, h]⟩ .f32)⟩,
     ⟨⟨6, ![2, 16, 8, m, 1, h]⟩, broadcastInDim ⟨6, ![2, 16, 8, m, 1, h]⟩ ![0, 1, 2, 3, 5] hb (subf (shapeCast ⟨5, ![2, 16, 8, m, h]⟩ (extractStridedSlice ⟨6, ![2, 16, 8, m, 1, h]⟩ ![0, 0, 0, 0, 0, 0] (shapeCast ⟨6, ![2, 16, 8, m, 2, h]⟩ X hc) hs0) hr) (shapeCast ⟨5, ![2, 16, 8, m, h]⟩ (extractStridedSlice ⟨6, ![2, 16, 8, m, 1, h]⟩ ![0, 0, 0, 0, 1, 0] (shapeCast ⟨6, ![2, 16, 8, m, 2, h]⟩ X hc) hs1) hr) : FVec Ideal ⟨5, ![2, 16, 8, m, h]⟩ .f32)⟩] hcat) hr2

variable (X : FVec Ideal S4 .f32) (hc : S4.ShapeCasts ⟨6, ![2, 16, 8, m, 2, h]⟩) (hs0 : (⟨6, ![2, 16, 8, m, 2, h]⟩ : Shape).Slices ![0, 0, 0, 0, 0, 0] ⟨6, ![2, 16, 8, m, 1, h]⟩) (hs1 : (⟨6, ![2, 16, 8, m, 2, h]⟩ : Shape).Slices ![0, 0, 0, 0, 1, 0] ⟨6, ![2, 16, 8, m, 1, h]⟩)
    (hr : (⟨6, ![2, 16, 8, m, 1, h]⟩ : Shape).ShapeCasts ⟨5, ![2, 16, 8, m, h]⟩) (hb : (⟨5, ![2, 16, 8, m, h]⟩ : Shape).BroadcastsInDim ⟨6, ![2, 16, 8, m, 1, h]⟩ (![0, 1, 2, 3, 5] : Fin 5 → Fin 6))
    (hcat : Shape.Concatenates [(⟨6, ![2, 16, 8, m, 1, h]⟩ : Shape), ⟨6, ![2, 16, 8, m, 1, h]⟩] ⟨6, ![2, 16, 8, m, 2, h]⟩ 4) (hr2 : (⟨6, ![2, 16, 8, m, 2, h]⟩ : Shape).ShapeCasts S4)

theorem halfD (p : Fin 2) (hs : (⟨6, ![2, 16, 8, m, 2, h]⟩ : Shape).Slices ![0, 0, 0, 0, p.val, 0] ⟨6, ![2, 16, 8, m, 1, h]⟩) (hmh : m * (2 * h) = 262144) (b : Fin 2) (g : Fin 16) (r : Fin 8) (q : Fin m) (s : Fin h) :
    shapeCast ⟨5, ![2, 16, 8, m, h]⟩ (extractStridedSlice ⟨6, ![2, 16, 8, m, 1, h]⟩ ![0, 0, 0, 0, p.val, 0] (shapeCast ⟨6, ![2, 16, 8, m, 2, h]⟩ X hc) hs) hr (ix5 b g r q s)
      = rdR X b.val g.val r.val (q.val * (2 * h) + p.val * h + s.val) := by
  have hp := p.isLt
  refine (shapeCast_apply _ _ _ (ix6 b g r q (0 : Fin 1) s) ?_).trans ?_
  · rw [Shape.rowMajor_val_six, Shape.rowMajor_val_five]
    show (((((b.val * 16 + g.val) * 8 + r.val) * m + q.val) * 1 + 0) * h + s.val) = ((((b.val * 16 + g.val) * 8 + r.val) * m + q.val) * h + s.val)
    rw [Nat.mul_one, Nat.add_zero]
  refine (extractStridedSlice_apply _ _ _ _ (ix6 b g r q p s) ?_).trans ?_
  · intro a
    match a with
    | ⟨0, _⟩ => show b.val = 0 + b.val; omega
    | ⟨1, _⟩ => show g.val = 0 + g.val; omega
    | ⟨2, _⟩ => show r.val = 0 + r.val; omega
    | ⟨3, _⟩ => show q.val = 0 + q.val; omega
    | ⟨4, _⟩ => show p.val = p.val + 0; omega
    | ⟨5, _⟩ => show s.val = 0 + s.val; omega
  have hd : q.val * (2 * h) + p.val * h + s.val < 262144 := by
    rw [← hmh]
    have h1 : (q.val + 1) * (2 * h) ≤ m * (2 * h) := Nat.mul_le_mul_right _ q.isLt
    have h2 : p.val * h ≤ 1 * h := Nat.mul_le_mul_right _ (by omega)
    have h3 := s.isLt
    rw [Nat.add_mul] at h1
    omega
  refine (shapeCast_apply _ _ _ (ix4 b g r ⟨q.val * (2 * h) + p.val * h + s.val, hd⟩) ?_).trans (eq_rdR _ _ _ _ _ _ rfl rfl rfl rfl)
  rw [Shape.rowMajor_val_six, Shape.rowMajor_val_four]
  show ((b.val * 16 + g.val) * 8 + r.val) * 262144 + (q.val * (2 * h) + p.val * h + s.val) = (((((b.val * 16 + g.val) * 8 + r.val) * m + q.val) * 2 + p.val) * h + s.val)
  rw [← hmh]
  ring

theorem joinD_low (u w : FVec Ideal ⟨6, ![2, 16, 8, m, 1, h]⟩ .f32) (b : Fin 2) (g : Fin 16) (r : Fin 8) (q : Fin m) (p : Fin 2) (s : Fin h) (hp : p.val = 0) :
    concatenate ⟨6, ![2, 16, 8, m, 2, h]⟩ 4 [⟨⟨6, ![2, 16, 8, m, 1, h]⟩, u⟩, ⟨⟨6, ![2, 16, 8, m, 1, h]⟩, w⟩] hcat (ix6 b g r q p s) = u (ix6 b g r q (0 : Fin 1) s) := by
  refine concatenate_pair_apply_left (s₁ := ⟨6, ![2, 16, 8, m, 1, h]⟩) (s₂ := ⟨6, ![2, 16, 8, m, 1, h]⟩) 4 u w hcat _ rfl _ ?_
  intro a
  match a with
  | ⟨0, _⟩ => rfl
  | ⟨1, _⟩ => rfl
  | ⟨2, _⟩ => rfl
  | ⟨3, _⟩ => rfl
  | ⟨4, _⟩ => exact hp.symm
  | ⟨5, _⟩ => rfl

theorem joinD_high (u w : FVec Ideal ⟨6, ![2, 16, 8, m, 1, h]⟩ .f32) (b : Fin 2) (g : Fin 16) (r : Fin 8) (q : Fin m) (p : Fin 2) (s : Fin h) (hp : p.val = 1) :
    concatenate ⟨6, ![2, 16, 8, m, 2, h]⟩ 4 [⟨⟨6, ![2, 16, 8, m, 1, h]⟩, u⟩, ⟨⟨6, ![2, 16, 8, m, 1, h]⟩, w⟩] hcat (ix6 b g r q p s) = w (ix6 b g r q (0 : Fin 1) s) := by
  refine concatenate_pair_apply_right (s₁ := ⟨6, ![2, 16, 8, m, 1, h]⟩) (s₂ := ⟨6, ![2, 16, 8, m, 1, h]⟩) 4 u w hcat _ rfl rfl _ ?_ ?_
  · intro a ha
    match a with
    | ⟨0, _⟩ => rfl
    | ⟨1, _⟩ => rfl
    | ⟨2, _⟩ => rfl
    | ⟨3, _⟩ => rfl
    | ⟨4, _⟩ => exact absurd rfl ha
    | ⟨5, _⟩ => rfl
  · exact hp.symm

theorem stageD_apply (hmh : m * (2 * h) = 262144) (b g r d : ℕ) (hb' : b < 2) (hg : g < 16) (hr' : r < 8) (hd : d < 262144) :
    rdR (stageD m h X hc hs0 hs1 hr hb hcat hr2) b g r d = sstE h (fun d => rdR X b g r d) d := by
  have hh : 0 < h := by rcases Nat.eq_zero_or_pos h with e | e; · subst e; simp at hmh
                        · exact e
  have hq : d / (2 * h) < m := (Nat.div_lt_iff_lt_mul (by omega)).mpr (by omega)
  have hs : d % h < h := Nat.mod_lt _ hh
  have hdd : d = d / (2 * h) * (2 * h) + d / h % 2 * h + d % h := by
    have e1 := Nat.div_add_mod d h
    have e2 := Nat.div_add_mod (d / h) 2
    have e3 : d / (2 * h) = d / h / 2 := by rw [Nat.div_div_eq_div_mul, Nat.mul_comm]
    rw [e3]
    calc d = h * (d / h) + d % h := e1.symm
      _ = h * (2 * (d / h / 2) + d / h % 2) + d % h := by rw [e2]
      _ = _ := by ring
  unfold stageD rdR
  refine (shapeCast_apply _ _ _ (ix6 (⟨b, hb'⟩ : Fin 2) (⟨g, hg⟩ : Fin 16) (⟨r, hr'⟩ : Fin 8) (⟨d / (2 * h), hq⟩ : Fin m) (⟨d / h % 2, by omega⟩ : Fin 2) (⟨d % h, hs⟩ : Fin h)) ?_).trans ?_
  · rw [Shape.rowMajor_val_six, Shape.rowMajor_val_four]
    show (((((b * 16 + g) * 8 + r) * m + d / (2 * h)) * 2 + d / h % 2) * h + d % h) = ((b % 2 * 16 + g % 16) * 8 + r % 8) * 262144 + d % 262144
    rw [Nat.mod_eq_of_lt hb', Nat.mod_eq_of_lt hg, Nat.mod_eq_of_lt hr', Nat.mod_eq_of_lt hd]
    conv_rhs => rw [hdd, ← hmh]
    ring
  unfold sstE
  have hbc (x : FVec Ideal ⟨5, ![2, 16, 8, m, h]⟩ .f32) :
      broadcastInDim ⟨6, ![2, 16, 8, m, 1, h]⟩ ![0, 1, 2, 3, 5] hb x (ix6 (⟨b, hb'⟩ : Fin 2) (⟨g, hg⟩ : Fin 16) (⟨r, hr'⟩ : Fin 8) (⟨d / (2 * h), hq⟩ : Fin m) (0 : Fin 1) (⟨d % h, hs⟩ : Fin h))
        = x (ix5 (⟨b, hb'⟩ : Fin 2) (⟨g, hg⟩ : Fin 16) (⟨r, hr'⟩ : Fin 8) (⟨d / (2 * h), hq⟩ : Fin m) (⟨d % h, hs⟩ : Fin h)) := by
    refine broadcastInDim_apply _ _ _ _ _ fun a => ?_
    match a with
    | ⟨0, _⟩ => rfl
    | ⟨1, _⟩ => rfl
    | ⟨2, _⟩ => rfl
    | ⟨3, _⟩ => exact fin_ite hq
    | ⟨4, _⟩ => exact fin_ite hs
  have h0 := halfD m h X hc hr (0 : Fin 2) hs0 hmh ⟨b, hb'⟩ ⟨g, hg⟩ ⟨r, hr'⟩ ⟨d / (2 * h), hq⟩ ⟨d % h, hs⟩
  have h1 := halfD m h X hc hr 1 hs1 hmh ⟨b, hb'⟩ ⟨g, hg⟩ ⟨r, hr'⟩ ⟨d / (2 * h), hq⟩ ⟨d % h, hs⟩
  rcases Nat.mod_two_eq_zero_or_one (d / h) with e | e
  · rw [if_pos e]
    refine (joinD_low m h hcat _ _ _ _ _ _ _ _ e).trans ?_
    · refine (hbc _).trans ((congrArg₂ (fun x y : EReal => x + y) h0 h1).trans ?_)
      show rdR X b g r (d / (2 * h) * (2 * h) + 0 * h + d % h) + rdR X b g r (d / (2 * h) * (2 * h) + 1 * h + d % h) = _
      rw [e] at hdd
      rw [← hdd, show d / (2 * h) * (2 * h) + 1 * h + d % h = d + h by omega]
      rfl
  · rw [if_neg (by omega)]
    refine (joinD_high m h hcat _ _ _ _ _ _ _ _ e).trans ?_
    · refine (hbc _).trans ((congrArg₂ (fun x y : EReal => x - y) h0 h1).trans ?_)
      show rdR X b g r (d / (2 * h) * (2 * h) + 0 * h + d % h) - rdR X b g r (d / (2 * h) * (2 * h) + 1 * h + d % h) = _
      rw [e] at hdd
      rw [← hdd, show d / (2 * h) * (2 * h) + 0 * h + d % h = d - h by omega]
      rfl

end stageD

section stageR
variable (m h : ℕ)

/-- One stage across the rows, as the reference spells it: pairs `h` rows apart, `m` runs of `2 h` rows. -/
def stageR (X : FVec Ideal S4 .f32) (hc : S4.ShapeCasts ⟨6, ![2, 16, m, 2, h, 262144]⟩) (hs0 : (⟨6, ![2, 16, m, 2, h, 262144]⟩ : Shape).Slices ![0, 0, 0, 0, 0, 0] ⟨6, ![2, 16, m, 1, h, 262144]⟩) (hs1 : (⟨6, ![2, 16, m, 2, h, 262144]⟩ : Shape).Slices ![0, 0, 0, 1, 0, 0] ⟨6, ![2, 16, m, 1, h, 262144]⟩)
    (hr : (⟨6, ![2, 16, m, 1, h, 262144]⟩ : Shape).ShapeCasts ⟨5, ![2, 16, m, h, 262144]⟩) (hb : (⟨5, ![2, 16, m, h, 262144]⟩ : Shape).BroadcastsInDim ⟨6, ![2, 16, m, 1, h, 262144]⟩ (![0, 1, 2, 4, 5] : Fin 5 → Fin 6))
    (hcat : Shape.Concatenates [(⟨6, ![2, 16, m, 1, h, 262144]⟩ : Shape), ⟨6, ![2, 16, m, 1, h, 262144]⟩] ⟨6, ![2, 16, m, 2, h, 262144]⟩ 3) (hr2 : (⟨6, ![2, 16, m, 2, h, 262144]⟩ : Shape).ShapeCasts S4) : FVec Ideal S4 .f32 :=
  shapeCast S4 (concatenate ⟨6, ![2, 16, m, 2, h, 262144]⟩ 3
    [⟨⟨6, ![2, 16, m, 1, h, 262144]⟩, broadcastInDim ⟨6, ![2, 16, m, 1, h, 262144]⟩ ![0, 1, 2, 4, 5] hb (addf (shapeCast ⟨5, ![2, 16, m, h, 262144]⟩ (extractStridedSlice ⟨6, ![2, 16, m, 1, h, 262144]⟩ ![0, 0, 0, 0, 0, 0] (shapeCast ⟨6, ![2, 16, m, 2, h, 262144]⟩ X hc) hs0) hr) (shapeCast ⟨5, ![2, 16, m, h, 262144]⟩ (extractStridedSlice ⟨6, ![2, 16, m, 1, h, 262144]⟩ ![0, 0, 0, 1, 0, 0] (shapeCast ⟨6, ![2, 16, m, 2, h, 262144]⟩ X hc) hs1) hr) : FVec Ideal ⟨5, ![2, 16, m, h, 262144]⟩ .f32)⟩,
     ⟨⟨6, ![2, 16, m, 1, h, 262144]⟩, broadcastInDim ⟨6, ![2, 16, m, 1, h, 262144]⟩ ![0, 1, 2, 4, 5] hb (subf (shapeCast ⟨5, ![2, 16, m, h, 262144]⟩ (extractStridedSlice ⟨6, ![2, 16, m, 1, h, 262144]⟩ ![0, 0, 0, 0, 0, 0] (shapeCast ⟨6, ![2, 16, m, 2, h, 262144]⟩ X hc) hs0) hr) (shapeCast ⟨5, ![2, 16, m, h, 262144]⟩ (extractStridedSlice ⟨6, ![2, 16, m, 1, h, 262144]⟩ ![0, 0, 0, 1, 0, 0] (shapeCast ⟨6, ![2, 16, m, 2, h, 262144]⟩ X hc) hs1) hr) : FVec Ideal ⟨5, ![2, 16, m, h, 262144]⟩ .f32)⟩] hcat) hr2

variable (X : FVec Ideal S4 .f32) (hc : S4.ShapeCasts ⟨6, ![2, 16, m, 2, h, 262144]⟩) (hs0 : (⟨6, ![2, 16, m, 2, h, 262144]⟩ : Shape).Slices ![0, 0, 0, 0, 0, 0] ⟨6, ![2, 16, m, 1, h, 262144]⟩) (hs1 : (⟨6, ![2, 16, m, 2, h, 262144]⟩ : Shape).Slices ![0, 0, 0, 1, 0, 0] ⟨6, ![2, 16, m, 1, h, 262144]⟩)
    (hr : (⟨6, ![2, 16, m, 1, h, 262144]⟩ : Shape).ShapeCasts ⟨5, ![2, 16, m, h, 262144]⟩) (hb : (⟨5, ![2, 16, m, h, 262144]⟩ : Shape).BroadcastsInDim ⟨6, ![2, 16, m, 1, h, 262144]⟩ (![0, 1, 2, 4, 5] : Fin 5 → Fin 6))
    (hcat : Shape.Concatenates [(⟨6, ![2, 16, m, 1, h, 262144]⟩ : Shape), ⟨6, ![2, 16, m, 1, h, 262144]⟩] ⟨6, ![2, 16, m, 2, h, 262144]⟩ 3) (hr2 : (⟨6, ![2, 16, m, 2, h, 262144]⟩ : Shape).ShapeCasts S4)

theorem halfR (p : Fin 2) (hs : (⟨6, ![2, 16, m, 2, h, 262144]⟩ : Shape).Slices ![0, 0, 0, p.val, 0, 0] ⟨6, ![2, 16, m, 1, h, 262144]⟩) (hmh : m * (2 * h) = 8) (b : Fin 2) (g : Fin 16) (q : Fin m) (s : Fin h) (r : Fin 262144) :
    shapeCast ⟨5, ![2, 16, m, h, 262144]⟩ (extractStridedSlice ⟨6, ![2, 16, m, 1, h, 262144]⟩ ![0, 0, 0, p.val, 0, 0] (shapeCast ⟨6, ![2, 16, m, 2, h, 262144]⟩ X hc) hs) hr (ix5 b g q s r)
      = rdR X b.val g.val (q.val * (2 * h) + p.val * h + s.val) r.val := by
  have hp := p.isLt
  refine (shapeCast_apply _ _ _ (ix6 b g q (0 : Fin 1) s r) ?_).trans ?_
  · rw [Shape.rowMajor_val_six, Shape.rowMajor_val_five]
    show (((((b.val * 16 + g.val) * m + q.val) * 1 + 0) * h + s.val) * 262144 + r.val) = ((((b.val * 16 + g.val) * m + q.val) * h + s.val) * 262144 + r.val)
    rw [Nat.mul_one, Nat.add_zero]
  refine (extractStridedSlice_apply _ _ _ _ (ix6 b g q p s r) ?_).trans ?_
  · intro a
    match a with
    | ⟨0, _⟩ => show b.val = 0 + b.val; omega
    | ⟨1, _⟩ => show g.val = 0 + g.val; omega
    | ⟨2, _⟩ => show q.val = 0 + q.val; omega
    | ⟨3, _⟩ => show p.val = p.val + 0; omega
    | ⟨4, _⟩ => show s.val = 0 + s.val; omega
    | ⟨5, _⟩ => show r.val = 0 + r.val; omega
  have hd : q.val * (2 * h) + p.val * h + s.val < 8 := by
    rw [← hmh]
    have h1 : (q.val + 1) * (2 * h) ≤ m * (2 * h) := Nat.mul_le_mul_right _ q.isLt
    have h2 : p.val * h ≤ 1 * h := Nat.mul_le_mul_right _ (by omega)
    have h3 := s.isLt
    rw [Nat.add_mul] at h1
    omega
  refine (shapeCast_apply _ _ _ (ix4 b g ⟨q.val * (2 * h) + p.val * h + s.val, hd⟩ r) ?_).trans (eq_rdR _ _ _ _ _ _ rfl rfl rfl rfl)
  rw [Shape.rowMajor_val_six, Shape.rowMajor_val_four]
  show ((b.val * 16 + g.val) * 8 + (q.val * (2 * h) + p.val * h + s.val)) * 262144 + r.val = (((((b.val * 16 + g.val) * m + q.val) * 2 + p.val) * h + s.val) * 262144 + r.val)
  rw [show (b.val * 16 + g.val) * 8 = (b.val * 16 + g.val) * (m * (2 * h)) by rw [hmh]]
  ring

theorem joinR_low (u w : FVec Ideal ⟨6, ![2, 16, m, 1, h, 262144]⟩ .f32) (b : Fin 2) (g : Fin 16) (q : Fin m) (p : Fin 2) (s : Fin h) (r : Fin 262144) (hp : p.val = 0) :
    concatenate ⟨6, ![2, 16, m, 2, h, 262144]⟩ 3 [⟨⟨6, ![2, 16, m, 1, h, 262144]⟩, u⟩, ⟨⟨6, ![2, 16, m, 1, h, 262144]⟩, w⟩] hcat (ix6 b g q p s r) = u (ix6 b g q (0 : Fin 1) s r) := by
  refine concatenate_pair_apply_left (s₁ := ⟨6, ![2, 16, m, 1, h, 262144]⟩) (s₂ := ⟨6, ![2, 16, m, 1, h, 262144]⟩) 3 u w hcat _ rfl _ ?_
  intro a
  match a with
  | ⟨0, _⟩ => rfl
  | ⟨1, _⟩ => rfl
  | ⟨2, _⟩ => rfl
  | ⟨3, _⟩ => exact hp.symm
  | ⟨4, _⟩ => rfl
  | ⟨5, _⟩ => rfl

theorem joinR_high (u w : FVec Ideal ⟨6, ![2, 16, m, 1, h, 262144]⟩ .f32) (b : Fin 2) (g : Fin 16) (q : Fin m) (p : Fin 2) (s : Fin h) (r : Fin 262144) (hp : p.val = 1) :
    concatenate ⟨6, ![2, 16, m, 2, h, 262144]⟩ 3 [⟨⟨6, ![2, 16, m, 1, h, 262144]⟩, u⟩, ⟨⟨6, ![2, 16, m, 1, h, 262144]⟩, w⟩] hcat (ix6 b g q p s r) = w (ix6 b g q (0 : Fin 1) s r) := by
  refine concatenate_pair_apply_right (s₁ := ⟨6, ![2, 16, m, 1, h, 262144]⟩) (s₂ := ⟨6, ![2, 16, m, 1, h, 262144]⟩) 3 u w hcat _ rfl rfl _ ?_ ?_
  · intro a ha
    match a with
    | ⟨0, _⟩ => rfl
    | ⟨1, _⟩ => rfl
    | ⟨2, _⟩ => rfl
    | ⟨3, _⟩ => exact absurd rfl ha
    | ⟨4, _⟩ => rfl
    | ⟨5, _⟩ => rfl
  · exact hp.symm

theorem stageR_apply (hmh : m * (2 * h) = 8) (b g d r : ℕ) (hb' : b < 2) (hg : g < 16) (hd : d < 8) (hr' : r < 262144) :
    rdR (stageR m h X hc hs0 hs1 hr hb hcat hr2) b g d r = sstE h (fun d => rdR X b g d r) d := by
  have hh : 0 < h := by rcases Nat.eq_zero_or_pos h with e | e; · subst e; simp at hmh
                        · exact e
  have hq : d / (2 * h) < m := (Nat.div_lt_iff_lt_mul (by omega)).mpr (by omega)
  have hs : d % h < h := Nat.mod_lt _ hh
  have hdd : d = d / (2 * h) * (2 * h) + d / h % 2 * h + d % h := by
    have e1 := Nat.div_add_mod d h
    have e2 := Nat.div_add_mod (d / h) 2
    have e3 : d / (2 * h) = d / h / 2 := by rw [Nat.div_div_eq_div_mul, Nat.mul_comm]
    rw [e3]
    calc d = h * (d / h) + d % h := e1.symm
      _ = h * (2 * (d / h / 2) + d / h % 2) + d % h := by rw [e2]
      _ = _ := by ring
  unfold stageR rdR
  refine (shapeCast_apply _ _ _ (ix6 (⟨b, hb'⟩ : Fin 2) (⟨g, hg⟩ : Fin 16) (⟨d / (2 * h), hq⟩ : Fin m) (⟨d / h % 2, by omega⟩ : Fin 2) (⟨d % h, hs⟩ : Fin h) (⟨r, hr'⟩ : Fin 262144)) ?_).trans ?_
  · rw [Shape.rowMajor_val_six, Shape.rowMajor_val_four]
    show (((((b * 16 + g) * m + d / (2 * h)) * 2 + d / h % 2) * h + d % h) * 262144 + r) = ((b % 2 * 16 + g % 16) * 8 + d % 8) * 262144 + r % 262144
    rw [Nat.mod_eq_of_lt hb', Nat.mod_eq_of_lt hg, Nat.mod_eq_of_lt hr', Nat.mod_eq_of_lt hd]
    conv_rhs => rw [hdd, show (b * 16 + g) * 8 = (b * 16 + g) * (m * (2 * h)) by rw [hmh]]
    ring
  unfold sstE
  have hbc (x : FVec Ideal ⟨5, ![2, 16, m, h, 262144]⟩ .f32) :
      broadcastInDim ⟨6, ![2, 16, m, 1, h, 262144]⟩ ![0, 1, 2, 4, 5] hb x (ix6 (⟨b, hb'⟩ : Fin 2) (⟨g, hg⟩ : Fin 16) (⟨d / (2 * h), hq⟩ : Fin m) (0 : Fin 1) (⟨d % h, hs⟩ : Fin h) (⟨r, hr'⟩ : Fin 262144))
        = x (ix5 (⟨b, hb'⟩ : Fin 2) (⟨g, hg⟩ : Fin 16) (⟨d / (2 * h), hq⟩ : Fin m) (⟨d % h, hs⟩ : Fin h) (⟨r, hr'⟩ : Fin 262144)) := by
    refine broadcastInDim_apply _ _ _ _ _ fun a => ?_
    match a with
    | ⟨0, _⟩ => rfl
    | ⟨1, _⟩ => rfl
    | ⟨2, _⟩ => exact fin_ite hq
    | ⟨3, _⟩ => exact fin_ite hs
    | ⟨4, _⟩ => rfl
  have h0 := halfR m h X hc hr (0 : Fin 2) hs0 hmh ⟨b, hb'⟩ ⟨g, hg⟩ ⟨d / (2 * h), hq⟩ ⟨d % h, hs⟩ ⟨r, hr'⟩
  have h1 := halfR m h X hc hr 1 hs1 hmh ⟨b, hb'⟩ ⟨g, hg⟩ ⟨d / (2 * h), hq⟩ ⟨d % h, hs⟩ ⟨r, hr'⟩
  rcases Nat.mod_two_eq_zero_or_one (d / h) with e | e
  · rw [if_pos e]
    refine (joinR_low m h hcat _ _ _ _ _ _ _ _ e).trans ?_
    · refine (hbc _).trans ((congrArg₂ (fun x y : EReal => x + y) h0 h1).trans ?_)
      show rdR X b g (d / (2 * h) * (2 * h) + 0 * h + d % h) r + rdR X b g (d / (2 * h) * (2 * h) + 1 * h + d % h) r = _
      rw [e] at hdd
      rw [← hdd, show d / (2 * h) * (2 * h) + 1 * h + d % h = d + h by omega]
      rfl
  · rw [if_neg (by omega)]
    refine (joinR_high m h hcat _ _ _ _ _ _ _ _ e).trans ?_
    · refine (hbc _).trans ((congrArg₂ (fun x y : EReal => x - y) h0 h1).trans ?_)
      show rdR X b g (d / (2 * h) * (2 * h) + 0 * h + d % h) r - rdR X b g (d / (2 * h) * (2 * h) + 1 * h + d % h) r = _
      rw [e] at hdd
      rw [← hdd, show d / (2 * h) * (2 * h) + 0 * h + d % h = d - h by omega]
      rfl

end stageR

end Cert.Rot

end
-- ==== Proof.RefRead.lean ====
module

public import proofs.«01_k».proof.Proof.Gen.ReferenceIdeal
public import proofs.«01_k».proof.Proof.RStage
public import Idealize.ShloMosaic.Lib.StableHlo.Run

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

/-! # The arrays the reference forms, one after another -/

/-- The arrays of shape `s`. -/
abbrev C (F : FTy → Type) (s : Shape) : Type := (⟨s, .f32⟩ : BufTy).Contents (Elt F)

/-- The arrays of shape `s`. -/
abbrev CI (F : FTy → Type) (s : Shape) : Type := (⟨s, .i32⟩ : BufTy).Contents (Elt F)

variable {F : FTy → Type} [FloatOps F]

def val_main_v0 : CI F S32 :=
  iotaInDim S32 32 0
theorem val_main_v0_apply (i : S32.Idx) :
    val_main_v0 (F := F) i = BitVec.ofNat 32 (i 0).val := rfl

def val_main_v1 : CI F S1x1x1x1x32x1 :=
  broadcastInDim S1x1x1x1x32x1 ![4] bcast_S32_S1x1x1x1x32x1_4 (val_main_v0 (F := F))
abbrev idx_main_v1 (i : S1x1x1x1x32x1.Idx) : S32.Idx := fun a => match a with
  | ⟨0, _⟩ => ⟨(i 4).val, (i 4).isLt⟩
theorem val_main_v1_apply (i : S1x1x1x1x32x1.Idx) :
    val_main_v1 (F := F) i = val_main_v0 (F := F) (idx_main_v1 i) := by
  unfold val_main_v1
  generalize val_main_v0 (F := F) = y
  exact broadcastInDim_apply _ bcast_S32_S1x1x1x1x32x1_4 y i (idx_main_v1 i) (fun a => match a with
    | ⟨0, _⟩ => by show (i 4).val = if (32 : Nat) = 1 then 0 else (i 4).val; rw [if_neg (by decide)])

def val_main_v2 (x1 : CI F S2x16x64x8x128) : CI F S2x16x8x64x128 :=
  transpose S2x16x8x64x128 [0, 1, 3, 2, 4] (x1) transposes_S2x16x64x8x128_S2x16x8x64x128_0_1_3_2_4
abbrev idx_main_v2 (i : S2x16x8x64x128.Idx) : S2x16x64x8x128.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 2).val, (i 2).isLt⟩
  | ⟨4, _⟩ => ⟨(i 4).val, (i 4).isLt⟩
theorem val_main_v2_apply (x1 : CI F S2x16x64x8x128) (i : S2x16x8x64x128.Idx) :
    val_main_v2 (F := F) x1 i = x1 (idx_main_v2 i) := by
  unfold val_main_v2
  exact transpose_apply [0, 1, 3, 2, 4] x1 transposes_S2x16x64x8x128_S2x16x8x64x128_0_1_3_2_4 i (idx_main_v2 i) (fun b => match b with
    | ⟨0, _⟩ => rfl
    | ⟨1, _⟩ => rfl
    | ⟨2, _⟩ => rfl
    | ⟨3, _⟩ => rfl
    | ⟨4, _⟩ => rfl)

def val_main_v3 (x1 : CI F S2x16x64x8x128) : CI F S2x16x8x64x1x128 :=
  broadcastInDim S2x16x8x64x1x128 ![0, 1, 2, 3, 5] bcast_S2x16x8x64x128_S2x16x8x64x1x128_0_1_2_3_5 (val_main_v2 (F := F) x1)
abbrev idx_main_v3 (i : S2x16x8x64x1x128.Idx) : S2x16x8x64x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 5).val, (i 5).isLt⟩
theorem val_main_v3_apply (x1 : CI F S2x16x64x8x128) (i : S2x16x8x64x1x128.Idx) :
    val_main_v3 (F := F) x1 i = val_main_v2 (F := F) x1 (idx_main_v3 i) := by
  unfold val_main_v3
  generalize val_main_v2 (F := F) x1 = y
  exact broadcastInDim_apply _ bcast_S2x16x8x64x128_S2x16x8x64x1x128_0_1_2_3_5 y i (idx_main_v3 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (8 : Nat) = 1 then 0 else (i 2).val; rw [if_neg (by decide)]
    | ⟨3, _⟩ => by show (i 3).val = if (64 : Nat) = 1 then 0 else (i 3).val; rw [if_neg (by decide)]
    | ⟨4, _⟩ => by show (i 5).val = if (128 : Nat) = 1 then 0 else (i 5).val; rw [if_neg (by decide)])

def val_main_v4 (x1 : CI F S2x16x64x8x128) : CI F S2x16x8x64x32x128 :=
  broadcastInDim S2x16x8x64x32x128 ![0, 1, 2, 3, 4, 5] bcast_S2x16x8x64x1x128_S2x16x8x64x32x128_0_1_2_3_4_5 (val_main_v3 (F := F) x1)
abbrev idx_main_v4 (i : S2x16x8x64x32x128.Idx) : S2x16x8x64x1x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
  | ⟨5, _⟩ => ⟨(i 5).val, (i 5).isLt⟩
theorem val_main_v4_apply (x1 : CI F S2x16x64x8x128) (i : S2x16x8x64x32x128.Idx) :
    val_main_v4 (F := F) x1 i = val_main_v3 (F := F) x1 (idx_main_v4 i) := by
  unfold val_main_v4
  generalize val_main_v3 (F := F) x1 = y
  exact broadcastInDim_apply _ bcast_S2x16x8x64x1x128_S2x16x8x64x32x128_0_1_2_3_4_5 y i (idx_main_v4 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (8 : Nat) = 1 then 0 else (i 2).val; rw [if_neg (by decide)]
    | ⟨3, _⟩ => by show (i 3).val = if (64 : Nat) = 1 then 0 else (i 3).val; rw [if_neg (by decide)]
    | ⟨4, _⟩ => by show 0 = if (1 : Nat) = 1 then 0 else (i 4).val; rw [if_pos rfl]
    | ⟨5, _⟩ => by show (i 5).val = if (128 : Nat) = 1 then 0 else (i 5).val; rw [if_neg (by decide)])

def val_main_v5 : CI F S2x16x8x64x32x128 :=
  broadcastInDim S2x16x8x64x32x128 ![0, 1, 2, 3, 4, 5] bcast_S1x1x1x1x32x1_S2x16x8x64x32x128_0_1_2_3_4_5 (val_main_v1 (F := F))
abbrev idx_main_v5 (i : S2x16x8x64x32x128.Idx) : S1x1x1x1x32x1.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
  | ⟨4, _⟩ => ⟨(i 4).val, (i 4).isLt⟩
  | ⟨5, _⟩ => ⟨0, Nat.one_pos⟩
theorem val_main_v5_apply (i : S2x16x8x64x32x128.Idx) :
    val_main_v5 (F := F) i = val_main_v1 (F := F) (idx_main_v5 i) := by
  unfold val_main_v5
  generalize val_main_v1 (F := F) = y
  exact broadcastInDim_apply _ bcast_S1x1x1x1x32x1_S2x16x8x64x32x128_0_1_2_3_4_5 y i (idx_main_v5 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (32 : Nat) = 1 then 0 else (i 4).val; rw [if_neg (by decide)]
    | ⟨5, _⟩ => by show 0 = if (1 : Nat) = 1 then 0 else (i 5).val; rw [if_pos rfl])

def val_main_v6 (x1 : CI F S2x16x64x8x128) : CI F S2x16x8x64x32x128 :=
  Host.shrui (val_main_v4 (F := F) x1) (val_main_v5 (F := F))
theorem val_main_v6_apply (x1 : CI F S2x16x64x8x128) (i : S2x16x8x64x32x128.Idx) :
    val_main_v6 (F := F) x1 i = IntOp.shrui .host (val_main_v4 (F := F) x1 i) (val_main_v5 (F := F) i) := rfl

def val_main_c : CI F S_ :=
  constantI S_ 32 1#32

def val_main_v7 : CI F S2x16x8x64x32x128 :=
  broadcastInDim S2x16x8x64x32x128 ![] bcast_S_S2x16x8x64x32x128 (val_main_c (F := F))
abbrev idx_main_v7 (i : S2x16x8x64x32x128.Idx) : S_.Idx := fun a => a.elim0
theorem val_main_v7_apply (i : S2x16x8x64x32x128.Idx) :
    val_main_v7 (F := F) i = val_main_c (F := F) (idx_main_v7 i) := by
  unfold val_main_v7
  generalize val_main_c (F := F) = y
  exact broadcastInDim_apply _ bcast_S_S2x16x8x64x32x128 y i (idx_main_v7 i) (fun a => a.elim0)

def val_main_v8 (x1 : CI F S2x16x64x8x128) : CI F S2x16x8x64x32x128 :=
  andi (val_main_v6 (F := F) x1) (val_main_v7 (F := F))
theorem val_main_v8_apply (x1 : CI F S2x16x64x8x128) (i : S2x16x8x64x32x128.Idx) :
    val_main_v8 (F := F) x1 i = IntOp.andi (val_main_v6 (F := F) x1 i) (val_main_v7 (F := F) i) := rfl

def val_main_v9 (x1 : CI F S2x16x64x8x128) : C F S2x16x8x64x32x128 :=
  sitofp .f32 (val_main_v8 (F := F) x1)
theorem val_main_v9_apply (x1 : CI F S2x16x64x8x128) (i : S2x16x8x64x32x128.Idx) :
    val_main_v9 (F := F) x1 i = FloatOps.sitofp .f32 (val_main_v8 (F := F) x1 i) := rfl

def val_main_cst : C F S_ :=
  constant S_ .f32 0x40000000#32

def val_main_v10 : C F S2x16x8x64x32x128 :=
  broadcastInDim S2x16x8x64x32x128 ![] bcast_S_S2x16x8x64x32x128 (val_main_cst (F := F))
abbrev idx_main_v10 (i : S2x16x8x64x32x128.Idx) : S_.Idx := fun a => a.elim0
theorem val_main_v10_apply (i : S2x16x8x64x32x128.Idx) :
    val_main_v10 (F := F) i = val_main_cst (F := F) (idx_main_v10 i) := by
  unfold val_main_v10
  generalize val_main_cst (F := F) = y
  exact broadcastInDim_apply _ bcast_S_S2x16x8x64x32x128 y i (idx_main_v10 i) (fun a => a.elim0)

def val_main_v11 (x1 : CI F S2x16x64x8x128) : C F S2x16x8x64x32x128 :=
  mulf (val_main_v10 (F := F)) (val_main_v9 (F := F) x1)
theorem val_main_v11_apply (x1 : CI F S2x16x64x8x128) (i : S2x16x8x64x32x128.Idx) :
    val_main_v11 (F := F) x1 i = FloatOps.mulf (val_main_v10 (F := F) i) (val_main_v9 (F := F) x1 i) := rfl

def val_main_cst_0 : C F S_ :=
  constant S_ .f32 0x3F800000#32

def val_main_v12 : C F S2x16x8x64x32x128 :=
  broadcastInDim S2x16x8x64x32x128 ![] bcast_S_S2x16x8x64x32x128 (val_main_cst_0 (F := F))
abbrev idx_main_v12 (i : S2x16x8x64x32x128.Idx) : S_.Idx := fun a => a.elim0
theorem val_main_v12_apply (i : S2x16x8x64x32x128.Idx) :
    val_main_v12 (F := F) i = val_main_cst_0 (F := F) (idx_main_v12 i) := by
  unfold val_main_v12
  generalize val_main_cst_0 (F := F) = y
  exact broadcastInDim_apply _ bcast_S_S2x16x8x64x32x128 y i (idx_main_v12 i) (fun a => a.elim0)

def val_main_v13 (x1 : CI F S2x16x64x8x128) : C F S2x16x8x64x32x128 :=
  subf (val_main_v12 (F := F)) (val_main_v11 (F := F) x1)
theorem val_main_v13_apply (x1 : CI F S2x16x64x8x128) (i : S2x16x8x64x32x128.Idx) :
    val_main_v13 (F := F) x1 i = FloatOps.subf (val_main_v12 (F := F) i) (val_main_v11 (F := F) x1 i) := rfl

def val_main_v14 (x1 : CI F S2x16x64x8x128) : C F S2x128x262144 :=
  shapeCast _ (val_main_v13 (F := F) x1) shapeCasts_S2x16x8x64x32x128_S2x128x262144

def val_main_v15 (x0 : C F S2x128x262144) (x1 : CI F S2x16x64x8x128) : C F S2x128x262144 :=
  mulf (val_main_v14 (F := F) x1) (x0)
theorem val_main_v15_apply (x0 : C F S2x128x262144) (x1 : CI F S2x16x64x8x128) (i : S2x128x262144.Idx) :
    val_main_v15 (F := F) x0 x1 i = FloatOps.mulf (val_main_v14 (F := F) x1 i) (x0 i) := rfl

def val_main_v16 (x0 : C F S2x128x262144) (x1 : CI F S2x16x64x8x128) : C F S2x16x8x262144 :=
  shapeCast _ (val_main_v15 (F := F) x0 x1) shapeCasts_S2x128x262144_S2x16x8x262144

def val_main_v248 (x0 : C F S2x128x262144) : C F S2x128x262144 :=
  mulf (x0) (x0)
theorem val_main_v248_apply (x0 : C F S2x128x262144) (i : S2x128x262144.Idx) :
    val_main_v248 (F := F) x0 i = FloatOps.mulf (x0 i) (x0 i) := rfl

def val_main_v249 (x0 : C F S2x128x262144) : C F S2x16x8x2048x128 :=
  shapeCast _ (val_main_v248 (F := F) x0) shapeCasts_S2x128x262144_S2x16x8x2048x128
set_option backward.proofsInPublic true in
abbrev idx_main_v249 (i : S2x16x8x2048x128.Idx) : S2x128x262144.Idx := fun a => match a with
  | ⟨0, _⟩ => ⟨(((((i 0).val * 16 + (i 1).val) * 8 + (i 2).val) * 2048 + (i 3).val) * 128 + (i 4).val) / 33554432, by have h0 : (i 0).val < 2 := (i 0).isLt; have h1 : (i 1).val < 16 := (i 1).isLt; have h2 : (i 2).val < 8 := (i 2).isLt; have h3 : (i 3).val < 2048 := (i 3).isLt; have h4 : (i 4).val < 128 := (i 4).isLt; show (((((i 0).val * 16 + (i 1).val) * 8 + (i 2).val) * 2048 + (i 3).val) * 128 + (i 4).val) / 33554432 < 2; omega⟩
  | ⟨1, _⟩ => ⟨(((((i 0).val * 16 + (i 1).val) * 8 + (i 2).val) * 2048 + (i 3).val) * 128 + (i 4).val) / 262144 % 128, by have h0 : (i 0).val < 2 := (i 0).isLt; have h1 : (i 1).val < 16 := (i 1).isLt; have h2 : (i 2).val < 8 := (i 2).isLt; have h3 : (i 3).val < 2048 := (i 3).isLt; have h4 : (i 4).val < 128 := (i 4).isLt; show (((((i 0).val * 16 + (i 1).val) * 8 + (i 2).val) * 2048 + (i 3).val) * 128 + (i 4).val) / 262144 % 128 < 128; omega⟩
  | ⟨2, _⟩ => ⟨(((((i 0).val * 16 + (i 1).val) * 8 + (i 2).val) * 2048 + (i 3).val) * 128 + (i 4).val) % 262144, by have h0 : (i 0).val < 2 := (i 0).isLt; have h1 : (i 1).val < 16 := (i 1).isLt; have h2 : (i 2).val < 8 := (i 2).isLt; have h3 : (i 3).val < 2048 := (i 3).isLt; have h4 : (i 4).val < 128 := (i 4).isLt; show (((((i 0).val * 16 + (i 1).val) * 8 + (i 2).val) * 2048 + (i 3).val) * 128 + (i 4).val) % 262144 < 262144; omega⟩
theorem val_main_v249_apply (x0 : C F S2x128x262144) (i : S2x16x8x2048x128.Idx) :
    val_main_v249 (F := F) x0 i = val_main_v248 (F := F) x0 (idx_main_v249 i) := by
  unfold val_main_v249
  generalize val_main_v248 (F := F) x0 = y
  exact shapeCast_apply y shapeCasts_S2x128x262144_S2x16x8x2048x128 i (idx_main_v249 i)
    (by rewrite [Shape.rowMajor_val_three, Shape.rowMajor_val_five]; have h0 : (i 0).val < 2 := (i 0).isLt; have h1 : (i 1).val < 16 := (i 1).isLt; have h2 : (i 2).val < 8 := (i 2).isLt; have h3 : (i 3).val < 2048 := (i 3).isLt; have h4 : (i 4).val < 128 := (i 4).isLt; show ((((((i 0).val * 16 + (i 1).val) * 8 + (i 2).val) * 2048 + (i 3).val) * 128 + (i 4).val) / 33554432 * 128 + (((((i 0).val * 16 + (i 1).val) * 8 + (i 2).val) * 2048 + (i 3).val) * 128 + (i 4).val) / 262144 % 128) * 262144 + (((((i 0).val * 16 + (i 1).val) * 8 + (i 2).val) * 2048 + (i 3).val) * 128 + (i 4).val) % 262144 = ((((i 0).val * 16 + (i 1).val) * 8 + (i 2).val) * 2048 + (i 3).val) * 128 + (i 4).val; omega)

def val_main_cst_1 : C F S_ :=
  constant S_ .f32 0x00000000#32

def val_main_v250 (x0 : C F S2x128x262144) : C F S2x8x128 :=
  Host.reduceAdd (val_main_v249 (F := F) x0) (val_main_cst_1 (F := F)) reducesTo_S2x16x8x2048x128_S2x8x128_d1_3 h_S_

section Stages
variable (x0 : FVec Ideal S2x128x262144 .f32) (x1 : IVec S2x16x64x8x128 32)

/-- The rows after 1 stages. -/
def val_main_v27 : FVec Ideal S2x16x8x262144 .f32 :=
  Rot.stageD 131072 1 (val_main_v16 (F := Ideal) x0 x1) shapeCasts_S2x16x8x262144_S2x16x8x131072x2x1 slices_S2x16x8x131072x2x1_S2x16x8x131072x1x1_0_0_0_0_0_0 slices_S2x16x8x131072x2x1_S2x16x8x131072x1x1_0_0_0_0_1_0 shapeCasts_S2x16x8x131072x1x1_S2x16x8x131072x1 bcast_S2x16x8x131072x1_S2x16x8x131072x1x1_0_1_2_3_5 concatenates_S2x16x8x131072x1x1_S2x16x8x131072x1x1_S2x16x8x131072x2x1_d4 shapeCasts_S2x16x8x131072x2x1_S2x16x8x262144
/-- The rows after 2 stages. -/
def val_main_v38 : FVec Ideal S2x16x8x262144 .f32 :=
  Rot.stageD 65536 2 (val_main_v27 x0 x1) shapeCasts_S2x16x8x262144_S2x16x8x65536x2x2 slices_S2x16x8x65536x2x2_S2x16x8x65536x1x2_0_0_0_0_0_0 slices_S2x16x8x65536x2x2_S2x16x8x65536x1x2_0_0_0_0_1_0 shapeCasts_S2x16x8x65536x1x2_S2x16x8x65536x2 bcast_S2x16x8x65536x2_S2x16x8x65536x1x2_0_1_2_3_5 concatenates_S2x16x8x65536x1x2_S2x16x8x65536x1x2_S2x16x8x65536x2x2_d4 shapeCasts_S2x16x8x65536x2x2_S2x16x8x262144
/-- The rows after 3 stages. -/
def val_main_v49 : FVec Ideal S2x16x8x262144 .f32 :=
  Rot.stageD 32768 4 (val_main_v38 x0 x1) shapeCasts_S2x16x8x262144_S2x16x8x32768x2x4 slices_S2x16x8x32768x2x4_S2x16x8x32768x1x4_0_0_0_0_0_0 slices_S2x16x8x32768x2x4_S2x16x8x32768x1x4_0_0_0_0_1_0 shapeCasts_S2x16x8x32768x1x4_S2x16x8x32768x4 bcast_S2x16x8x32768x4_S2x16x8x32768x1x4_0_1_2_3_5 concatenates_S2x16x8x32768x1x4_S2x16x8x32768x1x4_S2x16x8x32768x2x4_d4 shapeCasts_S2x16x8x32768x2x4_S2x16x8x262144
/-- The rows after 4 stages. -/
def val_main_v60 : FVec Ideal S2x16x8x262144 .f32 :=
  Rot.stageD 16384 8 (val_main_v49 x0 x1) shapeCasts_S2x16x8x262144_S2x16x8x16384x2x8 slices_S2x16x8x16384x2x8_S2x16x8x16384x1x8_0_0_0_0_0_0 slices_S2x16x8x16384x2x8_S2x16x8x16384x1x8_0_0_0_0_1_0 shapeCasts_S2x16x8x16384x1x8_S2x16x8x16384x8 bcast_S2x16x8x16384x8_S2x16x8x16384x1x8_0_1_2_3_5 concatenates_S2x16x8x16384x1x8_S2x16x8x16384x1x8_S2x16x8x16384x2x8_d4 shapeCasts_S2x16x8x16384x2x8_S2x16x8x262144
/-- The rows after 5 stages. -/
def val_main_v71 : FVec Ideal S2x16x8x262144 .f32 :=
  Rot.stageD 8192 16 (val_main_v60 x0 x1) shapeCasts_S2x16x8x262144_S2x16x8x8192x2x16 slices_S2x16x8x8192x2x16_S2x16x8x8192x1x16_0_0_0_0_0_0 slices_S2x16x8x8192x2x16_S2x16x8x8192x1x16_0_0_0_0_1_0 shapeCasts_S2x16x8x8192x1x16_S2x16x8x8192x16 bcast_S2x16x8x8192x16_S2x16x8x8192x1x16_0_1_2_3_5 concatenates_S2x16x8x8192x1x16_S2x16x8x8192x1x16_S2x16x8x8192x2x16_d4 shapeCasts_S2x16x8x8192x2x16_S2x16x8x262144
/-- The rows after 6 stages. -/
def val_main_v82 : FVec Ideal S2x16x8x262144 .f32 :=
  Rot.stageD 4096 32 (val_main_v71 x0 x1) shapeCasts_S2x16x8x262144_S2x16x8x4096x2x32 slices_S2x16x8x4096x2x32_S2x16x8x4096x1x32_0_0_0_0_0_0 slices_S2x16x8x4096x2x32_S2x16x8x4096x1x32_0_0_0_0_1_0 shapeCasts_S2x16x8x4096x1x32_S2x16x8x4096x32 bcast_S2x16x8x4096x32_S2x16x8x4096x1x32_0_1_2_3_5 concatenates_S2x16x8x4096x1x32_S2x16x8x4096x1x32_S2x16x8x4096x2x32_d4 shapeCasts_S2x16x8x4096x2x32_S2x16x8x262144
/-- The rows after 7 stages. -/
def val_main_v93 : FVec Ideal S2x16x8x262144 .f32 :=
  Rot.stageD 2048 64 (val_main_v82 x0 x1) shapeCasts_S2x16x8x262144_S2x16x8x2048x2x64 slices_S2x16x8x2048x2x64_S2x16x8x2048x1x64_0_0_0_0_0_0 slices_S2x16x8x2048x2x64_S2x16x8x2048x1x64_0_0_0_0_1_0 shapeCasts_S2x16x8x2048x1x64_S2x16x8x2048x64 bcast_S2x16x8x2048x64_S2x16x8x2048x1x64_0_1_2_3_5 concatenates_S2x16x8x2048x1x64_S2x16x8x2048x1x64_S2x16x8x2048x2x64_d4 shapeCasts_S2x16x8x2048x2x64_S2x16x8x262144
/-- The rows after 8 stages. -/
def val_main_v104 : FVec Ideal S2x16x8x262144 .f32 :=
  Rot.stageD 1024 128 (val_main_v93 x0 x1) shapeCasts_S2x16x8x262144_S2x16x8x1024x2x128 slices_S2x16x8x1024x2x128_S2x16x8x1024x1x128_0_0_0_0_0_0 slices_S2x16x8x1024x2x128_S2x16x8x1024x1x128_0_0_0_0_1_0 shapeCasts_S2x16x8x1024x1x128_S2x16x8x1024x128 bcast_S2x16x8x1024x128_S2x16x8x1024x1x128_0_1_2_3_5 concatenates_S2x16x8x1024x1x128_S2x16x8x1024x1x128_S2x16x8x1024x2x128_d4 shapeCasts_S2x16x8x1024x2x128_S2x16x8x262144
/-- The rows after 9 stages. -/
def val_main_v115 : FVec Ideal S2x16x8x262144 .f32 :=
  Rot.stageD 512 256 (val_main_v104 x0 x1) shapeCasts_S2x16x8x262144_S2x16x8x512x2x256 slices_S2x16x8x512x2x256_S2x16x8x512x1x256_0_0_0_0_0_0 slices_S2x16x8x512x2x256_S2x16x8x512x1x256_0_0_0_0_1_0 shapeCasts_S2x16x8x512x1x256_S2x16x8x512x256 bcast_S2x16x8x512x256_S2x16x8x512x1x256_0_1_2_3_5 concatenates_S2x16x8x512x1x256_S2x16x8x512x1x256_S2x16x8x512x2x256_d4 shapeCasts_S2x16x8x512x2x256_S2x16x8x262144
/-- The rows after 10 stages. -/
def val_main_v126 : FVec Ideal S2x16x8x262144 .f32 :=
  Rot.stageD 256 512 (val_main_v115 x0 x1) shapeCasts_S2x16x8x262144_S2x16x8x256x2x512 slices_S2x16x8x256x2x512_S2x16x8x256x1x512_0_0_0_0_0_0 slices_S2x16x8x256x2x512_S2x16x8x256x1x512_0_0_0_0_1_0 shapeCasts_S2x16x8x256x1x512_S2x16x8x256x512 bcast_S2x16x8x256x512_S2x16x8x256x1x512_0_1_2_3_5 concatenates_S2x16x8x256x1x512_S2x16x8x256x1x512_S2x16x8x256x2x512_d4 shapeCasts_S2x16x8x256x2x512_S2x16x8x262144
/-- The rows after 11 stages. -/
def val_main_v137 : FVec Ideal S2x16x8x262144 .f32 :=
  Rot.stageD 128 1024 (val_main_v126 x0 x1) shapeCasts_S2x16x8x262144_S2x16x8x128x2x1024 slices_S2x16x8x128x2x1024_S2x16x8x128x1x1024_0_0_0_0_0_0 slices_S2x16x8x128x2x1024_S2x16x8x128x1x1024_0_0_0_0_1_0 shapeCasts_S2x16x8x128x1x1024_S2x16x8x128x1024 bcast_S2x16x8x128x1024_S2x16x8x128x1x1024_0_1_2_3_5 concatenates_S2x16x8x128x1x1024_S2x16x8x128x1x1024_S2x16x8x128x2x1024_d4 shapeCasts_S2x16x8x128x2x1024_S2x16x8x262144
/-- The rows after 12 stages. -/
def val_main_v148 : FVec Ideal S2x16x8x262144 .f32 :=
  Rot.stageD 64 2048 (val_main_v137 x0 x1) shapeCasts_S2x16x8x262144_S2x16x8x64x2x2048 slices_S2x16x8x64x2x2048_S2x16x8x64x1x2048_0_0_0_0_0_0 slices_S2x16x8x64x2x2048_S2x16x8x64x1x2048_0_0_0_0_1_0 shapeCasts_S2x16x8x64x1x2048_S2x16x8x64x2048 bcast_S2x16x8x64x2048_S2x16x8x64x1x2048_0_1_2_3_5 concatenates_S2x16x8x64x1x2048_S2x16x8x64x1x2048_S2x16x8x64x2x2048_d4 shapeCasts_S2x16x8x64x2x2048_S2x16x8x262144
/-- The rows after 13 stages. -/
def val_main_v159 : FVec Ideal S2x16x8x262144 .f32 :=
  Rot.stageD 32 4096 (val_main_v148 x0 x1) shapeCasts_S2x16x8x262144_S2x16x8x32x2x4096 slices_S2x16x8x32x2x4096_S2x16x8x32x1x4096_0_0_0_0_0_0 slices_S2x16x8x32x2x4096_S2x16x8x32x1x4096_0_0_0_0_1_0 shapeCasts_S2x16x8x32x1x4096_S2x16x8x32x4096 bcast_S2x16x8x32x4096_S2x16x8x32x1x4096_0_1_2_3_5 concatenates_S2x16x8x32x1x4096_S2x16x8x32x1x4096_S2x16x8x32x2x4096_d4 shapeCasts_S2x16x8x32x2x4096_S2x16x8x262144
/-- The rows after 14 stages. -/
def val_main_v170 : FVec Ideal S2x16x8x262144 .f32 :=
  Rot.stageD 16 8192 (val_main_v159 x0 x1) shapeCasts_S2x16x8x262144_S2x16x8x16x2x8192 slices_S2x16x8x16x2x8192_S2x16x8x16x1x8192_0_0_0_0_0_0 slices_S2x16x8x16x2x8192_S2x16x8x16x1x8192_0_0_0_0_1_0 shapeCasts_S2x16x8x16x1x8192_S2x16x8x16x8192 bcast_S2x16x8x16x8192_S2x16x8x16x1x8192_0_1_2_3_5 concatenates_S2x16x8x16x1x8192_S2x16x8x16x1x8192_S2x16x8x16x2x8192_d4 shapeCasts_S2x16x8x16x2x8192_S2x16x8x262144
/-- The rows after 15 stages. -/
def val_main_v181 : FVec Ideal S2x16x8x262144 .f32 :=
  Rot.stageD 8 16384 (val_main_v170 x0 x1) shapeCasts_S2x16x8x262144_S2x16x8x8x2x16384 slices_S2x16x8x8x2x16384_S2x16x8x8x1x16384_0_0_0_0_0_0 slices_S2x16x8x8x2x16384_S2x16x8x8x1x16384_0_0_0_0_1_0 shapeCasts_S2x16x8x8x1x16384_S2x16x8x8x16384 bcast_S2x16x8x8x16384_S2x16x8x8x1x16384_0_1_2_3_5 concatenates_S2x16x8x8x1x16384_S2x16x8x8x1x16384_S2x16x8x8x2x16384_d4 shapeCasts_S2x16x8x8x2x16384_S2x16x8x262144
/-- The rows after 16 stages. -/
def val_main_v192 : FVec Ideal S2x16x8x262144 .f32 :=
  Rot.stageD 4 32768 (val_main_v181 x0 x1) shapeCasts_S2x16x8x262144_S2x16x8x4x2x32768 slices_S2x16x8x4x2x32768_S2x16x8x4x1x32768_0_0_0_0_0_0 slices_S2x16x8x4x2x32768_S2x16x8x4x1x32768_0_0_0_0_1_0 shapeCasts_S2x16x8x4x1x32768_S2x16x8x4x32768 bcast_S2x16x8x4x32768_S2x16x8x4x1x32768_0_1_2_3_5 concatenates_S2x16x8x4x1x32768_S2x16x8x4x1x32768_S2x16x8x4x2x32768_d4 shapeCasts_S2x16x8x4x2x32768_S2x16x8x262144
/-- The rows after 17 stages. -/
def val_main_v203 : FVec Ideal S2x16x8x262144 .f32 :=
  Rot.stageD 2 65536 (val_main_v192 x0 x1) shapeCasts_S2x16x8x262144_S2x16x8x2x2x65536 slices_S2x16x8x2x2x65536_S2x16x8x2x1x65536_0_0_0_0_0_0 slices_S2x16x8x2x2x65536_S2x16x8x2x1x65536_0_0_0_0_1_0 shapeCasts_S2x16x8x2x1x65536_S2x16x8x2x65536 bcast_S2x16x8x2x65536_S2x16x8x2x1x65536_0_1_2_3_5 concatenates_S2x16x8x2x1x65536_S2x16x8x2x1x65536_S2x16x8x2x2x65536_d4 shapeCasts_S2x16x8x2x2x65536_S2x16x8x262144
/-- The rows after 18 stages. -/
def val_main_v214 : FVec Ideal S2x16x8x262144 .f32 :=
  Rot.stageD 1 131072 (val_main_v203 x0 x1) shapeCasts_S2x16x8x262144_S2x16x8x1x2x131072 slices_S2x16x8x1x2x131072_S2x16x8x1x1x131072_0_0_0_0_0_0 slices_S2x16x8x1x2x131072_S2x16x8x1x1x131072_0_0_0_0_1_0 shapeCasts_S2x16x8x1x1x131072_S2x16x8x1x131072 bcast_S2x16x8x1x131072_S2x16x8x1x1x131072_0_1_2_3_5 concatenates_S2x16x8x1x1x131072_S2x16x8x1x1x131072_S2x16x8x1x2x131072_d4 shapeCasts_S2x16x8x1x2x131072_S2x16x8x262144
/-- The rows after 19 stages. -/
def val_main_v225 : FVec Ideal S2x16x8x262144 .f32 :=
  Rot.stageR 4 1 (val_main_v214 x0 x1) shapeCasts_S2x16x8x262144_S2x16x4x2x1x262144 slices_S2x16x4x2x1x262144_S2x16x4x1x1x262144_0_0_0_0_0_0 slices_S2x16x4x2x1x262144_S2x16x4x1x1x262144_0_0_0_1_0_0 shapeCasts_S2x16x4x1x1x262144_S2x16x4x1x262144 bcast_S2x16x4x1x262144_S2x16x4x1x1x262144_0_1_2_4_5 concatenates_S2x16x4x1x1x262144_S2x16x4x1x1x262144_S2x16x4x2x1x262144_d3 shapeCasts_S2x16x4x2x1x262144_S2x16x8x262144
/-- The rows after 20 stages. -/
def val_main_v236 : FVec Ideal S2x16x8x262144 .f32 :=
  Rot.stageR 2 2 (val_main_v225 x0 x1) shapeCasts_S2x16x8x262144_S2x16x2x2x2x262144 slices_S2x16x2x2x2x262144_S2x16x2x1x2x262144_0_0_0_0_0_0 slices_S2x16x2x2x2x262144_S2x16x2x1x2x262144_0_0_0_1_0_0 shapeCasts_S2x16x2x1x2x262144_S2x16x2x2x262144 bcast_S2x16x2x2x262144_S2x16x2x1x2x262144_0_1_2_4_5 concatenates_S2x16x2x1x2x262144_S2x16x2x1x2x262144_S2x16x2x2x2x262144_d3 shapeCasts_S2x16x2x2x2x262144_S2x16x8x262144
/-- The rows after 21 stages. -/
def val_main_v247 : FVec Ideal S2x16x8x262144 .f32 :=
  Rot.stageR 1 4 (val_main_v236 x0 x1) shapeCasts_S2x16x8x262144_S2x16x1x2x4x262144 slices_S2x16x1x2x4x262144_S2x16x1x1x4x262144_0_0_0_0_0_0 slices_S2x16x1x2x4x262144_S2x16x1x1x4x262144_0_0_0_1_0_0 shapeCasts_S2x16x1x1x4x262144_S2x16x1x4x262144 bcast_S2x16x1x4x262144_S2x16x1x1x4x262144_0_1_2_4_5 concatenates_S2x16x1x1x4x262144_S2x16x1x1x4x262144_S2x16x1x2x4x262144_d3 shapeCasts_S2x16x1x2x4x262144_S2x16x8x262144
/-- The first result. -/
def val_main_v251 : FVec Ideal S2x128x262144 .f32 :=
  shapeCast S2x128x262144 (val_main_v247 x0 x1) shapeCasts_S2x16x8x262144_S2x128x262144

end Stages

end Cert.ReferenceIdeal.Read

end
-- ==== Proof.RefRun.lean ====
module

public import proofs.«01_k».proof.Proof.RefOps
public import proofs.«01_k».proof.Proof.RefRead

@[expose] public section

set_option maxRecDepth 8192

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-! # The reference's run: what each stage's operations leave -/

variable (V : Valuation τ sig (Elt Ideal))

theorem after_27 : after (st1) V (Proc.devRef .tc main_v27) = Rot.stageD 131072 1 (V (Proc.devRef .tc main_v16) : FVec Ideal S2x16x8x262144 .f32) shapeCasts_S2x16x8x262144_S2x16x8x131072x2x1 slices_S2x16x8x131072x2x1_S2x16x8x131072x1x1_0_0_0_0_0_0 slices_S2x16x8x131072x2x1_S2x16x8x131072x1x1_0_0_0_0_1_0 shapeCasts_S2x16x8x131072x1x1_S2x16x8x131072x1 bcast_S2x16x8x131072x1_S2x16x8x131072x1x1_0_1_2_3_5 concatenates_S2x16x8x131072x1x1_S2x16x8x131072x1x1_S2x16x8x131072x2x1_d4 shapeCasts_S2x16x8x131072x2x1_S2x16x8x262144 := by
  simp only [st1, List.cons_append, List.nil_append]
  after_results_simp
  rfl
theorem after_38 : after (st2) V (Proc.devRef .tc main_v38) = Rot.stageD 65536 2 (V (Proc.devRef .tc main_v27) : FVec Ideal S2x16x8x262144 .f32) shapeCasts_S2x16x8x262144_S2x16x8x65536x2x2 slices_S2x16x8x65536x2x2_S2x16x8x65536x1x2_0_0_0_0_0_0 slices_S2x16x8x65536x2x2_S2x16x8x65536x1x2_0_0_0_0_1_0 shapeCasts_S2x16x8x65536x1x2_S2x16x8x65536x2 bcast_S2x16x8x65536x2_S2x16x8x65536x1x2_0_1_2_3_5 concatenates_S2x16x8x65536x1x2_S2x16x8x65536x1x2_S2x16x8x65536x2x2_d4 shapeCasts_S2x16x8x65536x2x2_S2x16x8x262144 := by
  simp only [st2, List.cons_append, List.nil_append]
  after_results_simp
  rfl
theorem after_49 : after (st3) V (Proc.devRef .tc main_v49) = Rot.stageD 32768 4 (V (Proc.devRef .tc main_v38) : FVec Ideal S2x16x8x262144 .f32) shapeCasts_S2x16x8x262144_S2x16x8x32768x2x4 slices_S2x16x8x32768x2x4_S2x16x8x32768x1x4_0_0_0_0_0_0 slices_S2x16x8x32768x2x4_S2x16x8x32768x1x4_0_0_0_0_1_0 shapeCasts_S2x16x8x32768x1x4_S2x16x8x32768x4 bcast_S2x16x8x32768x4_S2x16x8x32768x1x4_0_1_2_3_5 concatenates_S2x16x8x32768x1x4_S2x16x8x32768x1x4_S2x16x8x32768x2x4_d4 shapeCasts_S2x16x8x32768x2x4_S2x16x8x262144 := by
  simp only [st3, List.cons_append, List.nil_append]
  after_results_simp
  rfl
theorem after_60 : after (st4a ++ st4b) V (Proc.devRef .tc main_v60) = Rot.stageD 16384 8 (V (Proc.devRef .tc main_v49) : FVec Ideal S2x16x8x262144 .f32) shapeCasts_S2x16x8x262144_S2x16x8x16384x2x8 slices_S2x16x8x16384x2x8_S2x16x8x16384x1x8_0_0_0_0_0_0 slices_S2x16x8x16384x2x8_S2x16x8x16384x1x8_0_0_0_0_1_0 shapeCasts_S2x16x8x16384x1x8_S2x16x8x16384x8 bcast_S2x16x8x16384x8_S2x16x8x16384x1x8_0_1_2_3_5 concatenates_S2x16x8x16384x1x8_S2x16x8x16384x1x8_S2x16x8x16384x2x8_d4 shapeCasts_S2x16x8x16384x2x8_S2x16x8x262144 := by
  simp only [st4a, st4b, List.cons_append, List.nil_append]
  after_results_simp
  rfl
theorem after_71 : after (st5) V (Proc.devRef .tc main_v71) = Rot.stageD 8192 16 (V (Proc.devRef .tc main_v60) : FVec Ideal S2x16x8x262144 .f32) shapeCasts_S2x16x8x262144_S2x16x8x8192x2x16 slices_S2x16x8x8192x2x16_S2x16x8x8192x1x16_0_0_0_0_0_0 slices_S2x16x8x8192x2x16_S2x16x8x8192x1x16_0_0_0_0_1_0 shapeCasts_S2x16x8x8192x1x16_S2x16x8x8192x16 bcast_S2x16x8x8192x16_S2x16x8x8192x1x16_0_1_2_3_5 concatenates_S2x16x8x8192x1x16_S2x16x8x8192x1x16_S2x16x8x8192x2x16_d4 shapeCasts_S2x16x8x8192x2x16_S2x16x8x262144 := by
  simp only [st5, List.cons_append, List.nil_append]
  after_results_simp
  rfl
theorem after_82 : after (st6) V (Proc.devRef .tc main_v82) = Rot.stageD 4096 32 (V (Proc.devRef .tc main_v71) : FVec Ideal S2x16x8x262144 .f32) shapeCasts_S2x16x8x262144_S2x16x8x4096x2x32 slices_S2x16x8x4096x2x32_S2x16x8x4096x1x32_0_0_0_0_0_0 slices_S2x16x8x4096x2x32_S2x16x8x4096x1x32_0_0_0_0_1_0 shapeCasts_S2x16x8x4096x1x32_S2x16x8x4096x32 bcast_S2x16x8x4096x32_S2x16x8x4096x1x32_0_1_2_3_5 concatenates_S2x16x8x4096x1x32_S2x16x8x4096x1x32_S2x16x8x4096x2x32_d4 shapeCasts_S2x16x8x4096x2x32_S2x16x8x262144 := by
  simp only [st6, List.cons_append, List.nil_append]
  after_results_simp
  rfl
theorem after_93 : after (st7) V (Proc.devRef .tc main_v93) = Rot.stageD 2048 64 (V (Proc.devRef .tc main_v82) : FVec Ideal S2x16x8x262144 .f32) shapeCasts_S2x16x8x262144_S2x16x8x2048x2x64 slices_S2x16x8x2048x2x64_S2x16x8x2048x1x64_0_0_0_0_0_0 slices_S2x16x8x2048x2x64_S2x16x8x2048x1x64_0_0_0_0_1_0 shapeCasts_S2x16x8x2048x1x64_S2x16x8x2048x64 bcast_S2x16x8x2048x64_S2x16x8x2048x1x64_0_1_2_3_5 concatenates_S2x16x8x2048x1x64_S2x16x8x2048x1x64_S2x16x8x2048x2x64_d4 shapeCasts_S2x16x8x2048x2x64_S2x16x8x262144 := by
  simp only [st7, List.cons_append, List.nil_append]
  after_results_simp
  rfl
theorem after_104 : after (st8) V (Proc.devRef .tc main_v104) = Rot.stageD 1024 128 (V (Proc.devRef .tc main_v93) : FVec Ideal S2x16x8x262144 .f32) shapeCasts_S2x16x8x262144_S2x16x8x1024x2x128 slices_S2x16x8x1024x2x128_S2x16x8x1024x1x128_0_0_0_0_0_0 slices_S2x16x8x1024x2x128_S2x16x8x1024x1x128_0_0_0_0_1_0 shapeCasts_S2x16x8x1024x1x128_S2x16x8x1024x128 bcast_S2x16x8x1024x128_S2x16x8x1024x1x128_0_1_2_3_5 concatenates_S2x16x8x1024x1x128_S2x16x8x1024x1x128_S2x16x8x1024x2x128_d4 shapeCasts_S2x16x8x1024x2x128_S2x16x8x262144 := by
  simp only [st8, List.cons_append, List.nil_append]
  after_results_simp
  rfl
theorem after_115 : after (st9) V (Proc.devRef .tc main_v115) = Rot.stageD 512 256 (V (Proc.devRef .tc main_v104) : FVec Ideal S2x16x8x262144 .f32) shapeCasts_S2x16x8x262144_S2x16x8x512x2x256 slices_S2x16x8x512x2x256_S2x16x8x512x1x256_0_0_0_0_0_0 slices_S2x16x8x512x2x256_S2x16x8x512x1x256_0_0_0_0_1_0 shapeCasts_S2x16x8x512x1x256_S2x16x8x512x256 bcast_S2x16x8x512x256_S2x16x8x512x1x256_0_1_2_3_5 concatenates_S2x16x8x512x1x256_S2x16x8x512x1x256_S2x16x8x512x2x256_d4 shapeCasts_S2x16x8x512x2x256_S2x16x8x262144 := by
  simp only [st9, List.cons_append, List.nil_append]
  after_results_simp
  rfl
theorem after_126 : after (st10a ++ st10b) V (Proc.devRef .tc main_v126) = Rot.stageD 256 512 (V (Proc.devRef .tc main_v115) : FVec Ideal S2x16x8x262144 .f32) shapeCasts_S2x16x8x262144_S2x16x8x256x2x512 slices_S2x16x8x256x2x512_S2x16x8x256x1x512_0_0_0_0_0_0 slices_S2x16x8x256x2x512_S2x16x8x256x1x512_0_0_0_0_1_0 shapeCasts_S2x16x8x256x1x512_S2x16x8x256x512 bcast_S2x16x8x256x512_S2x16x8x256x1x512_0_1_2_3_5 concatenates_S2x16x8x256x1x512_S2x16x8x256x1x512_S2x16x8x256x2x512_d4 shapeCasts_S2x16x8x256x2x512_S2x16x8x262144 := by
  simp only [st10a, st10b, List.cons_append, List.nil_append]
  after_results_simp
  rfl
theorem after_137 : after (st11) V (Proc.devRef .tc main_v137) = Rot.stageD 128 1024 (V (Proc.devRef .tc main_v126) : FVec Ideal S2x16x8x262144 .f32) shapeCasts_S2x16x8x262144_S2x16x8x128x2x1024 slices_S2x16x8x128x2x1024_S2x16x8x128x1x1024_0_0_0_0_0_0 slices_S2x16x8x128x2x1024_S2x16x8x128x1x1024_0_0_0_0_1_0 shapeCasts_S2x16x8x128x1x1024_S2x16x8x128x1024 bcast_S2x16x8x128x1024_S2x16x8x128x1x1024_0_1_2_3_5 concatenates_S2x16x8x128x1x1024_S2x16x8x128x1x1024_S2x16x8x128x2x1024_d4 shapeCasts_S2x16x8x128x2x1024_S2x16x8x262144 := by
  simp only [st11, List.cons_append, List.nil_append]
  after_results_simp
  rfl
theorem after_148 : after (st12) V (Proc.devRef .tc main_v148) = Rot.stageD 64 2048 (V (Proc.devRef .tc main_v137) : FVec Ideal S2x16x8x262144 .f32) shapeCasts_S2x16x8x262144_S2x16x8x64x2x2048 slices_S2x16x8x64x2x2048_S2x16x8x64x1x2048_0_0_0_0_0_0 slices_S2x16x8x64x2x2048_S2x16x8x64x1x2048_0_0_0_0_1_0 shapeCasts_S2x16x8x64x1x2048_S2x16x8x64x2048 bcast_S2x16x8x64x2048_S2x16x8x64x1x2048_0_1_2_3_5 concatenates_S2x16x8x64x1x2048_S2x16x8x64x1x2048_S2x16x8x64x2x2048_d4 shapeCasts_S2x16x8x64x2x2048_S2x16x8x262144 := by
  simp only [st12, List.cons_append, List.nil_append]
  after_results_simp
  rfl
theorem after_159 : after (st13) V (Proc.devRef .tc main_v159) = Rot.stageD 32 4096 (V (Proc.devRef .tc main_v148) : FVec Ideal S2x16x8x262144 .f32) shapeCasts_S2x16x8x262144_S2x16x8x32x2x4096 slices_S2x16x8x32x2x4096_S2x16x8x32x1x4096_0_0_0_0_0_0 slices_S2x16x8x32x2x4096_S2x16x8x32x1x4096_0_0_0_0_1_0 shapeCasts_S2x16x8x32x1x4096_S2x16x8x32x4096 bcast_S2x16x8x32x4096_S2x16x8x32x1x4096_0_1_2_3_5 concatenates_S2x16x8x32x1x4096_S2x16x8x32x1x4096_S2x16x8x32x2x4096_d4 shapeCasts_S2x16x8x32x2x4096_S2x16x8x262144 := by
  simp only [st13, List.cons_append, List.nil_append]
  after_results_simp
  rfl
theorem after_170 : after (st14) V (Proc.devRef .tc main_v170) = Rot.stageD 16 8192 (V (Proc.devRef .tc main_v159) : FVec Ideal S2x16x8x262144 .f32) shapeCasts_S2x16x8x262144_S2x16x8x16x2x8192 slices_S2x16x8x16x2x8192_S2x16x8x16x1x8192_0_0_0_0_0_0 slices_S2x16x8x16x2x8192_S2x16x8x16x1x8192_0_0_0_0_1_0 shapeCasts_S2x16x8x16x1x8192_S2x16x8x16x8192 bcast_S2x16x8x16x8192_S2x16x8x16x1x8192_0_1_2_3_5 concatenates_S2x16x8x16x1x8192_S2x16x8x16x1x8192_S2x16x8x16x2x8192_d4 shapeCasts_S2x16x8x16x2x8192_S2x16x8x262144 := by
  simp only [st14, List.cons_append, List.nil_append]
  after_results_simp
  rfl
theorem after_181 : after (st15a ++ st15b) V (Proc.devRef .tc main_v181) = Rot.stageD 8 16384 (V (Proc.devRef .tc main_v170) : FVec Ideal S2x16x8x262144 .f32) shapeCasts_S2x16x8x262144_S2x16x8x8x2x16384 slices_S2x16x8x8x2x16384_S2x16x8x8x1x16384_0_0_0_0_0_0 slices_S2x16x8x8x2x16384_S2x16x8x8x1x16384_0_0_0_0_1_0 shapeCasts_S2x16x8x8x1x16384_S2x16x8x8x16384 bcast_S2x16x8x8x16384_S2x16x8x8x1x16384_0_1_2_3_5 concatenates_S2x16x8x8x1x16384_S2x16x8x8x1x16384_S2x16x8x8x2x16384_d4 shapeCasts_S2x16x8x8x2x16384_S2x16x8x262144 := by
  simp only [st15a, st15b, List.cons_append, List.nil_append]
  after_results_simp
  rfl
theorem after_192 : after (st16) V (Proc.devRef .tc main_v192) = Rot.stageD 4 32768 (V (Proc.devRef .tc main_v181) : FVec Ideal S2x16x8x262144 .f32) shapeCasts_S2x16x8x262144_S2x16x8x4x2x32768 slices_S2x16x8x4x2x32768_S2x16x8x4x1x32768_0_0_0_0_0_0 slices_S2x16x8x4x2x32768_S2x16x8x4x1x32768_0_0_0_0_1_0 shapeCasts_S2x16x8x4x1x32768_S2x16x8x4x32768 bcast_S2x16x8x4x32768_S2x16x8x4x1x32768_0_1_2_3_5 concatenates_S2x16x8x4x1x32768_S2x16x8x4x1x32768_S2x16x8x4x2x32768_d4 shapeCasts_S2x16x8x4x2x32768_S2x16x8x262144 := by
  simp only [st16, List.cons_append, List.nil_append]
  after_results_simp
  rfl
theorem after_203 : after (st17) V (Proc.devRef .tc main_v203) = Rot.stageD 2 65536 (V (Proc.devRef .tc main_v192) : FVec Ideal S2x16x8x262144 .f32) shapeCasts_S2x16x8x262144_S2x16x8x2x2x65536 slices_S2x16x8x2x2x65536_S2x16x8x2x1x65536_0_0_0_0_0_0 slices_S2x16x8x2x2x65536_S2x16x8x2x1x65536_0_0_0_0_1_0 shapeCasts_S2x16x8x2x1x65536_S2x16x8x2x65536 bcast_S2x16x8x2x65536_S2x16x8x2x1x65536_0_1_2_3_5 concatenates_S2x16x8x2x1x65536_S2x16x8x2x1x65536_S2x16x8x2x2x65536_d4 shapeCasts_S2x16x8x2x2x65536_S2x16x8x262144 := by
  simp only [st17, List.cons_append, List.nil_append]
  after_results_simp
  rfl
theorem after_214 : after (st18) V (Proc.devRef .tc main_v214) = Rot.stageD 1 131072 (V (Proc.devRef .tc main_v203) : FVec Ideal S2x16x8x262144 .f32) shapeCasts_S2x16x8x262144_S2x16x8x1x2x131072 slices_S2x16x8x1x2x131072_S2x16x8x1x1x131072_0_0_0_0_0_0 slices_S2x16x8x1x2x131072_S2x16x8x1x1x131072_0_0_0_0_1_0 shapeCasts_S2x16x8x1x1x131072_S2x16x8x1x131072 bcast_S2x16x8x1x131072_S2x16x8x1x1x131072_0_1_2_3_5 concatenates_S2x16x8x1x1x131072_S2x16x8x1x1x131072_S2x16x8x1x2x131072_d4 shapeCasts_S2x16x8x1x2x131072_S2x16x8x262144 := by
  simp only [st18, List.cons_append, List.nil_append]
  after_results_simp
  rfl
theorem after_225 : after (st19) V (Proc.devRef .tc main_v225) = Rot.stageR 4 1 (V (Proc.devRef .tc main_v214) : FVec Ideal S2x16x8x262144 .f32) shapeCasts_S2x16x8x262144_S2x16x4x2x1x262144 slices_S2x16x4x2x1x262144_S2x16x4x1x1x262144_0_0_0_0_0_0 slices_S2x16x4x2x1x262144_S2x16x4x1x1x262144_0_0_0_1_0_0 shapeCasts_S2x16x4x1x1x262144_S2x16x4x1x262144 bcast_S2x16x4x1x262144_S2x16x4x1x1x262144_0_1_2_4_5 concatenates_S2x16x4x1x1x262144_S2x16x4x1x1x262144_S2x16x4x2x1x262144_d3 shapeCasts_S2x16x4x2x1x262144_S2x16x8x262144 := by
  simp only [st19, List.cons_append, List.nil_append]
  after_results_simp
  rfl
theorem after_236 : after (st20) V (Proc.devRef .tc main_v236) = Rot.stageR 2 2 (V (Proc.devRef .tc main_v225) : FVec Ideal S2x16x8x262144 .f32) shapeCasts_S2x16x8x262144_S2x16x2x2x2x262144 slices_S2x16x2x2x2x262144_S2x16x2x1x2x262144_0_0_0_0_0_0 slices_S2x16x2x2x2x262144_S2x16x2x1x2x262144_0_0_0_1_0_0 shapeCasts_S2x16x2x1x2x262144_S2x16x2x2x262144 bcast_S2x16x2x2x262144_S2x16x2x1x2x262144_0_1_2_4_5 concatenates_S2x16x2x1x2x262144_S2x16x2x1x2x262144_S2x16x2x2x2x262144_d3 shapeCasts_S2x16x2x2x2x262144_S2x16x8x262144 := by
  simp only [st20, List.cons_append, List.nil_append]
  after_results_simp
  rfl
theorem after_247 : after (st21) V (Proc.devRef .tc main_v247) = Rot.stageR 1 4 (V (Proc.devRef .tc main_v236) : FVec Ideal S2x16x8x262144 .f32) shapeCasts_S2x16x8x262144_S2x16x1x2x4x262144 slices_S2x16x1x2x4x262144_S2x16x1x1x4x262144_0_0_0_0_0_0 slices_S2x16x1x2x4x262144_S2x16x1x1x4x262144_0_0_0_1_0_0 shapeCasts_S2x16x1x1x4x262144_S2x16x1x4x262144 bcast_S2x16x1x4x262144_S2x16x1x1x4x262144_0_1_2_4_5 concatenates_S2x16x1x1x4x262144_S2x16x1x1x4x262144_S2x16x1x2x4x262144_d3 shapeCasts_S2x16x1x2x4x262144_S2x16x8x262144 := by
  simp only [st21, List.cons_append, List.nil_append]
  after_results_simp
  rfl
/-- The arguments are in `W` what they are in `V`. -/
def Kept (V W : Valuation τ sig (Elt Ideal)) : Prop :=
  W (Proc.devRef .tc main_arg0) = V (Proc.devRef .tc main_arg0) ∧ W (Proc.devRef .tc main_arg1) = V (Proc.devRef .tc main_arg1)
theorem Kept.trans {U V W : Valuation τ sig (Elt Ideal)} (h : Kept V W) (k : Kept U V) : Kept U W :=
  ⟨h.1.trans k.1, h.2.trans k.2⟩
theorem kept_s0 : Kept V (after (st0) V) := by
  simp only [Kept, st0, List.cons_append, List.nil_append]
  refine ⟨?_, ?_⟩ <;> after_results_simp
theorem kept_s1 : Kept V (after (st1) V) := by
  simp only [Kept, st1, List.cons_append, List.nil_append]
  refine ⟨?_, ?_⟩ <;> after_results_simp
theorem kept_s2 : Kept V (after (st2) V) := by
  simp only [Kept, st2, List.cons_append, List.nil_append]
  refine ⟨?_, ?_⟩ <;> after_results_simp
theorem kept_s3 : Kept V (after (st3) V) := by
  simp only [Kept, st3, List.cons_append, List.nil_append]
  refine ⟨?_, ?_⟩ <;> after_results_simp
theorem kept_s4 : Kept V (after (st4a ++ st4b) V) := by
  simp only [Kept, st4a, st4b, List.cons_append, List.nil_append]
  refine ⟨?_, ?_⟩ <;> after_results_simp
theorem kept_s5 : Kept V (after (st5) V) := by
  simp only [Kept, st5, List.cons_append, List.nil_append]
  refine ⟨?_, ?_⟩ <;> after_results_simp
theorem kept_s6 : Kept V (after (st6) V) := by
  simp only [Kept, st6, List.cons_append, List.nil_append]
  refine ⟨?_, ?_⟩ <;> after_results_simp
theorem kept_s7 : Kept V (after (st7) V) := by
  simp only [Kept, st7, List.cons_append, List.nil_append]
  refine ⟨?_, ?_⟩ <;> after_results_simp
theorem kept_s8 : Kept V (after (st8) V) := by
  simp only [Kept, st8, List.cons_append, List.nil_append]
  refine ⟨?_, ?_⟩ <;> after_results_simp
theorem kept_s9 : Kept V (after (st9) V) := by
  simp only [Kept, st9, List.cons_append, List.nil_append]
  refine ⟨?_, ?_⟩ <;> after_results_simp
theorem kept_s10 : Kept V (after (st10a ++ st10b) V) := by
  simp only [Kept, st10a, st10b, List.cons_append, List.nil_append]
  refine ⟨?_, ?_⟩ <;> after_results_simp
theorem kept_s11 : Kept V (after (st11) V) := by
  simp only [Kept, st11, List.cons_append, List.nil_append]
  refine ⟨?_, ?_⟩ <;> after_results_simp
theorem kept_s12 : Kept V (after (st12) V) := by
  simp only [Kept, st12, List.cons_append, List.nil_append]
  refine ⟨?_, ?_⟩ <;> after_results_simp
theorem kept_s13 : Kept V (after (st13) V) := by
  simp only [Kept, st13, List.cons_append, List.nil_append]
  refine ⟨?_, ?_⟩ <;> after_results_simp
theorem kept_s14 : Kept V (after (st14) V) := by
  simp only [Kept, st14, List.cons_append, List.nil_append]
  refine ⟨?_, ?_⟩ <;> after_results_simp
theorem kept_s15 : Kept V (after (st15a ++ st15b) V) := by
  simp only [Kept, st15a, st15b, List.cons_append, List.nil_append]
  refine ⟨?_, ?_⟩ <;> after_results_simp
theorem kept_s16 : Kept V (after (st16) V) := by
  simp only [Kept, st16, List.cons_append, List.nil_append]
  refine ⟨?_, ?_⟩ <;> after_results_simp
theorem kept_s17 : Kept V (after (st17) V) := by
  simp only [Kept, st17, List.cons_append, List.nil_append]
  refine ⟨?_, ?_⟩ <;> after_results_simp
theorem kept_s18 : Kept V (after (st18) V) := by
  simp only [Kept, st18, List.cons_append, List.nil_append]
  refine ⟨?_, ?_⟩ <;> after_results_simp
theorem kept_s19 : Kept V (after (st19) V) := by
  simp only [Kept, st19, List.cons_append, List.nil_append]
  refine ⟨?_, ?_⟩ <;> after_results_simp
theorem kept_s20 : Kept V (after (st20) V) := by
  simp only [Kept, st20, List.cons_append, List.nil_append]
  refine ⟨?_, ?_⟩ <;> after_results_simp
theorem kept_s21 : Kept V (after (st21) V) := by
  simp only [Kept, st21, List.cons_append, List.nil_append]
  refine ⟨?_, ?_⟩ <;> after_results_simp
theorem kept_s22 : Kept V (after (st22) V) := by
  simp only [Kept, st22, List.cons_append, List.nil_append]
  refine ⟨?_, ?_⟩ <;> after_results_simp
theorem after_16 : after st0 V (Proc.devRef .tc main_v16) = val_main_v16 (F := Ideal) (V (Proc.devRef .tc main_arg0)) (V (Proc.devRef .tc main_arg1)) := by
  simp only [st0]
  after_results_simp
  rfl
theorem after_250 : after st22 V (Proc.devRef .tc main_v250) = val_main_v250 (F := Ideal) (V (Proc.devRef .tc main_arg0)) := by
  simp only [st22]
  after_results_simp
  rfl
theorem after_251 : after st22 V (Proc.devRef .tc main_v251) = shapeCast S2x128x262144 (V (Proc.devRef .tc main_v247) : FVec Ideal S2x16x8x262144 .f32) shapeCasts_S2x16x8x262144_S2x128x262144 := by
  simp only [st22]
  after_results_simp
  rfl

/-- The buffers after the signed entries. -/
def w0 : Valuation τ sig (Elt Ideal) := after (st0) V
theorem w0_kept : Kept V (w0 V) := kept_s0 V
theorem w0_16 : w0 V (Proc.devRef .tc main_v16) = val_main_v16 (F := Ideal) (V (Proc.devRef .tc main_arg0)) (V (Proc.devRef .tc main_arg1)) := after_16 V
/-- The buffers after stage 1. -/
def w1 : Valuation τ sig (Elt Ideal) := after (st1) (w0 V)
theorem w1_kept : Kept V (w1 V) := (kept_s1 (w0 V)).trans (w0_kept V)
theorem w1_27 : w1 V (Proc.devRef .tc main_v27) = val_main_v27 (V (Proc.devRef .tc main_arg0)) (V (Proc.devRef .tc main_arg1)) := by
  unfold w1 val_main_v27
  rw [after_27, w0_16]
/-- The buffers after stage 2. -/
def w2 : Valuation τ sig (Elt Ideal) := after (st2) (w1 V)
theorem w2_kept : Kept V (w2 V) := (kept_s2 (w1 V)).trans (w1_kept V)
theorem w2_38 : w2 V (Proc.devRef .tc main_v38) = val_main_v38 (V (Proc.devRef .tc main_arg0)) (V (Proc.devRef .tc main_arg1)) := by
  unfold w2 val_main_v38
  rw [after_38, w1_27]
/-- The buffers after stage 3. -/
def w3 : Valuation τ sig (Elt Ideal) := after (st3) (w2 V)
theorem w3_kept : Kept V (w3 V) := (kept_s3 (w2 V)).trans (w2_kept V)
theorem w3_49 : w3 V (Proc.devRef .tc main_v49) = val_main_v49 (V (Proc.devRef .tc main_arg0)) (V (Proc.devRef .tc main_arg1)) := by
  unfold w3 val_main_v49
  rw [after_49, w2_38]
/-- The buffers after stage 4. -/
def w4 : Valuation τ sig (Elt Ideal) := after (st4a ++ st4b) (w3 V)
theorem w4_kept : Kept V (w4 V) := (kept_s4 (w3 V)).trans (w3_kept V)
theorem w4_60 : w4 V (Proc.devRef .tc main_v60) = val_main_v60 (V (Proc.devRef .tc main_arg0)) (V (Proc.devRef .tc main_arg1)) := by
  unfold w4 val_main_v60
  rw [after_60, w3_49]
/-- The buffers after stage 5. -/
def w5 : Valuation τ sig (Elt Ideal) := after (st5) (w4 V)
theorem w5_kept : Kept V (w5 V) := (kept_s5 (w4 V)).trans (w4_kept V)
theorem w5_71 : w5 V (Proc.devRef .tc main_v71) = val_main_v71 (V (Proc.devRef .tc main_arg0)) (V (Proc.devRef .tc main_arg1)) := by
  unfold w5 val_main_v71
  rw [after_71, w4_60]
/-- The buffers after stage 6. -/
def w6 : Valuation τ sig (Elt Ideal) := after (st6) (w5 V)
theorem w6_kept : Kept V (w6 V) := (kept_s6 (w5 V)).trans (w5_kept V)
theorem w6_82 : w6 V (Proc.devRef .tc main_v82) = val_main_v82 (V (Proc.devRef .tc main_arg0)) (V (Proc.devRef .tc main_arg1)) := by
  unfold w6 val_main_v82
  rw [after_82, w5_71]
/-- The buffers after stage 7. -/
def w7 : Valuation τ sig (Elt Ideal) := after (st7) (w6 V)
theorem w7_kept : Kept V (w7 V) := (kept_s7 (w6 V)).trans (w6_kept V)
theorem w7_93 : w7 V (Proc.devRef .tc main_v93) = val_main_v93 (V (Proc.devRef .tc main_arg0)) (V (Proc.devRef .tc main_arg1)) := by
  unfold w7 val_main_v93
  rw [after_93, w6_82]
/-- The buffers after stage 8. -/
def w8 : Valuation τ sig (Elt Ideal) := after (st8) (w7 V)
theorem w8_kept : Kept V (w8 V) := (kept_s8 (w7 V)).trans (w7_kept V)
theorem w8_104 : w8 V (Proc.devRef .tc main_v104) = val_main_v104 (V (Proc.devRef .tc main_arg0)) (V (Proc.devRef .tc main_arg1)) := by
  unfold w8 val_main_v104
  rw [after_104, w7_93]
/-- The buffers after stage 9. -/
def w9 : Valuation τ sig (Elt Ideal) := after (st9) (w8 V)
theorem w9_kept : Kept V (w9 V) := (kept_s9 (w8 V)).trans (w8_kept V)
theorem w9_115 : w9 V (Proc.devRef .tc main_v115) = val_main_v115 (V (Proc.devRef .tc main_arg0)) (V (Proc.devRef .tc main_arg1)) := by
  unfold w9 val_main_v115
  rw [after_115, w8_104]
/-- The buffers after stage 10. -/
def w10 : Valuation τ sig (Elt Ideal) := after (st10a ++ st10b) (w9 V)
theorem w10_kept : Kept V (w10 V) := (kept_s10 (w9 V)).trans (w9_kept V)
theorem w10_126 : w10 V (Proc.devRef .tc main_v126) = val_main_v126 (V (Proc.devRef .tc main_arg0)) (V (Proc.devRef .tc main_arg1)) := by
  unfold w10 val_main_v126
  rw [after_126, w9_115]
/-- The buffers after stage 11. -/
def w11 : Valuation τ sig (Elt Ideal) := after (st11) (w10 V)
theorem w11_kept : Kept V (w11 V) := (kept_s11 (w10 V)).trans (w10_kept V)
theorem w11_137 : w11 V (Proc.devRef .tc main_v137) = val_main_v137 (V (Proc.devRef .tc main_arg0)) (V (Proc.devRef .tc main_arg1)) := by
  unfold w11 val_main_v137
  rw [after_137, w10_126]
/-- The buffers after stage 12. -/
def w12 : Valuation τ sig (Elt Ideal) := after (st12) (w11 V)
theorem w12_kept : Kept V (w12 V) := (kept_s12 (w11 V)).trans (w11_kept V)
theorem w12_148 : w12 V (Proc.devRef .tc main_v148) = val_main_v148 (V (Proc.devRef .tc main_arg0)) (V (Proc.devRef .tc main_arg1)) := by
  unfold w12 val_main_v148
  rw [after_148, w11_137]
/-- The buffers after stage 13. -/
def w13 : Valuation τ sig (Elt Ideal) := after (st13) (w12 V)
theorem w13_kept : Kept V (w13 V) := (kept_s13 (w12 V)).trans (w12_kept V)
theorem w13_159 : w13 V (Proc.devRef .tc main_v159) = val_main_v159 (V (Proc.devRef .tc main_arg0)) (V (Proc.devRef .tc main_arg1)) := by
  unfold w13 val_main_v159
  rw [after_159, w12_148]
/-- The buffers after stage 14. -/
def w14 : Valuation τ sig (Elt Ideal) := after (st14) (w13 V)
theorem w14_kept : Kept V (w14 V) := (kept_s14 (w13 V)).trans (w13_kept V)
theorem w14_170 : w14 V (Proc.devRef .tc main_v170) = val_main_v170 (V (Proc.devRef .tc main_arg0)) (V (Proc.devRef .tc main_arg1)) := by
  unfold w14 val_main_v170
  rw [after_170, w13_159]
/-- The buffers after stage 15. -/
def w15 : Valuation τ sig (Elt Ideal) := after (st15a ++ st15b) (w14 V)
theorem w15_kept : Kept V (w15 V) := (kept_s15 (w14 V)).trans (w14_kept V)
theorem w15_181 : w15 V (Proc.devRef .tc main_v181) = val_main_v181 (V (Proc.devRef .tc main_arg0)) (V (Proc.devRef .tc main_arg1)) := by
  unfold w15 val_main_v181
  rw [after_181, w14_170]
/-- The buffers after stage 16. -/
def w16 : Valuation τ sig (Elt Ideal) := after (st16) (w15 V)
theorem w16_kept : Kept V (w16 V) := (kept_s16 (w15 V)).trans (w15_kept V)
theorem w16_192 : w16 V (Proc.devRef .tc main_v192) = val_main_v192 (V (Proc.devRef .tc main_arg0)) (V (Proc.devRef .tc main_arg1)) := by
  unfold w16 val_main_v192
  rw [after_192, w15_181]
/-- The buffers after stage 17. -/
def w17 : Valuation τ sig (Elt Ideal) := after (st17) (w16 V)
theorem w17_kept : Kept V (w17 V) := (kept_s17 (w16 V)).trans (w16_kept V)
theorem w17_203 : w17 V (Proc.devRef .tc main_v203) = val_main_v203 (V (Proc.devRef .tc main_arg0)) (V (Proc.devRef .tc main_arg1)) := by
  unfold w17 val_main_v203
  rw [after_203, w16_192]
/-- The buffers after stage 18. -/
def w18 : Valuation τ sig (Elt Ideal) := after (st18) (w17 V)
theorem w18_kept : Kept V (w18 V) := (kept_s18 (w17 V)).trans (w17_kept V)
theorem w18_214 : w18 V (Proc.devRef .tc main_v214) = val_main_v214 (V (Proc.devRef .tc main_arg0)) (V (Proc.devRef .tc main_arg1)) := by
  unfold w18 val_main_v214
  rw [after_214, w17_203]
/-- The buffers after stage 19. -/
def w19 : Valuation τ sig (Elt Ideal) := after (st19) (w18 V)
theorem w19_kept : Kept V (w19 V) := (kept_s19 (w18 V)).trans (w18_kept V)
theorem w19_225 : w19 V (Proc.devRef .tc main_v225) = val_main_v225 (V (Proc.devRef .tc main_arg0)) (V (Proc.devRef .tc main_arg1)) := by
  unfold w19 val_main_v225
  rw [after_225, w18_214]
/-- The buffers after stage 20. -/
def w20 : Valuation τ sig (Elt Ideal) := after (st20) (w19 V)
theorem w20_kept : Kept V (w20 V) := (kept_s20 (w19 V)).trans (w19_kept V)
theorem w20_236 : w20 V (Proc.devRef .tc main_v236) = val_main_v236 (V (Proc.devRef .tc main_arg0)) (V (Proc.devRef .tc main_arg1)) := by
  unfold w20 val_main_v236
  rw [after_236, w19_225]
/-- The buffers after stage 21. -/
def w21 : Valuation τ sig (Elt Ideal) := after (st21) (w20 V)
theorem w21_kept : Kept V (w21 V) := (kept_s21 (w20 V)).trans (w20_kept V)
theorem w21_247 : w21 V (Proc.devRef .tc main_v247) = val_main_v247 (V (Proc.devRef .tc main_arg0)) (V (Proc.devRef .tc main_arg1)) := by
  unfold w21 val_main_v247
  rw [after_247, w20_236]
/-- The buffers after all the operations. -/
def w22 : Valuation τ sig (Elt Ideal) := after (st22) (w21 V)
theorem w22_kept : Kept V (w22 V) := (kept_s22 (w21 V)).trans (w21_kept V)
theorem w22_251 : w22 V (Proc.devRef .tc main_v251) = val_main_v251 (V (Proc.devRef .tc main_arg0)) (V (Proc.devRef .tc main_arg1)) := by
  unfold w22 val_main_v251
  rw [after_251, w21_247]
theorem w22_250 : w22 V (Proc.devRef .tc main_v250) = val_main_v250 (F := Ideal) (V (Proc.devRef .tc main_arg0)) := by
  unfold w22
  rw [after_250, (w21_kept V).1]

theorem after_ops : after ops V = w22 V := by
  simp only [ops, ops_part0, ops_part1, ops_part2, ops_part3, ops_part4, w0, w1, w2, w3, w4, w5, w6, w7, w8, w9, w10, w11, w12, w13, w14, w15, w16, w17, w18, w19, w20, w21, w22, after_append]

/-- Every execution of the reference terminates, with its two results the arrays of Proof/RefRead.lean, its
arguments unchanged, and every counter zero. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v251) = val_main_v251 (m ((c.tc : Thread nD τ).loc main_arg0)) (m ((c.tc : Thread nD τ).loc main_arg1))
      ∧ r.2.mem ((c.tc : Thread nD τ).loc main_v250) = val_main_v250 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c main_v251).trans ((congrFun (after_ops (launchContents m c)) (Proc.devRef .tc main_v251)).trans (w22_251 (launchContents m c))),
      (h c main_v250).trans ((congrFun (after_ops (launchContents m c)) (Proc.devRef .tc main_v250)).trans (w22_250 (launchContents m c))),
      (h c main_arg0).trans ((congrFun (after_ops (launchContents m c)) (Proc.devRef .tc main_arg0)).trans (w22_kept (launchContents m c)).1),
      (h c main_arg1).trans ((congrFun (after_ops (launchContents m c)) (Proc.devRef .tc main_arg1)).trans (w22_kept (launchContents m c)).2)⟩,
      Idealize.ShloMosaic.sem_eq_zero_of_no_sems (by decide) r.2⟩)
    (run_seq scopedRefs_eq scopedSems_eq defs main (fun _ => ops) main_eq (fun _ => ops_sub) m ρ fun _ => ops_fresh)

end Cert.ReferenceIdeal.Value

end
-- ==== Proof.Trips.lean ====
module

public import proofs.«01_k».proof.Proof.Gen.KernelIdeal.Frame
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # One trip of each of the body's two loops, as a function of what it reads

  The first loop's trip `k` forms the signed 256 × 256 tile `tileT` of a block of 8192 columns, turns it by the matrix on
  both sides (`turnT`) and stores the 32 slabs of eight rows back as 32 runs of 256 columns; it carries the running sum of
  squares `sqT`. The second loop's trip `k` loads 32 runs of 128 columns, 8192 columns apart, and stores their 32-point
  butterfly. -/

variable {F : FTy → Type} [FloatOps F]

/-- The words of half `q` of the tile: eight rows of 128 words. -/
def wordT (arg3 : Memref sig .tc .vmem S1x1x64x8x128 .i32) (X3 : BufTy.Contents (Elt F) arg3.view.ty)
    (k : Fin k0_t1_loop.trips) (q : Fin 2) : IVec S8x128 32 :=
  shapeCast S8x128 (View.readAt (Elt F) arg3.view (Rect.unit (s := S1x1x64x8x128) (k0_off1 k (BitVec.ofNat 32 q.val))
    S1x1x1x8x128.size (k0_off1_inb k q)).toLoadRect X3) shapeCasts_S1x1x1x8x128_S8x128

/-- Half `hf` of the 256 columns of row group `p` of the tile: eight rows of 128 values. -/
def xT (arg2 : Memref sig .tc .vmem S1x8x262144 .f32) (X2 : BufTy.Contents (Elt F) arg2.view.ty)
    (k : Fin k0_t1_loop.trips) (p : Fin 32) (hf : Fin 2) : FVec F S8x128 .f32 :=
  shapeCast S8x128 (View.readAt (Elt F) arg2.view (Rect.unit (s := S1x8x262144) (k0_off2 k (BitVec.ofNat 32 (256 * p.val)) (BitVec.ofNat 32 (128 * hf.val)))
    S1x8x128.size (k0_off2_inb k p hf)).toLoadRect X2) shapeCasts_S1x8x128_S8x128

/-- Values turned in sign by bit `31 - n` of the words. -/
def flipT (v : FVec F S8x128 .f32) (w : IVec S8x128 32) (n : BitVec 32) : FVec F S8x128 .f32 :=
  mulf v (select (cmpi .ne (andi (shli w (broadcast S8x128 n)) (broadcast S8x128 2147483648#32)) (broadcast S8x128 0#32))
    (broadcast S8x128 (Scalar.ofBits .f32 0xBF800000#32 : F .f32)) (broadcast S8x128 (Scalar.ofBits .f32 0x3F800000#32 : F .f32)))

/-- Row group `p` of the tile: eight rows of 256 signed values. -/
def rowT (arg2 : Memref sig .tc .vmem S1x8x262144 .f32) (arg3 : Memref sig .tc .vmem S1x1x64x8x128 .i32)
    (X2 : BufTy.Contents (Elt F) arg2.view.ty) (X3 : BufTy.Contents (Elt F) arg3.view.ty)
    (k : Fin k0_t1_loop.trips) (p : Fin 32) : FVec F S8x256 .f32 :=
  concatenate S8x256 1
    [⟨S8x128, flipT (xT arg2 X2 k p 0) (wordT arg3 X3 k ⟨p.val / 16, by omega⟩) (BitVec.ofNat 32 (31 - 2 * (p.val % 16)))⟩,
     ⟨S8x128, flipT (xT arg2 X2 k p 1) (wordT arg3 X3 k ⟨p.val / 16, by omega⟩) (BitVec.ofNat 32 (30 - 2 * (p.val % 16)))⟩]
    concatenates_S8x128_S8x128_S8x256_d1

/-- The signed 256 × 256 tile of trip `k`. -/
def tileT (arg2 : Memref sig .tc .vmem S1x8x262144 .f32) (arg3 : Memref sig .tc .vmem S1x1x64x8x128 .i32)
    (X2 : BufTy.Contents (Elt F) arg2.view.ty) (X3 : BufTy.Contents (Elt F) arg3.view.ty)
    (k : Fin k0_t1_loop.trips) : FVec F S256x256 .f32 :=
  concatenate S256x256 0
    [⟨S8x256, rowT arg2 arg3 X2 X3 k 0⟩, ⟨S8x256, rowT arg2 arg3 X2 X3 k 1⟩, ⟨S8x256, rowT arg2 arg3 X2 X3 k 2⟩, ⟨S8x256, rowT arg2 arg3 X2 X3 k 3⟩, ⟨S8x256, rowT arg2 arg3 X2 X3 k 4⟩, ⟨S8x256, rowT arg2 arg3 X2 X3 k 5⟩, ⟨S8x256, rowT arg2 arg3 X2 X3 k 6⟩, ⟨S8x256, rowT arg2 arg3 X2 X3 k 7⟩, ⟨S8x256, rowT arg2 arg3 X2 X3 k 8⟩, ⟨S8x256, rowT arg2 arg3 X2 X3 k 9⟩, ⟨S8x256, rowT arg2 arg3 X2 X3 k 10⟩, ⟨S8x256, rowT arg2 arg3 X2 X3 k 11⟩, ⟨S8x256, rowT arg2 arg3 X2 X3 k 12⟩, ⟨S8x256, rowT arg2 arg3 X2 X3 k 13⟩, ⟨S8x256, rowT arg2 arg3 X2 X3 k 14⟩, ⟨S8x256, rowT arg2 arg3 X2 X3 k 15⟩, ⟨S8x256, rowT arg2 arg3 X2 X3 k 16⟩, ⟨S8x256, rowT arg2 arg3 X2 X3 k 17⟩, ⟨S8x256, rowT arg2 arg3 X2 X3 k 18⟩, ⟨S8x256, rowT arg2 arg3 X2 X3 k 19⟩, ⟨S8x256, rowT arg2 arg3 X2 X3 k 20⟩, ⟨S8x256, rowT arg2 arg3 X2 X3 k 21⟩, ⟨S8x256, rowT arg2 arg3 X2 X3 k 22⟩, ⟨S8x256, rowT arg2 arg3 X2 X3 k 23⟩, ⟨S8x256, rowT arg2 arg3 X2 X3 k 24⟩, ⟨S8x256, rowT arg2 arg3 X2 X3 k 25⟩, ⟨S8x256, rowT arg2 arg3 X2 X3 k 26⟩, ⟨S8x256, rowT arg2 arg3 X2 X3 k 27⟩, ⟨S8x256, rowT arg2 arg3 X2 X3 k 28⟩, ⟨S8x256, rowT arg2 arg3 X2 X3 k 29⟩, ⟨S8x256, rowT arg2 arg3 X2 X3 k 30⟩, ⟨S8x256, rowT arg2 arg3 X2 X3 k 31⟩]
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0

/-- The three parts' products with the matrix on the right, added up. -/
def dotR (T : FVec F S256x256 .f32) (H : FVec F S256x256 .bf16) : FVec F S256x256 .f32 :=
  have hi : FVec F S256x256 .f32 := extf .f32 (truncf .bf16 T bitsLt_bf16_f32) bitsLt_bf16_f32
  have rest : FVec F S256x256 .f32 := subf T hi
  have mid : FVec F S256x256 .f32 := extf .f32 (truncf .bf16 rest bitsLt_bf16_f32) bitsLt_bf16_f32
  have lo : FVec F S256x256 .f32 := subf rest mid
  addf (addf
    (matmul dot_S256x256_S256x256_S256x256_1_0_0_1_n_n none (truncf .bf16 hi bitsLt_bf16_f32) H (constant S256x256 .f32 0x00000000#32))
    (matmul dot_S256x256_S256x256_S256x256_1_0_0_1_n_n none (truncf .bf16 mid bitsLt_bf16_f32) H (constant S256x256 .f32 0x00000000#32)))
    (matmul dot_S256x256_S256x256_S256x256_1_0_0_1_n_n none (truncf .bf16 lo bitsLt_bf16_f32) H (constant S256x256 .f32 0x00000000#32))

/-- The matrix times the three parts, added up. -/
def dotL (T : FVec F S256x256 .f32) (H : FVec F S256x256 .bf16) : FVec F S256x256 .f32 :=
  have hi : FVec F S256x256 .f32 := extf .f32 (truncf .bf16 T bitsLt_bf16_f32) bitsLt_bf16_f32
  have rest : FVec F S256x256 .f32 := subf T hi
  have mid : FVec F S256x256 .f32 := extf .f32 (truncf .bf16 rest bitsLt_bf16_f32) bitsLt_bf16_f32
  have lo : FVec F S256x256 .f32 := subf rest mid
  addf (addf
    (matmul dot_S256x256_S256x256_S256x256_1_0_0_1_n_n none H (truncf .bf16 hi bitsLt_bf16_f32) (constant S256x256 .f32 0x00000000#32))
    (matmul dot_S256x256_S256x256_S256x256_1_0_0_1_n_n none H (truncf .bf16 mid bitsLt_bf16_f32) (constant S256x256 .f32 0x00000000#32)))
    (matmul dot_S256x256_S256x256_S256x256_1_0_0_1_n_n none H (truncf .bf16 lo bitsLt_bf16_f32) (constant S256x256 .f32 0x00000000#32))

/-- The tile turned by the matrix on the right, then on the left. -/
def turnT (H : FVec F S256x256 .bf16) (T : FVec F S256x256 .f32) : FVec F S256x256 .f32 := dotL (dotR T H) H

theorem slab_slices (p : Fin 32) : S256x256.Slices ![8 * p.val, 0] S8x256 := ⟨rfl, fun a => by have := p.isLt; match a with | ⟨0, _⟩ => (show 8 * p.val + 8 ≤ 256; omega) | ⟨1, _⟩ => (show 0 + 256 ≤ 256; omega)⟩

/-- Eight rows of the turned tile, as the slab stored for row group `p`. -/
def slabT (M : FVec F S256x256 .f32) (p : Fin 32) : FVec F S1x8x256 .f32 :=
  shapeCast S1x8x256 (extractStridedSlice S8x256 ![8 * p.val, 0] M (slab_slices p)) shapeCasts_S8x256_S1x8x256

/-- The first `n` of a family of pieces, the last one in front. -/
def firstPieces {s : Shape} {e : EltTy} {m : ℕ} (P : Fin m → View.Piece (Elt F) s e) : (n : ℕ) → n ≤ m → List (View.Piece (Elt F) s e)
  | 0, _ => []
  | n + 1, h => P ⟨n, h⟩ :: firstPieces P n (Nat.le_of_succ_le h)

/-- The sum of squares carried through the first `n` of the 64 runs of 128 columns a trip reads. -/
def sqT (arg2 : Memref sig .tc .vmem S1x8x262144 .f32) (X2 : BufTy.Contents (Elt F) arg2.view.ty)
    (k : Fin k0_t1_loop.trips) (acc : FVec F S8x128 .f32) : (n : ℕ) → n ≤ 64 → FVec F S8x128 .f32
  | 0, _ => acc
  | n + 1, h => addf (sqT arg2 X2 k acc n (Nat.le_of_succ_le h))
      (mulf (xT arg2 X2 k ⟨n / 2, by omega⟩ ⟨n % 2, by omega⟩) (xT arg2 X2 k ⟨n / 2, by omega⟩ ⟨n % 2, by omega⟩))

/-- What a first-loop trip carries on: the sum of squares it was given plus the squares of all it reads. -/
theorem tripR_t1 (𝒱 : Variants) (c : Dev nD) (bd : Option 𝒱.V) (i : grid0.Coords) (arg2 : Memref sig .tc .vmem S1x8x262144 .f32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x262144 .f32) (harg5 : arg5.IsWhole) (arg6 : Memref sig .tc .vmem S1x8x128 .f32) (harg6 : arg6.IsWhole) (v0 : Vec F S256x256 .bf16) (X2 : BufTy.Contents (Elt F) arg2.view.ty) (X3 : BufTy.Contents (Elt F) arg3.view.ty) (k : Fin k0_t1_loop.trips) (acc : FVec F S8x128 .f32) :
    tripR_k0_t1 (F := F) 𝒱 c bd i arg2 harg2 arg3 harg3 arg4 harg4 arg5 harg5 arg6 harg6 v0 X2 X3 k acc = sqT arg2 X2 k acc 64 le_rfl := by
  unfold tripR_k0_t1 trip_k0_t1
  rfl

/-- What a first-loop trip stores: the 32 slabs of the turned tile. -/
theorem tripL_t1 (𝒱 : Variants) (c : Dev nD) (bd : Option 𝒱.V) (i : grid0.Coords) (arg2 : Memref sig .tc .vmem S1x8x262144 .f32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x262144 .f32) (harg5 : arg5.IsWhole) (arg6 : Memref sig .tc .vmem S1x8x128 .f32) (harg6 : arg6.IsWhole) (v0 : Vec F S256x256 .bf16) (X2 : BufTy.Contents (Elt F) arg2.view.ty) (X3 : BufTy.Contents (Elt F) arg3.view.ty) (k : Fin k0_t1_loop.trips) (acc : FVec F S8x128 .f32) :
    tripL_k0_t1 (F := F) 𝒱 c bd i arg2 harg2 arg3 harg3 arg4 harg4 arg5 harg5 arg6 harg6 v0 X2 X3 k acc
      = firstPieces (fun p : Fin 32 => ⟨Rect.unit (s := S1x8x262144) (k0_off3 k (BitVec.ofNat 32 (256 * p.val))) S1x8x256.size (k0_off3_inb k p),
          slabT (turnT (k0_pay1 v0) (tileT arg2 arg3 X2 X3 k)) p⟩) 32 le_rfl := by
  unfold tripL_k0_t1 trip_k0_t1
  rfl

/-- One stage of the butterfly over a family of vectors: the partner at distance `h` added or subtracted. -/
def stageT {s : Shape} (h : ℕ) (v : ℕ → FVec F s .f32) (t : ℕ) : FVec F s .f32 :=
  if t / h % 2 = 0 then addf (v t) (v (t + h)) else subf (v (t - h)) (v t)

/-- Run `t` of 128 columns that trip `k` of the second loop loads. -/
def colT (arg5 : Memref sig .tc .vmem S1x8x262144 .f32) (X5 : BufTy.Contents (Elt F) arg5.view.ty)
    (k : Fin k0_t2_loop.trips) (t : ℕ) : FVec F S8x128 .f32 :=
  if h : t < 32 then shapeCast S8x128 (View.readAt (Elt F) arg5.view (Rect.unit (s := S1x8x262144) (k0_off4 k (BitVec.ofNat 32 (8192 * t)))
    S1x8x128.size (k0_off4_inb k ⟨t, h⟩)).toLoadRect X5) shapeCasts_S1x8x128_S8x128 else broadcast S8x128 (Scalar.ofBits .f32 0x00000000#32 : F .f32)

/-- What a second-loop trip stores: the five butterfly stages of the 32 runs. -/
theorem tripL_t2 (𝒱 : Variants) (c : Dev nD) (bd : Option 𝒱.V) (i : grid0.Coords) (arg2 : Memref sig .tc .vmem S1x8x262144 .f32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x262144 .f32) (harg5 : arg5.IsWhole) (arg6 : Memref sig .tc .vmem S1x8x128 .f32) (harg6 : arg6.IsWhole) (k : Fin k0_t2_loop.trips) (X5 : BufTy.Contents (Elt F) arg5.view.ty) :
    tripL_k0_t2 (F := F) 𝒱 c bd i arg2 harg2 arg3 harg3 arg4 harg4 arg5 harg5 arg6 harg6 k X5
      = firstPieces (fun t : Fin 32 => ⟨Rect.unit (s := S1x8x262144) (k0_off4 k (BitVec.ofNat 32 (8192 * t.val))) S1x8x128.size (k0_off4_inb k t),
          shapeCast S1x8x128 (stageT 16 (stageT 8 (stageT 4 (stageT 2 (stageT 1 (colT arg5 X5 k))))) t.val) shapeCasts_S8x128_S1x8x128⟩) 32 le_rfl := by
  unfold tripL_k0_t2 trip_k0_t2
  rfl

end Cert.KernelIdeal.Gen

end
-- ==== Proof.Reads.lean ====
module

public import proofs.«01_k».proof.Proof.Trips
public import Idealize.ShloMosaic.Lib.WritesUnit
public import Idealize.ShloMosaic.Lib.Pipeline.Value
public import Idealize.ShloMosaic.PureOps.Ideal.Laws

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # What the two loops leave in the output block, element by element -/

/-! ## Total reads: an array at natural-number coordinates -/

/-- A 1 × 8 × 262144 block at row `r`, column `d`. -/
def rdB {α : Type} (x : S1x8x262144.Idx → α) (r d : ℕ) : α := x (fun a => match a with
  | ⟨0, _⟩ => (0 : Fin 1) | ⟨1, _⟩ => Fin.ofNat 8 r | ⟨2, _⟩ => Fin.ofNat 262144 d)
/-- A 256 × 256 tile at row `a`, column `b`. -/
def rdM {α : Type} (x : S256x256.Idx → α) (r d : ℕ) : α := x (fun a => match a with
  | ⟨0, _⟩ => Fin.ofNat 256 r | ⟨1, _⟩ => Fin.ofNat 256 d)
/-- The words of one row group at word block `n`, row `r`, lane `l`. -/
def rdW {α : Type} (x : S1x1x64x8x128.Idx → α) (n r l : ℕ) : α := x (fun a => match a with
  | ⟨0, _⟩ => (0 : Fin 1) | ⟨1, _⟩ => (0 : Fin 1) | ⟨2, _⟩ => Fin.ofNat 64 n | ⟨3, _⟩ => Fin.ofNat 8 r | ⟨4, _⟩ => Fin.ofNat 128 l)

theorem eq_rdB {α : Type} (x : S1x8x262144.Idx → α) (i : S1x8x262144.Idx) (r d : ℕ) (hr : (i 1).val = r) (hd : (i 2).val = d) : x i = rdB x r d := by
  subst hr hd
  unfold rdB
  congr 1; funext a
  match a with
  | ⟨0, _⟩ => exact Subsingleton.elim (α := Fin 1) _ _
  | ⟨1, _⟩ => exact Fin.ext (Nat.mod_eq_of_lt (i 1).isLt).symm
  | ⟨2, _⟩ => exact Fin.ext (Nat.mod_eq_of_lt (i 2).isLt).symm
theorem eq_rdM {α : Type} (x : S256x256.Idx → α) (i : S256x256.Idx) (r d : ℕ) (hr : (i 0).val = r) (hd : (i 1).val = d) : x i = rdM x r d := by
  subst hr hd
  unfold rdM
  congr 1; funext a
  match a with
  | ⟨0, _⟩ => exact Fin.ext (Nat.mod_eq_of_lt (i 0).isLt).symm
  | ⟨1, _⟩ => exact Fin.ext (Nat.mod_eq_of_lt (i 1).isLt).symm
theorem eq_rdW {α : Type} (x : S1x1x64x8x128.Idx → α) (i : S1x1x64x8x128.Idx) (n r l : ℕ) (hn : (i 2).val = n) (hr : (i 3).val = r) (hl : (i 4).val = l) : x i = rdW x n r l := by
  subst hn hr hl
  unfold rdW
  congr 1; funext a
  match a with
  | ⟨0, _⟩ => exact Subsingleton.elim (α := Fin 1) _ _
  | ⟨1, _⟩ => exact Subsingleton.elim (α := Fin 1) _ _
  | ⟨2, _⟩ => exact Fin.ext (Nat.mod_eq_of_lt (i 2).isLt).symm
  | ⟨3, _⟩ => exact Fin.ext (Nat.mod_eq_of_lt (i 3).isLt).symm
  | ⟨4, _⟩ => exact Fin.ext (Nat.mod_eq_of_lt (i 4).isLt).symm

/-! ## The loops' trip counts and offsets, as numbers -/

theorem trips_t1 : k0_t1_loop.trips = 32 := by decide +kernel
theorem trips_t2 : k0_t2_loop.trips = 64 := by decide +kernel
theorem off1_eq : ∀ (k : Fin k0_t1_loop.trips) (q : Fin 2), k0_off1 k (BitVec.ofNat 32 q.val) = ![0, 0, 2 * k.val + q.val, 0, 0] := by decide +kernel
theorem off2_eq : ∀ (k : Fin k0_t1_loop.trips) (p : Fin 32) (q : Fin 2), k0_off2 k (BitVec.ofNat 32 (256 * p.val)) (BitVec.ofNat 32 (128 * q.val)) = ![0, 0, 8192 * k.val + 256 * p.val + 128 * q.val] := by decide +kernel
theorem off3_eq : ∀ (k : Fin k0_t1_loop.trips) (p : Fin 32), k0_off3 k (BitVec.ofNat 32 (256 * p.val)) = ![0, 0, 8192 * k.val + 256 * p.val] := by decide +kernel
theorem off4_eq : ∀ (k : Fin k0_t2_loop.trips) (p : Fin 32), k0_off4 k (BitVec.ofNat 32 (8192 * p.val)) = ![0, 0, 8192 * p.val + 128 * k.val] := by decide +kernel

/-! ## Reading a family of column runs -/

section Runs
variable {F : FTy → Type} [FloatOps F]
variable {sg : RefSig} {κ : Kind} {sp : Space} {m W : ℕ} (v : View sg κ sp S1x8x262144 .f32) (f : v.ty.Contents (Elt F))
  (o : Fin m → ℕ) (off : Fin m → Fin 3 → ℕ) (inb : ∀ p a, off p a + (![1, 8, W] : Fin 3 → ℕ) a ≤ S1x8x262144.size a)
  (w : (p : Fin m) → (Rect.unit (s := S1x8x262144) (off p) ![1, 8, W] (inb p)).shape.Idx → Elt F .f32)

/-- A column outside every run of the family reads what was there before. -/
theorem read_runs_out (hoff : ∀ p, off p = ![0, 0, o p]) (L : List (View.Piece (Elt F) S1x8x262144 .f32)) (y : S1x8x262144.Idx) :
    ∀ (n : ℕ) (hn : n ≤ m), (∀ p : Fin m, p.val < n → (y 2).val < o p ∨ o p + W ≤ (y 2).val) →
      v.read (Elt F) (v.writes (Elt F) f (firstPieces (fun p => ⟨Rect.unit (s := S1x8x262144) (off p) ![1, 8, W] (inb p), w p⟩) n hn ++ L)) y
        = v.read (Elt F) (v.writes (Elt F) f L) y
  | 0, _, _ => rfl
  | n + 1, hn, h => by
    refine (View.read_writes_cons_unit_of_not_mem v f (inb ⟨n, hn⟩) (w ⟨n, hn⟩) _ y (hoff ⟨n, hn⟩) (2 : Fin 3) ?_).trans ?_
    · exact h ⟨n, hn⟩ (Nat.lt_succ_self n)
    · exact read_runs_out hoff L y n _ fun p hp => h p (Nat.lt_succ_of_lt hp)

/-- A column of run `p`, no other run of the family holding it, reads run `p`'s payload. -/
theorem read_runs_in (hoff : ∀ p, off p = ![0, 0, o p]) (L : List (View.Piece (Elt F) S1x8x262144 .f32)) (y : S1x8x262144.Idx)
    (p : Fin m) (x : (Rect.unit (s := S1x8x262144) (off p) ![1, 8, W] (inb p)).shape.Idx)
    (hx : ∀ a, (y a).val = (![0, 0, o p] : Fin 3 → ℕ) a + (x a).val)
    (hd : ∀ q : Fin m, q ≠ p → (y 2).val < o q ∨ o q + W ≤ (y 2).val) :
    ∀ (n : ℕ) (hn : n ≤ m), p.val < n →
      v.read (Elt F) (v.writes (Elt F) f (firstPieces (fun p => ⟨Rect.unit (s := S1x8x262144) (off p) ![1, 8, W] (inb p), w p⟩) n hn ++ L)) y
        = w p x
  | 0, _, h => absurd h (Nat.not_lt_zero _)
  | n + 1, hn, h => by
    by_cases hp : p.val = n
    · have hp' : p = ⟨n, hn⟩ := Fin.ext hp
      subst hp'
      exact View.read_writes_cons_unit_of_mem v f (inb _) (w _) _ y x (hoff _) hx
    · refine (View.read_writes_cons_unit_of_not_mem v f (inb ⟨n, hn⟩) (w ⟨n, hn⟩) _ y (hoff ⟨n, hn⟩) (2 : Fin 3) ?_).trans ?_
      · exact hd ⟨n, hn⟩ fun e => hp (congrArg Fin.val e).symm
      · exact read_runs_in hoff L y p x hx hd n _ (by omega)

end Runs

/-! ## The first loop -/

section First
variable {F : FTy → Type} [FloatOps F]

/-- A slab read at an index is the turned tile at the row group's row. -/
theorem slabT_apply (M : FVec F S256x256 .f32) (p : Fin 32) (x : S1x8x256.Idx) :
    slabT M p x = rdM M (8 * p.val + (x 1).val) (x 2).val := by
  have h0 : (x 0).val = 0 := Nat.lt_one_iff.mp (x 0).isLt
  have h1 : (x 1).val < 8 := (x 1).isLt
  have h2 : (x 2).val < 256 := (x 2).isLt
  unfold slabT
  rw [shapeCast_apply (t := S1x8x256) _ _ x (fun a => match a with | ⟨0, _⟩ => (⟨(x 1).val, h1⟩ : Fin 8) | ⟨1, _⟩ => (⟨(x 2).val, h2⟩ : Fin 256)) (by
    rw [Shape.rowMajor_val_two, Shape.rowMajor_val_three]
    show (x 1).val * 256 + (x 2).val = ((x 0).val * 8 + (x 1).val) * 256 + (x 2).val
    rw [h0]; omega)]
  rw [extractStridedSlice_apply _ _ _ _ (show S256x256.Idx from fun a => match a with | ⟨0, _⟩ => (⟨8 * p.val + (x 1).val, by have := p.isLt; omega⟩ : Fin 256) | ⟨1, _⟩ => (⟨(x 2).val, h2⟩ : Fin 256)) (by
    intro a
    match a with
    | ⟨0, _⟩ => rfl
    | ⟨1, _⟩ => exact (Nat.zero_add _).symm)]
  exact eq_rdM M _ _ _ rfl rfl

/-- The first loop's tile at block `n` of 8192 columns, turned. -/
def turned (arg2 : Memref sig .tc .vmem S1x8x262144 .f32) (arg3 : Memref sig .tc .vmem S1x1x64x8x128 .i32) (v0 : Vec F S256x256 .bf16) (X2 : BufTy.Contents (Elt F) arg2.view.ty) (X3 : BufTy.Contents (Elt F) arg3.view.ty) (n : ℕ) : FVec F S256x256 .f32 :=
  turnT (k0_pay1 v0) (tileT arg2 arg3 X2 X3 ⟨n % 32, by rw [trips_t1]; omega⟩)

variable (𝒱 : Variants) (c : Dev nD) (bd : Option 𝒱.V) (i : grid0.Coords) (arg2 : Memref sig .tc .vmem S1x8x262144 .f32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x262144 .f32) (harg5 : arg5.IsWhole) (arg6 : Memref sig .tc .vmem S1x8x128 .f32) (harg6 : arg6.IsWhole) (v0 : Vec F S256x256 .bf16) (X2 : BufTy.Contents (Elt F) arg2.view.ty) (X3 : BufTy.Contents (Elt F) arg3.view.ty) (init : FVec F S8x128 .f32) (G : BufTy.Contents (Elt F) arg5.view.ty)

/-- After `n` trips of the first loop the first `8192 n` columns hold the turned tiles; the rest is as found. -/
theorem read_loop1 (y : S1x8x262144.Idx) : ∀ n : ℕ, n ≤ 32 →
    arg5.view.read (Elt F) (arg5.view.writes (Elt F) G (st_k0_t1 (F := F) 𝒱 c bd i arg2 harg2 arg3 harg3 arg4 harg4 arg5 harg5 arg6 harg6 v0 X2 X3 init n).2) y
      = if (y 2).val < 8192 * n then
          rdM (turned arg2 arg3 v0 X2 X3 ((y 2).val / 8192)) (8 * ((y 2).val % 8192 / 256) + (y 1).val) ((y 2).val % 256)
        else arg5.view.read (Elt F) G y
  | 0, _ => rfl
  | n + 1, hn => by
    have hk : n < k0_t1_loop.trips := by rw [trips_t1]; omega
    have h0 : (y 0).val = 0 := Nat.lt_one_iff.mp (y 0).isLt
    have ih := read_loop1 y n (by omega)
    rw [st_k0_t1_succ (F := F) 𝒱 c bd i arg2 harg2 arg3 harg3 arg4 harg4 arg5 harg5 arg6 harg6 v0 X2 X3 init ⟨n, hk⟩, tripL_t1]
    by_cases hin : 8192 * n ≤ (y 2).val ∧ (y 2).val < 8192 * (n + 1)
    · rw [if_pos hin.2]
      obtain ⟨h1, h2⟩ := hin
      have hp : ((y 2).val - 8192 * n) / 256 < 32 := by omega
      refine (read_runs_in arg5.view G (fun p : Fin 32 => 8192 * n + 256 * p.val) _ _ _ (fun p => off3_eq ⟨n, hk⟩ p) _ y
        ⟨((y 2).val - 8192 * n) / 256, hp⟩
        (fun a => match a with | ⟨0, _⟩ => (0 : Fin 1) | ⟨1, _⟩ => (⟨(y 1).val, (y 1).isLt⟩ : Fin 8) | ⟨2, _⟩ => (⟨(y 2).val % 256, Nat.mod_lt _ (by decide)⟩ : Fin 256)) ?_ ?_ 32 le_rfl hp).trans ?_
      · intro a
        match a with
        | ⟨0, _⟩ => exact h0
        | ⟨1, _⟩ => exact (Nat.zero_add _).symm
        | ⟨2, _⟩ => show (y 2).val = 8192 * n + 256 * (((y 2).val - 8192 * n) / 256) + (y 2).val % 256; omega
      · intro q hq
        have hq' : q.val ≠ ((y 2).val - 8192 * n) / 256 := fun e => hq (Fin.ext e)
        show (y 2).val < 8192 * n + 256 * q.val ∨ 8192 * n + 256 * q.val + 256 ≤ (y 2).val
        omega
      · refine (slabT_apply _ _ _).trans ?_
        have e1 : (y 2).val / 8192 = n := by omega
        have e2 : (y 2).val % 8192 / 256 = ((y 2).val - 8192 * n) / 256 := by omega
        rw [e1, e2]
        unfold turned
        simp only [Nat.mod_eq_of_lt (show n < 32 by omega)]
    · refine (read_runs_out arg5.view G (fun p : Fin 32 => 8192 * n + 256 * p.val) _ _ _ (fun p => off3_eq ⟨n, hk⟩ p) _ y 32 le_rfl ?_).trans ?_
      · intro p _
        have := p.isLt
        show (y 2).val < 8192 * n + 256 * p.val ∨ 8192 * n + 256 * p.val + 256 ≤ (y 2).val
        omega
      · rw [ih]
        by_cases h : (y 2).val < 8192 * n
        · rw [if_pos h, if_pos (by omega)]
        · rw [if_neg h, if_neg (by omega)]

/-- What the first loop carries: the squares of one trip after another, from the initial sum. -/
def sqSum (arg2 : Memref sig .tc .vmem S1x8x262144 .f32) (X2 : BufTy.Contents (Elt F) arg2.view.ty) (init : FVec F S8x128 .f32) : ℕ → FVec F S8x128 .f32
  | 0 => init
  | n + 1 => if h : n < k0_t1_loop.trips then sqT arg2 X2 ⟨n, h⟩ (sqSum arg2 X2 init n) 64 le_rfl else init

theorem acc_loop1 : ∀ n : ℕ, n ≤ 32 → (st_k0_t1 (F := F) 𝒱 c bd i arg2 harg2 arg3 harg3 arg4 harg4 arg5 harg5 arg6 harg6 v0 X2 X3 init n).1 = sqSum arg2 X2 init n
  | 0, _ => rfl
  | n + 1, hn => by
    have hk : n < k0_t1_loop.trips := by rw [trips_t1]; omega
    rw [st_k0_t1_succ (F := F) 𝒱 c bd i arg2 harg2 arg3 harg3 arg4 harg4 arg5 harg5 arg6 harg6 v0 X2 X3 init ⟨n, hk⟩]
    dsimp only
    rw [tripR_t1, acc_loop1 n (by omega)]
    rw [sqSum, dif_pos hk]

end First

/-! ## The second loop, at the ideal values -/

section Second

/-- One butterfly stage over a family of numbers. -/
def sst (h : ℕ) (v : ℕ → EReal) (t : ℕ) : EReal := if t / h % 2 = 0 then v t + v (t + h) else v (t - h) - v t

/-- The five stages over 32 numbers. -/
def bfly (v : ℕ → EReal) : ℕ → EReal := sst 16 (sst 8 (sst 4 (sst 2 (sst 1 v))))

theorem sst_congr {v w : ℕ → EReal} (h : ℕ) (hv : ∀ t < 32, v t = w t) (hh : ∀ t < 32, t / h % 2 = 0 → t + h < 32) :
    ∀ t < 32, sst h v t = sst h w t := by
  intro t ht
  unfold sst
  split
  · rename_i e; rw [hv t ht, hv _ (hh t ht e)]
  · rw [hv t ht, hv _ (by omega)]

theorem bfly_congr {v w : ℕ → EReal} (hv : ∀ t < 32, v t = w t) : ∀ t < 32, bfly v t = bfly w t :=
  sst_congr 16 (sst_congr 8 (sst_congr 4 (sst_congr 2 (sst_congr 1 hv (by omega)) (by omega)) (by omega)) (by omega)) (by omega)

theorem stageT_apply {s : Shape} (h : ℕ) (v : ℕ → FVec Ideal s .f32) (x : s.Idx) (t : ℕ) :
    stageT h v t x = sst h (fun t => v t x) t := by
  unfold stageT sst
  split <;> rfl

theorem stages_apply {s : Shape} (v : ℕ → FVec Ideal s .f32) (x : s.Idx) (t : ℕ) :
    stageT 16 (stageT 8 (stageT 4 (stageT 2 (stageT 1 v)))) t x = bfly (fun t => v t x) t := by
  unfold bfly
  rw [stageT_apply]
  congr 1; funext t; rw [stageT_apply]
  congr 1; funext t; rw [stageT_apply]
  congr 1; funext t; rw [stageT_apply]
  congr 1; funext t; rw [stageT_apply]

/-- A run of 128 columns the second loop loads, read at an index. -/
theorem colT_apply (arg5 : Memref sig .tc .vmem S1x8x262144 .f32) (X5 : BufTy.Contents (Elt Ideal) arg5.view.ty)
    (k : Fin k0_t2_loop.trips) (t : ℕ) (ht : t < 32) (x : S8x128.Idx) :
    colT (F := Ideal) arg5 X5 k t x = rdB (arg5.view.read (Elt Ideal) X5) (x 0).val (8192 * t + 128 * k.val + (x 1).val) := by
  unfold colT
  rw [dif_pos ht]
  rw [shapeCast_apply (t := S8x128) _ _ x (fun a => match a with | ⟨0, _⟩ => (0 : Fin 1) | ⟨1, _⟩ => (⟨(x 0).val, (x 0).isLt⟩ : Fin 8) | ⟨2, _⟩ => (⟨(x 1).val, (x 1).isLt⟩ : Fin 128)) (by
    rw [Shape.rowMajor_val_two, Shape.rowMajor_val_three]
    show (0 * 8 + (x 0).val) * 128 + (x 1).val = (x 0).val * 128 + (x 1).val
    omega)]
  have e := off4_eq k ⟨t, ht⟩
  refine eq_rdB (arg5.view.read (Elt Ideal) X5) _ _ _ ?_ ?_
  · show k0_off4 k (BitVec.ofNat 32 (8192 * t)) 1 + 1 * (x 0).val = (x 0).val
    rw [congrFun e 1]; show 0 + 1 * (x 0).val = _; omega
  · show k0_off4 k (BitVec.ofNat 32 (8192 * t)) 2 + 1 * (x 1).val = _
    rw [congrFun e 2]; show 8192 * t + 128 * k.val + 1 * (x 1).val = _; omega

variable (𝒱 : Variants) (c : Dev nD) (bd : Option 𝒱.V) (i : grid0.Coords) (arg2 : Memref sig .tc .vmem S1x8x262144 .f32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x262144 .f32) (harg5 : arg5.IsWhole) (arg6 : Memref sig .tc .vmem S1x8x128 .f32) (harg6 : arg6.IsWhole) (G : BufTy.Contents (Elt Ideal) arg5.view.ty)

/-- After `n` trips of the second loop the first `128 n` columns of every block of 8192 hold the butterflies over the
32 blocks; the rest is as found. -/
theorem read_loop2 : ∀ n : ℕ, n ≤ 64 → ∀ y : S1x8x262144.Idx,
    arg5.view.read (Elt Ideal) (arg5.view.writes (Elt Ideal) G (pb_k0_t2 (F := Ideal) 𝒱 c bd i arg2 harg2 arg3 harg3 arg4 harg4 arg5 harg5 arg6 harg6 G n)) y
      = if (y 2).val % 8192 < 128 * n then
          bfly (fun t => rdB (arg5.view.read (Elt Ideal) G) (y 1).val (8192 * t + (y 2).val % 8192)) ((y 2).val / 8192)
        else arg5.view.read (Elt Ideal) G y
  | 0, _ => fun y => (if_neg (by omega)).symm
  | n + 1, hn => fun y => by
    have hk : n < k0_t2_loop.trips := by rw [trips_t2]; omega
    have h0 : (y 0).val = 0 := Nat.lt_one_iff.mp (y 0).isLt
    have hy2 : (y 2).val < 262144 := (y 2).isLt
    have hy1 : (y 1).val < 8 := (y 1).isLt
    have ih := read_loop2 n (by omega)
    rw [pb_k0_t2_succ (F := Ideal) 𝒱 c bd i arg2 harg2 arg3 harg3 arg4 harg4 arg5 harg5 arg6 harg6 G ⟨n, hk⟩, tripL_t2]
    by_cases hin : 128 * n ≤ (y 2).val % 8192 ∧ (y 2).val % 8192 < 128 * (n + 1)
    · rw [if_pos hin.2]
      obtain ⟨h1, h2⟩ := hin
      have hp : (y 2).val / 8192 < 32 := by omega
      refine (read_runs_in arg5.view G (fun p : Fin 32 => 8192 * p.val + 128 * n) _ _ _ (fun p => off4_eq ⟨n, hk⟩ p) _ y
        ⟨(y 2).val / 8192, hp⟩
        (fun a => match a with | ⟨0, _⟩ => (0 : Fin 1) | ⟨1, _⟩ => (⟨(y 1).val, (y 1).isLt⟩ : Fin 8) | ⟨2, _⟩ => (⟨(y 2).val % 128, Nat.mod_lt _ (by decide)⟩ : Fin 128)) ?_ ?_ 32 le_rfl hp).trans ?_
      · intro a
        match a with
        | ⟨0, _⟩ => exact h0
        | ⟨1, _⟩ => exact (Nat.zero_add _).symm
        | ⟨2, _⟩ => show (y 2).val = 8192 * ((y 2).val / 8192) + 128 * n + (y 2).val % 128; omega
      · intro q hq
        have hq' : q.val ≠ (y 2).val / 8192 := fun e => hq (Fin.ext e)
        show (y 2).val < 8192 * q.val + 128 * n ∨ 8192 * q.val + 128 * n + 128 ≤ (y 2).val
        omega
      · refine (shapeCast_apply (t := S1x8x128) _ _ _ (show S8x128.Idx from fun a => match a with | ⟨0, _⟩ => (⟨(y 1).val, hy1⟩ : Fin 8) | ⟨1, _⟩ => (⟨(y 2).val % 128, Nat.mod_lt _ (by decide)⟩ : Fin 128)) (by
          rw [Shape.rowMajor_val_two, Shape.rowMajor_val_three]
          show (y 1).val * 128 + (y 2).val % 128 = (0 * 8 + (y 1).val) * 128 + (y 2).val % 128
          omega)).trans ?_
        refine (stages_apply _ _ _).trans ?_
        refine bfly_congr ?_ _ hp
        intro t ht
        rw [colT_apply _ _ _ _ ht]
        have hc : (y 2).val % 8192 = 128 * n + (y 2).val % 128 := by omega
        show rdB _ (y 1).val (8192 * t + 128 * n + (y 2).val % 128) = rdB _ (y 1).val (8192 * t + (y 2).val % 8192)
        rw [show 8192 * t + 128 * n + (y 2).val % 128 = 8192 * t + (y 2).val % 8192 by omega]
        unfold rdB
        rw [ih]
        rw [if_neg]
        show ¬ (8192 * t + (y 2).val % 8192) % 262144 % 8192 < 128 * n
        omega
    · refine (read_runs_out arg5.view G (fun p : Fin 32 => 8192 * p.val + 128 * n) _ _ _ (fun p => off4_eq ⟨n, hk⟩ p) _ y 32 le_rfl ?_).trans ?_
      · intro p _
        have := p.isLt
        show (y 2).val < 8192 * p.val + 128 * n ∨ 8192 * p.val + 128 * n + 128 ≤ (y 2).val
        omega
      · rw [ih]
        by_cases h : (y 2).val % 8192 < 128 * n
        · rw [if_pos h, if_pos (by omega)]
        · rw [if_neg h, if_neg (by omega)]

/-- What both loops leave: the butterflies over the 32 blocks of the turned tiles. -/
theorem read_loops (v0 : Vec Ideal S256x256 .bf16) (X2 : BufTy.Contents (Elt Ideal) arg2.view.ty) (X3 : BufTy.Contents (Elt Ideal) arg3.view.ty) (init : FVec Ideal S8x128 .f32) (G : BufTy.Contents (Elt Ideal) arg5.view.ty) (y : S1x8x262144.Idx) :
    arg5.view.read (Elt Ideal) (arg5.view.writes (Elt Ideal) G
        (pb_k0_t2 (F := Ideal) 𝒱 c bd i arg2 harg2 arg3 harg3 arg4 harg4 arg5 harg5 arg6 harg6 (arg5.view.writes (Elt Ideal) G (st_k0_t1 (F := Ideal) 𝒱 c bd i arg2 harg2 arg3 harg3 arg4 harg4 arg5 harg5 arg6 harg6 v0 X2 X3 init 32).2) 64
          ++ (st_k0_t1 (F := Ideal) 𝒱 c bd i arg2 harg2 arg3 harg3 arg4 harg4 arg5 harg5 arg6 harg6 v0 X2 X3 init 32).2)) y
      = bfly (fun t => rdM (turned arg2 arg3 v0 X2 X3 t) (8 * ((y 2).val % 8192 / 256) + (y 1).val) ((y 2).val % 256)) ((y 2).val / 8192) := by
  have hy2 : (y 2).val < 262144 := (y 2).isLt
  have hy1 : (y 1).val < 8 := (y 1).isLt
  rw [View.writes_append, read_loop2 _ _ _ _ _ _ _ _ _ _ _ _ _ _ _ 64 le_rfl, if_pos (by omega)]
  refine bfly_congr ?_ _ (by omega)
  intro t ht
  unfold rdB
  rw [read_loop1 _ _ _ _ _ _ _ _ _ _ _ _ _ _ _ _ _ _ _ _ 32 le_rfl]
  rw [if_pos (by show (8192 * t + (y 2).val % 8192) % 262144 < _; omega)]
  show rdM (turned arg2 arg3 v0 X2 X3 ((8192 * t + (y 2).val % 8192) % 262144 / 8192)) (8 * ((8192 * t + (y 2).val % 8192) % 262144 % 8192 / 256) + (y 1).val % 8) ((8192 * t + (y 2).val % 8192) % 262144 % 256) = _
  rw [show (8192 * t + (y 2).val % 8192) % 262144 / 8192 = t by omega,
    show (8192 * t + (y 2).val % 8192) % 262144 % 8192 = (y 2).val % 8192 by omega,
    show (8192 * t + (y 2).val % 8192) % 262144 % 256 = (y 2).val % 256 by omega, Nat.mod_eq_of_lt hy1]

end Second

end Cert.KernelIdeal.Gen

end
-- ==== Proof.Tile.lean ====
module

public import proofs.«01_k».proof.Proof.Reads
public import proofs.«01_k».proof.Proof.Math
public import Idealize.ShloMosaic.Lib.MatmulPlain
public import Idealize.ShloMosaic.Lib.IdealHost
public import Mathlib.Algebra.BigOperators.Intervals

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open scoped BigOperators
open Cert.Rot
open Idealize.ShloMosaic.Pipeline (Dat Cfg Window BodyObligation cellOf)

/-! # The first loop's tile, its turn and its squares, element by element, at the ideal values -/

/-- The signed tile of column block `t` at row `r`, column `d`: group `r / 8` of eight rows holds columns
`8192 t + 256 (r / 8)` and on of the block's eight rows. -/
def tileB (x0 : S1x8x262144.Idx → EReal) (x1 : S1x1x64x8x128.Idx → BitVec 32) (t r d : ℕ) : EReal :=
  rdB x0 (r % 8) (8192 * t + 256 * (r / 8) + d) * ((sgnR (rdW x1 (2 * t + r / 128) (r % 8) (d % 128)) (2 * (r / 8 % 16) + d / 128) : ℝ) : EReal)

theorem and_top_bit (x : BitVec 32) : x &&& 2147483648#32 = if x.getLsbD 31 then 2147483648#32 else 0#32 := by
  apply BitVec.eq_of_getLsbD_eq
  intro i hi
  by_cases h31 : i = 31
  · subst h31; rw [BitVec.getLsbD_and]; cases hx : x.getLsbD 31 <;> rfl
  · have e : (2147483648#32).getLsbD i = false := by
      revert h31; revert hi; revert i; decide
    rw [BitVec.getLsbD_and, e]
    cases x.getLsbD 31 <;> simp [e]

theorem shl_top_bit (w : BitVec 32) (n : ℕ) (hn : n < 32) : (w <<< (31 - n)).getLsbD 31 = w.getLsbD n := by
  rw [BitVec.getLsbD_shiftLeft]
  have e : 31 - (31 - n) = n := by omega
  rw [e]
  have : ¬ (31 < 31 - n) := by omega
  simp [this]

/-- Turning the sign by a bit of the words is a product with that bit's sign. -/
theorem flipT_apply (v : FVec Ideal S8x128 .f32) (w : IVec S8x128 32) (n : ℕ) (hn : n < 32) (x : S8x128.Idx) :
    flipT v w (BitVec.ofNat 32 (31 - n)) x = v x * ((sgnR (w x) n : ℝ) : EReal) := by
  have hs : IntOp.shli .vector (w x) (BitVec.ofNat 32 (31 - n)) = w x <<< (31 - n) := by
    unfold IntOp.shli
    have : (BitVec.ofNat 32 (31 - n)).toNat = 31 - n := by rw [BitVec.toNat_ofNat]; omega
    rw [if_pos (by rw [this]; omega)]
    rw [BitVec.shiftLeft_eq', this]
  show v x * Scalar.select (IntOp.cmpi .ne (IntOp.andi (IntOp.shli .vector (w x) (BitVec.ofNat 32 (31 - n))) 2147483648#32) 0#32)
    (Ideal.ofBits .f32 0xBF800000#32) (Ideal.ofBits .f32 0x3F800000#32) = _
  rw [hs]
  unfold IntOp.andi
  rw [and_top_bit, shl_top_bit _ _ hn]
  unfold sgnR
  have hm : Ideal.ofBits .f32 0xBF800000#32 = ((-1 : ℝ) : EReal) := by
    simp [Ideal.ofBits, Ideal.ieee, -EReal.coe_mul, -EReal.coe_neg]; norm_num
  cases hb : (w x).getLsbD n
  · rw [show Scalar.select (IntOp.cmpi .ne (if (false = true) then 2147483648#32 else 0#32) 0#32) (Ideal.ofBits .f32 0xBF800000#32) (Ideal.ofBits .f32 0x3F800000#32) = Ideal.ofBits .f32 0x3F800000#32 from rfl, Ideal.ofBits_one_f32]
    simp
  · rw [show Scalar.select (IntOp.cmpi .ne (if (true = true) then 2147483648#32 else 0#32) 0#32) (Ideal.ofBits .f32 0xBF800000#32) (Ideal.ofBits .f32 0x3F800000#32) = Ideal.ofBits .f32 0xBF800000#32 from rfl, hm]
    simp

section Reads
variable (arg2 : Memref sig .tc .vmem S1x8x262144 .f32) (arg3 : Memref sig .tc .vmem S1x1x64x8x128 .i32)
    (X2 : BufTy.Contents (Elt Ideal) arg2.view.ty) (X3 : BufTy.Contents (Elt Ideal) arg3.view.ty) (k : Fin k0_t1_loop.trips)

theorem xT_apply (p : Fin 32) (hf : Fin 2) (x : S8x128.Idx) :
    xT (F := Ideal) arg2 X2 k p hf x = rdB (arg2.view.read (Elt Ideal) X2) (x 0).val (8192 * k.val + 256 * p.val + 128 * hf.val + (x 1).val) := by
  unfold xT
  rw [shapeCast_apply (t := S8x128) _ _ x (show S1x8x128.Idx from fun a => match a with | ⟨0, _⟩ => (0 : Fin 1) | ⟨1, _⟩ => (⟨(x 0).val, (x 0).isLt⟩ : Fin 8) | ⟨2, _⟩ => (⟨(x 1).val, (x 1).isLt⟩ : Fin 128)) (by
    rw [Shape.rowMajor_val_two, Shape.rowMajor_val_three]
    show (0 * 8 + (x 0).val) * 128 + (x 1).val = (x 0).val * 128 + (x 1).val
    omega)]
  have e := off2_eq k p hf
  refine eq_rdB (arg2.view.read (Elt Ideal) X2) _ _ _ ?_ ?_
  · show k0_off2 k (BitVec.ofNat 32 (256 * p.val)) (BitVec.ofNat 32 (128 * hf.val)) 1 + 1 * (x 0).val = (x 0).val
    rw [congrFun e 1]; show 0 + 1 * (x 0).val = _; omega
  · show k0_off2 k (BitVec.ofNat 32 (256 * p.val)) (BitVec.ofNat 32 (128 * hf.val)) 2 + 1 * (x 1).val = _
    rw [congrFun e 2]; show 8192 * k.val + 256 * p.val + 128 * hf.val + 1 * (x 1).val = _; omega

theorem wordT_apply (q : Fin 2) (x : S8x128.Idx) :
    wordT (F := Ideal) arg3 X3 k q x = rdW (arg3.view.read (Elt Ideal) X3) (2 * k.val + q.val) (x 0).val (x 1).val := by
  unfold wordT
  rw [shapeCast_apply (t := S8x128) _ _ x (show S1x1x1x8x128.Idx from fun a => match a with | ⟨0, _⟩ => (0 : Fin 1) | ⟨1, _⟩ => (0 : Fin 1) | ⟨2, _⟩ => (0 : Fin 1) | ⟨3, _⟩ => (⟨(x 0).val, (x 0).isLt⟩ : Fin 8) | ⟨4, _⟩ => (⟨(x 1).val, (x 1).isLt⟩ : Fin 128)) (by
    rw [Shape.rowMajor_val_two, Shape.rowMajor_val_five]
    show (((0 * 1 + 0) * 1 + 0) * 8 + (x 0).val) * 128 + (x 1).val = (x 0).val * 128 + (x 1).val
    omega)]
  have e := off1_eq k q
  refine eq_rdW (arg3.view.read (Elt Ideal) X3) _ _ _ _ ?_ ?_ ?_
  · show k0_off1 k (BitVec.ofNat 32 q.val) 2 + 1 * 0 = _
    rw [congrFun e 2]; rfl
  · show k0_off1 k (BitVec.ofNat 32 q.val) 3 + 1 * (x 0).val = _
    rw [congrFun e 3]; show 0 + 1 * (x 0).val = _; omega
  · show k0_off1 k (BitVec.ofNat 32 q.val) 4 + 1 * (x 1).val = _
    rw [congrFun e 4]; show 0 + 1 * (x 1).val = _; omega

theorem rowT_apply (p : Fin 32) (x : S8x256.Idx) :
    rowT (F := Ideal) arg2 arg3 X2 X3 k p x = tileB (arg2.view.read (Elt Ideal) X2) (arg3.view.read (Elt Ideal) X3) k.val (8 * p.val + (x 0).val) (x 1).val := by
  have h0 : (x 0).val < 8 := (x 0).isLt
  have h1 : (x 1).val < 256 := (x 1).isLt
  have hp := p.isLt
  unfold rowT tileB
  rw [show (8 * p.val + (x 0).val) % 8 = (x 0).val by omega, show (8 * p.val + (x 0).val) / 8 = p.val by omega,
    show (8 * p.val + (x 0).val) / 128 = p.val / 16 by omega]
  by_cases h : (x 1).val < 128
  · rw [concatenate_pair_apply_left (s₁ := S8x128) (s₂ := S8x128) (1 : Fin S8x256.rank) _ _ _ x rfl (show S8x128.Idx from fun a => match a with | ⟨0, _⟩ => (⟨(x 0).val, h0⟩ : Fin 8) | ⟨1, _⟩ => (⟨(x 1).val, h⟩ : Fin 128)) (by intro b; match b with | ⟨0, _⟩ => rfl | ⟨1, _⟩ => rfl)]
    rw [show 31 - 2 * (p.val % 16) = 31 - (2 * (p.val % 16)) from rfl, flipT_apply _ _ _ (by omega), xT_apply, wordT_apply]
    rw [show (x 1).val % 128 = (x 1).val by omega, show (x 1).val / 128 = 0 by omega]
    rfl
  · rw [concatenate_pair_apply_right (s₁ := S8x128) (s₂ := S8x128) (1 : Fin S8x256.rank) _ _ _ x rfl rfl (show S8x128.Idx from fun a => match a with | ⟨0, _⟩ => (⟨(x 0).val, h0⟩ : Fin 8) | ⟨1, _⟩ => (⟨(x 1).val - 128, by omega⟩ : Fin 128)) (by intro b hb; match b, hb with | ⟨0, _⟩, _ => rfl | ⟨1, _⟩, hb => exact absurd rfl hb) (by show (x 1).val - 128 + 128 = (x 1).val; omega)]
    rw [show 30 - 2 * (p.val % 16) = 31 - (2 * (p.val % 16) + 1) by omega, flipT_apply _ _ _ (by omega), xT_apply, wordT_apply]
    rw [show (x 1).val / 128 = 1 by omega, show (x 1).val % 128 = (x 1).val - 128 by omega]
    show rdB _ (x 0).val (8192 * k.val + 256 * p.val + 128 * 1 + ((x 1).val - 128)) * _ = _
    rw [show 8192 * k.val + 256 * p.val + 128 * 1 + ((x 1).val - 128) = 8192 * k.val + 256 * p.val + (x 1).val by omega]

theorem tileT_apply (x : S256x256.Idx) :
    tileT (F := Ideal) arg2 arg3 X2 X3 k x = tileB (arg2.view.read (Elt Ideal) X2) (arg3.view.read (Elt Ideal) X3) k.val (x 0).val (x 1).val := by
  have h0 : (x 0).val < 256 := (x 0).isLt
  have h1 : (x 1).val < 256 := (x 1).isLt
  unfold tileT
  refine (concatenate_ofFn_apply (t := S256x256) (0 : Fin 2) (fun p : Fin 32 => rowT (F := Ideal) arg2 arg3 X2 X3 k p) _ rfl 8 rfl x
    ⟨(x 0).val / 8, by omega⟩ rfl (show S8x256.Idx from fun a => match a with | ⟨0, _⟩ => (⟨(x 0).val % 8, by omega⟩ : Fin 8) | ⟨1, _⟩ => (⟨(x 1).val, h1⟩ : Fin 256)) rfl ?_).trans ?_
  · intro b hb
    match b, hb with
    | ⟨0, _⟩, hb => exact absurd rfl hb
    | ⟨1, _⟩, _ => rfl
  · rw [rowT_apply]
    show tileB _ _ _ (8 * ((x 0).val / 8) + (x 0).val % 8) (x 1).val = _
    rw [show 8 * ((x 0).val / 8) + (x 0).val % 8 = (x 0).val by omega]

/-- The squares of the first `n` runs of a trip. -/
theorem sqT_apply (acc : FVec Ideal S8x128 .f32) (x : S8x128.Idx) : ∀ (n : ℕ) (hn : n ≤ 64),
    sqT (F := Ideal) arg2 X2 k acc n hn x = acc x + ∑ m ∈ Finset.range n,
      rdB (arg2.view.read (Elt Ideal) X2) (x 0).val (128 * (64 * k.val + m) + (x 1).val) * rdB (arg2.view.read (Elt Ideal) X2) (x 0).val (128 * (64 * k.val + m) + (x 1).val)
  | 0, _ => by simp [sqT]
  | n + 1, hn => by
    rw [sqT, addf_apply, mulf_apply, sqT_apply acc x n, Finset.sum_range_succ, xT_apply, ← add_assoc]
    have e : 8192 * k.val + 256 * (n / 2) + 128 * (n % 2) + (x 1).val = 128 * (64 * k.val + n) + (x 1).val := by omega
    show _ + rdB _ _ (8192 * k.val + 256 * (n / 2) + 128 * (n % 2) + (x 1).val) * rdB _ _ (8192 * k.val + 256 * (n / 2) + 128 * (n % 2) + (x 1).val) = _
    rw [e]

theorem sqSum_apply (init : FVec Ideal S8x128 .f32) (x : S8x128.Idx) : ∀ (n : ℕ), n ≤ 32 →
    sqSum (F := Ideal) arg2 X2 init n x = init x + ∑ m ∈ Finset.range (64 * n),
      rdB (arg2.view.read (Elt Ideal) X2) (x 0).val (128 * m + (x 1).val) * rdB (arg2.view.read (Elt Ideal) X2) (x 0).val (128 * m + (x 1).val)
  | 0, _ => by simp [sqSum]
  | n + 1, hn => by
    have hk : n < k0_t1_loop.trips := by rw [trips_t1]; omega
    rw [sqSum, dif_pos hk, sqT_apply, sqSum_apply init x n (by omega), add_assoc, Nat.mul_succ, Finset.sum_range_add]

end Reads

/-! ## Turning a tile of finite numbers -/

section Turn

theorem split_self {v : EReal} (r : ℝ) (h : v = (r : EReal)) : v - v = 0 := by rw [h, ← EReal.coe_sub, sub_self, EReal.coe_zero]

theorem coe_sum' (n : ℕ) (f : ℕ → ℝ) : ((∑ j ∈ Finset.range n, f j : ℝ) : EReal) = ∑ j ∈ Finset.range n, (f j : EReal) := by
  induction n with
  | zero => simp
  | succ n ih => rw [Finset.sum_range_succ, Finset.sum_range_succ, EReal.coe_add, ih]

theorem mm_apply {φ₁ φ₂ : FTy} (L : FVec Ideal S256x256 φ₁) (R : FVec Ideal S256x256 φ₂) (x : S256x256.Idx) :
    matmul dot_S256x256_S256x256_S256x256_1_0_0_1_n_n none L R (constant S256x256 .f32 0x00000000#32) x
      = ∑ j ∈ Finset.range 256, rdM L (x 0).val j * rdM R j (x 1).val := by
  have hx : x = ix2 (x 0) (x 1) := by
    funext a
    match a with
    | ⟨0, _⟩ => rfl
    | ⟨1, _⟩ => rfl
  rw [Finset.sum_range]
  conv_lhs => rw [hx]
  refine (Ideal.matmul_plain_apply (M := 256) (K := 256) (N := 256) none L R _ (x 0) (x 1)).trans ?_
  show Ideal.ofBits .f32 0x00000000#32 + _ = _
  rw [Ideal.ofBits_zero_f32, zero_add]
  refine Finset.sum_congr rfl fun j _ => ?_
  congr 1
  · exact eq_rdM L _ _ _ rfl rfl
  · exact eq_rdM R _ _ _ rfl rfl

/-- A tile of finite numbers times the matrix: the two remainders of the split are zero. -/
theorem dotR_apply (T : FVec Ideal S256x256 .f32) (H : FVec Ideal S256x256 .bf16) (tr hr : ℕ → ℕ → ℝ)
    (hT : ∀ a < 256, ∀ b < 256, rdM T a b = (tr a b : EReal)) (hH : ∀ a < 256, ∀ b < 256, rdM H a b = (hr a b : EReal)) (x : S256x256.Idx) :
    dotR T H x = ((∑ j ∈ Finset.range 256, tr (x 0).val j * hr j (x 1).val : ℝ) : EReal) := by
  have h0 : (x 0).val < 256 := (x 0).isLt
  have h1 : (x 1).val < 256 := (x 1).isLt
  have hz : ∀ i, T i - T i = 0 := fun i => split_self _ ((eq_rdM T i _ _ rfl rfl).trans (hT _ (i 0).isLt _ (i 1).isLt))
  unfold dotR
  dsimp only
  rw [addf_apply, addf_apply, mm_apply, mm_apply, mm_apply, coe_sum']
  rw [Finset.sum_congr rfl (g := fun j => ((tr (x 0).val j * hr j (x 1).val : ℝ) : EReal)) (fun j hj => ?_)]
  · rw [Finset.sum_eq_zero (s := Finset.range 256) (f := fun j => rdM (truncf .bf16 (extf .f32 (truncf .bf16 (subf T (extf .f32 (truncf .bf16 T bitsLt_bf16_f32) bitsLt_bf16_f32)) bitsLt_bf16_f32) bitsLt_bf16_f32) bitsLt_bf16_f32 : FVec Ideal S256x256 .bf16) (x 0).val j * rdM H j (x 1).val) ?_,
      Finset.sum_eq_zero (s := Finset.range 256) (f := fun j => rdM (truncf .bf16 (subf (subf T (extf .f32 (truncf .bf16 T bitsLt_bf16_f32) bitsLt_bf16_f32)) (extf .f32 (truncf .bf16 (subf T (extf .f32 (truncf .bf16 T bitsLt_bf16_f32) bitsLt_bf16_f32)) bitsLt_bf16_f32) bitsLt_bf16_f32)) bitsLt_bf16_f32 : FVec Ideal S256x256 .bf16) (x 0).val j * rdM H j (x 1).val) ?_, add_zero, add_zero]
    · intro j _
      have e := hz (fun a => match a with | ⟨0, _⟩ => Fin.ofNat 256 (x 0).val | ⟨1, _⟩ => Fin.ofNat 256 j)
      have : ∀ v : EReal, v = 0 → (v - v) * rdM H j (x 1).val = 0 := by intro v hv; rw [hv, sub_zero, zero_mul]
      exact this _ e
    · intro j _
      have e := hz (fun a => match a with | ⟨0, _⟩ => Fin.ofNat 256 (x 0).val | ⟨1, _⟩ => Fin.ofNat 256 j)
      have : ∀ v : EReal, v = 0 → v * rdM H j (x 1).val = 0 := by intro v hv; rw [hv, zero_mul]
      exact this _ e
  · have hj' := Finset.mem_range.mp hj
    show rdM T (x 0).val j * rdM H j (x 1).val = _
    rw [hT _ h0 _ hj', hH _ hj' _ h1, EReal.coe_mul]

/-- The matrix times a tile of finite numbers. -/
theorem dotL_apply (T : FVec Ideal S256x256 .f32) (H : FVec Ideal S256x256 .bf16) (tr hr : ℕ → ℕ → ℝ)
    (hT : ∀ a < 256, ∀ b < 256, rdM T a b = (tr a b : EReal)) (hH : ∀ a < 256, ∀ b < 256, rdM H a b = (hr a b : EReal)) (x : S256x256.Idx) :
    dotL T H x = ((∑ j ∈ Finset.range 256, hr (x 0).val j * tr j (x 1).val : ℝ) : EReal) := by
  have h0 : (x 0).val < 256 := (x 0).isLt
  have h1 : (x 1).val < 256 := (x 1).isLt
  have hz : ∀ i, T i - T i = 0 := fun i => split_self _ ((eq_rdM T i _ _ rfl rfl).trans (hT _ (i 0).isLt _ (i 1).isLt))
  unfold dotL
  dsimp only
  rw [addf_apply, addf_apply, mm_apply, mm_apply, mm_apply, coe_sum']
  rw [Finset.sum_congr rfl (g := fun j => ((hr (x 0).val j * tr j (x 1).val : ℝ) : EReal)) (fun j hj => ?_)]
  · rw [Finset.sum_eq_zero (s := Finset.range 256) (f := fun j => rdM H (x 0).val j * rdM (truncf .bf16 (extf .f32 (truncf .bf16 (subf T (extf .f32 (truncf .bf16 T bitsLt_bf16_f32) bitsLt_bf16_f32)) bitsLt_bf16_f32) bitsLt_bf16_f32) bitsLt_bf16_f32 : FVec Ideal S256x256 .bf16) j (x 1).val) ?_,
      Finset.sum_eq_zero (s := Finset.range 256) (f := fun j => rdM H (x 0).val j * rdM (truncf .bf16 (subf (subf T (extf .f32 (truncf .bf16 T bitsLt_bf16_f32) bitsLt_bf16_f32)) (extf .f32 (truncf .bf16 (subf T (extf .f32 (truncf .bf16 T bitsLt_bf16_f32) bitsLt_bf16_f32)) bitsLt_bf16_f32) bitsLt_bf16_f32)) bitsLt_bf16_f32 : FVec Ideal S256x256 .bf16) j (x 1).val) ?_, add_zero, add_zero]
    · intro j _
      have e := hz (fun a => match a with | ⟨0, _⟩ => Fin.ofNat 256 j | ⟨1, _⟩ => Fin.ofNat 256 (x 1).val)
      have : ∀ v : EReal, v = 0 → rdM H (x 0).val j * (v - v) = 0 := by intro v hv; rw [hv, sub_zero, mul_zero]
      exact this _ e
    · intro j _
      have e := hz (fun a => match a with | ⟨0, _⟩ => Fin.ofNat 256 j | ⟨1, _⟩ => Fin.ofNat 256 (x 1).val)
      have : ∀ v : EReal, v = 0 → rdM H (x 0).val j * v = 0 := by intro v hv; rw [hv, mul_zero]
      exact this _ e
  · have hj' := Finset.mem_range.mp hj
    show rdM H (x 0).val j * rdM T j (x 1).val = _
    rw [hH _ h0 _ hj', hT _ hj' _ h1, EReal.coe_mul]

/-- The tile turned by the matrix on both sides. -/
theorem turnT_apply (T : FVec Ideal S256x256 .f32) (H : FVec Ideal S256x256 .bf16) (tr hr : ℕ → ℕ → ℝ)
    (hT : ∀ a < 256, ∀ b < 256, rdM T a b = (tr a b : EReal)) (hH : ∀ a < 256, ∀ b < 256, rdM H a b = (hr a b : EReal))
    (a b : ℕ) (ha : a < 256) (hb : b < 256) :
    rdM (turnT H T) a b = ((∑ j ∈ Finset.range 256, hr a j * ∑ i ∈ Finset.range 256, tr j i * hr i b : ℝ) : EReal) := by
  unfold turnT
  refine (dotL_apply (dotR T H) H (fun p q => ∑ i ∈ Finset.range 256, tr p i * hr i q) hr ?_ hH _).trans ?_
  · intro p hp q hq
    refine (dotR_apply T H tr hr hT hH _).trans ?_
    show ((∑ j ∈ Finset.range 256, tr (p % 256) j * hr j (q % 256) : ℝ) : EReal) = _
    rw [Nat.mod_eq_of_lt hp, Nat.mod_eq_of_lt hq]
  · show ((∑ j ∈ Finset.range 256, hr (a % 256) j * ∑ i ∈ Finset.range 256, tr j i * hr i (b % 256) : ℝ) : EReal) = _
    rw [Nat.mod_eq_of_lt ha, Nat.mod_eq_of_lt hb]

theorem sst_coe (h : ℕ) (v : ℕ → ℝ) : sst h (fun t => (v t : EReal)) = fun t => ((sstR h v t : ℝ) : EReal) := by
  funext t
  unfold sst sstR
  split
  · exact (EReal.coe_add _ _).symm
  · exact (EReal.coe_sub _ _).symm

/-- The butterfly of finite numbers is the butterfly over the reals. -/
theorem bfly_coe (v : ℕ → ℝ) : bfly (fun t => (v t : EReal)) = fun t => ((sstR 16 (sstR 8 (sstR 4 (sstR 2 (sstR 1 v)))) t : ℝ) : EReal) := by
  unfold bfly
  rw [sst_coe, sst_coe, sst_coe, sst_coe, sst_coe]

end Turn

end Cert.KernelIdeal.Gen

end
-- ==== Proof.Body.lean ====
module

public import proofs.«01_k».proof.Proof.Tile

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open scoped BigOperators
open Cert.Rot
open Idealize.ShloMosaic.Pipeline (Dat Cfg Window BodyObligation cellOf)

/-! # The body's triples at the ideal values: what one grid step leaves in its two output blocks -/

local notation "𝕄" => MT nD τ sig Unit (Elt Ideal) ℕ (UR sig nD τ) ℕ

/-- The signed tile of column block `t`, as a vector. -/
def tileV (x0 : S1x8x262144.Idx → EReal) (x1 : S1x1x64x8x128.Idx → BitVec 32) (t : ℕ) : FVec Ideal S256x256 .f32 :=
  fun i => tileB x0 x1 t (i 0).val (i 1).val

/-- The rotated block one grid step leaves: the tiles turned by the matrix `x2`, then the butterflies over the 32 tiles. -/
def outB (x0 : S1x8x262144.Idx → EReal) (x1 : S1x1x64x8x128.Idx → BitVec 32) (x2 : FVec Ideal S256x256 .bf16) : FVec Ideal S1x8x262144 .f32 :=
  fun y => bfly (fun t => rdM (turnT x2 (tileV x0 x1 t)) (8 * ((y 2).val % 8192 / 256) + (y 1).val) ((y 2).val % 256)) ((y 2).val / 8192)

/-- The sums of squares one grid step forms: over the 2048 runs of 128 columns. -/
def sqB (x0 : S1x8x262144.Idx → EReal) : FVec Ideal S1x8x128 .f32 :=
  fun y => ∑ m ∈ Finset.range 2048, rdB x0 (y 1).val (128 * m + (y 2).val) * rdB x0 (y 1).val (128 * m + (y 2).val)

/-- What the loops leave is the rotated block of what the inputs hold. -/
theorem loops_outB (𝒱 : Variants) (c : Dev nD) (bd : Option 𝒱.V) (i : grid0.Coords) (arg2 : Memref sig .tc .vmem S1x8x262144 .f32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x262144 .f32) (harg5 : arg5.IsWhole) (arg6 : Memref sig .tc .vmem S1x8x128 .f32) (harg6 : arg6.IsWhole) (x0 : Vec Ideal S1x8x262144 .f32) (x1 : Vec Ideal S1x1x64x8x128 .i32) (x2 : Vec Ideal S256x256 .bf16)
    (v0 : Vec Ideal S256x256 .bf16) (hv0 : v0 = x2) (init : FVec Ideal S8x128 .f32) (G : BufTy.Contents (Elt Ideal) arg5.view.ty) (n1 n2 : ℕ) (hn1 : n1 = 32) (hn2 : n2 = 64) :
    arg5.view.read (Elt Ideal) (arg5.view.writes (Elt Ideal) G
        (pb_k0_t2 (F := Ideal) 𝒱 c bd i arg2 harg2 arg3 harg3 arg4 harg4 arg5 harg5 arg6 harg6 (arg5.view.writes (Elt Ideal) G (st_k0_t1 (F := Ideal) 𝒱 c bd i arg2 harg2 arg3 harg3 arg4 harg4 arg5 harg5 arg6 harg6 v0 (harg2.unread x0) (harg3.unread x1) init n1).2) n2
          ++ (st_k0_t1 (F := Ideal) 𝒱 c bd i arg2 harg2 arg3 harg3 arg4 harg4 arg5 harg5 arg6 harg6 v0 (harg2.unread x0) (harg3.unread x1) init n1).2)) = outB x0 x1 x2 := by
  subst hn1 hn2 hv0
  funext y
  have hy2 : (y 2).val < 262144 := (y 2).isLt
  refine (read_loops _ _ _ _ _ _ _ _ _ _ _ _ _ _ _ _ _ _ _ y).trans ?_
  unfold outB
  refine bfly_congr ?_ _ (by omega)
  intro t ht
  unfold turned
  have e1 : k0_pay1 (F := Ideal) v0 = v0 := by unfold k0_pay1; exact shapeCast_self _ _
  have e2 : tileT (F := Ideal) arg2 arg3 (harg2.unread x0) (harg3.unread x1) ⟨t % 32, by rw [trips_t1]; omega⟩ = tileV x0 x1 t := by
    funext x
    rw [tileT_apply, harg2.read_unread, harg3.read_unread]
    show tileB x0 x1 (t % 32) _ _ = tileB x0 x1 t _ _
    rw [Nat.mod_eq_of_lt ht]
  rw [e1, e2]

/-- What the first loop carries out is the sum of squares. -/
theorem loop_sqB (𝒱 : Variants) (c : Dev nD) (bd : Option 𝒱.V) (i : grid0.Coords) (arg2 : Memref sig .tc .vmem S1x8x262144 .f32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x262144 .f32) (harg5 : arg5.IsWhole) (arg6 : Memref sig .tc .vmem S1x8x128 .f32) (harg6 : arg6.IsWhole) (v0 : Vec Ideal S256x256 .bf16) (x0 : Vec Ideal S1x8x262144 .f32) (X3 : BufTy.Contents (Elt Ideal) arg3.view.ty) (n1 : ℕ) (hn1 : n1 = 32) (y : S1x8x128.Idx) :
    shapeCast S1x8x128 (st_k0_t1 (F := Ideal) 𝒱 c bd i arg2 harg2 arg3 harg3 arg4 harg4 arg5 harg5 arg6 harg6 v0 (harg2.unread x0) X3 (k0_pay2 (F := Ideal)) n1).1 shapeCasts_S8x128_S1x8x128 y = sqB x0 y := by
  subst hn1
  have h0 : (y 0).val = 0 := Nat.lt_one_iff.mp (y 0).isLt
  rw [shapeCast_apply (t := S1x8x128) _ _ y (show S8x128.Idx from fun a => match a with | ⟨0, _⟩ => (⟨(y 1).val, (y 1).isLt⟩ : Fin 8) | ⟨1, _⟩ => (⟨(y 2).val, (y 2).isLt⟩ : Fin 128)) (by
    rw [Shape.rowMajor_val_two, Shape.rowMajor_val_three]
    show (y 1).val * 128 + (y 2).val = ((y 0).val * 8 + (y 1).val) * 128 + (y 2).val
    rw [h0]; omega)]
  rw [acc_loop1 _ _ _ _ _ _ _ _ _ _ _ _ _ _ _ _ _ _ 32 le_rfl, sqSum_apply _ _ _ _ 32 le_rfl, harg2.read_unread]
  show Ideal.ofBits .f32 0x00000000#32 + _ = _
  rw [Ideal.ofBits_zero_f32, zero_add]
  rfl

/-- A whole-block store read back is its payload. -/
theorem read_whole3 {sg : RefSig} {κ : Kind} {sp : Space} (v : View sg κ sp S1x8x128 .f32) (f : v.ty.Contents (Elt Ideal)) (off : Fin 3 → ℕ) (hoff : off = ![0, 0, 0])
    (inb : ∀ a, off a + S1x8x128.size a ≤ S1x8x128.size a) (w : S1x8x128.Idx → EReal) :
    v.read (Elt Ideal) (v.writes (Elt Ideal) f [⟨Rect.unit (s := S1x8x128) off S1x8x128.size inb, w⟩]) = w := by
  funext y
  refine View.read_writes_cons_unit_of_mem v f inb w [] y y hoff ?_
  intro a
  match a with
  | ⟨0, _⟩ => exact (Nat.zero_add _).symm
  | ⟨1, _⟩ => exact (Nat.zero_add _).symm
  | ⟨2, _⟩ => exact (Nat.zero_add _).symm

/-- A whole-block load is the block. -/
theorem readAt_whole3 {sg : RefSig} {κ : Kind} {sp : Space} (v : View sg κ sp S1x8x128 .f32) (f : v.ty.Contents (Elt Ideal))
    (inb : ∀ a, (![0, 0, 0] : Fin 3 → ℕ) a + S1x8x128.size a ≤ S1x8x128.size a) :
    v.readAt (Elt Ideal) (Rect.unit (s := S1x8x128) ![0, 0, 0] S1x8x128.size inb).toLoadRect f = v.read (Elt Ideal) f := by
  funext y
  show v.read (Elt Ideal) f _ = _
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A whole-matrix load is the matrix. -/
theorem readAt_whole2 {sg : RefSig} {κ : Kind} {sp : Space} (v : View sg κ sp S256x256 .bf16) (f : v.ty.Contents (Elt Ideal))
    (inb : ∀ a, (![0, 0] : Fin 2 → ℕ) a + S256x256.size a ≤ S256x256.size a) :
    v.readAt (Elt Ideal) (Rect.unit (s := S256x256) ![0, 0] S256x256.size inb).toLoadRect f = v.read (Elt Ideal) f := by
  funext y
  show v.read (Elt Ideal) f _ = _
  congr 1
  funext a
  apply Fin.ext
  match a with
  | ⟨0, _⟩ => show 0 + 1 * (y 0).val = (y 0).val; omega
  | ⟨1, _⟩ => show 0 + 1 * (y 1).val = (y 1).val; omega

/-- The accumulating store's payload, element by element. -/
theorem pay5_apply (a : FVec Ideal S8x128 .f32) (v : Vec Ideal S1x8x128 .f32) (y : S1x8x128.Idx) :
    k0_pay5 (F := Ideal) a v y = v y + shapeCast S1x8x128 a shapeCasts_S8x128_S1x8x128 y := by
  have h0 : (y 0).val = 0 := Nat.lt_one_iff.mp (y 0).isLt
  have e : ∀ b : FVec Ideal S8x128 .f32, shapeCast S1x8x128 b shapeCasts_S8x128_S1x8x128 y
      = b (show S8x128.Idx from fun a => match a with | ⟨0, _⟩ => (⟨(y 1).val, (y 1).isLt⟩ : Fin 8) | ⟨1, _⟩ => (⟨(y 2).val, (y 2).isLt⟩ : Fin 128)) := fun b =>
    shapeCast_apply (t := S1x8x128) _ _ y _ (by
      rw [Shape.rowMajor_val_two, Shape.rowMajor_val_three]
      show (y 1).val * 128 + (y 2).val = ((y 0).val * 8 + (y 1).val) * 128 + (y 2).val
      rw [h0]; omega)
  unfold k0_pay5
  rw [e, e, addf_apply]
  congr 1
  exact shapeCast_apply (t := S8x128) _ _ _ y (by
    rw [Shape.rowMajor_val_two, Shape.rowMajor_val_three]
    show ((y 0).val * 8 + (y 1).val) * 128 + (y 2).val = (y 1).val * 128 + (y 2).val
    rw [h0]; omega)

set_option maxHeartbeats 2000000 in
/-- The body at the first grid step of a batch: the rotated block and the step's sums of squares. -/
theorem kernelRun0_A (c : Dev nD) (i : grid0.Coords) (arg2 : Memref sig .tc .vmem S1x8x262144 .f32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x262144 .f32) (harg5 : arg5.IsWhole) (arg6 : Memref sig .tc .vmem S1x8x128 .f32) (harg6 : arg6.IsWhole) (hc0 : k0_cond1 i = 1#1) (hc1 : ¬ k0_cond2 i = 1#1)
    (x0 : Vec Ideal S1x8x262144 .f32) (x1 : Vec Ideal S1x1x64x8x128 .i32) (x2 : Vec Ideal S256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare (outB x0 x1 x2) ∗ owns (c : Thread nD τ) arg6 fullShare (sqB x0)) -∗ K ⟨⟩))
          ⊢ wp frame (wpE (defs₀ (F := Ideal)) Variants.none c none) E (cc0__rot1_kernel i arg2 harg2 arg3 harg3 arg4 harg4 arg5 harg5 arg6 harg6) K := by
    intro E K
    simp only [cc0__rot1_kernel_eq_skeleton]; unfold cc0__rot1_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine loops_outB _ _ _ _ _ _ _ _ _ _ _ _ _ _ x0 x1 x2 _ ?_ _ _ _ _ trips_t1 trips_t2
      exact (readAt_whole2 arg4.view _ _).trans hf2
    iexists _; isplitr; swap; · iexact H4
    ipureintro
    refine (read_whole3 arg6.view _ _ rfl _ _).trans ?_
    funext y
    exact loop_sqB _ _ _ _ _ _ _ _ _ _ _ _ _ _ _ x0 _ _ trips_t1 y

set_option maxHeartbeats 2000000 in
/-- The body at a later grid step of a batch: the rotated block, and the step's sums of squares added to what was there. -/
theorem kernelRun0_B (c : Dev nD) (i : grid0.Coords) (arg2 : Memref sig .tc .vmem S1x8x262144 .f32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x262144 .f32) (harg5 : arg5.IsWhole) (arg6 : Memref sig .tc .vmem S1x8x128 .f32) (harg6 : arg6.IsWhole) (hc0 : ¬ k0_cond1 i = 1#1) (hc1 : k0_cond2 i = 1#1)
    (x0 : Vec Ideal S1x8x262144 .f32) (x1 : Vec Ideal S1x1x64x8x128 .i32) (x2 : Vec Ideal S256x256 .bf16) (x4 : Vec Ideal S1x8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4
            ∗ (iprop(owns (c : Thread nD τ) arg2 fullShare x0 ∗ owns (c : Thread nD τ) arg3 fullShare x1 ∗ owns (c : Thread nD τ) arg4 fullShare x2 ∗ owns (c : Thread nD τ) arg5 fullShare (outB x0 x1 x2) ∗ owns (c : Thread nD τ) arg6 fullShare (fun y => x4 y + sqB x0 y)) -∗ K ⟨⟩))
          ⊢ wp frame (wpE (defs₀ (F := Ideal)) Variants.none c none) E (cc0__rot1_kernel i arg2 harg2 arg3 harg3 arg4 harg4 arg5 harg5 arg6 harg6) K := by
    intro E K
    simp only [cc0__rot1_kernel_eq_skeleton]; unfold cc0__rot1_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2
    obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine loops_outB _ _ _ _ _ _ _ _ _ _ _ _ _ _ x0 x1 x2 _ ?_ _ _ _ _ trips_t1 trips_t2
      exact (readAt_whole2 arg4.view _ _).trans hf2
    iexists _; isplitr; swap; · iexact H4
    ipureintro
    refine (read_whole3 arg6.view _ _ rfl _ _).trans ?_
    funext y
    refine (pay5_apply _ _ y).trans ?_
    congr 1
    · exact congrFun ((readAt_whole3 arg6.view _ _).trans hf4) y
    · exact loop_sqB _ _ _ _ _ _ _ _ _ _ _ _ _ _ _ x0 _ _ trips_t1 y

end Cert.KernelIdeal.Gen

end
-- ==== Proof.Run.lean ====
module

public import proofs.«01_k».proof.Proof.Body
public import Idealize.ShloMosaic.Lib.Pipeline.FrameBody
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open scoped BigOperators
open Idealize.ShloMosaic.Pipeline (Dat Cfg Window BodyObligation cellOf)

/-! # The run at the ideal values: it terminates, leaves the arguments, and the two results hold the blocks' values -/

local notation "𝕄" => MT nD τ sig Unit (Elt Ideal) ℕ (UR sig nD τ) ℕ

variable (m : (ℓ : Loc nD τ sig) → Buf (Elt Ideal) ℓ) (ρ : Dev nD → PrngReg)

/-- Grid point `n`. -/
def ptN (n : ℕ) : Fin cfg0.N := ⟨n % 32, by rw [show cfg0.N = 32 from N_0]; omega⟩

/-- The sums of squares after point `t`: the points of the batch up to `t`. -/
def accB (c : Dev nD) (t : ℕ) : FVec Ideal S1x8x128 .f32 :=
  fun y => ∑ s ∈ Finset.range (t % 16 + 1), sqB (iblk (F := Ideal) m c 0 (ptN (t / 16 * 16 + s))) y

theorem accB_first (c : Dev nD) (t : Fin cfg0.N) (h : t.val % 16 = 0) : accB m c t.val = sqB (iblk (F := Ideal) m c 0 t) := by
  have hN : t.val < 32 := lt_of_lt_of_eq t.isLt (show cfg0.N = 32 from N_0)
  have e : ptN (t.val / 16 * 16 + 0) = t := Fin.ext (by show (t.val / 16 * 16 + 0) % 32 = t.val; omega)
  funext y
  unfold accB
  rw [h, Finset.sum_range_one, e]

theorem accB_next (c : Dev nD) (t : Fin cfg0.N) (h : 1 ≤ t.val % 16) :
    accB m c t.val = fun y => accB m c (t.val - 1) y + sqB (iblk (F := Ideal) m c 0 t) y := by
  have hN : t.val < 32 := lt_of_lt_of_eq t.isLt (show cfg0.N = 32 from N_0)
  have e : ptN (t.val / 16 * 16 + t.val % 16) = t := Fin.ext (by show (t.val / 16 * 16 + t.val % 16) % 32 = t.val; omega)
  funext y
  unfold accB
  rw [Finset.sum_range_succ, e, show (t.val - 1) % 16 + 1 = t.val % 16 by omega, show (t.val - 1) / 16 = t.val / 16 by omega]

/-- The proof data: the arrays as the region finds them; after the body the inputs at their blocks, the rotated block, and
the sums of squares so far. -/
def dats (_ : Fin 1) (c : Dev nD) : Dat τ (Elt Ideal) Unit ℕ (UR sig nD τ) ℕ cfg0 c where
  A w := V (F := Ideal) m c (Pipeline.arrRef spec0 w)
  after w t := match w with
    | ⟨0, _⟩ => iblk (F := Ideal) m c 0 t
    | ⟨1, _⟩ => iblk (F := Ideal) m c 1 t
    | ⟨2, _⟩ => iblk (F := Ideal) m c 2 t
    | ⟨3, _⟩ => outB (iblk (F := Ideal) m c 0 t) (iblk (F := Ideal) m c 1 t) (iblk (F := Ideal) m c 2 t)
    | ⟨4, _⟩ => accB m c t.val
  Φ _ := Pipeline.ΦA spec0 c
  q _ := fullShare
  owed _ := 0

theorem A_eq (c : Dev nD) (w : Fin cfg0.W) : (dats m 0 c).A w = V (F := Ideal) m c (Pipeline.arrRef spec0 w) := by
  dsimp only [dats]

theorem after0_0 (c : Dev nD) (t : Fin cfg0.N) : (dats m 0 c).after 0 t = iblk (F := Ideal) m c 0 t := by dsimp only [dats]
theorem after0_1 (c : Dev nD) (t : Fin cfg0.N) : (dats m 0 c).after 1 t = iblk (F := Ideal) m c 1 t := by dsimp only [dats]
theorem after0_2 (c : Dev nD) (t : Fin cfg0.N) : (dats m 0 c).after 2 t = iblk (F := Ideal) m c 2 t := by dsimp only [dats]
theorem after0_3 (c : Dev nD) (t : Fin cfg0.N) : (dats m 0 c).after 3 t = outB (iblk (F := Ideal) m c 0 t) (iblk (F := Ideal) m c 1 t) (iblk (F := Ideal) m c 2 t) := by dsimp only [dats]
theorem after0_4 (c : Dev nD) (t : Fin cfg0.N) : (dats m 0 c).after 4 t = accB m c t.val := by dsimp only [dats]

theorem before0_0 (c : Dev nD) (t : Fin cfg0.N) (d) : (dats m 0 c).before 0 t d = iblk (F := Ideal) m c 0 t :=
  before0_0_of (F := Ideal) m (dats m 0 c) (A_eq m c 0) (after0_0 m c) t d
theorem before0_1 (c : Dev nD) (t : Fin cfg0.N) (d) : (dats m 0 c).before 1 t d = iblk (F := Ideal) m c 1 t :=
  before0_1_of (F := Ideal) m (dats m 0 c) (A_eq m c 1) (after0_1 m c) t d
theorem before0_2 (c : Dev nD) (t : Fin cfg0.N) (d) : (dats m 0 c).before 2 t d = iblk (F := Ideal) m c 2 t :=
  before0_2_of (F := Ideal) m (dats m 0 c) (A_eq m c 2) (after0_2 m c) t d

/-! ## The branch conditions and the windows' liveness -/

theorem hcond1 : ∀ t : Fin cfg0.N, k0_cond1 (grid0.coords t) = 1#1 ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [k0_cond1, e0, e1]
    word_cmp
   : ∀ t : Fin grid0.N, k0_cond1 (grid0.coords t) = 1#1 ↔ t.val % 16 = 0)

theorem hcond2 : ∀ t : Fin cfg0.N, k0_cond2 (grid0.coords t) = 1#1 ↔ 1 ≤ t.val % 16 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [k0_cond2, e0, e1]
    word_cmp
   : ∀ t : Fin grid0.N, k0_cond2 (grid0.coords t) = 1#1 ↔ 1 ≤ t.val % 16)

theorem live0 (w : Fin 4) (i) : cfg0.idle (w.castSucc) i = false := by
  match w with
  | ⟨0, _⟩ => rfl
  | ⟨1, _⟩ => rfl
  | ⟨2, _⟩ => rfl
  | ⟨3, _⟩ => rfl

theorem live0_4 (i : grid0.Coords) : cfg0.idle 4 i = false := by
  have key : ∀ a : Fin 16, (!((Scalar.cmpi .ne (Scalar.extui (Scalar.cmpi .eq (BitVec.ofNat 32 a.val) 0#32) : BitVec 32) 0#32 : BitVec 1) == 1#1) && !((Scalar.cmpi .ne (Scalar.extui (Scalar.cmpi .ne (BitVec.ofNat 32 a.val) 0#32) : BitVec 32) 0#32 : BitVec 1) == 1#1)) = false := by decide
  exact key (i 1)

theorem before0_4 (c : Dev nD) (t : Fin cfg0.N) (h : 1 ≤ t.val % 16) (d) : (dats m 0 c).before 4 t d = accB m c (t.val - 1) := by
  have hN : t.val < 32 := lt_of_lt_of_eq t.isLt (show cfg0.N = 32 from N_0)
  refine ((dats m 0 c).before_out_kept 4 rfl t (by omega) ?_ live0_4 (fun _ _ => rfl) d).trans (after0_4 m c _)
  rw [Bool.eq_false_iff]
  intro hf
  have := (flush0_4 _).mp hf
  dsimp only at this
  omega

abbrev ms0_0 (t : Fin cfg0.N) : Memref sig .tc .vmem S1x8x262144 .f32 := win0_0.stage (cfg0.slots t 0)
abbrev ms0_1 (t : Fin cfg0.N) : Memref sig .tc .vmem S1x1x64x8x128 .i32 := win0_1.stage (cfg0.slots t 1)
abbrev ms0_2 (t : Fin cfg0.N) : Memref sig .tc .vmem S256x256 .bf16 := win0_2.stage (cfg0.slots t 2)
abbrev ms0_3 (t : Fin cfg0.N) : Memref sig .tc .vmem S1x8x262144 .f32 := win0_3.stage (cfg0.slots t 3)
abbrev ms0_4 (t : Fin cfg0.N) : Memref sig .tc .vmem S1x8x128 .f32 := win0_4.stage (cfg0.slots t 4)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point, from the two triples. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [live0_4 (grid0.coords t)], after0_4]
  by_cases h0 : t.val % 16 = 0
  · rw [accB_first m c t h0]
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond1 t).mpr h0) (fun h => absurd ((hcond2 t).mp h) (by omega)) (iblk (F := Ideal) m c 0 t) (iblk (F := Ideal) m c 1 t) (iblk (F := Ideal) m c 2 t)) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have h1 : 1 ≤ t.val % 16 := by omega
    rw [accB_next m c t h1]
    simp only [before0_4 m c t h1]
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond1 t).mp h)) ((hcond2 t).mpr h1) (iblk (F := Ideal) m c 0 t) (iblk (F := Ideal) m c 1 t) (iblk (F := Ideal) m c 2 t) (accB m c (t.val - 1))) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- Every fair execution terminates, the arrays holding the proof data's contents, every counter at zero. -/
theorem run_main_quiescent : θ_run defs (onTc (τ := τ) (main (F := Ideal))) (s₀ m ρ)
    (fun r => (Pipeline.FramePost cfgs (dats m) 0 (V (F := Ideal) m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V (F := Ideal) m) (hmain := hmain (F := Ideal) m Variants.none) (hA := A_eq m) (hΦ := fun _ _ => rfl)

theorem run_main : θ_run defs (onTc (τ := τ) (main (F := Ideal))) (s₀ m ρ) (Pipeline.FramePost cfgs (dats m) 0 (V (F := Ideal) m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of (F := Ideal) m ρ (dats m) (A_eq m) (run_main m ρ)

end Cert.KernelIdeal.Gen

end
-- ==== Proof.KVal.lean ====
module

public import proofs.«01_k».proof.Proof.Run
public import proofs.«01_k».proof.Proof.RStage
public import Idealize.ShloMosaic.Lib.StableHlo.Run
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open scoped BigOperators
open Cert.Rot
open Idealize.ShloMosaic.Pipeline (Dat Cfg Window BodyObligation cellOf)

/-! # What the two results hold, in terms of the arguments -/

variable (m : (ℓ : Loc nD τ sig) → Buf (Elt Ideal) ℓ) (ρ : Dev nD → PrngReg)

/-! ## The matrix @main builds -/

/-- The matrix of signs: entry `(a, b)` is `1` less twice the parity of the ones of `a & b`. -/
def hostH : FVec Ideal S256x256 .bf16 :=
  truncf .bf16 (sitofp .f32 (subi (broadcastInDim S256x256 ![] bcast_S_S256x256 (constantI S_ 32 1#32))
    (muli (broadcastInDim S256x256 ![] bcast_S_S256x256 (constantI S_ 32 2#32))
      (andi (ctpop (andi (broadcastInDim S256x256 ![0, 1] bcast_S256x1_S256x256_0_1 (broadcastInDim S256x1 ![0] bcast_S256_S256x1_0 (iotaInDim S256 32 0)))
          (broadcastInDim S256x256 ![0, 1] bcast_S1x256_S256x256_0_1 (broadcastInDim S1x256 ![1] bcast_S256_S1x256_1 (iotaInDim S256 32 0)))))
        (broadcastInDim S256x256 ![] bcast_S_S256x256 (constantI S_ 32 1#32))))) : FVec Ideal S256x256 .f32) bitsLt_bf16_f32

set_option maxHeartbeats 1600000 in
theorem V_main_v14 (c : Dev nD) : V (F := Ideal) m c main_v14 = hostH := by
  unfold V hostOps0
  after_results_simp
  rfl

theorem parity_sign : ∀ n : Fin 256, (1#32 - 2#32 * (IntOp.ctpop (BitVec.ofNat 32 n.val) &&& 1#32)).toInt = wsI 8 n.val := by decide +kernel

theorem hostH_apply (a b : ℕ) (ha : a < 256) (hb : b < 256) : rdM hostH a b = (((wsI 8 (a &&& b) : ℤ) : ℝ) : EReal) := by
  have hab : a &&& b < 256 := Nat.lt_of_le_of_lt Nat.and_le_left ha
  rw [← parity_sign ⟨a &&& b, hab⟩]
  have ea : a % 256 = a := Nat.mod_eq_of_lt ha
  have eb : b % 256 = b := Nat.mod_eq_of_lt hb
  show (((1#32 - 2#32 * (IntOp.ctpop (BitVec.ofNat 32 (a % 256) &&& BitVec.ofNat 32 (b % 256)) &&& 1#32)).toInt : ℝ) : EReal) = _
  rw [ea, eb, BitVec.ofNat_and]

/-! ## The windows' blocks -/

/-- Row group `g` of batch `b`: a block of eight rows. -/
def blkX (x : S2x128x262144.Idx → EReal) (b g : ℕ) : FVec Ideal S1x8x262144 .f32 := fun y => rdX x b (8 * g + (y 1).val) (y 2).val
/-- The words of row group `g` of batch `b`. -/
def blkS (x : S2x16x64x8x128.Idx → BitVec 32) (b g : ℕ) : IVec S1x1x64x8x128 32 := fun y => rdS x b g (y 2).val (y 3).val (y 4).val

theorem index0 : ∀ t : Fin 32, win0_0.index (t.cast N_0.symm) = ![t.val / 16, t.val % 16, 0] := by decide +kernel
theorem index1 : ∀ t : Fin 32, win0_1.index (t.cast N_0.symm) = ![t.val / 16, t.val % 16, 0, 0, 0] := by decide +kernel
theorem index2 : ∀ t : Fin 32, win0_2.index (t.cast N_0.symm) = ![0, 0] := by decide +kernel
theorem index3 : ∀ t : Fin 32, win0_3.index (t.cast N_0.symm) = ![t.val / 16, t.val % 16, 0] := by decide +kernel
theorem index4 : ∀ t : Fin 32, win0_4.index (t.cast N_0.symm) = ![t.val / 16, 0, 0] := by decide +kernel

theorem iblk0 (c : Dev nD) (t : Fin cfg0.N) : iblk (F := Ideal) m c 0 t = blkX (m ((c : Thread nD τ).loc main_arg0)) (t.val / 16) (t.val % 16) := by
  have e := index0 (t.cast N_0)
  funext y
  have hy0 : (y 0).val = 0 := Nat.lt_one_iff.mp (y 0).isLt
  unfold iblk
  rw [View.read_apply]
  show V (F := Ideal) m c main_arg0 ((win0_0.blk t).view.emb y) = _
  rw [V_main_arg0]
  have e0 : win0_0.index t 0 = t.val / 16 := congrFun e 0
  have e1 : win0_0.index t 1 = t.val % 16 := congrFun e 1
  have e2 : win0_0.index t 2 = 0 := congrFun e 2
  refine eq_rdX (m ((c : Thread nD τ).loc main_arg0)) _ _ _ _ ?_ ?_ ?_
  · blk_simp; rw [e0]
  · blk_simp; rw [e1]; omega
  · blk_simp; rw [e2]; omega

theorem iblk1 (c : Dev nD) (t : Fin cfg0.N) : iblk (F := Ideal) m c 1 t = blkS (m ((c : Thread nD τ).loc main_arg1)) (t.val / 16) (t.val % 16) := by
  have e := index1 (t.cast N_0)
  funext y
  have hy0 : (y 0).val = 0 := Nat.lt_one_iff.mp (y 0).isLt
  have hy1 : (y 1).val = 0 := Nat.lt_one_iff.mp (y 1).isLt
  unfold iblk
  rw [View.read_apply]
  show V (F := Ideal) m c main_arg1 ((win0_1.blk t).view.emb y) = _
  rw [V_main_arg1]
  have e0 : win0_1.index t 0 = t.val / 16 := congrFun e 0
  have e1 : win0_1.index t 1 = t.val % 16 := congrFun e 1
  have e2 : win0_1.index t 2 = 0 := congrFun e 2
  have e3 : win0_1.index t 3 = 0 := congrFun e 3
  have e4 : win0_1.index t 4 = 0 := congrFun e 4
  refine eq_rdS (m ((c : Thread nD τ).loc main_arg1)) _ _ _ _ _ _ ?_ ?_ ?_ ?_ ?_
  · blk_simp; rw [e0]
  · blk_simp; rw [e1]
  · blk_simp; rw [e2]; omega
  · blk_simp; rw [e3]; omega
  · blk_simp; rw [e4]; omega

theorem iblk2 (c : Dev nD) (t : Fin cfg0.N) : iblk (F := Ideal) m c 2 t = hostH := by
  have e := index2 (t.cast N_0)
  funext y
  unfold iblk
  rw [View.read_apply]
  show V (F := Ideal) m c main_v14 ((win0_2.blk t).view.emb y) = _
  rw [V_main_v14]
  have e0 : win0_2.index t 0 = 0 := congrFun e 0
  have e1 : win0_2.index t 1 = 0 := congrFun e 1
  congr 1
  funext a
  apply Fin.ext
  match a with
  | ⟨0, _⟩ => show (((win0_2.blk t).view.emb y) 0).val = _; blk_simp; rw [e0]; exact (by omega : 0 * 256 + (y 0).val = (y 0).val)
  | ⟨1, _⟩ => show (((win0_2.blk t).view.emb y) 1).val = _; blk_simp; rw [e1]; exact (by omega : 0 * 256 + (y 1).val = (y 1).val)

/-! ## The results -/

/-- The rotated array: every row group's rotated block. -/
def rotK (x : S2x128x262144.Idx → EReal) (w : S2x16x64x8x128.Idx → BitVec 32) : S2x128x262144.Idx → EReal := fun i =>
  rdB (outB (blkX x (i 0).val ((i 1).val / 8)) (blkS w (i 0).val ((i 1).val / 8)) hostH) ((i 1).val % 8) (i 2).val

/-- The sums of squares: over the sixteen row groups of a batch. -/
def sqK (x : S2x128x262144.Idx → EReal) : S2x8x128.Idx → EReal := fun i =>
  ∑ s ∈ Finset.range 16, ∑ n ∈ Finset.range 2048, rdX x (i 0).val (8 * s + (i 1).val) (128 * n + (i 2).val) * rdX x (i 0).val (8 * s + (i 1).val) (128 * n + (i 2).val)

theorem arr3 (c : Dev nD) : (dats m 0 c).arrAt 3 cfg0.N = rotK (m ((c : Thread nD τ).loc main_arg0)) (m ((c : Thread nD τ).loc main_arg1)) := by
  refine (dats m 0 c).arrAt_eq_of_covers 3 _ (by decide +kernel) fun t hf y => ?_
  blk_simp
  rw [after0_3, iblk0, iblk1, iblk2]
  have hN : t.val < 32 := lt_of_lt_of_eq t.isLt (show cfg0.N = 32 from N_0)
  have e := index3 (t.cast N_0)
  have e0 : win0_3.index t 0 = t.val / 16 := congrFun e 0
  have e1 : win0_3.index t 1 = t.val % 16 := congrFun e 1
  have e2 : win0_3.index t 2 = 0 := congrFun e 2
  have hy0 : (y 0).val = 0 := Nat.lt_one_iff.mp (y 0).isLt
  have hy1 : (y 1).val < 8 := (y 1).isLt
  unfold rotK
  have i0 : (((win0_3.blk t).view.emb y) 0).val = t.val / 16 := by blk_simp; rw [e0]
  have i1 : (((win0_3.blk t).view.emb y) 1).val = 8 * (t.val % 16) + (y 1).val := by blk_simp; rw [e1]; omega
  have i2 : (((win0_3.blk t).view.emb y) 2).val = (y 2).val := by blk_simp; rw [e2]; omega
  show _ = rdB (outB (blkX _ (((win0_3.blk t).view.emb y) 0).val ((((win0_3.blk t).view.emb y) 1).val / 8)) (blkS _ (((win0_3.blk t).view.emb y) 0).val ((((win0_3.blk t).view.emb y) 1).val / 8)) hostH) ((((win0_3.blk t).view.emb y) 1).val % 8) (((win0_3.blk t).view.emb y) 2).val
  rw [i0, i1, i2, show (8 * (t.val % 16) + (y 1).val) / 8 = t.val % 16 by omega, show (8 * (t.val % 16) + (y 1).val) % 8 = (y 1).val by omega]
  exact eq_rdB _ y _ _ rfl rfl

theorem arr4 (c : Dev nD) : (dats m 0 c).arrAt 4 cfg0.N = sqK (m ((c : Thread nD τ).loc main_arg0)) := by
  refine (dats m 0 c).arrAt_eq_of_covers 4 _ (by decide +kernel) fun t hf y => ?_
  have hf' := (flush0_4 t).mp hf
  blk_simp
  rw [after0_4]
  have hN : t.val < 32 := lt_of_lt_of_eq t.isLt (show cfg0.N = 32 from N_0)
  have e := index4 (t.cast N_0)
  have e0 : win0_4.index t 0 = t.val / 16 := congrFun e 0
  have e1 : win0_4.index t 1 = 0 := congrFun e 1
  have e2 : win0_4.index t 2 = 0 := congrFun e 2
  have hy0 : (y 0).val = 0 := Nat.lt_one_iff.mp (y 0).isLt
  have hy1 : (y 1).val < 8 := (y 1).isLt
  have hy2 : (y 2).val < 128 := (y 2).isLt
  have i0 : (((win0_4.blk t).view.emb y) 0).val = t.val / 16 := by blk_simp; rw [e0]
  have i1 : (((win0_4.blk t).view.emb y) 1).val = (y 1).val := by blk_simp; rw [e1]; omega
  have i2 : (((win0_4.blk t).view.emb y) 2).val = (y 2).val := by blk_simp; rw [e2]; omega
  unfold accB sqK
  rw [hf']
  show @Eq EReal (∑ s ∈ Finset.range (15 + 1), sqB (iblk (F := Ideal) m c 0 (ptN (t.val / 16 * 16 + s))) y)
    (∑ s ∈ Finset.range 16, ∑ n ∈ Finset.range 2048,
      rdX _ (((win0_4.blk t).view.emb y) 0).val (8 * s + (((win0_4.blk t).view.emb y) 1).val) (128 * n + (((win0_4.blk t).view.emb y) 2).val)
      * rdX _ (((win0_4.blk t).view.emb y) 0).val (8 * s + (((win0_4.blk t).view.emb y) 1).val) (128 * n + (((win0_4.blk t).view.emb y) 2).val))
  refine Finset.sum_congr rfl fun s hs => ?_
  have hs' := Finset.mem_range.mp hs
  rw [iblk0]
  unfold sqB
  refine Finset.sum_congr rfl fun n hn => ?_
  have hn' := Finset.mem_range.mp hn
  show rdX _ ((t.val / 16 * 16 + s) % 32 / 16) (8 * ((t.val / 16 * 16 + s) % 32 % 16) + (y 1).val % 8) ((128 * n + (y 2).val) % 262144)
      * rdX _ ((t.val / 16 * 16 + s) % 32 / 16) (8 * ((t.val / 16 * 16 + s) % 32 % 16) + (y 1).val % 8) ((128 * n + (y 2).val) % 262144)
    = rdX _ (((win0_4.blk t).view.emb y) 0).val (8 * s + (((win0_4.blk t).view.emb y) 1).val) (128 * n + (((win0_4.blk t).view.emb y) 2).val)
      * rdX _ (((win0_4.blk t).view.emb y) 0).val (8 * s + (((win0_4.blk t).view.emb y) 1).val) (128 * n + (((win0_4.blk t).view.emb y) 2).val)
  rw [i0, i1, i2, show (t.val / 16 * 16 + s) % 32 / 16 = t.val / 16 by omega, show (t.val / 16 * 16 + s) % 32 % 16 = s by omega,
    Nat.mod_eq_of_lt hy1, show (128 * n + (y 2).val) % 262144 = 128 * n + (y 2).val by omega]

/-- The kernel's run: both results named, the arguments unchanged. -/
theorem run_values : θ_run defs (onTc (τ := τ) (main (F := Ideal))) ⟨m, fun _ => 0, ρ⟩ (fun r => ∀ c : Dev nD,
      r.2.mem ((c.tc : Thread nD τ).loc main_v15_0) = rotK (m ((c.tc : Thread nD τ).loc main_arg0)) (m ((c.tc : Thread nD τ).loc main_arg1))
      ∧ r.2.mem ((c.tc : Thread nD τ).loc main_v15_1) = sqK (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 3 |>.trans (arr3 m c), (h.1 c).1 4 |>.trans (arr4 m c), (h.2 c).1, (h.2 c).2⟩)
    (θ_run_and (run_main m ρ) (unchanged m ρ))

end Cert.KernelIdeal.Gen

end
-- ==== Proof.RVal.lean ====
module

public import proofs.«01_k».proof.Proof.RStage
public import proofs.«01_k».proof.Proof.RefRead

@[expose] public section

set_option maxRecDepth 16384

noncomputable section

namespace Cert.ReferenceIdeal.Read

open Cert.ReferenceIdeal Cert.ReferenceIdeal.Gen Idealize.ShloMosaic Idealize.ShloMosaic.TcCoe Idealize.ShloMosaic.ValueIdx Cert.Rot
open scoped BigOperators

/-! # What the reference's two results hold -/

variable (x0 : FVec Ideal S2x128x262144 .f32) (x1 : IVec S2x16x64x8x128 32)

/-! ## The signs -/

theorem bit_toInt (w : BitVec 32) (k : ℕ) (hk : k < 32) :
    (IntOp.shrui .host w (BitVec.ofNat 32 k) &&& 1#32).toInt = if w.getLsbD k then 1 else 0 := by
  have hk' : (BitVec.ofNat 32 k).toNat = k := by rw [BitVec.toNat_ofNat]; exact Nat.mod_eq_of_lt (by omega)
  have e : IntOp.shrui .host w (BitVec.ofNat 32 k) = w >>> k := by
    unfold IntOp.shrui
    rw [if_pos (by rw [hk']; exact hk), BitVec.ushiftRight_eq', hk']
  rw [e]
  have : w >>> k &&& 1#32 = if w.getLsbD k then 1#32 else 0#32 := by
    apply BitVec.eq_of_getLsbD_eq
    intro i hi
    rw [BitVec.getLsbD_and, BitVec.getLsbD_ushiftRight]
    rcases Nat.eq_zero_or_pos i with h | h
    · subst h; cases w.getLsbD k <;> rfl
    · have e1 : (1#32).getLsbD i = false := by
        rw [BitVec.getLsbD_one]; simp; omega
      rw [e1]; cases w.getLsbD k <;> simp [e1]
  rw [this]
  cases w.getLsbD k <;> rfl

theorem ofBits_two : Ideal.ofBits .f32 0x40000000#32 = ((2 : ℝ) : EReal) := by
  simp [Ideal.ofBits, Ideal.ieee]
  rw [← EReal.coe_mul]
  norm_num

/-- The unpacked sign of bit `k` of a word. -/
theorem sign_apply (b : Fin 2) (g : Fin 16) (r : Fin 8) (n : Fin 64) (k : Fin 32) (l : Fin 128) :
    val_main_v13 (F := Ideal) x1 (ix6 b g r n k l) = ((sgnR (rdS x1 b.val g.val n.val r.val l.val) k.val : ℝ) : EReal) := by
  rw [val_main_v13_apply, val_main_v12_apply, val_main_v11_apply, val_main_v10_apply, val_main_v9_apply, val_main_v8_apply, val_main_v7_apply,
    val_main_v6_apply, val_main_v5_apply, val_main_v4_apply, val_main_v3_apply, val_main_v2_apply, val_main_v1_apply, val_main_v0_apply]
  rw [eq_rdS x1 _ b.val g.val n.val r.val l.val rfl rfl rfl rfl rfl]
  show Ideal.ofBits .f32 0x3F800000#32 - Ideal.ofBits .f32 0x40000000#32 * (((IntOp.shrui .host (rdS x1 b.val g.val n.val r.val l.val) (BitVec.ofNat 32 k.val) &&& 1#32).toInt : ℝ) : EReal) = _
  rw [bit_toInt _ _ k.isLt, Ideal.ofBits_one_f32, ofBits_two]
  unfold sgnR
  cases (rdS x1 b.val g.val n.val r.val l.val).getLsbD k.val
  · norm_num
  · rw [← EReal.coe_mul, ← EReal.coe_one, ← EReal.coe_sub]; norm_num

/-- The signed entry of row `r`, column `d` of a group of eight rows, at finite columns `v`. -/
def sgnV (x : A3.Idx → ℝ) (w : A5.Idx → BitVec 32) (b g r d : ℕ) : ℝ := rdX x b (8 * g + r) d * sgnR (rdS w b g (d / 4096) r (d % 128)) (d / 128 % 32)

theorem signed_apply (x : A3.Idx → ℝ) (hx : x0 = fun i => ((x i : ℝ) : EReal)) (b g r d : ℕ) (hb : b < 2) (hg : g < 16) (hr : r < 8) (hd : d < 262144) :
    rdR (val_main_v16 (F := Ideal) x0 x1) b g r d = ((sgnV x x1 b g r d : ℝ) : EReal) := by
  unfold rdR val_main_v16
  refine (shapeCast_apply _ _ _ (ix3 (⟨b, hb⟩ : Fin 2) (⟨8 * g + r, by omega⟩ : Fin 128) (⟨d, hd⟩ : Fin 262144)) ?_).trans ?_
  · rw [Shape.rowMajor_val_three, Shape.rowMajor_val_four]
    show (b * 128 + (8 * g + r)) * 262144 + d = ((b % 2 * 16 + g % 16) * 8 + r % 8) * 262144 + d % 262144
    omega
  rw [val_main_v15_apply]
  unfold val_main_v14
  have e := shapeCast_apply (t := S2x128x262144) (val_main_v13 (F := Ideal) x1) shapeCasts_S2x16x8x64x32x128_S2x128x262144
    (ix3 (⟨b, hb⟩ : Fin 2) (⟨8 * g + r, by omega⟩ : Fin 128) (⟨d, hd⟩ : Fin 262144))
    (ix6 (⟨b, hb⟩ : Fin 2) (⟨g, hg⟩ : Fin 16) (⟨r, hr⟩ : Fin 8) (⟨d / 4096, by omega⟩ : Fin 64) (⟨d / 128 % 32, by omega⟩ : Fin 32) (⟨d % 128, by omega⟩ : Fin 128)) (by
      rw [Shape.rowMajor_val_three, Shape.rowMajor_val_six]
      show ((((b * 16 + g) * 8 + r) * 64 + d / 4096) * 32 + d / 128 % 32) * 128 + d % 128 = (b * 128 + (8 * g + r)) * 262144 + d
      omega)
  rw [e, sign_apply, hx]
  show ((sgnR _ _ : ℝ) : EReal) * ((x _ : ℝ) : EReal) = _
  rw [← EReal.coe_mul, mul_comm, eq_rdX x _ b (8 * g + r) d rfl rfl rfl]
  rfl

/-! ## The stages -/

/-- An array of rows whose entries are the real numbers `v b g r d`. -/
def Holds (X : FVec Ideal S4 .f32) (v : ℕ → ℕ → ℕ → ℕ → ℝ) : Prop :=
  ∀ b < 2, ∀ g < 16, ∀ r < 8, ∀ d < 262144, rdR X b g r d = ((v b g r d : ℝ) : EReal)

theorem sstE_congr {h : ℕ} {v : ℕ → EReal} {w : ℕ → ℝ} {N d : ℕ} (hv : ∀ e < N, v e = ((w e : ℝ) : EReal)) (hd : d < N) (hN : N % (2 * h) = 0) :
    sstE h v d = ((sstR h w d : ℝ) : EReal) := by
  rw [← sstE_coe]
  unfold sstE
  by_cases e : d / h % 2 = 0
  · rw [if_pos e, if_pos e, hv d hd, hv (d + h) ?_]
    rcases Nat.eq_zero_or_pos h with h0 | h0
    · omega
    have e1 : d / (2 * h) < N / (2 * h) := by
      rw [Nat.div_lt_iff_lt_mul (by omega)]
      have := Nat.div_add_mod N (2 * h)
      rw [hN, Nat.add_zero, Nat.mul_comm] at this
      omega
    have e2 : (d / (2 * h) + 1) * (2 * h) ≤ N / (2 * h) * (2 * h) := Nat.mul_le_mul_right _ e1
    have e3 : N / (2 * h) * (2 * h) = N := by
      have := Nat.div_add_mod N (2 * h)
      rw [hN, Nat.add_zero, Nat.mul_comm] at this
      exact this
    have e4 : d / h = 2 * (d / (2 * h)) := by rw [Nat.mul_comm 2 h, ← Nat.div_div_eq_div_mul]; omega
    have e5 := Nat.div_add_mod d h
    have e6 := Nat.mod_lt d h0
    rw [e4] at e5
    have e7 : h * (2 * (d / (2 * h))) = d / (2 * h) * (2 * h) := by ring
    rw [Nat.add_mul] at e2
    omega
  · rw [if_neg e, if_neg e, hv d hd, hv (d - h) (by omega)]

theorem Holds.stageD {X : FVec Ideal S4 .f32} {v : ℕ → ℕ → ℕ → ℕ → ℝ} (k m h : ℕ) (hX : Holds X fun b g r => stagesR k (v b g r)) (hk : h = 2 ^ k) (hmh : m * (2 * h) = 262144)
    {hc hs0 hs1 hr hb hcat hr2} : Holds (stageD m h X hc hs0 hs1 hr hb hcat hr2) fun b g r => stagesR (k + 1) (v b g r) := by
  subst hk
  intro b hb' g hg r hr' d hd
  rw [stageD_apply _ _ _ _ _ _ _ _ _ _ hmh b g r d hb' hg hr' hd]
  exact sstE_congr (N := 262144) (fun e he => hX b hb' g hg r hr' e he) hd (by rw [← hmh]; exact Nat.mul_mod_left _ _)

theorem Holds.stageR {X : FVec Ideal S4 .f32} {v : ℕ → ℕ → ℕ → ℕ → ℝ} (k m h : ℕ) (hX : Holds X fun b g r d => stagesR k (fun r' => v b g r' d) r) (hk : h = 2 ^ k) (hmh : m * (2 * h) = 8)
    {hc hs0 hs1 hr hb hcat hr2} : Holds (stageR m h X hc hs0 hs1 hr hb hcat hr2) fun b g r d => stagesR (k + 1) (fun r' => v b g r' d) r := by
  subst hk
  intro b hb' g hg r hr' d hd
  rw [stageR_apply _ _ _ _ _ _ _ _ _ _ hmh b g r d hb' hg hr' hd]
  exact sstE_congr (N := 8) (fun e he => hX b hb' g hg e he d hd) hr' (by rw [← hmh]; exact Nat.mul_mod_left _ _)

/-- No stage yet: the signed entries. -/
theorem holds_v16 (x : A3.Idx → ℝ) (hx : x0 = fun i => ((x i : ℝ) : EReal)) : Holds (val_main_v16 (F := Ideal) x0 x1) fun b g r => stagesR 0 (sgnV x x1 b g r) :=
  fun b hb g hg r hr d hd => signed_apply x0 x1 x hx b g r d hb hg hr hd
theorem holds_v27 (x : A3.Idx → ℝ) (hx : x0 = fun i => ((x i : ℝ) : EReal)) : Holds (val_main_v27 x0 x1) fun b g r => stagesR 1 (sgnV x x1 b g r) := by
  unfold val_main_v27
  exact Holds.stageD 0 131072 1 (holds_v16 x0 x1 x hx) rfl rfl
theorem holds_v38 (x : A3.Idx → ℝ) (hx : x0 = fun i => ((x i : ℝ) : EReal)) : Holds (val_main_v38 x0 x1) fun b g r => stagesR 2 (sgnV x x1 b g r) := by
  unfold val_main_v38
  exact Holds.stageD 1 65536 2 (holds_v27 x0 x1 x hx) rfl rfl
theorem holds_v49 (x : A3.Idx → ℝ) (hx : x0 = fun i => ((x i : ℝ) : EReal)) : Holds (val_main_v49 x0 x1) fun b g r => stagesR 3 (sgnV x x1 b g r) := by
  unfold val_main_v49
  exact Holds.stageD 2 32768 4 (holds_v38 x0 x1 x hx) rfl rfl
theorem holds_v60 (x : A3.Idx → ℝ) (hx : x0 = fun i => ((x i : ℝ) : EReal)) : Holds (val_main_v60 x0 x1) fun b g r => stagesR 4 (sgnV x x1 b g r) := by
  unfold val_main_v60
  exact Holds.stageD 3 16384 8 (holds_v49 x0 x1 x hx) rfl rfl
theorem holds_v71 (x : A3.Idx → ℝ) (hx : x0 = fun i => ((x i : ℝ) : EReal)) : Holds (val_main_v71 x0 x1) fun b g r => stagesR 5 (sgnV x x1 b g r) := by
  unfold val_main_v71
  exact Holds.stageD 4 8192 16 (holds_v60 x0 x1 x hx) rfl rfl
theorem holds_v82 (x : A3.Idx → ℝ) (hx : x0 = fun i => ((x i : ℝ) : EReal)) : Holds (val_main_v82 x0 x1) fun b g r => stagesR 6 (sgnV x x1 b g r) := by
  unfold val_main_v82
  exact Holds.stageD 5 4096 32 (holds_v71 x0 x1 x hx) rfl rfl
theorem holds_v93 (x : A3.Idx → ℝ) (hx : x0 = fun i => ((x i : ℝ) : EReal)) : Holds (val_main_v93 x0 x1) fun b g r => stagesR 7 (sgnV x x1 b g r) := by
  unfold val_main_v93
  exact Holds.stageD 6 2048 64 (holds_v82 x0 x1 x hx) rfl rfl
theorem holds_v104 (x : A3.Idx → ℝ) (hx : x0 = fun i => ((x i : ℝ) : EReal)) : Holds (val_main_v104 x0 x1) fun b g r => stagesR 8 (sgnV x x1 b g r) := by
  unfold val_main_v104
  exact Holds.stageD 7 1024 128 (holds_v93 x0 x1 x hx) rfl rfl
theorem holds_v115 (x : A3.Idx → ℝ) (hx : x0 = fun i => ((x i : ℝ) : EReal)) : Holds (val_main_v115 x0 x1) fun b g r => stagesR 9 (sgnV x x1 b g r) := by
  unfold val_main_v115
  exact Holds.stageD 8 512 256 (holds_v104 x0 x1 x hx) rfl rfl
theorem holds_v126 (x : A3.Idx → ℝ) (hx : x0 = fun i => ((x i : ℝ) : EReal)) : Holds (val_main_v126 x0 x1) fun b g r => stagesR 10 (sgnV x x1 b g r) := by
  unfold val_main_v126
  exact Holds.stageD 9 256 512 (holds_v115 x0 x1 x hx) rfl rfl
theorem holds_v137 (x : A3.Idx → ℝ) (hx : x0 = fun i => ((x i : ℝ) : EReal)) : Holds (val_main_v137 x0 x1) fun b g r => stagesR 11 (sgnV x x1 b g r) := by
  unfold val_main_v137
  exact Holds.stageD 10 128 1024 (holds_v126 x0 x1 x hx) rfl rfl
theorem holds_v148 (x : A3.Idx → ℝ) (hx : x0 = fun i => ((x i : ℝ) : EReal)) : Holds (val_main_v148 x0 x1) fun b g r => stagesR 12 (sgnV x x1 b g r) := by
  unfold val_main_v148
  exact Holds.stageD 11 64 2048 (holds_v137 x0 x1 x hx) rfl rfl
theorem holds_v159 (x : A3.Idx → ℝ) (hx : x0 = fun i => ((x i : ℝ) : EReal)) : Holds (val_main_v159 x0 x1) fun b g r => stagesR 13 (sgnV x x1 b g r) := by
  unfold val_main_v159
  exact Holds.stageD 12 32 4096 (holds_v148 x0 x1 x hx) rfl rfl
theorem holds_v170 (x : A3.Idx → ℝ) (hx : x0 = fun i => ((x i : ℝ) : EReal)) : Holds (val_main_v170 x0 x1) fun b g r => stagesR 14 (sgnV x x1 b g r) := by
  unfold val_main_v170
  exact Holds.stageD 13 16 8192 (holds_v159 x0 x1 x hx) rfl rfl
theorem holds_v181 (x : A3.Idx → ℝ) (hx : x0 = fun i => ((x i : ℝ) : EReal)) : Holds (val_main_v181 x0 x1) fun b g r => stagesR 15 (sgnV x x1 b g r) := by
  unfold val_main_v181
  exact Holds.stageD 14 8 16384 (holds_v170 x0 x1 x hx) rfl rfl
theorem holds_v192 (x : A3.Idx → ℝ) (hx : x0 = fun i => ((x i : ℝ) : EReal)) : Holds (val_main_v192 x0 x1) fun b g r => stagesR 16 (sgnV x x1 b g r) := by
  unfold val_main_v192
  exact Holds.stageD 15 4 32768 (holds_v181 x0 x1 x hx) rfl rfl
theorem holds_v203 (x : A3.Idx → ℝ) (hx : x0 = fun i => ((x i : ℝ) : EReal)) : Holds (val_main_v203 x0 x1) fun b g r => stagesR 17 (sgnV x x1 b g r) := by
  unfold val_main_v203
  exact Holds.stageD 16 2 65536 (holds_v192 x0 x1 x hx) rfl rfl
theorem holds_v214 (x : A3.Idx → ℝ) (hx : x0 = fun i => ((x i : ℝ) : EReal)) : Holds (val_main_v214 x0 x1) fun b g r => stagesR 18 (sgnV x x1 b g r) := by
  unfold val_main_v214
  exact Holds.stageD 17 1 131072 (holds_v203 x0 x1 x hx) rfl rfl
/-- All eighteen stages along the columns done, none yet across the rows. -/
theorem holds_cols (x : A3.Idx → ℝ) (hx : x0 = fun i => ((x i : ℝ) : EReal)) : Holds (val_main_v214 x0 x1) fun b g r d => stagesR 0 (fun r' => stagesR 18 (sgnV x x1 b g r') d) r :=
  holds_v214 x0 x1 x hx
theorem holds_v225 (x : A3.Idx → ℝ) (hx : x0 = fun i => ((x i : ℝ) : EReal)) : Holds (val_main_v225 x0 x1) fun b g r d => stagesR 1 (fun r' => stagesR 18 (sgnV x x1 b g r') d) r := by
  unfold val_main_v225
  exact Holds.stageR (v := fun b g r d => stagesR 18 (sgnV x x1 b g r) d) 0 4 1 (holds_cols x0 x1 x hx) rfl rfl
theorem holds_v236 (x : A3.Idx → ℝ) (hx : x0 = fun i => ((x i : ℝ) : EReal)) : Holds (val_main_v236 x0 x1) fun b g r d => stagesR 2 (fun r' => stagesR 18 (sgnV x x1 b g r') d) r := by
  unfold val_main_v236
  exact Holds.stageR (v := fun b g r d => stagesR 18 (sgnV x x1 b g r) d) 1 2 2 (holds_v225 x0 x1 x hx) rfl rfl
theorem holds_v247 (x : A3.Idx → ℝ) (hx : x0 = fun i => ((x i : ℝ) : EReal)) : Holds (val_main_v247 x0 x1) fun b g r d => stagesR 3 (fun r' => stagesR 18 (sgnV x x1 b g r') d) r := by
  unfold val_main_v247
  exact Holds.stageR (v := fun b g r d => stagesR 18 (sgnV x x1 b g r) d) 2 1 4 (holds_v236 x0 x1 x hx) rfl rfl

/-- The first result at batch `b`, row `8 g + r`, column `d`: the rotation of the signed rows of group `g`. -/
theorem v251_apply (x : A3.Idx → ℝ) (hx : x0 = fun i => ((x i : ℝ) : EReal)) (i : S2x128x262144.Idx) :
    val_main_v251 x0 x1 i = ((rotR (sgnV x x1 (i 0).val ((i 1).val / 8)) ((i 1).val % 8) (i 2).val : ℝ) : EReal) := by
  have h0 : (i 0).val < 2 := (i 0).isLt
  have h1 : (i 1).val < 128 := (i 1).isLt
  have h2 : (i 2).val < 262144 := (i 2).isLt
  unfold val_main_v251
  refine (shapeCast_apply _ _ i (ix4 (⟨(i 0).val, h0⟩ : Fin 2) (⟨(i 1).val / 8, by omega⟩ : Fin 16) (⟨(i 1).val % 8, by omega⟩ : Fin 8) (⟨(i 2).val, h2⟩ : Fin 262144)) ?_).trans ?_
  · rw [Shape.rowMajor_val_four, Shape.rowMajor_val_three]
    show (((i 0).val * 16 + (i 1).val / 8) * 8 + (i 1).val % 8) * 262144 + (i 2).val = ((i 0).val * 128 + (i 1).val) * 262144 + (i 2).val
    omega
  rw [eq_rdR (val_main_v247 x0 x1) _ (i 0).val ((i 1).val / 8) ((i 1).val % 8) (i 2).val rfl rfl rfl rfl]
  exact holds_v247 x0 x1 x hx _ h0 _ (by omega) _ (by omega) _ h2

/-! ## The sums of squares -/

theorem v250_apply (i : S2x8x128.Idx) : val_main_v250 (F := Ideal) x0 i
    = ∑ s ∈ Finset.range 16, ∑ n ∈ Finset.range 2048, rdX x0 (i 0).val (8 * s + (i 1).val) (128 * n + (i 2).val) * rdX x0 (i 0).val (8 * s + (i 1).val) (128 * n + (i 2).val) := by
  have h0 : (i 0).val < 2 := (i 0).isLt
  have h1 : (i 1).val < 8 := (i 1).isLt
  have h2 : (i 2).val < 128 := (i 2).isLt
  have hdrop (k : S2x16x8x2048x128.Idx) : (reducesTo_S2x16x8x2048x128_S2x8x128_d1_3.drop k = i) ↔ ((k 0).val = (i 0).val ∧ (k 2).val = (i 1).val ∧ (k 4).val = (i 2).val) := by
    constructor
    · rintro rfl
      exact ⟨rfl, rfl, rfl⟩
    · rintro ⟨a, b, c⟩
      funext j
      match j with
      | ⟨0, _⟩ => exact Fin.ext a
      | ⟨1, _⟩ => exact Fin.ext b
      | ⟨2, _⟩ => exact Fin.ext c
  show Ideal.ofBits .f32 0x00000000#32 + ∑ k ∈ Finset.univ.filter (fun k => reducesTo_S2x16x8x2048x128_S2x8x128_d1_3.drop k = i), val_main_v249 (F := Ideal) x0 k = _
  rw [Ideal.ofBits_zero_f32, zero_add, ← Finset.sum_product']
  refine Finset.sum_bij' (fun k _ => ((k 1).val, (k 3).val))
    (fun p _ => ix5 (⟨(i 0).val, h0⟩ : Fin 2) (Fin.ofNat 16 p.1) (⟨(i 1).val, h1⟩ : Fin 8) (Fin.ofNat 2048 p.2) (⟨(i 2).val, h2⟩ : Fin 128)) ?_ ?_ ?_ ?_ ?_
  · intro k _
    exact Finset.mem_product.mpr ⟨Finset.mem_range.mpr (k 1).isLt, Finset.mem_range.mpr (k 3).isLt⟩
  · intro p _
    exact Finset.mem_filter.mpr ⟨Finset.mem_univ _, (hdrop _).mpr ⟨rfl, rfl, rfl⟩⟩
  · intro k hk
    obtain ⟨a, b, c⟩ := (hdrop k).mp (Finset.mem_filter.mp hk).2
    funext j
    match j with
    | ⟨0, _⟩ => exact Fin.ext a.symm
    | ⟨1, _⟩ => exact Fin.ext (Nat.mod_eq_of_lt (k 1).isLt)
    | ⟨2, _⟩ => exact Fin.ext b.symm
    | ⟨3, _⟩ => exact Fin.ext (Nat.mod_eq_of_lt (k 3).isLt)
    | ⟨4, _⟩ => exact Fin.ext c.symm
  · rintro ⟨p, q⟩ hp
    obtain ⟨hp, hq⟩ := Finset.mem_product.mp hp
    exact Prod.ext (Nat.mod_eq_of_lt (Finset.mem_range.mp hp)) (Nat.mod_eq_of_lt (Finset.mem_range.mp hq))
  · intro k hk
    obtain ⟨a, b, c⟩ := (hdrop k).mp (Finset.mem_filter.mp hk).2
    have k1 : (k 1).val < 16 := (k 1).isLt
    have k3 : (k 3).val < 2048 := (k 3).isLt
    rw [val_main_v249_apply, val_main_v248_apply, eq_rdX x0 _ (i 0).val (8 * (k 1).val + (i 1).val) (128 * (k 3).val + (i 2).val)
      (by show (((((k 0).val * 16 + (k 1).val) * 8 + (k 2).val) * 2048 + (k 3).val) * 128 + (k 4).val) / 33554432 = _; omega)
      (by show (((((k 0).val * 16 + (k 1).val) * 8 + (k 2).val) * 2048 + (k 3).val) * 128 + (k 4).val) / 262144 % 128 = _; omega)
      (by show (((((k 0).val * 16 + (k 1).val) * 8 + (k 2).val) * 2048 + (k 3).val) * 128 + (k 4).val) % 262144 = _; omega)]
    rfl

end Cert.ReferenceIdeal.Read

end
-- ==== Proof.Link.lean ====
module

public import proofs.«01_k».proof.Proof.KVal
public import proofs.«01_k».proof.Proof.RVal

@[expose] public section

set_option maxRecDepth 16384

noncomputable section

namespace Cert.Rot

open Idealize.ShloMosaic Cert.KernelIdeal Cert.KernelIdeal.Gen Cert.ReferenceIdeal.Read
open scoped BigOperators

/-! # What the kernel leaves is what the reference leaves, at finite entries -/

/-- One tile of the signed rows of a group, in the reference's coordinates. -/
theorem tile_eq (x : A3.Idx → ℝ) (w : A5.Idx → BitVec 32) (b g t a e : ℕ) (ht : t < 32) (ha : a < 256) (he : e < 256) :
    rdM (tileV (blkX (fun i => ((x i : ℝ) : EReal)) b g) (blkS w b g) t) a e = ((sgnV x w b g (a % 8) (8192 * t + 256 * (a / 8) + e) : ℝ) : EReal) := by
  show (((rdX x b (8 * g + a % 256 % 8 % 8) ((8192 * t + 256 * (a % 256 / 8) + e % 256) % 262144) : ℝ) : EReal)
    * ((sgnR (rdS w b g ((2 * t + a % 256 / 128) % 64) (a % 256 % 8 % 8) (e % 256 % 128 % 128)) (2 * (a % 256 / 8 % 16) + e % 256 / 128) : ℝ) : EReal)) = _
  rw [← EReal.coe_mul]
  unfold sgnV
  rw [show a % 256 % 8 % 8 = a % 8 by omega, show (8192 * t + 256 * (a % 256 / 8) + e % 256) % 262144 = 8192 * t + 256 * (a / 8) + e by omega,
    show (2 * t + a % 256 / 128) % 64 = (8192 * t + 256 * (a / 8) + e) / 4096 by omega, show e % 256 % 128 % 128 = (8192 * t + 256 * (a / 8) + e) % 128 by omega,
    show 2 * (a % 256 / 8 % 16) + e % 256 / 128 = (8192 * t + 256 * (a / 8) + e) / 128 % 32 by omega]

/-- The kernel's rotated rows are the reference's. -/
theorem rotK_apply (x : A3.Idx → ℝ) (w : A5.Idx → BitVec 32) (i : S2x128x262144.Idx) :
    rotK (fun j => ((x j : ℝ) : EReal)) w i = ((rotR (sgnV x w (i 0).val ((i 1).val / 8)) ((i 1).val % 8) (i 2).val : ℝ) : EReal) := by
  have h2 : (i 2).val < 262144 := (i 2).isLt
  show bfly (fun t => rdM (turnT hostH (tileV (blkX (fun j => ((x j : ℝ) : EReal)) (i 0).val ((i 1).val / 8)) (blkS w (i 0).val ((i 1).val / 8)) t))
    (8 * ((i 2).val % 262144 % 8192 / 256) + (i 1).val % 8 % 8) ((i 2).val % 262144 % 256)) ((i 2).val % 262144 / 8192) = _
  rw [Nat.mod_eq_of_lt h2, Nat.mod_mod]
  generalize (i 0).val = b, hg : (i 1).val / 8 = g, hr : (i 1).val % 8 = r, (i 2).val = d at h2
  have hr8 : r < 8 := by omega
  rw [bfly_congr (w := fun t => ((∑ j ∈ Finset.range 256, wR 8 (8 * (d % 8192 / 256) + r) j * ∑ e ∈ Finset.range 256, sgnV x w b g (j % 8) (8192 * t + 256 * (j / 8) + e) * wR 8 e (d % 256) : ℝ) : EReal)) (fun t ht => ?_) _ (by omega)]
  · rw [bfly_coe]
    exact congrArg (fun z : ℝ => (z : EReal)) (tiles_eq_rotR (sgnV x w b g) r d hr8 h2)
  · exact turnT_apply (tileV (blkX (fun j => ((x j : ℝ) : EReal)) b g) (blkS w b g) t) hostH
      (fun a e => sgnV x w b g (a % 8) (8192 * t + 256 * (a / 8) + e)) (fun a e => wR 8 a e)
      (fun a ha e he => tile_eq x w b g t a e ht ha he) (fun a ha e he => hostH_apply a e ha he) _ _ (by omega) (by omega)

/-- The two results agree wherever the entries are finite. -/
theorem results_eq (x0 : A3.Idx → EReal) (w : A5.Idx → BitVec 32) (hx : ∀ i, ∃ r : ℝ, x0 i = (r : EReal)) :
    rotK x0 w = val_main_v251 x0 w ∧ sqK x0 = val_main_v250 (F := Ideal) x0 := by
  refine ⟨?_, funext fun i => (v250_apply x0 i).symm⟩
  choose x hx using hx
  have e : x0 = fun i => ((x i : ℝ) : EReal) := funext hx
  funext i
  rw [v251_apply x0 w x e i, e]
  exact rotK_apply x w i

end Cert.Rot

end
-- ==== Proof.ELoop.lean ====
module

public import proofs.«01_k».proof.Proof.Gen.Decode.Frame
public import proofs.«01_k».proof.Proof.Gen.Decode.Loops

@[expose] public section

set_option maxRecDepth 65536
set_option maxHeartbeats 0

noncomputable section

namespace Cert.Decode.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- A column at which a group of stored runs begins. -/
class Start (a : ℕ) : Prop where
  le : a ≤ 260096

instance : Start 0 := ⟨by decide⟩
instance : Start 2048 := ⟨by decide⟩
instance : Start 4096 := ⟨by decide⟩
instance : Start 6144 := ⟨by decide⟩
instance : Start 8192 := ⟨by decide⟩
instance : Start 10240 := ⟨by decide⟩
instance : Start 12288 := ⟨by decide⟩
instance : Start 14336 := ⟨by decide⟩
instance : Start 16384 := ⟨by decide⟩
instance : Start 18432 := ⟨by decide⟩
instance : Start 20480 := ⟨by decide⟩
instance : Start 22528 := ⟨by decide⟩
instance : Start 24576 := ⟨by decide⟩
instance : Start 26624 := ⟨by decide⟩
instance : Start 28672 := ⟨by decide⟩
instance : Start 30720 := ⟨by decide⟩
instance : Start 32768 := ⟨by decide⟩
instance : Start 34816 := ⟨by decide⟩
instance : Start 36864 := ⟨by decide⟩
instance : Start 38912 := ⟨by decide⟩
instance : Start 40960 := ⟨by decide⟩
instance : Start 43008 := ⟨by decide⟩
instance : Start 45056 := ⟨by decide⟩
instance : Start 47104 := ⟨by decide⟩
instance : Start 49152 := ⟨by decide⟩
instance : Start 51200 := ⟨by decide⟩
instance : Start 53248 := ⟨by decide⟩
instance : Start 55296 := ⟨by decide⟩
instance : Start 57344 := ⟨by decide⟩
instance : Start 59392 := ⟨by decide⟩
instance : Start 61440 := ⟨by decide⟩
instance : Start 63488 := ⟨by decide⟩
instance : Start 65536 := ⟨by decide⟩
instance : Start 67584 := ⟨by decide⟩
instance : Start 69632 := ⟨by decide⟩
instance : Start 71680 := ⟨by decide⟩
instance : Start 73728 := ⟨by decide⟩
instance : Start 75776 := ⟨by decide⟩
instance : Start 77824 := ⟨by decide⟩
instance : Start 79872 := ⟨by decide⟩
instance : Start 81920 := ⟨by decide⟩
instance : Start 83968 := ⟨by decide⟩
instance : Start 86016 := ⟨by decide⟩
instance : Start 88064 := ⟨by decide⟩
instance : Start 90112 := ⟨by decide⟩
instance : Start 92160 := ⟨by decide⟩
instance : Start 94208 := ⟨by decide⟩
instance : Start 96256 := ⟨by decide⟩
instance : Start 98304 := ⟨by decide⟩
instance : Start 100352 := ⟨by decide⟩
instance : Start 102400 := ⟨by decide⟩
instance : Start 104448 := ⟨by decide⟩
instance : Start 106496 := ⟨by decide⟩
instance : Start 108544 := ⟨by decide⟩
instance : Start 110592 := ⟨by decide⟩
instance : Start 112640 := ⟨by decide⟩
instance : Start 114688 := ⟨by decide⟩
instance : Start 116736 := ⟨by decide⟩
instance : Start 118784 := ⟨by decide⟩
instance : Start 120832 := ⟨by decide⟩
instance : Start 122880 := ⟨by decide⟩
instance : Start 124928 := ⟨by decide⟩
instance : Start 126976 := ⟨by decide⟩
instance : Start 129024 := ⟨by decide⟩
instance : Start 131072 := ⟨by decide⟩
instance : Start 133120 := ⟨by decide⟩
instance : Start 135168 := ⟨by decide⟩
instance : Start 137216 := ⟨by decide⟩
instance : Start 139264 := ⟨by decide⟩
instance : Start 141312 := ⟨by decide⟩
instance : Start 143360 := ⟨by decide⟩
instance : Start 145408 := ⟨by decide⟩
instance : Start 147456 := ⟨by decide⟩
instance : Start 149504 := ⟨by decide⟩
instance : Start 151552 := ⟨by decide⟩
instance : Start 153600 := ⟨by decide⟩
instance : Start 155648 := ⟨by decide⟩
instance : Start 157696 := ⟨by decide⟩
instance : Start 159744 := ⟨by decide⟩
instance : Start 161792 := ⟨by decide⟩
instance : Start 163840 := ⟨by decide⟩
instance : Start 165888 := ⟨by decide⟩
instance : Start 167936 := ⟨by decide⟩
instance : Start 169984 := ⟨by decide⟩
instance : Start 172032 := ⟨by decide⟩
instance : Start 174080 := ⟨by decide⟩
instance : Start 176128 := ⟨by decide⟩
instance : Start 178176 := ⟨by decide⟩
instance : Start 180224 := ⟨by decide⟩
instance : Start 182272 := ⟨by decide⟩
instance : Start 184320 := ⟨by decide⟩
instance : Start 186368 := ⟨by decide⟩
instance : Start 188416 := ⟨by decide⟩
instance : Start 190464 := ⟨by decide⟩
instance : Start 192512 := ⟨by decide⟩
instance : Start 194560 := ⟨by decide⟩
instance : Start 196608 := ⟨by decide⟩
instance : Start 198656 := ⟨by decide⟩
instance : Start 200704 := ⟨by decide⟩
instance : Start 202752 := ⟨by decide⟩
instance : Start 204800 := ⟨by decide⟩
instance : Start 206848 := ⟨by decide⟩
instance : Start 208896 := ⟨by decide⟩
instance : Start 210944 := ⟨by decide⟩
instance : Start 212992 := ⟨by decide⟩
instance : Start 215040 := ⟨by decide⟩
instance : Start 217088 := ⟨by decide⟩
instance : Start 219136 := ⟨by decide⟩
instance : Start 221184 := ⟨by decide⟩
instance : Start 223232 := ⟨by decide⟩
instance : Start 225280 := ⟨by decide⟩
instance : Start 227328 := ⟨by decide⟩
instance : Start 229376 := ⟨by decide⟩
instance : Start 231424 := ⟨by decide⟩
instance : Start 233472 := ⟨by decide⟩
instance : Start 235520 := ⟨by decide⟩
instance : Start 237568 := ⟨by decide⟩
instance : Start 239616 := ⟨by decide⟩
instance : Start 241664 := ⟨by decide⟩
instance : Start 243712 := ⟨by decide⟩
instance : Start 245760 := ⟨by decide⟩
instance : Start 247808 := ⟨by decide⟩
instance : Start 249856 := ⟨by decide⟩
instance : Start 251904 := ⟨by decide⟩
instance : Start 253952 := ⟨by decide⟩
instance : Start 256000 := ⟨by decide⟩
instance : Start 258048 := ⟨by decide⟩
instance : Start 260096 := ⟨by decide⟩

/-- The runs of 128 columns that trip `k` stores begin at column `a + 256 k + b`. -/
theorem off65_at (k : Fin k0_t1_loop.trips) (a b : ℕ) (ha : a ≤ 260096) (hb : b ≤ 128) :
    k0_off65 k (BitVec.ofNat 32 a) (BitVec.ofNat 32 b) = ![0, 0, a + 256 * k.val + b] := by
  have hk : k.val < 8 := Nat.lt_of_lt_of_le k.isLt k0_t1_abs.2.1
  have h0 : Affine.IsInt 0#32 (0) := Affine.ofNat _ (by omega)
  have h1 : Affine.IsInt 1#32 (1) := Affine.ofNat _ (by omega)
  have h256 : Affine.IsInt 256#32 (256) := Affine.ofNat _ (by omega)
  have hA : Affine.IsInt (BitVec.ofNat 32 a) (a : Int) := Affine.ofNat _ (by omega)
  have hB : Affine.IsInt (BitVec.ofNat 32 b) (b : Int) := Affine.ofNat _ (by omega)
  have hv : Affine.IsInt _ (k.val : Int) := Affine.iv h0 h1 k.val (by omega)
  have hm : Affine.IsInt _ (256 * (k.val : Int)) := Affine.muli hv h256 (by omega)
  have hs : Affine.IsInt _ ((a : Int) + 256 * (k.val : Int)) := Affine.addi hA hm (by omega)
  have ht : Affine.IsInt _ ((a : Int) + 256 * (k.val : Int) + (b : Int)) := Affine.addi hs hB (by omega)
  exact Affine.vec_cons (Affine.ofNat 0 (by omega) : Affine.IsInt 0#32 0) (by omega) <| Affine.vec_cons (Affine.ofNat 0 (by omega) : Affine.IsInt 0#32 0) (by omega) <| Affine.vec_cons (Affine.indexCast ht) (by omega) <| Affine.vec_nil

instance closedOff_k0_off65_0 (k : Fin k0_t1_loop.trips) (a : ℕ) [ha : Start a] : ClosedOff (k0_off65 k (BitVec.ofNat 32 a) 0#32) :=
  ⟨![0, 0, a + 256 * k.val + 0], off65_at k a 0 ha.le (by decide)⟩

instance closedOff_k0_off65_1 (k : Fin k0_t1_loop.trips) (a : ℕ) [ha : Start a] : ClosedOff (k0_off65 k (BitVec.ofNat 32 a) 128#32) :=
  ⟨![0, 0, a + 256 * k.val + 128], off65_at k a 128 ha.le (by decide)⟩

abbrev Trip_k0_t1 (c : Dev nD) (arg2 : Memref sig .tc .vmem S1x64x1x8x8x128 .i32) (arg3 : Memref sig .tc .vmem S1x1x64x8x128 .i32) (arg7 : Memref sig .tc .vmem S1x8x262144 .f32)
    (X2 : BufTy.Contents (Elt F) arg2.view.ty) (X3 : BufTy.Contents (Elt F) arg3.view.ty) (f7 : BufTy.Contents (Elt F) arg7.view.ty) : Idealize.SL.BI.sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} f7))

@[irreducible] def trip_k0_t1 (𝒱 : Variants) (c : Dev nD) (bd : Option 𝒱.V) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) (k : Fin k0_t1_loop.trips) :
    { L7 : List (View.Piece (Elt F) S1x8x262144 .f32) // ∀ (E : Set ℕ) (f7 : BufTy.Contents (Elt F) arg7.view.ty),
      Trip_k0_t1 (F := F) c arg2 arg3 arg7 X2 X3 f7
      ⊢ wp frame (wpE (defs₀ (F := F)) 𝒱 (c : Thread nD τ) bd) E (k0_t1_body (F := F) i arg2 harg2 arg3 harg3 arg4 harg4 arg5 harg5 arg6 harg6 arg7 harg7 arg8 harg8 v0 v2 v8 k ())
          (fun _ => Trip_k0_t1 (F := F) c arg2 arg3 arg7 X2 X3 (arg7.view.writes (Elt F) f7 L7)) } := by
  have hk : k.val < 8 := Nat.lt_of_lt_of_le k.isLt k0_t1_abs.2.1
  refine ⟨?_, fun E f7 => ?run⟩
  case run =>
    unfold k0_t1_body
    iintro ⟨H2, H3, H7⟩
    sl_exec
    sl_step
    sl_close

/-- What trip `k` adds to the stored pieces `prev`. -/
@[irreducible] def pb_k0_t1Step (𝒱 : Variants) (c : Dev nD) (bd : Option 𝒱.V) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) (k : ℕ) (prev : List (View.Piece (Elt F) S1x8x262144 .f32)) : List (View.Piece (Elt F) S1x8x262144 .f32) :=
  if h : k < k0_t1_loop.trips then (trip_k0_t1 (F := F) 𝒱 c bd i arg2 harg2 arg3 harg3 arg4 harg4 arg5 harg5 arg6 harg6 arg7 harg7 arg8 harg8 v0 v2 v8 X2 X3 ⟨k, h⟩).1 ++ prev else prev

/-- The pieces stored by the trips before `k`, last first. -/
def pb_k0_t1 (𝒱 : Variants) (c : Dev nD) (bd : Option 𝒱.V) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) : ℕ → List (View.Piece (Elt F) S1x8x262144 .f32)
  | 0 => []
  | k + 1 => pb_k0_t1Step 𝒱 c bd i arg2 harg2 arg3 harg3 arg4 harg4 arg5 harg5 arg6 harg6 arg7 harg7 arg8 harg8 v0 v2 v8 X2 X3 k (pb_k0_t1 𝒱 c bd i arg2 harg2 arg3 harg3 arg4 harg4 arg5 harg5 arg6 harg6 arg7 harg7 arg8 harg8 v0 v2 v8 X2 X3 k)

theorem pb_k0_t1_succ (𝒱 : Variants) (c : Dev nD) (bd : Option 𝒱.V) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) (k : Fin k0_t1_loop.trips) :
    pb_k0_t1 (F := F) 𝒱 c bd i arg2 harg2 arg3 harg3 arg4 harg4 arg5 harg5 arg6 harg6 arg7 harg7 arg8 harg8 v0 v2 v8 X2 X3 (k.val + 1)
      = (trip_k0_t1 (F := F) 𝒱 c bd i arg2 harg2 arg3 harg3 arg4 harg4 arg5 harg5 arg6 harg6 arg7 harg7 arg8 harg8 v0 v2 v8 X2 X3 k).1 ++ pb_k0_t1 (F := F) 𝒱 c bd i arg2 harg2 arg3 harg3 arg4 harg4 arg5 harg5 arg6 harg6 arg7 harg7 arg8 harg8 v0 v2 v8 X2 X3 k.val := by
  rw [pb_k0_t1.eq_2]; unfold pb_k0_t1Step; exact dif_pos k.isLt

/-- Before trip `k`: what is read is unchanged, and the result holds the pieces of the trips before `k`. -/
abbrev inv_k0_t1 (𝒱 : Variants) (c : Dev nD) (bd : Option 𝒱.V) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) (G7 : BufTy.Contents (Elt F) arg7.view.ty) (k : ℕ) (_u : PUnit) : Idealize.SL.BI.sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3)
    ∗ (∃ f, (arg7.view.loc (c : Thread nD τ) ↦[arg7.view.set]{fullShare} f) ∗ ⌜f = arg7.view.writes (Elt F) G7 (pb_k0_t1 (F := F) 𝒱 c bd i arg2 harg2 arg3 harg3 arg4 harg4 arg5 harg5 arg6 harg6 arg7 harg7 arg8 harg8 v0 v2 v8 X2 X3 k)⌝))

set_option warn.classDefReducibility false in
/-- The loop by its invariant. -/
@[sl_loop] def loopInv_k0_t1 (𝒱 : Variants) (c : Dev nD) (bd : Option 𝒱.V) (E : Set ℕ) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) (G7 : BufTy.Contents (Elt F) arg7.view.ty) :
    LoopInvTy_k0_t1 (F := F) Unit ℕ (UR sig nD τ) ℕ 𝒱 c bd E i arg2 harg2 arg3 harg3 arg4 harg4 arg5 harg5 arg6 harg6 arg7 harg7 arg8 harg8 v0 v2 v8 where
  inv := inv_k0_t1 (F := F) 𝒱 c bd i arg2 harg2 arg3 harg3 arg4 harg4 arg5 harg5 arg6 harg6 arg7 harg7 arg8 harg8 v0 v2 v8 X2 X3 G7
  step k acc := by
    iintro ⟨H2, H3, %f7, H7, %h7⟩
    iapply (wp_wand_r Idealize.ShloMosaic.frame (wpE (defs₀ (F := F)) 𝒱 (c : Thread nD τ) bd) E)
    isplitl [H2 H3 H7]
    · iapply ((trip_k0_t1 (F := F) 𝒱 c bd i arg2 harg2 arg3 harg3 arg4 harg4 arg5 harg5 arg6 harg6 arg7 harg7 arg8 harg8 v0 v2 v8 X2 X3 k).2 E f7)
      isplitl [H2]; · iexact H2
      isplitl [H3]; · iexact H3
      iexact H7
    · iintro %_ ⟨H2, H3, H7⟩
      unfold inv_k0_t1
      rw [pb_k0_t1_succ]
      isplitl [H2]; · iexact H2
      isplitl [H3]; · iexact H3
      iexists _; isplitl [H7]; · iexact H7
      ipureintro; rw [h7, ← View.writes_append]

end Cert.Decode.Gen

end
-- ==== Proof.EFrame.lean ====
module

public import proofs.«01_k».proof.Proof.Gen.Decode.Frame
public import proofs.«01_k».proof.Proof.Gen.Decode.Skeleton
public import proofs.«01_k».proof.Proof.ELoop
public import Idealize.ShloMosaic.Lib.Claim

@[expose] public section

set_option maxRecDepth 16384

noncomputable section

namespace Cert.Decode.Frame

open Cert.Decode Cert.Decode.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! # The decoding call's frame: its outputs are handed back at contents nothing names -/

/-- A run of the pipeline that names the input arrays alone leaves the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c))⟩) h

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Each window's current staging memref at point `t`, spelled as the pipeline passes it (`bodyAt0`), and its wholeness. -/
abbrev ms0_0 (t : Fin cfg0.N) : Memref sig .tc .vmem S1x64x1x8x8x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64x8x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x262144 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)

set_option maxHeartbeats 1000000 in
/-- One run of the body, the outputs' contents before and after unnamed: the inputs' blocks end as they were. -/
theorem kernelRun0 (c : Dev nD) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole)
    (x0 : Vec F S1x64x1x8x8x128 .i32) (x1 : Vec F S1x1x64x8x128 .i32) (x2 : Vec F S256x256 .bf16) (x3 : Vec F S1x8x128 .f32) (x4 : Vec F S1x8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)) -∗ K ⟨⟩))
          ⊢ wp frame (wpE (defs₀ (F := F)) Variants.none c none) E (cc0__dec_kernel i arg2 harg2 arg3 harg3 arg4 harg4 arg5 harg5 arg6 harg6 arg7 harg7 arg8 harg8) K := by
    intro E K
    simp only [cc0__dec_kernel_eq_skeleton]; unfold cc0__dec_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    iexists _, _; isplitr; swap; · iexact H6
    ipureintro; rfl

/-! ## The pipeline's proof data -/

/-- The output windows this certificate FORGETS (5, 6): nothing reads what the kernel leaves in them, so nothing
    of it is named (Lib/Pipeline/Dat.lean `Dat.toRForget`). -/
def forgets0 : Fin 7 → Bool := fun w => w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
  unfold Dat.leavesExact; rw [liveAt0_0 t], after0_0]
  rw [show (dats m 0 c).leavesExact 1 t = owns (c : Thread nD τ) (ms0_1 t) fullShare ((dats m 0 c).after 1 t) from by
  unfold Dat.leavesExact; rw [liveAt0_1 t], after0_1]
  rw [show (dats m 0 c).leavesExact 2 t = owns (c : Thread nD τ) (ms0_2 t) fullShare ((dats m 0 c).after 2 t) from by
  unfold Dat.leavesExact; rw [liveAt0_2 t], after0_2]
  rw [show (dats m 0 c).leavesExact 3 t = owns (c : Thread nD τ) (ms0_3 t) fullShare ((dats m 0 c).after 3 t) from by
  unfold Dat.leavesExact; rw [liveAt0_3 t], after0_3]
  rw [show (dats m 0 c).leavesExact 4 t = owns (c : Thread nD τ) (ms0_4 t) fullShare ((dats m 0 c).after 4 t) from by
  unfold Dat.leavesExact; rw [liveAt0_4 t], after0_4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0 c (grid0.coords t) _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Decode`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Decode.Frame

end
-- ==== Proof.DLoop.lean ====
module

public import proofs.«01_k».proof.Proof.Gen.DecodeIdeal.Frame
public import proofs.«01_k».proof.Proof.Gen.DecodeIdeal.Loops

@[expose] public section

set_option maxRecDepth 65536
set_option maxHeartbeats 0

noncomputable section

namespace Cert.DecodeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A column at which a group of stored runs begins. -/
class Start (a : ℕ) : Prop where
  le : a ≤ 260096

instance : Start 0 := ⟨by decide⟩
instance : Start 2048 := ⟨by decide⟩
instance : Start 4096 := ⟨by decide⟩
instance : Start 6144 := ⟨by decide⟩
instance : Start 8192 := ⟨by decide⟩
instance : Start 10240 := ⟨by decide⟩
instance : Start 12288 := ⟨by decide⟩
instance : Start 14336 := ⟨by decide⟩
instance : Start 16384 := ⟨by decide⟩
instance : Start 18432 := ⟨by decide⟩
instance : Start 20480 := ⟨by decide⟩
instance : Start 22528 := ⟨by decide⟩
instance : Start 24576 := ⟨by decide⟩
instance : Start 26624 := ⟨by decide⟩
instance : Start 28672 := ⟨by decide⟩
instance : Start 30720 := ⟨by decide⟩
instance : Start 32768 := ⟨by decide⟩
instance : Start 34816 := ⟨by decide⟩
instance : Start 36864 := ⟨by decide⟩
instance : Start 38912 := ⟨by decide⟩
instance : Start 40960 := ⟨by decide⟩
instance : Start 43008 := ⟨by decide⟩
instance : Start 45056 := ⟨by decide⟩
instance : Start 47104 := ⟨by decide⟩
instance : Start 49152 := ⟨by decide⟩
instance : Start 51200 := ⟨by decide⟩
instance : Start 53248 := ⟨by decide⟩
instance : Start 55296 := ⟨by decide⟩
instance : Start 57344 := ⟨by decide⟩
instance : Start 59392 := ⟨by decide⟩
instance : Start 61440 := ⟨by decide⟩
instance : Start 63488 := ⟨by decide⟩
instance : Start 65536 := ⟨by decide⟩
instance : Start 67584 := ⟨by decide⟩
instance : Start 69632 := ⟨by decide⟩
instance : Start 71680 := ⟨by decide⟩
instance : Start 73728 := ⟨by decide⟩
instance : Start 75776 := ⟨by decide⟩
instance : Start 77824 := ⟨by decide⟩
instance : Start 79872 := ⟨by decide⟩
instance : Start 81920 := ⟨by decide⟩
instance : Start 83968 := ⟨by decide⟩
instance : Start 86016 := ⟨by decide⟩
instance : Start 88064 := ⟨by decide⟩
instance : Start 90112 := ⟨by decide⟩
instance : Start 92160 := ⟨by decide⟩
instance : Start 94208 := ⟨by decide⟩
instance : Start 96256 := ⟨by decide⟩
instance : Start 98304 := ⟨by decide⟩
instance : Start 100352 := ⟨by decide⟩
instance : Start 102400 := ⟨by decide⟩
instance : Start 104448 := ⟨by decide⟩
instance : Start 106496 := ⟨by decide⟩
instance : Start 108544 := ⟨by decide⟩
instance : Start 110592 := ⟨by decide⟩
instance : Start 112640 := ⟨by decide⟩
instance : Start 114688 := ⟨by decide⟩
instance : Start 116736 := ⟨by decide⟩
instance : Start 118784 := ⟨by decide⟩
instance : Start 120832 := ⟨by decide⟩
instance : Start 122880 := ⟨by decide⟩
instance : Start 124928 := ⟨by decide⟩
instance : Start 126976 := ⟨by decide⟩
instance : Start 129024 := ⟨by decide⟩
instance : Start 131072 := ⟨by decide⟩
instance : Start 133120 := ⟨by decide⟩
instance : Start 135168 := ⟨by decide⟩
instance : Start 137216 := ⟨by decide⟩
instance : Start 139264 := ⟨by decide⟩
instance : Start 141312 := ⟨by decide⟩
instance : Start 143360 := ⟨by decide⟩
instance : Start 145408 := ⟨by decide⟩
instance : Start 147456 := ⟨by decide⟩
instance : Start 149504 := ⟨by decide⟩
instance : Start 151552 := ⟨by decide⟩
instance : Start 153600 := ⟨by decide⟩
instance : Start 155648 := ⟨by decide⟩
instance : Start 157696 := ⟨by decide⟩
instance : Start 159744 := ⟨by decide⟩
instance : Start 161792 := ⟨by decide⟩
instance : Start 163840 := ⟨by decide⟩
instance : Start 165888 := ⟨by decide⟩
instance : Start 167936 := ⟨by decide⟩
instance : Start 169984 := ⟨by decide⟩
instance : Start 172032 := ⟨by decide⟩
instance : Start 174080 := ⟨by decide⟩
instance : Start 176128 := ⟨by decide⟩
instance : Start 178176 := ⟨by decide⟩
instance : Start 180224 := ⟨by decide⟩
instance : Start 182272 := ⟨by decide⟩
instance : Start 184320 := ⟨by decide⟩
instance : Start 186368 := ⟨by decide⟩
instance : Start 188416 := ⟨by decide⟩
instance : Start 190464 := ⟨by decide⟩
instance : Start 192512 := ⟨by decide⟩
instance : Start 194560 := ⟨by decide⟩
instance : Start 196608 := ⟨by decide⟩
instance : Start 198656 := ⟨by decide⟩
instance : Start 200704 := ⟨by decide⟩
instance : Start 202752 := ⟨by decide⟩
instance : Start 204800 := ⟨by decide⟩
instance : Start 206848 := ⟨by decide⟩
instance : Start 208896 := ⟨by decide⟩
instance : Start 210944 := ⟨by decide⟩
instance : Start 212992 := ⟨by decide⟩
instance : Start 215040 := ⟨by decide⟩
instance : Start 217088 := ⟨by decide⟩
instance : Start 219136 := ⟨by decide⟩
instance : Start 221184 := ⟨by decide⟩
instance : Start 223232 := ⟨by decide⟩
instance : Start 225280 := ⟨by decide⟩
instance : Start 227328 := ⟨by decide⟩
instance : Start 229376 := ⟨by decide⟩
instance : Start 231424 := ⟨by decide⟩
instance : Start 233472 := ⟨by decide⟩
instance : Start 235520 := ⟨by decide⟩
instance : Start 237568 := ⟨by decide⟩
instance : Start 239616 := ⟨by decide⟩
instance : Start 241664 := ⟨by decide⟩
instance : Start 243712 := ⟨by decide⟩
instance : Start 245760 := ⟨by decide⟩
instance : Start 247808 := ⟨by decide⟩
instance : Start 249856 := ⟨by decide⟩
instance : Start 251904 := ⟨by decide⟩
instance : Start 253952 := ⟨by decide⟩
instance : Start 256000 := ⟨by decide⟩
instance : Start 258048 := ⟨by decide⟩
instance : Start 260096 := ⟨by decide⟩

/-- The runs of 128 columns that trip `k` stores begin at column `a + 256 k + b`. -/
theorem off65_at (k : Fin k0_t1_loop.trips) (a b : ℕ) (ha : a ≤ 260096) (hb : b ≤ 128) :
    k0_off65 k (BitVec.ofNat 32 a) (BitVec.ofNat 32 b) = ![0, 0, a + 256 * k.val + b] := by
  have hk : k.val < 8 := Nat.lt_of_lt_of_le k.isLt k0_t1_abs.2.1
  have h0 : Affine.IsInt 0#32 (0) := Affine.ofNat _ (by omega)
  have h1 : Affine.IsInt 1#32 (1) := Affine.ofNat _ (by omega)
  have h256 : Affine.IsInt 256#32 (256) := Affine.ofNat _ (by omega)
  have hA : Affine.IsInt (BitVec.ofNat 32 a) (a : Int) := Affine.ofNat _ (by omega)
  have hB : Affine.IsInt (BitVec.ofNat 32 b) (b : Int) := Affine.ofNat _ (by omega)
  have hv : Affine.IsInt _ (k.val : Int) := Affine.iv h0 h1 k.val (by omega)
  have hm : Affine.IsInt _ (256 * (k.val : Int)) := Affine.muli hv h256 (by omega)
  have hs : Affine.IsInt _ ((a : Int) + 256 * (k.val : Int)) := Affine.addi hA hm (by omega)
  have ht : Affine.IsInt _ ((a : Int) + 256 * (k.val : Int) + (b : Int)) := Affine.addi hs hB (by omega)
  exact Affine.vec_cons (Affine.ofNat 0 (by omega) : Affine.IsInt 0#32 0) (by omega) <| Affine.vec_cons (Affine.ofNat 0 (by omega) : Affine.IsInt 0#32 0) (by omega) <| Affine.vec_cons (Affine.indexCast ht) (by omega) <| Affine.vec_nil

instance closedOff_k0_off65_0 (k : Fin k0_t1_loop.trips) (a : ℕ) [ha : Start a] : ClosedOff (k0_off65 k (BitVec.ofNat 32 a) 0#32) :=
  ⟨![0, 0, a + 256 * k.val + 0], off65_at k a 0 ha.le (by decide)⟩

instance closedOff_k0_off65_1 (k : Fin k0_t1_loop.trips) (a : ℕ) [ha : Start a] : ClosedOff (k0_off65 k (BitVec.ofNat 32 a) 128#32) :=
  ⟨![0, 0, a + 256 * k.val + 128], off65_at k a 128 ha.le (by decide)⟩

abbrev Trip_k0_t1 (c : Dev nD) (arg2 : Memref sig .tc .vmem S1x64x1x8x8x128 .i32) (arg3 : Memref sig .tc .vmem S1x1x64x8x128 .i32) (arg7 : Memref sig .tc .vmem S1x8x262144 .f32)
    (X2 : BufTy.Contents (Elt F) arg2.view.ty) (X3 : BufTy.Contents (Elt F) arg3.view.ty) (f7 : BufTy.Contents (Elt F) arg7.view.ty) : Idealize.SL.BI.sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} f7))

@[irreducible] def trip_k0_t1 (𝒱 : Variants) (c : Dev nD) (bd : Option 𝒱.V) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) (k : Fin k0_t1_loop.trips) :
    { L7 : List (View.Piece (Elt F) S1x8x262144 .f32) // ∀ (E : Set ℕ) (f7 : BufTy.Contents (Elt F) arg7.view.ty),
      Trip_k0_t1 (F := F) c arg2 arg3 arg7 X2 X3 f7
      ⊢ wp frame (wpE (defs₀ (F := F)) 𝒱 (c : Thread nD τ) bd) E (k0_t1_body (F := F) i arg2 harg2 arg3 harg3 arg4 harg4 arg5 harg5 arg6 harg6 arg7 harg7 arg8 harg8 v0 v2 v8 k ())
          (fun _ => Trip_k0_t1 (F := F) c arg2 arg3 arg7 X2 X3 (arg7.view.writes (Elt F) f7 L7)) } := by
  have hk : k.val < 8 := Nat.lt_of_lt_of_le k.isLt k0_t1_abs.2.1
  refine ⟨?_, fun E f7 => ?run⟩
  case run =>
    unfold k0_t1_body
    iintro ⟨H2, H3, H7⟩
    sl_exec
    sl_step
    sl_close

/-- What trip `k` adds to the stored pieces `prev`. -/
@[irreducible] def pb_k0_t1Step (𝒱 : Variants) (c : Dev nD) (bd : Option 𝒱.V) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) (k : ℕ) (prev : List (View.Piece (Elt F) S1x8x262144 .f32)) : List (View.Piece (Elt F) S1x8x262144 .f32) :=
  if h : k < k0_t1_loop.trips then (trip_k0_t1 (F := F) 𝒱 c bd i arg2 harg2 arg3 harg3 arg4 harg4 arg5 harg5 arg6 harg6 arg7 harg7 arg8 harg8 v0 v2 v8 X2 X3 ⟨k, h⟩).1 ++ prev else prev

/-- The pieces stored by the trips before `k`, last first. -/
def pb_k0_t1 (𝒱 : Variants) (c : Dev nD) (bd : Option 𝒱.V) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) : ℕ → List (View.Piece (Elt F) S1x8x262144 .f32)
  | 0 => []
  | k + 1 => pb_k0_t1Step 𝒱 c bd i arg2 harg2 arg3 harg3 arg4 harg4 arg5 harg5 arg6 harg6 arg7 harg7 arg8 harg8 v0 v2 v8 X2 X3 k (pb_k0_t1 𝒱 c bd i arg2 harg2 arg3 harg3 arg4 harg4 arg5 harg5 arg6 harg6 arg7 harg7 arg8 harg8 v0 v2 v8 X2 X3 k)

theorem pb_k0_t1_succ (𝒱 : Variants) (c : Dev nD) (bd : Option 𝒱.V) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) (k : Fin k0_t1_loop.trips) :
    pb_k0_t1 (F := F) 𝒱 c bd i arg2 harg2 arg3 harg3 arg4 harg4 arg5 harg5 arg6 harg6 arg7 harg7 arg8 harg8 v0 v2 v8 X2 X3 (k.val + 1)
      = (trip_k0_t1 (F := F) 𝒱 c bd i arg2 harg2 arg3 harg3 arg4 harg4 arg5 harg5 arg6 harg6 arg7 harg7 arg8 harg8 v0 v2 v8 X2 X3 k).1 ++ pb_k0_t1 (F := F) 𝒱 c bd i arg2 harg2 arg3 harg3 arg4 harg4 arg5 harg5 arg6 harg6 arg7 harg7 arg8 harg8 v0 v2 v8 X2 X3 k.val := by
  rw [pb_k0_t1.eq_2]; unfold pb_k0_t1Step; exact dif_pos k.isLt

/-- Before trip `k`: what is read is unchanged, and the result holds the pieces of the trips before `k`. -/
abbrev inv_k0_t1 (𝒱 : Variants) (c : Dev nD) (bd : Option 𝒱.V) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) (G7 : BufTy.Contents (Elt F) arg7.view.ty) (k : ℕ) (_u : PUnit) : Idealize.SL.BI.sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3)
    ∗ (∃ f, (arg7.view.loc (c : Thread nD τ) ↦[arg7.view.set]{fullShare} f) ∗ ⌜f = arg7.view.writes (Elt F) G7 (pb_k0_t1 (F := F) 𝒱 c bd i arg2 harg2 arg3 harg3 arg4 harg4 arg5 harg5 arg6 harg6 arg7 harg7 arg8 harg8 v0 v2 v8 X2 X3 k)⌝))

set_option warn.classDefReducibility false in
/-- The loop by its invariant. -/
@[sl_loop] def loopInv_k0_t1 (𝒱 : Variants) (c : Dev nD) (bd : Option 𝒱.V) (E : Set ℕ) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) (G7 : BufTy.Contents (Elt F) arg7.view.ty) :
    LoopInvTy_k0_t1 (F := F) Unit ℕ (UR sig nD τ) ℕ 𝒱 c bd E i arg2 harg2 arg3 harg3 arg4 harg4 arg5 harg5 arg6 harg6 arg7 harg7 arg8 harg8 v0 v2 v8 where
  inv := inv_k0_t1 (F := F) 𝒱 c bd i arg2 harg2 arg3 harg3 arg4 harg4 arg5 harg5 arg6 harg6 arg7 harg7 arg8 harg8 v0 v2 v8 X2 X3 G7
  step k acc := by
    iintro ⟨H2, H3, %f7, H7, %h7⟩
    iapply (wp_wand_r Idealize.ShloMosaic.frame (wpE (defs₀ (F := F)) 𝒱 (c : Thread nD τ) bd) E)
    isplitl [H2 H3 H7]
    · iapply ((trip_k0_t1 (F := F) 𝒱 c bd i arg2 harg2 arg3 harg3 arg4 harg4 arg5 harg5 arg6 harg6 arg7 harg7 arg8 harg8 v0 v2 v8 X2 X3 k).2 E f7)
      isplitl [H2]; · iexact H2
      isplitl [H3]; · iexact H3
      iexact H7
    · iintro %_ ⟨H2, H3, H7⟩
      unfold inv_k0_t1
      rw [pb_k0_t1_succ]
      isplitl [H2]; · iexact H2
      isplitl [H3]; · iexact H3
      iexists _; isplitl [H7]; · iexact H7
      ipureintro; rw [h7, ← View.writes_append]

end Cert.DecodeIdeal.Gen

end
-- ==== Proof.DTrips.lean ====
module

public import proofs.«01_k».proof.Proof.DLoop
public import proofs.«01_k».proof.Proof.Gen.DecodeIdeal.Skeleton
public import proofs.«01_k».proof.Proof.Trips

@[expose] public section

set_option maxRecDepth 65536
set_option maxHeartbeats 0

noncomputable section

namespace Cert.DecodeIdeal.Gen

open Idealize.ShloMosaic Idealize.ShloMosaic.TcCoe Idealize.ShloMosaic.Tactic
open Idealize.SL Idealize.SL.RA Idealize.SL.BI
open Cert.KernelIdeal.Gen (firstPieces flipT)

/-! # One trip of the decoding loop, as a function of what it reads

  Trip `k` forms, for each quarter `ch` of the columns, the 256 × 256 tile `tileD` of the decoded values (two butterfly
  stages over the quarters done), multiplies it by the matrix on both sides (`prodD`), and stores it as 64 runs of 128
  columns, scaled and signed. -/

variable {F : FTy → Type} [FloatOps F]

/-- The columns of the packed values that trip `k` reads: block `n` of 64. -/
def zOff (k : Fin k0_t1_loop.trips) (n : ℕ) : Fin 6 → Nat := ![0, n, 0, (Scalar.indexCast (Scf.iv 0#32 1#32 k)).toNat, 0, 0]

theorem zOff_eq (k : Fin k0_t1_loop.trips) (n : ℕ) : zOff k n = ![0, n, 0, k.val, 0, 0] := by
  have e : ∀ k : Fin k0_t1_loop.trips, (Scalar.indexCast (Scf.iv 0#32 1#32 k) : Index).toNat = k.val := by decide +kernel
  unfold zOff
  rw [e k]

theorem trips_t1 : k0_t1_loop.trips = 8 := by decide +kernel

theorem zOff_inb (k : Fin k0_t1_loop.trips) (n : ℕ) (h : n < 64) : ∀ a, zOff k n a + S1x1x1x1x8x128.size a ≤ S1x64x1x8x8x128.size a := by
  rw [zOff_eq]
  have hk : k.val < 8 := lt_of_lt_of_eq k.isLt trips_t1
  intro a
  match a with
  | ⟨0, _⟩ => show 0 + 1 ≤ 1; omega
  | ⟨1, _⟩ => show n + 1 ≤ 64; omega
  | ⟨2, _⟩ => show 0 + 1 ≤ 1; omega
  | ⟨3, _⟩ => show k.val + 1 ≤ 8; omega
  | ⟨4, _⟩ => show 0 + 8 ≤ 8; omega
  | ⟨5, _⟩ => show 0 + 128 ≤ 128; omega

/-- Eight rows of 128 packed words. -/
def zT (arg2 : Memref sig .tc .vmem S1x64x1x8x8x128 .i32) (X2 : BufTy.Contents (Elt F) arg2.view.ty)
    (k : Fin k0_t1_loop.trips) (n : ℕ) : IVec S8x128 32 :=
  if h : n < 64 then shapeCast S8x128 (View.readAt (Elt F) arg2.view (Rect.unit (s := S1x64x1x8x8x128) (zOff k n)
    S1x1x1x1x8x128.size (zOff_inb k n h)).toLoadRect X2) shapeCasts_S1x1x1x1x8x128_S8x128 else broadcast S8x128 0#32

/-- The words of half `hf`: of the odd half the bytes are one place up. -/
def halfZ (w : IVec S8x128 32) (hf : ℕ) : IVec S8x128 32 := if hf = 0 then w else shrui w (broadcast S8x128 8#32)

/-- The two bytes of each word read as values: a byte `b` is the number `b - 64`. -/
def valT (w : IVec S8x128 32) : FVec F S16x128 .bf16 :=
  subf (bitcastToFloat .bf16 (bitcast S16x128 16 (addi (andi w (broadcast S8x128 16711935#32)) (broadcast S8x128 1124090624#32)) bitcasts_S8x128_w32_S16x128_w16))
    (broadcast S16x128 (Scalar.ofBits .bf16 0x4340#16 : F .bf16))

/-- One butterfly stage over a family of vectors. -/
def stageG {s : Shape} {e : FTy} (h : ℕ) (v : ℕ → FVec F s e) (t : ℕ) : FVec F s e :=
  if t / h % 2 = 0 then addf (v t) (v (t + h)) else subf (v (t - h)) (v t)

/-- Sixteen rows of quarter `ch` after the two stages over the quarters. -/
def rowsD (arg2 : Memref sig .tc .vmem S1x64x1x8x8x128 .i32) (X2 : BufTy.Contents (Elt F) arg2.view.ty)
    (k : Fin k0_t1_loop.trips) (ch hf cl : ℕ) : FVec F S16x128 .bf16 :=
  stageG 2 (stageG 1 (fun c => valT (halfZ (zT arg2 X2 k (16 * c + cl)) hf))) ch

/-- Half of the tile of quarter `ch`: sixteen blocks of sixteen rows. -/
def halfD (arg2 : Memref sig .tc .vmem S1x64x1x8x8x128 .i32) (X2 : BufTy.Contents (Elt F) arg2.view.ty)
    (k : Fin k0_t1_loop.trips) (ch hf : ℕ) : FVec F S256x128 .bf16 :=
  concatenate S256x128 0 [⟨S16x128, rowsD arg2 X2 k ch hf 0⟩, ⟨S16x128, rowsD arg2 X2 k ch hf 1⟩, ⟨S16x128, rowsD arg2 X2 k ch hf 2⟩, ⟨S16x128, rowsD arg2 X2 k ch hf 3⟩, ⟨S16x128, rowsD arg2 X2 k ch hf 4⟩, ⟨S16x128, rowsD arg2 X2 k ch hf 5⟩, ⟨S16x128, rowsD arg2 X2 k ch hf 6⟩, ⟨S16x128, rowsD arg2 X2 k ch hf 7⟩, ⟨S16x128, rowsD arg2 X2 k ch hf 8⟩, ⟨S16x128, rowsD arg2 X2 k ch hf 9⟩, ⟨S16x128, rowsD arg2 X2 k ch hf 10⟩, ⟨S16x128, rowsD arg2 X2 k ch hf 11⟩, ⟨S16x128, rowsD arg2 X2 k ch hf 12⟩, ⟨S16x128, rowsD arg2 X2 k ch hf 13⟩, ⟨S16x128, rowsD arg2 X2 k ch hf 14⟩, ⟨S16x128, rowsD arg2 X2 k ch hf 15⟩]
    concatenates_S16x128_S16x128_S16x128_S16x128_S16x128_S16x128_S16x128_S16x128_S16x128_S16x128_S16x128_S16x128_S16x128_S16x128_S16x128_S16x128_S256x128_d0

/-- The tile of quarter `ch`. -/
def tileD (arg2 : Memref sig .tc .vmem S1x64x1x8x8x128 .i32) (X2 : BufTy.Contents (Elt F) arg2.view.ty)
    (k : Fin k0_t1_loop.trips) (ch : ℕ) : FVec F S256x256 .bf16 :=
  concatenate S256x256 1 [⟨S256x128, halfD arg2 X2 k ch 0⟩, ⟨S256x128, halfD arg2 X2 k ch 1⟩] concatenates_S256x128_S256x128_S256x256_d1

/-- The matrix times the tile. -/
def prodL (H : FVec F S256x256 .bf16) (T : FVec F S256x256 .bf16) : FVec F S256x256 .f32 :=
  matmul dot_S256x256_S256x256_S256x256_1_0_0_1_n_n none H T (constant S256x256 .f32 0x00000000#32)

/-- The product times the matrix on the right, in two parts added up. -/
def prodR (H : FVec F S256x256 .bf16) (V : FVec F S256x256 .f32) : FVec F S256x256 .f32 :=
  have hi : FVec F S256x256 .f32 := extf .f32 (truncf .bf16 V bitsLt_bf16_f32) bitsLt_bf16_f32
  addf (matmul dot_S256x256_S256x256_S256x256_1_0_0_1_n_n none (truncf .bf16 hi bitsLt_bf16_f32) H (constant S256x256 .f32 0x00000000#32))
    (matmul dot_S256x256_S256x256_S256x256_1_0_0_1_n_n none (truncf .bf16 (subf V hi) bitsLt_bf16_f32) H (constant S256x256 .f32 0x00000000#32))

theorem word_inb (n : ℕ) (h : n < 64) : ∀ a, (![0, 0, n, 0, 0] : Fin 5 → ℕ) a + S1x1x1x8x128.size a ≤ S1x1x64x8x128.size a := by
  intro a
  match a with
  | ⟨0, _⟩ => show 0 + 1 ≤ 1; omega
  | ⟨1, _⟩ => show 0 + 1 ≤ 1; omega
  | ⟨2, _⟩ => show n + 1 ≤ 64; omega
  | ⟨3, _⟩ => show 0 + 8 ≤ 8; omega
  | ⟨4, _⟩ => show 0 + 128 ≤ 128; omega

/-- The sign words of block `n`: eight rows of 128. -/
def wordD (arg3 : Memref sig .tc .vmem S1x1x64x8x128 .i32) (X3 : BufTy.Contents (Elt F) arg3.view.ty) (n : Fin 64) : IVec S8x128 32 :=
  shapeCast S8x128 (View.readAt (Elt F) arg3.view (Rect.unit (s := S1x1x64x8x128) ![0, 0, n.val, 0, 0]
    S1x1x1x8x128.size (word_inb n.val n.isLt)).toLoadRect X3) shapeCasts_S1x1x1x8x128_S8x128

/-- The place the sign bit is shifted up by: `31 - (16 p + 2 k + hf)`, as the loop computes it. -/
def shD (k : Fin k0_t1_loop.trips) (p hf : ℕ) : BitVec 32 :=
  Scalar.subi 31#32 (Scalar.addi (Scalar.addi (BitVec.ofNat 32 (16 * p)) (Scalar.muli 2#32 (Scf.iv 0#32 1#32 k))) (BitVec.ofNat 32 hf))

theorem run_slices (r hf : ℕ) (hr : r < 32) (hh : hf < 2) : S256x256.Slices ![8 * r, 128 * hf] S8x128 :=
  ⟨rfl, fun a => by match a with | ⟨0, _⟩ => (show 8 * r + 8 ≤ 256; omega) | ⟨1, _⟩ => (show 128 * hf + 128 ≤ 256; omega)⟩

/-- A stored run: eight rows of the product, scaled and signed. -/
def runD (M : FVec F S256x256 .f32) (mult : FVec F S8x128 .f32) (w : IVec S8x128 32) (n : BitVec 32) (r hf : ℕ) (hr : r < 32) (hh : hf < 2) : FVec F S1x8x128 .f32 :=
  shapeCast S1x8x128 (flipT (mulf (extractStridedSlice S8x128 ![8 * r, 128 * hf] M (run_slices r hf hr hh)) mult) w n) shapeCasts_S8x128_S1x8x128

end Cert.DecodeIdeal.Gen

end
-- ==== Proof.DPieces.lean ====
module

public import proofs.«01_k».proof.Proof.DTrips

@[expose] public section

set_option maxRecDepth 65536
set_option maxHeartbeats 0

noncomputable section

namespace Cert.DecodeIdeal.Gen

open Idealize.ShloMosaic Idealize.ShloMosaic.TcCoe Idealize.ShloMosaic.Tactic
open Idealize.SL Idealize.SL.RA Idealize.SL.BI
open Cert.KernelIdeal.Gen (firstPieces flipT)

variable {F : FTy → Type} [FloatOps F]

/-- What a trip stores: run `j` is half `j % 2` of rows `8 (j / 2 % 32)` of the product of quarter `j / 64`. -/
theorem trip_pieces (𝒱 : Variants) (c : Dev nD) (bd : Option 𝒱.V) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec F S256x256 .bf16) (v2 : Vec F S1x8x128 .f32) (v8 : Vec F S1x8x128 .f32)
    (X2 : BufTy.Contents (Elt F) arg2.view.ty) (X3 : BufTy.Contents (Elt F) arg3.view.ty) (k : Fin k0_t1_loop.trips) :
    (trip_k0_t1 (F := F) 𝒱 c bd i arg2 harg2 arg3 harg3 arg4 harg4 arg5 harg5 arg6 harg6 arg7 harg7 arg8 harg8 v0 v2 v8 X2 X3 k).1
      = firstPieces (fun j : Fin 256 => ⟨Rect.unit (s := S1x8x262144) (k0_off65 k (BitVec.ofNat 32 (2048 * (j.val / 2))) (BitVec.ofNat 32 (128 * (j.val % 2)))) S1x8x128.size
            (k0_off65_inb k ⟨j.val / 2, by omega⟩ ⟨j.val % 2, by omega⟩),
          runD (prodR (k0_pay1 v0) (prodL (k0_pay1 v0) (tileD arg2 X2 k (j.val / 64)))) (k0_pay4 v2 v8) (wordD arg3 X3 ⟨j.val / 4, by omega⟩)
            (shD k (j.val / 2 % 2) (j.val % 2)) (j.val / 2 % 32) (j.val % 2) (by omega) (by omega)⟩) 256 le_rfl := by
  unfold trip_k0_t1
  rfl

end Cert.DecodeIdeal.Gen

end
-- ==== Proof.DMath.lean ====
module

public import proofs.«01_k».proof.Proof.Math

@[expose] public section

noncomputable section

namespace Cert.Rot

open scoped BigOperators

/-! # The decoding's stages over the reals, and its tiles -/

/-- The byte of a word that starts at bit `s`, as a number. -/
def byteR (w : BitVec 32) (s : ℕ) : ℝ := (((w >>> s) &&& 255#32).toNat : ℝ)

theorem stagesR_smul (a : ℝ) (k : ℕ) (v : ℕ → ℝ) : stagesR k (fun t => a * v t) = fun d => a * stagesR k v d := by
  induction k with
  | zero => rfl
  | succ k ih =>
    funext d
    show sstR (2 ^ k) (stagesR k fun t => a * v t) d = a * sstR (2 ^ k) (stagesR k v) d
    rw [ih]
    unfold sstR
    split <;> ring

/-- The eighteen stages of the decoding on a block of eight rows: eight along 256 neighbouring columns, seven along the
128 blocks of 2048 columns, and three across the rows. -/
def decR (v : ℕ → ℕ → ℝ) (r d : ℕ) : ℝ :=
  stagesR 3 (fun r' => stagesR 7 (fun e => stagesR 8 (v r') (2048 * e + d % 2048)) (d / 2048)) r

theorem decR_smul (a : ℝ) (v : ℕ → ℕ → ℝ) (r d : ℕ) : decR (fun r' d' => a * v r' d') r d = a * decR v r d := by
  unfold decR
  simp only [stagesR_smul]

/-- The stages done tile by tile: two stages over the four quarters of the columns, then within a tile of 256 rows
and 256 columns a product with the sign matrix on each side. -/
theorem tiles_eq_decR (v : ℕ → ℕ → ℝ) (r d : ℕ) (hr : r < 8) (hd : d < 262144) :
    ∑ i ∈ Finset.range 256, (∑ j ∈ Finset.range 256, wR 8 (8 * (d % 65536 / 2048) + r) j *
      stagesR 2 (fun c => v (j % 8) (65536 * c + 2048 * (j / 8) + 256 * (d % 2048 / 256) + i)) (d / 65536)) * wR 8 i (d % 256) = decR v r d := by
  have hsymm (i a : ℕ) : wR 8 i a = wR 8 a i := by unfold wR; rw [Nat.and_comm]
  unfold decR
  rw [stagesR_eq]
  have hR : ∀ e < 8, wR 3 r e * stagesR 7 (fun t => stagesR 8 (v (r / 2 ^ 3 * 2 ^ 3 + e)) (2048 * t + d % 2048)) (d / 2048)
      = ∑ c ∈ Finset.range 4, ∑ p ∈ Finset.range 32, ∑ i ∈ Finset.range 256,
      wR 3 r e * (wR 8 (d % 256) i * (wR 5 (d % 65536 / 2048) p * wR 2 (d / 65536) c) * v e (65536 * c + 2048 * p + 256 * (d % 2048 / 256) + i)) := by
    intro e he
    rw [stagesR_eq, show 2 ^ 7 = 32 * 4 from rfl, sum_split, Finset.mul_sum]
    refine Finset.sum_congr rfl fun c hc => ?_
    rw [Finset.mul_sum]
    refine Finset.sum_congr rfl fun p hp => ?_
    rw [stagesR_eq, Finset.mul_sum, Finset.mul_sum]
    refine Finset.sum_congr rfl fun i hi => ?_
    have hc := Finset.mem_range.mp hc
    have hp := Finset.mem_range.mp hp
    have hi := Finset.mem_range.mp hi
    rw [wR_add 5 2, show (p + 32 * c) / 2 ^ 5 = c by omega, show d / 2048 / 2 ^ 5 = d / 65536 by omega,
      wR_congr (k := 5) (a := d / 2048) (a' := d % 65536 / 2048) (b' := p) (by omega) (by omega),
      wR_congr (k := 8) (a := 2048 * (d / 2048 / (32 * 4) * (32 * 4) + (p + 32 * c)) + d % 2048) (a' := d % 256) (b' := i) (by omega) rfl,
      show r / 2 ^ 3 * 2 ^ 3 + e = e by omega,
      show (2048 * (d / 2048 / (32 * 4) * (32 * 4) + (p + 32 * c)) + d % 2048) / 2 ^ 8 * 2 ^ 8 + i = 65536 * c + 2048 * p + 256 * (d % 2048 / 256) + i by omega]
    ring
  rw [show ∑ e ∈ Finset.range (2 ^ 3), wR 3 r e * stagesR 7 (fun t => stagesR 8 (v (r / 2 ^ 3 * 2 ^ 3 + e)) (2048 * t + d % 2048)) (d / 2048) = _ from
    Finset.sum_congr rfl fun e he => hR e (Finset.mem_range.mp he)]
  have hL : ∀ i < 256, (∑ j ∈ Finset.range 256, wR 8 (8 * (d % 65536 / 2048) + r) j *
      stagesR 2 (fun c => v (j % 8) (65536 * c + 2048 * (j / 8) + 256 * (d % 2048 / 256) + i)) (d / 65536)) * wR 8 i (d % 256)
      = ∑ e ∈ Finset.range 8, ∑ c ∈ Finset.range 4, ∑ p ∈ Finset.range 32,
      wR 3 r e * (wR 8 (d % 256) i * (wR 5 (d % 65536 / 2048) p * wR 2 (d / 65536) c) * v e (65536 * c + 2048 * p + 256 * (d % 2048 / 256) + i)) := by
    intro i hi
    rw [show (256 : ℕ) = 8 * 32 from rfl, sum_split, Finset.sum_mul]
    have : ∀ p < 32, (∑ e ∈ Finset.range 8, wR 8 (8 * (d % 65536 / 2048) + r) (e + 8 * p) *
        stagesR 2 (fun c => v ((e + 8 * p) % 8) (65536 * c + 2048 * ((e + 8 * p) / 8) + 8 * 32 * (d % 2048 / (8 * 32)) + i)) (d / 65536)) * wR 8 i (d % (8 * 32))
        = ∑ e ∈ Finset.range 8, ∑ c ∈ Finset.range 4, wR 3 r e * (wR 8 (d % 256) i * (wR 5 (d % 65536 / 2048) p * wR 2 (d / 65536) c) * v e (65536 * c + 2048 * p + 256 * (d % 2048 / 256) + i)) := by
      intro p hp
      rw [Finset.sum_mul]
      refine Finset.sum_congr rfl fun e he => ?_
      have he := Finset.mem_range.mp he
      rw [stagesR_eq, Finset.mul_sum, Finset.sum_mul]
      refine Finset.sum_congr rfl fun c hc => ?_
      have hc : c < 4 := Finset.mem_range.mp hc
      rw [show (e + 8 * p) % 8 = e by omega, show (e + 8 * p) / 8 = p by omega, show d / 65536 / 2 ^ 2 * 2 ^ 2 + c = c by omega, hsymm i,
        show wR 8 (8 * (d % 65536 / 2048) + r) (e + 8 * p) = wR 3 r e * wR 5 (d % 65536 / 2048) p from by
          rw [wR_add 3 5, wR_congr (k := 3) (a' := r) (b' := e) (by omega) (by omega), show (8 * (d % 65536 / 2048) + r) / 2 ^ 3 = d % 65536 / 2048 by omega,
            show (e + 8 * p) / 2 ^ 3 = p by omega]]
      show _ * (wR 2 (d / 65536) c * v e (65536 * c + 2048 * p + 256 * (d % 2048 / 256) + i)) * wR 8 (d % 256) i = _
      ring
    rw [Finset.sum_congr rfl fun p hp => this p (Finset.mem_range.mp hp), Finset.sum_comm]
    refine Finset.sum_congr rfl fun e _ => ?_
    rw [Finset.sum_comm]
  rw [Finset.sum_congr rfl fun i hi => hL i (Finset.mem_range.mp hi), Finset.sum_comm]
  refine Finset.sum_congr rfl fun e _ => ?_
  rw [Finset.sum_comm]
  refine Finset.sum_congr rfl fun c _ => ?_
  rw [Finset.sum_comm]

end Cert.Rot

end
-- ==== Proof.DTile.lean ====
module

public import proofs.«01_k».proof.Proof.DTrips
public import proofs.«01_k».proof.Proof.DMath
public import proofs.«01_k».proof.Proof.Tile
public import Idealize.ShloMosaic.Lib.BitcastPair
public import Idealize.ShloMosaic.Lib.ValueIdxRank6

@[expose] public section

set_option maxRecDepth 16384

noncomputable section

namespace Cert.DecodeIdeal.Gen

open Idealize.ShloMosaic Idealize.ShloMosaic.TcCoe Idealize.ShloMosaic.Tactic Idealize.ShloMosaic.ValueIdx
open scoped BigOperators
open Cert.Rot
open Cert.KernelIdeal.Gen (rdB rdM rdW eq_rdB eq_rdM eq_rdW flipT flipT_apply mm_apply split_self coe_sum' sst sst_coe)

/-! # The decoding's tile and its products, element by element, at the ideal values -/

/-- The packed words of one row group at column block `n`, part `q`, row `r`, lane `l`. -/
def rdP {α : Type} (x : S1x64x1x8x8x128.Idx → α) (n q r l : ℕ) : α := x (fun a => match a with
  | ⟨0, _⟩ => (0 : Fin 1) | ⟨1, _⟩ => Fin.ofNat 64 n | ⟨2, _⟩ => (0 : Fin 1) | ⟨3, _⟩ => Fin.ofNat 8 q | ⟨4, _⟩ => Fin.ofNat 8 r | ⟨5, _⟩ => Fin.ofNat 128 l)

theorem eq_rdP {α : Type} (x : S1x64x1x8x8x128.Idx → α) (i : S1x64x1x8x8x128.Idx) (n q r l : ℕ) (hn : (i 1).val = n) (hq : (i 3).val = q) (hr : (i 4).val = r) (hl : (i 5).val = l) :
    x i = rdP x n q r l := by
  subst hn hq hr hl
  unfold rdP
  congr 1; funext a
  match a with
  | ⟨0, _⟩ => exact Subsingleton.elim (α := Fin 1) _ _
  | ⟨1, _⟩ => exact Fin.ext (Nat.mod_eq_of_lt (i 1).isLt).symm
  | ⟨2, _⟩ => exact Subsingleton.elim (α := Fin 1) _ _
  | ⟨3, _⟩ => exact Fin.ext (Nat.mod_eq_of_lt (i 3).isLt).symm
  | ⟨4, _⟩ => exact Fin.ext (Nat.mod_eq_of_lt (i 4).isLt).symm
  | ⟨5, _⟩ => exact Fin.ext (Nat.mod_eq_of_lt (i 5).isLt).symm

/-! ## The bytes -/

/-- The value the byte of `w` at bit `s` is read as: the pattern `0x4300` plus the byte, less 192. -/
def valE (w : BitVec 32) (s : ℕ) : EReal :=
  Ideal.ofBits .bf16 (BitVec.ofNat 16 (0x4300 + ((w >>> s) &&& 255#32).toNat)) - Ideal.ofBits .bf16 0x4340#16

theorem ofBits_byte (b : ℕ) (hb : b ≤ 128) : Ideal.ofBits .bf16 (BitVec.ofNat 16 (0x4300 + b)) = ((128 + b : ℝ) : EReal) := by
  have h : ∀ b : Fin 129, (((BitVec.ofNat 16 (0x4300 + b.val)).extractLsb' (8 + 7) 1 == 1#1) = false)
      ∧ ((BitVec.ofNat 16 (0x4300 + b.val)).extractLsb' 7 8).toNat = (if b.val < 128 then 134 else 135)
      ∧ ((BitVec.ofNat 16 (0x4300 + b.val)).extractLsb' 0 7).toNat = b.val % 128 := by decide +kernel
  obtain ⟨h1, h2, h3⟩ := h ⟨b, by omega⟩
  show Ideal.ieee 8 7 (BitVec.ofNat 16 (0x4300 + b)) = _
  unfold Ideal.ieee
  dsimp only at h1 h2 h3 ⊢
  rw [h1, h2, h3]
  by_cases h : b < 128
  · rw [if_pos h, if_neg (by decide), if_neg (by decide), Nat.mod_eq_of_lt h]
    congr 1
    push_cast
    norm_num
  · have : b = 128 := by omega
    subst this
    norm_num

/-- A byte of at most 128 is read as itself less 64. -/
theorem valE_eq (w : BitVec 32) (s : ℕ) (h : ((w >>> s) &&& 255#32).toNat ≤ 128) : valE w s = ((byteR w s - 64 : ℝ) : EReal) := by
  unfold valE byteR
  have e : Ideal.ofBits .bf16 0x4340#16 = ((128 + (64 : ℕ) : ℝ) : EReal) := ofBits_byte 64 (by omega)
  rw [ofBits_byte _ h, e, ← EReal.coe_sub]
  congr 1
  push_cast
  ring

theorem half_word (w : BitVec 32) (h : ℕ) (hh : h < 2) :
    ((w &&& 16711935#32) + 1124090624#32).extractLsb' (16 * h) 16 = BitVec.ofNat 16 (0x4300 + ((w >>> (16 * h)) &&& 255#32).toNat) := by
  apply BitVec.eq_of_toNat_eq
  rw [BitVec.extractLsb'_toNat, BitVec.toNat_add, BitVec.toNat_and, BitVec.toNat_ofNat, BitVec.toNat_and, BitVec.toNat_ushiftRight, Nat.shiftRight_eq_div_pow, Nat.shiftRight_eq_div_pow]
  have hw := w.isLt
  generalize w.toNat = n at hw
  have e1 : (n &&& 16711935) % 2 ^ 16 = n % 256 := by
    rw [Nat.and_mod_two_pow, show 16711935 % 2 ^ 16 = 2 ^ 8 - 1 from rfl, Nat.and_two_pow_sub_one_eq_mod]; omega
  have e2 : (n &&& 16711935) / 2 ^ 16 = n / 65536 % 256 := by
    rw [Nat.and_div_two_pow, show 16711935 / 2 ^ 16 = 2 ^ 8 - 1 from rfl, Nat.and_two_pow_sub_one_eq_mod]
  have e3 (m : ℕ) : m &&& 255 = m % 256 := Nat.and_two_pow_sub_one_eq_mod m 8
  show ((n &&& 16711935) + 1124090624) % 2 ^ 32 / 2 ^ (16 * h) % 2 ^ 16 = (17152 + (n / 2 ^ (16 * h) &&& 255)) % 2 ^ 16
  rw [e3]
  generalize n &&& 16711935 = x at e1 e2
  have hh' : h = 0 ∨ h = 1 := by omega
  rcases hh' with rfl | rfl
  · norm_num; omega
  · norm_num; omega

/-- The place of the word a row of sixteen comes from. -/
def wordAt (x : S16x128.Idx) : S8x128.Idx := fun a => match a with
  | ⟨0, _⟩ => (⟨(x 0).val / 2, by have : (x 0).val < 16 := (x 0).isLt; omega⟩ : Fin 8)
  | ⟨1, _⟩ => (⟨(x 1).val, (x 1).isLt⟩ : Fin 128)

theorem pack_apply (w : IVec S8x128 32) (c d : BitVec 32) (y : S8x128.Idx) :
    addi (andi w (broadcast S8x128 c)) (broadcast S8x128 d) y = (w y &&& c) + d := rfl

theorem split_apply (z : IVec S8x128 32) (x : S16x128.Idx) :
    bitcast S16x128 16 z bitcasts_S8x128_w32_S16x128_w16 x = (z (wordAt x)).extractLsb' (16 * ((x 0).val % 2)) 16 := by
  refine (bitcast_32_16 _ _ _).trans ?_
  have e : (bitcasts_S8x128_w32_S16x128_w16.srcIdx x (S16x128.row x / 2) (by intro a ha; match a with | ⟨0, _⟩ => exact (wordAt x 0).isLt | ⟨1, _⟩ => exact absurd (show 1 + 2 = 2 from ha) (by decide))) = wordAt x := by
    funext a
    match a with
    | ⟨0, _⟩ => rfl
    | ⟨1, _⟩ => rfl
  exact congrArg (fun y => (z y).extractLsb' (16 * ((x 0).val % 2)) 16) e

theorem less_apply (v : IVec S16x128 16) (e : BitVec 16) (x : S16x128.Idx) :
    subf (F := Ideal) (φ := .bf16) (bitcastToFloat .bf16 v) (broadcast S16x128 (FloatOps.ofBits (F := Ideal) .bf16 e)) x
      = Ideal.ofBits .bf16 (v x) - Ideal.ofBits .bf16 e := rfl

/-- The two bytes of a word, the low one in the upper row. -/
theorem valT_apply (w : IVec S8x128 32) (x : S16x128.Idx) : valT (F := Ideal) w x = valE (w (wordAt x)) (16 * ((x 0).val % 2)) := by
  unfold valT valE
  rw [less_apply, split_apply, pack_apply, half_word _ _ (Nat.mod_lt _ (by decide))]

theorem valE_half (w : IVec S8x128 32) (hf : ℕ) (hh : hf < 2) (y : S8x128.Idx) (s : ℕ) : valE (halfZ w hf y) s = valE (w y) (8 * hf + s) := by
  have hh' : hf = 0 ∨ hf = 1 := by omega
  unfold halfZ
  rcases hh' with rfl | rfl
  · rw [if_pos rfl, Nat.mul_zero, Nat.zero_add]
  · rw [if_neg (by decide)]
    have e : shrui w (broadcast S8x128 8#32) y = w y >>> 8 := rfl
    rw [e]
    unfold valE
    rw [← BitVec.shiftRight_add]

/-! ## The tile -/

section Reads
variable (arg2 : Memref sig .tc .vmem S1x64x1x8x8x128 .i32) (arg3 : Memref sig .tc .vmem S1x1x64x8x128 .i32)
    (X2 : BufTy.Contents (Elt Ideal) arg2.view.ty) (X3 : BufTy.Contents (Elt Ideal) arg3.view.ty) (k : Fin k0_t1_loop.trips)

theorem zT_apply (n : ℕ) (hn : n < 64) (x : S8x128.Idx) :
    zT (F := Ideal) arg2 X2 k n x = rdP (arg2.view.read (Elt Ideal) X2) n k.val (x 0).val (x 1).val := by
  unfold zT
  rw [dif_pos hn]
  rw [shapeCast_apply (t := S8x128) _ _ x (show S1x1x1x1x8x128.Idx from fun a => match a with | ⟨0, _⟩ => (0 : Fin 1) | ⟨1, _⟩ => (0 : Fin 1) | ⟨2, _⟩ => (0 : Fin 1) | ⟨3, _⟩ => (0 : Fin 1) | ⟨4, _⟩ => (⟨(x 0).val, (x 0).isLt⟩ : Fin 8) | ⟨5, _⟩ => (⟨(x 1).val, (x 1).isLt⟩ : Fin 128)) (by
    rw [Shape.rowMajor_val_two, Shape.rowMajor_val_six]
    show ((((0 * 1 + 0) * 1 + 0) * 1 + 0) * 8 + (x 0).val) * 128 + (x 1).val = (x 0).val * 128 + (x 1).val
    omega)]
  have e := zOff_eq k n
  refine eq_rdP (arg2.view.read (Elt Ideal) X2) _ _ _ _ _ ?_ ?_ ?_ ?_
  · show zOff k n 1 + 1 * 0 = _
    rw [congrFun e 1]; rfl
  · show zOff k n 3 + 1 * 0 = _
    rw [congrFun e 3]; rfl
  · show zOff k n 4 + 1 * (x 0).val = _
    rw [congrFun e 4]; show 0 + 1 * (x 0).val = _; omega
  · show zOff k n 5 + 1 * (x 1).val = _
    rw [congrFun e 5]; show 0 + 1 * (x 1).val = _; omega

theorem wordD_apply (n : Fin 64) (x : S8x128.Idx) :
    wordD (F := Ideal) arg3 X3 n x = rdW (arg3.view.read (Elt Ideal) X3) n.val (x 0).val (x 1).val := by
  unfold wordD
  rw [shapeCast_apply (t := S8x128) _ _ x (show S1x1x1x8x128.Idx from fun a => match a with | ⟨0, _⟩ => (0 : Fin 1) | ⟨1, _⟩ => (0 : Fin 1) | ⟨2, _⟩ => (0 : Fin 1) | ⟨3, _⟩ => (⟨(x 0).val, (x 0).isLt⟩ : Fin 8) | ⟨4, _⟩ => (⟨(x 1).val, (x 1).isLt⟩ : Fin 128)) (by
    rw [Shape.rowMajor_val_two, Shape.rowMajor_val_five]
    show (((0 * 1 + 0) * 1 + 0) * 8 + (x 0).val) * 128 + (x 1).val = (x 0).val * 128 + (x 1).val
    omega)]
  refine eq_rdW (arg3.view.read (Elt Ideal) X3) _ _ _ _ ?_ ?_ ?_
  · show n.val + 1 * 0 = _; omega
  · show 0 + 1 * (x 0).val = _; omega
  · show 0 + 1 * (x 1).val = _; omega

theorem stageG_apply {s : Shape} {e : FTy} (h : ℕ) (v : ℕ → FVec Ideal s e) (x : s.Idx) (t : ℕ) : stageG h v t x = sst h (fun t => v t x) t := by
  unfold stageG sst
  split <;> rfl

/-- Two stages over four numbers. -/
def two (v : ℕ → EReal) : ℕ → EReal := sst 2 (sst 1 v)

theorem two_congr {v w : ℕ → EReal} (h : ∀ t < 4, v t = w t) (t : ℕ) (ht : t < 4) : two v t = two w t := by
  have h0 := h 0 (by omega); have h1 := h 1 (by omega); have h2 := h 2 (by omega); have h3 := h 3 (by omega)
  unfold two
  interval_cases t <;> simp [sst, h0, h1, h2, h3]

theorem two_coe (v : ℕ → ℝ) (t : ℕ) : two (fun c => (v c : EReal)) t = ((stagesR 2 v t : ℝ) : EReal) := by
  unfold two
  rw [sst_coe, sst_coe]
  rfl

/-- The tile of trip `k`, quarter `ch`, at row `a`, column `b`. -/
def tileE (x0 : S1x64x1x8x8x128.Idx → BitVec 32) (k ch a b : ℕ) : EReal :=
  two (fun c => valE (rdP x0 (16 * c + a / 16) k (a % 16 / 2) (b % 128)) (8 * (b / 128) + 16 * (a % 2))) ch

theorem rowsD_apply (ch hf cl : ℕ) (hch : ch < 4) (hh : hf < 2) (hcl : cl < 16) (x : S16x128.Idx) :
    rowsD (F := Ideal) arg2 X2 k ch hf cl x = tileE (arg2.view.read (Elt Ideal) X2) k.val ch (16 * cl + (x 0).val) (128 * hf + (x 1).val) := by
  have h0 : (x 0).val < 16 := (x 0).isLt
  have h1 : (x 1).val < 128 := (x 1).isLt
  unfold rowsD tileE
  rw [stageG_apply, show (fun t => stageG 1 (fun c => valT (F := Ideal) (halfZ (zT arg2 X2 k (16 * c + cl)) hf)) t x) = sst 1 (fun c => valT (F := Ideal) (halfZ (zT arg2 X2 k (16 * c + cl)) hf) x) from
    funext fun t => stageG_apply 1 _ x t]
  refine two_congr (fun c hc => ?_) ch hch
  rw [valT_apply, valE_half _ _ hh, zT_apply _ _ _ _ (by omega)]
  show valE (rdP _ (16 * c + cl) k.val ((x 0).val / 2) (x 1).val) _ = _
  rw [show (16 * cl + (x 0).val) / 16 = cl by omega, show (16 * cl + (x 0).val) % 16 / 2 = (x 0).val / 2 by omega, show (128 * hf + (x 1).val) % 128 = (x 1).val by omega,
    show (128 * hf + (x 1).val) / 128 = hf by omega, show (16 * cl + (x 0).val) % 2 = (x 0).val % 2 by omega]

theorem halfD_apply (ch hf : ℕ) (hch : ch < 4) (hh : hf < 2) (x : S256x128.Idx) :
    halfD (F := Ideal) arg2 X2 k ch hf x = tileE (arg2.view.read (Elt Ideal) X2) k.val ch (x 0).val (128 * hf + (x 1).val) := by
  have h0 : (x 0).val < 256 := (x 0).isLt
  have h1 : (x 1).val < 128 := (x 1).isLt
  unfold halfD
  refine (concatenate_ofFn_apply (t := S256x128) (0 : Fin 2) (fun p : Fin 16 => rowsD (F := Ideal) arg2 X2 k ch hf p.val) _ rfl 16 rfl x
    ⟨(x 0).val / 16, by omega⟩ rfl (show S16x128.Idx from fun a => match a with | ⟨0, _⟩ => (⟨(x 0).val % 16, by omega⟩ : Fin 16) | ⟨1, _⟩ => (⟨(x 1).val, h1⟩ : Fin 128)) rfl ?_).trans ?_
  · intro b hb
    match b, hb with
    | ⟨0, _⟩, hb => exact absurd rfl hb
    | ⟨1, _⟩, _ => rfl
  · rw [rowsD_apply _ _ _ _ _ _ hch hh (by show (x 0).val / 16 < 16; omega)]
    show tileE _ _ _ (16 * ((x 0).val / 16) + (x 0).val % 16) _ = _
    rw [show 16 * ((x 0).val / 16) + (x 0).val % 16 = (x 0).val by omega]

theorem tileD_apply (ch : ℕ) (hch : ch < 4) (x : S256x256.Idx) :
    tileD (F := Ideal) arg2 X2 k ch x = tileE (arg2.view.read (Elt Ideal) X2) k.val ch (x 0).val (x 1).val := by
  have h0 : (x 0).val < 256 := (x 0).isLt
  have h1 : (x 1).val < 256 := (x 1).isLt
  unfold tileD
  by_cases h : (x 1).val < 128
  · rw [concatenate_pair_apply_left (s₁ := S256x128) (s₂ := S256x128) (1 : Fin S256x256.rank) _ _ _ x rfl (show S256x128.Idx from fun a => match a with | ⟨0, _⟩ => (⟨(x 0).val, h0⟩ : Fin 256) | ⟨1, _⟩ => (⟨(x 1).val, h⟩ : Fin 128)) (by intro a; match a with | ⟨0, _⟩ => rfl | ⟨1, _⟩ => rfl)]
    rw [halfD_apply _ _ _ _ _ hch (by decide)]
    show tileE _ _ _ _ (128 * 0 + (x 1).val) = _
    rw [Nat.mul_zero, Nat.zero_add]
  · rw [concatenate_pair_apply_right (s₁ := S256x128) (s₂ := S256x128) (1 : Fin S256x256.rank) _ _ _ x rfl rfl (show S256x128.Idx from fun a => match a with | ⟨0, _⟩ => (⟨(x 0).val, h0⟩ : Fin 256) | ⟨1, _⟩ => (⟨(x 1).val - 128, by omega⟩ : Fin 128)) (by intro a ha; match a, ha with | ⟨0, _⟩, _ => rfl | ⟨1, _⟩, ha => exact absurd rfl ha) (by show (x 1).val - 128 + 128 = (x 1).val; omega)]
    rw [halfD_apply _ _ _ _ _ hch (by decide)]
    show tileE _ _ _ _ (128 * 1 + ((x 1).val - 128)) = _
    rw [show 128 * 1 + ((x 1).val - 128) = (x 1).val by omega]

end Reads

/-- The tile of trip `k`, quarter `ch`, as a vector. -/
def tileV (x0 : S1x64x1x8x8x128.Idx → BitVec 32) (k ch : ℕ) : FVec Ideal S256x256 .bf16 := fun i => tileE x0 k ch (i 0).val (i 1).val

/-! ## The products over the reals -/

theorem mmD {φ₁ φ₂ : FTy} (L : FVec Ideal S256x256 φ₁) (R : FVec Ideal S256x256 φ₂) (x : S256x256.Idx) :
    matmul dot_S256x256_S256x256_S256x256_1_0_0_1_n_n none L R (constant S256x256 .f32 0x00000000#32) x
      = ∑ j ∈ Finset.range 256, rdM L (x 0).val j * rdM R j (x 1).val := mm_apply L R x

theorem prodL_apply (H T : FVec Ideal S256x256 .bf16) (tr hr : ℕ → ℕ → ℝ)
    (hT : ∀ a < 256, ∀ b < 256, rdM T a b = (tr a b : EReal)) (hH : ∀ a < 256, ∀ b < 256, rdM H a b = (hr a b : EReal)) (x : S256x256.Idx) :
    prodL H T x = ((∑ j ∈ Finset.range 256, hr (x 0).val j * tr j (x 1).val : ℝ) : EReal) := by
  unfold prodL
  rw [mmD, coe_sum']
  refine Finset.sum_congr rfl fun j hj => ?_
  have hj' := Finset.mem_range.mp hj
  rw [hH _ (x 0).isLt _ hj', hT _ hj' _ (x 1).isLt, EReal.coe_mul]

/-- A product of finite numbers times the matrix: the remainder of the split is zero. -/
theorem prodR_apply (H : FVec Ideal S256x256 .bf16) (V : FVec Ideal S256x256 .f32) (vr hr : ℕ → ℕ → ℝ)
    (hV : ∀ a < 256, ∀ b < 256, rdM V a b = (vr a b : EReal)) (hH : ∀ a < 256, ∀ b < 256, rdM H a b = (hr a b : EReal)) (x : S256x256.Idx) :
    prodR H V x = ((∑ j ∈ Finset.range 256, vr (x 0).val j * hr j (x 1).val : ℝ) : EReal) := by
  have hz : ∀ i, V i - V i = 0 := fun i => split_self _ ((eq_rdM V i _ _ rfl rfl).trans (hV _ (i 0).isLt _ (i 1).isLt))
  unfold prodR
  dsimp only
  rw [addf_apply, mmD, mmD, coe_sum']
  rw [Finset.sum_congr rfl (g := fun j => ((vr (x 0).val j * hr j (x 1).val : ℝ) : EReal)) (fun j hj => ?_)]
  · rw [Finset.sum_eq_zero (s := Finset.range 256) (f := fun j => rdM (truncf .bf16 (subf V (extf .f32 (truncf .bf16 V bitsLt_bf16_f32) bitsLt_bf16_f32)) bitsLt_bf16_f32 : FVec Ideal S256x256 .bf16) (x 0).val j * rdM H j (x 1).val) ?_, add_zero]
    intro j _
    have e := hz (fun a => match a with | ⟨0, _⟩ => Fin.ofNat 256 (x 0).val | ⟨1, _⟩ => Fin.ofNat 256 j)
    have : ∀ v : EReal, v = 0 → v * rdM H j (x 1).val = 0 := by intro v hv; rw [hv, zero_mul]
    exact this _ e
  · have hj' := Finset.mem_range.mp hj
    show rdM V (x 0).val j * rdM H j (x 1).val = _
    rw [hV _ (x 0).isLt _ hj', hH _ hj' _ (x 1).isLt, EReal.coe_mul]

/-- The tile between the matrix on both sides. -/
theorem prod_apply (H T : FVec Ideal S256x256 .bf16) (tr hr : ℕ → ℕ → ℝ)
    (hT : ∀ a < 256, ∀ b < 256, rdM T a b = (tr a b : EReal)) (hH : ∀ a < 256, ∀ b < 256, rdM H a b = (hr a b : EReal))
    (a b : ℕ) (ha : a < 256) (hb : b < 256) :
    rdM (prodR H (prodL H T)) a b = ((∑ i ∈ Finset.range 256, (∑ j ∈ Finset.range 256, hr a j * tr j i) * hr i b : ℝ) : EReal) := by
  refine (prodR_apply H (prodL H T) (fun p q => ∑ j ∈ Finset.range 256, hr p j * tr j q) hr ?_ hH _).trans ?_
  · intro p hp q hq
    refine (prodL_apply H T tr hr hT hH _).trans ?_
    show ((∑ j ∈ Finset.range 256, hr (p % 256) j * tr j (q % 256) : ℝ) : EReal) = _
    rw [Nat.mod_eq_of_lt hp, Nat.mod_eq_of_lt hq]
  · show ((∑ i ∈ Finset.range 256, (∑ j ∈ Finset.range 256, hr (a % 256) j * tr j i) * hr i (b % 256) : ℝ) : EReal) = _
    rw [Nat.mod_eq_of_lt ha, Nat.mod_eq_of_lt hb]

end Cert.DecodeIdeal.Gen

end
-- ==== Proof.DRead.lean ====
module

public import proofs.«01_k».proof.Proof.DPieces
public import proofs.«01_k».proof.Proof.DTile
public import proofs.«01_k».proof.Proof.Body

@[expose] public section

set_option maxRecDepth 16384

noncomputable section

namespace Cert.DecodeIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rot
open Cert.KernelIdeal.Gen (rdB rdM rdW eq_rdB eq_rdM eq_rdW flipT flipT_apply firstPieces read_runs_in read_runs_out read_whole3 readAt_whole3 readAt_whole2)

/-! # What the loop leaves in the result's block, and the body's triple -/

local notation "𝕄" => MT nD τ sig Unit (Elt Ideal) ℕ (UR sig nD τ) ℕ

theorem shD_eq (k : Fin k0_t1_loop.trips) (p hf : Fin 2) : shD k p.val hf.val = BitVec.ofNat 32 (31 - (16 * p.val + 2 * k.val + hf.val)) := by
  have hk : k.val < 8 := lt_of_lt_of_eq k.isLt trips_t1
  have key : ∀ (k : Fin 8) (p hf : Fin 2), Scalar.subi 31#32 (Scalar.addi (Scalar.addi (BitVec.ofNat 32 (16 * p.val)) (Scalar.muli 2#32 (Scf.iv 0#32 1#32 k.val))) (BitVec.ofNat 32 hf.val))
      = BitVec.ofNat 32 (31 - (16 * p.val + 2 * k.val + hf.val)) := by decide +kernel
  exact key ⟨k.val, hk⟩ p hf

/-- A stored run read at a row and a lane. -/
theorem runD_apply (M : FVec Ideal S256x256 .f32) (mult : FVec Ideal S8x128 .f32) (w : IVec S8x128 32) (n r hf : ℕ) (hn : n < 32) (hr : r < 32) (hh : hf < 2) (x : S1x8x128.Idx) (m : EReal)
    (hm : ∀ i, mult i = m) :
    runD M mult w (BitVec.ofNat 32 (31 - n)) r hf hr hh x
      = rdM M (8 * r + (x 1).val) (128 * hf + (x 2).val) * m
          * ((sgnR (w (show S8x128.Idx from fun a => match a with | ⟨0, _⟩ => (⟨(x 1).val, (x 1).isLt⟩ : Fin 8) | ⟨1, _⟩ => (⟨(x 2).val, (x 2).isLt⟩ : Fin 128))) n : ℝ) : EReal) := by
  have h0 : (x 0).val = 0 := Nat.lt_one_iff.mp (x 0).isLt
  have h1 : (x 1).val < 8 := (x 1).isLt
  have h2 : (x 2).val < 128 := (x 2).isLt
  unfold runD
  rw [shapeCast_apply (t := S1x8x128) _ _ x (show S8x128.Idx from fun a => match a with | ⟨0, _⟩ => (⟨(x 1).val, h1⟩ : Fin 8) | ⟨1, _⟩ => (⟨(x 2).val, h2⟩ : Fin 128)) (by
    rw [Shape.rowMajor_val_two, Shape.rowMajor_val_three]
    show (x 1).val * 128 + (x 2).val = ((x 0).val * 8 + (x 1).val) * 128 + (x 2).val
    rw [h0]; omega)]
  rw [flipT_apply _ _ _ hn, mulf_apply, hm]
  rw [extractStridedSlice_apply _ _ _ _ (show S256x256.Idx from fun a => match a with | ⟨0, _⟩ => (⟨8 * r + (x 1).val, by omega⟩ : Fin 256) | ⟨1, _⟩ => (⟨128 * hf + (x 2).val, by omega⟩ : Fin 256)) (by
    intro a
    match a with
    | ⟨0, _⟩ => rfl
    | ⟨1, _⟩ => rfl)]
  rw [eq_rdM M _ (8 * r + (x 1).val) (128 * hf + (x 2).val) rfl rfl]

/-- The result's block: of the words, the sign words, the matrix and the scale the runs are multiplied with. -/
def outD (x0 : S1x64x1x8x8x128.Idx → BitVec 32) (x1 : S1x1x64x8x128.Idx → BitVec 32) (H : FVec Ideal S256x256 .bf16) (m : EReal) : FVec Ideal S1x8x262144 .f32 := fun y =>
  rdM (prodR H (prodL H (tileV x0 ((y 2).val % 2048 / 256) ((y 2).val / 65536)))) (8 * ((y 2).val % 65536 / 2048) + (y 1).val) ((y 2).val % 256) * m
    * ((sgnR (rdW x1 ((y 2).val / 4096) (y 1).val ((y 2).val % 128)) ((y 2).val / 128 % 32) : ℝ) : EReal)

theorem tileD_eq (arg2 : Memref sig .tc .vmem S1x64x1x8x8x128 .i32) (X2 : BufTy.Contents (Elt Ideal) arg2.view.ty) (k : Fin k0_t1_loop.trips) (ch : ℕ) (hch : ch < 4) :
    tileD (F := Ideal) arg2 X2 k ch = tileV (arg2.view.read (Elt Ideal) X2) k.val ch := funext fun x => tileD_apply arg2 X2 k ch hch x

section Loop
variable (𝒱 : Variants) (c : Dev nD) (bd : Option 𝒱.V) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole) (v0 : Vec Ideal S256x256 .bf16) (v2 : Vec Ideal S1x8x128 .f32) (v8 : Vec Ideal S1x8x128 .f32)
    (X2 : BufTy.Contents (Elt Ideal) arg2.view.ty) (X3 : BufTy.Contents (Elt Ideal) arg3.view.ty) (G : BufTy.Contents (Elt Ideal) arg7.view.ty) (m : EReal) (hm : ∀ i, k0_pay4 (F := Ideal) v2 v8 i = m)

include hm in
/-- After `n` trips the first `256 n` columns of every 2048 hold their values; the rest is as found. -/
theorem read_loop (y : S1x8x262144.Idx) : ∀ n : ℕ, n ≤ 8 →
    arg7.view.read (Elt Ideal) (arg7.view.writes (Elt Ideal) G (pb_k0_t1 (F := Ideal) 𝒱 c bd i arg2 harg2 arg3 harg3 arg4 harg4 arg5 harg5 arg6 harg6 arg7 harg7 arg8 harg8 v0 v2 v8 X2 X3 n)) y
      = if (y 2).val % 2048 < 256 * n then outD (arg2.view.read (Elt Ideal) X2) (arg3.view.read (Elt Ideal) X3) (k0_pay1 v0) m y
        else arg7.view.read (Elt Ideal) G y
  | 0, _ => rfl
  | n + 1, hn => by
    have hk : n < k0_t1_loop.trips := by rw [trips_t1]; omega
    have h0 : (y 0).val = 0 := Nat.lt_one_iff.mp (y 0).isLt
    have h2 : (y 2).val < 262144 := (y 2).isLt
    have ih := read_loop y n (by omega)
    rw [pb_k0_t1_succ (F := Ideal) 𝒱 c bd i arg2 harg2 arg3 harg3 arg4 harg4 arg5 harg5 arg6 harg6 arg7 harg7 arg8 harg8 v0 v2 v8 X2 X3 ⟨n, hk⟩, trip_pieces]
    have hoff : ∀ j : Fin 256, k0_off65 ⟨n, hk⟩ (BitVec.ofNat 32 (2048 * (j.val / 2))) (BitVec.ofNat 32 (128 * (j.val % 2))) = ![0, 0, 2048 * (j.val / 2) + 256 * n + 128 * (j.val % 2)] :=
      fun j => off65_at ⟨n, hk⟩ _ _ (by omega) (by omega)
    by_cases hin : 256 * n ≤ (y 2).val % 2048 ∧ (y 2).val % 2048 < 256 * (n + 1)
    · rw [if_pos hin.2]
      obtain ⟨h1, h3⟩ := hin
      have hp : (y 2).val / 2048 * 2 + (y 2).val % 256 / 128 < 256 := by omega
      refine (read_runs_in arg7.view G (fun j : Fin 256 => 2048 * (j.val / 2) + 256 * n + 128 * (j.val % 2)) _ _ _ hoff _ y
        ⟨(y 2).val / 2048 * 2 + (y 2).val % 256 / 128, hp⟩
        (fun a => match a with | ⟨0, _⟩ => (0 : Fin 1) | ⟨1, _⟩ => (⟨(y 1).val, (y 1).isLt⟩ : Fin 8) | ⟨2, _⟩ => (⟨(y 2).val % 128, Nat.mod_lt _ (by decide)⟩ : Fin 128)) ?_ ?_ 256 le_rfl hp).trans ?_
      · intro a
        match a with
        | ⟨0, _⟩ => exact h0
        | ⟨1, _⟩ => exact (Nat.zero_add _).symm
        | ⟨2, _⟩ =>
          show (y 2).val = 2048 * (((y 2).val / 2048 * 2 + (y 2).val % 256 / 128) / 2) + 256 * n + 128 * (((y 2).val / 2048 * 2 + (y 2).val % 256 / 128) % 2) + (y 2).val % 128
          omega
      · intro q hq
        have hq' : q.val ≠ (y 2).val / 2048 * 2 + (y 2).val % 256 / 128 := fun e => hq (Fin.ext e)
        show (y 2).val < 2048 * (q.val / 2) + 256 * n + 128 * (q.val % 2) ∨ 2048 * (q.val / 2) + 256 * n + 128 * (q.val % 2) + 128 ≤ (y 2).val
        omega
      · have e1 : ((y 2).val / 2048 * 2 + (y 2).val % 256 / 128) / 64 = (y 2).val / 65536 := by omega
        have e2 : ((y 2).val / 2048 * 2 + (y 2).val % 256 / 128) / 2 % 32 = (y 2).val % 65536 / 2048 := by omega
        have e3 : ((y 2).val / 2048 * 2 + (y 2).val % 256 / 128) % 2 = (y 2).val % 256 / 128 := by omega
        have e4 : ((y 2).val / 2048 * 2 + (y 2).val % 256 / 128) / 4 = (y 2).val / 4096 := by omega
        have e5 : ((y 2).val / 2048 * 2 + (y 2).val % 256 / 128) / 2 % 2 = (y 2).val / 2048 % 2 := by omega
        dsimp only
        rw [shD_eq ⟨n, hk⟩ ⟨((y 2).val / 2048 * 2 + (y 2).val % 256 / 128) / 2 % 2, by omega⟩ ⟨((y 2).val / 2048 * 2 + (y 2).val % 256 / 128) % 2, by omega⟩]
        refine (runD_apply _ _ _ _ _ _ (by show 16 * (((y 2).val / 2048 * 2 + (y 2).val % 256 / 128) / 2 % 2) + 2 * n + ((y 2).val / 2048 * 2 + (y 2).val % 256 / 128) % 2 < 32; omega) _ _ _ m hm).trans ?_
        rw [wordD_apply, tileD_eq _ _ _ _ (by omega)]
        unfold outD
        show rdM (prodR _ (prodL _ (tileV _ n (((y 2).val / 2048 * 2 + (y 2).val % 256 / 128) / 64)))) (8 * (((y 2).val / 2048 * 2 + (y 2).val % 256 / 128) / 2 % 32) + (y 1).val) (128 * (((y 2).val / 2048 * 2 + (y 2).val % 256 / 128) % 2) + (y 2).val % 128) * m
          * ((sgnR (rdW _ (((y 2).val / 2048 * 2 + (y 2).val % 256 / 128) / 4) (y 1).val ((y 2).val % 128)) (16 * (((y 2).val / 2048 * 2 + (y 2).val % 256 / 128) / 2 % 2) + 2 * n + ((y 2).val / 2048 * 2 + (y 2).val % 256 / 128) % 2) : ℝ) : EReal) = _
        rw [e1, e2, e3, e4, e5, show (y 2).val % 2048 / 256 = n by omega, show 128 * ((y 2).val % 256 / 128) + (y 2).val % 128 = (y 2).val % 256 by omega,
          show 16 * ((y 2).val / 2048 % 2) + 2 * n + (y 2).val % 256 / 128 = (y 2).val / 128 % 32 by omega]
    · refine (read_runs_out arg7.view G (fun j : Fin 256 => 2048 * (j.val / 2) + 256 * n + 128 * (j.val % 2)) _ _ _ hoff _ y 256 le_rfl ?_).trans ?_
      · intro p _
        have := p.isLt
        show (y 2).val < 2048 * (p.val / 2) + 256 * n + 128 * (p.val % 2) ∨ 2048 * (p.val / 2) + 256 * n + 128 * (p.val % 2) + 128 ≤ (y 2).val
        omega
      · rw [ih]
        by_cases h : (y 2).val % 2048 < 256 * n
        · rw [if_pos h, if_pos (by omega)]
        · rw [if_neg h, if_neg (by omega)]

end Loop

/-! ## The body's triple -/

theorem pay1_eq (v0 : Vec Ideal S256x256 .bf16) : k0_pay1 (F := Ideal) v0 = v0 := by
  funext x
  unfold k0_pay1
  exact shapeCast_apply _ _ x x rfl

/-- The scale of a batch from the two sums. -/
def sclD (v2 v8 : Vec Ideal S1x8x128 .f32) : EReal := k0_pay2 (F := Ideal) v2 v8

theorem pay4_apply (v2 v8 : Vec Ideal S1x8x128 .f32) (i : S8x128.Idx) : k0_pay4 (F := Ideal) v2 v8 i = Ideal.ofBits .f32 0xB9B504F3#32 * sclD v2 v8 := rfl

theorem pay3_apply (v2 v8 : Vec Ideal S1x8x128 .f32) (i : S1x8x128.Idx) : k0_pay3 (F := Ideal) v2 v8 i = sclD v2 v8 := rfl

set_option maxHeartbeats 2000000 in
/-- The body at any grid step: the decoded block, and the batch's scale in every place of the scale's block. -/
theorem kernelRun0 (c : Dev nD) (i : grid0.Coords) (arg2 : Memref sig .tc .vmem S1x64x1x8x8x128 .i32) (harg2 : arg2.IsWhole) (arg3 : Memref sig .tc .vmem S1x1x64x8x128 .i32) (harg3 : arg3.IsWhole) (arg4 : Memref sig .tc .vmem S256x256 .bf16) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x262144 .f32) (harg7 : arg7.IsWhole) (arg8 : Memref sig .tc .vmem S1x8x128 .f32) (harg8 : arg8.IsWhole)
    (x0 : Vec Ideal S1x64x1x8x8x128 .i32) (x1 : Vec Ideal S1x1x64x8x128 .i32) (x2 : Vec Ideal S256x256 .bf16) (x3 x4 : Vec Ideal S1x8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (outD x0 x1 x2 (Ideal.ofBits .f32 0xB9B504F3#32 * sclD x3 x4)) ∗ owns (c : Thread nD τ) arg8 fullShare (fun _ => sclD x3 x4)) -∗ K ⟨⟩))
          ⊢ wp frame (wpE (defs₀ (F := Ideal)) Variants.none c none) E (cc0__dec_kernel i arg2 harg2 arg3 harg3 arg4 harg4 arg5 harg5 arg6 harg6 arg7 harg7 arg8 harg8) K := by
    intro E K
    simp only [cc0__dec_kernel_eq_skeleton]; unfold cc0__dec_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      funext y
      refine (read_loop _ _ _ _ _ _ _ _ _ _ _ _ _ _ _ _ _ _ _ _ _ _ _ _ _ (fun i => pay4_apply _ _ i) y 8 le_rfl).trans ?_
      rw [if_pos (by omega), pay1_eq, harg2.read_unread, harg3.read_unread]
      rw [show _ = x2 from (readAt_whole2 arg4.view _ _).trans hf2, show _ = x3 from (readAt_whole3 arg5.view _ _).trans hf3, show _ = x4 from (readAt_whole3 arg6.view _ _).trans hf4]
    iexists _; isplitr; swap; · iexact H6
    ipureintro
    refine (read_whole3 arg8.view _ _ rfl _ _).trans ?_
    funext y
    rw [show _ = x3 from (readAt_whole3 arg5.view _ _).trans hf3, show _ = x4 from (readAt_whole3 arg6.view _ _).trans hf4]
    exact pay3_apply _ _ y

end Cert.DecodeIdeal.Gen

end
-- ==== Proof.DRun.lean ====
module

public import proofs.«01_k».proof.Proof.DRead
public import proofs.«01_k».proof.Proof.KVal
public import Idealize.ShloMosaic.Lib.Pipeline.FrameBody
public import Idealize.ShloMosaic.Lib.Pipeline.ValueKit.Geometry

@[expose] public section

set_option maxRecDepth 16384

noncomputable section

namespace Cert.DecodeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open scoped BigOperators
open Cert.Rot
open Cert.KernelIdeal.Gen (rdB eq_rdB rdM hostH blkS)
open Idealize.ShloMosaic.Pipeline (Dat Cfg Window BodyObligation cellOf)

/-! # The decoding's run at the ideal values: it terminates, leaves the arguments, and its two results are named -/

local notation "𝕄" => MT nD τ sig Unit (Elt Ideal) ℕ (UR sig nD τ) ℕ

variable (m : (ℓ : Loc nD τ sig) → Buf (Elt Ideal) ℓ) (ρ : Dev nD → PrngReg)

/-- The decoded block of point `t`. -/
def outAt (c : Dev nD) (t : Fin cfg0.N) : FVec Ideal S1x8x262144 .f32 :=
  outD (iblk (F := Ideal) m c 0 t) (iblk (F := Ideal) m c 1 t) (iblk (F := Ideal) m c 2 t) (Ideal.ofBits .f32 0xB9B504F3#32 * sclD (iblk (F := Ideal) m c 3 t) (iblk (F := Ideal) m c 4 t))

/-- The scale's block at point `t`. -/
def sclAt (c : Dev nD) (t : Fin cfg0.N) : FVec Ideal S1x8x128 .f32 := fun _ => sclD (iblk (F := Ideal) m c 3 t) (iblk (F := Ideal) m c 4 t)

/-- The proof data: the arrays as the region finds them; after the body the inputs at their blocks, the decoded block and the scale. -/
def dats (_ : Fin 1) (c : Dev nD) : Dat τ (Elt Ideal) Unit ℕ (UR sig nD τ) ℕ cfg0 c where
  A w := V (F := Ideal) m c (Pipeline.arrRef spec0 w)
  after w t := match w with
    | ⟨0, _⟩ => iblk (F := Ideal) m c 0 t
    | ⟨1, _⟩ => iblk (F := Ideal) m c 1 t
    | ⟨2, _⟩ => iblk (F := Ideal) m c 2 t
    | ⟨3, _⟩ => iblk (F := Ideal) m c 3 t
    | ⟨4, _⟩ => iblk (F := Ideal) m c 4 t
    | ⟨5, _⟩ => outAt m c t
    | ⟨6, _⟩ => sclAt m c t
  Φ _ := Pipeline.ΦA spec0 c
  q _ := fullShare
  owed _ := 0

theorem A_eq (c : Dev nD) (w : Fin cfg0.W) : (dats m 0 c).A w = V (F := Ideal) m c (Pipeline.arrRef spec0 w) := by
  dsimp only [dats]

theorem after0_0 (c : Dev nD) (t : Fin cfg0.N) : (dats m 0 c).after 0 t = iblk (F := Ideal) m c 0 t := by dsimp only [dats]
theorem after0_1 (c : Dev nD) (t : Fin cfg0.N) : (dats m 0 c).after 1 t = iblk (F := Ideal) m c 1 t := by dsimp only [dats]
theorem after0_2 (c : Dev nD) (t : Fin cfg0.N) : (dats m 0 c).after 2 t = iblk (F := Ideal) m c 2 t := by dsimp only [dats]
theorem after0_3 (c : Dev nD) (t : Fin cfg0.N) : (dats m 0 c).after 3 t = iblk (F := Ideal) m c 3 t := by dsimp only [dats]
theorem after0_4 (c : Dev nD) (t : Fin cfg0.N) : (dats m 0 c).after 4 t = iblk (F := Ideal) m c 4 t := by dsimp only [dats]
theorem after0_5 (c : Dev nD) (t : Fin cfg0.N) : (dats m 0 c).after 5 t = outAt m c t := by dsimp only [dats]
theorem after0_6 (c : Dev nD) (t : Fin cfg0.N) : (dats m 0 c).after 6 t = sclAt m c t := by dsimp only [dats]

theorem before0_0 (c : Dev nD) (t : Fin cfg0.N) (d) : (dats m 0 c).before 0 t d = iblk (F := Ideal) m c 0 t :=
  before0_0_of (F := Ideal) m (dats m 0 c) (A_eq m c 0) (after0_0 m c) t d
theorem before0_1 (c : Dev nD) (t : Fin cfg0.N) (d) : (dats m 0 c).before 1 t d = iblk (F := Ideal) m c 1 t :=
  before0_1_of (F := Ideal) m (dats m 0 c) (A_eq m c 1) (after0_1 m c) t d
theorem before0_2 (c : Dev nD) (t : Fin cfg0.N) (d) : (dats m 0 c).before 2 t d = iblk (F := Ideal) m c 2 t :=
  before0_2_of (F := Ideal) m (dats m 0 c) (A_eq m c 2) (after0_2 m c) t d
theorem before0_3 (c : Dev nD) (t : Fin cfg0.N) (d) : (dats m 0 c).before 3 t d = iblk (F := Ideal) m c 3 t :=
  before0_3_of (F := Ideal) m (dats m 0 c) (A_eq m c 3) (after0_3 m c) t d
theorem before0_4 (c : Dev nD) (t : Fin cfg0.N) (d) : (dats m 0 c).before 4 t d = iblk (F := Ideal) m c 4 t :=
  before0_4_of (F := Ideal) m (dats m 0 c) (A_eq m c 4) (after0_4 m c) t d

abbrev ms0_0 (t : Fin cfg0.N) : Memref sig .tc .vmem S1x64x1x8x8x128 .i32 := win0_0.stage (cfg0.slots t 0)
abbrev ms0_1 (t : Fin cfg0.N) : Memref sig .tc .vmem S1x1x64x8x128 .i32 := win0_1.stage (cfg0.slots t 1)
abbrev ms0_2 (t : Fin cfg0.N) : Memref sig .tc .vmem S256x256 .bf16 := win0_2.stage (cfg0.slots t 2)
abbrev ms0_3 (t : Fin cfg0.N) : Memref sig .tc .vmem S1x8x128 .f32 := win0_3.stage (cfg0.slots t 3)
abbrev ms0_4 (t : Fin cfg0.N) : Memref sig .tc .vmem S1x8x128 .f32 := win0_4.stage (cfg0.slots t 4)
abbrev ms0_5 (t : Fin cfg0.N) : Memref sig .tc .vmem S1x8x262144 .f32 := win0_5.stage (cfg0.slots t 5)
abbrev ms0_6 (t : Fin cfg0.N) : Memref sig .tc .vmem S1x8x128 .f32 := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  rw [show (dats m 0 c).leavesExact 5 t = owns (c : Thread nD τ) (ms0_5 t) fullShare ((dats m 0 c).after 5 t) from by
    unfold Dat.leavesExact; rw [show cfg0.idle 5 (grid0.coords t) = false from rfl], after0_5]
  rw [show (dats m 0 c).leavesExact 6 t = owns (c : Thread nD τ) (ms0_6 t) fullShare ((dats m 0 c).after 6 t) from by
    unfold Dat.leavesExact; rw [show cfg0.idle 6 (grid0.coords t) = false from rfl], after0_6]
  unfold outAt sclAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0 c (grid0.coords t) _ _ _ _ _ _ _ _ _ _ _ _ _ _ (iblk (F := Ideal) m c 0 t) (iblk (F := Ideal) m c 1 t) (iblk (F := Ideal) m c 2 t) (iblk (F := Ideal) m c 3 t) (iblk (F := Ideal) m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- Every fair execution terminates, the arrays holding the proof data's contents, every counter at zero. -/
theorem run_main_quiescent : θ_run defs (onTc (τ := τ) (main (F := Ideal))) (s₀ m ρ)
    (fun r => (Pipeline.FramePost cfgs (dats m) 0 (V (F := Ideal) m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V (F := Ideal) m) (hmain := hmain (F := Ideal) m Variants.none) (hA := A_eq m) (hΦ := fun _ _ => rfl)

theorem run_main : θ_run defs (onTc (τ := τ) (main (F := Ideal))) (s₀ m ρ) (Pipeline.FramePost cfgs (dats m) 0 (V (F := Ideal) m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of (F := Ideal) m ρ (dats m) (A_eq m) (run_main m ρ)

/-! ## The windows' blocks -/

set_option maxHeartbeats 1600000 in
theorem V_main_v14 (c : Dev nD) : V (F := Ideal) m c main_v14 = hostH := by
  unfold V hostOps0
  after_results_simp
  rfl

/-- The packed words at batch `b`, column block `n`, row group `g`, part `q`, row `r`, lane `l`. -/
def rdZ {α : Type} (x : S2x64x16x8x8x128.Idx → α) (b n g q r l : ℕ) : α := x (fun a => match a with
  | ⟨0, _⟩ => Fin.ofNat 2 b | ⟨1, _⟩ => Fin.ofNat 64 n | ⟨2, _⟩ => Fin.ofNat 16 g | ⟨3, _⟩ => Fin.ofNat 8 q | ⟨4, _⟩ => Fin.ofNat 8 r | ⟨5, _⟩ => Fin.ofNat 128 l)

theorem eq_rdZ {α : Type} (x : S2x64x16x8x8x128.Idx → α) (i : S2x64x16x8x8x128.Idx) (b n g q r l : ℕ) (hb : (i 0).val = b) (hn : (i 1).val = n) (hg : (i 2).val = g) (hq : (i 3).val = q) (hr : (i 4).val = r) (hl : (i 5).val = l) :
    x i = rdZ x b n g q r l := by
  subst hb hn hg hq hr hl
  unfold rdZ
  congr 1; funext a
  match a with
  | ⟨0, _⟩ => exact Fin.ext (Nat.mod_eq_of_lt (i 0).isLt).symm
  | ⟨1, _⟩ => exact Fin.ext (Nat.mod_eq_of_lt (i 1).isLt).symm
  | ⟨2, _⟩ => exact Fin.ext (Nat.mod_eq_of_lt (i 2).isLt).symm
  | ⟨3, _⟩ => exact Fin.ext (Nat.mod_eq_of_lt (i 3).isLt).symm
  | ⟨4, _⟩ => exact Fin.ext (Nat.mod_eq_of_lt (i 4).isLt).symm
  | ⟨5, _⟩ => exact Fin.ext (Nat.mod_eq_of_lt (i 5).isLt).symm

/-- The words of row group `g` of batch `b`. -/
def blkZ (x : S2x64x16x8x8x128.Idx → BitVec 32) (b g : ℕ) : IVec S1x64x1x8x8x128 32 := fun y => rdZ x b (y 1).val g (y 3).val (y 4).val (y 5).val
/-- The partial sums of batch `b`. -/
def blkA (x : S2x8x128.Idx → EReal) (b : ℕ) : FVec Ideal S1x8x128 .f32 := fun y => x (show S2x8x128.Idx from fun a => match a with | ⟨0, _⟩ => Fin.ofNat 2 b | ⟨1, _⟩ => (⟨(y 1).val, (y 1).isLt⟩ : Fin 8) | ⟨2, _⟩ => (⟨(y 2).val, (y 2).isLt⟩ : Fin 128))

theorem index0 : ∀ t : Fin 32, win0_0.index (t.cast N_0.symm) = ![t.val / 16, 0, t.val % 16, 0, 0, 0] := by decide +kernel
theorem index1 : ∀ t : Fin 32, win0_1.index (t.cast N_0.symm) = ![t.val / 16, t.val % 16, 0, 0, 0] := by decide +kernel
theorem index2 : ∀ t : Fin 32, win0_2.index (t.cast N_0.symm) = ![0, 0] := by decide +kernel
theorem index3 : ∀ t : Fin 32, win0_3.index (t.cast N_0.symm) = ![t.val / 16, 0, 0] := by decide +kernel
theorem index4 : ∀ t : Fin 32, win0_4.index (t.cast N_0.symm) = ![t.val / 16, 0, 0] := by decide +kernel
theorem index5 : ∀ t : Fin 32, win0_5.index (t.cast N_0.symm) = ![t.val / 16, t.val % 16, 0] := by decide +kernel
theorem index6 : ∀ t : Fin 32, win0_6.index (t.cast N_0.symm) = ![t.val / 16, 0, 0] := by decide +kernel

theorem iblk0 (c : Dev nD) (t : Fin cfg0.N) : iblk (F := Ideal) m c 0 t = blkZ (m ((c : Thread nD τ).loc main_arg0)) (t.val / 16) (t.val % 16) := by
  have e := index0 (t.cast N_0)
  funext y
  have hy0 : (y 0).val = 0 := Nat.lt_one_iff.mp (y 0).isLt
  have hy2 : (y 2).val = 0 := Nat.lt_one_iff.mp (y 2).isLt
  unfold iblk
  rw [View.read_apply]
  show V (F := Ideal) m c main_arg0 ((win0_0.blk t).view.emb y) = _
  rw [V_main_arg0]
  have e0 : win0_0.index t 0 = t.val / 16 := congrFun e 0
  have e1 : win0_0.index t 1 = 0 := congrFun e 1
  have e2 : win0_0.index t 2 = t.val % 16 := congrFun e 2
  have e3 : win0_0.index t 3 = 0 := congrFun e 3
  have e4 : win0_0.index t 4 = 0 := congrFun e 4
  have e5 : win0_0.index t 5 = 0 := congrFun e 5
  refine eq_rdZ (m ((c : Thread nD τ).loc main_arg0)) _ _ _ _ _ _ _ ?_ ?_ ?_ ?_ ?_ ?_
  · blk_simp; rw [e0]
  · blk_simp; rw [e1]; omega
  · blk_simp; rw [e2]
  · blk_simp; rw [e3]; omega
  · blk_simp; rw [e4]; omega
  · blk_simp; rw [e5]; omega

theorem iblk1 (c : Dev nD) (t : Fin cfg0.N) : iblk (F := Ideal) m c 1 t = blkS (m ((c : Thread nD τ).loc main_arg1)) (t.val / 16) (t.val % 16) := by
  have e := index1 (t.cast N_0)
  funext y
  have hy0 : (y 0).val = 0 := Nat.lt_one_iff.mp (y 0).isLt
  have hy1 : (y 1).val = 0 := Nat.lt_one_iff.mp (y 1).isLt
  unfold iblk
  rw [View.read_apply]
  show V (F := Ideal) m c main_arg1 ((win0_1.blk t).view.emb y) = _
  rw [V_main_arg1]
  have e0 : win0_1.index t 0 = t.val / 16 := congrFun e 0
  have e1 : win0_1.index t 1 = t.val % 16 := congrFun e 1
  have e2 : win0_1.index t 2 = 0 := congrFun e 2
  have e3 : win0_1.index t 3 = 0 := congrFun e 3
  have e4 : win0_1.index t 4 = 0 := congrFun e 4
  refine eq_rdS (m ((c : Thread nD τ).loc main_arg1)) _ _ _ _ _ _ ?_ ?_ ?_ ?_ ?_
  · blk_simp; rw [e0]
  · blk_simp; rw [e1]
  · blk_simp; rw [e2]; omega
  · blk_simp; rw [e3]; omega
  · blk_simp; rw [e4]; omega

theorem iblk2 (c : Dev nD) (t : Fin cfg0.N) : iblk (F := Ideal) m c 2 t = hostH := by
  have e := index2 (t.cast N_0)
  funext y
  unfold iblk
  rw [View.read_apply]
  show V (F := Ideal) m c main_v14 ((win0_2.blk t).view.emb y) = _
  rw [V_main_v14]
  have e0 : win0_2.index t 0 = 0 := congrFun e 0
  have e1 : win0_2.index t 1 = 0 := congrFun e 1
  congr 1
  funext a
  apply Fin.ext
  match a with
  | ⟨0, _⟩ => show (((win0_2.blk t).view.emb y) 0).val = _; blk_simp; rw [e0]; exact (by omega : 0 * 256 + (y 0).val = (y 0).val)
  | ⟨1, _⟩ => show (((win0_2.blk t).view.emb y) 1).val = _; blk_simp; rw [e1]; exact (by omega : 0 * 256 + (y 1).val = (y 1).val)

theorem iblk3 (c : Dev nD) (t : Fin cfg0.N) : iblk (F := Ideal) m c 3 t = blkA (m ((c : Thread nD τ).loc main_arg2)) (t.val / 16) := by
  have e := index3 (t.cast N_0)
  funext y
  have hy0 : (y 0).val = 0 := Nat.lt_one_iff.mp (y 0).isLt
  unfold iblk
  rw [View.read_apply]
  show V (F := Ideal) m c main_arg2 ((win0_3.blk t).view.emb y) = _
  rw [V_main_arg2]
  have e0 : win0_3.index t 0 = t.val / 16 := congrFun e 0
  have e1 : win0_3.index t 1 = 0 := congrFun e 1
  have e2 : win0_3.index t 2 = 0 := congrFun e 2
  have hN : t.val < 32 := lt_of_lt_of_eq t.isLt (show cfg0.N = 32 from N_0)
  unfold blkA
  congr 1
  funext a
  apply Fin.ext
  match a with
  | ⟨0, _⟩ => show (((win0_3.blk t).view.emb y) 0).val = t.val / 16 % 2; blk_simp; rw [e0]; omega
  | ⟨1, _⟩ => show (((win0_3.blk t).view.emb y) 1).val = (y 1).val; blk_simp; rw [e1]; omega
  | ⟨2, _⟩ => show (((win0_3.blk t).view.emb y) 2).val = (y 2).val; blk_simp; rw [e2]; omega

theorem iblk4 (c : Dev nD) (t : Fin cfg0.N) : iblk (F := Ideal) m c 4 t = blkA (m ((c : Thread nD τ).loc main_arg3)) (t.val / 16) := by
  have e := index4 (t.cast N_0)
  funext y
  have hy0 : (y 0).val = 0 := Nat.lt_one_iff.mp (y 0).isLt
  unfold iblk
  rw [View.read_apply]
  show V (F := Ideal) m c main_arg3 ((win0_4.blk t).view.emb y) = _
  rw [V_main_arg3]
  have e0 : win0_4.index t 0 = t.val / 16 := congrFun e 0
  have e1 : win0_4.index t 1 = 0 := congrFun e 1
  have e2 : win0_4.index t 2 = 0 := congrFun e 2
  have hN : t.val < 32 := lt_of_lt_of_eq t.isLt (show cfg0.N = 32 from N_0)
  unfold blkA
  congr 1
  funext a
  apply Fin.ext
  match a with
  | ⟨0, _⟩ => show (((win0_4.blk t).view.emb y) 0).val = t.val / 16 % 2; blk_simp; rw [e0]; omega
  | ⟨1, _⟩ => show (((win0_4.blk t).view.emb y) 1).val = (y 1).val; blk_simp; rw [e1]; omega
  | ⟨2, _⟩ => show (((win0_4.blk t).view.emb y) 2).val = (y 2).val; blk_simp; rw [e2]; omega

/-! ## The results -/

/-- The scale of batch `b`. -/
def sclK (x2 x3 : S2x8x128.Idx → EReal) (b : ℕ) : EReal := sclD (blkA x2 b) (blkA x3 b)

/-- The array of the scales. -/
def sclArr (x2 x3 : S2x8x128.Idx → EReal) : S2x8x128.Idx → EReal := fun i => sclK x2 x3 (i 0).val

/-- The decoded array: every row group's decoded block. -/
def decK (z : S2x64x16x8x8x128.Idx → BitVec 32) (w : S2x16x64x8x128.Idx → BitVec 32) (x2 x3 : S2x8x128.Idx → EReal) : S2x128x262144.Idx → EReal := fun i =>
  rdB (outD (blkZ z (i 0).val ((i 1).val / 8)) (blkS w (i 0).val ((i 1).val / 8)) hostH (Ideal.ofBits .f32 0xB9B504F3#32 * sclK x2 x3 (i 0).val)) ((i 1).val % 8) (i 2).val

theorem arr5 (c : Dev nD) : (dats m 0 c).arrAt 5 cfg0.N = decK (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outAt
  rw [iblk0, iblk1, iblk2, iblk3, iblk4]
  have hN : t.val < 32 := lt_of_lt_of_eq t.isLt (show cfg0.N = 32 from N_0)
  have e := index5 (t.cast N_0)
  have e0 : win0_5.index t 0 = t.val / 16 := congrFun e 0
  have e1 : win0_5.index t 1 = t.val % 16 := congrFun e 1
  have e2 : win0_5.index t 2 = 0 := congrFun e 2
  have hy0 : (y 0).val = 0 := Nat.lt_one_iff.mp (y 0).isLt
  have hy1 : (y 1).val < 8 := (y 1).isLt
  unfold decK
  have i0 : (((win0_5.blk t).view.emb y) 0).val = t.val / 16 := by blk_simp; rw [e0]
  have i1 : (((win0_5.blk t).view.emb y) 1).val = 8 * (t.val % 16) + (y 1).val := by blk_simp; rw [e1]; omega
  have i2 : (((win0_5.blk t).view.emb y) 2).val = (y 2).val := by blk_simp; rw [e2]; omega
  show _ = rdB (outD (blkZ _ (((win0_5.blk t).view.emb y) 0).val ((((win0_5.blk t).view.emb y) 1).val / 8)) (blkS _ (((win0_5.blk t).view.emb y) 0).val ((((win0_5.blk t).view.emb y) 1).val / 8)) hostH (Ideal.ofBits .f32 0xB9B504F3#32 * sclK _ _ (((win0_5.blk t).view.emb y) 0).val)) ((((win0_5.blk t).view.emb y) 1).val % 8) (((win0_5.blk t).view.emb y) 2).val
  rw [i0, i1, i2, show (8 * (t.val % 16) + (y 1).val) / 8 = t.val % 16 by omega, show (8 * (t.val % 16) + (y 1).val) % 8 = (y 1).val by omega]
  exact eq_rdB _ y _ _ rfl rfl

theorem arr6 (c : Dev nD) : (dats m 0 c).arrAt 6 cfg0.N = sclArr (m ((c : Thread nD τ).loc main_arg2)) (m ((c : Thread nD τ).loc main_arg3)) := by
  refine (dats m 0 c).arrAt_eq_of_covers 6 _ (by decide +kernel) fun t hf y => ?_
  blk_simp
  rw [after0_6]
  unfold sclAt
  rw [iblk3, iblk4]
  have e := index6 (t.cast N_0)
  have e0 : win0_6.index t 0 = t.val / 16 := congrFun e 0
  have hy0 : (y 0).val = 0 := Nat.lt_one_iff.mp (y 0).isLt
  have i0 : (((win0_6.blk t).view.emb y) 0).val = t.val / 16 := by blk_simp; rw [e0]
  unfold sclArr sclK
  rw [i0]

/-- The run: both results named, the arguments unchanged. -/
theorem run_values : θ_run defs (onTc (τ := τ) (main (F := Ideal))) ⟨m, fun _ => 0, ρ⟩ (fun r => ∀ c : Dev nD,
      r.2.mem ((c.tc : Thread nD τ).loc main_v15_0) = decK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v15_1) = sclArr (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 5 |>.trans (arr5 m c), (h.1 c).1 6 |>.trans (arr6 m c), h.2 c⟩)
    (θ_run_and (run_main m ρ) (unchanged m ρ))

end Cert.DecodeIdeal.Gen

end
-- ==== Proof.QOps.lean ====
module

public import proofs.«01_k».proof.Proof.Gen.DecodeReferenceIdeal
public import Idealize.ShloMosaic.Lib.StableHlo.Run
public import Idealize.ShloMosaic.Lib.Pipeline.Frame
public import Idealize.ShloMosaic.Lib.Quiescent

@[expose] public section

noncomputable section

namespace Cert.DecodeReferenceIdeal.Value

open Cert.DecodeReferenceIdeal Cert.DecodeReferenceIdeal.Gen Idealize.ShloMosaic Idealize.ShloMosaic.TcCoe Idealize.SL.Sem Idealize.ShloMosaic.StableHlo

/-- The arrays of shape `s`. -/
abbrev C (F : FTy → Type) (s : Shape) : Type := (⟨s, .f32⟩ : BufTy).Contents (Elt F)

/-- The arrays of shape `s`. -/
abbrev CI (F : FTy → Type) (s : Shape) : Type := (⟨s, .i32⟩ : BufTy).Contents (Elt F)

variable {F : FTy → Type} [FloatOps F]

/-! # The reference's host operations, listed stage by stage -/

def fn_main_v38 : C F S2x16x8x131072x1x1 → C F S2x16x8x131072x1x1 → C F S2x16x8x131072x2x1 :=
  (fun a b => concatenate S2x16x8x131072x2x1 4 [⟨S2x16x8x131072x1x1, a⟩, ⟨S2x16x8x131072x1x1, b⟩] concatenates_S2x16x8x131072x1x1_S2x16x8x131072x1x1_S2x16x8x131072x2x1_d4)
def fn_main_v49 : C F S2x16x8x65536x1x2 → C F S2x16x8x65536x1x2 → C F S2x16x8x65536x2x2 :=
  (fun a b => concatenate S2x16x8x65536x2x2 4 [⟨S2x16x8x65536x1x2, a⟩, ⟨S2x16x8x65536x1x2, b⟩] concatenates_S2x16x8x65536x1x2_S2x16x8x65536x1x2_S2x16x8x65536x2x2_d4)
def fn_main_v60 : C F S2x16x8x32768x1x4 → C F S2x16x8x32768x1x4 → C F S2x16x8x32768x2x4 :=
  (fun a b => concatenate S2x16x8x32768x2x4 4 [⟨S2x16x8x32768x1x4, a⟩, ⟨S2x16x8x32768x1x4, b⟩] concatenates_S2x16x8x32768x1x4_S2x16x8x32768x1x4_S2x16x8x32768x2x4_d4)
def fn_main_v71 : C F S2x16x8x16384x1x8 → C F S2x16x8x16384x1x8 → C F S2x16x8x16384x2x8 :=
  (fun a b => concatenate S2x16x8x16384x2x8 4 [⟨S2x16x8x16384x1x8, a⟩, ⟨S2x16x8x16384x1x8, b⟩] concatenates_S2x16x8x16384x1x8_S2x16x8x16384x1x8_S2x16x8x16384x2x8_d4)
def fn_main_v82 : C F S2x16x8x8192x1x16 → C F S2x16x8x8192x1x16 → C F S2x16x8x8192x2x16 :=
  (fun a b => concatenate S2x16x8x8192x2x16 4 [⟨S2x16x8x8192x1x16, a⟩, ⟨S2x16x8x8192x1x16, b⟩] concatenates_S2x16x8x8192x1x16_S2x16x8x8192x1x16_S2x16x8x8192x2x16_d4)
def fn_main_v93 : C F S2x16x8x4096x1x32 → C F S2x16x8x4096x1x32 → C F S2x16x8x4096x2x32 :=
  (fun a b => concatenate S2x16x8x4096x2x32 4 [⟨S2x16x8x4096x1x32, a⟩, ⟨S2x16x8x4096x1x32, b⟩] concatenates_S2x16x8x4096x1x32_S2x16x8x4096x1x32_S2x16x8x4096x2x32_d4)
def fn_main_v104 : C F S2x16x8x2048x1x64 → C F S2x16x8x2048x1x64 → C F S2x16x8x2048x2x64 :=
  (fun a b => concatenate S2x16x8x2048x2x64 4 [⟨S2x16x8x2048x1x64, a⟩, ⟨S2x16x8x2048x1x64, b⟩] concatenates_S2x16x8x2048x1x64_S2x16x8x2048x1x64_S2x16x8x2048x2x64_d4)
def fn_main_v115 : C F S2x16x8x1024x1x128 → C F S2x16x8x1024x1x128 → C F S2x16x8x1024x2x128 :=
  (fun a b => concatenate S2x16x8x1024x2x128 4 [⟨S2x16x8x1024x1x128, a⟩, ⟨S2x16x8x1024x1x128, b⟩] concatenates_S2x16x8x1024x1x128_S2x16x8x1024x1x128_S2x16x8x1024x2x128_d4)
def fn_main_v126 : C F S2x16x8x64x1x2048 → C F S2x16x8x64x1x2048 → C F S2x16x8x64x2x2048 :=
  (fun a b => concatenate S2x16x8x64x2x2048 4 [⟨S2x16x8x64x1x2048, a⟩, ⟨S2x16x8x64x1x2048, b⟩] concatenates_S2x16x8x64x1x2048_S2x16x8x64x1x2048_S2x16x8x64x2x2048_d4)
def fn_main_v137 : C F S2x16x8x32x1x4096 → C F S2x16x8x32x1x4096 → C F S2x16x8x32x2x4096 :=
  (fun a b => concatenate S2x16x8x32x2x4096 4 [⟨S2x16x8x32x1x4096, a⟩, ⟨S2x16x8x32x1x4096, b⟩] concatenates_S2x16x8x32x1x4096_S2x16x8x32x1x4096_S2x16x8x32x2x4096_d4)
def fn_main_v148 : C F S2x16x8x16x1x8192 → C F S2x16x8x16x1x8192 → C F S2x16x8x16x2x8192 :=
  (fun a b => concatenate S2x16x8x16x2x8192 4 [⟨S2x16x8x16x1x8192, a⟩, ⟨S2x16x8x16x1x8192, b⟩] concatenates_S2x16x8x16x1x8192_S2x16x8x16x1x8192_S2x16x8x16x2x8192_d4)
def fn_main_v159 : C F S2x16x8x8x1x16384 → C F S2x16x8x8x1x16384 → C F S2x16x8x8x2x16384 :=
  (fun a b => concatenate S2x16x8x8x2x16384 4 [⟨S2x16x8x8x1x16384, a⟩, ⟨S2x16x8x8x1x16384, b⟩] concatenates_S2x16x8x8x1x16384_S2x16x8x8x1x16384_S2x16x8x8x2x16384_d4)
def fn_main_v170 : C F S2x16x8x4x1x32768 → C F S2x16x8x4x1x32768 → C F S2x16x8x4x2x32768 :=
  (fun a b => concatenate S2x16x8x4x2x32768 4 [⟨S2x16x8x4x1x32768, a⟩, ⟨S2x16x8x4x1x32768, b⟩] concatenates_S2x16x8x4x1x32768_S2x16x8x4x1x32768_S2x16x8x4x2x32768_d4)
def fn_main_v181 : C F S2x16x8x2x1x65536 → C F S2x16x8x2x1x65536 → C F S2x16x8x2x2x65536 :=
  (fun a b => concatenate S2x16x8x2x2x65536 4 [⟨S2x16x8x2x1x65536, a⟩, ⟨S2x16x8x2x1x65536, b⟩] concatenates_S2x16x8x2x1x65536_S2x16x8x2x1x65536_S2x16x8x2x2x65536_d4)
def fn_main_v192 : C F S2x16x8x1x1x131072 → C F S2x16x8x1x1x131072 → C F S2x16x8x1x2x131072 :=
  (fun a b => concatenate S2x16x8x1x2x131072 4 [⟨S2x16x8x1x1x131072, a⟩, ⟨S2x16x8x1x1x131072, b⟩] concatenates_S2x16x8x1x1x131072_S2x16x8x1x1x131072_S2x16x8x1x2x131072_d4)
def fn_main_v203 : C F S2x16x4x1x1x262144 → C F S2x16x4x1x1x262144 → C F S2x16x4x2x1x262144 :=
  (fun a b => concatenate S2x16x4x2x1x262144 3 [⟨S2x16x4x1x1x262144, a⟩, ⟨S2x16x4x1x1x262144, b⟩] concatenates_S2x16x4x1x1x262144_S2x16x4x1x1x262144_S2x16x4x2x1x262144_d3)
def fn_main_v214 : C F S2x16x2x1x2x262144 → C F S2x16x2x1x2x262144 → C F S2x16x2x2x2x262144 :=
  (fun a b => concatenate S2x16x2x2x2x262144 3 [⟨S2x16x2x1x2x262144, a⟩, ⟨S2x16x2x1x2x262144, b⟩] concatenates_S2x16x2x1x2x262144_S2x16x2x1x2x262144_S2x16x2x2x2x262144_d3)
def fn_main_v225 : C F S2x16x1x1x4x262144 → C F S2x16x1x1x4x262144 → C F S2x16x1x2x4x262144 :=
  (fun a b => concatenate S2x16x1x2x4x262144 3 [⟨S2x16x1x1x4x262144, a⟩, ⟨S2x16x1x1x4x262144, b⟩] concatenates_S2x16x1x1x4x262144_S2x16x1x1x4x262144_S2x16x1x2x4x262144_d3)

/-- The operations that unpack the bytes. -/
abbrev st0 : List (HloOp τ sig (Elt F)) :=
  [ nullary main_v0 (iotaInDim S2 32 0),
    unary main_v0 main_v1 (broadcastInDim S1x1x1x1x2x1 ![4] bcast_S2_S1x1x1x1x2x1_4 : CI F S2 → CI F S1x1x1x1x2x1),
    nullary main_v2 (iotaInDim S2 32 0),
    unary main_v2 main_v3 (broadcastInDim S1x1x2x1 ![2] bcast_S2_S1x1x2x1_2 : CI F S2 → CI F S1x1x2x1),
    unary main_arg0 main_v4 ((transpose S2x16x8x64x8x128 [0, 2, 4, 1, 3, 5] · transposes_S2x64x16x8x8x128_S2x16x8x64x8x128_0_2_4_1_3_5) : CI F S2x64x16x8x8x128 → CI F S2x16x8x64x8x128),
    reshape main_v4 main_v5 (rfl : (.i32 : EltTy) = .i32) shapeCasts_S2x16x8x64x8x128_S32x8x64x8x128,
    unary main_v5 main_v6 (broadcastInDim S32x8x64x8x1x128 ![0, 1, 2, 3, 5] bcast_S32x8x64x8x128_S32x8x64x8x1x128_0_1_2_3_5 : CI F S32x8x64x8x128 → CI F S32x8x64x8x1x128),
    nullary main_c (constantI S_ 32 8#32),
    unary main_c main_v7 (broadcastInDim S1x1x1x1x2x1 ![] bcast_S_S1x1x1x1x2x1 : CI F S_ → CI F S1x1x1x1x2x1),
    binary main_v7 main_v1 main_v8 (muli : CI F S1x1x1x1x2x1 → CI F S1x1x1x1x2x1 → CI F S1x1x1x1x2x1),
    unary main_v6 main_v9 (broadcastInDim S32x8x64x8x2x128 ![0, 1, 2, 3, 4, 5] bcast_S32x8x64x8x1x128_S32x8x64x8x2x128_0_1_2_3_4_5 : CI F S32x8x64x8x1x128 → CI F S32x8x64x8x2x128),
    unary main_v8 main_v10 (broadcastInDim S32x8x64x8x2x128 ![0, 1, 2, 3, 4, 5] bcast_S1x1x1x1x2x1_S32x8x64x8x2x128_0_1_2_3_4_5 : CI F S1x1x1x1x2x1 → CI F S32x8x64x8x2x128),
    binary main_v9 main_v10 main_v11 (Host.shrui : CI F S32x8x64x8x2x128 → CI F S32x8x64x8x2x128 → CI F S32x8x64x8x2x128),
    reshape main_v11 main_v12 (rfl : (.i32 : EltTy) = .i32) shapeCasts_S32x8x64x8x2x128_S32x2x4x64x2048,
    unary main_v12 main_v13 ((transpose S32x4x64x2x2048 [0, 2, 3, 1, 4] · transposes_S32x2x4x64x2048_S32x4x64x2x2048_0_2_3_1_4) : CI F S32x2x4x64x2048 → CI F S32x4x64x2x2048),
    reshape main_v13 main_v14 (rfl : (.i32 : EltTy) = .i32) shapeCasts_S32x4x64x2x2048_S32x4x262144,
    unary main_v14 main_v15 (broadcastInDim S32x4x1x262144 ![0, 1, 3] bcast_S32x4x262144_S32x4x1x262144_0_1_3 : CI F S32x4x262144 → CI F S32x4x1x262144),
    nullary main_c_0 (constantI S_ 32 16#32),
    unary main_c_0 main_v16 (broadcastInDim S1x1x2x1 ![] bcast_S_S1x1x2x1 : CI F S_ → CI F S1x1x2x1),
    binary main_v16 main_v3 main_v17 (muli : CI F S1x1x2x1 → CI F S1x1x2x1 → CI F S1x1x2x1),
    unary main_v15 main_v18 (broadcastInDim S32x4x2x262144 ![0, 1, 2, 3] bcast_S32x4x1x262144_S32x4x2x262144_0_1_2_3 : CI F S32x4x1x262144 → CI F S32x4x2x262144),
    unary main_v17 main_v19 (broadcastInDim S32x4x2x262144 ![0, 1, 2, 3] bcast_S1x1x2x1_S32x4x2x262144_0_1_2_3 : CI F S1x1x2x1 → CI F S32x4x2x262144),
    binary main_v18 main_v19 main_v20 (Host.shrui : CI F S32x4x2x262144 → CI F S32x4x2x262144 → CI F S32x4x2x262144),
    nullary main_c_1 (constantI S_ 32 255#32),
    unary main_c_1 main_v21 (broadcastInDim S32x4x2x262144 ![] bcast_S_S32x4x2x262144 : CI F S_ → CI F S32x4x2x262144),
    binary main_v20 main_v21 main_v22 (andi : CI F S32x4x2x262144 → CI F S32x4x2x262144 → CI F S32x4x2x262144),
    unary main_v22 main_v23 (sitofp .f32 : CI F S32x4x2x262144 → C F S32x4x2x262144),
    nullary main_cst (constant S_ .f32 0x40000000#32),
    unary main_cst main_v24 (broadcastInDim S32x4x2x262144 ![] bcast_S_S32x4x2x262144 : C F S_ → C F S32x4x2x262144),
    binary main_v24 main_v23 main_v25 (mulf : C F S32x4x2x262144 → C F S32x4x2x262144 → C F S32x4x2x262144),
    nullary main_cst_2 (constant S_ .f32 0x43000000#32),
    unary main_cst_2 main_v26 (broadcastInDim S32x4x2x262144 ![] bcast_S_S32x4x2x262144 : C F S_ → C F S32x4x2x262144),
    binary main_v26 main_v25 main_v27 (subf : C F S32x4x2x262144 → C F S32x4x2x262144 → C F S32x4x2x262144),
    reshape main_v27 main_v28 (rfl : (.f32 : EltTy) = .f32) shapeCasts_S32x4x2x262144_S2x16x8x262144 ]
/-- Operations of butterfly stage 1. -/
abbrev st1 : List (HloOp τ sig (Elt F)) :=
  [ reshape main_v28 main_v29 (rfl : (.f32 : EltTy) = .f32) shapeCasts_S2x16x8x262144_S2x16x8x131072x2x1,
    unary main_v29 main_v30 ((extractStridedSlice S2x16x8x131072x1x1 ![0, 0, 0, 0, 0, 0] · slices_S2x16x8x131072x2x1_S2x16x8x131072x1x1_0_0_0_0_0_0) : C F S2x16x8x131072x2x1 → C F S2x16x8x131072x1x1),
    reshape main_v30 main_v31 (rfl : (.f32 : EltTy) = .f32) shapeCasts_S2x16x8x131072x1x1_S2x16x8x131072x1,
    unary main_v29 main_v32 ((extractStridedSlice S2x16x8x131072x1x1 ![0, 0, 0, 0, 1, 0] · slices_S2x16x8x131072x2x1_S2x16x8x131072x1x1_0_0_0_0_1_0) : C F S2x16x8x131072x2x1 → C F S2x16x8x131072x1x1),
    reshape main_v32 main_v33 (rfl : (.f32 : EltTy) = .f32) shapeCasts_S2x16x8x131072x1x1_S2x16x8x131072x1,
    binary main_v31 main_v33 main_v34 (addf : C F S2x16x8x131072x1 → C F S2x16x8x131072x1 → C F S2x16x8x131072x1),
    binary main_v31 main_v33 main_v35 (subf : C F S2x16x8x131072x1 → C F S2x16x8x131072x1 → C F S2x16x8x131072x1),
    unary main_v34 main_v36 (broadcastInDim S2x16x8x131072x1x1 ![0, 1, 2, 3, 5] bcast_S2x16x8x131072x1_S2x16x8x131072x1x1_0_1_2_3_5 : C F S2x16x8x131072x1 → C F S2x16x8x131072x1x1),
    unary main_v35 main_v37 (broadcastInDim S2x16x8x131072x1x1 ![0, 1, 2, 3, 5] bcast_S2x16x8x131072x1_S2x16x8x131072x1x1_0_1_2_3_5 : C F S2x16x8x131072x1 → C F S2x16x8x131072x1x1),
    binary main_v36 main_v37 main_v38 (fn_main_v38 (F := F)),
    reshape main_v38 main_v39 (rfl : (.f32 : EltTy) = .f32) shapeCasts_S2x16x8x131072x2x1_S2x16x8x262144 ]
/-- Operations of butterfly stage 2. -/
abbrev st2 : List (HloOp τ sig (Elt F)) :=
  [ reshape main_v39 main_v40 (rfl : (.f32 : EltTy) = .f32) shapeCasts_S2x16x8x262144_S2x16x8x65536x2x2,
    unary main_v40 main_v41 ((extractStridedSlice S2x16x8x65536x1x2 ![0, 0, 0, 0, 0, 0] · slices_S2x16x8x65536x2x2_S2x16x8x65536x1x2_0_0_0_0_0_0) : C F S2x16x8x65536x2x2 → C F S2x16x8x65536x1x2),
    reshape main_v41 main_v42 (rfl : (.f32 : EltTy) = .f32) shapeCasts_S2x16x8x65536x1x2_S2x16x8x65536x2,
    unary main_v40 main_v43 ((extractStridedSlice S2x16x8x65536x1x2 ![0, 0, 0, 0, 1, 0] · slices_S2x16x8x65536x2x2_S2x16x8x65536x1x2_0_0_0_0_1_0) : C F S2x16x8x65536x2x2 → C F S2x16x8x65536x1x2),
    reshape main_v43 main_v44 (rfl : (.f32 : EltTy) = .f32) shapeCasts_S2x16x8x65536x1x2_S2x16x8x65536x2,
    binary main_v42 main_v44 main_v45 (addf : C F S2x16x8x65536x2 → C F S2x16x8x65536x2 → C F S2x16x8x65536x2),
    binary main_v42 main_v44 main_v46 (subf : C F S2x16x8x65536x2 → C F S2x16x8x65536x2 → C F S2x16x8x65536x2),
    unary main_v45 main_v47 (broadcastInDim S2x16x8x65536x1x2 ![0, 1, 2, 3, 5] bcast_S2x16x8x65536x2_S2x16x8x65536x1x2_0_1_2_3_5 : C F S2x16x8x65536x2 → C F S2x16x8x65536x1x2),
    unary main_v46 main_v48 (broadcastInDim S2x16x8x65536x1x2 ![0, 1, 2, 3, 5] bcast_S2x16x8x65536x2_S2x16x8x65536x1x2_0_1_2_3_5 : C F S2x16x8x65536x2 → C F S2x16x8x65536x1x2),
    binary main_v47 main_v48 main_v49 (fn_main_v49 (F := F)),
    reshape main_v49 main_v50 (rfl : (.f32 : EltTy) = .f32) shapeCasts_S2x16x8x65536x2x2_S2x16x8x262144 ]
/-- Operations of butterfly stage 3. -/
abbrev st3a : List (HloOp τ sig (Elt F)) :=
  [ reshape main_v50 main_v51 (rfl : (.f32 : EltTy) = .f32) shapeCasts_S2x16x8x262144_S2x16x8x32768x2x4,
    unary main_v51 main_v52 ((extractStridedSlice S2x16x8x32768x1x4 ![0, 0, 0, 0, 0, 0] · slices_S2x16x8x32768x2x4_S2x16x8x32768x1x4_0_0_0_0_0_0) : C F S2x16x8x32768x2x4 → C F S2x16x8x32768x1x4),
    reshape main_v52 main_v53 (rfl : (.f32 : EltTy) = .f32) shapeCasts_S2x16x8x32768x1x4_S2x16x8x32768x4,
    unary main_v51 main_v54 ((extractStridedSlice S2x16x8x32768x1x4 ![0, 0, 0, 0, 1, 0] · slices_S2x16x8x32768x2x4_S2x16x8x32768x1x4_0_0_0_0_1_0) : C F S2x16x8x32768x2x4 → C F S2x16x8x32768x1x4) ]
/-- Operations of butterfly stage 3. -/
abbrev st3b : List (HloOp τ sig (Elt F)) :=
  [ reshape main_v54 main_v55 (rfl : (.f32 : EltTy) = .f32) shapeCasts_S2x16x8x32768x1x4_S2x16x8x32768x4,
    binary main_v53 main_v55 main_v56 (addf : C F S2x16x8x32768x4 → C F S2x16x8x32768x4 → C F S2x16x8x32768x4),
    binary main_v53 main_v55 main_v57 (subf : C F S2x16x8x32768x4 → C F S2x16x8x32768x4 → C F S2x16x8x32768x4),
    unary main_v56 main_v58 (broadcastInDim S2x16x8x32768x1x4 ![0, 1, 2, 3, 5] bcast_S2x16x8x32768x4_S2x16x8x32768x1x4_0_1_2_3_5 : C F S2x16x8x32768x4 → C F S2x16x8x32768x1x4),
    unary main_v57 main_v59 (broadcastInDim S2x16x8x32768x1x4 ![0, 1, 2, 3, 5] bcast_S2x16x8x32768x4_S2x16x8x32768x1x4_0_1_2_3_5 : C F S2x16x8x32768x4 → C F S2x16x8x32768x1x4),
    binary main_v58 main_v59 main_v60 (fn_main_v60 (F := F)),
    reshape main_v60 main_v61 (rfl : (.f32 : EltTy) = .f32) shapeCasts_S2x16x8x32768x2x4_S2x16x8x262144 ]
/-- Operations of butterfly stage 4. -/
abbrev st4 : List (HloOp τ sig (Elt F)) :=
  [ reshape main_v61 main_v62 (rfl : (.f32 : EltTy) = .f32) shapeCasts_S2x16x8x262144_S2x16x8x16384x2x8,
    unary main_v62 main_v63 ((extractStridedSlice S2x16x8x16384x1x8 ![0, 0, 0, 0, 0, 0] · slices_S2x16x8x16384x2x8_S2x16x8x16384x1x8_0_0_0_0_0_0) : C F S2x16x8x16384x2x8 → C F S2x16x8x16384x1x8),
    reshape main_v63 main_v64 (rfl : (.f32 : EltTy) = .f32) shapeCasts_S2x16x8x16384x1x8_S2x16x8x16384x8,
    unary main_v62 main_v65 ((extractStridedSlice S2x16x8x16384x1x8 ![0, 0, 0, 0, 1, 0] · slices_S2x16x8x16384x2x8_S2x16x8x16384x1x8_0_0_0_0_1_0) : C F S2x16x8x16384x2x8 → C F S2x16x8x16384x1x8),
    reshape main_v65 main_v66 (rfl : (.f32 : EltTy) = .f32) shapeCasts_S2x16x8x16384x1x8_S2x16x8x16384x8,
    binary main_v64 main_v66 main_v67 (addf : C F S2x16x8x16384x8 → C F S2x16x8x16384x8 → C F S2x16x8x16384x8),
    binary main_v64 main_v66 main_v68 (subf : C F S2x16x8x16384x8 → C F S2x16x8x16384x8 → C F S2x16x8x16384x8),
    unary main_v67 main_v69 (broadcastInDim S2x16x8x16384x1x8 ![0, 1, 2, 3, 5] bcast_S2x16x8x16384x8_S2x16x8x16384x1x8_0_1_2_3_5 : C F S2x16x8x16384x8 → C F S2x16x8x16384x1x8),
    unary main_v68 main_v70 (broadcastInDim S2x16x8x16384x1x8 ![0, 1, 2, 3, 5] bcast_S2x16x8x16384x8_S2x16x8x16384x1x8_0_1_2_3_5 : C F S2x16x8x16384x8 → C F S2x16x8x16384x1x8),
    binary main_v69 main_v70 main_v71 (fn_main_v71 (F := F)),
    reshape main_v71 main_v72 (rfl : (.f32 : EltTy) = .f32) shapeCasts_S2x16x8x16384x2x8_S2x16x8x262144 ]
/-- Operations of butterfly stage 5. -/
abbrev st5 : List (HloOp τ sig (Elt F)) :=
  [ reshape main_v72 main_v73 (rfl : (.f32 : EltTy) = .f32) shapeCasts_S2x16x8x262144_S2x16x8x8192x2x16,
    unary main_v73 main_v74 ((extractStridedSlice S2x16x8x8192x1x16 ![0, 0, 0, 0, 0, 0] · slices_S2x16x8x8192x2x16_S2x16x8x8192x1x16_0_0_0_0_0_0) : C F S2x16x8x8192x2x16 → C F S2x16x8x8192x1x16),
    reshape main_v74 main_v75 (rfl : (.f32 : EltTy) = .f32) shapeCasts_S2x16x8x8192x1x16_S2x16x8x8192x16,
    unary main_v73 main_v76 ((extractStridedSlice S2x16x8x8192x1x16 ![0, 0, 0, 0, 1, 0] · slices_S2x16x8x8192x2x16_S2x16x8x8192x1x16_0_0_0_0_1_0) : C F S2x16x8x8192x2x16 → C F S2x16x8x8192x1x16),
    reshape main_v76 main_v77 (rfl : (.f32 : EltTy) = .f32) shapeCasts_S2x16x8x8192x1x16_S2x16x8x8192x16,
    binary main_v75 main_v77 main_v78 (addf : C F S2x16x8x8192x16 → C F S2x16x8x8192x16 → C F S2x16x8x8192x16),
    binary main_v75 main_v77 main_v79 (subf : C F S2x16x8x8192x16 → C F S2x16x8x8192x16 → C F S2x16x8x8192x16),
    unary main_v78 main_v80 (broadcastInDim S2x16x8x8192x1x16 ![0, 1, 2, 3, 5] bcast_S2x16x8x8192x16_S2x16x8x8192x1x16_0_1_2_3_5 : C F S2x16x8x8192x16 → C F S2x16x8x8192x1x16),
    unary main_v79 main_v81 (broadcastInDim S2x16x8x8192x1x16 ![0, 1, 2, 3, 5] bcast_S2x16x8x8192x16_S2x16x8x8192x1x16_0_1_2_3_5 : C F S2x16x8x8192x16 → C F S2x16x8x8192x1x16),
    binary main_v80 main_v81 main_v82 (fn_main_v82 (F := F)),
    reshape main_v82 main_v83 (rfl : (.f32 : EltTy) = .f32) shapeCasts_S2x16x8x8192x2x16_S2x16x8x262144 ]
/-- Operations of butterfly stage 6. -/
abbrev st6 : List (HloOp τ sig (Elt F)) :=
  [ reshape main_v83 main_v84 (rfl : (.f32 : EltTy) = .f32) shapeCasts_S2x16x8x262144_S2x16x8x4096x2x32,
    unary main_v84 main_v85 ((extractStridedSlice S2x16x8x4096x1x32 ![0, 0, 0, 0, 0, 0] · slices_S2x16x8x4096x2x32_S2x16x8x4096x1x32_0_0_0_0_0_0) : C F S2x16x8x4096x2x32 → C F S2x16x8x4096x1x32),
    reshape main_v85 main_v86 (rfl : (.f32 : EltTy) = .f32) shapeCasts_S2x16x8x4096x1x32_S2x16x8x4096x32,
    unary main_v84 main_v87 ((extractStridedSlice S2x16x8x4096x1x32 ![0, 0, 0, 0, 1, 0] · slices_S2x16x8x4096x2x32_S2x16x8x4096x1x32_0_0_0_0_1_0) : C F S2x16x8x4096x2x32 → C F S2x16x8x4096x1x32),
    reshape main_v87 main_v88 (rfl : (.f32 : EltTy) = .f32) shapeCasts_S2x16x8x4096x1x32_S2x16x8x4096x32,
    binary main_v86 main_v88 main_v89 (addf : C F S2x16x8x4096x32 → C F S2x16x8x4096x32 → C F S2x16x8x4096x32),
    binary main_v86 main_v88 main_v90 (subf : C F S2x16x8x4096x32 → C F S2x16x8x4096x32 → C F S2x16x8x4096x32),
    unary main_v89 main_v91 (broadcastInDim S2x16x8x4096x1x32 ![0, 1, 2, 3, 5] bcast_S2x16x8x4096x32_S2x16x8x4096x1x32_0_1_2_3_5 : C F S2x16x8x4096x32 → C F S2x16x8x4096x1x32),
    unary main_v90 main_v92 (broadcastInDim S2x16x8x4096x1x32 ![0, 1, 2, 3, 5] bcast_S2x16x8x4096x32_S2x16x8x4096x1x32_0_1_2_3_5 : C F S2x16x8x4096x32 → C F S2x16x8x4096x1x32),
    binary main_v91 main_v92 main_v93 (fn_main_v93 (F := F)),
    reshape main_v93 main_v94 (rfl : (.f32 : EltTy) = .f32) shapeCasts_S2x16x8x4096x2x32_S2x16x8x262144 ]
/-- Operations of butterfly stage 7. -/
abbrev st7 : List (HloOp τ sig (Elt F)) :=
  [ reshape main_v94 main_v95 (rfl : (.f32 : EltTy) = .f32) shapeCasts_S2x16x8x262144_S2x16x8x2048x2x64,
    unary main_v95 main_v96 ((extractStridedSlice S2x16x8x2048x1x64 ![0, 0, 0, 0, 0, 0] · slices_S2x16x8x2048x2x64_S2x16x8x2048x1x64_0_0_0_0_0_0) : C F S2x16x8x2048x2x64 → C F S2x16x8x2048x1x64),
    reshape main_v96 main_v97 (rfl : (.f32 : EltTy) = .f32) shapeCasts_S2x16x8x2048x1x64_S2x16x8x2048x64,
    unary main_v95 main_v98 ((extractStridedSlice S2x16x8x2048x1x64 ![0, 0, 0, 0, 1, 0] · slices_S2x16x8x2048x2x64_S2x16x8x2048x1x64_0_0_0_0_1_0) : C F S2x16x8x2048x2x64 → C F S2x16x8x2048x1x64),
    reshape main_v98 main_v99 (rfl : (.f32 : EltTy) = .f32) shapeCasts_S2x16x8x2048x1x64_S2x16x8x2048x64,
    binary main_v97 main_v99 main_v100 (addf : C F S2x16x8x2048x64 → C F S2x16x8x2048x64 → C F S2x16x8x2048x64),
    binary main_v97 main_v99 main_v101 (subf : C F S2x16x8x2048x64 → C F S2x16x8x2048x64 → C F S2x16x8x2048x64),
    unary main_v100 main_v102 (broadcastInDim S2x16x8x2048x1x64 ![0, 1, 2, 3, 5] bcast_S2x16x8x2048x64_S2x16x8x2048x1x64_0_1_2_3_5 : C F S2x16x8x2048x64 → C F S2x16x8x2048x1x64),
    unary main_v101 main_v103 (broadcastInDim S2x16x8x2048x1x64 ![0, 1, 2, 3, 5] bcast_S2x16x8x2048x64_S2x16x8x2048x1x64_0_1_2_3_5 : C F S2x16x8x2048x64 → C F S2x16x8x2048x1x64),
    binary main_v102 main_v103 main_v104 (fn_main_v104 (F := F)),
    reshape main_v104 main_v105 (rfl : (.f32 : EltTy) = .f32) shapeCasts_S2x16x8x2048x2x64_S2x16x8x262144 ]
/-- Operations of butterfly stage 8. -/
abbrev st8a : List (HloOp τ sig (Elt F)) :=
  [ reshape main_v105 main_v106 (rfl : (.f32 : EltTy) = .f32) shapeCasts_S2x16x8x262144_S2x16x8x1024x2x128,
    unary main_v106 main_v107 ((extractStridedSlice S2x16x8x1024x1x128 ![0, 0, 0, 0, 0, 0] · slices_S2x16x8x1024x2x128_S2x16x8x1024x1x128_0_0_0_0_0_0) : C F S2x16x8x1024x2x128 → C F S2x16x8x1024x1x128),
    reshape main_v107 main_v108 (rfl : (.f32 : EltTy) = .f32) shapeCasts_S2x16x8x1024x1x128_S2x16x8x1024x128,
    unary main_v106 main_v109 ((extractStridedSlice S2x16x8x1024x1x128 ![0, 0, 0, 0, 1, 0] · slices_S2x16x8x1024x2x128_S2x16x8x1024x1x128_0_0_0_0_1_0) : C F S2x16x8x1024x2x128 → C F S2x16x8x1024x1x128),
    reshape main_v109 main_v110 (rfl : (.f32 : EltTy) = .f32) shapeCasts_S2x16x8x1024x1x128_S2x16x8x1024x128,
    binary main_v108 main_v110 main_v111 (addf : C F S2x16x8x1024x128 → C F S2x16x8x1024x128 → C F S2x16x8x1024x128),
    binary main_v108 main_v110 main_v112 (subf : C F S2x16x8x1024x128 → C F S2x16x8x1024x128 → C F S2x16x8x1024x128),
    unary main_v111 main_v113 (broadcastInDim S2x16x8x1024x1x128 ![0, 1, 2, 3, 5] bcast_S2x16x8x1024x128_S2x16x8x1024x1x128_0_1_2_3_5 : C F S2x16x8x1024x128 → C F S2x16x8x1024x1x128),
    unary main_v112 main_v114 (broadcastInDim S2x16x8x1024x1x128 ![0, 1, 2, 3, 5] bcast_S2x16x8x1024x128_S2x16x8x1024x1x128_0_1_2_3_5 : C F S2x16x8x1024x128 → C F S2x16x8x1024x1x128) ]
/-- Operations of butterfly stage 8. -/
abbrev st8b : List (HloOp τ sig (Elt F)) :=
  [ binary main_v113 main_v114 main_v115 (fn_main_v115 (F := F)),
    reshape main_v115 main_v116 (rfl : (.f32 : EltTy) = .f32) shapeCasts_S2x16x8x1024x2x128_S2x16x8x262144 ]
/-- Operations of butterfly stage 9. -/
abbrev st9 : List (HloOp τ sig (Elt F)) :=
  [ reshape main_v116 main_v117 (rfl : (.f32 : EltTy) = .f32) shapeCasts_S2x16x8x262144_S2x16x8x64x2x2048,
    unary main_v117 main_v118 ((extractStridedSlice S2x16x8x64x1x2048 ![0, 0, 0, 0, 0, 0] · slices_S2x16x8x64x2x2048_S2x16x8x64x1x2048_0_0_0_0_0_0) : C F S2x16x8x64x2x2048 → C F S2x16x8x64x1x2048),
    reshape main_v118 main_v119 (rfl : (.f32 : EltTy) = .f32) shapeCasts_S2x16x8x64x1x2048_S2x16x8x64x2048,
    unary main_v117 main_v120 ((extractStridedSlice S2x16x8x64x1x2048 ![0, 0, 0, 0, 1, 0] · slices_S2x16x8x64x2x2048_S2x16x8x64x1x2048_0_0_0_0_1_0) : C F S2x16x8x64x2x2048 → C F S2x16x8x64x1x2048),
    reshape main_v120 main_v121 (rfl : (.f32 : EltTy) = .f32) shapeCasts_S2x16x8x64x1x2048_S2x16x8x64x2048,
    binary main_v119 main_v121 main_v122 (addf : C F S2x16x8x64x2048 → C F S2x16x8x64x2048 → C F S2x16x8x64x2048),
    binary main_v119 main_v121 main_v123 (subf : C F S2x16x8x64x2048 → C F S2x16x8x64x2048 → C F S2x16x8x64x2048),
    unary main_v122 main_v124 (broadcastInDim S2x16x8x64x1x2048 ![0, 1, 2, 3, 5] bcast_S2x16x8x64x2048_S2x16x8x64x1x2048_0_1_2_3_5 : C F S2x16x8x64x2048 → C F S2x16x8x64x1x2048),
    unary main_v123 main_v125 (broadcastInDim S2x16x8x64x1x2048 ![0, 1, 2, 3, 5] bcast_S2x16x8x64x2048_S2x16x8x64x1x2048_0_1_2_3_5 : C F S2x16x8x64x2048 → C F S2x16x8x64x1x2048),
    binary main_v124 main_v125 main_v126 (fn_main_v126 (F := F)),
    reshape main_v126 main_v127 (rfl : (.f32 : EltTy) = .f32) shapeCasts_S2x16x8x64x2x2048_S2x16x8x262144 ]
/-- Operations of butterfly stage 10. -/
abbrev st10 : List (HloOp τ sig (Elt F)) :=
  [ reshape main_v127 main_v128 (rfl : (.f32 : EltTy) = .f32) shapeCasts_S2x16x8x262144_S2x16x8x32x2x4096,
    unary main_v128 main_v129 ((extractStridedSlice S2x16x8x32x1x4096 ![0, 0, 0, 0, 0, 0] · slices_S2x16x8x32x2x4096_S2x16x8x32x1x4096_0_0_0_0_0_0) : C F S2x16x8x32x2x4096 → C F S2x16x8x32x1x4096),
    reshape main_v129 main_v130 (rfl : (.f32 : EltTy) = .f32) shapeCasts_S2x16x8x32x1x4096_S2x16x8x32x4096,
    unary main_v128 main_v131 ((extractStridedSlice S2x16x8x32x1x4096 ![0, 0, 0, 0, 1, 0] · slices_S2x16x8x32x2x4096_S2x16x8x32x1x4096_0_0_0_0_1_0) : C F S2x16x8x32x2x4096 → C F S2x16x8x32x1x4096),
    reshape main_v131 main_v132 (rfl : (.f32 : EltTy) = .f32) shapeCasts_S2x16x8x32x1x4096_S2x16x8x32x4096,
    binary main_v130 main_v132 main_v133 (addf : C F S2x16x8x32x4096 → C F S2x16x8x32x4096 → C F S2x16x8x32x4096),
    binary main_v130 main_v132 main_v134 (subf : C F S2x16x8x32x4096 → C F S2x16x8x32x4096 → C F S2x16x8x32x4096),
    unary main_v133 main_v135 (broadcastInDim S2x16x8x32x1x4096 ![0, 1, 2, 3, 5] bcast_S2x16x8x32x4096_S2x16x8x32x1x4096_0_1_2_3_5 : C F S2x16x8x32x4096 → C F S2x16x8x32x1x4096),
    unary main_v134 main_v136 (broadcastInDim S2x16x8x32x1x4096 ![0, 1, 2, 3, 5] bcast_S2x16x8x32x4096_S2x16x8x32x1x4096_0_1_2_3_5 : C F S2x16x8x32x4096 → C F S2x16x8x32x1x4096),
    binary main_v135 main_v136 main_v137 (fn_main_v137 (F := F)),
    reshape main_v137 main_v138 (rfl : (.f32 : EltTy) = .f32) shapeCasts_S2x16x8x32x2x4096_S2x16x8x262144 ]
/-- Operations of butterfly stage 11. -/
abbrev st11 : List (HloOp τ sig (Elt F)) :=
  [ reshape main_v138 main_v139 (rfl : (.f32 : EltTy) = .f32) shapeCasts_S2x16x8x262144_S2x16x8x16x2x8192,
    unary main_v139 main_v140 ((extractStridedSlice S2x16x8x16x1x8192 ![0, 0, 0, 0, 0, 0] · slices_S2x16x8x16x2x8192_S2x16x8x16x1x8192_0_0_0_0_0_0) : C F S2x16x8x16x2x8192 → C F S2x16x8x16x1x8192),
    reshape main_v140 main_v141 (rfl : (.f32 : EltTy) = .f32) shapeCasts_S2x16x8x16x1x8192_S2x16x8x16x8192,
    unary main_v139 main_v142 ((extractStridedSlice S2x16x8x16x1x8192 ![0, 0, 0, 0, 1, 0] · slices_S2x16x8x16x2x8192_S2x16x8x16x1x8192_0_0_0_0_1_0) : C F S2x16x8x16x2x8192 → C F S2x16x8x16x1x8192),
    reshape main_v142 main_v143 (rfl : (.f32 : EltTy) = .f32) shapeCasts_S2x16x8x16x1x8192_S2x16x8x16x8192,
    binary main_v141 main_v143 main_v144 (addf : C F S2x16x8x16x8192 → C F S2x16x8x16x8192 → C F S2x16x8x16x8192),
    binary main_v141 main_v143 main_v145 (subf : C F S2x16x8x16x8192 → C F S2x16x8x16x8192 → C F S2x16x8x16x8192),
    unary main_v144 main_v146 (broadcastInDim S2x16x8x16x1x8192 ![0, 1, 2, 3, 5] bcast_S2x16x8x16x8192_S2x16x8x16x1x8192_0_1_2_3_5 : C F S2x16x8x16x8192 → C F S2x16x8x16x1x8192),
    unary main_v145 main_v147 (broadcastInDim S2x16x8x16x1x8192 ![0, 1, 2, 3, 5] bcast_S2x16x8x16x8192_S2x16x8x16x1x8192_0_1_2_3_5 : C F S2x16x8x16x8192 → C F S2x16x8x16x1x8192),
    binary main_v146 main_v147 main_v148 (fn_main_v148 (F := F)),
    reshape main_v148 main_v149 (rfl : (.f32 : EltTy) = .f32) shapeCasts_S2x16x8x16x2x8192_S2x16x8x262144 ]
/-- Operations of butterfly stage 12. -/
abbrev st12 : List (HloOp τ sig (Elt F)) :=
  [ reshape main_v149 main_v150 (rfl : (.f32 : EltTy) = .f32) shapeCasts_S2x16x8x262144_S2x16x8x8x2x16384,
    unary main_v150 main_v151 ((extractStridedSlice S2x16x8x8x1x16384 ![0, 0, 0, 0, 0, 0] · slices_S2x16x8x8x2x16384_S2x16x8x8x1x16384_0_0_0_0_0_0) : C F S2x16x8x8x2x16384 → C F S2x16x8x8x1x16384),
    reshape main_v151 main_v152 (rfl : (.f32 : EltTy) = .f32) shapeCasts_S2x16x8x8x1x16384_S2x16x8x8x16384,
    unary main_v150 main_v153 ((extractStridedSlice S2x16x8x8x1x16384 ![0, 0, 0, 0, 1, 0] · slices_S2x16x8x8x2x16384_S2x16x8x8x1x16384_0_0_0_0_1_0) : C F S2x16x8x8x2x16384 → C F S2x16x8x8x1x16384),
    reshape main_v153 main_v154 (rfl : (.f32 : EltTy) = .f32) shapeCasts_S2x16x8x8x1x16384_S2x16x8x8x16384,
    binary main_v152 main_v154 main_v155 (addf : C F S2x16x8x8x16384 → C F S2x16x8x8x16384 → C F S2x16x8x8x16384),
    binary main_v152 main_v154 main_v156 (subf : C F S2x16x8x8x16384 → C F S2x16x8x8x16384 → C F S2x16x8x8x16384),
    unary main_v155 main_v157 (broadcastInDim S2x16x8x8x1x16384 ![0, 1, 2, 3, 5] bcast_S2x16x8x8x16384_S2x16x8x8x1x16384_0_1_2_3_5 : C F S2x16x8x8x16384 → C F S2x16x8x8x1x16384),
    unary main_v156 main_v158 (broadcastInDim S2x16x8x8x1x16384 ![0, 1, 2, 3, 5] bcast_S2x16x8x8x16384_S2x16x8x8x1x16384_0_1_2_3_5 : C F S2x16x8x8x16384 → C F S2x16x8x8x1x16384),
    binary main_v157 main_v158 main_v159 (fn_main_v159 (F := F)),
    reshape main_v159 main_v160 (rfl : (.f32 : EltTy) = .f32) shapeCasts_S2x16x8x8x2x16384_S2x16x8x262144 ]
/-- Operations of butterfly stage 13. -/
abbrev st13 : List (HloOp τ sig (Elt F)) :=
  [ reshape main_v160 main_v161 (rfl : (.f32 : EltTy) = .f32) shapeCasts_S2x16x8x262144_S2x16x8x4x2x32768,
    unary main_v161 main_v162 ((extractStridedSlice S2x16x8x4x1x32768 ![0, 0, 0, 0, 0, 0] · slices_S2x16x8x4x2x32768_S2x16x8x4x1x32768_0_0_0_0_0_0) : C F S2x16x8x4x2x32768 → C F S2x16x8x4x1x32768),
    reshape main_v162 main_v163 (rfl : (.f32 : EltTy) = .f32) shapeCasts_S2x16x8x4x1x32768_S2x16x8x4x32768,
    unary main_v161 main_v164 ((extractStridedSlice S2x16x8x4x1x32768 ![0, 0, 0, 0, 1, 0] · slices_S2x16x8x4x2x32768_S2x16x8x4x1x32768_0_0_0_0_1_0) : C F S2x16x8x4x2x32768 → C F S2x16x8x4x1x32768),
    reshape main_v164 main_v165 (rfl : (.f32 : EltTy) = .f32) shapeCasts_S2x16x8x4x1x32768_S2x16x8x4x32768,
    binary main_v163 main_v165 main_v166 (addf : C F S2x16x8x4x32768 → C F S2x16x8x4x32768 → C F S2x16x8x4x32768),
    binary main_v163 main_v165 main_v167 (subf : C F S2x16x8x4x32768 → C F S2x16x8x4x32768 → C F S2x16x8x4x32768),
    unary main_v166 main_v168 (broadcastInDim S2x16x8x4x1x32768 ![0, 1, 2, 3, 5] bcast_S2x16x8x4x32768_S2x16x8x4x1x32768_0_1_2_3_5 : C F S2x16x8x4x32768 → C F S2x16x8x4x1x32768),
    unary main_v167 main_v169 (broadcastInDim S2x16x8x4x1x32768 ![0, 1, 2, 3, 5] bcast_S2x16x8x4x32768_S2x16x8x4x1x32768_0_1_2_3_5 : C F S2x16x8x4x32768 → C F S2x16x8x4x1x32768),
    binary main_v168 main_v169 main_v170 (fn_main_v170 (F := F)),
    reshape main_v170 main_v171 (rfl : (.f32 : EltTy) = .f32) shapeCasts_S2x16x8x4x2x32768_S2x16x8x262144 ]
/-- Operations of butterfly stage 14. -/
abbrev st14a : List (HloOp τ sig (Elt F)) :=
  [ reshape main_v171 main_v172 (rfl : (.f32 : EltTy) = .f32) shapeCasts_S2x16x8x262144_S2x16x8x2x2x65536,
    unary main_v172 main_v173 ((extractStridedSlice S2x16x8x2x1x65536 ![0, 0, 0, 0, 0, 0] · slices_S2x16x8x2x2x65536_S2x16x8x2x1x65536_0_0_0_0_0_0) : C F S2x16x8x2x2x65536 → C F S2x16x8x2x1x65536),
    reshape main_v173 main_v174 (rfl : (.f32 : EltTy) = .f32) shapeCasts_S2x16x8x2x1x65536_S2x16x8x2x65536 ]
/-- Operations of butterfly stage 14. -/
abbrev st14b : List (HloOp τ sig (Elt F)) :=
  [ unary main_v172 main_v175 ((extractStridedSlice S2x16x8x2x1x65536 ![0, 0, 0, 0, 1, 0] · slices_S2x16x8x2x2x65536_S2x16x8x2x1x65536_0_0_0_0_1_0) : C F S2x16x8x2x2x65536 → C F S2x16x8x2x1x65536),
    reshape main_v175 main_v176 (rfl : (.f32 : EltTy) = .f32) shapeCasts_S2x16x8x2x1x65536_S2x16x8x2x65536,
    binary main_v174 main_v176 main_v177 (addf : C F S2x16x8x2x65536 → C F S2x16x8x2x65536 → C F S2x16x8x2x65536),
    binary main_v174 main_v176 main_v178 (subf : C F S2x16x8x2x65536 → C F S2x16x8x2x65536 → C F S2x16x8x2x65536),
    unary main_v177 main_v179 (broadcastInDim S2x16x8x2x1x65536 ![0, 1, 2, 3, 5] bcast_S2x16x8x2x65536_S2x16x8x2x1x65536_0_1_2_3_5 : C F S2x16x8x2x65536 → C F S2x16x8x2x1x65536),
    unary main_v178 main_v180 (broadcastInDim S2x16x8x2x1x65536 ![0, 1, 2, 3, 5] bcast_S2x16x8x2x65536_S2x16x8x2x1x65536_0_1_2_3_5 : C F S2x16x8x2x65536 → C F S2x16x8x2x1x65536),
    binary main_v179 main_v180 main_v181 (fn_main_v181 (F := F)),
    reshape main_v181 main_v182 (rfl : (.f32 : EltTy) = .f32) shapeCasts_S2x16x8x2x2x65536_S2x16x8x262144 ]
/-- Operations of butterfly stage 15. -/
abbrev st15 : List (HloOp τ sig (Elt F)) :=
  [ reshape main_v182 main_v183 (rfl : (.f32 : EltTy) = .f32) shapeCasts_S2x16x8x262144_S2x16x8x1x2x131072,
    unary main_v183 main_v184 ((extractStridedSlice S2x16x8x1x1x131072 ![0, 0, 0, 0, 0, 0] · slices_S2x16x8x1x2x131072_S2x16x8x1x1x131072_0_0_0_0_0_0) : C F S2x16x8x1x2x131072 → C F S2x16x8x1x1x131072),
    reshape main_v184 main_v185 (rfl : (.f32 : EltTy) = .f32) shapeCasts_S2x16x8x1x1x131072_S2x16x8x1x131072,
    unary main_v183 main_v186 ((extractStridedSlice S2x16x8x1x1x131072 ![0, 0, 0, 0, 1, 0] · slices_S2x16x8x1x2x131072_S2x16x8x1x1x131072_0_0_0_0_1_0) : C F S2x16x8x1x2x131072 → C F S2x16x8x1x1x131072),
    reshape main_v186 main_v187 (rfl : (.f32 : EltTy) = .f32) shapeCasts_S2x16x8x1x1x131072_S2x16x8x1x131072,
    binary main_v185 main_v187 main_v188 (addf : C F S2x16x8x1x131072 → C F S2x16x8x1x131072 → C F S2x16x8x1x131072),
    binary main_v185 main_v187 main_v189 (subf : C F S2x16x8x1x131072 → C F S2x16x8x1x131072 → C F S2x16x8x1x131072),
    unary main_v188 main_v190 (broadcastInDim S2x16x8x1x1x131072 ![0, 1, 2, 3, 5] bcast_S2x16x8x1x131072_S2x16x8x1x1x131072_0_1_2_3_5 : C F S2x16x8x1x131072 → C F S2x16x8x1x1x131072),
    unary main_v189 main_v191 (broadcastInDim S2x16x8x1x1x131072 ![0, 1, 2, 3, 5] bcast_S2x16x8x1x131072_S2x16x8x1x1x131072_0_1_2_3_5 : C F S2x16x8x1x131072 → C F S2x16x8x1x1x131072),
    binary main_v190 main_v191 main_v192 (fn_main_v192 (F := F)),
    reshape main_v192 main_v193 (rfl : (.f32 : EltTy) = .f32) shapeCasts_S2x16x8x1x2x131072_S2x16x8x262144 ]
/-- Operations of butterfly stage 16. -/
abbrev st16 : List (HloOp τ sig (Elt F)) :=
  [ reshape main_v193 main_v194 (rfl : (.f32 : EltTy) = .f32) shapeCasts_S2x16x8x262144_S2x16x4x2x1x262144,
    unary main_v194 main_v195 ((extractStridedSlice S2x16x4x1x1x262144 ![0, 0, 0, 0, 0, 0] · slices_S2x16x4x2x1x262144_S2x16x4x1x1x262144_0_0_0_0_0_0) : C F S2x16x4x2x1x262144 → C F S2x16x4x1x1x262144),
    reshape main_v195 main_v196 (rfl : (.f32 : EltTy) = .f32) shapeCasts_S2x16x4x1x1x262144_S2x16x4x1x262144,
    unary main_v194 main_v197 ((extractStridedSlice S2x16x4x1x1x262144 ![0, 0, 0, 1, 0, 0] · slices_S2x16x4x2x1x262144_S2x16x4x1x1x262144_0_0_0_1_0_0) : C F S2x16x4x2x1x262144 → C F S2x16x4x1x1x262144),
    reshape main_v197 main_v198 (rfl : (.f32 : EltTy) = .f32) shapeCasts_S2x16x4x1x1x262144_S2x16x4x1x262144,
    binary main_v196 main_v198 main_v199 (addf : C F S2x16x4x1x262144 → C F S2x16x4x1x262144 → C F S2x16x4x1x262144),
    binary main_v196 main_v198 main_v200 (subf : C F S2x16x4x1x262144 → C F S2x16x4x1x262144 → C F S2x16x4x1x262144),
    unary main_v199 main_v201 (broadcastInDim S2x16x4x1x1x262144 ![0, 1, 2, 4, 5] bcast_S2x16x4x1x262144_S2x16x4x1x1x262144_0_1_2_4_5 : C F S2x16x4x1x262144 → C F S2x16x4x1x1x262144),
    unary main_v200 main_v202 (broadcastInDim S2x16x4x1x1x262144 ![0, 1, 2, 4, 5] bcast_S2x16x4x1x262144_S2x16x4x1x1x262144_0_1_2_4_5 : C F S2x16x4x1x262144 → C F S2x16x4x1x1x262144),
    binary main_v201 main_v202 main_v203 (fn_main_v203 (F := F)),
    reshape main_v203 main_v204 (rfl : (.f32 : EltTy) = .f32) shapeCasts_S2x16x4x2x1x262144_S2x16x8x262144 ]
/-- Operations of butterfly stage 17. -/
abbrev st17 : List (HloOp τ sig (Elt F)) :=
  [ reshape main_v204 main_v205 (rfl : (.f32 : EltTy) = .f32) shapeCasts_S2x16x8x262144_S2x16x2x2x2x262144,
    unary main_v205 main_v206 ((extractStridedSlice S2x16x2x1x2x262144 ![0, 0, 0, 0, 0, 0] · slices_S2x16x2x2x2x262144_S2x16x2x1x2x262144_0_0_0_0_0_0) : C F S2x16x2x2x2x262144 → C F S2x16x2x1x2x262144),
    reshape main_v206 main_v207 (rfl : (.f32 : EltTy) = .f32) shapeCasts_S2x16x2x1x2x262144_S2x16x2x2x262144,
    unary main_v205 main_v208 ((extractStridedSlice S2x16x2x1x2x262144 ![0, 0, 0, 1, 0, 0] · slices_S2x16x2x2x2x262144_S2x16x2x1x2x262144_0_0_0_1_0_0) : C F S2x16x2x2x2x262144 → C F S2x16x2x1x2x262144),
    reshape main_v208 main_v209 (rfl : (.f32 : EltTy) = .f32) shapeCasts_S2x16x2x1x2x262144_S2x16x2x2x262144,
    binary main_v207 main_v209 main_v210 (addf : C F S2x16x2x2x262144 → C F S2x16x2x2x262144 → C F S2x16x2x2x262144),
    binary main_v207 main_v209 main_v211 (subf : C F S2x16x2x2x262144 → C F S2x16x2x2x262144 → C F S2x16x2x2x262144),
    unary main_v210 main_v212 (broadcastInDim S2x16x2x1x2x262144 ![0, 1, 2, 4, 5] bcast_S2x16x2x2x262144_S2x16x2x1x2x262144_0_1_2_4_5 : C F S2x16x2x2x262144 → C F S2x16x2x1x2x262144),
    unary main_v211 main_v213 (broadcastInDim S2x16x2x1x2x262144 ![0, 1, 2, 4, 5] bcast_S2x16x2x2x262144_S2x16x2x1x2x262144_0_1_2_4_5 : C F S2x16x2x2x262144 → C F S2x16x2x1x2x262144),
    binary main_v212 main_v213 main_v214 (fn_main_v214 (F := F)),
    reshape main_v214 main_v215 (rfl : (.f32 : EltTy) = .f32) shapeCasts_S2x16x2x2x2x262144_S2x16x8x262144 ]
/-- Operations of butterfly stage 18. -/
abbrev st18 : List (HloOp τ sig (Elt F)) :=
  [ reshape main_v215 main_v216 (rfl : (.f32 : EltTy) = .f32) shapeCasts_S2x16x8x262144_S2x16x1x2x4x262144,
    unary main_v216 main_v217 ((extractStridedSlice S2x16x1x1x4x262144 ![0, 0, 0, 0, 0, 0] · slices_S2x16x1x2x4x262144_S2x16x1x1x4x262144_0_0_0_0_0_0) : C F S2x16x1x2x4x262144 → C F S2x16x1x1x4x262144),
    reshape main_v217 main_v218 (rfl : (.f32 : EltTy) = .f32) shapeCasts_S2x16x1x1x4x262144_S2x16x1x4x262144,
    unary main_v216 main_v219 ((extractStridedSlice S2x16x1x1x4x262144 ![0, 0, 0, 1, 0, 0] · slices_S2x16x1x2x4x262144_S2x16x1x1x4x262144_0_0_0_1_0_0) : C F S2x16x1x2x4x262144 → C F S2x16x1x1x4x262144),
    reshape main_v219 main_v220 (rfl : (.f32 : EltTy) = .f32) shapeCasts_S2x16x1x1x4x262144_S2x16x1x4x262144,
    binary main_v218 main_v220 main_v221 (addf : C F S2x16x1x4x262144 → C F S2x16x1x4x262144 → C F S2x16x1x4x262144),
    binary main_v218 main_v220 main_v222 (subf : C F S2x16x1x4x262144 → C F S2x16x1x4x262144 → C F S2x16x1x4x262144),
    unary main_v221 main_v223 (broadcastInDim S2x16x1x1x4x262144 ![0, 1, 2, 4, 5] bcast_S2x16x1x4x262144_S2x16x1x1x4x262144_0_1_2_4_5 : C F S2x16x1x4x262144 → C F S2x16x1x1x4x262144),
    unary main_v222 main_v224 (broadcastInDim S2x16x1x1x4x262144 ![0, 1, 2, 4, 5] bcast_S2x16x1x4x262144_S2x16x1x1x4x262144_0_1_2_4_5 : C F S2x16x1x4x262144 → C F S2x16x1x1x4x262144),
    binary main_v223 main_v224 main_v225 (fn_main_v225 (F := F)),
    reshape main_v225 main_v226 (rfl : (.f32 : EltTy) = .f32) shapeCasts_S2x16x1x2x4x262144_S2x16x8x262144 ]
/-- The operations of the scale, the signs and the results. -/
abbrev st19a : List (HloOp τ sig (Elt F)) :=
  [ nullary main_cst_3 (constant S_ .f32 0x00000000#32),
    binary main_arg2 main_cst_3 main_v227 ((fun x v => Host.reduceAdd x v reducesTo_S2x8x128_S2_d1_2 h_S_) : C F S2x8x128 → C F S_ → C F S2),
    nullary main_cst_4 (constant S_ .f32 0x00000000#32),
    binary main_arg3 main_cst_4 main_v228 ((fun x v => Host.reduceAdd x v reducesTo_S2x8x128_S2_d1_2 h_S_) : C F S2x8x128 → C F S_ → C F S2),
    nullary main_cst_5 (constant S_ .f32 0x393504F3#32),
    unary main_cst_5 main_v229 (broadcastInDim S2 ![] bcast_S_S2 : C F S_ → C F S2),
    binary main_v229 main_v228 main_v230 (mulf : C F S2 → C F S2 → C F S2),
    binary main_v227 main_v230 main_v231 (Host.divf : C F S2 → C F S2 → C F S2) ]
/-- The operations of the scale, the signs and the results. -/
abbrev st19b : List (HloOp τ sig (Elt F)) :=
  [ nullary main_v232 (iotaInDim S32 32 0),
    unary main_v232 main_v233 (broadcastInDim S1x1x1x1x32x1 ![4] bcast_S32_S1x1x1x1x32x1_4 : CI F S32 → CI F S1x1x1x1x32x1),
    unary main_arg1 main_v234 ((transpose S2x16x8x64x128 [0, 1, 3, 2, 4] · transposes_S2x16x64x8x128_S2x16x8x64x128_0_1_3_2_4) : CI F S2x16x64x8x128 → CI F S2x16x8x64x128),
    unary main_v234 main_v235 (broadcastInDim S2x16x8x64x1x128 ![0, 1, 2, 3, 5] bcast_S2x16x8x64x128_S2x16x8x64x1x128_0_1_2_3_5 : CI F S2x16x8x64x128 → CI F S2x16x8x64x1x128),
    unary main_v235 main_v236 (broadcastInDim S2x16x8x64x32x128 ![0, 1, 2, 3, 4, 5] bcast_S2x16x8x64x1x128_S2x16x8x64x32x128_0_1_2_3_4_5 : CI F S2x16x8x64x1x128 → CI F S2x16x8x64x32x128),
    unary main_v233 main_v237 (broadcastInDim S2x16x8x64x32x128 ![0, 1, 2, 3, 4, 5] bcast_S1x1x1x1x32x1_S2x16x8x64x32x128_0_1_2_3_4_5 : CI F S1x1x1x1x32x1 → CI F S2x16x8x64x32x128),
    binary main_v236 main_v237 main_v238 (Host.shrui : CI F S2x16x8x64x32x128 → CI F S2x16x8x64x32x128 → CI F S2x16x8x64x32x128),
    nullary main_c_6 (constantI S_ 32 1#32),
    unary main_c_6 main_v239 (broadcastInDim S2x16x8x64x32x128 ![] bcast_S_S2x16x8x64x32x128 : CI F S_ → CI F S2x16x8x64x32x128),
    binary main_v238 main_v239 main_v240 (andi : CI F S2x16x8x64x32x128 → CI F S2x16x8x64x32x128 → CI F S2x16x8x64x32x128),
    unary main_v240 main_v241 (sitofp .f32 : CI F S2x16x8x64x32x128 → C F S2x16x8x64x32x128),
    nullary main_cst_7 (constant S_ .f32 0x40000000#32),
    unary main_cst_7 main_v242 (broadcastInDim S2x16x8x64x32x128 ![] bcast_S_S2x16x8x64x32x128 : C F S_ → C F S2x16x8x64x32x128),
    binary main_v242 main_v241 main_v243 (mulf : C F S2x16x8x64x32x128 → C F S2x16x8x64x32x128 → C F S2x16x8x64x32x128),
    nullary main_cst_8 (constant S_ .f32 0x3F800000#32),
    unary main_cst_8 main_v244 (broadcastInDim S2x16x8x64x32x128 ![] bcast_S_S2x16x8x64x32x128 : C F S_ → C F S2x16x8x64x32x128),
    binary main_v244 main_v243 main_v245 (subf : C F S2x16x8x64x32x128 → C F S2x16x8x64x32x128 → C F S2x16x8x64x32x128),
    reshape main_v245 main_v246 (rfl : (.f32 : EltTy) = .f32) shapeCasts_S2x16x8x64x32x128_S2x128x262144,
    unary main_v231 main_v247 (broadcastInDim S2x1x1 ![0] bcast_S2_S2x1x1_0 : C F S2 → C F S2x1x1),
    reshape main_v226 main_v248 (rfl : (.f32 : EltTy) = .f32) shapeCasts_S2x16x8x262144_S2x128x262144,
    nullary main_cst_9 (constant S_ .f32 0x393504F3#32),
    unary main_cst_9 main_v249 (broadcastInDim S2x128x262144 ![] bcast_S_S2x128x262144 : C F S_ → C F S2x128x262144),
    binary main_v249 main_v248 main_v250 (mulf : C F S2x128x262144 → C F S2x128x262144 → C F S2x128x262144),
    unary main_v247 main_v251 (broadcastInDim S2x128x262144 ![0, 1, 2] bcast_S2x1x1_S2x128x262144_0_1_2 : C F S2x1x1 → C F S2x128x262144),
    binary main_v251 main_v250 main_v252 (mulf : C F S2x128x262144 → C F S2x128x262144 → C F S2x128x262144),
    binary main_v246 main_v252 main_v253 (mulf : C F S2x128x262144 → C F S2x128x262144 → C F S2x128x262144),
    unary main_v231 main_v254 (broadcastInDim S2x1x1 ![0] bcast_S2_S2x1x1_0 : C F S2 → C F S2x1x1),
    unary main_v254 main_v255 (broadcastInDim S2x8x128 ![0, 1, 2] bcast_S2x1x1_S2x8x128_0_1_2 : C F S2x1x1 → C F S2x8x128) ]
/-- The operations of window `main_part0`. -/
abbrev ops_part0 : List (HloOp τ sig (Elt F)) :=
  st0 ++ (st1 ++ (st2 ++ (st3a)))
/-- The operations of window `main_part1`. -/
abbrev ops_part1 : List (HloOp τ sig (Elt F)) :=
  st3b ++ (st4 ++ (st5 ++ (st6 ++ (st7 ++ (st8a)))))
/-- The operations of window `main_part2`. -/
abbrev ops_part2 : List (HloOp τ sig (Elt F)) :=
  st8b ++ (st9 ++ (st10 ++ (st11 ++ (st12 ++ (st13 ++ (st14a))))))
/-- The operations of window `main_part3`. -/
abbrev ops_part3 : List (HloOp τ sig (Elt F)) :=
  st14b ++ (st15 ++ (st16 ++ (st17 ++ (st18 ++ (st19a)))))
/-- The operations of window `main_part4`. -/
abbrev ops_part4 : List (HloOp τ sig (Elt F)) :=
  st19b
/-- All the operations, in order. -/
abbrev ops : List (HloOp τ sig (Elt F)) :=
  ops_part0 ++ (ops_part1 ++ (ops_part2 ++ (ops_part3 ++ (ops_part4))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
theorem st0_sub : (st0 : List (HloOp τ sig (Elt F))).Forall fun op => op.bufs ⊆ tcRefs τ sig :=
  ⟨nullary_bufs_sub .., unary_bufs_sub .., nullary_bufs_sub .., unary_bufs_sub .., unary_bufs_sub .., reshape_bufs_sub .., unary_bufs_sub .., nullary_bufs_sub .., unary_bufs_sub .., binary_bufs_sub .., unary_bufs_sub .., unary_bufs_sub .., binary_bufs_sub .., reshape_bufs_sub .., unary_bufs_sub .., reshape_bufs_sub .., unary_bufs_sub .., nullary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., reshape_bufs_sub ..⟩
theorem st0_fresh : (st0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem st1_sub : (st1 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st1_fresh : (st1 : List (HloOp τ sig (Elt F))).Forall fun op => op.fresh = ∅ :=
  ⟨rfl, rfl, rfl, rfl, rfl, rfl, rfl, rfl, rfl, rfl, rfl⟩
theorem st2_sub : (st2 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st2_fresh : (st2 : List (HloOp τ sig (Elt F))).Forall fun op => op.fresh = ∅ :=
  ⟨rfl, rfl, rfl, rfl, rfl, rfl, rfl, rfl, rfl, rfl, rfl⟩
theorem st3a_sub : (st3a : List (HloOp τ sig (Elt F))).Forall fun op => op.bufs ⊆ tcRefs τ sig :=
  ⟨reshape_bufs_sub .., unary_bufs_sub .., reshape_bufs_sub .., unary_bufs_sub ..⟩
theorem st3a_fresh : (st3a : List (HloOp τ sig (Elt F))).Forall fun op => op.fresh = ∅ :=
  ⟨rfl, rfl, rfl, rfl⟩
theorem st3b_sub : (st3b : List (HloOp τ sig (Elt F))).Forall fun op => op.bufs ⊆ tcRefs τ sig :=
  ⟨reshape_bufs_sub .., binary_bufs_sub .., binary_bufs_sub .., unary_bufs_sub .., unary_bufs_sub .., binary_bufs_sub .., reshape_bufs_sub ..⟩
theorem st3b_fresh : (st3b : List (HloOp τ sig (Elt F))).Forall fun op => op.fresh = ∅ :=
  ⟨rfl, rfl, rfl, rfl, rfl, rfl, rfl⟩
theorem st4_sub : (st4 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st4_fresh : (st4 : List (HloOp τ sig (Elt F))).Forall fun op => op.fresh = ∅ :=
  ⟨rfl, rfl, rfl, rfl, rfl, rfl, rfl, rfl, rfl, rfl, rfl⟩
theorem st5_sub : (st5 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st5_fresh : (st5 : List (HloOp τ sig (Elt F))).Forall fun op => op.fresh = ∅ :=
  ⟨rfl, rfl, rfl, rfl, rfl, rfl, rfl, rfl, rfl, rfl, rfl⟩
theorem st6_sub : (st6 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st6_fresh : (st6 : List (HloOp τ sig (Elt F))).Forall fun op => op.fresh = ∅ :=
  ⟨rfl, rfl, rfl, rfl, rfl, rfl, rfl, rfl, rfl, rfl, rfl⟩
theorem st7_sub : (st7 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st7_fresh : (st7 : List (HloOp τ sig (Elt F))).Forall fun op => op.fresh = ∅ :=
  ⟨rfl, rfl, rfl, rfl, rfl, rfl, rfl, rfl, rfl, rfl, rfl⟩
theorem st8a_sub : (st8a : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub ..⟩
theorem st8a_fresh : (st8a : List (HloOp τ sig (Elt F))).Forall fun op => op.fresh = ∅ :=
  ⟨rfl, rfl, rfl, rfl, rfl, rfl, rfl, rfl, rfl⟩
theorem st8b_sub : (st8b : List (HloOp τ sig (Elt F))).Forall fun op => op.bufs ⊆ tcRefs τ sig :=
  ⟨binary_bufs_sub .., reshape_bufs_sub ..⟩
theorem st8b_fresh : (st8b : List (HloOp τ sig (Elt F))).Forall fun op => op.fresh = ∅ :=
  ⟨rfl, rfl⟩
theorem st9_sub : (st9 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st9_fresh : (st9 : List (HloOp τ sig (Elt F))).Forall fun op => op.fresh = ∅ :=
  ⟨rfl, rfl, rfl, rfl, rfl, rfl, rfl, rfl, rfl, rfl, rfl⟩
theorem st10_sub : (st10 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st10_fresh : (st10 : List (HloOp τ sig (Elt F))).Forall fun op => op.fresh = ∅ :=
  ⟨rfl, rfl, rfl, rfl, rfl, rfl, rfl, rfl, rfl, rfl, rfl⟩
theorem st11_sub : (st11 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st11_fresh : (st11 : List (HloOp τ sig (Elt F))).Forall fun op => op.fresh = ∅ :=
  ⟨rfl, rfl, rfl, rfl, rfl, rfl, rfl, rfl, rfl, rfl, rfl⟩
theorem st12_sub : (st12 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st12_fresh : (st12 : List (HloOp τ sig (Elt F))).Forall fun op => op.fresh = ∅ :=
  ⟨rfl, rfl, rfl, rfl, rfl, rfl, rfl, rfl, rfl, rfl, rfl⟩
theorem st13_sub : (st13 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st13_fresh : (st13 : List (HloOp τ sig (Elt F))).Forall fun op => op.fresh = ∅ :=
  ⟨rfl, rfl, rfl, rfl, rfl, rfl, rfl, rfl, rfl, rfl, rfl⟩
theorem st14a_sub : (st14a : List (HloOp τ sig (Elt F))).Forall fun op => op.bufs ⊆ tcRefs τ sig :=
  ⟨reshape_bufs_sub .., unary_bufs_sub .., reshape_bufs_sub ..⟩
theorem st14a_fresh : (st14a : List (HloOp τ sig (Elt F))).Forall fun op => op.fresh = ∅ :=
  ⟨rfl, rfl, rfl⟩
theorem st14b_sub : (st14b : List (HloOp τ sig (Elt F))).Forall fun op => op.bufs ⊆ tcRefs τ sig :=
  ⟨unary_bufs_sub .., reshape_bufs_sub .., binary_bufs_sub .., binary_bufs_sub .., unary_bufs_sub .., unary_bufs_sub .., binary_bufs_sub .., reshape_bufs_sub ..⟩
theorem st14b_fresh : (st14b : List (HloOp τ sig (Elt F))).Forall fun op => op.fresh = ∅ :=
  ⟨rfl, rfl, rfl, rfl, rfl, rfl, rfl, rfl⟩
theorem st15_sub : (st15 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st15_fresh : (st15 : List (HloOp τ sig (Elt F))).Forall fun op => op.fresh = ∅ :=
  ⟨rfl, rfl, rfl, rfl, rfl, rfl, rfl, rfl, rfl, rfl, rfl⟩
theorem st16_sub : (st16 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st16_fresh : (st16 : List (HloOp τ sig (Elt F))).Forall fun op => op.fresh = ∅ :=
  ⟨rfl, rfl, rfl, rfl, rfl, rfl, rfl, rfl, rfl, rfl, rfl⟩
theorem st17_sub : (st17 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st17_fresh : (st17 : List (HloOp τ sig (Elt F))).Forall fun op => op.fresh = ∅ :=
  ⟨rfl, rfl, rfl, rfl, rfl, rfl, rfl, rfl, rfl, rfl, rfl⟩
theorem st18_sub : (st18 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem st18_fresh : (st18 : List (HloOp τ sig (Elt F))).Forall fun op => op.fresh = ∅ :=
  ⟨rfl, rfl, rfl, rfl, rfl, rfl, rfl, rfl, rfl, rfl, rfl⟩
theorem st19a_sub : (st19a : List (HloOp τ sig (Elt F))).Forall fun op => op.bufs ⊆ tcRefs τ sig :=
  ⟨nullary_bufs_sub .., binary_bufs_sub .., nullary_bufs_sub .., binary_bufs_sub .., nullary_bufs_sub .., unary_bufs_sub .., binary_bufs_sub .., binary_bufs_sub ..⟩
theorem st19a_fresh : (st19a : List (HloOp τ sig (Elt F))).Forall fun op => op.fresh = ∅ :=
  ⟨rfl, rfl, rfl, rfl, rfl, rfl, rfl, rfl⟩
theorem st19b_sub : (st19b : List (HloOp τ sig (Elt F))).Forall fun op => op.bufs ⊆ tcRefs τ sig :=
  ⟨nullary_bufs_sub .., unary_bufs_sub .., unary_bufs_sub .., unary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., reshape_bufs_sub .., unary_bufs_sub .., reshape_bufs_sub .., nullary_bufs_sub .., unary_bufs_sub .., binary_bufs_sub .., unary_bufs_sub .., binary_bufs_sub .., binary_bufs_sub .., unary_bufs_sub .., unary_bufs_sub ..⟩
theorem st19b_fresh : (st19b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · exact List.forall_iff_forall_mem.mp st0_sub op h
      rcases List.mem_append.mp h with h | h
      · exact List.forall_iff_forall_mem.mp st1_sub op h
      rcases List.mem_append.mp h with h | h
      · exact List.forall_iff_forall_mem.mp st2_sub op h
      · exact List.forall_iff_forall_mem.mp st3a_sub op h
    rcases List.mem_append.mp h with h | h
    · rcases List.mem_append.mp h with h | h
      · exact List.forall_iff_forall_mem.mp st3b_sub op h
      rcases List.mem_append.mp h with h | h
      · exact List.forall_iff_forall_mem.mp st4_sub op h
      rcases List.mem_append.mp h with h | h
      · exact List.forall_iff_forall_mem.mp st5_sub op h
      rcases List.mem_append.mp h with h | h
      · exact List.forall_iff_forall_mem.mp st6_sub op h
      rcases List.mem_append.mp h with h | h
      · exact List.forall_iff_forall_mem.mp st7_sub op h
      · exact List.forall_iff_forall_mem.mp st8a_sub op h
    rcases List.mem_append.mp h with h | h
    · rcases List.mem_append.mp h with h | h
      · exact List.forall_iff_forall_mem.mp st8b_sub op h
      rcases List.mem_append.mp h with h | h
      · exact List.forall_iff_forall_mem.mp st9_sub op h
      rcases List.mem_append.mp h with h | h
      · exact List.forall_iff_forall_mem.mp st10_sub op h
      rcases List.mem_append.mp h with h | h
      · exact List.forall_iff_forall_mem.mp st11_sub op h
      rcases List.mem_append.mp h with h | h
      · exact List.forall_iff_forall_mem.mp st12_sub op h
      rcases List.mem_append.mp h with h | h
      · exact List.forall_iff_forall_mem.mp st13_sub op h
      · exact List.forall_iff_forall_mem.mp st14a_sub op h
    rcases List.mem_append.mp h with h | h
    · rcases List.mem_append.mp h with h | h
      · exact List.forall_iff_forall_mem.mp st14b_sub op h
      rcases List.mem_append.mp h with h | h
      · exact List.forall_iff_forall_mem.mp st15_sub op h
      rcases List.mem_append.mp h with h | h
      · exact List.forall_iff_forall_mem.mp st16_sub op h
      rcases List.mem_append.mp h with h | h
      · exact List.forall_iff_forall_mem.mp st17_sub op h
      rcases List.mem_append.mp h with h | h
      · exact List.forall_iff_forall_mem.mp st18_sub op h
      · exact List.forall_iff_forall_mem.mp st19a_sub op h
    · exact List.forall_iff_forall_mem.mp st19b_sub op h
theorem ops_fresh : ∀ op ∈ (ops : List (HloOp τ sig (Elt F))), op.fresh = ∅ := fun op h => by
    rcases List.mem_append.mp h with h | h
    · rcases List.mem_append.mp h with h | h
      · exact List.forall_iff_forall_mem.mp st0_fresh op h
      rcases List.mem_append.mp h with h | h
      · exact List.forall_iff_forall_mem.mp st1_fresh op h
      rcases List.mem_append.mp h with h | h
      · exact List.forall_iff_forall_mem.mp st2_fresh op h
      · exact List.forall_iff_forall_mem.mp st3a_fresh op h
    rcases List.mem_append.mp h with h | h
    · rcases List.mem_append.mp h with h | h
      · exact List.forall_iff_forall_mem.mp st3b_fresh op h
      rcases List.mem_append.mp h with h | h
      · exact List.forall_iff_forall_mem.mp st4_fresh op h
      rcases List.mem_append.mp h with h | h
      · exact List.forall_iff_forall_mem.mp st5_fresh op h
      rcases List.mem_append.mp h with h | h
      · exact List.forall_iff_forall_mem.mp st6_fresh op h
      rcases List.mem_append.mp h with h | h
      · exact List.forall_iff_forall_mem.mp st7_fresh op h
      · exact List.forall_iff_forall_mem.mp st8a_fresh op h
    rcases List.mem_append.mp h with h | h
    · rcases List.mem_append.mp h with h | h
      · exact List.forall_iff_forall_mem.mp st8b_fresh op h
      rcases List.mem_append.mp h with h | h
      · exact List.forall_iff_forall_mem.mp st9_fresh op h
      rcases List.mem_append.mp h with h | h
      · exact List.forall_iff_forall_mem.mp st10_fresh op h
      rcases List.mem_append.mp h with h | h
      · exact List.forall_iff_forall_mem.mp st11_fresh op h
      rcases List.mem_append.mp h with h | h
      · exact List.forall_iff_forall_mem.mp st12_fresh op h
      rcases List.mem_append.mp h with h | h
      · exact List.forall_iff_forall_mem.mp st13_fresh op h
      · exact List.forall_iff_forall_mem.mp st14a_fresh op h
    rcases List.mem_append.mp h with h | h
    · rcases List.mem_append.mp h with h | h
      · exact List.forall_iff_forall_mem.mp st14b_fresh op h
      rcases List.mem_append.mp h with h | h
      · exact List.forall_iff_forall_mem.mp st15_fresh op h
      rcases List.mem_append.mp h with h | h
      · exact List.forall_iff_forall_mem.mp st16_fresh op h
      rcases List.mem_append.mp h with h | h
      · exact List.forall_iff_forall_mem.mp st17_fresh op h
      rcases List.mem_append.mp h with h | h
      · exact List.forall_iff_forall_mem.mp st18_fresh op h
      · exact List.forall_iff_forall_mem.mp st19a_fresh op h
    · exact List.forall_iff_forall_mem.mp st19b_fresh op h

end Cert.DecodeReferenceIdeal.Value

end
-- ==== Proof.QRead.lean ====
module

public import proofs.«01_k».proof.Proof.Gen.DecodeReferenceIdeal
public import proofs.«01_k».proof.Proof.RStage
public import Idealize.ShloMosaic.Lib.StableHlo.Run

@[expose] public section

noncomputable section

namespace Cert.DecodeReferenceIdeal.Read

open Cert.DecodeReferenceIdeal Cert.DecodeReferenceIdeal.Gen Idealize.ShloMosaic Idealize.ShloMosaic.TcCoe Idealize.SL.Sem Idealize.ShloMosaic.StableHlo

/-! # The arrays the reference forms, one after another -/

/-- The arrays of shape `s`. -/
abbrev C (F : FTy → Type) (s : Shape) : Type := (⟨s, .f32⟩ : BufTy).Contents (Elt F)

/-- The arrays of shape `s`. -/
abbrev CI (F : FTy → Type) (s : Shape) : Type := (⟨s, .i32⟩ : BufTy).Contents (Elt F)

variable {F : FTy → Type} [FloatOps F]

def val_main_v0 : CI F S2 :=
  iotaInDim S2 32 0
theorem val_main_v0_apply (i : S2.Idx) :
    val_main_v0 (F := F) i = BitVec.ofNat 32 (i 0).val := rfl

def val_main_v1 : CI F S1x1x1x1x2x1 :=
  broadcastInDim S1x1x1x1x2x1 ![4] bcast_S2_S1x1x1x1x2x1_4 (val_main_v0 (F := F))
abbrev idx_main_v1 (i : S1x1x1x1x2x1.Idx) : S2.Idx := fun a => match a with
  | ⟨0, _⟩ => ⟨(i 4).val, (i 4).isLt⟩
theorem val_main_v1_apply (i : S1x1x1x1x2x1.Idx) :
    val_main_v1 (F := F) i = val_main_v0 (F := F) (idx_main_v1 i) := by
  unfold val_main_v1
  generalize val_main_v0 (F := F) = y
  exact broadcastInDim_apply _ bcast_S2_S1x1x1x1x2x1_4 y i (idx_main_v1 i) (fun a => match a with
    | ⟨0, _⟩ => by show (i 4).val = if (2 : Nat) = 1 then 0 else (i 4).val; rw [if_neg (by decide)])

def val_main_v2 : CI F S2 :=
  iotaInDim S2 32 0
theorem val_main_v2_apply (i : S2.Idx) :
    val_main_v2 (F := F) i = BitVec.ofNat 32 (i 0).val := rfl

def val_main_v3 : CI F S1x1x2x1 :=
  broadcastInDim S1x1x2x1 ![2] bcast_S2_S1x1x2x1_2 (val_main_v2 (F := F))
abbrev idx_main_v3 (i : S1x1x2x1.Idx) : S2.Idx := fun a => match a with
  | ⟨0, _⟩ => ⟨(i 2).val, (i 2).isLt⟩
theorem val_main_v3_apply (i : S1x1x2x1.Idx) :
    val_main_v3 (F := F) i = val_main_v2 (F := F) (idx_main_v3 i) := by
  unfold val_main_v3
  generalize val_main_v2 (F := F) = y
  exact broadcastInDim_apply _ bcast_S2_S1x1x2x1_2 y i (idx_main_v3 i) (fun a => match a with
    | ⟨0, _⟩ => by show (i 2).val = if (2 : Nat) = 1 then 0 else (i 2).val; rw [if_neg (by decide)])

def val_main_v4 (x0 : CI F S2x64x16x8x8x128) : CI F S2x16x8x64x8x128 :=
  transpose S2x16x8x64x8x128 [0, 2, 4, 1, 3, 5] (x0) transposes_S2x64x16x8x8x128_S2x16x8x64x8x128_0_2_4_1_3_5
abbrev idx_main_v4 (i : S2x16x8x64x8x128.Idx) : S2x64x16x8x8x128.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 4).val, (i 4).isLt⟩
  | ⟨4, _⟩ => ⟨(i 2).val, (i 2).isLt⟩
  | ⟨5, _⟩ => ⟨(i 5).val, (i 5).isLt⟩
theorem val_main_v4_apply (x0 : CI F S2x64x16x8x8x128) (i : S2x16x8x64x8x128.Idx) :
    val_main_v4 (F := F) x0 i = x0 (idx_main_v4 i) := by
  unfold val_main_v4
  exact transpose_apply [0, 2, 4, 1, 3, 5] x0 transposes_S2x64x16x8x8x128_S2x16x8x64x8x128_0_2_4_1_3_5 i (idx_main_v4 i) (fun b => match b with
    | ⟨0, _⟩ => rfl
    | ⟨1, _⟩ => rfl
    | ⟨2, _⟩ => rfl
    | ⟨3, _⟩ => rfl
    | ⟨4, _⟩ => rfl
    | ⟨5, _⟩ => rfl)

def val_main_v5 (x0 : CI F S2x64x16x8x8x128) : CI F S32x8x64x8x128 :=
  shapeCast _ (val_main_v4 (F := F) x0) shapeCasts_S2x16x8x64x8x128_S32x8x64x8x128

def val_main_v6 (x0 : CI F S2x64x16x8x8x128) : CI F S32x8x64x8x1x128 :=
  broadcastInDim S32x8x64x8x1x128 ![0, 1, 2, 3, 5] bcast_S32x8x64x8x128_S32x8x64x8x1x128_0_1_2_3_5 (val_main_v5 (F := F) x0)
abbrev idx_main_v6 (i : S32x8x64x8x1x128.Idx) : S32x8x64x8x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 5).val, (i 5).isLt⟩
theorem val_main_v6_apply (x0 : CI F S2x64x16x8x8x128) (i : S32x8x64x8x1x128.Idx) :
    val_main_v6 (F := F) x0 i = val_main_v5 (F := F) x0 (idx_main_v6 i) := by
  unfold val_main_v6
  generalize val_main_v5 (F := F) x0 = y
  exact broadcastInDim_apply _ bcast_S32x8x64x8x128_S32x8x64x8x1x128_0_1_2_3_5 y i (idx_main_v6 i) (fun a => match a with
    | ⟨0, _⟩ => by show (i 0).val = if (32 : Nat) = 1 then 0 else (i 0).val; rw [if_neg (by decide)]
    | ⟨1, _⟩ => by show (i 1).val = if (8 : Nat) = 1 then 0 else (i 1).val; rw [if_neg (by decide)]
    | ⟨2, _⟩ => by show (i 2).val = if (64 : Nat) = 1 then 0 else (i 2).val; rw [if_neg (by decide)]
    | ⟨3, _⟩ => by show (i 3).val = if (8 : Nat) = 1 then 0 else (i 3).val; rw [if_neg (by decide)]
    | ⟨4, _⟩ => by show (i 5).val = if (128 : Nat) = 1 then 0 else (i 5).val; rw [if_neg (by decide)])

def val_main_c : CI F S_ :=
  constantI S_ 32 8#32
theorem val_main_c_apply (i : S_.Idx) :
    val_main_c (F := F) i = 8#32 := rfl

def val_main_v7 : CI F S1x1x1x1x2x1 :=
  broadcastInDim S1x1x1x1x2x1 ![] bcast_S_S1x1x1x1x2x1 (val_main_c (F := F))
abbrev idx_main_v7 (i : S1x1x1x1x2x1.Idx) : S_.Idx := fun a => a.elim0
theorem val_main_v7_apply (i : S1x1x1x1x2x1.Idx) :
    val_main_v7 (F := F) i = val_main_c (F := F) (idx_main_v7 i) := by
  unfold val_main_v7
  generalize val_main_c (F := F) = y
  exact broadcastInDim_apply _ bcast_S_S1x1x1x1x2x1 y i (idx_main_v7 i) (fun a => a.elim0)

def val_main_v8 : CI F S1x1x1x1x2x1 :=
  muli (val_main_v7 (F := F)) (val_main_v1 (F := F))
theorem val_main_v8_apply (i : S1x1x1x1x2x1.Idx) :
    val_main_v8 (F := F) i = IntOp.muli (val_main_v7 (F := F) i) (val_main_v1 (F := F) i) := rfl

def val_main_v9 (x0 : CI F S2x64x16x8x8x128) : CI F S32x8x64x8x2x128 :=
  broadcastInDim S32x8x64x8x2x128 ![0, 1, 2, 3, 4, 5] bcast_S32x8x64x8x1x128_S32x8x64x8x2x128_0_1_2_3_4_5 (val_main_v6 (F := F) x0)
abbrev idx_main_v9 (i : S32x8x64x8x2x128.Idx) : S32x8x64x8x1x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
  | ⟨5, _⟩ => ⟨(i 5).val, (i 5).isLt⟩
theorem val_main_v9_apply (x0 : CI F S2x64x16x8x8x128) (i : S32x8x64x8x2x128.Idx) :
    val_main_v9 (F := F) x0 i = val_main_v6 (F := F) x0 (idx_main_v9 i) := by
  unfold val_main_v9
  generalize val_main_v6 (F := F) x0 = y
  exact broadcastInDim_apply _ bcast_S32x8x64x8x1x128_S32x8x64x8x2x128_0_1_2_3_4_5 y i (idx_main_v9 i) (fun a => match a with
    | ⟨0, _⟩ => by show (i 0).val = if (32 : Nat) = 1 then 0 else (i 0).val; rw [if_neg (by decide)]
    | ⟨1, _⟩ => by show (i 1).val = if (8 : Nat) = 1 then 0 else (i 1).val; rw [if_neg (by decide)]
    | ⟨2, _⟩ => by show (i 2).val = if (64 : Nat) = 1 then 0 else (i 2).val; rw [if_neg (by decide)]
    | ⟨3, _⟩ => by show (i 3).val = if (8 : Nat) = 1 then 0 else (i 3).val; rw [if_neg (by decide)]
    | ⟨4, _⟩ => by show 0 = if (1 : Nat) = 1 then 0 else (i 4).val; rw [if_pos rfl]
    | ⟨5, _⟩ => by show (i 5).val = if (128 : Nat) = 1 then 0 else (i 5).val; rw [if_neg (by decide)])

def val_main_v10 : CI F S32x8x64x8x2x128 :=
  broadcastInDim S32x8x64x8x2x128 ![0, 1, 2, 3, 4, 5] bcast_S1x1x1x1x2x1_S32x8x64x8x2x128_0_1_2_3_4_5 (val_main_v8 (F := F))
abbrev idx_main_v10 (i : S32x8x64x8x2x128.Idx) : S1x1x1x1x2x1.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
  | ⟨4, _⟩ => ⟨(i 4).val, (i 4).isLt⟩
  | ⟨5, _⟩ => ⟨0, Nat.one_pos⟩
theorem val_main_v10_apply (i : S32x8x64x8x2x128.Idx) :
    val_main_v10 (F := F) i = val_main_v8 (F := F) (idx_main_v10 i) := by
  unfold val_main_v10
  generalize val_main_v8 (F := F) = y
  exact broadcastInDim_apply _ bcast_S1x1x1x1x2x1_S32x8x64x8x2x128_0_1_2_3_4_5 y i (idx_main_v10 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (2 : Nat) = 1 then 0 else (i 4).val; rw [if_neg (by decide)]
    | ⟨5, _⟩ => by show 0 = if (1 : Nat) = 1 then 0 else (i 5).val; rw [if_pos rfl])

def val_main_v11 (x0 : CI F S2x64x16x8x8x128) : CI F S32x8x64x8x2x128 :=
  Host.shrui (val_main_v9 (F := F) x0) (val_main_v10 (F := F))
theorem val_main_v11_apply (x0 : CI F S2x64x16x8x8x128) (i : S32x8x64x8x2x128.Idx) :
    val_main_v11 (F := F) x0 i = IntOp.shrui .host (val_main_v9 (F := F) x0 i) (val_main_v10 (F := F) i) := rfl

def val_main_v12 (x0 : CI F S2x64x16x8x8x128) : CI F S32x2x4x64x2048 :=
  shapeCast _ (val_main_v11 (F := F) x0) shapeCasts_S32x8x64x8x2x128_S32x2x4x64x2048

def val_main_v13 (x0 : CI F S2x64x16x8x8x128) : CI F S32x4x64x2x2048 :=
  transpose S32x4x64x2x2048 [0, 2, 3, 1, 4] (val_main_v12 (F := F) x0) transposes_S32x2x4x64x2048_S32x4x64x2x2048_0_2_3_1_4
abbrev idx_main_v13 (i : S32x4x64x2x2048.Idx) : S32x2x4x64x2048.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 2).val, (i 2).isLt⟩
  | ⟨4, _⟩ => ⟨(i 4).val, (i 4).isLt⟩
theorem val_main_v13_apply (x0 : CI F S2x64x16x8x8x128) (i : S32x4x64x2x2048.Idx) :
    val_main_v13 (F := F) x0 i = val_main_v12 (F := F) x0 (idx_main_v13 i) := by
  unfold val_main_v13
  generalize val_main_v12 (F := F) x0 = y
  exact transpose_apply [0, 2, 3, 1, 4] y transposes_S32x2x4x64x2048_S32x4x64x2x2048_0_2_3_1_4 i (idx_main_v13 i) (fun b => match b with
    | ⟨0, _⟩ => rfl
    | ⟨1, _⟩ => rfl
    | ⟨2, _⟩ => rfl
    | ⟨3, _⟩ => rfl
    | ⟨4, _⟩ => rfl)

def val_main_v14 (x0 : CI F S2x64x16x8x8x128) : CI F S32x4x262144 :=
  shapeCast _ (val_main_v13 (F := F) x0) shapeCasts_S32x4x64x2x2048_S32x4x262144

def val_main_v15 (x0 : CI F S2x64x16x8x8x128) : CI F S32x4x1x262144 :=
  broadcastInDim S32x4x1x262144 ![0, 1, 3] bcast_S32x4x262144_S32x4x1x262144_0_1_3 (val_main_v14 (F := F) x0)
abbrev idx_main_v15 (i : S32x4x1x262144.Idx) : S32x4x262144.Idx := fun a => match a with
  | ⟨0, _⟩ => ⟨(i 0).val, (i 0).isLt⟩
  | ⟨1, _⟩ => ⟨(i 1).val, (i 1).isLt⟩
  | ⟨2, _⟩ => ⟨(i 3).val, (i 3).isLt⟩
theorem val_main_v15_apply (x0 : CI F S2x64x16x8x8x128) (i : S32x4x1x262144.Idx) :
    val_main_v15 (F := F) x0 i = val_main_v14 (F := F) x0 (idx_main_v15 i) := by
  unfold val_main_v15
  generalize val_main_v14 (F := F) x0 = y
  exact broadcastInDim_apply _ bcast_S32x4x262144_S32x4x1x262144_0_1_3 y i (idx_main_v15 i) (fun a => match a with
    | ⟨0, _⟩ => by show (i 0).val = if (32 : Nat) = 1 then 0 else (i 0).val; rw [if_neg (by decide)]
    | ⟨1, _⟩ => by show (i 1).val = if (4 : Nat) = 1 then 0 else (i 1).val; rw [if_neg (by decide)]
    | ⟨2, _⟩ => by show (i 3).val = if (262144 : Nat) = 1 then 0 else (i 3).val; rw [if_neg (by decide)])

def val_main_c_0 : CI F S_ :=
  constantI S_ 32 16#32
theorem val_main_c_0_apply (i : S_.Idx) :
    val_main_c_0 (F := F) i = 16#32 := rfl

def val_main_v16 : CI F S1x1x2x1 :=
  broadcastInDim S1x1x2x1 ![] bcast_S_S1x1x2x1 (val_main_c_0 (F := F))
abbrev idx_main_v16 (i : S1x1x2x1.Idx) : S_.Idx := fun a => a.elim0
theorem val_main_v16_apply (i : S1x1x2x1.Idx) :
    val_main_v16 (F := F) i = val_main_c_0 (F := F) (idx_main_v16 i) := by
  unfold val_main_v16
  generalize val_main_c_0 (F := F) = y
  exact broadcastInDim_apply _ bcast_S_S1x1x2x1 y i (idx_main_v16 i) (fun a => a.elim0)

def val_main_v17 : CI F S1x1x2x1 :=
  muli (val_main_v16 (F := F)) (val_main_v3 (F := F))
theorem val_main_v17_apply (i : S1x1x2x1.Idx) :
    val_main_v17 (F := F) i = IntOp.muli (val_main_v16 (F := F) i) (val_main_v3 (F := F) i) := rfl

def val_main_v18 (x0 : CI F S2x64x16x8x8x128) : CI F S32x4x2x262144 :=
  broadcastInDim S32x4x2x262144 ![0, 1, 2, 3] bcast_S32x4x1x262144_S32x4x2x262144_0_1_2_3 (val_main_v15 (F := F) x0)
abbrev idx_main_v18 (i : S32x4x2x262144.Idx) : S32x4x1x262144.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v18_apply (x0 : CI F S2x64x16x8x8x128) (i : S32x4x2x262144.Idx) :
    val_main_v18 (F := F) x0 i = val_main_v15 (F := F) x0 (idx_main_v18 i) := by
  unfold val_main_v18
  generalize val_main_v15 (F := F) x0 = y
  exact broadcastInDim_apply _ bcast_S32x4x1x262144_S32x4x2x262144_0_1_2_3 y i (idx_main_v18 i) (fun a => match a with
    | ⟨0, _⟩ => by show (i 0).val = if (32 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl]
    | ⟨3, _⟩ => by show (i 3).val = if (262144 : Nat) = 1 then 0 else (i 3).val; rw [if_neg (by decide)])

def val_main_v19 : CI F S32x4x2x262144 :=
  broadcastInDim S32x4x2x262144 ![0, 1, 2, 3] bcast_S1x1x2x1_S32x4x2x262144_0_1_2_3 (val_main_v17 (F := F))
abbrev idx_main_v19 (i : S32x4x2x262144.Idx) : S1x1x2x1.Idx := fun a => match a with
  | ⟨0, _⟩ => ⟨0, Nat.one_pos⟩
  | ⟨1, _⟩ => ⟨0, Nat.one_pos⟩
  | ⟨2, _⟩ => ⟨(i 2).val, (i 2).isLt⟩
  | ⟨3, _⟩ => ⟨0, Nat.one_pos⟩
theorem val_main_v19_apply (i : S32x4x2x262144.Idx) :
    val_main_v19 (F := F) i = val_main_v17 (F := F) (idx_main_v19 i) := by
  unfold val_main_v19
  generalize val_main_v17 (F := F) = y
  exact broadcastInDim_apply _ bcast_S1x1x2x1_S32x4x2x262144_0_1_2_3 y i (idx_main_v19 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (2 : Nat) = 1 then 0 else (i 2).val; rw [if_neg (by decide)]
    | ⟨3, _⟩ => by show 0 = if (1 : Nat) = 1 then 0 else (i 3).val; rw [if_pos rfl])

def val_main_v20 (x0 : CI F S2x64x16x8x8x128) : CI F S32x4x2x262144 :=
  Host.shrui (val_main_v18 (F := F) x0) (val_main_v19 (F := F))
theorem val_main_v20_apply (x0 : CI F S2x64x16x8x8x128) (i : S32x4x2x262144.Idx) :
    val_main_v20 (F := F) x0 i = IntOp.shrui .host (val_main_v18 (F := F) x0 i) (val_main_v19 (F := F) i) := rfl

def val_main_c_1 : CI F S_ :=
  constantI S_ 32 255#32
theorem val_main_c_1_apply (i : S_.Idx) :
    val_main_c_1 (F := F) i = 255#32 := rfl

def val_main_v21 : CI F S32x4x2x262144 :=
  broadcastInDim S32x4x2x262144 ![] bcast_S_S32x4x2x262144 (val_main_c_1 (F := F))
abbrev idx_main_v21 (i : S32x4x2x262144.Idx) : S_.Idx := fun a => a.elim0
theorem val_main_v21_apply (i : S32x4x2x262144.Idx) :
    val_main_v21 (F := F) i = val_main_c_1 (F := F) (idx_main_v21 i) := by
  unfold val_main_v21
  generalize val_main_c_1 (F := F) = y
  exact broadcastInDim_apply _ bcast_S_S32x4x2x262144 y i (idx_main_v21 i) (fun a => a.elim0)

def val_main_v22 (x0 : CI F S2x64x16x8x8x128) : CI F S32x4x2x262144 :=
  andi (val_main_v20 (F := F) x0) (val_main_v21 (F := F))
theorem val_main_v22_apply (x0 : CI F S2x64x16x8x8x128) (i : S32x4x2x262144.Idx) :
    val_main_v22 (F := F) x0 i = IntOp.andi (val_main_v20 (F := F) x0 i) (val_main_v21 (F := F) i) := rfl

def val_main_v23 (x0 : CI F S2x64x16x8x8x128) : C F S32x4x2x262144 :=
  sitofp .f32 (val_main_v22 (F := F) x0)
theorem val_main_v23_apply (x0 : CI F S2x64x16x8x8x128) (i : S32x4x2x262144.Idx) :
    val_main_v23 (F := F) x0 i = FloatOps.sitofp .f32 (val_main_v22 (F := F) x0 i) := rfl

def val_main_cst : C F S_ :=
  constant S_ .f32 0x40000000#32
theorem val_main_cst_apply (i : S_.Idx) :
    val_main_cst (F := F) i = FloatOps.ofBits .f32 0x40000000#32 := rfl

def val_main_v24 : C F S32x4x2x262144 :=
  broadcastInDim S32x4x2x262144 ![] bcast_S_S32x4x2x262144 (val_main_cst (F := F))
abbrev idx_main_v24 (i : S32x4x2x262144.Idx) : S_.Idx := fun a => a.elim0
theorem val_main_v24_apply (i : S32x4x2x262144.Idx) :
    val_main_v24 (F := F) i = val_main_cst (F := F) (idx_main_v24 i) := by
  unfold val_main_v24
  generalize val_main_cst (F := F) = y
  exact broadcastInDim_apply _ bcast_S_S32x4x2x262144 y i (idx_main_v24 i) (fun a => a.elim0)

def val_main_v25 (x0 : CI F S2x64x16x8x8x128) : C F S32x4x2x262144 :=
  mulf (val_main_v24 (F := F)) (val_main_v23 (F := F) x0)
theorem val_main_v25_apply (x0 : CI F S2x64x16x8x8x128) (i : S32x4x2x262144.Idx) :
    val_main_v25 (F := F) x0 i = FloatOps.mulf (val_main_v24 (F := F) i) (val_main_v23 (F := F) x0 i) := rfl

def val_main_cst_2 : C F S_ :=
  constant S_ .f32 0x43000000#32
theorem val_main_cst_2_apply (i : S_.Idx) :
    val_main_cst_2 (F := F) i = FloatOps.ofBits .f32 0x43000000#32 := rfl

def val_main_v26 : C F S32x4x2x262144 :=
  broadcastInDim S32x4x2x262144 ![] bcast_S_S32x4x2x262144 (val_main_cst_2 (F := F))
abbrev idx_main_v26 (i : S32x4x2x262144.Idx) : S_.Idx := fun a => a.elim0
theorem val_main_v26_apply (i : S32x4x2x262144.Idx) :
    val_main_v26 (F := F) i = val_main_cst_2 (F := F) (idx_main_v26 i) := by
  unfold val_main_v26
  generalize val_main_cst_2 (F := F) = y
  exact broadcastInDim_apply _ bcast_S_S32x4x2x262144 y i (idx_main_v26 i) (fun a => a.elim0)

def val_main_v27 (x0 : CI F S2x64x16x8x8x128) : C F S32x4x2x262144 :=
  subf (val_main_v26 (F := F)) (val_main_v25 (F := F) x0)
theorem val_main_v27_apply (x0 : CI F S2x64x16x8x8x128) (i : S32x4x2x262144.Idx) :
    val_main_v27 (F := F) x0 i = FloatOps.subf (val_main_v26 (F := F) i) (val_main_v25 (F := F) x0 i) := rfl

def val_main_v28 (x0 : CI F S2x64x16x8x8x128) : C F S2x16x8x262144 :=
  shapeCast _ (val_main_v27 (F := F) x0) shapeCasts_S32x4x2x262144_S2x16x8x262144

def val_main_cst_3 : C F S_ :=
  constant S_ .f32 0x00000000#32

def val_main_v227 (x2 : C F S2x8x128) : C F S2 :=
  Host.reduceAdd (x2) (val_main_cst_3 (F := F)) reducesTo_S2x8x128_S2_d1_2 h_S_

def val_main_cst_4 : C F S_ :=
  constant S_ .f32 0x00000000#32

def val_main_v228 (x3 : C F S2x8x128) : C F S2 :=
  Host.reduceAdd (x3) (val_main_cst_4 (F := F)) reducesTo_S2x8x128_S2_d1_2 h_S_

def val_main_cst_5 : C F S_ :=
  constant S_ .f32 0x393504F3#32
theorem val_main_cst_5_apply (i : S_.Idx) :
    val_main_cst_5 (F := F) i = FloatOps.ofBits .f32 0x393504F3#32 := rfl

def val_main_v229 : C F S2 :=
  broadcastInDim S2 ![] bcast_S_S2 (val_main_cst_5 (F := F))
abbrev idx_main_v229 (i : S2.Idx) : S_.Idx := fun a => a.elim0
theorem val_main_v229_apply (i : S2.Idx) :
    val_main_v229 (F := F) i = val_main_cst_5 (F := F) (idx_main_v229 i) := by
  unfold val_main_v229
  generalize val_main_cst_5 (F := F) = y
  exact broadcastInDim_apply _ bcast_S_S2 y i (idx_main_v229 i) (fun a => a.elim0)

def val_main_v230 (x3 : C F S2x8x128) : C F S2 :=
  mulf (val_main_v229 (F := F)) (val_main_v228 (F := F) x3)
theorem val_main_v230_apply (x3 : C F S2x8x128) (i : S2.Idx) :
    val_main_v230 (F := F) x3 i = FloatOps.mulf (val_main_v229 (F := F) i) (val_main_v228 (F := F) x3 i) := rfl

def val_main_v231 (x2 x3 : C F S2x8x128) : C F S2 :=
  Host.divf (val_main_v227 (F := F) x2) (val_main_v230 (F := F) x3)
theorem val_main_v231_apply (x2 x3 : C F S2x8x128) (i : S2.Idx) :
    val_main_v231 (F := F) x2 x3 i = FloatOps.hostDivf (val_main_v227 (F := F) x2 i) (val_main_v230 (F := F) x3 i) := rfl

def val_main_v232 : CI F S32 :=
  iotaInDim S32 32 0
theorem val_main_v232_apply (i : S32.Idx) :
    val_main_v232 (F := F) i = BitVec.ofNat 32 (i 0).val := rfl

def val_main_v233 : CI F S1x1x1x1x32x1 :=
  broadcastInDim S1x1x1x1x32x1 ![4] bcast_S32_S1x1x1x1x32x1_4 (val_main_v232 (F := F))
abbrev idx_main_v233 (i : S1x1x1x1x32x1.Idx) : S32.Idx := fun a => match a with
  | ⟨0, _⟩ => ⟨(i 4).val, (i 4).isLt⟩
theorem val_main_v233_apply (i : S1x1x1x1x32x1.Idx) :
    val_main_v233 (F := F) i = val_main_v232 (F := F) (idx_main_v233 i) := by
  unfold val_main_v233
  generalize val_main_v232 (F := F) = y
  exact broadcastInDim_apply _ bcast_S32_S1x1x1x1x32x1_4 y i (idx_main_v233 i) (fun a => match a with
    | ⟨0, _⟩ => by show (i 4).val = if (32 : Nat) = 1 then 0 else (i 4).val; rw [if_neg (by decide)])

def val_main_v234 (x1 : CI F S2x16x64x8x128) : CI F S2x16x8x64x128 :=
  transpose S2x16x8x64x128 [0, 1, 3, 2, 4] (x1) transposes_S2x16x64x8x128_S2x16x8x64x128_0_1_3_2_4
abbrev idx_main_v234 (i : S2x16x8x64x128.Idx) : S2x16x64x8x128.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 2).val, (i 2).isLt⟩
  | ⟨4, _⟩ => ⟨(i 4).val, (i 4).isLt⟩
theorem val_main_v234_apply (x1 : CI F S2x16x64x8x128) (i : S2x16x8x64x128.Idx) :
    val_main_v234 (F := F) x1 i = x1 (idx_main_v234 i) := by
  unfold val_main_v234
  exact transpose_apply [0, 1, 3, 2, 4] x1 transposes_S2x16x64x8x128_S2x16x8x64x128_0_1_3_2_4 i (idx_main_v234 i) (fun b => match b with
    | ⟨0, _⟩ => rfl
    | ⟨1, _⟩ => rfl
    | ⟨2, _⟩ => rfl
    | ⟨3, _⟩ => rfl
    | ⟨4, _⟩ => rfl)

def val_main_v235 (x1 : CI F S2x16x64x8x128) : CI F S2x16x8x64x1x128 :=
  broadcastInDim S2x16x8x64x1x128 ![0, 1, 2, 3, 5] bcast_S2x16x8x64x128_S2x16x8x64x1x128_0_1_2_3_5 (val_main_v234 (F := F) x1)
abbrev idx_main_v235 (i : S2x16x8x64x1x128.Idx) : S2x16x8x64x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 5).val, (i 5).isLt⟩
theorem val_main_v235_apply (x1 : CI F S2x16x64x8x128) (i : S2x16x8x64x1x128.Idx) :
    val_main_v235 (F := F) x1 i = val_main_v234 (F := F) x1 (idx_main_v235 i) := by
  unfold val_main_v235
  generalize val_main_v234 (F := F) x1 = y
  exact broadcastInDim_apply _ bcast_S2x16x8x64x128_S2x16x8x64x1x128_0_1_2_3_5 y i (idx_main_v235 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (8 : Nat) = 1 then 0 else (i 2).val; rw [if_neg (by decide)]
    | ⟨3, _⟩ => by show (i 3).val = if (64 : Nat) = 1 then 0 else (i 3).val; rw [if_neg (by decide)]
    | ⟨4, _⟩ => by show (i 5).val = if (128 : Nat) = 1 then 0 else (i 5).val; rw [if_neg (by decide)])

def val_main_v236 (x1 : CI F S2x16x64x8x128) : CI F S2x16x8x64x32x128 :=
  broadcastInDim S2x16x8x64x32x128 ![0, 1, 2, 3, 4, 5] bcast_S2x16x8x64x1x128_S2x16x8x64x32x128_0_1_2_3_4_5 (val_main_v235 (F := F) x1)
abbrev idx_main_v236 (i : S2x16x8x64x32x128.Idx) : S2x16x8x64x1x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
  | ⟨5, _⟩ => ⟨(i 5).val, (i 5).isLt⟩
theorem val_main_v236_apply (x1 : CI F S2x16x64x8x128) (i : S2x16x8x64x32x128.Idx) :
    val_main_v236 (F := F) x1 i = val_main_v235 (F := F) x1 (idx_main_v236 i) := by
  unfold val_main_v236
  generalize val_main_v235 (F := F) x1 = y
  exact broadcastInDim_apply _ bcast_S2x16x8x64x1x128_S2x16x8x64x32x128_0_1_2_3_4_5 y i (idx_main_v236 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (8 : Nat) = 1 then 0 else (i 2).val; rw [if_neg (by decide)]
    | ⟨3, _⟩ => by show (i 3).val = if (64 : Nat) = 1 then 0 else (i 3).val; rw [if_neg (by decide)]
    | ⟨4, _⟩ => by show 0 = if (1 : Nat) = 1 then 0 else (i 4).val; rw [if_pos rfl]
    | ⟨5, _⟩ => by show (i 5).val = if (128 : Nat) = 1 then 0 else (i 5).val; rw [if_neg (by decide)])

def val_main_v237 : CI F S2x16x8x64x32x128 :=
  broadcastInDim S2x16x8x64x32x128 ![0, 1, 2, 3, 4, 5] bcast_S1x1x1x1x32x1_S2x16x8x64x32x128_0_1_2_3_4_5 (val_main_v233 (F := F))
abbrev idx_main_v237 (i : S2x16x8x64x32x128.Idx) : S1x1x1x1x32x1.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
  | ⟨4, _⟩ => ⟨(i 4).val, (i 4).isLt⟩
  | ⟨5, _⟩ => ⟨0, Nat.one_pos⟩
theorem val_main_v237_apply (i : S2x16x8x64x32x128.Idx) :
    val_main_v237 (F := F) i = val_main_v233 (F := F) (idx_main_v237 i) := by
  unfold val_main_v237
  generalize val_main_v233 (F := F) = y
  exact broadcastInDim_apply _ bcast_S1x1x1x1x32x1_S2x16x8x64x32x128_0_1_2_3_4_5 y i (idx_main_v237 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (32 : Nat) = 1 then 0 else (i 4).val; rw [if_neg (by decide)]
    | ⟨5, _⟩ => by show 0 = if (1 : Nat) = 1 then 0 else (i 5).val; rw [if_pos rfl])

def val_main_v238 (x1 : CI F S2x16x64x8x128) : CI F S2x16x8x64x32x128 :=
  Host.shrui (val_main_v236 (F := F) x1) (val_main_v237 (F := F))
theorem val_main_v238_apply (x1 : CI F S2x16x64x8x128) (i : S2x16x8x64x32x128.Idx) :
    val_main_v238 (F := F) x1 i = IntOp.shrui .host (val_main_v236 (F := F) x1 i) (val_main_v237 (F := F) i) := rfl

def val_main_c_6 : CI F S_ :=
  constantI S_ 32 1#32
theorem val_main_c_6_apply (i : S_.Idx) :
    val_main_c_6 (F := F) i = 1#32 := rfl

def val_main_v239 : CI F S2x16x8x64x32x128 :=
  broadcastInDim S2x16x8x64x32x128 ![] bcast_S_S2x16x8x64x32x128 (val_main_c_6 (F := F))
abbrev idx_main_v239 (i : S2x16x8x64x32x128.Idx) : S_.Idx := fun a => a.elim0
theorem val_main_v239_apply (i : S2x16x8x64x32x128.Idx) :
    val_main_v239 (F := F) i = val_main_c_6 (F := F) (idx_main_v239 i) := by
  unfold val_main_v239
  generalize val_main_c_6 (F := F) = y
  exact broadcastInDim_apply _ bcast_S_S2x16x8x64x32x128 y i (idx_main_v239 i) (fun a => a.elim0)

def val_main_v240 (x1 : CI F S2x16x64x8x128) : CI F S2x16x8x64x32x128 :=
  andi (val_main_v238 (F := F) x1) (val_main_v239 (F := F))
theorem val_main_v240_apply (x1 : CI F S2x16x64x8x128) (i : S2x16x8x64x32x128.Idx) :
    val_main_v240 (F := F) x1 i = IntOp.andi (val_main_v238 (F := F) x1 i) (val_main_v239 (F := F) i) := rfl

def val_main_v241 (x1 : CI F S2x16x64x8x128) : C F S2x16x8x64x32x128 :=
  sitofp .f32 (val_main_v240 (F := F) x1)
theorem val_main_v241_apply (x1 : CI F S2x16x64x8x128) (i : S2x16x8x64x32x128.Idx) :
    val_main_v241 (F := F) x1 i = FloatOps.sitofp .f32 (val_main_v240 (F := F) x1 i) := rfl

def val_main_cst_7 : C F S_ :=
  constant S_ .f32 0x40000000#32
theorem val_main_cst_7_apply (i : S_.Idx) :
    val_main_cst_7 (F := F) i = FloatOps.ofBits .f32 0x40000000#32 := rfl

def val_main_v242 : C F S2x16x8x64x32x128 :=
  broadcastInDim S2x16x8x64x32x128 ![] bcast_S_S2x16x8x64x32x128 (val_main_cst_7 (F := F))
abbrev idx_main_v242 (i : S2x16x8x64x32x128.Idx) : S_.Idx := fun a => a.elim0
theorem val_main_v242_apply (i : S2x16x8x64x32x128.Idx) :
    val_main_v242 (F := F) i = val_main_cst_7 (F := F) (idx_main_v242 i) := by
  unfold val_main_v242
  generalize val_main_cst_7 (F := F) = y
  exact broadcastInDim_apply _ bcast_S_S2x16x8x64x32x128 y i (idx_main_v242 i) (fun a => a.elim0)

def val_main_v243 (x1 : CI F S2x16x64x8x128) : C F S2x16x8x64x32x128 :=
  mulf (val_main_v242 (F := F)) (val_main_v241 (F := F) x1)
theorem val_main_v243_apply (x1 : CI F S2x16x64x8x128) (i : S2x16x8x64x32x128.Idx) :
    val_main_v243 (F := F) x1 i = FloatOps.mulf (val_main_v242 (F := F) i) (val_main_v241 (F := F) x1 i) := rfl

def val_main_cst_8 : C F S_ :=
  constant S_ .f32 0x3F800000#32
theorem val_main_cst_8_apply (i : S_.Idx) :
    val_main_cst_8 (F := F) i = FloatOps.ofBits .f32 0x3F800000#32 := rfl

def val_main_v244 : C F S2x16x8x64x32x128 :=
  broadcastInDim S2x16x8x64x32x128 ![] bcast_S_S2x16x8x64x32x128 (val_main_cst_8 (F := F))
abbrev idx_main_v244 (i : S2x16x8x64x32x128.Idx) : S_.Idx := fun a => a.elim0
theorem val_main_v244_apply (i : S2x16x8x64x32x128.Idx) :
    val_main_v244 (F := F) i = val_main_cst_8 (F := F) (idx_main_v244 i) := by
  unfold val_main_v244
  generalize val_main_cst_8 (F := F) = y
  exact broadcastInDim_apply _ bcast_S_S2x16x8x64x32x128 y i (idx_main_v244 i) (fun a => a.elim0)

def val_main_v245 (x1 : CI F S2x16x64x8x128) : C F S2x16x8x64x32x128 :=
  subf (val_main_v244 (F := F)) (val_main_v243 (F := F) x1)
theorem val_main_v245_apply (x1 : CI F S2x16x64x8x128) (i : S2x16x8x64x32x128.Idx) :
    val_main_v245 (F := F) x1 i = FloatOps.subf (val_main_v244 (F := F) i) (val_main_v243 (F := F) x1 i) := rfl

def val_main_v246 (x1 : CI F S2x16x64x8x128) : C F S2x128x262144 :=
  shapeCast _ (val_main_v245 (F := F) x1) shapeCasts_S2x16x8x64x32x128_S2x128x262144

section Stages
variable (x0 : IVec S2x64x16x8x8x128 32) (x1 : IVec S2x16x64x8x128 32) (x2 x3 : FVec Ideal S2x8x128 .f32)

/-- The rows after 1 stages. -/
def val_main_v39 : FVec Ideal S2x16x8x262144 .f32 :=
  Rot.stageD 131072 1 (val_main_v28 (F := Ideal) x0) shapeCasts_S2x16x8x262144_S2x16x8x131072x2x1 slices_S2x16x8x131072x2x1_S2x16x8x131072x1x1_0_0_0_0_0_0 slices_S2x16x8x131072x2x1_S2x16x8x131072x1x1_0_0_0_0_1_0 shapeCasts_S2x16x8x131072x1x1_S2x16x8x131072x1 bcast_S2x16x8x131072x1_S2x16x8x131072x1x1_0_1_2_3_5 concatenates_S2x16x8x131072x1x1_S2x16x8x131072x1x1_S2x16x8x131072x2x1_d4 shapeCasts_S2x16x8x131072x2x1_S2x16x8x262144
/-- The rows after 2 stages. -/
def val_main_v50 : FVec Ideal S2x16x8x262144 .f32 :=
  Rot.stageD 65536 2 (val_main_v39 x0) shapeCasts_S2x16x8x262144_S2x16x8x65536x2x2 slices_S2x16x8x65536x2x2_S2x16x8x65536x1x2_0_0_0_0_0_0 slices_S2x16x8x65536x2x2_S2x16x8x65536x1x2_0_0_0_0_1_0 shapeCasts_S2x16x8x65536x1x2_S2x16x8x65536x2 bcast_S2x16x8x65536x2_S2x16x8x65536x1x2_0_1_2_3_5 concatenates_S2x16x8x65536x1x2_S2x16x8x65536x1x2_S2x16x8x65536x2x2_d4 shapeCasts_S2x16x8x65536x2x2_S2x16x8x262144
/-- The rows after 3 stages. -/
def val_main_v61 : FVec Ideal S2x16x8x262144 .f32 :=
  Rot.stageD 32768 4 (val_main_v50 x0) shapeCasts_S2x16x8x262144_S2x16x8x32768x2x4 slices_S2x16x8x32768x2x4_S2x16x8x32768x1x4_0_0_0_0_0_0 slices_S2x16x8x32768x2x4_S2x16x8x32768x1x4_0_0_0_0_1_0 shapeCasts_S2x16x8x32768x1x4_S2x16x8x32768x4 bcast_S2x16x8x32768x4_S2x16x8x32768x1x4_0_1_2_3_5 concatenates_S2x16x8x32768x1x4_S2x16x8x32768x1x4_S2x16x8x32768x2x4_d4 shapeCasts_S2x16x8x32768x2x4_S2x16x8x262144
/-- The rows after 4 stages. -/
def val_main_v72 : FVec Ideal S2x16x8x262144 .f32 :=
  Rot.stageD 16384 8 (val_main_v61 x0) shapeCasts_S2x16x8x262144_S2x16x8x16384x2x8 slices_S2x16x8x16384x2x8_S2x16x8x16384x1x8_0_0_0_0_0_0 slices_S2x16x8x16384x2x8_S2x16x8x16384x1x8_0_0_0_0_1_0 shapeCasts_S2x16x8x16384x1x8_S2x16x8x16384x8 bcast_S2x16x8x16384x8_S2x16x8x16384x1x8_0_1_2_3_5 concatenates_S2x16x8x16384x1x8_S2x16x8x16384x1x8_S2x16x8x16384x2x8_d4 shapeCasts_S2x16x8x16384x2x8_S2x16x8x262144
/-- The rows after 5 stages. -/
def val_main_v83 : FVec Ideal S2x16x8x262144 .f32 :=
  Rot.stageD 8192 16 (val_main_v72 x0) shapeCasts_S2x16x8x262144_S2x16x8x8192x2x16 slices_S2x16x8x8192x2x16_S2x16x8x8192x1x16_0_0_0_0_0_0 slices_S2x16x8x8192x2x16_S2x16x8x8192x1x16_0_0_0_0_1_0 shapeCasts_S2x16x8x8192x1x16_S2x16x8x8192x16 bcast_S2x16x8x8192x16_S2x16x8x8192x1x16_0_1_2_3_5 concatenates_S2x16x8x8192x1x16_S2x16x8x8192x1x16_S2x16x8x8192x2x16_d4 shapeCasts_S2x16x8x8192x2x16_S2x16x8x262144
/-- The rows after 6 stages. -/
def val_main_v94 : FVec Ideal S2x16x8x262144 .f32 :=
  Rot.stageD 4096 32 (val_main_v83 x0) shapeCasts_S2x16x8x262144_S2x16x8x4096x2x32 slices_S2x16x8x4096x2x32_S2x16x8x4096x1x32_0_0_0_0_0_0 slices_S2x16x8x4096x2x32_S2x16x8x4096x1x32_0_0_0_0_1_0 shapeCasts_S2x16x8x4096x1x32_S2x16x8x4096x32 bcast_S2x16x8x4096x32_S2x16x8x4096x1x32_0_1_2_3_5 concatenates_S2x16x8x4096x1x32_S2x16x8x4096x1x32_S2x16x8x4096x2x32_d4 shapeCasts_S2x16x8x4096x2x32_S2x16x8x262144
/-- The rows after 7 stages. -/
def val_main_v105 : FVec Ideal S2x16x8x262144 .f32 :=
  Rot.stageD 2048 64 (val_main_v94 x0) shapeCasts_S2x16x8x262144_S2x16x8x2048x2x64 slices_S2x16x8x2048x2x64_S2x16x8x2048x1x64_0_0_0_0_0_0 slices_S2x16x8x2048x2x64_S2x16x8x2048x1x64_0_0_0_0_1_0 shapeCasts_S2x16x8x2048x1x64_S2x16x8x2048x64 bcast_S2x16x8x2048x64_S2x16x8x2048x1x64_0_1_2_3_5 concatenates_S2x16x8x2048x1x64_S2x16x8x2048x1x64_S2x16x8x2048x2x64_d4 shapeCasts_S2x16x8x2048x2x64_S2x16x8x262144
/-- The rows after 8 stages. -/
def val_main_v116 : FVec Ideal S2x16x8x262144 .f32 :=
  Rot.stageD 1024 128 (val_main_v105 x0) shapeCasts_S2x16x8x262144_S2x16x8x1024x2x128 slices_S2x16x8x1024x2x128_S2x16x8x1024x1x128_0_0_0_0_0_0 slices_S2x16x8x1024x2x128_S2x16x8x1024x1x128_0_0_0_0_1_0 shapeCasts_S2x16x8x1024x1x128_S2x16x8x1024x128 bcast_S2x16x8x1024x128_S2x16x8x1024x1x128_0_1_2_3_5 concatenates_S2x16x8x1024x1x128_S2x16x8x1024x1x128_S2x16x8x1024x2x128_d4 shapeCasts_S2x16x8x1024x2x128_S2x16x8x262144
/-- The rows after 9 stages. -/
def val_main_v127 : FVec Ideal S2x16x8x262144 .f32 :=
  Rot.stageD 64 2048 (val_main_v116 x0) shapeCasts_S2x16x8x262144_S2x16x8x64x2x2048 slices_S2x16x8x64x2x2048_S2x16x8x64x1x2048_0_0_0_0_0_0 slices_S2x16x8x64x2x2048_S2x16x8x64x1x2048_0_0_0_0_1_0 shapeCasts_S2x16x8x64x1x2048_S2x16x8x64x2048 bcast_S2x16x8x64x2048_S2x16x8x64x1x2048_0_1_2_3_5 concatenates_S2x16x8x64x1x2048_S2x16x8x64x1x2048_S2x16x8x64x2x2048_d4 shapeCasts_S2x16x8x64x2x2048_S2x16x8x262144
/-- The rows after 10 stages. -/
def val_main_v138 : FVec Ideal S2x16x8x262144 .f32 :=
  Rot.stageD 32 4096 (val_main_v127 x0) shapeCasts_S2x16x8x262144_S2x16x8x32x2x4096 slices_S2x16x8x32x2x4096_S2x16x8x32x1x4096_0_0_0_0_0_0 slices_S2x16x8x32x2x4096_S2x16x8x32x1x4096_0_0_0_0_1_0 shapeCasts_S2x16x8x32x1x4096_S2x16x8x32x4096 bcast_S2x16x8x32x4096_S2x16x8x32x1x4096_0_1_2_3_5 concatenates_S2x16x8x32x1x4096_S2x16x8x32x1x4096_S2x16x8x32x2x4096_d4 shapeCasts_S2x16x8x32x2x4096_S2x16x8x262144
/-- The rows after 11 stages. -/
def val_main_v149 : FVec Ideal S2x16x8x262144 .f32 :=
  Rot.stageD 16 8192 (val_main_v138 x0) shapeCasts_S2x16x8x262144_S2x16x8x16x2x8192 slices_S2x16x8x16x2x8192_S2x16x8x16x1x8192_0_0_0_0_0_0 slices_S2x16x8x16x2x8192_S2x16x8x16x1x8192_0_0_0_0_1_0 shapeCasts_S2x16x8x16x1x8192_S2x16x8x16x8192 bcast_S2x16x8x16x8192_S2x16x8x16x1x8192_0_1_2_3_5 concatenates_S2x16x8x16x1x8192_S2x16x8x16x1x8192_S2x16x8x16x2x8192_d4 shapeCasts_S2x16x8x16x2x8192_S2x16x8x262144
/-- The rows after 12 stages. -/
def val_main_v160 : FVec Ideal S2x16x8x262144 .f32 :=
  Rot.stageD 8 16384 (val_main_v149 x0) shapeCasts_S2x16x8x262144_S2x16x8x8x2x16384 slices_S2x16x8x8x2x16384_S2x16x8x8x1x16384_0_0_0_0_0_0 slices_S2x16x8x8x2x16384_S2x16x8x8x1x16384_0_0_0_0_1_0 shapeCasts_S2x16x8x8x1x16384_S2x16x8x8x16384 bcast_S2x16x8x8x16384_S2x16x8x8x1x16384_0_1_2_3_5 concatenates_S2x16x8x8x1x16384_S2x16x8x8x1x16384_S2x16x8x8x2x16384_d4 shapeCasts_S2x16x8x8x2x16384_S2x16x8x262144
/-- The rows after 13 stages. -/
def val_main_v171 : FVec Ideal S2x16x8x262144 .f32 :=
  Rot.stageD 4 32768 (val_main_v160 x0) shapeCasts_S2x16x8x262144_S2x16x8x4x2x32768 slices_S2x16x8x4x2x32768_S2x16x8x4x1x32768_0_0_0_0_0_0 slices_S2x16x8x4x2x32768_S2x16x8x4x1x32768_0_0_0_0_1_0 shapeCasts_S2x16x8x4x1x32768_S2x16x8x4x32768 bcast_S2x16x8x4x32768_S2x16x8x4x1x32768_0_1_2_3_5 concatenates_S2x16x8x4x1x32768_S2x16x8x4x1x32768_S2x16x8x4x2x32768_d4 shapeCasts_S2x16x8x4x2x32768_S2x16x8x262144
/-- The rows after 14 stages. -/
def val_main_v182 : FVec Ideal S2x16x8x262144 .f32 :=
  Rot.stageD 2 65536 (val_main_v171 x0) shapeCasts_S2x16x8x262144_S2x16x8x2x2x65536 slices_S2x16x8x2x2x65536_S2x16x8x2x1x65536_0_0_0_0_0_0 slices_S2x16x8x2x2x65536_S2x16x8x2x1x65536_0_0_0_0_1_0 shapeCasts_S2x16x8x2x1x65536_S2x16x8x2x65536 bcast_S2x16x8x2x65536_S2x16x8x2x1x65536_0_1_2_3_5 concatenates_S2x16x8x2x1x65536_S2x16x8x2x1x65536_S2x16x8x2x2x65536_d4 shapeCasts_S2x16x8x2x2x65536_S2x16x8x262144
/-- The rows after 15 stages. -/
def val_main_v193 : FVec Ideal S2x16x8x262144 .f32 :=
  Rot.stageD 1 131072 (val_main_v182 x0) shapeCasts_S2x16x8x262144_S2x16x8x1x2x131072 slices_S2x16x8x1x2x131072_S2x16x8x1x1x131072_0_0_0_0_0_0 slices_S2x16x8x1x2x131072_S2x16x8x1x1x131072_0_0_0_0_1_0 shapeCasts_S2x16x8x1x1x131072_S2x16x8x1x131072 bcast_S2x16x8x1x131072_S2x16x8x1x1x131072_0_1_2_3_5 concatenates_S2x16x8x1x1x131072_S2x16x8x1x1x131072_S2x16x8x1x2x131072_d4 shapeCasts_S2x16x8x1x2x131072_S2x16x8x262144
/-- The rows after 16 stages. -/
def val_main_v204 : FVec Ideal S2x16x8x262144 .f32 :=
  Rot.stageR 4 1 (val_main_v193 x0) shapeCasts_S2x16x8x262144_S2x16x4x2x1x262144 slices_S2x16x4x2x1x262144_S2x16x4x1x1x262144_0_0_0_0_0_0 slices_S2x16x4x2x1x262144_S2x16x4x1x1x262144_0_0_0_1_0_0 shapeCasts_S2x16x4x1x1x262144_S2x16x4x1x262144 bcast_S2x16x4x1x262144_S2x16x4x1x1x262144_0_1_2_4_5 concatenates_S2x16x4x1x1x262144_S2x16x4x1x1x262144_S2x16x4x2x1x262144_d3 shapeCasts_S2x16x4x2x1x262144_S2x16x8x262144
/-- The rows after 17 stages. -/
def val_main_v215 : FVec Ideal S2x16x8x262144 .f32 :=
  Rot.stageR 2 2 (val_main_v204 x0) shapeCasts_S2x16x8x262144_S2x16x2x2x2x262144 slices_S2x16x2x2x2x262144_S2x16x2x1x2x262144_0_0_0_0_0_0 slices_S2x16x2x2x2x262144_S2x16x2x1x2x262144_0_0_0_1_0_0 shapeCasts_S2x16x2x1x2x262144_S2x16x2x2x262144 bcast_S2x16x2x2x262144_S2x16x2x1x2x262144_0_1_2_4_5 concatenates_S2x16x2x1x2x262144_S2x16x2x1x2x262144_S2x16x2x2x2x262144_d3 shapeCasts_S2x16x2x2x2x262144_S2x16x8x262144
/-- The rows after 18 stages. -/
def val_main_v226 : FVec Ideal S2x16x8x262144 .f32 :=
  Rot.stageR 1 4 (val_main_v215 x0) shapeCasts_S2x16x8x262144_S2x16x1x2x4x262144 slices_S2x16x1x2x4x262144_S2x16x1x1x4x262144_0_0_0_0_0_0 slices_S2x16x1x2x4x262144_S2x16x1x1x4x262144_0_0_0_1_0_0 shapeCasts_S2x16x1x1x4x262144_S2x16x1x4x262144 bcast_S2x16x1x4x262144_S2x16x1x1x4x262144_0_1_2_4_5 concatenates_S2x16x1x1x4x262144_S2x16x1x1x4x262144_S2x16x1x2x4x262144_d3 shapeCasts_S2x16x1x2x4x262144_S2x16x8x262144
end Stages

section Results

def val_main_v247 (x2 x3 : (⟨S2x8x128, .f32⟩ : BufTy).Contents (Elt Ideal)) : (⟨S2x1x1, .f32⟩ : BufTy).Contents (Elt Ideal) :=
  broadcastInDim S2x1x1 ![0] bcast_S2_S2x1x1_0 (val_main_v231 (F := Ideal) x2 x3)
abbrev idx_main_v247 (i : S2x1x1.Idx) : S2.Idx := fun a => match a with
  | ⟨0, _⟩ => ⟨(i 0).val, (i 0).isLt⟩
theorem val_main_v247_apply (x2 x3 : (⟨S2x8x128, .f32⟩ : BufTy).Contents (Elt Ideal)) (i : S2x1x1.Idx) :
    val_main_v247 x2 x3 i = val_main_v231 (F := Ideal) x2 x3 (idx_main_v247 i) := by
  unfold val_main_v247
  generalize val_main_v231 (F := Ideal) x2 x3 = y
  exact broadcastInDim_apply _ bcast_S2_S2x1x1_0 y i (idx_main_v247 i) (fun a => match a with
    | ⟨0, _⟩ => by show (i 0).val = if (2 : Nat) = 1 then 0 else (i 0).val; rw [if_neg (by decide)])

def val_main_v248 (x0 : (⟨S2x64x16x8x8x128, .i32⟩ : BufTy).Contents (Elt Ideal)) : (⟨S2x128x262144, .f32⟩ : BufTy).Contents (Elt Ideal) :=
  shapeCast _ (val_main_v226 x0) shapeCasts_S2x16x8x262144_S2x128x262144
set_option backward.proofsInPublic true in
abbrev idx_main_v248 (i : S2x128x262144.Idx) : S2x16x8x262144.Idx := fun a => match a with
  | ⟨0, _⟩ => ⟨(((i 0).val * 128 + (i 1).val) * 262144 + (i 2).val) / 33554432, by have h0 : (i 0).val < 2 := (i 0).isLt; have h1 : (i 1).val < 128 := (i 1).isLt; have h2 : (i 2).val < 262144 := (i 2).isLt; show (((i 0).val * 128 + (i 1).val) * 262144 + (i 2).val) / 33554432 < 2; omega⟩
  | ⟨1, _⟩ => ⟨(((i 0).val * 128 + (i 1).val) * 262144 + (i 2).val) / 2097152 % 16, by have h0 : (i 0).val < 2 := (i 0).isLt; have h1 : (i 1).val < 128 := (i 1).isLt; have h2 : (i 2).val < 262144 := (i 2).isLt; show (((i 0).val * 128 + (i 1).val) * 262144 + (i 2).val) / 2097152 % 16 < 16; omega⟩
  | ⟨2, _⟩ => ⟨(((i 0).val * 128 + (i 1).val) * 262144 + (i 2).val) / 262144 % 8, by have h0 : (i 0).val < 2 := (i 0).isLt; have h1 : (i 1).val < 128 := (i 1).isLt; have h2 : (i 2).val < 262144 := (i 2).isLt; show (((i 0).val * 128 + (i 1).val) * 262144 + (i 2).val) / 262144 % 8 < 8; omega⟩
  | ⟨3, _⟩ => ⟨(((i 0).val * 128 + (i 1).val) * 262144 + (i 2).val) % 262144, by have h0 : (i 0).val < 2 := (i 0).isLt; have h1 : (i 1).val < 128 := (i 1).isLt; have h2 : (i 2).val < 262144 := (i 2).isLt; show (((i 0).val * 128 + (i 1).val) * 262144 + (i 2).val) % 262144 < 262144; omega⟩
theorem val_main_v248_apply (x0 : (⟨S2x64x16x8x8x128, .i32⟩ : BufTy).Contents (Elt Ideal)) (i : S2x128x262144.Idx) :
    val_main_v248 x0 i = val_main_v226 x0 (idx_main_v248 i) := by
  unfold val_main_v248
  generalize val_main_v226 x0 = y
  exact shapeCast_apply y shapeCasts_S2x16x8x262144_S2x128x262144 i (idx_main_v248 i)
    (by rewrite [Shape.rowMajor_val_four, Shape.rowMajor_val_three]; have h0 : (i 0).val < 2 := (i 0).isLt; have h1 : (i 1).val < 128 := (i 1).isLt; have h2 : (i 2).val < 262144 := (i 2).isLt; show (((((i 0).val * 128 + (i 1).val) * 262144 + (i 2).val) / 33554432 * 16 + (((i 0).val * 128 + (i 1).val) * 262144 + (i 2).val) / 2097152 % 16) * 8 + (((i 0).val * 128 + (i 1).val) * 262144 + (i 2).val) / 262144 % 8) * 262144 + (((i 0).val * 128 + (i 1).val) * 262144 + (i 2).val) % 262144 = ((i 0).val * 128 + (i 1).val) * 262144 + (i 2).val; omega)

end Results

end Cert.DecodeReferenceIdeal.Read

end
-- ==== Proof.QEnd.lean ====
module

public import proofs.«01_k».proof.Proof.Gen.DecodeReferenceIdeal
public import proofs.«01_k».proof.Proof.QRead
public import Idealize.ShloMosaic.Lib.StableHlo.Run

@[expose] public section

noncomputable section

namespace Cert.DecodeReferenceIdeal.Read

open Cert.DecodeReferenceIdeal Cert.DecodeReferenceIdeal.Gen Idealize.ShloMosaic Idealize.ShloMosaic.TcCoe Idealize.SL.Sem Idealize.ShloMosaic.StableHlo

/-! # The results the reference forms -/

section Results

def val_main_cst_9 : (⟨S_, .f32⟩ : BufTy).Contents (Elt Ideal) :=
  constant (F := Ideal) S_ .f32 0x393504F3#32
theorem val_main_cst_9_apply (i : S_.Idx) :
    val_main_cst_9 i = FloatOps.ofBits (F := Ideal) .f32 0x393504F3#32 := rfl

def val_main_v249 : (⟨S2x128x262144, .f32⟩ : BufTy).Contents (Elt Ideal) :=
  broadcastInDim S2x128x262144 ![] bcast_S_S2x128x262144 (val_main_cst_9)
abbrev idx_main_v249 (i : S2x128x262144.Idx) : S_.Idx := fun a => a.elim0
theorem val_main_v249_apply (i : S2x128x262144.Idx) :
    val_main_v249 i = val_main_cst_9 (idx_main_v249 i) := by
  unfold val_main_v249
  generalize val_main_cst_9 = y
  exact broadcastInDim_apply _ bcast_S_S2x128x262144 y i (idx_main_v249 i) (fun a => a.elim0)

def val_main_v250 (x0 : (⟨S2x64x16x8x8x128, .i32⟩ : BufTy).Contents (Elt Ideal)) : (⟨S2x128x262144, .f32⟩ : BufTy).Contents (Elt Ideal) :=
  mulf (F := Ideal) (φ := .f32) (val_main_v249) (val_main_v248 x0)
theorem mul_at {s : Shape} (a b : FVec Ideal s .f32) (i : s.Idx) :
    mulf (F := Ideal) (φ := .f32) a b i = FloatOps.mulf (F := Ideal) (φ := .f32) (a i) (b i) := rfl
theorem val_main_v250_apply (x0 : (⟨S2x64x16x8x8x128, .i32⟩ : BufTy).Contents (Elt Ideal)) (i : S2x128x262144.Idx) :
    val_main_v250 x0 i = FloatOps.mulf (F := Ideal) (φ := .f32) (val_main_v249 i) (val_main_v248 x0 i) := by
  unfold val_main_v250
  exact mul_at _ _ i

def val_main_v251 (x2 x3 : (⟨S2x8x128, .f32⟩ : BufTy).Contents (Elt Ideal)) : (⟨S2x128x262144, .f32⟩ : BufTy).Contents (Elt Ideal) :=
  broadcastInDim S2x128x262144 ![0, 1, 2] bcast_S2x1x1_S2x128x262144_0_1_2 (val_main_v247 x2 x3)
abbrev idx_main_v251 (i : S2x128x262144.Idx) : S2x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v251_apply (x2 x3 : (⟨S2x8x128, .f32⟩ : BufTy).Contents (Elt Ideal)) (i : S2x128x262144.Idx) :
    val_main_v251 x2 x3 i = val_main_v247 x2 x3 (idx_main_v251 i) := by
  unfold val_main_v251
  generalize val_main_v247 x2 x3 = y
  exact broadcastInDim_apply _ bcast_S2x1x1_S2x128x262144_0_1_2 y i (idx_main_v251 i) (fun a => match a with
    | ⟨0, _⟩ => by show (i 0).val = if (2 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

def val_main_v252 (x0 : (⟨S2x64x16x8x8x128, .i32⟩ : BufTy).Contents (Elt Ideal)) (x2 x3 : (⟨S2x8x128, .f32⟩ : BufTy).Contents (Elt Ideal)) : (⟨S2x128x262144, .f32⟩ : BufTy).Contents (Elt Ideal) :=
  mulf (F := Ideal) (φ := .f32) (val_main_v251 x2 x3) (val_main_v250 x0)
theorem val_main_v252_apply (x0 : (⟨S2x64x16x8x8x128, .i32⟩ : BufTy).Contents (Elt Ideal)) (x2 x3 : (⟨S2x8x128, .f32⟩ : BufTy).Contents (Elt Ideal)) (i : S2x128x262144.Idx) :
    val_main_v252 x0 x2 x3 i = FloatOps.mulf (F := Ideal) (φ := .f32) (val_main_v251 x2 x3 i) (val_main_v250 x0 i) := by
  unfold val_main_v252
  generalize val_main_v251 x2 x3 = u
  generalize val_main_v250 x0 = v
  rfl

def val_main_v253 (x0 : (⟨S2x64x16x8x8x128, .i32⟩ : BufTy).Contents (Elt Ideal)) (x1 : (⟨S2x16x64x8x128, .i32⟩ : BufTy).Contents (Elt Ideal)) (x2 x3 : (⟨S2x8x128, .f32⟩ : BufTy).Contents (Elt Ideal)) : (⟨S2x128x262144, .f32⟩ : BufTy).Contents (Elt Ideal) :=
  mulf (F := Ideal) (φ := .f32) (val_main_v246 (F := Ideal) x1) (val_main_v252 x0 x2 x3)
theorem val_main_v253_apply (x0 : (⟨S2x64x16x8x8x128, .i32⟩ : BufTy).Contents (Elt Ideal)) (x1 : (⟨S2x16x64x8x128, .i32⟩ : BufTy).Contents (Elt Ideal)) (x2 x3 : (⟨S2x8x128, .f32⟩ : BufTy).Contents (Elt Ideal)) (i : S2x128x262144.Idx) :
    val_main_v253 x0 x1 x2 x3 i = FloatOps.mulf (F := Ideal) (φ := .f32) (val_main_v246 (F := Ideal) x1 i) (val_main_v252 x0 x2 x3 i) := by
  unfold val_main_v253
  generalize val_main_v246 (F := Ideal) x1 = u
  generalize val_main_v252 x0 x2 x3 = v
  rfl

def val_main_v254 (x2 x3 : (⟨S2x8x128, .f32⟩ : BufTy).Contents (Elt Ideal)) : (⟨S2x1x1, .f32⟩ : BufTy).Contents (Elt Ideal) :=
  broadcastInDim S2x1x1 ![0] bcast_S2_S2x1x1_0 (val_main_v231 (F := Ideal) x2 x3)
abbrev idx_main_v254 (i : S2x1x1.Idx) : S2.Idx := fun a => match a with
  | ⟨0, _⟩ => ⟨(i 0).val, (i 0).isLt⟩
theorem val_main_v254_apply (x2 x3 : (⟨S2x8x128, .f32⟩ : BufTy).Contents (Elt Ideal)) (i : S2x1x1.Idx) :
    val_main_v254 x2 x3 i = val_main_v231 (F := Ideal) x2 x3 (idx_main_v254 i) := by
  unfold val_main_v254
  generalize val_main_v231 (F := Ideal) x2 x3 = y
  exact broadcastInDim_apply _ bcast_S2_S2x1x1_0 y i (idx_main_v254 i) (fun a => match a with
    | ⟨0, _⟩ => by show (i 0).val = if (2 : Nat) = 1 then 0 else (i 0).val; rw [if_neg (by decide)])

def val_main_v255 (x2 x3 : (⟨S2x8x128, .f32⟩ : BufTy).Contents (Elt Ideal)) : (⟨S2x8x128, .f32⟩ : BufTy).Contents (Elt Ideal) :=
  broadcastInDim S2x8x128 ![0, 1, 2] bcast_S2x1x1_S2x8x128_0_1_2 (val_main_v254 x2 x3)
abbrev idx_main_v255 (i : S2x8x128.Idx) : S2x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v255_apply (x2 x3 : (⟨S2x8x128, .f32⟩ : BufTy).Contents (Elt Ideal)) (i : S2x8x128.Idx) :
    val_main_v255 x2 x3 i = val_main_v254 x2 x3 (idx_main_v255 i) := by
  unfold val_main_v255
  generalize val_main_v254 x2 x3 = y
  exact broadcastInDim_apply _ bcast_S2x1x1_S2x8x128_0_1_2 y i (idx_main_v255 i) (fun a => match a with
    | ⟨0, _⟩ => by show (i 0).val = if (2 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

end Results

end Cert.DecodeReferenceIdeal.Read

end
-- ==== Proof.QRun.lean ====
module

public import proofs.«01_k».proof.Proof.QOps
public import proofs.«01_k».proof.Proof.QEnd

@[expose] public section

set_option maxRecDepth 8192

noncomputable section

namespace Cert.DecodeReferenceIdeal.Value

open Cert.DecodeReferenceIdeal Cert.DecodeReferenceIdeal.Gen Cert.DecodeReferenceIdeal.Read Idealize.ShloMosaic Idealize.ShloMosaic.TcCoe Idealize.SL.Sem Idealize.ShloMosaic.StableHlo

/-! # The reference's run: what each stage's operations leave -/

variable (V : Valuation τ sig (Elt Ideal))

theorem after_39 : after (st1) V (Proc.devRef .tc main_v39) = Rot.stageD 131072 1 (V (Proc.devRef .tc main_v28) : FVec Ideal S2x16x8x262144 .f32) shapeCasts_S2x16x8x262144_S2x16x8x131072x2x1 slices_S2x16x8x131072x2x1_S2x16x8x131072x1x1_0_0_0_0_0_0 slices_S2x16x8x131072x2x1_S2x16x8x131072x1x1_0_0_0_0_1_0 shapeCasts_S2x16x8x131072x1x1_S2x16x8x131072x1 bcast_S2x16x8x131072x1_S2x16x8x131072x1x1_0_1_2_3_5 concatenates_S2x16x8x131072x1x1_S2x16x8x131072x1x1_S2x16x8x131072x2x1_d4 shapeCasts_S2x16x8x131072x2x1_S2x16x8x262144 := by
  simp only [st1, List.cons_append, List.nil_append]
  after_results_simp
  rfl
theorem after_50 : after (st2) V (Proc.devRef .tc main_v50) = Rot.stageD 65536 2 (V (Proc.devRef .tc main_v39) : FVec Ideal S2x16x8x262144 .f32) shapeCasts_S2x16x8x262144_S2x16x8x65536x2x2 slices_S2x16x8x65536x2x2_S2x16x8x65536x1x2_0_0_0_0_0_0 slices_S2x16x8x65536x2x2_S2x16x8x65536x1x2_0_0_0_0_1_0 shapeCasts_S2x16x8x65536x1x2_S2x16x8x65536x2 bcast_S2x16x8x65536x2_S2x16x8x65536x1x2_0_1_2_3_5 concatenates_S2x16x8x65536x1x2_S2x16x8x65536x1x2_S2x16x8x65536x2x2_d4 shapeCasts_S2x16x8x65536x2x2_S2x16x8x262144 := by
  simp only [st2, List.cons_append, List.nil_append]
  after_results_simp
  rfl
theorem after_61 : after (st3a ++ st3b) V (Proc.devRef .tc main_v61) = Rot.stageD 32768 4 (V (Proc.devRef .tc main_v50) : FVec Ideal S2x16x8x262144 .f32) shapeCasts_S2x16x8x262144_S2x16x8x32768x2x4 slices_S2x16x8x32768x2x4_S2x16x8x32768x1x4_0_0_0_0_0_0 slices_S2x16x8x32768x2x4_S2x16x8x32768x1x4_0_0_0_0_1_0 shapeCasts_S2x16x8x32768x1x4_S2x16x8x32768x4 bcast_S2x16x8x32768x4_S2x16x8x32768x1x4_0_1_2_3_5 concatenates_S2x16x8x32768x1x4_S2x16x8x32768x1x4_S2x16x8x32768x2x4_d4 shapeCasts_S2x16x8x32768x2x4_S2x16x8x262144 := by
  simp only [st3a, st3b, List.cons_append, List.nil_append]
  after_results_simp
  rfl
theorem after_72 : after (st4) V (Proc.devRef .tc main_v72) = Rot.stageD 16384 8 (V (Proc.devRef .tc main_v61) : FVec Ideal S2x16x8x262144 .f32) shapeCasts_S2x16x8x262144_S2x16x8x16384x2x8 slices_S2x16x8x16384x2x8_S2x16x8x16384x1x8_0_0_0_0_0_0 slices_S2x16x8x16384x2x8_S2x16x8x16384x1x8_0_0_0_0_1_0 shapeCasts_S2x16x8x16384x1x8_S2x16x8x16384x8 bcast_S2x16x8x16384x8_S2x16x8x16384x1x8_0_1_2_3_5 concatenates_S2x16x8x16384x1x8_S2x16x8x16384x1x8_S2x16x8x16384x2x8_d4 shapeCasts_S2x16x8x16384x2x8_S2x16x8x262144 := by
  simp only [st4, List.cons_append, List.nil_append]
  after_results_simp
  rfl
theorem after_83 : after (st5) V (Proc.devRef .tc main_v83) = Rot.stageD 8192 16 (V (Proc.devRef .tc main_v72) : FVec Ideal S2x16x8x262144 .f32) shapeCasts_S2x16x8x262144_S2x16x8x8192x2x16 slices_S2x16x8x8192x2x16_S2x16x8x8192x1x16_0_0_0_0_0_0 slices_S2x16x8x8192x2x16_S2x16x8x8192x1x16_0_0_0_0_1_0 shapeCasts_S2x16x8x8192x1x16_S2x16x8x8192x16 bcast_S2x16x8x8192x16_S2x16x8x8192x1x16_0_1_2_3_5 concatenates_S2x16x8x8192x1x16_S2x16x8x8192x1x16_S2x16x8x8192x2x16_d4 shapeCasts_S2x16x8x8192x2x16_S2x16x8x262144 := by
  simp only [st5, List.cons_append, List.nil_append]
  after_results_simp
  rfl
theorem after_94 : after (st6) V (Proc.devRef .tc main_v94) = Rot.stageD 4096 32 (V (Proc.devRef .tc main_v83) : FVec Ideal S2x16x8x262144 .f32) shapeCasts_S2x16x8x262144_S2x16x8x4096x2x32 slices_S2x16x8x4096x2x32_S2x16x8x4096x1x32_0_0_0_0_0_0 slices_S2x16x8x4096x2x32_S2x16x8x4096x1x32_0_0_0_0_1_0 shapeCasts_S2x16x8x4096x1x32_S2x16x8x4096x32 bcast_S2x16x8x4096x32_S2x16x8x4096x1x32_0_1_2_3_5 concatenates_S2x16x8x4096x1x32_S2x16x8x4096x1x32_S2x16x8x4096x2x32_d4 shapeCasts_S2x16x8x4096x2x32_S2x16x8x262144 := by
  simp only [st6, List.cons_append, List.nil_append]
  after_results_simp
  rfl
theorem after_105 : after (st7) V (Proc.devRef .tc main_v105) = Rot.stageD 2048 64 (V (Proc.devRef .tc main_v94) : FVec Ideal S2x16x8x262144 .f32) shapeCasts_S2x16x8x262144_S2x16x8x2048x2x64 slices_S2x16x8x2048x2x64_S2x16x8x2048x1x64_0_0_0_0_0_0 slices_S2x16x8x2048x2x64_S2x16x8x2048x1x64_0_0_0_0_1_0 shapeCasts_S2x16x8x2048x1x64_S2x16x8x2048x64 bcast_S2x16x8x2048x64_S2x16x8x2048x1x64_0_1_2_3_5 concatenates_S2x16x8x2048x1x64_S2x16x8x2048x1x64_S2x16x8x2048x2x64_d4 shapeCasts_S2x16x8x2048x2x64_S2x16x8x262144 := by
  simp only [st7, List.cons_append, List.nil_append]
  after_results_simp
  rfl
theorem after_116 : after (st8a ++ st8b) V (Proc.devRef .tc main_v116) = Rot.stageD 1024 128 (V (Proc.devRef .tc main_v105) : FVec Ideal S2x16x8x262144 .f32) shapeCasts_S2x16x8x262144_S2x16x8x1024x2x128 slices_S2x16x8x1024x2x128_S2x16x8x1024x1x128_0_0_0_0_0_0 slices_S2x16x8x1024x2x128_S2x16x8x1024x1x128_0_0_0_0_1_0 shapeCasts_S2x16x8x1024x1x128_S2x16x8x1024x128 bcast_S2x16x8x1024x128_S2x16x8x1024x1x128_0_1_2_3_5 concatenates_S2x16x8x1024x1x128_S2x16x8x1024x1x128_S2x16x8x1024x2x128_d4 shapeCasts_S2x16x8x1024x2x128_S2x16x8x262144 := by
  simp only [st8a, st8b, List.cons_append, List.nil_append]
  after_results_simp
  rfl
theorem after_127 : after (st9) V (Proc.devRef .tc main_v127) = Rot.stageD 64 2048 (V (Proc.devRef .tc main_v116) : FVec Ideal S2x16x8x262144 .f32) shapeCasts_S2x16x8x262144_S2x16x8x64x2x2048 slices_S2x16x8x64x2x2048_S2x16x8x64x1x2048_0_0_0_0_0_0 slices_S2x16x8x64x2x2048_S2x16x8x64x1x2048_0_0_0_0_1_0 shapeCasts_S2x16x8x64x1x2048_S2x16x8x64x2048 bcast_S2x16x8x64x2048_S2x16x8x64x1x2048_0_1_2_3_5 concatenates_S2x16x8x64x1x2048_S2x16x8x64x1x2048_S2x16x8x64x2x2048_d4 shapeCasts_S2x16x8x64x2x2048_S2x16x8x262144 := by
  simp only [st9, List.cons_append, List.nil_append]
  after_results_simp
  rfl
theorem after_138 : after (st10) V (Proc.devRef .tc main_v138) = Rot.stageD 32 4096 (V (Proc.devRef .tc main_v127) : FVec Ideal S2x16x8x262144 .f32) shapeCasts_S2x16x8x262144_S2x16x8x32x2x4096 slices_S2x16x8x32x2x4096_S2x16x8x32x1x4096_0_0_0_0_0_0 slices_S2x16x8x32x2x4096_S2x16x8x32x1x4096_0_0_0_0_1_0 shapeCasts_S2x16x8x32x1x4096_S2x16x8x32x4096 bcast_S2x16x8x32x4096_S2x16x8x32x1x4096_0_1_2_3_5 concatenates_S2x16x8x32x1x4096_S2x16x8x32x1x4096_S2x16x8x32x2x4096_d4 shapeCasts_S2x16x8x32x2x4096_S2x16x8x262144 := by
  simp only [st10, List.cons_append, List.nil_append]
  after_results_simp
  rfl
theorem after_149 : after (st11) V (Proc.devRef .tc main_v149) = Rot.stageD 16 8192 (V (Proc.devRef .tc main_v138) : FVec Ideal S2x16x8x262144 .f32) shapeCasts_S2x16x8x262144_S2x16x8x16x2x8192 slices_S2x16x8x16x2x8192_S2x16x8x16x1x8192_0_0_0_0_0_0 slices_S2x16x8x16x2x8192_S2x16x8x16x1x8192_0_0_0_0_1_0 shapeCasts_S2x16x8x16x1x8192_S2x16x8x16x8192 bcast_S2x16x8x16x8192_S2x16x8x16x1x8192_0_1_2_3_5 concatenates_S2x16x8x16x1x8192_S2x16x8x16x1x8192_S2x16x8x16x2x8192_d4 shapeCasts_S2x16x8x16x2x8192_S2x16x8x262144 := by
  simp only [st11, List.cons_append, List.nil_append]
  after_results_simp
  rfl
theorem after_160 : after (st12) V (Proc.devRef .tc main_v160) = Rot.stageD 8 16384 (V (Proc.devRef .tc main_v149) : FVec Ideal S2x16x8x262144 .f32) shapeCasts_S2x16x8x262144_S2x16x8x8x2x16384 slices_S2x16x8x8x2x16384_S2x16x8x8x1x16384_0_0_0_0_0_0 slices_S2x16x8x8x2x16384_S2x16x8x8x1x16384_0_0_0_0_1_0 shapeCasts_S2x16x8x8x1x16384_S2x16x8x8x16384 bcast_S2x16x8x8x16384_S2x16x8x8x1x16384_0_1_2_3_5 concatenates_S2x16x8x8x1x16384_S2x16x8x8x1x16384_S2x16x8x8x2x16384_d4 shapeCasts_S2x16x8x8x2x16384_S2x16x8x262144 := by
  simp only [st12, List.cons_append, List.nil_append]
  after_results_simp
  rfl
theorem after_171 : after (st13) V (Proc.devRef .tc main_v171) = Rot.stageD 4 32768 (V (Proc.devRef .tc main_v160) : FVec Ideal S2x16x8x262144 .f32) shapeCasts_S2x16x8x262144_S2x16x8x4x2x32768 slices_S2x16x8x4x2x32768_S2x16x8x4x1x32768_0_0_0_0_0_0 slices_S2x16x8x4x2x32768_S2x16x8x4x1x32768_0_0_0_0_1_0 shapeCasts_S2x16x8x4x1x32768_S2x16x8x4x32768 bcast_S2x16x8x4x32768_S2x16x8x4x1x32768_0_1_2_3_5 concatenates_S2x16x8x4x1x32768_S2x16x8x4x1x32768_S2x16x8x4x2x32768_d4 shapeCasts_S2x16x8x4x2x32768_S2x16x8x262144 := by
  simp only [st13, List.cons_append, List.nil_append]
  after_results_simp
  rfl
theorem after_182 : after (st14a ++ st14b) V (Proc.devRef .tc main_v182) = Rot.stageD 2 65536 (V (Proc.devRef .tc main_v171) : FVec Ideal S2x16x8x262144 .f32) shapeCasts_S2x16x8x262144_S2x16x8x2x2x65536 slices_S2x16x8x2x2x65536_S2x16x8x2x1x65536_0_0_0_0_0_0 slices_S2x16x8x2x2x65536_S2x16x8x2x1x65536_0_0_0_0_1_0 shapeCasts_S2x16x8x2x1x65536_S2x16x8x2x65536 bcast_S2x16x8x2x65536_S2x16x8x2x1x65536_0_1_2_3_5 concatenates_S2x16x8x2x1x65536_S2x16x8x2x1x65536_S2x16x8x2x2x65536_d4 shapeCasts_S2x16x8x2x2x65536_S2x16x8x262144 := by
  simp only [st14a, st14b, List.cons_append, List.nil_append]
  after_results_simp
  rfl
theorem after_193 : after (st15) V (Proc.devRef .tc main_v193) = Rot.stageD 1 131072 (V (Proc.devRef .tc main_v182) : FVec Ideal S2x16x8x262144 .f32) shapeCasts_S2x16x8x262144_S2x16x8x1x2x131072 slices_S2x16x8x1x2x131072_S2x16x8x1x1x131072_0_0_0_0_0_0 slices_S2x16x8x1x2x131072_S2x16x8x1x1x131072_0_0_0_0_1_0 shapeCasts_S2x16x8x1x1x131072_S2x16x8x1x131072 bcast_S2x16x8x1x131072_S2x16x8x1x1x131072_0_1_2_3_5 concatenates_S2x16x8x1x1x131072_S2x16x8x1x1x131072_S2x16x8x1x2x131072_d4 shapeCasts_S2x16x8x1x2x131072_S2x16x8x262144 := by
  simp only [st15, List.cons_append, List.nil_append]
  after_results_simp
  rfl
theorem after_204 : after (st16) V (Proc.devRef .tc main_v204) = Rot.stageR 4 1 (V (Proc.devRef .tc main_v193) : FVec Ideal S2x16x8x262144 .f32) shapeCasts_S2x16x8x262144_S2x16x4x2x1x262144 slices_S2x16x4x2x1x262144_S2x16x4x1x1x262144_0_0_0_0_0_0 slices_S2x16x4x2x1x262144_S2x16x4x1x1x262144_0_0_0_1_0_0 shapeCasts_S2x16x4x1x1x262144_S2x16x4x1x262144 bcast_S2x16x4x1x262144_S2x16x4x1x1x262144_0_1_2_4_5 concatenates_S2x16x4x1x1x262144_S2x16x4x1x1x262144_S2x16x4x2x1x262144_d3 shapeCasts_S2x16x4x2x1x262144_S2x16x8x262144 := by
  simp only [st16, List.cons_append, List.nil_append]
  after_results_simp
  rfl
theorem after_215 : after (st17) V (Proc.devRef .tc main_v215) = Rot.stageR 2 2 (V (Proc.devRef .tc main_v204) : FVec Ideal S2x16x8x262144 .f32) shapeCasts_S2x16x8x262144_S2x16x2x2x2x262144 slices_S2x16x2x2x2x262144_S2x16x2x1x2x262144_0_0_0_0_0_0 slices_S2x16x2x2x2x262144_S2x16x2x1x2x262144_0_0_0_1_0_0 shapeCasts_S2x16x2x1x2x262144_S2x16x2x2x262144 bcast_S2x16x2x2x262144_S2x16x2x1x2x262144_0_1_2_4_5 concatenates_S2x16x2x1x2x262144_S2x16x2x1x2x262144_S2x16x2x2x2x262144_d3 shapeCasts_S2x16x2x2x2x262144_S2x16x8x262144 := by
  simp only [st17, List.cons_append, List.nil_append]
  after_results_simp
  rfl
theorem after_226 : after (st18) V (Proc.devRef .tc main_v226) = Rot.stageR 1 4 (V (Proc.devRef .tc main_v215) : FVec Ideal S2x16x8x262144 .f32) shapeCasts_S2x16x8x262144_S2x16x1x2x4x262144 slices_S2x16x1x2x4x262144_S2x16x1x1x4x262144_0_0_0_0_0_0 slices_S2x16x1x2x4x262144_S2x16x1x1x4x262144_0_0_0_1_0_0 shapeCasts_S2x16x1x1x4x262144_S2x16x1x4x262144 bcast_S2x16x1x4x262144_S2x16x1x1x4x262144_0_1_2_4_5 concatenates_S2x16x1x1x4x262144_S2x16x1x1x4x262144_S2x16x1x2x4x262144_d3 shapeCasts_S2x16x1x2x4x262144_S2x16x8x262144 := by
  simp only [st18, List.cons_append, List.nil_append]
  after_results_simp
  rfl
/-- The arguments are in `W` what they are in `V`. -/
def Kept (V W : Valuation τ sig (Elt Ideal)) : Prop :=
  W (Proc.devRef .tc main_arg0) = V (Proc.devRef .tc main_arg0) ∧ W (Proc.devRef .tc main_arg1) = V (Proc.devRef .tc main_arg1) ∧ W (Proc.devRef .tc main_arg2) = V (Proc.devRef .tc main_arg2) ∧ W (Proc.devRef .tc main_arg3) = V (Proc.devRef .tc main_arg3)
theorem Kept.trans {U V W : Valuation τ sig (Elt Ideal)} (h : Kept V W) (k : Kept U V) : Kept U W :=
  ⟨h.1.trans k.1, h.2.1.trans k.2.1, h.2.2.1.trans k.2.2.1, h.2.2.2.trans k.2.2.2⟩
theorem kept_s0 : Kept V (after (st0) V) := by
  simp only [Kept, st0, List.cons_append, List.nil_append]
  refine ⟨?_, ?_, ?_, ?_⟩ <;> after_results_simp
theorem kept_s1 : Kept V (after (st1) V) := by
  simp only [Kept, st1, List.cons_append, List.nil_append]
  refine ⟨?_, ?_, ?_, ?_⟩ <;> after_results_simp
theorem kept_s2 : Kept V (after (st2) V) := by
  simp only [Kept, st2, List.cons_append, List.nil_append]
  refine ⟨?_, ?_, ?_, ?_⟩ <;> after_results_simp
theorem kept_s3 : Kept V (after (st3a ++ st3b) V) := by
  simp only [Kept, st3a, st3b, List.cons_append, List.nil_append]
  refine ⟨?_, ?_, ?_, ?_⟩ <;> after_results_simp
theorem kept_s4 : Kept V (after (st4) V) := by
  simp only [Kept, st4, List.cons_append, List.nil_append]
  refine ⟨?_, ?_, ?_, ?_⟩ <;> after_results_simp
theorem kept_s5 : Kept V (after (st5) V) := by
  simp only [Kept, st5, List.cons_append, List.nil_append]
  refine ⟨?_, ?_, ?_, ?_⟩ <;> after_results_simp
theorem kept_s6 : Kept V (after (st6) V) := by
  simp only [Kept, st6, List.cons_append, List.nil_append]
  refine ⟨?_, ?_, ?_, ?_⟩ <;> after_results_simp
theorem kept_s7 : Kept V (after (st7) V) := by
  simp only [Kept, st7, List.cons_append, List.nil_append]
  refine ⟨?_, ?_, ?_, ?_⟩ <;> after_results_simp
theorem kept_s8 : Kept V (after (st8a ++ st8b) V) := by
  simp only [Kept, st8a, st8b, List.cons_append, List.nil_append]
  refine ⟨?_, ?_, ?_, ?_⟩ <;> after_results_simp
theorem kept_s9 : Kept V (after (st9) V) := by
  simp only [Kept, st9, List.cons_append, List.nil_append]
  refine ⟨?_, ?_, ?_, ?_⟩ <;> after_results_simp
theorem kept_s10 : Kept V (after (st10) V) := by
  simp only [Kept, st10, List.cons_append, List.nil_append]
  refine ⟨?_, ?_, ?_, ?_⟩ <;> after_results_simp
theorem kept_s11 : Kept V (after (st11) V) := by
  simp only [Kept, st11, List.cons_append, List.nil_append]
  refine ⟨?_, ?_, ?_, ?_⟩ <;> after_results_simp
theorem kept_s12 : Kept V (after (st12) V) := by
  simp only [Kept, st12, List.cons_append, List.nil_append]
  refine ⟨?_, ?_, ?_, ?_⟩ <;> after_results_simp
theorem kept_s13 : Kept V (after (st13) V) := by
  simp only [Kept, st13, List.cons_append, List.nil_append]
  refine ⟨?_, ?_, ?_, ?_⟩ <;> after_results_simp
theorem kept_s14 : Kept V (after (st14a ++ st14b) V) := by
  simp only [Kept, st14a, st14b, List.cons_append, List.nil_append]
  refine ⟨?_, ?_, ?_, ?_⟩ <;> after_results_simp
theorem kept_s15 : Kept V (after (st15) V) := by
  simp only [Kept, st15, List.cons_append, List.nil_append]
  refine ⟨?_, ?_, ?_, ?_⟩ <;> after_results_simp
theorem kept_s16 : Kept V (after (st16) V) := by
  simp only [Kept, st16, List.cons_append, List.nil_append]
  refine ⟨?_, ?_, ?_, ?_⟩ <;> after_results_simp
theorem kept_s17 : Kept V (after (st17) V) := by
  simp only [Kept, st17, List.cons_append, List.nil_append]
  refine ⟨?_, ?_, ?_, ?_⟩ <;> after_results_simp
theorem kept_s18 : Kept V (after (st18) V) := by
  simp only [Kept, st18, List.cons_append, List.nil_append]
  refine ⟨?_, ?_, ?_, ?_⟩ <;> after_results_simp
theorem kept_s19 : Kept V (after (st19a ++ st19b) V) := by
  simp only [Kept, st19a, st19b, List.cons_append, List.nil_append]
  refine ⟨?_, ?_, ?_, ?_⟩ <;> after_results_simp
theorem after_28 : after st0 V (Proc.devRef .tc main_v28) = val_main_v28 (F := Ideal) (V (Proc.devRef .tc main_arg0)) := by
  simp only [st0]
  after_results_simp
  rfl
theorem after_253 : after (st19a ++ st19b) V (Proc.devRef .tc main_v253) = mulf (F := Ideal) (φ := .f32) (val_main_v246 (F := Ideal) (V (Proc.devRef .tc main_arg1)))
    (mulf (F := Ideal) (φ := .f32) (val_main_v251 (V (Proc.devRef .tc main_arg2)) (V (Proc.devRef .tc main_arg3))) (mulf (F := Ideal) (φ := .f32) val_main_v249 (shapeCast S2x128x262144 (V (Proc.devRef .tc main_v226) : FVec Ideal S2x16x8x262144 .f32) shapeCasts_S2x16x8x262144_S2x128x262144))) := by
  simp only [st19a, st19b, List.cons_append, List.nil_append]
  after_results_simp
  rfl
theorem after_255 : after (st19a ++ st19b) V (Proc.devRef .tc main_v255) = val_main_v255 (V (Proc.devRef .tc main_arg2)) (V (Proc.devRef .tc main_arg3)) := by
  simp only [st19a, st19b, List.cons_append, List.nil_append]
  after_results_simp
  rfl

/-- The buffers after the unpacked bytes. -/
def w0 : Valuation τ sig (Elt Ideal) := after (st0) V
theorem w0_kept : Kept V (w0 V) := kept_s0 V
theorem w0_28 : w0 V (Proc.devRef .tc main_v28) = val_main_v28 (F := Ideal) (V (Proc.devRef .tc main_arg0)) := after_28 V
/-- The buffers after stage 1. -/
def w1 : Valuation τ sig (Elt Ideal) := after (st1) (w0 V)
theorem w1_kept : Kept V (w1 V) := (kept_s1 (w0 V)).trans (w0_kept V)
theorem w1_39 : w1 V (Proc.devRef .tc main_v39) = val_main_v39 (V (Proc.devRef .tc main_arg0)) := by
  unfold w1 val_main_v39
  rw [after_39, w0_28]
/-- The buffers after stage 2. -/
def w2 : Valuation τ sig (Elt Ideal) := after (st2) (w1 V)
theorem w2_kept : Kept V (w2 V) := (kept_s2 (w1 V)).trans (w1_kept V)
theorem w2_50 : w2 V (Proc.devRef .tc main_v50) = val_main_v50 (V (Proc.devRef .tc main_arg0)) := by
  unfold w2 val_main_v50
  rw [after_50, w1_39]
/-- The buffers after stage 3. -/
def w3 : Valuation τ sig (Elt Ideal) := after (st3a ++ st3b) (w2 V)
theorem w3_kept : Kept V (w3 V) := (kept_s3 (w2 V)).trans (w2_kept V)
theorem w3_61 : w3 V (Proc.devRef .tc main_v61) = val_main_v61 (V (Proc.devRef .tc main_arg0)) := by
  unfold w3 val_main_v61
  rw [after_61, w2_50]
/-- The buffers after stage 4. -/
def w4 : Valuation τ sig (Elt Ideal) := after (st4) (w3 V)
theorem w4_kept : Kept V (w4 V) := (kept_s4 (w3 V)).trans (w3_kept V)
theorem w4_72 : w4 V (Proc.devRef .tc main_v72) = val_main_v72 (V (Proc.devRef .tc main_arg0)) := by
  unfold w4 val_main_v72
  rw [after_72, w3_61]
/-- The buffers after stage 5. -/
def w5 : Valuation τ sig (Elt Ideal) := after (st5) (w4 V)
theorem w5_kept : Kept V (w5 V) := (kept_s5 (w4 V)).trans (w4_kept V)
theorem w5_83 : w5 V (Proc.devRef .tc main_v83) = val_main_v83 (V (Proc.devRef .tc main_arg0)) := by
  unfold w5 val_main_v83
  rw [after_83, w4_72]
/-- The buffers after stage 6. -/
def w6 : Valuation τ sig (Elt Ideal) := after (st6) (w5 V)
theorem w6_kept : Kept V (w6 V) := (kept_s6 (w5 V)).trans (w5_kept V)
theorem w6_94 : w6 V (Proc.devRef .tc main_v94) = val_main_v94 (V (Proc.devRef .tc main_arg0)) := by
  unfold w6 val_main_v94
  rw [after_94, w5_83]
/-- The buffers after stage 7. -/
def w7 : Valuation τ sig (Elt Ideal) := after (st7) (w6 V)
theorem w7_kept : Kept V (w7 V) := (kept_s7 (w6 V)).trans (w6_kept V)
theorem w7_105 : w7 V (Proc.devRef .tc main_v105) = val_main_v105 (V (Proc.devRef .tc main_arg0)) := by
  unfold w7 val_main_v105
  rw [after_105, w6_94]
/-- The buffers after stage 8. -/
def w8 : Valuation τ sig (Elt Ideal) := after (st8a ++ st8b) (w7 V)
theorem w8_kept : Kept V (w8 V) := (kept_s8 (w7 V)).trans (w7_kept V)
theorem w8_116 : w8 V (Proc.devRef .tc main_v116) = val_main_v116 (V (Proc.devRef .tc main_arg0)) := by
  unfold w8 val_main_v116
  rw [after_116, w7_105]
/-- The buffers after stage 9. -/
def w9 : Valuation τ sig (Elt Ideal) := after (st9) (w8 V)
theorem w9_kept : Kept V (w9 V) := (kept_s9 (w8 V)).trans (w8_kept V)
theorem w9_127 : w9 V (Proc.devRef .tc main_v127) = val_main_v127 (V (Proc.devRef .tc main_arg0)) := by
  unfold w9 val_main_v127
  rw [after_127, w8_116]
/-- The buffers after stage 10. -/
def w10 : Valuation τ sig (Elt Ideal) := after (st10) (w9 V)
theorem w10_kept : Kept V (w10 V) := (kept_s10 (w9 V)).trans (w9_kept V)
theorem w10_138 : w10 V (Proc.devRef .tc main_v138) = val_main_v138 (V (Proc.devRef .tc main_arg0)) := by
  unfold w10 val_main_v138
  rw [after_138, w9_127]
/-- The buffers after stage 11. -/
def w11 : Valuation τ sig (Elt Ideal) := after (st11) (w10 V)
theorem w11_kept : Kept V (w11 V) := (kept_s11 (w10 V)).trans (w10_kept V)
theorem w11_149 : w11 V (Proc.devRef .tc main_v149) = val_main_v149 (V (Proc.devRef .tc main_arg0)) := by
  unfold w11 val_main_v149
  rw [after_149, w10_138]
/-- The buffers after stage 12. -/
def w12 : Valuation τ sig (Elt Ideal) := after (st12) (w11 V)
theorem w12_kept : Kept V (w12 V) := (kept_s12 (w11 V)).trans (w11_kept V)
theorem w12_160 : w12 V (Proc.devRef .tc main_v160) = val_main_v160 (V (Proc.devRef .tc main_arg0)) := by
  unfold w12 val_main_v160
  rw [after_160, w11_149]
/-- The buffers after stage 13. -/
def w13 : Valuation τ sig (Elt Ideal) := after (st13) (w12 V)
theorem w13_kept : Kept V (w13 V) := (kept_s13 (w12 V)).trans (w12_kept V)
theorem w13_171 : w13 V (Proc.devRef .tc main_v171) = val_main_v171 (V (Proc.devRef .tc main_arg0)) := by
  unfold w13 val_main_v171
  rw [after_171, w12_160]
/-- The buffers after stage 14. -/
def w14 : Valuation τ sig (Elt Ideal) := after (st14a ++ st14b) (w13 V)
theorem w14_kept : Kept V (w14 V) := (kept_s14 (w13 V)).trans (w13_kept V)
theorem w14_182 : w14 V (Proc.devRef .tc main_v182) = val_main_v182 (V (Proc.devRef .tc main_arg0)) := by
  unfold w14 val_main_v182
  rw [after_182, w13_171]
/-- The buffers after stage 15. -/
def w15 : Valuation τ sig (Elt Ideal) := after (st15) (w14 V)
theorem w15_kept : Kept V (w15 V) := (kept_s15 (w14 V)).trans (w14_kept V)
theorem w15_193 : w15 V (Proc.devRef .tc main_v193) = val_main_v193 (V (Proc.devRef .tc main_arg0)) := by
  unfold w15 val_main_v193
  rw [after_193, w14_182]
/-- The buffers after stage 16. -/
def w16 : Valuation τ sig (Elt Ideal) := after (st16) (w15 V)
theorem w16_kept : Kept V (w16 V) := (kept_s16 (w15 V)).trans (w15_kept V)
theorem w16_204 : w16 V (Proc.devRef .tc main_v204) = val_main_v204 (V (Proc.devRef .tc main_arg0)) := by
  unfold w16 val_main_v204
  rw [after_204, w15_193]
/-- The buffers after stage 17. -/
def w17 : Valuation τ sig (Elt Ideal) := after (st17) (w16 V)
theorem w17_kept : Kept V (w17 V) := (kept_s17 (w16 V)).trans (w16_kept V)
theorem w17_215 : w17 V (Proc.devRef .tc main_v215) = val_main_v215 (V (Proc.devRef .tc main_arg0)) := by
  unfold w17 val_main_v215
  rw [after_215, w16_204]
/-- The buffers after stage 18. -/
def w18 : Valuation τ sig (Elt Ideal) := after (st18) (w17 V)
theorem w18_kept : Kept V (w18 V) := (kept_s18 (w17 V)).trans (w17_kept V)
theorem w18_226 : w18 V (Proc.devRef .tc main_v226) = val_main_v226 (V (Proc.devRef .tc main_arg0)) := by
  unfold w18 val_main_v226
  rw [after_226, w17_215]
/-- The buffers after all the operations. -/
def w19 : Valuation τ sig (Elt Ideal) := after (st19a ++ st19b) (w18 V)
theorem w19_kept : Kept V (w19 V) := (kept_s19 (w18 V)).trans (w18_kept V)
theorem w19_253 : w19 V (Proc.devRef .tc main_v253) = val_main_v253 (V (Proc.devRef .tc main_arg0)) (V (Proc.devRef .tc main_arg1)) (V (Proc.devRef .tc main_arg2)) (V (Proc.devRef .tc main_arg3)) := by
  unfold w19 val_main_v253 val_main_v252 val_main_v250 val_main_v248
  rw [after_253, w18_226, (w18_kept V).2.1, (w18_kept V).2.2.1, (w18_kept V).2.2.2]
theorem w19_255 : w19 V (Proc.devRef .tc main_v255) = val_main_v255 (V (Proc.devRef .tc main_arg2)) (V (Proc.devRef .tc main_arg3)) := by
  unfold w19
  rw [after_255, (w18_kept V).2.2.1, (w18_kept V).2.2.2]

theorem after_ops : after ops V = w19 V := by
  simp only [ops, ops_part0, ops_part1, ops_part2, ops_part3, ops_part4, w0, w1, w2, w3, w4, w5, w6, w7, w8, w9, w10, w11, w12, w13, w14, w15, w16, w17, w18, w19, after_append]

/-- Every execution of the reference terminates, with its two results the arrays of Proof/QRead.lean and Proof/QEnd.lean, its
arguments unchanged, and every counter zero. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v253) = val_main_v253 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v255) = val_main_v255 (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h c main_v253).trans ((congrFun (after_ops (launchContents m c)) (Proc.devRef .tc main_v253)).trans (w19_253 (launchContents m c))),
      (h c main_v255).trans ((congrFun (after_ops (launchContents m c)) (Proc.devRef .tc main_v255)).trans (w19_255 (launchContents m c))),
      (h c main_arg0).trans ((congrFun (after_ops (launchContents m c)) (Proc.devRef .tc main_arg0)).trans (w19_kept (launchContents m c)).1),
      (h c main_arg1).trans ((congrFun (after_ops (launchContents m c)) (Proc.devRef .tc main_arg1)).trans (w19_kept (launchContents m c)).2.1),
      (h c main_arg2).trans ((congrFun (after_ops (launchContents m c)) (Proc.devRef .tc main_arg2)).trans (w19_kept (launchContents m c)).2.2.1),
      (h c main_arg3).trans ((congrFun (after_ops (launchContents m c)) (Proc.devRef .tc main_arg3)).trans (w19_kept (launchContents m c)).2.2.2)⟩,
      Idealize.ShloMosaic.sem_eq_zero_of_no_sems (by decide) r.2⟩)
    (run_seq scopedRefs_eq scopedSems_eq defs main (fun _ => ops) main_eq (fun _ => ops_sub) m ρ fun _ => ops_fresh)

end Cert.DecodeReferenceIdeal.Value

end
-- ==== Proof.DVal.lean ====
module

public import proofs.«01_k».proof.Proof.DRun
public import proofs.«01_k».proof.Proof.DMath

@[expose] public section

set_option maxRecDepth 16384

noncomputable section

namespace Cert.DecodeIdeal.Gen

open Idealize.ShloMosaic Idealize.ShloMosaic.ValueIdx Cert.Rot
open Cert.KernelIdeal.Gen (rdB rdM rdW hostH hostH_apply blkS)
open scoped BigOperators

/-! # The decoded array over the reals, when every byte of the packed words is at most 128 -/

/-- The code of row `r`, column `d` of row group `g` of batch `b`: a byte of one of the packed words. -/
def cod (z : S2x64x16x8x8x128.Idx → BitVec 32) (b g r d : ℕ) : ℝ :=
  byteR (rdZ z b (d / 4096) g (d % 2048 / 256) (4 * (d / 2048 % 2) + r / 2) (d % 128)) (8 * (d % 256 / 128) + 16 * (r % 2))

/-- Every byte of every word is at most 128. -/
def Small (z : S2x64x16x8x8x128.Idx → BitVec 32) : Prop :=
  ∀ i, ∀ h < 2, ∀ k < 2, ((z i >>> (8 * h + 16 * k)) &&& 255#32).toNat ≤ 128

variable (z : S2x64x16x8x8x128.Idx → BitVec 32) (w : S2x16x64x8x128.Idx → BitVec 32) (x2 x3 : S2x8x128.Idx → EReal)

theorem rdP_blkZ (b g n q r l : ℕ) (hn : n < 64) (hq : q < 8) (hr : r < 8) (hl : l < 128) : rdP (blkZ z b g) n q r l = rdZ z b n g q r l := by
  show rdZ z b (n % 64) g (q % 8) (r % 8) (l % 128) = _
  rw [Nat.mod_eq_of_lt hn, Nat.mod_eq_of_lt hq, Nat.mod_eq_of_lt hr, Nat.mod_eq_of_lt hl]

/-- One entry of a tile, in the coordinates of rows and columns. -/
theorem tileE_apply (hz : Small z) (b g k ch a e : ℕ) (hk : k < 8) (hch : ch < 4) (ha : a < 256) (he : e < 256) :
    tileE (blkZ z b g) k ch a e = ((stagesR 2 (fun c => cod z b g (a % 8) (65536 * c + 2048 * (a / 8) + 256 * k + e) - 64) ch : ℝ) : EReal) := by
  unfold tileE
  rw [← two_coe]
  refine two_congr (fun c hc => ?_) ch hch
  rw [rdP_blkZ z b g _ _ _ _ (by omega) hk (by omega) (by omega), valE_eq]
  · unfold cod
    rw [show (65536 * c + 2048 * (a / 8) + 256 * k + e) / 4096 = 16 * c + a / 16 by omega, show (65536 * c + 2048 * (a / 8) + 256 * k + e) % 2048 / 256 = k by omega,
      show 4 * ((65536 * c + 2048 * (a / 8) + 256 * k + e) / 2048 % 2) + a % 8 / 2 = a % 16 / 2 by omega, show (65536 * c + 2048 * (a / 8) + 256 * k + e) % 128 = e % 128 by omega,
      show 8 * ((65536 * c + 2048 * (a / 8) + 256 * k + e) % 256 / 128) + 16 * (a % 8 % 2) = 8 * (e / 128) + 16 * (a % 2) by omega]
  · exact hz _ (e / 128) (by omega) (a % 2) (by omega)

/-- One entry of the decoded array. -/
theorem decK_apply (hz : Small z) (i : S2x128x262144.Idx) :
    decK z w x2 x3 i = ((decR (fun r d => cod z (i 0).val ((i 1).val / 8) r d - 64) ((i 1).val % 8) (i 2).val : ℝ) : EReal)
      * (Ideal.ofBits .f32 0xB9B504F3#32 * sclK x2 x3 (i 0).val)
      * ((sgnR (rdS w (i 0).val ((i 1).val / 8) ((i 2).val / 4096) ((i 1).val % 8) ((i 2).val % 128)) ((i 2).val / 128 % 32) : ℝ) : EReal) := by
  have h2 : (i 2).val < 262144 := (i 2).isLt
  unfold decK
  generalize Ideal.ofBits .f32 0xB9B504F3#32 * sclK x2 x3 (i 0).val = s
  generalize (i 0).val = b, hg : (i 1).val / 8 = g, hr : (i 1).val % 8 = r, (i 2).val = d at h2
  have hr8 : r < 8 := by omega
  show rdM (prodR hostH (prodL hostH (tileV (blkZ z b g) (d % 262144 % 2048 / 256) (d % 262144 / 65536)))) (8 * (d % 262144 % 65536 / 2048) + r % 8) (d % 262144 % 256) * s
    * ((sgnR (rdS w b g (d % 262144 / 4096 % 64) (r % 8 % 8) (d % 262144 % 128 % 128)) (d % 262144 / 128 % 32) : ℝ) : EReal) = _
  rw [Nat.mod_eq_of_lt h2, Nat.mod_eq_of_lt hr8, Nat.mod_eq_of_lt hr8, Nat.mod_mod, Nat.mod_eq_of_lt (show d / 4096 < 64 by omega)]
  congr 2
  refine (prod_apply hostH (tileV (blkZ z b g) (d % 2048 / 256) (d / 65536))
    (fun a e => stagesR 2 (fun c => cod z b g (a % 8) (65536 * c + 2048 * (a / 8) + 256 * (d % 2048 / 256) + e) - 64) (d / 65536)) (fun a e => wR 8 a e)
    (fun a ha e he => ?_) (fun a ha e he => hostH_apply a e ha he) _ _ (by omega) (by omega)).trans ?_
  · show tileE (blkZ z b g) (d % 2048 / 256) (d / 65536) (a % 256) (e % 256) = _
    rw [Nat.mod_eq_of_lt ha, Nat.mod_eq_of_lt he]
    exact tileE_apply z hz b g _ _ a e (by omega) (by omega) ha he
  · exact congrArg (fun x : ℝ => (x : EReal)) (tiles_eq_decR (fun r d => cod z b g r d - 64) r d hr8 h2)

/-! ## The scale -/

theorem total (v : FVec Ideal S1x8x128 .f32) :
    extractAt ![0, 0, 0] (shapeCast S1x1x1 (multiReduction .add [1, 2] S1 (shapeCast S1x8x128 (shapeCast S8x128 v shapeCasts_S1x8x128_S8x128) shapeCasts_S8x128_S1x8x128) 0x00000000#32 reduces_S1x8x128_S1 (.inl rfl) rfl) shapeCasts_S1_S1x1x1) inpos_S1x1x1_p0_0_0
      = ∑ i : S1x8x128.Idx, v i := by
  rw [shapeCast_shapeCast]
  exact Ideal.multiReduction_add_total (φ := .f32) v 0x00000000#32 reduces_S1x8x128_S1 (fun b => match b with | ⟨0, _⟩ => rfl) (.inl rfl) rfl _

/-- The scale of a batch: the quotient of the two sums. -/
theorem sclK_eq (b : ℕ) : sclK x2 x3 b = Ideal.div (∑ i : S1x8x128.Idx, blkA x2 b i) (Ideal.ofBits .f32 0x393504F3#32 * ∑ i : S1x8x128.Idx, blkA x3 b i) := by
  rw [← total (blkA x2 b), ← total (blkA x3 b)]
  rfl

/-- The factor of the decoding: less twice that of the scale. -/
theorem ofBits_factor : ∃ c : ℝ, Ideal.ofBits .f32 0x393504F3#32 = (c : EReal) ∧ Ideal.ofBits .f32 0xB9B504F3#32 = ((-2 * c : ℝ) : EReal) := by
  refine ⟨(11863283 : ℝ) * 2 ^ (-36 : ℤ), ?_, ?_⟩
  · simp [Ideal.ofBits, Ideal.ieee]
  · simp [Ideal.ofBits, Ideal.ieee]
    norm_cast
    norm_num

end Cert.DecodeIdeal.Gen

end
-- ==== Proof.QVal.lean ====
module

public import proofs.«01_k».proof.Proof.DVal
public import proofs.«01_k».proof.Proof.RVal
public import proofs.«01_k».proof.Proof.QEnd

@[expose] public section

set_option maxRecDepth 16384

noncomputable section

namespace Cert.DecodeReferenceIdeal.Read

open Cert.DecodeReferenceIdeal Cert.DecodeReferenceIdeal.Gen Idealize.ShloMosaic Idealize.ShloMosaic.TcCoe Idealize.ShloMosaic.ValueIdx Cert.Rot
open Cert.ReferenceIdeal.Read (Holds Holds.stageD Holds.stageR sstE_congr bit_toInt ofBits_two)
open Cert.DecodeIdeal.Gen (rdZ eq_rdZ cod)
open scoped BigOperators

/-! # What the decoding's reference holds -/

variable (x0 : IVec S2x64x16x8x8x128 32) (x1 : IVec S2x16x64x8x128 32) (x2 x3 : FVec Ideal S2x8x128 .f32)

/-! ## The codes -/

theorem shr_host (w : BitVec 32) (n : ℕ) (hn : n < 32) : IntOp.shrui .host w (BitVec.ofNat 32 n) = w >>> n := by
  have hn' : (BitVec.ofNat 32 n).toNat = n := by rw [BitVec.toNat_ofNat]; exact Nat.mod_eq_of_lt (by omega)
  unfold IntOp.shrui
  rw [if_pos (by rw [hn']; exact hn), BitVec.ushiftRight_eq', hn']

theorem mul8 : ∀ h : Fin 2, IntOp.muli 8#32 (BitVec.ofNat 32 h.val) = BitVec.ofNat 32 (8 * h.val) := by decide
theorem mul16 : ∀ h : Fin 2, IntOp.muli 16#32 (BitVec.ofNat 32 h.val) = BitVec.ofNat 32 (16 * h.val) := by decide

theorem byte_toInt (w : BitVec 32) : (w &&& 255#32).toInt = ((w &&& 255#32).toNat : ℤ) := by
  have h : (w &&& 255#32).toNat ≤ 255 := by rw [BitVec.toNat_and]; exact Nat.and_le_right
  exact BitVec.toInt_eq_toNat_of_lt (by omega)

theorem ofBits_128 : Ideal.ofBits .f32 0x43000000#32 = ((128 : ℝ) : EReal) := by
  simp [Ideal.ofBits, Ideal.ieee]
  rw [← EReal.coe_mul]
  norm_num

/-- The words before their halves are taken apart. -/
theorem word_apply (b : Fin 2) (g : Fin 16) (q : Fin 8) (n : Fin 64) (p : Fin 8) (h : Fin 2) (l : Fin 128) :
    val_main_v11 (F := Ideal) x0 (ix6 (⟨16 * b.val + g.val, by omega⟩ : Fin 32) q n p h l) = rdZ x0 b.val n.val g.val p.val q.val l.val >>> (8 * h.val) := by
  rw [val_main_v11_apply, val_main_v10_apply, val_main_v8_apply, val_main_v7_apply, val_main_c_apply, val_main_v1_apply, val_main_v0_apply, val_main_v9_apply, val_main_v6_apply]
  have e1 : IntOp.muli 8#32 (BitVec.ofNat 32 ((idx_main_v1 (idx_main_v10 (ix6 (⟨16 * b.val + g.val, by omega⟩ : Fin 32) q n p h l))) 0).val) = BitVec.ofNat 32 (8 * h.val) := mul8 h
  rw [e1, shr_host _ _ (by omega)]
  congr 1
  unfold val_main_v5
  refine (shapeCast_apply (t := S32x8x64x8x128) _ _ _ (ix6 b g q n p l) ?_).trans ?_
  · rw [Shape.rowMajor_val_six, Shape.rowMajor_val_five]
    show ((((b.val * 16 + g.val) * 8 + q.val) * 64 + n.val) * 8 + p.val) * 128 + l.val = (((((16 * b.val + g.val) * 8 + q.val) * 64 + n.val) * 8 + p.val) * 128 + l.val)
    omega
  rw [val_main_v4_apply]
  exact eq_rdZ x0 _ b.val n.val g.val p.val q.val l.val rfl rfl rfl rfl rfl rfl

/-- The words laid out along the columns. -/
theorem col_apply (b : Fin 2) (g : Fin 16) (q : Fin 4) (d : Fin 262144) :
    val_main_v14 (F := Ideal) x0 (ix3 (⟨16 * b.val + g.val, by omega⟩ : Fin 32) q d)
      = rdZ x0 b.val (d.val / 4096) g.val (d.val % 2048 / 256) (4 * (d.val / 2048 % 2) + q.val) (d.val % 128) >>> (8 * (d.val % 256 / 128)) := by
  unfold val_main_v14
  refine (shapeCast_apply (t := S32x4x262144) _ _ _ (ix5 (⟨16 * b.val + g.val, by omega⟩ : Fin 32) q (⟨d.val / 4096, by omega⟩ : Fin 64) (⟨d.val / 2048 % 2, by omega⟩ : Fin 2) (⟨d.val % 2048, by omega⟩ : Fin 2048)) ?_).trans ?_
  · rw [Shape.rowMajor_val_five, Shape.rowMajor_val_three]
    show ((((16 * b.val + g.val) * 4 + q.val) * 64 + d.val / 4096) * 2 + d.val / 2048 % 2) * 2048 + d.val % 2048 = ((16 * b.val + g.val) * 4 + q.val) * 262144 + d.val
    omega
  rw [val_main_v13_apply]
  unfold val_main_v12
  refine (shapeCast_apply (t := S32x2x4x64x2048) _ _ _ (ix6 (⟨16 * b.val + g.val, by omega⟩ : Fin 32) (⟨4 * (d.val / 2048 % 2) + q.val, by omega⟩ : Fin 8) (⟨d.val / 4096, by omega⟩ : Fin 64) (⟨d.val % 2048 / 256, by omega⟩ : Fin 8) (⟨d.val % 256 / 128, by omega⟩ : Fin 2) (⟨d.val % 128, by omega⟩ : Fin 128)) ?_).trans ?_
  · rw [Shape.rowMajor_val_six, Shape.rowMajor_val_five]
    show (((((16 * b.val + g.val) * 8 + (4 * (d.val / 2048 % 2) + q.val)) * 64 + d.val / 4096) * 8 + d.val % 2048 / 256) * 2 + d.val % 256 / 128) * 128 + d.val % 128
      = ((((16 * b.val + g.val) * 2 + d.val / 2048 % 2) * 4 + q.val) * 64 + d.val / 4096) * 2048 + d.val % 2048
    omega
  exact word_apply x0 b g _ _ _ _ _

/-- The unpacked codes: `128` less twice the byte. -/
theorem code_apply (b g r d : ℕ) (hb : b < 2) (hg : g < 16) (hr : r < 8) (hd : d < 262144) :
    rdR (val_main_v28 (F := Ideal) x0) b g r d = ((128 - 2 * cod x0 b g r d : ℝ) : EReal) := by
  unfold rdR val_main_v28
  refine (shapeCast_apply _ _ _ (ix4 (⟨16 * b + g, by omega⟩ : Fin 32) (⟨r / 2, by omega⟩ : Fin 4) (⟨r % 2, by omega⟩ : Fin 2) (⟨d, hd⟩ : Fin 262144)) ?_).trans ?_
  · rw [Shape.rowMajor_val_four, Shape.rowMajor_val_four]
    show (((16 * b + g) * 4 + r / 2) * 2 + r % 2) * 262144 + d = ((b % 2 * 16 + g % 16) * 8 + r % 8) * 262144 + d % 262144
    omega
  rw [val_main_v27_apply, val_main_v26_apply, val_main_cst_2_apply, val_main_v25_apply, val_main_v24_apply, val_main_cst_apply, val_main_v23_apply, val_main_v22_apply, val_main_v21_apply, val_main_c_1_apply,
    val_main_v20_apply, val_main_v19_apply, val_main_v17_apply, val_main_v16_apply, val_main_c_0_apply, val_main_v3_apply, val_main_v2_apply, val_main_v18_apply, val_main_v15_apply]
  have e1 : IntOp.muli 16#32 (BitVec.ofNat 32 ((idx_main_v3 (idx_main_v19 (ix4 (⟨16 * b + g, by omega⟩ : Fin 32) (⟨r / 2, by omega⟩ : Fin 4) (⟨r % 2, by omega⟩ : Fin 2) (⟨d, hd⟩ : Fin 262144)))) 0).val) = BitVec.ofNat 32 (16 * (r % 2)) :=
    mul16 ⟨r % 2, by omega⟩
  have e2 : idx_main_v15 (idx_main_v18 (ix4 (⟨16 * b + g, by omega⟩ : Fin 32) (⟨r / 2, by omega⟩ : Fin 4) (⟨r % 2, by omega⟩ : Fin 2) (⟨d, hd⟩ : Fin 262144))) = ix3 (⟨16 * b + g, by omega⟩ : Fin 32) (⟨r / 2, by omega⟩ : Fin 4) (⟨d, hd⟩ : Fin 262144) := by
    funext a
    match a with
    | ⟨0, _⟩ => rfl
    | ⟨1, _⟩ => rfl
    | ⟨2, _⟩ => rfl
  rw [e1, e2, shr_host _ _ (by omega), col_apply x0 ⟨b, hb⟩ ⟨g, hg⟩ ⟨r / 2, by omega⟩ ⟨d, hd⟩, ← BitVec.shiftRight_add]
  show Ideal.ofBits .f32 0x43000000#32 - Ideal.ofBits .f32 0x40000000#32 * (((rdZ x0 b (d / 4096) g (d % 2048 / 256) (4 * (d / 2048 % 2) + r / 2) (d % 128) >>> (8 * (d % 256 / 128) + 16 * (r % 2)) &&& 255#32).toInt : ℝ) : EReal) = _
  rw [byte_toInt, ofBits_128, ofBits_two, ← EReal.coe_mul, ← EReal.coe_sub]
  unfold cod byteR
  push_cast
  rfl

/-! ## The signs -/

theorem sign_apply (b : Fin 2) (g : Fin 16) (r : Fin 8) (n : Fin 64) (k : Fin 32) (l : Fin 128) :
    val_main_v245 (F := Ideal) x1 (ix6 b g r n k l) = ((sgnR (rdS x1 b.val g.val n.val r.val l.val) k.val : ℝ) : EReal) := by
  rw [val_main_v245_apply, val_main_v244_apply, val_main_cst_8_apply, val_main_v243_apply, val_main_v242_apply, val_main_cst_7_apply, val_main_v241_apply, val_main_v240_apply, val_main_v239_apply, val_main_c_6_apply,
    val_main_v238_apply, val_main_v237_apply, val_main_v236_apply, val_main_v235_apply, val_main_v234_apply, val_main_v233_apply, val_main_v232_apply]
  rw [eq_rdS x1 _ b.val g.val n.val r.val l.val rfl rfl rfl rfl rfl]
  show Ideal.ofBits .f32 0x3F800000#32 - Ideal.ofBits .f32 0x40000000#32 * (((IntOp.shrui .host (rdS x1 b.val g.val n.val r.val l.val) (BitVec.ofNat 32 k.val) &&& 1#32).toInt : ℝ) : EReal) = _
  rw [bit_toInt _ _ k.isLt, Ideal.ofBits_one_f32, ofBits_two]
  unfold sgnR
  cases (rdS x1 b.val g.val n.val r.val l.val).getLsbD k.val
  · norm_num
  · rw [← EReal.coe_mul, ← EReal.coe_one, ← EReal.coe_sub]; norm_num

theorem signs_apply (b g r d : ℕ) (hb : b < 2) (hg : g < 16) (hr : r < 8) (hd : d < 262144) :
    val_main_v246 (F := Ideal) x1 (ix3 (⟨b, hb⟩ : Fin 2) (⟨8 * g + r, by omega⟩ : Fin 128) (⟨d, hd⟩ : Fin 262144))
      = ((sgnR (rdS x1 b g (d / 4096) r (d % 128)) (d / 128 % 32) : ℝ) : EReal) := by
  unfold val_main_v246
  refine (shapeCast_apply (t := S2x128x262144) (val_main_v245 (F := Ideal) x1) _ _
    (ix6 (⟨b, hb⟩ : Fin 2) (⟨g, hg⟩ : Fin 16) (⟨r, hr⟩ : Fin 8) (⟨d / 4096, by omega⟩ : Fin 64) (⟨d / 128 % 32, by omega⟩ : Fin 32) (⟨d % 128, by omega⟩ : Fin 128)) ?_).trans ?_
  · rw [Shape.rowMajor_val_three, Shape.rowMajor_val_six]
    show ((((b * 16 + g) * 8 + r) * 64 + d / 4096) * 32 + d / 128 % 32) * 128 + d % 128 = (b * 128 + (8 * g + r)) * 262144 + d
    omega
  exact sign_apply x1 _ _ _ _ _ _

/-! ## The stages -/

/-- A stage of pairs `2048 h` columns apart, over the columns of one place in every 2048. -/
theorem stageC {X : FVec Ideal S4 .f32} {w : ℕ → ℕ → ℕ → ℕ → ℝ} (k m h : ℕ) (hX : Holds X fun b g r d => stagesR k (fun e => w b g r (2048 * e + d % 2048)) (d / 2048)) (hk : h = 2048 * 2 ^ k) (hmh : m * (2 * h) = 262144)
    {hc hs0 hs1 hr hb hcat hr2} : Holds (stageD m h X hc hs0 hs1 hr hb hcat hr2) fun b g r d => stagesR (k + 1) (fun e => w b g r (2048 * e + d % 2048)) (d / 2048) := by
  subst hk
  intro b hb' g hg r hr' d hd
  rw [stageD_apply _ _ _ _ _ _ _ _ _ _ hmh b g r d hb' hg hr' hd]
  have hp : 0 < 2 ^ k := Nat.two_pow_pos k
  have h128 : m * (2 * 2 ^ k) = 128 := by
    have e : 2048 * (m * (2 * 2 ^ k)) = 2048 * 128 := by
      calc 2048 * (m * (2 * 2 ^ k)) = m * (2 * (2048 * 2 ^ k)) := by ring
        _ = 2048 * 128 := hmh
    exact Nat.eq_of_mul_eq_mul_left (by decide) e
  have e : sstE (2048 * 2 ^ k) (fun d => rdR X b g r d) d = sstE (2 ^ k) (fun t => rdR X b g r (2048 * t + d % 2048)) (d / 2048) := by
    unfold sstE
    rw [← Nat.div_div_eq_div_mul]
    have h0 : 2048 * (d / 2048) + d % 2048 = d := Nat.div_add_mod d 2048
    by_cases hq : d / 2048 / 2 ^ k % 2 = 0
    · rw [if_pos hq, if_pos hq]
      dsimp only
      rw [h0, show 2048 * (d / 2048 + 2 ^ k) + d % 2048 = d + 2048 * 2 ^ k by omega]
    · rw [if_neg hq, if_neg hq]
      dsimp only
      have hge : 2 ^ k ≤ d / 2048 := by
        by_contra hlt
        rw [Nat.div_eq_of_lt (Nat.lt_of_not_le hlt)] at hq
        exact hq rfl
      rw [h0, show 2048 * (d / 2048 - 2 ^ k) + d % 2048 = d - 2048 * 2 ^ k by omega]
  rw [e]
  refine sstE_congr (N := 128) (h := 2 ^ k) (w := stagesR k (fun e => w b g r (2048 * e + d % 2048))) (fun t ht => ?_) (by omega) (by rw [← h128]; exact Nat.mul_mod_left _ _)
  rw [hX b hb' g hg r hr' _ (by omega)]
  dsimp only
  rw [show (2048 * t + d % 2048) % 2048 = d % 2048 by omega, show (2048 * t + d % 2048) / 2048 = t by omega]

/-- The unpacked entries as real numbers. -/
def unp (z : S2x64x16x8x8x128.Idx → BitVec 32) (b g r d : ℕ) : ℝ := 128 - 2 * cod z b g r d

/-- The entries after the stages within 2048 columns. -/
def inn (z : S2x64x16x8x8x128.Idx → BitVec 32) (b g r d : ℕ) : ℝ := stagesR 8 (unp z b g r) d

/-- The entries after all the stages along the columns. -/
def cols (z : S2x64x16x8x8x128.Idx → BitVec 32) (b g r d : ℕ) : ℝ := stagesR 7 (fun e => inn z b g r (2048 * e + d % 2048)) (d / 2048)

theorem holds_v28 : Holds (val_main_v28 (F := Ideal) x0) fun b g r => stagesR 0 (unp x0 b g r) :=
  fun b hb g hg r hr d hd => code_apply x0 b g r d hb hg hr hd
theorem holds_v39 : Holds (val_main_v39 x0) fun b g r => stagesR 1 (unp x0 b g r) := by
  unfold val_main_v39
  exact Holds.stageD 0 131072 1 (holds_v28 x0) rfl rfl
theorem holds_v50 : Holds (val_main_v50 x0) fun b g r => stagesR 2 (unp x0 b g r) := by
  unfold val_main_v50
  exact Holds.stageD 1 65536 2 (holds_v39 x0) rfl rfl
theorem holds_v61 : Holds (val_main_v61 x0) fun b g r => stagesR 3 (unp x0 b g r) := by
  unfold val_main_v61
  exact Holds.stageD 2 32768 4 (holds_v50 x0) rfl rfl
theorem holds_v72 : Holds (val_main_v72 x0) fun b g r => stagesR 4 (unp x0 b g r) := by
  unfold val_main_v72
  exact Holds.stageD 3 16384 8 (holds_v61 x0) rfl rfl
theorem holds_v83 : Holds (val_main_v83 x0) fun b g r => stagesR 5 (unp x0 b g r) := by
  unfold val_main_v83
  exact Holds.stageD 4 8192 16 (holds_v72 x0) rfl rfl
theorem holds_v94 : Holds (val_main_v94 x0) fun b g r => stagesR 6 (unp x0 b g r) := by
  unfold val_main_v94
  exact Holds.stageD 5 4096 32 (holds_v83 x0) rfl rfl
theorem holds_v105 : Holds (val_main_v105 x0) fun b g r => stagesR 7 (unp x0 b g r) := by
  unfold val_main_v105
  exact Holds.stageD 6 2048 64 (holds_v94 x0) rfl rfl
theorem holds_v116 : Holds (val_main_v116 x0) fun b g r => stagesR 8 (unp x0 b g r) := by
  unfold val_main_v116
  exact Holds.stageD 7 1024 128 (holds_v105 x0) rfl rfl
/-- The stages within 2048 columns done, none yet of those across. -/
theorem holds_in : Holds (val_main_v116 x0) fun b g r d => stagesR 0 (fun e => inn x0 b g r (2048 * e + d % 2048)) (d / 2048) := by
  intro b hb g hg r hr d hd
  refine (holds_v116 x0 b hb g hg r hr d hd).trans ?_
  show _ = ((inn x0 b g r (2048 * (d / 2048) + d % 2048) : ℝ) : EReal)
  rw [Nat.div_add_mod]
  rfl
theorem holds_v127 : Holds (val_main_v127 x0) fun b g r d => stagesR 1 (fun e => inn x0 b g r (2048 * e + d % 2048)) (d / 2048) := by
  unfold val_main_v127
  exact stageC (w := inn x0) 0 64 2048 (holds_in x0) rfl rfl
theorem holds_v138 : Holds (val_main_v138 x0) fun b g r d => stagesR 2 (fun e => inn x0 b g r (2048 * e + d % 2048)) (d / 2048) := by
  unfold val_main_v138
  exact stageC (w := inn x0) 1 32 4096 (holds_v127 x0) rfl rfl
theorem holds_v149 : Holds (val_main_v149 x0) fun b g r d => stagesR 3 (fun e => inn x0 b g r (2048 * e + d % 2048)) (d / 2048) := by
  unfold val_main_v149
  exact stageC (w := inn x0) 2 16 8192 (holds_v138 x0) rfl rfl
theorem holds_v160 : Holds (val_main_v160 x0) fun b g r d => stagesR 4 (fun e => inn x0 b g r (2048 * e + d % 2048)) (d / 2048) := by
  unfold val_main_v160
  exact stageC (w := inn x0) 3 8 16384 (holds_v149 x0) rfl rfl
theorem holds_v171 : Holds (val_main_v171 x0) fun b g r d => stagesR 5 (fun e => inn x0 b g r (2048 * e + d % 2048)) (d / 2048) := by
  unfold val_main_v171
  exact stageC (w := inn x0) 4 4 32768 (holds_v160 x0) rfl rfl
theorem holds_v182 : Holds (val_main_v182 x0) fun b g r d => stagesR 6 (fun e => inn x0 b g r (2048 * e + d % 2048)) (d / 2048) := by
  unfold val_main_v182
  exact stageC (w := inn x0) 5 2 65536 (holds_v171 x0) rfl rfl
theorem holds_v193 : Holds (val_main_v193 x0) fun b g r d => stagesR 7 (fun e => inn x0 b g r (2048 * e + d % 2048)) (d / 2048) := by
  unfold val_main_v193
  exact stageC (w := inn x0) 6 1 131072 (holds_v182 x0) rfl rfl
/-- All the stages along the columns done, none yet across the rows. -/
theorem holds_cols : Holds (val_main_v193 x0) fun b g r d => stagesR 0 (fun r' => cols x0 b g r' d) r := holds_v193 x0
theorem holds_v204 : Holds (val_main_v204 x0) fun b g r d => stagesR 1 (fun r' => cols x0 b g r' d) r := by
  unfold val_main_v204
  exact Holds.stageR (v := cols x0) 0 4 1 (holds_cols x0) rfl rfl
theorem holds_v215 : Holds (val_main_v215 x0) fun b g r d => stagesR 2 (fun r' => cols x0 b g r' d) r := by
  unfold val_main_v215
  exact Holds.stageR (v := cols x0) 1 2 2 (holds_v204 x0) rfl rfl
theorem holds_v226 : Holds (val_main_v226 x0) fun b g r d => stagesR 3 (fun r' => cols x0 b g r' d) r := by
  unfold val_main_v226
  exact Holds.stageR (v := cols x0) 2 1 4 (holds_v215 x0) rfl rfl

theorem cols_eq (z : S2x64x16x8x8x128.Idx → BitVec 32) (b g r d : ℕ) : stagesR 3 (fun r' => cols z b g r' d) r = decR (unp z b g) r d := rfl

/-! ## The results -/

/-- The scale of a batch. -/
def sclQ (b : Fin 2) : EReal := val_main_v231 (F := Ideal) x2 x3 (ix1 b)

theorem v253_apply (i : S2x128x262144.Idx) :
    val_main_v253 x0 x1 x2 x3 i = ((sgnR (rdS x1 (i 0).val ((i 1).val / 8) ((i 2).val / 4096) ((i 1).val % 8) ((i 2).val % 128)) ((i 2).val / 128 % 32) : ℝ) : EReal)
      * (sclQ x2 x3 (i 0) * (Ideal.ofBits .f32 0x393504F3#32 * ((decR (unp x0 (i 0).val ((i 1).val / 8)) ((i 1).val % 8) (i 2).val : ℝ) : EReal))) := by
  have h0 : (i 0).val < 2 := (i 0).isLt
  have h1 : (i 1).val < 128 := (i 1).isLt
  have h2 : (i 2).val < 262144 := (i 2).isLt
  have hi : i = ix3 (⟨(i 0).val, h0⟩ : Fin 2) (⟨8 * ((i 1).val / 8) + (i 1).val % 8, by omega⟩ : Fin 128) (⟨(i 2).val, h2⟩ : Fin 262144) := by
    funext a
    apply Fin.ext
    match a with
    | ⟨0, _⟩ => rfl
    | ⟨1, _⟩ => exact (Nat.div_add_mod (i 1).val 8).symm
    | ⟨2, _⟩ => rfl
  have eS : val_main_v246 (F := Ideal) x1 i = _ := (congrArg (val_main_v246 (F := Ideal) x1) hi).trans (signs_apply x1 (i 0).val ((i 1).val / 8) ((i 1).val % 8) (i 2).val h0 (by omega) (by omega) h2)
  have eV : val_main_v248 x0 i = ((decR (unp x0 (i 0).val ((i 1).val / 8)) ((i 1).val % 8) (i 2).val : ℝ) : EReal) := by
    rw [val_main_v248_apply]
    refine (eq_rdR (val_main_v226 x0) _ (i 0).val ((i 1).val / 8) ((i 1).val % 8) (i 2).val ?_ ?_ ?_ ?_).trans (holds_v226 x0 _ h0 _ (by omega) _ (by omega) _ h2)
    · show (((i 0).val * 128 + (i 1).val) * 262144 + (i 2).val) / 33554432 = _; omega
    · show (((i 0).val * 128 + (i 1).val) * 262144 + (i 2).val) / 2097152 % 16 = _; omega
    · show (((i 0).val * 128 + (i 1).val) * 262144 + (i 2).val) / 262144 % 8 = _; omega
    · show (((i 0).val * 128 + (i 1).val) * 262144 + (i 2).val) % 262144 = _; omega
  have eL : val_main_v251 x2 x3 i = sclQ x2 x3 (i 0) := by
    rw [val_main_v251_apply, val_main_v247_apply]
    unfold sclQ
    congr 1
    funext a
    match a with
    | ⟨0, _⟩ => rfl
  rw [val_main_v253_apply, val_main_v252_apply, val_main_v250_apply, val_main_v249_apply, val_main_cst_9_apply, eS, eV, eL]
  rfl

theorem v255_apply (i : S2x8x128.Idx) : val_main_v255 x2 x3 i = sclQ x2 x3 (i 0) := by
  rw [val_main_v255_apply, val_main_v254_apply]
  unfold sclQ
  congr 1
  funext a
  match a with
  | ⟨0, _⟩ => rfl

end Cert.DecodeReferenceIdeal.Read

end
-- ==== Proof.DLink.lean ====
module

public import proofs.«01_k».proof.Proof.DVal
public import proofs.«01_k».proof.Proof.QVal
public import proofs.«01_k».proof.Proof.Gen.Pre_small

@[expose] public section

set_option maxRecDepth 16384

noncomputable section

namespace Cert.Rot

open Idealize.ShloMosaic Idealize.ShloMosaic.ValueIdx Cert.DecodeIdeal Cert.DecodeIdeal.Gen Cert.DecodeReferenceIdeal.Read
open scoped BigOperators

/-! # What the decoding kernel leaves is what its reference leaves -/

/-! ## The precondition -/

theorem and_one : ∀ a b : BitVec 1, a &&& b = 1#1 → a = 1#1 ∧ b = 1#1 := by decide

theorem le_of_cmpi (x : BitVec 32) (hx : x.toNat ≤ 255) (h : IntOp.cmpi .sle x 128#32 = 1#1) : x.toNat ≤ 128 := by
  by_contra hn
  have e : x.sle 128#32 = false := by
    rw [BitVec.sle_eq_decide, decide_eq_false_iff_not, BitVec.toInt_eq_toNat_of_lt (by omega)]
    show ¬ ((x.toNat : ℤ) ≤ 128)
    omega
  rw [show IntOp.cmpi .sle x 128#32 = BitVec.ofBool (x.sle 128#32) from rfl, e] at h
  exact absurd h (by decide)

theorem byte_le (v : BitVec 32) : (v &&& 255#32).toNat ≤ 255 := by
  rw [BitVec.toNat_and]; exact Nat.and_le_right

theorem top_byte (v : BitVec 32) : v >>> 24 = (v >>> 24) &&& 255#32 := by
  apply BitVec.eq_of_toNat_eq
  rw [BitVec.toNat_and, BitVec.toNat_ushiftRight, Nat.shiftRight_eq_div_pow, show (255#32).toNat = 2 ^ 8 - 1 from rfl, Nat.and_two_pow_sub_one_eq_mod]
  have := v.isLt
  omega

/-- The precondition says that every byte is at most 128. -/
theorem small_of_pre (z : IVec Cert.Pre_small.S2x64x16x8x8x128 32) (w : IVec Cert.Pre_small.S2x16x64x8x128 32) (x2 x3 : FVec Ideal Cert.Pre_small.S2x8x128 .f32)
    (h : Cert.Pre_small.fn (F := Ideal) z w x2 x3 = fun _ => 1#1) : Small z := by
  intro i
  have e : ((IntOp.cmpi .sle (z i &&& 255#32) 128#32 &&& IntOp.cmpi .sle (IntOp.shrui .host (z i) (BitVec.ofNat 32 8) &&& 255#32) 128#32)
      &&& IntOp.cmpi .sle (IntOp.shrui .host (z i) (BitVec.ofNat 32 16) &&& 255#32) 128#32) &&& IntOp.cmpi .sle (IntOp.shrui .host (z i) (BitVec.ofNat 32 24)) 128#32 = 1#1 := congrFun h i
  rw [shr_host _ 8 (by decide), shr_host _ 16 (by decide), shr_host _ 24 (by decide)] at e
  obtain ⟨e, e3⟩ := and_one _ _ e
  obtain ⟨e, e2⟩ := and_one _ _ e
  obtain ⟨e0, e1⟩ := and_one _ _ e
  rw [top_byte] at e3
  have r0 := le_of_cmpi _ (byte_le _) e0
  have r1 := le_of_cmpi _ (byte_le _) e1
  have r2 := le_of_cmpi _ (byte_le _) e2
  have r3 := le_of_cmpi _ (byte_le _) e3
  intro h hh k hk
  match h, hh, k, hk with
  | 0, _, 0, _ => exact (congrArg (fun v : BitVec 32 => (v &&& 255#32).toNat) (BitVec.ushiftRight_zero (z i))).le.trans r0
  | 1, _, 0, _ => exact r1
  | 0, _, 1, _ => exact r2
  | 1, _, 1, _ => exact r3

/-! ## The scale -/

/-- The sum of one batch's partial sums, over the block and over the whole array. -/
theorem sum_batch (x : FVec Ideal S2x8x128 .f32) (b : Fin 2) :
    ∑ k ∈ Finset.univ.filter (fun k => Cert.DecodeReferenceIdeal.Gen.reducesTo_S2x8x128_S2_d1_2.drop k = ix1 b), x k = ∑ i : S1x8x128.Idx, blkA x b.val i := by
  have hdrop (k : S2x8x128.Idx) : (Cert.DecodeReferenceIdeal.Gen.reducesTo_S2x8x128_S2_d1_2.drop k = ix1 b) ↔ (k 0).val = b.val := by
    constructor
    · intro e
      exact congrArg Fin.val (congrFun e 0)
    · intro e
      funext j
      match j with
      | ⟨0, _⟩ => exact Fin.ext e
  refine Finset.sum_bij' (fun k _ => (ix3 (0 : Fin 1) (⟨(k 1).val, (k 1).isLt⟩ : Fin 8) (⟨(k 2).val, (k 2).isLt⟩ : Fin 128) : S1x8x128.Idx))
    (fun i _ => (ix3 b (⟨(i 1).val, (i 1).isLt⟩ : Fin 8) (⟨(i 2).val, (i 2).isLt⟩ : Fin 128) : S2x8x128.Idx)) ?_ ?_ ?_ ?_ ?_
  · intro k _
    exact Finset.mem_univ _
  · intro i _
    exact Finset.mem_filter.mpr ⟨Finset.mem_univ _, (hdrop _).mpr rfl⟩
  · intro k hk
    have e := (hdrop k).mp (Finset.mem_filter.mp hk).2
    funext j
    match j with
    | ⟨0, _⟩ => exact Fin.ext e.symm
    | ⟨1, _⟩ => rfl
    | ⟨2, _⟩ => rfl
  · intro i _
    funext j
    match j with
    | ⟨0, _⟩ => exact Subsingleton.elim (α := Fin 1) _ _
    | ⟨1, _⟩ => rfl
    | ⟨2, _⟩ => rfl
  · intro k hk
    have e := (hdrop k).mp (Finset.mem_filter.mp hk).2
    unfold blkA
    congr 1
    funext j
    match j with
    | ⟨0, _⟩ => exact Fin.ext (e.trans (Nat.mod_eq_of_lt b.isLt).symm)
    | ⟨1, _⟩ => rfl
    | ⟨2, _⟩ => rfl

/-- The two scales agree. -/
theorem scales_eq (x2 x3 : FVec Ideal S2x8x128 .f32) (b : Fin 2) : sclK x2 x3 b.val = sclQ x2 x3 b := by
  rw [sclK_eq, ← sum_batch, ← sum_batch]
  unfold sclQ
  rw [val_main_v231_apply, val_main_v230_apply, val_main_v229_apply, val_main_cst_5_apply]
  have e (x : FVec Ideal S2x8x128 .f32) (y : EReal) (hy : y = ∑ k ∈ Finset.univ.filter (fun k => Cert.DecodeReferenceIdeal.Gen.reducesTo_S2x8x128_S2_d1_2.drop k = ix1 b), x k) :
      Ideal.ofBits .f32 0x00000000#32 + (∑ k ∈ Finset.univ.filter (fun k => Cert.DecodeReferenceIdeal.Gen.reducesTo_S2x8x128_S2_d1_2.drop k = ix1 b), x k) = y := by
    rw [hy, Ideal.ofBits_zero_f32, zero_add]
  have e2 : val_main_v227 (F := Ideal) x2 (ix1 b) = _ := e x2 _ rfl
  have e3 : val_main_v228 (F := Ideal) x3 (ix1 b) = _ := e x3 _ rfl
  rw [e2, e3]
  rfl

/-! ## The results -/

/-- Twice the byte less 128, with its sign turned, is the reference's entry. -/
theorem decR_unp (z : Cert.DecodeIdeal.S2x64x16x8x8x128.Idx → BitVec 32) (b g r d : ℕ) :
    decR (unp z b g) r d = -2 * decR (fun r d => cod z b g r d - 64) r d := by
  rw [← decR_smul]
  congr 1
  funext r d
  unfold unp
  ring

/-- The two results agree wherever every byte of the words is at most 128. -/
theorem decoded_eq (z : Cert.DecodeIdeal.S2x64x16x8x8x128.Idx → BitVec 32) (w : Cert.DecodeIdeal.S2x16x64x8x128.Idx → BitVec 32) (x2 x3 : FVec Ideal S2x8x128 .f32) (hz : Small z) :
    decK z w x2 x3 = val_main_v253 z w x2 x3 ∧ sclArr x2 x3 = val_main_v255 x2 x3 := by
  refine ⟨funext fun i => ?_, funext fun i => ?_⟩
  · rw [v253_apply z w x2 x3 i, decK_apply z w x2 x3 hz i, show sclK x2 x3 (i 0).val = sclQ x2 x3 (i 0) from scales_eq x2 x3 (i 0), decR_unp]
    obtain ⟨c, hc, hc'⟩ := ofBits_factor
    rw [hc, hc']
    generalize sclQ x2 x3 (i 0) = s
    generalize decR (fun r d => cod z (i 0).val ((i 1).val / 8) r d - 64) ((i 1).val % 8) (i 2).val = v
    rw [← EReal.coe_mul, mul_comm ((v : EReal)), mul_comm ((-2 * c : ℝ) : EReal) s, mul_assoc s, ← EReal.coe_mul, mul_comm (s * _)]
    congr 3
    ring
  · rw [v255_apply]
    exact scales_eq x2 x3 (i 0)

end Cert.Rot

end
-- ==== Proof.WTile.lean ====
module

public import proofs.«01_k».proof.Proof.Gen.WordsIdeal.Value
public import proofs.«01_k».proof.Proof.Gen.WordsReferenceIdeal

@[expose] public section

set_option maxRecDepth 65536

noncomputable section

namespace Cert.Sgn

open Idealize.ShloMosaic Cert.WordsIdeal Cert.WordsIdeal.Gen
/-! # The words of a block of sign bytes -/

/-- The lane's number divided by eight, rounded down, as the kernel forms it. -/
def quot (v0 : IVec S8x128 32) : IVec S8x128 32 :=
  select (andi (cmpi .ne (subi (extui 32 (cmpi .sgt v0 (broadcast S8x128 0#32)) natLt_1_32) (extui 32 (cmpi .slt v0 (broadcast S8x128 0#32)) natLt_1_32))
      (broadcast S8x128 (Scalar.subi (Scalar.extui (Scalar.cmpi .sgt 8#32 0#32)) (Scalar.extui (Scalar.cmpi .slt 8#32 0#32)))))
    (cmpi .ne (remsi v0 (broadcast S8x128 8#32)) (broadcast S8x128 0#32)))
    (subi (divsi v0 (broadcast S8x128 8#32)) (broadcast S8x128 1#32)) (divsi v0 (broadcast S8x128 8#32))

/-- The lane read for the bits of chunk `c`, from `base = 16 c`. -/
def pick (v0 : IVec S8x128 32) (base : BitVec 32) : IVec S8x128 32 :=
  shapeCast S8x128 (shapeCast S8x128x1
    (select (cmpi .slt (addi (broadcast S8x128 base) (quot v0)) (broadcast S8x128 0#32))
      (addi (addi (broadcast S8x128 base) (quot v0)) (broadcast S8x128 128#32)) (addi (broadcast S8x128 base) (quot v0)))
    shapeCasts_S8x128_S8x128x1) shapeCasts_S8x128x1_S8x128

/-- A word with the bits of chunk `c` put in. -/
def chunk (pk word : IVec S8x128 32) (base c : BitVec 32) : IVec S8x128 32 :=
  ori word (shli (andi (shrui (dynamicGather 1 pk (pick (iota .tc S8x128 32 [1] iota_S8x128_d1_w32) base)) k0_pay2) (broadcast S8x128 16843009#32)) (broadcast S8x128 c))

/-- A word: the eight chunks. -/
def word (pk : IVec S8x128 32) : IVec S1x1x1x8x128 32 :=
  shapeCast S1x1x1x8x128 (chunk pk (chunk pk (chunk pk (chunk pk (chunk pk (chunk pk (chunk pk (chunk pk (broadcast S8x128 0#32) 0#32 0#32) 16#32 1#32) 32#32 2#32) 48#32 3#32)
    64#32 4#32) 80#32 5#32) 96#32 6#32) 112#32 7#32) shapeCasts_S8x128_S1x1x1x8x128

variable {F : FTy → Type} [FloatOps F]

/-- A hundred and twenty-eight bytes of the block's rows, widened. -/
def part (x : Vec F S1x32x128 .i8) : IVec S32x128 32 := extui 32 (shapeCast S32x128 x shapeCasts_S1x32x128_S32x128 : IVec S32x128 8) natLt_8_32

/-- Four parts' rows from `off` on, one byte of a word each. -/
def packed (off : Fin S32x128.rank → ℕ) (h : S32x128.Slices off S8x128) (a b c d : Vec F S1x32x128 .i8) : IVec S8x128 32 :=
  ori (ori (ori (extractStridedSlice S8x128 off (part a) h) (shli (extractStridedSlice S8x128 off (part b) h) (broadcast S8x128 8#32)))
    (shli (extractStridedSlice S8x128 off (part c) h) (broadcast S8x128 16#32))) (shli (extractStridedSlice S8x128 off (part d) h) (broadcast S8x128 24#32))

/-- The body's stores: a word of every row group and column block. -/
def stores (x0 : Vec F S1x32x4096 .i8) : List (View.Piece (Elt F) S1x4x8x8x128 .i32) := [
    ⟨r0_63, word (packed ![24, 0] slices_S32x128_o24_0_S8x128 (View.ld x0 r0_56) (View.ld x0 r0_57) (View.ld x0 r0_58) (View.ld x0 r0_59))⟩,
    ⟨r0_62, word (packed ![16, 0] slices_S32x128_o16_0_S8x128 (View.ld x0 r0_56) (View.ld x0 r0_57) (View.ld x0 r0_58) (View.ld x0 r0_59))⟩,
    ⟨r0_61, word (packed ![8, 0] slices_S32x128_o8_0_S8x128 (View.ld x0 r0_56) (View.ld x0 r0_57) (View.ld x0 r0_58) (View.ld x0 r0_59))⟩,
    ⟨r0_60, word (packed ![0, 0] slices_S32x128_o0_0_S8x128 (View.ld x0 r0_56) (View.ld x0 r0_57) (View.ld x0 r0_58) (View.ld x0 r0_59))⟩,
    ⟨r0_55, word (packed ![24, 0] slices_S32x128_o24_0_S8x128 (View.ld x0 r0_48) (View.ld x0 r0_49) (View.ld x0 r0_50) (View.ld x0 r0_51))⟩,
    ⟨r0_54, word (packed ![16, 0] slices_S32x128_o16_0_S8x128 (View.ld x0 r0_48) (View.ld x0 r0_49) (View.ld x0 r0_50) (View.ld x0 r0_51))⟩,
    ⟨r0_53, word (packed ![8, 0] slices_S32x128_o8_0_S8x128 (View.ld x0 r0_48) (View.ld x0 r0_49) (View.ld x0 r0_50) (View.ld x0 r0_51))⟩,
    ⟨r0_52, word (packed ![0, 0] slices_S32x128_o0_0_S8x128 (View.ld x0 r0_48) (View.ld x0 r0_49) (View.ld x0 r0_50) (View.ld x0 r0_51))⟩,
    ⟨r0_47, word (packed ![24, 0] slices_S32x128_o24_0_S8x128 (View.ld x0 r0_40) (View.ld x0 r0_41) (View.ld x0 r0_42) (View.ld x0 r0_43))⟩,
    ⟨r0_46, word (packed ![16, 0] slices_S32x128_o16_0_S8x128 (View.ld x0 r0_40) (View.ld x0 r0_41) (View.ld x0 r0_42) (View.ld x0 r0_43))⟩,
    ⟨r0_45, word (packed ![8, 0] slices_S32x128_o8_0_S8x128 (View.ld x0 r0_40) (View.ld x0 r0_41) (View.ld x0 r0_42) (View.ld x0 r0_43))⟩,
    ⟨r0_44, word (packed ![0, 0] slices_S32x128_o0_0_S8x128 (View.ld x0 r0_40) (View.ld x0 r0_41) (View.ld x0 r0_42) (View.ld x0 r0_43))⟩,
    ⟨r0_39, word (packed ![24, 0] slices_S32x128_o24_0_S8x128 (View.ld x0 r0_32) (View.ld x0 r0_33) (View.ld x0 r0_34) (View.ld x0 r0_35))⟩,
    ⟨r0_38, word (packed ![16, 0] slices_S32x128_o16_0_S8x128 (View.ld x0 r0_32) (View.ld x0 r0_33) (View.ld x0 r0_34) (View.ld x0 r0_35))⟩,
    ⟨r0_37, word (packed ![8, 0] slices_S32x128_o8_0_S8x128 (View.ld x0 r0_32) (View.ld x0 r0_33) (View.ld x0 r0_34) (View.ld x0 r0_35))⟩,
    ⟨r0_36, word (packed ![0, 0] slices_S32x128_o0_0_S8x128 (View.ld x0 r0_32) (View.ld x0 r0_33) (View.ld x0 r0_34) (View.ld x0 r0_35))⟩,
    ⟨r0_31, word (packed ![24, 0] slices_S32x128_o24_0_S8x128 (View.ld x0 r0_24) (View.ld x0 r0_25) (View.ld x0 r0_26) (View.ld x0 r0_27))⟩,
    ⟨r0_30, word (packed ![16, 0] slices_S32x128_o16_0_S8x128 (View.ld x0 r0_24) (View.ld x0 r0_25) (View.ld x0 r0_26) (View.ld x0 r0_27))⟩,
    ⟨r0_29, word (packed ![8, 0] slices_S32x128_o8_0_S8x128 (View.ld x0 r0_24) (View.ld x0 r0_25) (View.ld x0 r0_26) (View.ld x0 r0_27))⟩,
    ⟨r0_28, word (packed ![0, 0] slices_S32x128_o0_0_S8x128 (View.ld x0 r0_24) (View.ld x0 r0_25) (View.ld x0 r0_26) (View.ld x0 r0_27))⟩,
    ⟨r0_23, word (packed ![24, 0] slices_S32x128_o24_0_S8x128 (View.ld x0 r0_16) (View.ld x0 r0_17) (View.ld x0 r0_18) (View.ld x0 r0_19))⟩,
    ⟨r0_22, word (packed ![16, 0] slices_S32x128_o16_0_S8x128 (View.ld x0 r0_16) (View.ld x0 r0_17) (View.ld x0 r0_18) (View.ld x0 r0_19))⟩,
    ⟨r0_21, word (packed ![8, 0] slices_S32x128_o8_0_S8x128 (View.ld x0 r0_16) (View.ld x0 r0_17) (View.ld x0 r0_18) (View.ld x0 r0_19))⟩,
    ⟨r0_20, word (packed ![0, 0] slices_S32x128_o0_0_S8x128 (View.ld x0 r0_16) (View.ld x0 r0_17) (View.ld x0 r0_18) (View.ld x0 r0_19))⟩,
    ⟨r0_15, word (packed ![24, 0] slices_S32x128_o24_0_S8x128 (View.ld x0 r0_8) (View.ld x0 r0_9) (View.ld x0 r0_10) (View.ld x0 r0_11))⟩,
    ⟨r0_14, word (packed ![16, 0] slices_S32x128_o16_0_S8x128 (View.ld x0 r0_8) (View.ld x0 r0_9) (View.ld x0 r0_10) (View.ld x0 r0_11))⟩,
    ⟨r0_13, word (packed ![8, 0] slices_S32x128_o8_0_S8x128 (View.ld x0 r0_8) (View.ld x0 r0_9) (View.ld x0 r0_10) (View.ld x0 r0_11))⟩,
    ⟨r0_12, word (packed ![0, 0] slices_S32x128_o0_0_S8x128 (View.ld x0 r0_8) (View.ld x0 r0_9) (View.ld x0 r0_10) (View.ld x0 r0_11))⟩,
    ⟨r0_7, word (packed ![24, 0] slices_S32x128_o24_0_S8x128 (View.ld x0 r0_0) (View.ld x0 r0_1) (View.ld x0 r0_2) (View.ld x0 r0_3))⟩,
    ⟨r0_6, word (packed ![16, 0] slices_S32x128_o16_0_S8x128 (View.ld x0 r0_0) (View.ld x0 r0_1) (View.ld x0 r0_2) (View.ld x0 r0_3))⟩,
    ⟨r0_5, word (packed ![8, 0] slices_S32x128_o8_0_S8x128 (View.ld x0 r0_0) (View.ld x0 r0_1) (View.ld x0 r0_2) (View.ld x0 r0_3))⟩,
    ⟨r0_4, word (packed ![0, 0] slices_S32x128_o0_0_S8x128 (View.ld x0 r0_0) (View.ld x0 r0_1) (View.ld x0 r0_2) (View.ld x0 r0_3))⟩]

/-- They are what the body leaves. -/
theorem out_eq (x0 : Vec F S1x32x4096 .i8) : out0_1 x0 = View.canon (stores x0) := rfl

end Cert.Sgn

end
-- ==== Proof.WBits.lean ====
module

public import proofs.«01_k».proof.Proof.WTile
public import Idealize.ShloMosaic.Lib.ValueIdx

@[expose] public section

set_option maxRecDepth 65536

noncomputable section

namespace Cert.Sgn

open Idealize.ShloMosaic Idealize.ShloMosaic.ValueIdx Cert.WordsIdeal Cert.WordsIdeal.Gen

/-! # A word's bits -/

/-- The first `n` bits of `p`, as a sum. -/
def sumW (p : ℕ → Bool) : ℕ → BitVec 32
  | 0 => 0#32
  | n + 1 => sumW p n + (BitVec.ofBool (p n)).zeroExtend 32 <<< n

theorem ofBool_shl_bit (b : Bool) (n k : ℕ) (hk : k < 32) :
    ((BitVec.ofBool b).zeroExtend 32 <<< n).getLsbD k = (decide (k = n) && b) := by
  rw [BitVec.getLsbD_shiftLeft, BitVec.getLsbD_setWidth, BitVec.getLsbD_ofBool]
  by_cases h : k = n
  · subst h; simp [hk]
  · by_cases h2 : k < n
    · simp [h, h2]
    · simp [h, h2, show k - n ≠ 0 by omega]

theorem sumW_bit (p : ℕ → Bool) (n k : ℕ) (hk : k < 32) : (sumW p n).getLsbD k = (decide (k < n) && p k) := by
  induction n generalizing k with
  | zero => simp [sumW]
  | succ n ih =>
    have dis : sumW p n &&& (BitVec.ofBool (p n)).zeroExtend 32 <<< n = 0#32 := by
      apply BitVec.eq_of_getLsbD_eq
      intro i hi
      rw [BitVec.getLsbD_and, ih i hi, ofBool_shl_bit _ _ _ hi, BitVec.getLsbD_zero]
      by_cases h : i = n
      · subst h; simp
      · simp [h]
    rw [sumW, BitVec.add_eq_or_of_and_eq_zero _ _ dis, BitVec.getLsbD_or, ih k hk, ofBool_shl_bit _ _ _ hk]
    by_cases h : k = n
    · subst h; simp
    · simp [h, show (k < n + 1) = (k < n) by rw [eq_iff_iff]; omega]

theorem eq_sumW (w : BitVec 32) (p : ℕ → Bool) (h : ∀ k, k < 32 → w.getLsbD k = p k) : w = sumW p 32 := by
  apply BitVec.eq_of_getLsbD_eq
  intro i hi
  rw [h i hi, sumW_bit _ _ _ hi]
  simp [hi]

/-! ## The chunks -/

theorem lanes_bit : ∀ (r : Fin 8) (l : Fin 128), k0_pay2 (ix2 r l) = BitVec.ofNat 32 (l.val % 8) := by decide +kernel

theorem lanes_pick : ∀ (c : Fin 8) (r : Fin 8) (l : Fin 128),
    (pick (iota .tc S8x128 32 [1] iota_S8x128_d1_w32) (BitVec.ofNat 32 (16 * c.val)) (ix2 r l)).toNat = 16 * c.val + l.val / 8 := by decide +kernel

theorem mask_bit : ∀ m : Fin 32, (16843009#32).getLsbD m.val = decide (m.val % 8 = 0) := by decide +kernel

theorem chunk_bit (pk w : IVec S8x128 32) (c : ℕ) (hc : c < 8) (r : Fin 8) (l : Fin 128) (k : ℕ) (hk : k < 32) :
    (chunk pk w (BitVec.ofNat 32 (16 * c)) (BitVec.ofNat 32 c) (ix2 r l)).getLsbD k
      = ((w (ix2 r l)).getLsbD k || (decide (k % 8 = c) && (pk (ix2 r (Fin.ofNat 128 (16 * c + l.val / 8)))).getLsbD (8 * (k / 8) + l.val % 8))) := by
  have hl := l.isLt
  have e1 : dynamicGather 1 pk (pick (iota .tc S8x128 32 [1] iota_S8x128_d1_w32) (BitVec.ofNat 32 (16 * c))) (ix2 r l) = pk (ix2 r (Fin.ofNat 128 (16 * c + l.val / 8))) := by
    show pk _ = _
    congr 1
    funext a
    match a with
    | ⟨0, _⟩ => rfl
    | ⟨1, _⟩ => exact Fin.ext (congrArg (· % 128) (lanes_pick ⟨c, hc⟩ r l))
  have e2 : IntOp.shrui .vector (pk (ix2 r (Fin.ofNat 128 (16 * c + l.val / 8)))) (BitVec.ofNat 32 (l.val % 8))
      = pk (ix2 r (Fin.ofNat 128 (16 * c + l.val / 8))) >>> (l.val % 8) := by
    have : (BitVec.ofNat 32 (l.val % 8)).toNat = l.val % 8 := by rw [BitVec.toNat_ofNat]; omega
    unfold IntOp.shrui
    rw [if_pos (by rw [this]; omega), BitVec.ushiftRight_eq', this]
  have e3 (x : BitVec 32) : IntOp.shli .vector x (BitVec.ofNat 32 c) = x <<< c := by
    have : (BitVec.ofNat 32 c).toNat = c := by rw [BitVec.toNat_ofNat]; omega
    unfold IntOp.shli
    rw [if_pos (by rw [this]; omega), BitVec.shiftLeft_eq', this]
  show (w (ix2 r l) ||| IntOp.shli .vector (IntOp.shrui .vector (dynamicGather 1 pk (pick (iota .tc S8x128 32 [1] iota_S8x128_d1_w32) (BitVec.ofNat 32 (16 * c))) (ix2 r l)) (k0_pay2 (ix2 r l)) &&& 16843009#32) (BitVec.ofNat 32 c)).getLsbD k = _
  rw [e1, lanes_bit, e2, e3, BitVec.getLsbD_or, BitVec.getLsbD_shiftLeft, BitVec.getLsbD_and, BitVec.getLsbD_ushiftRight]
  congr 1
  by_cases h : k % 8 = c
  · have hm := mask_bit ⟨k - c, by omega⟩
    dsimp only at hm
    rw [hm, show l.val % 8 + (k - c) = 8 * (k / 8) + l.val % 8 by omega]
    simp [h, hk, show ¬ k < c by omega, show (k - c) % 8 = 0 by omega]
  · by_cases h2 : k < c
    · simp [h, h2]
    · have hm := mask_bit ⟨k - c, by omega⟩
      dsimp only at hm
      rw [hm]
      simp [h, show ¬ (k - c) % 8 = 0 by omega]

theorem cast_at (v : IVec S8x128 32) : ∀ (r : Fin 8) (l : Fin 128), shapeCast S1x1x1x8x128 v shapeCasts_S8x128_S1x1x1x8x128 (ix5 0 0 0 r l) = v (ix2 r l) := by
  have h : ∀ (r : Fin 8) (l : Fin 128), shapeCast S1x1x1x8x128 (fun i : S8x128.Idx => i) shapeCasts_S8x128_S1x1x1x8x128 (ix5 0 0 0 r l) = ix2 r l := by decide +kernel
  intro r l
  exact congrArg v (h r l)

theorem word_bit (pk : IVec S8x128 32) (r : Fin 8) (l : Fin 128) (k : ℕ) (hk : k < 32) :
    (word pk (ix5 0 0 0 r l)).getLsbD k = (pk (ix2 r (Fin.ofNat 128 (16 * (k % 8) + l.val / 8)))).getLsbD (8 * (k / 8) + l.val % 8) := by
  unfold word
  rw [cast_at]
  have c0 (w : IVec S8x128 32) := chunk_bit pk w 0 (by omega) r l k hk
  have c1 (w : IVec S8x128 32) := chunk_bit pk w 1 (by omega) r l k hk
  have c2 (w : IVec S8x128 32) := chunk_bit pk w 2 (by omega) r l k hk
  have c3 (w : IVec S8x128 32) := chunk_bit pk w 3 (by omega) r l k hk
  have c4 (w : IVec S8x128 32) := chunk_bit pk w 4 (by omega) r l k hk
  have c5 (w : IVec S8x128 32) := chunk_bit pk w 5 (by omega) r l k hk
  have c6 (w : IVec S8x128 32) := chunk_bit pk w 6 (by omega) r l k hk
  have c7 (w : IVec S8x128 32) := chunk_bit pk w 7 (by omega) r l k hk
  refine (c7 _).trans ?_
  refine (congrArg (· || _) (c6 _)).trans ?_
  refine (congrArg (fun b => b || _ || _) (c5 _)).trans ?_
  refine (congrArg (fun b => b || _ || _ || _) (c4 _)).trans ?_
  refine (congrArg (fun b => b || _ || _ || _ || _) (c3 _)).trans ?_
  refine (congrArg (fun b => b || _ || _ || _ || _ || _) (c2 _)).trans ?_
  refine (congrArg (fun b => b || _ || _ || _ || _ || _ || _) (c1 _)).trans ?_
  refine (congrArg (fun b => b || _ || _ || _ || _ || _ || _ || _) (c0 _)).trans ?_
  have hz : (broadcast S8x128 0#32 (ix2 r l) : BitVec 32).getLsbD k = false := BitVec.getLsbD_zero
  rw [hz]
  have h8 : k % 8 < 8 := Nat.mod_lt _ (by omega)
  generalize k % 8 = j at h8
  interval_cases j <;> simp

/-! ## The packed bytes -/

variable {F : FTy → Type} [FloatOps F]

theorem shl_byte (b : BitVec 8) (f k : ℕ) (hk : k < 32) : (b.zeroExtend 32 <<< (8 * f)).getLsbD k = (decide (k / 8 = f) && b.getLsbD (k % 8)) := by
  rw [BitVec.getLsbD_shiftLeft, BitVec.getLsbD_setWidth]
  by_cases h : k / 8 = f
  · simp [h, hk, show ¬ k < 8 * f by omega, show k - 8 * f = k % 8 by omega, show k % 8 < 32 by omega]
  · by_cases h2 : k < 8 * f
    · simp [h, h2]
    · simp [h, BitVec.getLsbD_of_ge b (k - 8 * f) (by omega)]

theorem part_at (x : Vec F S1x32x128 .i8) : ∀ (q : Fin 32) (l : Fin 128), part x (ix2 q l) = ((x (ix3 0 q l) : BitVec 8)).zeroExtend 32 := by
  have h : ∀ (q : Fin 32) (l : Fin 128), shapeCast S32x128 (fun i : S1x32x128.Idx => i) shapeCasts_S1x32x128_S32x128 (ix2 q l) = ix3 0 q l := by decide +kernel
  intro q l
  exact congrArg (fun i => (x i : BitVec 8).zeroExtend 32) (h q l)

theorem packed_bit (g : ℕ) (hg : g < 4) (h : S32x128.Slices ![8 * g, 0] S8x128) (v : ℕ → Vec F S1x32x128 .i8) (r : Fin 8) (l : Fin 128) (k : ℕ) (hk : k < 32) :
    (packed ![8 * g, 0] h (v 0) (v 1) (v 2) (v 3) (ix2 r l)).getLsbD k = ((v (k / 8) (ix3 0 (Fin.ofNat 32 (8 * g + r.val)) l) : BitVec 8)).getLsbD (k % 8) := by
  have es (x : Vec F S1x32x128 .i8) : extractStridedSlice S8x128 ![8 * g, 0] (part x) h (ix2 r l) = ((x (ix3 0 (Fin.ofNat 32 (8 * g + r.val)) l) : BitVec 8)).zeroExtend 32 := by
    rw [← part_at]
    show part x _ = _
    congr 1
    funext a
    match a with
    | ⟨0, _⟩ => exact Fin.ext (by show 8 * g + r.val = (8 * g + r.val) % 32; omega)
    | ⟨1, _⟩ => exact Fin.ext (by show 0 + l.val = l.val; omega)
  have e3 (x : BitVec 32) (c : ℕ) (hc : c < 32) : IntOp.shli .vector x (BitVec.ofNat 32 c) = x <<< c := by
    have : (BitVec.ofNat 32 c).toNat = c := by rw [BitVec.toNat_ofNat]; omega
    unfold IntOp.shli
    rw [if_pos (by rw [this]; omega), BitVec.shiftLeft_eq', this]
  show (((extractStridedSlice S8x128 ![8 * g, 0] (part (v 0)) h (ix2 r l) ||| IntOp.shli .vector (extractStridedSlice S8x128 ![8 * g, 0] (part (v 1)) h (ix2 r l)) (BitVec.ofNat 32 (8 * 1)))
    ||| IntOp.shli .vector (extractStridedSlice S8x128 ![8 * g, 0] (part (v 2)) h (ix2 r l)) (BitVec.ofNat 32 (8 * 2)))
    ||| IntOp.shli .vector (extractStridedSlice S8x128 ![8 * g, 0] (part (v 3)) h (ix2 r l)) (BitVec.ofNat 32 (8 * 3))).getLsbD k = _
  rw [es, es, es, es, e3 _ _ (by omega), e3 _ _ (by omega), e3 _ _ (by omega), BitVec.getLsbD_or, BitVec.getLsbD_or, BitVec.getLsbD_or, shl_byte _ _ _ hk, shl_byte _ _ _ hk, shl_byte _ _ _ hk]
  have h0 := shl_byte (v 0 (ix3 0 (Fin.ofNat 32 (8 * g + r.val)) l)) 0 k hk
  rw [Nat.mul_zero, BitVec.shiftLeft_zero] at h0
  rw [h0]
  have h8 : k / 8 < 4 := by omega
  generalize k / 8 = j at h8
  interval_cases j <;> simp

end Cert.Sgn

end
-- ==== Proof.WRun.lean ====
module

public import proofs.«01_k».proof.Proof.WBits
public import Idealize.ShloMosaic.Lib.Pipeline.ReadBack
public import Idealize.ShloMosaic.Lib.Pipeline.ValueKit.Geometry
public import Idealize.ShloMosaic.Lib.StableHlo.Run

@[expose] public section

set_option maxRecDepth 16384

noncomputable section

namespace Cert.WordsIdeal.Gen

open Idealize.ShloMosaic Idealize.ShloMosaic.TcCoe Idealize.ShloMosaic.Tactic Idealize.ShloMosaic.ValueIdx
open Idealize.SL Idealize.SL.Sem
open Cert.Sgn
open Idealize.ShloMosaic.Pipeline (Dat Cfg Window)

/-! # The words the kernel leaves -/

/-- The sign bytes at batch `b`, row `r`, byte column `c`. -/
def rdY (x : S2x128x32768.Idx → BitVec 8) (b r c : ℕ) : BitVec 8 := x (fun a => match a with
  | ⟨0, _⟩ => Fin.ofNat 2 b | ⟨1, _⟩ => Fin.ofNat 128 r | ⟨2, _⟩ => Fin.ofNat 32768 c)

/-- A block of them at row `r`, byte column `c`. -/
def rdYB (x : S1x32x4096.Idx → BitVec 8) (r c : ℕ) : BitVec 8 := x (fun a => match a with
  | ⟨0, _⟩ => (0 : Fin 1) | ⟨1, _⟩ => Fin.ofNat 32 r | ⟨2, _⟩ => Fin.ofNat 4096 c)

theorem eq_rdY (x : S2x128x32768.Idx → BitVec 8) (i : S2x128x32768.Idx) (b r c : ℕ) (hb : (i 0).val = b) (hr : (i 1).val = r) (hc : (i 2).val = c) : x i = rdY x b r c := by
  subst hb hr hc
  unfold rdY
  congr 1; funext a
  match a with
  | ⟨0, _⟩ => exact Fin.ext (Nat.mod_eq_of_lt (i 0).isLt).symm
  | ⟨1, _⟩ => exact Fin.ext (Nat.mod_eq_of_lt (i 1).isLt).symm
  | ⟨2, _⟩ => exact Fin.ext (Nat.mod_eq_of_lt (i 2).isLt).symm

theorem eq_rdYB (x : S1x32x4096.Idx → BitVec 8) (i : S1x32x4096.Idx) (r c : ℕ) (hr : (i 1).val = r) (hc : (i 2).val = c) : x i = rdYB x r c := by
  subst hr hc
  unfold rdYB
  congr 1; funext a
  match a with
  | ⟨0, _⟩ => exact Subsingleton.elim (α := Fin 1) _ _
  | ⟨1, _⟩ => exact Fin.ext (Nat.mod_eq_of_lt (i 1).isLt).symm
  | ⟨2, _⟩ => exact Fin.ext (Nat.mod_eq_of_lt (i 2).isLt).symm

/-- The words of a block: bit `k` is the sign of column `4096 n + 128 k + l` of the row. -/
def wordsB (x : S1x32x4096.Idx → BitVec 8) (y : S1x4x8x8x128.Idx) : BitVec 32 :=
  sumW (fun k => (rdYB x (8 * (y 1).val + (y 3).val) (512 * (y 2).val + 16 * k + (y 4).val / 8)).getLsbD ((y 4).val % 8)) 32

/-- The words of the sign bytes. -/
def wordsV (x : S2x128x32768.Idx → BitVec 8) (i : S2x16x64x8x128.Idx) : BitVec 32 :=
  sumW (fun k => (rdY x (i 0).val (8 * (i 1).val + (i 3).val) (512 * (i 2).val + 16 * k + (i 4).val / 8)).getLsbD ((i 4).val % 8)) 32

theorem piece (x0 : Vec Ideal S1x32x4096 .i8) (g wb : ℕ) (hg : g < 4 := by decide) (inb : ∀ a, (![0, g, wb, 0, 0] : Fin 5 → ℕ) a + S1x1x1x8x128.size a ≤ S1x4x8x8x128.size a := by decide)
    (h : S32x128.Slices ![8 * g, 0] S8x128 := by decide) (i0 : ∀ a, (![0, 0, 512 * wb + 128 * 0] : Fin 3 → ℕ) a + S1x32x128.size a ≤ S1x32x4096.size a := by decide)
    (i1 : ∀ a, (![0, 0, 512 * wb + 128 * 1] : Fin 3 → ℕ) a + S1x32x128.size a ≤ S1x32x4096.size a := by decide)
    (i2 : ∀ a, (![0, 0, 512 * wb + 128 * 2] : Fin 3 → ℕ) a + S1x32x128.size a ≤ S1x32x4096.size a := by decide)
    (i3 : ∀ a, (![0, 0, 512 * wb + 128 * 3] : Fin 3 → ℕ) a + S1x32x128.size a ≤ S1x32x4096.size a := by decide) (x : S1x1x1x8x128.Idx) :
    word (packed ![8 * g, 0] h (View.ld x0 (Rect.unit (s := S1x32x4096) ![0, 0, 512 * wb + 128 * 0] S1x32x128.size i0))
      (View.ld x0 (Rect.unit (s := S1x32x4096) ![0, 0, 512 * wb + 128 * 1] S1x32x128.size i1)) (View.ld x0 (Rect.unit (s := S1x32x4096) ![0, 0, 512 * wb + 128 * 2] S1x32x128.size i2))
      (View.ld x0 (Rect.unit (s := S1x32x4096) ![0, 0, 512 * wb + 128 * 3] S1x32x128.size i3))) x
      = wordsB x0 ((Rect.unit (s := S1x4x8x8x128) ![0, g, wb, 0, 0] S1x1x1x8x128.size inb).emb x) := by
  have e (f : ℕ) (i : ∀ a, (![0, 0, 512 * wb + 128 * f] : Fin 3 → ℕ) a + S1x32x128.size a ≤ S1x32x4096.size a) :
      View.ld x0 (Rect.unit (s := S1x32x4096) ![0, 0, 512 * wb + 128 * f] S1x32x128.size i)
        = fun z : S1x32x128.Idx => rdYB x0 (z 1).val (512 * wb + 128 * f + (z 2).val) := by
    funext z
    refine eq_rdYB x0 _ _ _ ?_ ?_
    · show 0 + 1 * (z 1).val = _; omega
    · show 512 * wb + 128 * f + 1 * (z 2).val = _; omega
  rw [e 0, e 1, e 2, e 3]
  have ex : x = (ix5 0 0 0 (x 3 : Fin 8) (x 4 : Fin 128) : S1x1x1x8x128.Idx) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl
  have h3 : (x 3).val < 8 := (x 3).isLt
  have h4 : (x 4).val < 128 := (x 4).isLt
  have y1 : (((Rect.unit (s := S1x4x8x8x128) ![0, g, wb, 0, 0] S1x1x1x8x128.size inb).emb x) 1).val = g := by
    have : (x 1).val = 0 := Nat.lt_one_iff.mp (x 1).isLt
    show g + 1 * (x 1).val = g; omega
  have y2 : (((Rect.unit (s := S1x4x8x8x128) ![0, g, wb, 0, 0] S1x1x1x8x128.size inb).emb x) 2).val = wb := by
    have : (x 2).val = 0 := Nat.lt_one_iff.mp (x 2).isLt
    show wb + 1 * (x 2).val = wb; omega
  have y3 : (((Rect.unit (s := S1x4x8x8x128) ![0, g, wb, 0, 0] S1x1x1x8x128.size inb).emb x) 3).val = (x 3).val := by
    show 0 + 1 * (x 3).val = _; omega
  have y4 : (((Rect.unit (s := S1x4x8x8x128) ![0, g, wb, 0, 0] S1x1x1x8x128.size inb).emb x) 4).val = (x 4).val := by
    show 0 + 1 * (x 4).val = _; omega
  unfold wordsB
  rw [y1, y2, y3, y4]
  refine eq_sumW _ _ fun k hk => ?_
  refine (congrArg (fun z => (word _ z).getLsbD k) ex).trans ?_
  refine (word_bit _ (x 3) (x 4) k hk).trans ?_
  refine (packed_bit g hg h (fun f => fun z : S1x32x128.Idx => rdYB x0 (z 1).val (512 * wb + 128 * f + (z 2).val)) (x 3) _ _ (by omega)).trans ?_
  rw [show (8 * (k / 8) + (x 4).val % 8) / 8 = k / 8 by omega, show (8 * (k / 8) + (x 4).val % 8) % 8 = (x 4).val % 8 by omega]
  show (rdYB x0 ((8 * g + (x 3).val) % 32) (512 * wb + 128 * (k / 8) + (16 * (k % 8) + (x 4).val / 8) % 128)).getLsbD _ = _
  rw [show (8 * g + (x 3).val) % 32 = 8 * g + (x 3).val by omega,
    show 512 * wb + 128 * (k / 8) + (16 * (k % 8) + (x 4).val / 8) % 128 = 512 * wb + 16 * k + (x 4).val / 8 by omega]

theorem stores_words (x0 : Vec Ideal S1x32x4096 .i8) : View.PiecesOf (wordsB x0) (stores x0) :=
  ⟨piece x0 3 7 , piece x0 2 7 , piece x0 1 7 , piece x0 0 7 ,
    piece x0 3 6 , piece x0 2 6 , piece x0 1 6 , piece x0 0 6 ,
    piece x0 3 5 , piece x0 2 5 , piece x0 1 5 , piece x0 0 5 ,
    piece x0 3 4 , piece x0 2 4 , piece x0 1 4 , piece x0 0 4 ,
    piece x0 3 3 , piece x0 2 3 , piece x0 1 3 , piece x0 0 3 ,
    piece x0 3 2 , piece x0 2 2 , piece x0 1 2 , piece x0 0 2 ,
    piece x0 3 1 , piece x0 2 1 , piece x0 1 1 , piece x0 0 1 ,
    piece x0 3 0 , piece x0 2 0 , piece x0 1 0 , piece x0 0 0 , trivial⟩

theorem stores_cover (x0 : Vec Ideal S1x32x4096 .i8) (y : S1x4x8x8x128.Idx) : ∃ p ∈ stores x0, y ∈ p.1.set :=
  cover0_1 _ _ _ _ _ _ _ _ _ _ _ _ _ _ _ _ _ _ _ _ _ _ _ _ _ _ _ _ _ _ _ _ y

/-- What the body leaves is the block's words. -/
theorem out_words (x0 : Vec Ideal S1x32x4096 .i8) : out0_1 x0 = wordsB x0 := by
  rw [out_eq]
  funext y
  have h := View.canon_append_of_piecesOf (wordsB x0) [] _ (stores_words x0) y (stores_cover x0 y)
  rwa [List.append_nil] at h

/-! ## The blocks -/

variable (m : (ℓ : Loc nD τ sig) → Buf (Elt Ideal) ℓ) (ρ : Dev nD → PrngReg)

theorem V_main_v0 (c : Dev nD) : V (F := Ideal) m c main_v0 = m ((c : Thread nD τ).loc main_arg0) := by
  unfold V hostOps0
  after_results_simp
  rfl

theorem index0 : ∀ t : Fin 64, win0_0.index (t.cast N_0.symm) = ![t.val / 32, t.val / 8 % 4, t.val % 8] := by decide +kernel
theorem index1 : ∀ t : Fin 64, win0_1.index (t.cast N_0.symm) = ![t.val / 32, t.val / 8 % 4, t.val % 8, 0, 0] := by decide +kernel

theorem iblk0 (c : Dev nD) (t : Fin cfg0.N) (y : S1x32x4096.Idx) :
    iblk (F := Ideal) m c 0 t y = rdY (m ((c : Thread nD τ).loc main_arg0)) (t.val / 32) (32 * (t.val / 8 % 4) + (y 1).val) (4096 * (t.val % 8) + (y 2).val) := by
  have e := index0 (t.cast N_0)
  unfold iblk
  rw [View.read_apply]
  show V (F := Ideal) m c main_v0 ((win0_0.blk t).view.emb y) = _
  rw [V_main_v0]
  have e0 : win0_0.index t 0 = t.val / 32 := congrFun e 0
  have e1 : win0_0.index t 1 = t.val / 8 % 4 := congrFun e 1
  have e2 : win0_0.index t 2 = t.val % 8 := congrFun e 2
  have hy0 : (y 0).val = 0 := Nat.lt_one_iff.mp (y 0).isLt
  refine eq_rdY (m ((c : Thread nD τ).loc main_arg0)) _ _ _ _ ?_ ?_ ?_
  · blk_simp; rw [e0]
  · blk_simp; rw [e1]; omega
  · blk_simp; rw [e2]; omega

theorem arr1 (c : Dev nD) : (dats m 0 c).arrAt 1 cfg0.N = wordsV (m ((c : Thread nD τ).loc main_arg0)) := by
  refine (dats m 0 c).arrAt_eq_of_covers 1 _ (by decide +kernel) fun t hf y => ?_
  blk_simp
  rw [after0_1, out_words]
  have hN : t.val < 64 := lt_of_lt_of_eq t.isLt (show cfg0.N = 64 from N_0)
  have e := index1 (t.cast N_0)
  have e0 : win0_1.index t 0 = t.val / 32 := congrFun e 0
  have e1 : win0_1.index t 1 = t.val / 8 % 4 := congrFun e 1
  have e2 : win0_1.index t 2 = t.val % 8 := congrFun e 2
  have e3 : win0_1.index t 3 = 0 := congrFun e 3
  have e4 : win0_1.index t 4 = 0 := congrFun e 4
  have hy0 : (y 0).val = 0 := Nat.lt_one_iff.mp (y 0).isLt
  have hy1 : (y 1).val < 4 := (y 1).isLt
  have hy2 : (y 2).val < 8 := (y 2).isLt
  have hy3 : (y 3).val < 8 := (y 3).isLt
  have hy4 : (y 4).val < 128 := (y 4).isLt
  have i0 : (((win0_1.blk t).view.emb y) 0).val = t.val / 32 := by blk_simp; rw [e0]
  have i1 : (((win0_1.blk t).view.emb y) 1).val = 4 * (t.val / 8 % 4) + (y 1).val := by blk_simp; rw [e1]; omega
  have i2 : (((win0_1.blk t).view.emb y) 2).val = 8 * (t.val % 8) + (y 2).val := by blk_simp; rw [e2]; omega
  have i3 : (((win0_1.blk t).view.emb y) 3).val = (y 3).val := by blk_simp; rw [e3]; omega
  have i4 : (((win0_1.blk t).view.emb y) 4).val = (y 4).val := by blk_simp; rw [e4]; omega
  show wordsB _ y = wordsV _ ((win0_1.blk t).view.emb y)
  refine eq_sumW _ _ fun k hk => ?_
  unfold wordsB
  rw [sumW_bit _ _ _ hk, i0, i1, i2, i3, i4]
  simp only [hk, decide_true, Bool.true_and]
  congr 1
  unfold rdYB
  rw [iblk0]
  show rdY _ _ (32 * (t.val / 8 % 4) + (8 * (y 1).val + (y 3).val) % 32) (4096 * (t.val % 8) + (512 * (y 2).val + 16 * k + (y 4).val / 8) % 4096) = _
  rw [show 32 * (t.val / 8 % 4) + (8 * (y 1).val + (y 3).val) % 32 = 8 * (4 * (t.val / 8 % 4) + (y 1).val) + (y 3).val by omega,
    show 4096 * (t.val % 8) + (512 * (y 2).val + 16 * k + (y 4).val / 8) % 4096 = 512 * (8 * (t.val % 8) + (y 2).val) + 16 * k + (y 4).val / 8 by omega]

/-- The kernel's run: the words named, the argument unchanged. -/
theorem run_values : θ_run defs (onTc (τ := τ) (main (F := Ideal))) ⟨m, fun _ => 0, ρ⟩ (fun r => ∀ c : Dev nD,
      r.2.mem ((c.tc : Thread nD τ).loc main_v1) = wordsV (m ((c.tc : Thread nD τ).loc main_arg0))
      ∧ r.2.mem ((c.tc : Thread nD τ).loc main_arg0) = m ((c.tc : Thread nD τ).loc main_arg0)) :=
  (θ_run defs _ _).mono (fun _ h c => ⟨(h c).1.trans (arr1 m c), (h c).2⟩) (Value.run_blocks m ρ)

end Cert.WordsIdeal.Gen

end
-- ==== Proof.WRef.lean ====
module

public import proofs.«01_k».proof.Proof.WRun
public import proofs.«01_k».proof.Proof.Gen.WordsReferenceIdeal.Run
public import proofs.«01_k».proof.Proof.Gen.WordsReferenceIdeal.Read
public import Idealize.ShloMosaic.PureOps.Reduce
public import Idealize.ShloMosaic.Lib.ValueIdxRank6
public import Idealize.ShloMosaic.Lib.Pointwise.Index
public import Idealize.ShloMosaic.Lib.StableHlo.Run
public import Idealize.ShloMosaic.Lib.Quiescent
public import Mathlib.Algebra.BigOperators.Intervals
public import Mathlib.Data.BitVec

@[expose] public section

set_option maxRecDepth 16384

noncomputable section

namespace Cert.Sgn

open Idealize.ShloMosaic Cert.WordsReferenceIdeal Cert.WordsReferenceIdeal.Gen Cert.WordsReferenceIdeal.Read
open Cert.WordsIdeal.Gen (wordsV rdY eq_rdY)

/-! # The reference leaves the same words -/

theorem one_bit (x : BitVec 32) (n : ℕ) : x >>> n &&& 1#32 = (BitVec.ofBool (x.getLsbD n)).zeroExtend 32 := by
  apply BitVec.eq_of_getLsbD_eq
  intro i hi
  rw [BitVec.getLsbD_and, BitVec.getLsbD_ushiftRight, BitVec.getLsbD_setWidth, BitVec.getLsbD_ofBool]
  by_cases h : i = 0
  · subst h; simp
  · have : (1#32).getLsbD i = false := by
      revert h; revert hi; revert i; decide
    simp [h, this]

theorem host_shr (x : BitVec 32) (n : ℕ) (hn : n < 32) : IntOp.shrui .host x (BitVec.ofNat 32 n) = x >>> n := by
  have : (BitVec.ofNat 32 n).toNat = n := by rw [BitVec.toNat_ofNat]; omega
  unfold IntOp.shrui
  rw [if_pos (by rw [this]; omega), BitVec.ushiftRight_eq', this]

theorem host_shl (x : BitVec 32) (n : ℕ) (hn : n < 32) : IntOp.shli .host x (BitVec.ofNat 32 n) = x <<< n := by
  have : (BitVec.ofNat 32 n).toNat = n := by rw [BitVec.toNat_ofNat]; omega
  unfold IntOp.shli
  rw [if_pos (by rw [this]; omega), BitVec.shiftLeft_eq', this]

theorem sum_sumW (p : ℕ → Bool) (n : ℕ) : ∑ k ∈ Finset.range n, (BitVec.ofBool (p k)).zeroExtend 32 <<< k = sumW p n := by
  induction n with
  | zero => rfl
  | succ n ih => rw [Finset.sum_range_succ, ih]; rfl

/-- A sum of words, term by term, is the bits' sum. -/
theorem fold_sumW (p : ℕ → Bool) (n : ℕ) (f : Fin n → BitVec 32) (hf : ∀ k, f k = (BitVec.ofBool (p k.val)).zeroExtend 32 <<< k.val) :
    (Finset.univ : Finset (Fin n)).fold IntOp.addi 0#32 f = sumW p n := by
  have e : (Finset.univ : Finset (Fin n)).fold IntOp.addi 0#32 f = ∑ k : Fin n, f k := (Finset.sum_eq_fold ..).symm
  rw [e, Finset.sum_congr rfl fun k _ => hf k, Fin.sum_univ_eq_sum_range fun k => (BitVec.ofBool (p k)).zeroExtend 32 <<< k, sum_sumW]

variable (x0 : S2x128x32768.Idx → BitVec 8)

/-- One bit of the reference, at the row and column it belongs to. -/
theorem bit_apply (b : Fin 2) (g : Fin 16) (r : Fin 8) (n : Fin 64) (k : Fin 32) (l : Fin 128) :
    val_main_v14 (F := Ideal) x0 (ix6 b g r n k l)
      = (BitVec.ofBool ((rdY x0 b.val (8 * g.val + r.val) (512 * n.val + 16 * k.val + l.val / 8)).getLsbD (l.val % 8))).zeroExtend 32 <<< k.val := by
  rw [val_main_v14_apply, val_main_v13_apply, val_main_v12_apply, val_main_v11_apply]
  refine (host_shl _ k.val k.isLt).trans ?_
  congr 1
  unfold val_main_v10
  refine (shapeCast_apply (t := S2x16x8x64x32x128) (val_main_v9 (F := Ideal) x0) _ _
    (ix4 b (⟨8 * g.val + r.val, by omega⟩ : Fin 128) (⟨512 * n.val + 16 * k.val + l.val / 8, by omega⟩ : Fin 32768) (⟨l.val % 8, by omega⟩ : Fin 8)) ?_).trans ?_
  · rw [Shape.rowMajor_val_four, Shape.rowMajor_val_six]
    show ((b.val * 128 + (8 * g.val + r.val)) * 32768 + (512 * n.val + 16 * k.val + l.val / 8)) * 8 + l.val % 8
      = ((((b.val * 16 + g.val) * 8 + r.val) * 64 + n.val) * 32 + k.val) * 128 + l.val
    omega
  rw [val_main_v9_apply, val_main_v8_apply, val_main_c_apply, val_main_v7_apply, val_main_v6_apply, val_main_v5_apply, val_main_v4_apply, val_main_v3_apply, val_main_v1_apply, val_main_v0_apply]
  unfold val_main_v2
  refine (congrArg (fun z => IntOp.andi z 1#32) (host_shr _ (l.val % 8) (by omega))).trans ?_
  refine (one_bit _ _).trans ?_
  congr 2
  show ((x0 _).setWidth 32).getLsbD (l.val % 8) = _
  rw [BitVec.getLsbD_setWidth, eq_rdY x0 _ b.val (8 * g.val + r.val) (512 * n.val + 16 * k.val + l.val / 8) rfl rfl rfl]
  simp [show l.val % 8 < 32 by omega]

theorem words_eq : val_main_v16 (F := Ideal) x0 = wordsV x0 := by
  funext i
  rw [val_main_v16_apply]
  unfold val_main_v15
  rw [Host.reduce_eq_fold_single IntOp.addi (val_main_v14 (F := Ideal) x0) (val_main_c_0 (F := Ideal)) reducesTo_S2x16x8x64x32x128_S2x16x8x64x128_d4 (by decide) h_S_ _]
  refine fold_sumW (fun k => (rdY x0 (i 0).val (8 * (i 1).val + (i 3).val) (512 * (i 2).val + 16 * k + (i 4).val / 8)).getLsbD ((i 4).val % 8)) 32 _ fun k => ?_
  refine (congrArg (val_main_v14 (F := Ideal) x0) (?_ : _ = (ix6 (i 0) (i 1) (i 3) (i 2) k (i 4) : S2x16x8x64x32x128.Idx))).trans (bit_apply x0 _ _ _ _ _ _)
  funext a
  match a with
  | ⟨0, _⟩ => rfl
  | ⟨1, _⟩ => rfl
  | ⟨2, _⟩ => rfl
  | ⟨3, _⟩ => rfl
  | ⟨4, _⟩ => rfl
  | ⟨5, _⟩ => rfl

open Idealize.SL.Sem in
/-- Every execution of the reference terminates, with its result the words and its argument unchanged. -/
theorem words_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v16) = wordsV (m ((c.tc : Thread nD τ).loc main_arg0))
      ∧ r.2.mem ((c.tc : Thread nD τ).loc main_arg0) = m ((c.tc : Thread nD τ).loc main_arg0)) :=
  (θ_run defs _ _).mono (fun _ h c => ⟨(h c).1.trans ((val_main_v16_eq (F := Ideal) (m ((c.tc : Thread nD τ).loc main_arg0))).trans (words_eq _)), (h c).2⟩)
    (Cert.WordsReferenceIdeal.Value.run m ρ)

open Idealize.SL.Sem in
/-- The counters are zero again. -/
theorem words_quiet (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c).2, sem_eq_zero_of_no_sems (by decide) r.2⟩) (words_run m ρ)

end Cert.Sgn

end
-- ==== Proof.lean ====
module

public import proofs.«01_k».proof.Defs
public import proofs.«01_k».proof.Proof.Gen.Decode
public import proofs.«01_k».proof.Proof.Gen.Decode.Skeleton
public import proofs.«01_k».proof.Proof.Gen.Decode.Loops
public import proofs.«01_k».proof.Proof.Gen.Decode.Launch
public import proofs.«01_k».proof.Proof.Gen.Decode.Points
public import proofs.«01_k».proof.Proof.Gen.Decode.Frame
public import proofs.«01_k».proof.Proof.Gen.DecodeIdeal
public import proofs.«01_k».proof.Proof.Gen.DecodeIdeal.Skeleton
public import proofs.«01_k».proof.Proof.Gen.DecodeIdeal.Loops
public import proofs.«01_k».proof.Proof.Gen.DecodeIdeal.Launch
public import proofs.«01_k».proof.Proof.Gen.DecodeIdeal.Points
public import proofs.«01_k».proof.Proof.Gen.DecodeIdeal.Frame
public import proofs.«01_k».proof.Proof.Gen.DecodeReferenceIdeal
public import proofs.«01_k».proof.Proof.Gen.Pre_small
public import proofs.«01_k».proof.Proof.Gen.Words
public import proofs.«01_k».proof.Proof.Gen.Words.Skeleton
public import proofs.«01_k».proof.Proof.Gen.Words.Frame
public import proofs.«01_k».proof.Proof.Gen.WordsIdeal
public import proofs.«01_k».proof.Proof.Gen.WordsIdeal.Value
public import proofs.«01_k».proof.Proof.Gen.WordsReferenceIdeal
public import proofs.«01_k».proof.Proof.Gen.WordsReferenceIdeal.Run
public import proofs.«01_k».proof.Proof.Gen.WordsReferenceIdeal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.KFrame
public import proofs.«01_k».proof.Proof.RefRun
public import proofs.«01_k».proof.Proof.Link
public import proofs.«01_k».proof.Proof.EFrame
public import proofs.«01_k».proof.Proof.DRun
public import proofs.«01_k».proof.Proof.QRun
public import proofs.«01_k».proof.Proof.DLink
public import proofs.«01_k».proof.Proof.WRef
public import Idealize.ShloMosaic.Adequacy
public import Idealize.ShloMosaic.Init

@[expose] public section

noncomputable section

namespace Cert.Proof

open Idealize.ShloMosaic Idealize.SL.Sem

theorem ofBits_inf : Ideal.ofBits .f32 0x7F800000#32 = (⊤ : EReal) := by
  simp [Ideal.ofBits, Ideal.ieee]

/-- The precondition says that every entry is a real number. -/
theorem real_of_finite (x : FVec Ideal Cert.Pre_finite.S2x128x262144 .f32) (w : IVec Cert.Pre_finite.S2x16x64x8x128 32)
    (h : Cert.Pre_finite.fn (F := Ideal) x w = fun _ => 1#1) (i : Cert.Pre_finite.S2x128x262144.Idx) : ∃ r : ℝ, x i = (r : EReal) := by
  have e : Ideal.cmp .olt (max (x i) (-(x i))) (Ideal.ofBits .f32 0x7F800000#32) = 1#1 := congrFun h i
  rw [ofBits_inf] at e
  have lt : max (x i) (-(x i)) < ⊤ := by
    by_contra hn
    rw [show Ideal.cmp .olt (max (x i) (-(x i))) (⊤ : EReal) = 0#1 from congrArg BitVec.ofBool (decide_eq_false hn)] at e
    exact absurd e (by decide)
  have h1 : x i ≠ ⊤ := ((le_max_left _ _).trans_lt lt).ne
  have h2 : x i ≠ ⊥ := fun h => ((le_max_right _ _).trans_lt lt).ne (by rw [h]; rfl)
  exact ⟨(x i).toReal, (EReal.coe_toReal h1 h2).symm⟩

theorem algebraic : Cert.algebraic_KernelIdeal_ReferenceIdeal_pre_finite := by
  intro m g m' g' hpre hargs
  refine ⟨_, _, Cert.KernelIdeal.Gen.run_values m g, ?_⟩
  refine (θ_run (Cert.ReferenceIdeal.defs (F := Ideal)) _ _).mono (fun r h c => ?_) (Cert.ReferenceIdeal.Value.run m' g')
  obtain ⟨h0, h1, h2, h3⟩ := h.1 c
  obtain ⟨e1, e2⟩ := Cert.Rot.results_eq _ (m ((c.tc : Thread Cert.KernelIdeal.nD Cert.KernelIdeal.τ).loc Cert.KernelIdeal.main_arg1)) (real_of_finite _ _ (hpre c))
  rw [(hargs c).1, (hargs c).2] at h0
  rw [(hargs c).1] at h1
  exact ⟨h0.trans e1.symm, h1.trans e2.symm, h2, h3⟩

theorem decoded : Cert.algebraic_DecodeIdeal_DecodeReferenceIdeal_pre_small := by
  intro m g m' g' hpre hargs
  refine ⟨_, _, Cert.DecodeIdeal.Gen.run_values m g, ?_⟩
  refine (θ_run (Cert.DecodeReferenceIdeal.defs (F := Ideal)) _ _).mono (fun r h c => ?_) (Cert.DecodeReferenceIdeal.Value.run m' g')
  obtain ⟨h0, h1, h2, h3, h4, h5⟩ := h.1 c
  obtain ⟨e1, e2⟩ := Cert.Rot.decoded_eq _ (m ((c.tc : Thread Cert.DecodeIdeal.nD Cert.DecodeIdeal.τ).loc Cert.DecodeIdeal.main_arg1))
    (m ((c.tc : Thread Cert.DecodeIdeal.nD Cert.DecodeIdeal.τ).loc Cert.DecodeIdeal.main_arg2)) (m ((c.tc : Thread Cert.DecodeIdeal.nD Cert.DecodeIdeal.τ).loc Cert.DecodeIdeal.main_arg3))
    (Cert.Rot.small_of_pre _ _ _ _ (hpre c))
  rw [(hargs c).1, (hargs c).2.1, (hargs c).2.2.1, (hargs c).2.2.2] at h0
  rw [(hargs c).2.2.1, (hargs c).2.2.2] at h1
  exact ⟨h0.trans e1.symm, h1.trans e2.symm, h2, h3, h4, h5⟩

theorem packed : Cert.algebraic_WordsIdeal_WordsReferenceIdeal := by
  intro m g m' g' _ hargs
  refine ⟨_, Cert.WordsIdeal.Gen.run_values m g, ?_⟩
  refine (θ_run (Cert.WordsReferenceIdeal.defs (F := Ideal)) _ _).mono (fun r h c => ?_) (Cert.Sgn.words_run m' g')
  obtain ⟨h0, h1⟩ := h c
  rw [hargs c] at h0
  exact ⟨h0, h1⟩

theorem claim : Cert.Claim := ⟨Cert.Words.Gen.facts, Cert.WordsIdeal.Gen.facts, Cert.WordsReferenceIdeal.Gen.facts, Cert.Decode.Gen.facts, Cert.DecodeIdeal.Gen.facts, Cert.DecodeReferenceIdeal.Gen.facts,
  Cert.Kernel.Gen.facts, Cert.KernelIdeal.Gen.facts, Cert.ReferenceIdeal.Gen.facts, Cert.Pre_small.Gen.facts, Cert.Pre_finite.Gen.facts,
  fun m g _ => Cert.Words.Gen.frame m g,
  fun m g _ => Cert.WordsIdeal.Gen.frame m g,
  fun m g _ => Cert.Sgn.words_quiet m g,
  fun m g _ => Cert.Decode.Frame.frame m g,
  fun m g _ => θ_run_and (Cert.DecodeIdeal.Gen.unchanged m g)
    ((θ_run (Cert.DecodeIdeal.defs (F := Ideal)) _ _).mono (fun _ h => h.2) (Cert.DecodeIdeal.Gen.run_main_quiescent m g)),
  fun m g _ => θ_run_and (Cert.DecodeIdeal.Gen.unchanged m g)
    ((θ_run (Cert.DecodeIdeal.defs (F := Ideal)) _ _).mono (fun _ h => h.2) (Cert.DecodeIdeal.Gen.run_main_quiescent m g)),
  fun m g _ => (θ_run (Cert.DecodeReferenceIdeal.defs (F := Ideal)) _ _).mono (fun _ h => And.intro (fun c => (h.1 c).2.2) h.2) (Cert.DecodeReferenceIdeal.Value.run m g),
  fun m g _ => (θ_run (Cert.DecodeReferenceIdeal.defs (F := Ideal)) _ _).mono (fun _ h => And.intro (fun c => (h.1 c).2.2) h.2) (Cert.DecodeReferenceIdeal.Value.run m g),
  fun m g _ => Cert.Kernel.Frame.frame m g,
  fun m g _ => θ_run_and (Cert.KernelIdeal.Gen.unchanged m g)
    ((θ_run (Cert.KernelIdeal.defs (F := Ideal)) _ _).mono (fun _ h => h.2) (Cert.KernelIdeal.Gen.run_main_quiescent m g)),
  fun m g _ => θ_run_and (Cert.KernelIdeal.Gen.unchanged m g)
    ((θ_run (Cert.KernelIdeal.defs (F := Ideal)) _ _).mono (fun _ h => h.2) (Cert.KernelIdeal.Gen.run_main_quiescent m g)),
  fun m g _ => (θ_run (Cert.ReferenceIdeal.defs (F := Ideal)) _ _).mono (fun _ h => And.intro (fun c => (h.1 c).2.2) h.2) (Cert.ReferenceIdeal.Value.run m g),
  fun m g _ => (θ_run (Cert.ReferenceIdeal.defs (F := Ideal)) _ _).mono (fun _ h => And.intro (fun c => (h.1 c).2.2) h.2) (Cert.ReferenceIdeal.Value.run m g),
  trivial, packed, IdealRules.bf16_pack.statement _, decoded, IdealRules.bf16_pack.statement _, algebraic⟩

end Cert.Proof

end
